-- ==== Defs.lean ====
def Pre_MemGain (m : (ℓ : Loc Cert.MemGain.nD Cert.MemGain.τ Cert.MemGain.sig) → Buf (Elt Bits) ℓ) : Prop :=
  True

def Pre_MemGainIdeal (m : (ℓ : Loc Cert.MemGainIdeal.nD Cert.MemGainIdeal.τ Cert.MemGainIdeal.sig) → Buf (Elt Ideal) ℓ) : Prop :=
  True

def Pre_MemGainRefIdeal (m : (ℓ : Loc Cert.MemGainRefIdeal.nD Cert.MemGainRefIdeal.τ Cert.MemGainRefIdeal.sig) → Buf (Elt Ideal) ℓ) : Prop :=
  True

def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite_attention [hPre_finite_attention : Cert.Pre_finite_attention.Facts] (m : (ℓ : Loc Cert.FoxIdeal.nD Cert.FoxIdeal.τ Cert.FoxIdeal.sig) → Buf (Elt Ideal) ℓ) : Prop :=
  ∀ c : Dev Cert.FoxIdeal.nD,
    (Cert.Pre_finite_attention.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))) = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_finite_attention [hPre_finite_attention : Cert.Pre_finite_attention.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_finite_attention.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))) = (fun _ => 1#1)

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnIdeal_finite_memory [hPre_finite_memory : Cert.Pre_finite_memory.Facts] (m : (ℓ : Loc Cert.XattnIdeal.nD Cert.XattnIdeal.τ Cert.XattnIdeal.sig) → Buf (Elt Ideal) ℓ) : Prop :=
  ∀ c : Dev Cert.XattnIdeal.nD,
    (Cert.Pre_finite_memory.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2))) = (fun _ => 1#1)

def Pre_XattnRefIdeal (m : (ℓ : Loc Cert.XattnRefIdeal.nD Cert.XattnRefIdeal.τ Cert.XattnRefIdeal.sig) → Buf (Elt Ideal) ℓ) : Prop :=
  True

def Pre_XattnRefIdeal_finite_memory [hPre_finite_memory : Cert.Pre_finite_memory.Facts] (m : (ℓ : Loc Cert.XattnRefIdeal.nD Cert.XattnRefIdeal.τ Cert.XattnRefIdeal.sig) → Buf (Elt Ideal) ℓ) : Prop :=
  ∀ c : Dev Cert.XattnRefIdeal.nD,
    (Cert.Pre_finite_memory.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2))) = (fun _ => 1#1)

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstRefIdeal (m : (ℓ : Loc Cert.FirstRefIdeal.nD Cert.FirstRefIdeal.τ Cert.FirstRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_FoxFwd (m : (ℓ : Loc Cert.FoxFwd.nD Cert.FoxFwd.τ Cert.FoxFwd.sig) → Buf (Elt Bits) ℓ) : Prop :=
  True

def Pre_FoxFwdIdeal (m : (ℓ : Loc Cert.FoxFwdIdeal.nD Cert.FoxFwdIdeal.τ Cert.FoxFwdIdeal.sig) → Buf (Elt Ideal) ℓ) : Prop :=
  True

def Pre_FoxFwdIdeal_finite_forward [hPre_finite_forward : Cert.Pre_finite_forward.Facts] (m : (ℓ : Loc Cert.FoxFwdIdeal.nD Cert.FoxFwdIdeal.τ Cert.FoxFwdIdeal.sig) → Buf (Elt Ideal) ℓ) : Prop :=
  ∀ c : Dev Cert.FoxFwdIdeal.nD,
    (Cert.Pre_finite_forward.fn (F := Ideal) (m ((c.tc : Thread Cert.FoxFwdIdeal.nD Cert.FoxFwdIdeal.τ).loc Cert.FoxFwdIdeal.main_arg0)) (m ((c.tc : Thread Cert.FoxFwdIdeal.nD Cert.FoxFwdIdeal.τ).loc Cert.FoxFwdIdeal.main_arg1)) (m ((c.tc : Thread Cert.FoxFwdIdeal.nD Cert.FoxFwdIdeal.τ).loc Cert.FoxFwdIdeal.main_arg2)) (m ((c.tc : Thread Cert.FoxFwdIdeal.nD Cert.FoxFwdIdeal.τ).loc Cert.FoxFwdIdeal.main_arg3))) = (fun _ => 1#1)

def Pre_FoxFwdRefIdeal (m : (ℓ : Loc Cert.FoxFwdRefIdeal.nD Cert.FoxFwdRefIdeal.τ Cert.FoxFwdRefIdeal.sig) → Buf (Elt Ideal) ℓ) : Prop :=
  True

def Pre_FoxFwdRefIdeal_finite_forward [hPre_finite_forward : Cert.Pre_finite_forward.Facts] (m : (ℓ : Loc Cert.FoxFwdRefIdeal.nD Cert.FoxFwdRefIdeal.τ Cert.FoxFwdRefIdeal.sig) → Buf (Elt Ideal) ℓ) : Prop :=
  ∀ c : Dev Cert.FoxFwdRefIdeal.nD,
    (Cert.Pre_finite_forward.fn (F := Ideal) (m ((c.tc : Thread Cert.FoxFwdRefIdeal.nD Cert.FoxFwdRefIdeal.τ).loc Cert.FoxFwdRefIdeal.main_arg0)) (m ((c.tc : Thread Cert.FoxFwdRefIdeal.nD Cert.FoxFwdRefIdeal.τ).loc Cert.FoxFwdRefIdeal.main_arg1)) (m ((c.tc : Thread Cert.FoxFwdRefIdeal.nD Cert.FoxFwdRefIdeal.τ).loc Cert.FoxFwdRefIdeal.main_arg2)) (m ((c.tc : Thread Cert.FoxFwdRefIdeal.nD Cert.FoxFwdRefIdeal.τ).loc Cert.FoxFwdRefIdeal.main_arg3))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Att (m : (ℓ : Loc Cert.Att.nD Cert.Att.τ Cert.Att.sig) → Buf (Elt Bits) ℓ) : Prop :=
  True

def Pre_AttIdeal (m : (ℓ : Loc Cert.AttIdeal.nD Cert.AttIdeal.τ Cert.AttIdeal.sig) → Buf (Elt Ideal) ℓ) : Prop :=
  True

def Pre_AttIdeal_finite_queries [hPre_finite_queries : Cert.Pre_finite_queries.Facts] (m : (ℓ : Loc Cert.AttIdeal.nD Cert.AttIdeal.τ Cert.AttIdeal.sig) → Buf (Elt Ideal) ℓ) : Prop :=
  ∀ c : Dev Cert.AttIdeal.nD,
    (Cert.Pre_finite_queries.fn (F := Ideal) (m ((c.tc : Thread Cert.AttIdeal.nD Cert.AttIdeal.τ).loc Cert.AttIdeal.main_arg0)) (m ((c.tc : Thread Cert.AttIdeal.nD Cert.AttIdeal.τ).loc Cert.AttIdeal.main_arg1))) = (fun _ => 1#1)

def Pre_AttRefIdeal (m : (ℓ : Loc Cert.AttRefIdeal.nD Cert.AttRefIdeal.τ Cert.AttRefIdeal.sig) → Buf (Elt Ideal) ℓ) : Prop :=
  True

def Pre_AttRefIdeal_finite_queries [hPre_finite_queries : Cert.Pre_finite_queries.Facts] (m : (ℓ : Loc Cert.AttRefIdeal.nD Cert.AttRefIdeal.τ Cert.AttRefIdeal.sig) → Buf (Elt Ideal) ℓ) : Prop :=
  ∀ c : Dev Cert.AttRefIdeal.nD,
    (Cert.Pre_finite_queries.fn (F := Ideal) (m ((c.tc : Thread Cert.AttRefIdeal.nD Cert.AttRefIdeal.τ).loc Cert.AttRefIdeal.main_arg0)) (m ((c.tc : Thread Cert.AttRefIdeal.nD Cert.AttRefIdeal.τ).loc Cert.AttRefIdeal.main_arg1))) = (fun _ => 1#1)

def Pre_Hid (m : (ℓ : Loc Cert.Hid.nD Cert.Hid.τ Cert.Hid.sig) → Buf (Elt Bits) ℓ) : Prop :=
  True

def Pre_HidIdeal (m : (ℓ : Loc Cert.HidIdeal.nD Cert.HidIdeal.τ Cert.HidIdeal.sig) → Buf (Elt Ideal) ℓ) : Prop :=
  True

def Pre_HidRefIdeal (m : (ℓ : Loc Cert.HidRefIdeal.nD Cert.HidRefIdeal.τ Cert.HidRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def quiescent_MemGain [hMemGain : Cert.MemGain.Facts] : Prop :=
  ∀ (m : (ℓ : Loc Cert.MemGain.nD Cert.MemGain.τ Cert.MemGain.sig) → Buf (Elt Bits) ℓ) (g : Dev Cert.MemGain.nD → PrngReg), Pre_MemGain m →
    θ_run (Cert.MemGain.defs (F := Bits)) (onTc (τ := Cert.MemGain.τ) (Cert.MemGain.main (F := Bits))) ⟨m, fun _ => 0, g⟩ (fun r => (∀ c : Dev Cert.MemGain.nD,
      r.2.mem ((c.tc : Thread Cert.MemGain.nD Cert.MemGain.τ).loc Cert.MemGain.main_arg0) = m ((c.tc : Thread Cert.MemGain.nD Cert.MemGain.τ).loc Cert.MemGain.main_arg0)
      ∧ r.2.mem ((c.tc : Thread Cert.MemGain.nD Cert.MemGain.τ).loc Cert.MemGain.main_arg1) = m ((c.tc : Thread Cert.MemGain.nD Cert.MemGain.τ).loc Cert.MemGain.main_arg1)
      ∧ r.2.mem ((c.tc : Thread Cert.MemGain.nD Cert.MemGain.τ).loc Cert.MemGain.main_arg2) = m ((c.tc : Thread Cert.MemGain.nD Cert.MemGain.τ).loc Cert.MemGain.main_arg2))
      ∧ r.2.sem = fun _ => 0)

def quiescent_MemGainIdeal [hMemGainIdeal : Cert.MemGainIdeal.Facts] : Prop :=
  ∀ (m : (ℓ : Loc Cert.MemGainIdeal.nD Cert.MemGainIdeal.τ Cert.MemGainIdeal.sig) → Buf (Elt Ideal) ℓ) (g : Dev Cert.MemGainIdeal.nD → PrngReg), Pre_MemGainIdeal m →
    θ_run (Cert.MemGainIdeal.defs (F := Ideal)) (onTc (τ := Cert.MemGainIdeal.τ) (Cert.MemGainIdeal.main (F := Ideal))) ⟨m, fun _ => 0, g⟩ (fun r => (∀ c : Dev Cert.MemGainIdeal.nD,
      r.2.mem ((c.tc : Thread Cert.MemGainIdeal.nD Cert.MemGainIdeal.τ).loc Cert.MemGainIdeal.main_arg0) = m ((c.tc : Thread Cert.MemGainIdeal.nD Cert.MemGainIdeal.τ).loc Cert.MemGainIdeal.main_arg0)
      ∧ r.2.mem ((c.tc : Thread Cert.MemGainIdeal.nD Cert.MemGainIdeal.τ).loc Cert.MemGainIdeal.main_arg1) = m ((c.tc : Thread Cert.MemGainIdeal.nD Cert.MemGainIdeal.τ).loc Cert.MemGainIdeal.main_arg1)
      ∧ r.2.mem ((c.tc : Thread Cert.MemGainIdeal.nD Cert.MemGainIdeal.τ).loc Cert.MemGainIdeal.main_arg2) = m ((c.tc : Thread Cert.MemGainIdeal.nD Cert.MemGainIdeal.τ).loc Cert.MemGainIdeal.main_arg2))
      ∧ r.2.sem = fun _ => 0)

def quiescent_MemGainRefIdeal [hMemGainRefIdeal : Cert.MemGainRefIdeal.Facts] : Prop :=
  ∀ (m : (ℓ : Loc Cert.MemGainRefIdeal.nD Cert.MemGainRefIdeal.τ Cert.MemGainRefIdeal.sig) → Buf (Elt Ideal) ℓ) (g : Dev Cert.MemGainRefIdeal.nD → PrngReg), Pre_MemGainRefIdeal m →
    θ_run (Cert.MemGainRefIdeal.defs (F := Ideal)) (onTc (τ := Cert.MemGainRefIdeal.τ) (Cert.MemGainRefIdeal.main (F := Ideal))) ⟨m, fun _ => 0, g⟩ (fun r => (∀ c : Dev Cert.MemGainRefIdeal.nD,
      r.2.mem ((c.tc : Thread Cert.MemGainRefIdeal.nD Cert.MemGainRefIdeal.τ).loc Cert.MemGainRefIdeal.main_arg0) = m ((c.tc : Thread Cert.MemGainRefIdeal.nD Cert.MemGainRefIdeal.τ).loc Cert.MemGainRefIdeal.main_arg0)
      ∧ r.2.mem ((c.tc : Thread Cert.MemGainRefIdeal.nD Cert.MemGainRefIdeal.τ).loc Cert.MemGainRefIdeal.main_arg1) = m ((c.tc : Thread Cert.MemGainRefIdeal.nD Cert.MemGainRefIdeal.τ).loc Cert.MemGainRefIdeal.main_arg1)
      ∧ r.2.mem ((c.tc : Thread Cert.MemGainRefIdeal.nD Cert.MemGainRefIdeal.τ).loc Cert.MemGainRefIdeal.main_arg2) = m ((c.tc : Thread Cert.MemGainRefIdeal.nD Cert.MemGainRefIdeal.τ).loc Cert.MemGainRefIdeal.main_arg2))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3)
      ∧ r.2.mem ((c.tc : Thread Cert.Fox.nD Cert.Fox.τ).loc Cert.Fox.main_arg4) = m ((c.tc : Thread Cert.Fox.nD Cert.Fox.τ).loc Cert.Fox.main_arg4))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxIdeal_pre_finite_attention [hFoxIdeal : Cert.FoxIdeal.Facts] [hPre_finite_attention : Cert.Pre_finite_attention.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite_attention m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4))
      ∧ r.2.sem = fun _ => 0)

def quiescent_FoxRefIdeal_pre_finite_attention [hFoxRefIdeal : Cert.FoxRefIdeal.Facts] [hPre_finite_attention : Cert.Pre_finite_attention.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_finite_attention m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2))
      ∧ r.2.sem = fun _ => 0)

def quiescent_XattnIdeal_pre_finite_memory [hXattnIdeal : Cert.XattnIdeal.Facts] [hPre_finite_memory : Cert.Pre_finite_memory.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal_finite_memory m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2))
      ∧ r.2.sem = fun _ => 0)

def quiescent_XattnRefIdeal [hXattnRefIdeal : Cert.XattnRefIdeal.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2))
      ∧ r.2.sem = fun _ => 0)

def quiescent_XattnRefIdeal_pre_finite_memory [hXattnRefIdeal : Cert.XattnRefIdeal.Facts] [hPre_finite_memory : Cert.Pre_finite_memory.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal_finite_memory m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2)
      ∧ r.2.mem ((c.tc : Thread Cert.FirstRefIdeal.nD Cert.FirstRefIdeal.τ).loc Cert.FirstRefIdeal.main_arg3) = m ((c.tc : Thread Cert.FirstRefIdeal.nD Cert.FirstRefIdeal.τ).loc Cert.FirstRefIdeal.main_arg3)
      ∧ r.2.mem ((c.tc : Thread Cert.FirstRefIdeal.nD Cert.FirstRefIdeal.τ).loc Cert.FirstRefIdeal.main_arg4) = m ((c.tc : Thread Cert.FirstRefIdeal.nD Cert.FirstRefIdeal.τ).loc Cert.FirstRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5)
      ∧ r.2.mem ((c.tc : Thread Cert.Gate.nD Cert.Gate.τ).loc Cert.Gate.main_arg6) = m ((c.tc : Thread Cert.Gate.nD Cert.Gate.τ).loc Cert.Gate.main_arg6)
      ∧ r.2.mem ((c.tc : Thread Cert.Gate.nD Cert.Gate.τ).loc Cert.Gate.main_arg7) = m ((c.tc : Thread Cert.Gate.nD Cert.Gate.τ).loc Cert.Gate.main_arg7))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
      ∧ r.2.mem ((c.tc : Thread Cert.GateIdeal.nD Cert.GateIdeal.τ).loc Cert.GateIdeal.main_arg6) = m ((c.tc : Thread Cert.GateIdeal.nD Cert.GateIdeal.τ).loc Cert.GateIdeal.main_arg6)
      ∧ r.2.mem ((c.tc : Thread Cert.GateIdeal.nD Cert.GateIdeal.τ).loc Cert.GateIdeal.main_arg7) = m ((c.tc : Thread Cert.GateIdeal.nD Cert.GateIdeal.τ).loc Cert.GateIdeal.main_arg7))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5)
      ∧ r.2.mem ((c.tc : Thread Cert.GateRefIdeal.nD Cert.GateRefIdeal.τ).loc Cert.GateRefIdeal.main_arg6) = m ((c.tc : Thread Cert.GateRefIdeal.nD Cert.GateRefIdeal.τ).loc Cert.GateRefIdeal.main_arg6)
      ∧ r.2.mem ((c.tc : Thread Cert.GateRefIdeal.nD Cert.GateRefIdeal.τ).loc Cert.GateRefIdeal.main_arg7) = m ((c.tc : Thread Cert.GateRefIdeal.nD Cert.GateRefIdeal.τ).loc Cert.GateRefIdeal.main_arg7))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0)

def quiescent_FoxFwd [hFoxFwd : Cert.FoxFwd.Facts] : Prop :=
  ∀ (m : (ℓ : Loc Cert.FoxFwd.nD Cert.FoxFwd.τ Cert.FoxFwd.sig) → Buf (Elt Bits) ℓ) (g : Dev Cert.FoxFwd.nD → PrngReg), Pre_FoxFwd m →
    θ_run (Cert.FoxFwd.defs (F := Bits)) (onTc (τ := Cert.FoxFwd.τ) (Cert.FoxFwd.main (F := Bits))) ⟨m, fun _ => 0, g⟩ (fun r => (∀ c : Dev Cert.FoxFwd.nD,
      r.2.mem ((c.tc : Thread Cert.FoxFwd.nD Cert.FoxFwd.τ).loc Cert.FoxFwd.main_arg0) = m ((c.tc : Thread Cert.FoxFwd.nD Cert.FoxFwd.τ).loc Cert.FoxFwd.main_arg0)
      ∧ r.2.mem ((c.tc : Thread Cert.FoxFwd.nD Cert.FoxFwd.τ).loc Cert.FoxFwd.main_arg1) = m ((c.tc : Thread Cert.FoxFwd.nD Cert.FoxFwd.τ).loc Cert.FoxFwd.main_arg1)
      ∧ r.2.mem ((c.tc : Thread Cert.FoxFwd.nD Cert.FoxFwd.τ).loc Cert.FoxFwd.main_arg2) = m ((c.tc : Thread Cert.FoxFwd.nD Cert.FoxFwd.τ).loc Cert.FoxFwd.main_arg2)
      ∧ r.2.mem ((c.tc : Thread Cert.FoxFwd.nD Cert.FoxFwd.τ).loc Cert.FoxFwd.main_arg3) = m ((c.tc : Thread Cert.FoxFwd.nD Cert.FoxFwd.τ).loc Cert.FoxFwd.main_arg3))
      ∧ r.2.sem = fun _ => 0)

def quiescent_FoxFwdIdeal [hFoxFwdIdeal : Cert.FoxFwdIdeal.Facts] : Prop :=
  ∀ (m : (ℓ : Loc Cert.FoxFwdIdeal.nD Cert.FoxFwdIdeal.τ Cert.FoxFwdIdeal.sig) → Buf (Elt Ideal) ℓ) (g : Dev Cert.FoxFwdIdeal.nD → PrngReg), Pre_FoxFwdIdeal m →
    θ_run (Cert.FoxFwdIdeal.defs (F := Ideal)) (onTc (τ := Cert.FoxFwdIdeal.τ) (Cert.FoxFwdIdeal.main (F := Ideal))) ⟨m, fun _ => 0, g⟩ (fun r => (∀ c : Dev Cert.FoxFwdIdeal.nD,
      r.2.mem ((c.tc : Thread Cert.FoxFwdIdeal.nD Cert.FoxFwdIdeal.τ).loc Cert.FoxFwdIdeal.main_arg0) = m ((c.tc : Thread Cert.FoxFwdIdeal.nD Cert.FoxFwdIdeal.τ).loc Cert.FoxFwdIdeal.main_arg0)
      ∧ r.2.mem ((c.tc : Thread Cert.FoxFwdIdeal.nD Cert.FoxFwdIdeal.τ).loc Cert.FoxFwdIdeal.main_arg1) = m ((c.tc : Thread Cert.FoxFwdIdeal.nD Cert.FoxFwdIdeal.τ).loc Cert.FoxFwdIdeal.main_arg1)
      ∧ r.2.mem ((c.tc : Thread Cert.FoxFwdIdeal.nD Cert.FoxFwdIdeal.τ).loc Cert.FoxFwdIdeal.main_arg2) = m ((c.tc : Thread Cert.FoxFwdIdeal.nD Cert.FoxFwdIdeal.τ).loc Cert.FoxFwdIdeal.main_arg2)
      ∧ r.2.mem ((c.tc : Thread Cert.FoxFwdIdeal.nD Cert.FoxFwdIdeal.τ).loc Cert.FoxFwdIdeal.main_arg3) = m ((c.tc : Thread Cert.FoxFwdIdeal.nD Cert.FoxFwdIdeal.τ).loc Cert.FoxFwdIdeal.main_arg3))
      ∧ r.2.sem = fun _ => 0)

def quiescent_FoxFwdIdeal_pre_finite_forward [hFoxFwdIdeal : Cert.FoxFwdIdeal.Facts] [hPre_finite_forward : Cert.Pre_finite_forward.Facts] : Prop :=
  ∀ (m : (ℓ : Loc Cert.FoxFwdIdeal.nD Cert.FoxFwdIdeal.τ Cert.FoxFwdIdeal.sig) → Buf (Elt Ideal) ℓ) (g : Dev Cert.FoxFwdIdeal.nD → PrngReg), Pre_FoxFwdIdeal_finite_forward m →
    θ_run (Cert.FoxFwdIdeal.defs (F := Ideal)) (onTc (τ := Cert.FoxFwdIdeal.τ) (Cert.FoxFwdIdeal.main (F := Ideal))) ⟨m, fun _ => 0, g⟩ (fun r => (∀ c : Dev Cert.FoxFwdIdeal.nD,
      r.2.mem ((c.tc : Thread Cert.FoxFwdIdeal.nD Cert.FoxFwdIdeal.τ).loc Cert.FoxFwdIdeal.main_arg0) = m ((c.tc : Thread Cert.FoxFwdIdeal.nD Cert.FoxFwdIdeal.τ).loc Cert.FoxFwdIdeal.main_arg0)
      ∧ r.2.mem ((c.tc : Thread Cert.FoxFwdIdeal.nD Cert.FoxFwdIdeal.τ).loc Cert.FoxFwdIdeal.main_arg1) = m ((c.tc : Thread Cert.FoxFwdIdeal.nD Cert.FoxFwdIdeal.τ).loc Cert.FoxFwdIdeal.main_arg1)
      ∧ r.2.mem ((c.tc : Thread Cert.FoxFwdIdeal.nD Cert.FoxFwdIdeal.τ).loc Cert.FoxFwdIdeal.main_arg2) = m ((c.tc : Thread Cert.FoxFwdIdeal.nD Cert.FoxFwdIdeal.τ).loc Cert.FoxFwdIdeal.main_arg2)
      ∧ r.2.mem ((c.tc : Thread Cert.FoxFwdIdeal.nD Cert.FoxFwdIdeal.τ).loc Cert.FoxFwdIdeal.main_arg3) = m ((c.tc : Thread Cert.FoxFwdIdeal.nD Cert.FoxFwdIdeal.τ).loc Cert.FoxFwdIdeal.main_arg3))
      ∧ r.2.sem = fun _ => 0)

def quiescent_FoxFwdRefIdeal [hFoxFwdRefIdeal : Cert.FoxFwdRefIdeal.Facts] : Prop :=
  ∀ (m : (ℓ : Loc Cert.FoxFwdRefIdeal.nD Cert.FoxFwdRefIdeal.τ Cert.FoxFwdRefIdeal.sig) → Buf (Elt Ideal) ℓ) (g : Dev Cert.FoxFwdRefIdeal.nD → PrngReg), Pre_FoxFwdRefIdeal m →
    θ_run (Cert.FoxFwdRefIdeal.defs (F := Ideal)) (onTc (τ := Cert.FoxFwdRefIdeal.τ) (Cert.FoxFwdRefIdeal.main (F := Ideal))) ⟨m, fun _ => 0, g⟩ (fun r => (∀ c : Dev Cert.FoxFwdRefIdeal.nD,
      r.2.mem ((c.tc : Thread Cert.FoxFwdRefIdeal.nD Cert.FoxFwdRefIdeal.τ).loc Cert.FoxFwdRefIdeal.main_arg0) = m ((c.tc : Thread Cert.FoxFwdRefIdeal.nD Cert.FoxFwdRefIdeal.τ).loc Cert.FoxFwdRefIdeal.main_arg0)
      ∧ r.2.mem ((c.tc : Thread Cert.FoxFwdRefIdeal.nD Cert.FoxFwdRefIdeal.τ).loc Cert.FoxFwdRefIdeal.main_arg1) = m ((c.tc : Thread Cert.FoxFwdRefIdeal.nD Cert.FoxFwdRefIdeal.τ).loc Cert.FoxFwdRefIdeal.main_arg1)
      ∧ r.2.mem ((c.tc : Thread Cert.FoxFwdRefIdeal.nD Cert.FoxFwdRefIdeal.τ).loc Cert.FoxFwdRefIdeal.main_arg2) = m ((c.tc : Thread Cert.FoxFwdRefIdeal.nD Cert.FoxFwdRefIdeal.τ).loc Cert.FoxFwdRefIdeal.main_arg2)
      ∧ r.2.mem ((c.tc : Thread Cert.FoxFwdRefIdeal.nD Cert.FoxFwdRefIdeal.τ).loc Cert.FoxFwdRefIdeal.main_arg3) = m ((c.tc : Thread Cert.FoxFwdRefIdeal.nD Cert.FoxFwdRefIdeal.τ).loc Cert.FoxFwdRefIdeal.main_arg3))
      ∧ r.2.sem = fun _ => 0)

def quiescent_FoxFwdRefIdeal_pre_finite_forward [hFoxFwdRefIdeal : Cert.FoxFwdRefIdeal.Facts] [hPre_finite_forward : Cert.Pre_finite_forward.Facts] : Prop :=
  ∀ (m : (ℓ : Loc Cert.FoxFwdRefIdeal.nD Cert.FoxFwdRefIdeal.τ Cert.FoxFwdRefIdeal.sig) → Buf (Elt Ideal) ℓ) (g : Dev Cert.FoxFwdRefIdeal.nD → PrngReg), Pre_FoxFwdRefIdeal_finite_forward m →
    θ_run (Cert.FoxFwdRefIdeal.defs (F := Ideal)) (onTc (τ := Cert.FoxFwdRefIdeal.τ) (Cert.FoxFwdRefIdeal.main (F := Ideal))) ⟨m, fun _ => 0, g⟩ (fun r => (∀ c : Dev Cert.FoxFwdRefIdeal.nD,
      r.2.mem ((c.tc : Thread Cert.FoxFwdRefIdeal.nD Cert.FoxFwdRefIdeal.τ).loc Cert.FoxFwdRefIdeal.main_arg0) = m ((c.tc : Thread Cert.FoxFwdRefIdeal.nD Cert.FoxFwdRefIdeal.τ).loc Cert.FoxFwdRefIdeal.main_arg0)
      ∧ r.2.mem ((c.tc : Thread Cert.FoxFwdRefIdeal.nD Cert.FoxFwdRefIdeal.τ).loc Cert.FoxFwdRefIdeal.main_arg1) = m ((c.tc : Thread Cert.FoxFwdRefIdeal.nD Cert.FoxFwdRefIdeal.τ).loc Cert.FoxFwdRefIdeal.main_arg1)
      ∧ r.2.mem ((c.tc : Thread Cert.FoxFwdRefIdeal.nD Cert.FoxFwdRefIdeal.τ).loc Cert.FoxFwdRefIdeal.main_arg2) = m ((c.tc : Thread Cert.FoxFwdRefIdeal.nD Cert.FoxFwdRefIdeal.τ).loc Cert.FoxFwdRefIdeal.main_arg2)
      ∧ r.2.mem ((c.tc : Thread Cert.FoxFwdRefIdeal.nD Cert.FoxFwdRefIdeal.τ).loc Cert.FoxFwdRefIdeal.main_arg3) = m ((c.tc : Thread Cert.FoxFwdRefIdeal.nD Cert.FoxFwdRefIdeal.τ).loc Cert.FoxFwdRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Att [hAtt : Cert.Att.Facts] : Prop :=
  ∀ (m : (ℓ : Loc Cert.Att.nD Cert.Att.τ Cert.Att.sig) → Buf (Elt Bits) ℓ) (g : Dev Cert.Att.nD → PrngReg), Pre_Att m →
    θ_run (Cert.Att.defs (F := Bits)) (onTc (τ := Cert.Att.τ) (Cert.Att.main (F := Bits))) ⟨m, fun _ => 0, g⟩ (fun r => (∀ c : Dev Cert.Att.nD,
      r.2.mem ((c.tc : Thread Cert.Att.nD Cert.Att.τ).loc Cert.Att.main_arg0) = m ((c.tc : Thread Cert.Att.nD Cert.Att.τ).loc Cert.Att.main_arg0)
      ∧ r.2.mem ((c.tc : Thread Cert.Att.nD Cert.Att.τ).loc Cert.Att.main_arg1) = m ((c.tc : Thread Cert.Att.nD Cert.Att.τ).loc Cert.Att.main_arg1))
      ∧ r.2.sem = fun _ => 0)

def quiescent_AttIdeal [hAttIdeal : Cert.AttIdeal.Facts] : Prop :=
  ∀ (m : (ℓ : Loc Cert.AttIdeal.nD Cert.AttIdeal.τ Cert.AttIdeal.sig) → Buf (Elt Ideal) ℓ) (g : Dev Cert.AttIdeal.nD → PrngReg), Pre_AttIdeal m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1))
      ∧ r.2.sem = fun _ => 0)

def quiescent_AttIdeal_pre_finite_queries [hAttIdeal : Cert.AttIdeal.Facts] [hPre_finite_queries : Cert.Pre_finite_queries.Facts] : Prop :=
  ∀ (m : (ℓ : Loc Cert.AttIdeal.nD Cert.AttIdeal.τ Cert.AttIdeal.sig) → Buf (Elt Ideal) ℓ) (g : Dev Cert.AttIdeal.nD → PrngReg), Pre_AttIdeal_finite_queries m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1))
      ∧ r.2.sem = fun _ => 0)

def quiescent_AttRefIdeal [hAttRefIdeal : Cert.AttRefIdeal.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1))
      ∧ r.2.sem = fun _ => 0)

def quiescent_AttRefIdeal_pre_finite_queries [hAttRefIdeal : Cert.AttRefIdeal.Facts] [hPre_finite_queries : Cert.Pre_finite_queries.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal_finite_queries m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1))
      ∧ r.2.sem = fun _ => 0)

def quiescent_Hid [hHid : Cert.Hid.Facts] : Prop :=
  ∀ (m : (ℓ : Loc Cert.Hid.nD Cert.Hid.τ Cert.Hid.sig) → Buf (Elt Bits) ℓ) (g : Dev Cert.Hid.nD → PrngReg), Pre_Hid m →
    θ_run (Cert.Hid.defs (F := Bits)) (onTc (τ := Cert.Hid.τ) (Cert.Hid.main (F := Bits))) ⟨m, fun _ => 0, g⟩ (fun r => (∀ c : Dev Cert.Hid.nD,
      r.2.mem ((c.tc : Thread Cert.Hid.nD Cert.Hid.τ).loc Cert.Hid.main_arg0) = m ((c.tc : Thread Cert.Hid.nD Cert.Hid.τ).loc Cert.Hid.main_arg0)
      ∧ r.2.mem ((c.tc : Thread Cert.Hid.nD Cert.Hid.τ).loc Cert.Hid.main_arg1) = m ((c.tc : Thread Cert.Hid.nD Cert.Hid.τ).loc Cert.Hid.main_arg1))
      ∧ r.2.sem = fun _ => 0)

def quiescent_HidIdeal [hHidIdeal : Cert.HidIdeal.Facts] : Prop :=
  ∀ (m : (ℓ : Loc Cert.HidIdeal.nD Cert.HidIdeal.τ Cert.HidIdeal.sig) → Buf (Elt Ideal) ℓ) (g : Dev Cert.HidIdeal.nD → PrngReg), Pre_HidIdeal m →
    θ_run (Cert.HidIdeal.defs (F := Ideal)) (onTc (τ := Cert.HidIdeal.τ) (Cert.HidIdeal.main (F := Ideal))) ⟨m, fun _ => 0, g⟩ (fun r => (∀ c : Dev Cert.HidIdeal.nD,
      r.2.mem ((c.tc : Thread Cert.HidIdeal.nD Cert.HidIdeal.τ).loc Cert.HidIdeal.main_arg0) = m ((c.tc : Thread Cert.HidIdeal.nD Cert.HidIdeal.τ).loc Cert.HidIdeal.main_arg0)
      ∧ r.2.mem ((c.tc : Thread Cert.HidIdeal.nD Cert.HidIdeal.τ).loc Cert.HidIdeal.main_arg1) = m ((c.tc : Thread Cert.HidIdeal.nD Cert.HidIdeal.τ).loc Cert.HidIdeal.main_arg1))
      ∧ r.2.sem = fun _ => 0)

def quiescent_HidRefIdeal [hHidRefIdeal : Cert.HidRefIdeal.Facts] : Prop :=
  ∀ (m : (ℓ : Loc Cert.HidRefIdeal.nD Cert.HidRefIdeal.τ Cert.HidRefIdeal.sig) → Buf (Elt Ideal) ℓ) (g : Dev Cert.HidRefIdeal.nD → PrngReg), Pre_HidRefIdeal m →
    θ_run (Cert.HidRefIdeal.defs (F := Ideal)) (onTc (τ := Cert.HidRefIdeal.τ) (Cert.HidRefIdeal.main (F := Ideal))) ⟨m, fun _ => 0, g⟩ (fun r => (∀ c : Dev Cert.HidRefIdeal.nD,
      r.2.mem ((c.tc : Thread Cert.HidRefIdeal.nD Cert.HidRefIdeal.τ).loc Cert.HidRefIdeal.main_arg0) = m ((c.tc : Thread Cert.HidRefIdeal.nD Cert.HidRefIdeal.τ).loc Cert.HidRefIdeal.main_arg0)
      ∧ r.2.mem ((c.tc : Thread Cert.HidRefIdeal.nD Cert.HidRefIdeal.τ).loc Cert.HidRefIdeal.main_arg1) = m ((c.tc : Thread Cert.HidRefIdeal.nD Cert.HidRefIdeal.τ).loc Cert.HidRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def preserves_MemGain_MemGainIdeal : Prop :=
  True

def algebraic_MemGainIdeal_MemGainRefIdeal [hMemGainIdeal : Cert.MemGainIdeal.Facts] [hMemGainRefIdeal : Cert.MemGainRefIdeal.Facts] : Prop :=
  ∀ (m : (ℓ : Loc Cert.MemGainIdeal.nD Cert.MemGainIdeal.τ Cert.MemGainIdeal.sig) → Buf (Elt Ideal) ℓ) (g : Dev Cert.MemGainIdeal.nD → PrngReg)
    (m' : (ℓ : Loc Cert.MemGainRefIdeal.nD Cert.MemGainRefIdeal.τ Cert.MemGainRefIdeal.sig) → Buf (Elt Ideal) ℓ) (g' : Dev Cert.MemGainRefIdeal.nD → PrngReg), Pre_MemGainIdeal m →
    (∀ c : Dev Cert.MemGainIdeal.nD,
      m' ((c.tc : Thread Cert.MemGainRefIdeal.nD Cert.MemGainRefIdeal.τ).loc Cert.MemGainRefIdeal.main_arg0) = m ((c.tc : Thread Cert.MemGainIdeal.nD Cert.MemGainIdeal.τ).loc Cert.MemGainIdeal.main_arg0)
      ∧ m' ((c.tc : Thread Cert.MemGainRefIdeal.nD Cert.MemGainRefIdeal.τ).loc Cert.MemGainRefIdeal.main_arg1) = m ((c.tc : Thread Cert.MemGainIdeal.nD Cert.MemGainIdeal.τ).loc Cert.MemGainIdeal.main_arg1)
      ∧ m' ((c.tc : Thread Cert.MemGainRefIdeal.nD Cert.MemGainRefIdeal.τ).loc Cert.MemGainRefIdeal.main_arg2) = m ((c.tc : Thread Cert.MemGainIdeal.nD Cert.MemGainIdeal.τ).loc Cert.MemGainIdeal.main_arg2)) →
    ∃ (v0 : (c : Dev Cert.MemGainIdeal.nD) → Buf (Elt Ideal) ((c.tc : Thread Cert.MemGainIdeal.nD Cert.MemGainIdeal.τ).loc Cert.MemGainIdeal.main_v0)),
      θ_run (Cert.MemGainIdeal.defs (F := Ideal)) (onTc (τ := Cert.MemGainIdeal.τ) (Cert.MemGainIdeal.main (F := Ideal))) ⟨m, fun _ => 0, g⟩ (fun r => ∀ c : Dev Cert.MemGainIdeal.nD,
          r.2.mem ((c.tc : Thread Cert.MemGainIdeal.nD Cert.MemGainIdeal.τ).loc Cert.MemGainIdeal.main_v0) = v0 c
          ∧ r.2.mem ((c.tc : Thread Cert.MemGainIdeal.nD Cert.MemGainIdeal.τ).loc Cert.MemGainIdeal.main_arg0) = m ((c.tc : Thread Cert.MemGainIdeal.nD Cert.MemGainIdeal.τ).loc Cert.MemGainIdeal.main_arg0)
          ∧ r.2.mem ((c.tc : Thread Cert.MemGainIdeal.nD Cert.MemGainIdeal.τ).loc Cert.MemGainIdeal.main_arg1) = m ((c.tc : Thread Cert.MemGainIdeal.nD Cert.MemGainIdeal.τ).loc Cert.MemGainIdeal.main_arg1)
          ∧ r.2.mem ((c.tc : Thread Cert.MemGainIdeal.nD Cert.MemGainIdeal.τ).loc Cert.MemGainIdeal.main_arg2) = m ((c.tc : Thread Cert.MemGainIdeal.nD Cert.MemGainIdeal.τ).loc Cert.MemGainIdeal.main_arg2))
      ∧ θ_run (Cert.MemGainRefIdeal.defs (F := Ideal)) (onTc (τ := Cert.MemGainRefIdeal.τ) (Cert.MemGainRefIdeal.main (F := Ideal))) ⟨m', fun _ => 0, g'⟩ (fun r => ∀ c : Dev Cert.MemGainRefIdeal.nD,
          r.2.mem ((c.tc : Thread Cert.MemGainRefIdeal.nD Cert.MemGainRefIdeal.τ).loc Cert.MemGainRefIdeal.main_v14) = v0 c
          ∧ r.2.mem ((c.tc : Thread Cert.MemGainRefIdeal.nD Cert.MemGainRefIdeal.τ).loc Cert.MemGainRefIdeal.main_arg0) = m' ((c.tc : Thread Cert.MemGainRefIdeal.nD Cert.MemGainRefIdeal.τ).loc Cert.MemGainRefIdeal.main_arg0)
          ∧ r.2.mem ((c.tc : Thread Cert.MemGainRefIdeal.nD Cert.MemGainRefIdeal.τ).loc Cert.MemGainRefIdeal.main_arg1) = m' ((c.tc : Thread Cert.MemGainRefIdeal.nD Cert.MemGainRefIdeal.τ).loc Cert.MemGainRefIdeal.main_arg1)
          ∧ r.2.mem ((c.tc : Thread Cert.MemGainRefIdeal.nD Cert.MemGainRefIdeal.τ).loc Cert.MemGainRefIdeal.main_arg2) = m' ((c.tc : Thread Cert.MemGainRefIdeal.nD Cert.MemGainRefIdeal.τ).loc Cert.MemGainRefIdeal.main_arg2))

def preserves_Fox_FoxIdeal : Prop :=
  IdealRules.named_const.Statement Cert.FoxIdeal.κ "mask" .f32 0xF149F2CA#32 ⊥

def algebraic_FoxIdeal_FoxRefIdeal_pre_finite_attention [hFoxIdeal : Cert.FoxIdeal.Facts] [hFoxRefIdeal : Cert.FoxRefIdeal.Facts] [hPre_finite_attention : Cert.Pre_finite_attention.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_finite_attention m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)
      ∧ m' ((c.tc : Thread Cert.FoxRefIdeal.nD Cert.FoxRefIdeal.τ).loc Cert.FoxRefIdeal.main_arg4) = m ((c.tc : Thread Cert.FoxIdeal.nD Cert.FoxIdeal.τ).loc Cert.FoxIdeal.main_arg4)) →
    ∃ (v0 : (c : Dev Cert.FoxIdeal.nD) → Buf (Elt Ideal) ((c.tc : Thread Cert.FoxIdeal.nD Cert.FoxIdeal.τ).loc Cert.FoxIdeal.main_v141)) (v1 : (c : Dev Cert.FoxIdeal.nD) → Buf (Elt Ideal) ((c.tc : Thread Cert.FoxIdeal.nD Cert.FoxIdeal.τ).loc Cert.FoxIdeal.main_v150)) (v2 : (c : Dev Cert.FoxIdeal.nD) → Buf (Elt Ideal) ((c.tc : Thread Cert.FoxIdeal.nD Cert.FoxIdeal.τ).loc Cert.FoxIdeal.main_v160)) (v3 : (c : Dev Cert.FoxIdeal.nD) → Buf (Elt Ideal) ((c.tc : Thread Cert.FoxIdeal.nD Cert.FoxIdeal.τ).loc Cert.FoxIdeal.main_v162)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v141) = v0 c
          ∧ r.2.mem ((c.tc : Thread Cert.FoxIdeal.nD Cert.FoxIdeal.τ).loc Cert.FoxIdeal.main_v150) = v1 c
          ∧ r.2.mem ((c.tc : Thread Cert.FoxIdeal.nD Cert.FoxIdeal.τ).loc Cert.FoxIdeal.main_v160) = v2 c
          ∧ r.2.mem ((c.tc : Thread Cert.FoxIdeal.nD Cert.FoxIdeal.τ).loc Cert.FoxIdeal.main_v162) = v3 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
          ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v78) = v0 c
          ∧ r.2.mem ((c.tc : Thread Cert.FoxRefIdeal.nD Cert.FoxRefIdeal.τ).loc Cert.FoxRefIdeal.main_v76) = v1 c
          ∧ r.2.mem ((c.tc : Thread Cert.FoxRefIdeal.nD Cert.FoxRefIdeal.τ).loc Cert.FoxRefIdeal.main_v49) = v2 c
          ∧ r.2.mem ((c.tc : Thread Cert.FoxRefIdeal.nD Cert.FoxRefIdeal.τ).loc Cert.FoxRefIdeal.main_v72) = v3 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3)
          ∧ r.2.mem ((c.tc : Thread Cert.FoxRefIdeal.nD Cert.FoxRefIdeal.τ).loc Cert.FoxRefIdeal.main_arg4) = m' ((c.tc : Thread Cert.FoxRefIdeal.nD Cert.FoxRefIdeal.τ).loc Cert.FoxRefIdeal.main_arg4))

def preserves_Xattn_XattnIdeal : Prop :=
  True

def algebraic_XattnIdeal_XattnRefIdeal_pre_finite_memory [hXattnIdeal : Cert.XattnIdeal.Facts] [hXattnRefIdeal : Cert.XattnRefIdeal.Facts] [hPre_finite_memory : Cert.Pre_finite_memory.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnRefIdeal.nD Cert.XattnRefIdeal.τ Cert.XattnRefIdeal.sig) → Buf (Elt Ideal) ℓ) (g' : Dev Cert.XattnRefIdeal.nD → PrngReg), Pre_XattnIdeal_finite_memory m →
    (∀ c : Dev Cert.XattnIdeal.nD,
      m' ((c.tc : Thread Cert.XattnRefIdeal.nD Cert.XattnRefIdeal.τ).loc Cert.XattnRefIdeal.main_arg0) = m ((c.tc : Thread Cert.XattnIdeal.nD Cert.XattnIdeal.τ).loc Cert.XattnIdeal.main_arg0)
      ∧ m' ((c.tc : Thread Cert.XattnRefIdeal.nD Cert.XattnRefIdeal.τ).loc Cert.XattnRefIdeal.main_arg1) = m ((c.tc : Thread Cert.XattnIdeal.nD Cert.XattnIdeal.τ).loc Cert.XattnIdeal.main_arg1)
      ∧ m' ((c.tc : Thread Cert.XattnRefIdeal.nD Cert.XattnRefIdeal.τ).loc Cert.XattnRefIdeal.main_arg2) = m ((c.tc : Thread Cert.XattnIdeal.nD Cert.XattnIdeal.τ).loc Cert.XattnIdeal.main_arg2)) →
    ∃ (v0 : (c : Dev Cert.XattnIdeal.nD) → Buf (Elt Ideal) ((c.tc : Thread Cert.XattnIdeal.nD Cert.XattnIdeal.τ).loc Cert.XattnIdeal.main_v3_0)) (v1 : (c : Dev Cert.XattnIdeal.nD) → Buf (Elt Ideal) ((c.tc : Thread Cert.XattnIdeal.nD Cert.XattnIdeal.τ).loc Cert.XattnIdeal.main_v3_1)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v3_0) = v0 c
          ∧ r.2.mem ((c.tc : Thread Cert.XattnIdeal.nD Cert.XattnIdeal.τ).loc Cert.XattnIdeal.main_v3_1) = v1 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2))
      ∧ θ_run (Cert.XattnRefIdeal.defs (F := Ideal)) (onTc (τ := Cert.XattnRefIdeal.τ) (Cert.XattnRefIdeal.main (F := Ideal))) ⟨m', fun _ => 0, g'⟩ (fun r => ∀ c : Dev Cert.XattnRefIdeal.nD,
          r.2.mem ((c.tc : Thread Cert.XattnRefIdeal.nD Cert.XattnRefIdeal.τ).loc Cert.XattnRefIdeal.main_v68) = v0 c
          ∧ r.2.mem ((c.tc : Thread Cert.XattnRefIdeal.nD Cert.XattnRefIdeal.τ).loc Cert.XattnRefIdeal.main_v67) = v1 c
          ∧ r.2.mem ((c.tc : Thread Cert.XattnRefIdeal.nD Cert.XattnRefIdeal.τ).loc Cert.XattnRefIdeal.main_arg0) = m' ((c.tc : Thread Cert.XattnRefIdeal.nD Cert.XattnRefIdeal.τ).loc Cert.XattnRefIdeal.main_arg0)
          ∧ r.2.mem ((c.tc : Thread Cert.XattnRefIdeal.nD Cert.XattnRefIdeal.τ).loc Cert.XattnRefIdeal.main_arg1) = m' ((c.tc : Thread Cert.XattnRefIdeal.nD Cert.XattnRefIdeal.τ).loc Cert.XattnRefIdeal.main_arg1)
          ∧ r.2.mem ((c.tc : Thread Cert.XattnRefIdeal.nD Cert.XattnRefIdeal.τ).loc Cert.XattnRefIdeal.main_arg2) = m' ((c.tc : Thread Cert.XattnRefIdeal.nD Cert.XattnRefIdeal.τ).loc Cert.XattnRefIdeal.main_arg2))

def preserves_First_FirstIdeal : Prop :=
  True

def algebraic_FirstIdeal_FirstRefIdeal [hFirstIdeal : Cert.FirstIdeal.Facts] [hFirstRefIdeal : Cert.FirstRefIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)
      ∧ m' ((c.tc : Thread Cert.FirstRefIdeal.nD Cert.FirstRefIdeal.τ).loc Cert.FirstRefIdeal.main_arg2) = m ((c.tc : Thread Cert.FirstIdeal.nD Cert.FirstIdeal.τ).loc Cert.FirstIdeal.main_arg2)
      ∧ m' ((c.tc : Thread Cert.FirstRefIdeal.nD Cert.FirstRefIdeal.τ).loc Cert.FirstRefIdeal.main_arg3) = m ((c.tc : Thread Cert.FirstIdeal.nD Cert.FirstIdeal.τ).loc Cert.FirstIdeal.main_arg3)
      ∧ m' ((c.tc : Thread Cert.FirstRefIdeal.nD Cert.FirstRefIdeal.τ).loc Cert.FirstRefIdeal.main_arg4) = m ((c.tc : Thread Cert.FirstIdeal.nD Cert.FirstIdeal.τ).loc Cert.FirstIdeal.main_arg4)) →
    ∃ (v0 : (c : Dev Cert.FirstIdeal.nD) → Buf (Elt Ideal) ((c.tc : Thread Cert.FirstIdeal.nD Cert.FirstIdeal.τ).loc Cert.FirstIdeal.main_v4_0)) (v1 : (c : Dev Cert.FirstIdeal.nD) → Buf (Elt Ideal) ((c.tc : Thread Cert.FirstIdeal.nD Cert.FirstIdeal.τ).loc Cert.FirstIdeal.main_v4_1)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v4_0) = v0 c
          ∧ r.2.mem ((c.tc : Thread Cert.FirstIdeal.nD Cert.FirstIdeal.τ).loc Cert.FirstIdeal.main_v4_1) = v1 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          r.2.mem ((c.tc : Thread Cert.FirstRefIdeal.nD Cert.FirstRefIdeal.τ).loc Cert.FirstRefIdeal.main_v36) = v0 c
          ∧ r.2.mem ((c.tc : Thread Cert.FirstRefIdeal.nD Cert.FirstRefIdeal.τ).loc Cert.FirstRefIdeal.main_v19) = v1 c
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1)
          ∧ r.2.mem ((c.tc : Thread Cert.FirstRefIdeal.nD Cert.FirstRefIdeal.τ).loc Cert.FirstRefIdeal.main_arg2) = m' ((c.tc : Thread Cert.FirstRefIdeal.nD Cert.FirstRefIdeal.τ).loc Cert.FirstRefIdeal.main_arg2)
          ∧ r.2.mem ((c.tc : Thread Cert.FirstRefIdeal.nD Cert.FirstRefIdeal.τ).loc Cert.FirstRefIdeal.main_arg3) = m' ((c.tc : Thread Cert.FirstRefIdeal.nD Cert.FirstRefIdeal.τ).loc Cert.FirstRefIdeal.main_arg3)
          ∧ r.2.mem ((c.tc : Thread Cert.FirstRefIdeal.nD Cert.FirstRefIdeal.τ).loc Cert.FirstRefIdeal.main_arg4) = m' ((c.tc : Thread Cert.FirstRefIdeal.nD Cert.FirstRefIdeal.τ).loc Cert.FirstRefIdeal.main_arg4))

def preserves_Loss_LossIdeal : Prop :=
  True

def preserves_Conv_ConvIdeal : Prop :=
  True

def preserves_Pool_PoolIdeal : Prop :=
  True

def preserves_Gate_GateIdeal : Prop :=
  True

def preserves_Mix_MixIdeal : Prop :=
  True

def preserves_FoxFwd_FoxFwdIdeal : Prop :=
  IdealRules.named_const.Statement Cert.FoxFwdIdeal.κ "mask" .f32 0xF149F2CA#32 ⊥

def algebraic_FoxFwdIdeal_FoxFwdRefIdeal_pre_finite_forward [hFoxFwdIdeal : Cert.FoxFwdIdeal.Facts] [hFoxFwdRefIdeal : Cert.FoxFwdRefIdeal.Facts] [hPre_finite_forward : Cert.Pre_finite_forward.Facts] : Prop :=
  ∀ (m : (ℓ : Loc Cert.FoxFwdIdeal.nD Cert.FoxFwdIdeal.τ Cert.FoxFwdIdeal.sig) → Buf (Elt Ideal) ℓ) (g : Dev Cert.FoxFwdIdeal.nD → PrngReg)
    (m' : (ℓ : Loc Cert.FoxFwdRefIdeal.nD Cert.FoxFwdRefIdeal.τ Cert.FoxFwdRefIdeal.sig) → Buf (Elt Ideal) ℓ) (g' : Dev Cert.FoxFwdRefIdeal.nD → PrngReg), Pre_FoxFwdIdeal_finite_forward m →
    (∀ c : Dev Cert.FoxFwdIdeal.nD,
      m' ((c.tc : Thread Cert.FoxFwdRefIdeal.nD Cert.FoxFwdRefIdeal.τ).loc Cert.FoxFwdRefIdeal.main_arg0) = m ((c.tc : Thread Cert.FoxFwdIdeal.nD Cert.FoxFwdIdeal.τ).loc Cert.FoxFwdIdeal.main_arg0)
      ∧ m' ((c.tc : Thread Cert.FoxFwdRefIdeal.nD Cert.FoxFwdRefIdeal.τ).loc Cert.FoxFwdRefIdeal.main_arg1) = m ((c.tc : Thread Cert.FoxFwdIdeal.nD Cert.FoxFwdIdeal.τ).loc Cert.FoxFwdIdeal.main_arg1)
      ∧ m' ((c.tc : Thread Cert.FoxFwdRefIdeal.nD Cert.FoxFwdRefIdeal.τ).loc Cert.FoxFwdRefIdeal.main_arg2) = m ((c.tc : Thread Cert.FoxFwdIdeal.nD Cert.FoxFwdIdeal.τ).loc Cert.FoxFwdIdeal.main_arg2)
      ∧ m' ((c.tc : Thread Cert.FoxFwdRefIdeal.nD Cert.FoxFwdRefIdeal.τ).loc Cert.FoxFwdRefIdeal.main_arg3) = m ((c.tc : Thread Cert.FoxFwdIdeal.nD Cert.FoxFwdIdeal.τ).loc Cert.FoxFwdIdeal.main_arg3)) →
    ∃ (v0 : (c : Dev Cert.FoxFwdIdeal.nD) → Buf (Elt Ideal) ((c.tc : Thread Cert.FoxFwdIdeal.nD Cert.FoxFwdIdeal.τ).loc Cert.FoxFwdIdeal.main_v90)) (v1 : (c : Dev Cert.FoxFwdIdeal.nD) → Buf (Elt Ideal) ((c.tc : Thread Cert.FoxFwdIdeal.nD Cert.FoxFwdIdeal.τ).loc Cert.FoxFwdIdeal.main_v93)),
      θ_run (Cert.FoxFwdIdeal.defs (F := Ideal)) (onTc (τ := Cert.FoxFwdIdeal.τ) (Cert.FoxFwdIdeal.main (F := Ideal))) ⟨m, fun _ => 0, g⟩ (fun r => ∀ c : Dev Cert.FoxFwdIdeal.nD,
          r.2.mem ((c.tc : Thread Cert.FoxFwdIdeal.nD Cert.FoxFwdIdeal.τ).loc Cert.FoxFwdIdeal.main_v90) = v0 c
          ∧ r.2.mem ((c.tc : Thread Cert.FoxFwdIdeal.nD Cert.FoxFwdIdeal.τ).loc Cert.FoxFwdIdeal.main_v93) = v1 c
          ∧ r.2.mem ((c.tc : Thread Cert.FoxFwdIdeal.nD Cert.FoxFwdIdeal.τ).loc Cert.FoxFwdIdeal.main_arg0) = m ((c.tc : Thread Cert.FoxFwdIdeal.nD Cert.FoxFwdIdeal.τ).loc Cert.FoxFwdIdeal.main_arg0)
          ∧ r.2.mem ((c.tc : Thread Cert.FoxFwdIdeal.nD Cert.FoxFwdIdeal.τ).loc Cert.FoxFwdIdeal.main_arg1) = m ((c.tc : Thread Cert.FoxFwdIdeal.nD Cert.FoxFwdIdeal.τ).loc Cert.FoxFwdIdeal.main_arg1)
          ∧ r.2.mem ((c.tc : Thread Cert.FoxFwdIdeal.nD Cert.FoxFwdIdeal.τ).loc Cert.FoxFwdIdeal.main_arg2) = m ((c.tc : Thread Cert.FoxFwdIdeal.nD Cert.FoxFwdIdeal.τ).loc Cert.FoxFwdIdeal.main_arg2)
          ∧ r.2.mem ((c.tc : Thread Cert.FoxFwdIdeal.nD Cert.FoxFwdIdeal.τ).loc Cert.FoxFwdIdeal.main_arg3) = m ((c.tc : Thread Cert.FoxFwdIdeal.nD Cert.FoxFwdIdeal.τ).loc Cert.FoxFwdIdeal.main_arg3))
      ∧ θ_run (Cert.FoxFwdRefIdeal.defs (F := Ideal)) (onTc (τ := Cert.FoxFwdRefIdeal.τ) (Cert.FoxFwdRefIdeal.main (F := Ideal))) ⟨m', fun _ => 0, g'⟩ (fun r => ∀ c : Dev Cert.FoxFwdRefIdeal.nD,
          r.2.mem ((c.tc : Thread Cert.FoxFwdRefIdeal.nD Cert.FoxFwdRefIdeal.τ).loc Cert.FoxFwdRefIdeal.main_v38) = v0 c
          ∧ r.2.mem ((c.tc : Thread Cert.FoxFwdRefIdeal.nD Cert.FoxFwdRefIdeal.τ).loc Cert.FoxFwdRefIdeal.main_v34) = v1 c
          ∧ r.2.mem ((c.tc : Thread Cert.FoxFwdRefIdeal.nD Cert.FoxFwdRefIdeal.τ).loc Cert.FoxFwdRefIdeal.main_arg0) = m' ((c.tc : Thread Cert.FoxFwdRefIdeal.nD Cert.FoxFwdRefIdeal.τ).loc Cert.FoxFwdRefIdeal.main_arg0)
          ∧ r.2.mem ((c.tc : Thread Cert.FoxFwdRefIdeal.nD Cert.FoxFwdRefIdeal.τ).loc Cert.FoxFwdRefIdeal.main_arg1) = m' ((c.tc : Thread Cert.FoxFwdRefIdeal.nD Cert.FoxFwdRefIdeal.τ).loc Cert.FoxFwdRefIdeal.main_arg1)
          ∧ r.2.mem ((c.tc : Thread Cert.FoxFwdRefIdeal.nD Cert.FoxFwdRefIdeal.τ).loc Cert.FoxFwdRefIdeal.main_arg2) = m' ((c.tc : Thread Cert.FoxFwdRefIdeal.nD Cert.FoxFwdRefIdeal.τ).loc Cert.FoxFwdRefIdeal.main_arg2)
          ∧ r.2.mem ((c.tc : Thread Cert.FoxFwdRefIdeal.nD Cert.FoxFwdRefIdeal.τ).loc Cert.FoxFwdRefIdeal.main_arg3) = m' ((c.tc : Thread Cert.FoxFwdRefIdeal.nD Cert.FoxFwdRefIdeal.τ).loc Cert.FoxFwdRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Att_AttIdeal : Prop :=
  True

def algebraic_AttIdeal_AttRefIdeal_pre_finite_queries [hAttIdeal : Cert.AttIdeal.Facts] [hAttRefIdeal : Cert.AttRefIdeal.Facts] [hPre_finite_queries : Cert.Pre_finite_queries.Facts] : Prop :=
  ∀ (m : (ℓ : Loc Cert.AttIdeal.nD Cert.AttIdeal.τ Cert.AttIdeal.sig) → Buf (Elt Ideal) ℓ) (g : Dev Cert.AttIdeal.nD → PrngReg)
    (m' : (ℓ : Loc Cert.AttRefIdeal.nD Cert.AttRefIdeal.τ Cert.AttRefIdeal.sig) → Buf (Elt Ideal) ℓ) (g' : Dev Cert.AttRefIdeal.nD → PrngReg), Pre_AttIdeal_finite_queries m →
    (∀ c : Dev Cert.AttIdeal.nD,
      m' ((c.tc : Thread Cert.AttRefIdeal.nD Cert.AttRefIdeal.τ).loc Cert.AttRefIdeal.main_arg0) = m ((c.tc : Thread Cert.AttIdeal.nD Cert.AttIdeal.τ).loc Cert.AttIdeal.main_arg0)
      ∧ m' ((c.tc : Thread Cert.AttRefIdeal.nD Cert.AttRefIdeal.τ).loc Cert.AttRefIdeal.main_arg1) = m ((c.tc : Thread Cert.AttIdeal.nD Cert.AttIdeal.τ).loc Cert.AttIdeal.main_arg1)) →
    ∃ (v0 : (c : Dev Cert.AttIdeal.nD) → Buf (Elt Ideal) ((c.tc : Thread Cert.AttIdeal.nD Cert.AttIdeal.τ).loc Cert.AttIdeal.main_v2)),
      θ_run (Cert.AttIdeal.defs (F := Ideal)) (onTc (τ := Cert.AttIdeal.τ) (Cert.AttIdeal.main (F := Ideal))) ⟨m, fun _ => 0, g⟩ (fun r => ∀ c : Dev Cert.AttIdeal.nD,
          r.2.mem ((c.tc : Thread Cert.AttIdeal.nD Cert.AttIdeal.τ).loc Cert.AttIdeal.main_v2) = v0 c
          ∧ r.2.mem ((c.tc : Thread Cert.AttIdeal.nD Cert.AttIdeal.τ).loc Cert.AttIdeal.main_arg0) = m ((c.tc : Thread Cert.AttIdeal.nD Cert.AttIdeal.τ).loc Cert.AttIdeal.main_arg0)
          ∧ r.2.mem ((c.tc : Thread Cert.AttIdeal.nD Cert.AttIdeal.τ).loc Cert.AttIdeal.main_arg1) = m ((c.tc : Thread Cert.AttIdeal.nD Cert.AttIdeal.τ).loc Cert.AttIdeal.main_arg1))
      ∧ θ_run (Cert.AttRefIdeal.defs (F := Ideal)) (onTc (τ := Cert.AttRefIdeal.τ) (Cert.AttRefIdeal.main (F := Ideal))) ⟨m', fun _ => 0, g'⟩ (fun r => ∀ c : Dev Cert.AttRefIdeal.nD,
          r.2.mem ((c.tc : Thread Cert.AttRefIdeal.nD Cert.AttRefIdeal.τ).loc Cert.AttRefIdeal.main_v22) = v0 c
          ∧ r.2.mem ((c.tc : Thread Cert.AttRefIdeal.nD Cert.AttRefIdeal.τ).loc Cert.AttRefIdeal.main_arg0) = m' ((c.tc : Thread Cert.AttRefIdeal.nD Cert.AttRefIdeal.τ).loc Cert.AttRefIdeal.main_arg0)
          ∧ r.2.mem ((c.tc : Thread Cert.AttRefIdeal.nD Cert.AttRefIdeal.τ).loc Cert.AttRefIdeal.main_arg1) = m' ((c.tc : Thread Cert.AttRefIdeal.nD Cert.AttRefIdeal.τ).loc Cert.AttRefIdeal.main_arg1))

def preserves_Hid_HidIdeal : Prop :=
  True

def algebraic_HidIdeal_HidRefIdeal [hHidIdeal : Cert.HidIdeal.Facts] [hHidRefIdeal : Cert.HidRefIdeal.Facts] : Prop :=
  ∀ (m : (ℓ : Loc Cert.HidIdeal.nD Cert.HidIdeal.τ Cert.HidIdeal.sig) → Buf (Elt Ideal) ℓ) (g : Dev Cert.HidIdeal.nD → PrngReg)
    (m' : (ℓ : Loc Cert.HidRefIdeal.nD Cert.HidRefIdeal.τ Cert.HidRefIdeal.sig) → Buf (Elt Ideal) ℓ) (g' : Dev Cert.HidRefIdeal.nD → PrngReg), Pre_HidIdeal m →
    (∀ c : Dev Cert.HidIdeal.nD,
      m' ((c.tc : Thread Cert.HidRefIdeal.nD Cert.HidRefIdeal.τ).loc Cert.HidRefIdeal.main_arg0) = m ((c.tc : Thread Cert.HidIdeal.nD Cert.HidIdeal.τ).loc Cert.HidIdeal.main_arg0)
      ∧ m' ((c.tc : Thread Cert.HidRefIdeal.nD Cert.HidRefIdeal.τ).loc Cert.HidRefIdeal.main_arg1) = m ((c.tc : Thread Cert.HidIdeal.nD Cert.HidIdeal.τ).loc Cert.HidIdeal.main_arg1)) →
    ∃ (v0 : (c : Dev Cert.HidIdeal.nD) → Buf (Elt Ideal) ((c.tc : Thread Cert.HidIdeal.nD Cert.HidIdeal.τ).loc Cert.HidIdeal.main_v2)),
      θ_run (Cert.HidIdeal.defs (F := Ideal)) (onTc (τ := Cert.HidIdeal.τ) (Cert.HidIdeal.main (F := Ideal))) ⟨m, fun _ => 0, g⟩ (fun r => ∀ c : Dev Cert.HidIdeal.nD,
          r.2.mem ((c.tc : Thread Cert.HidIdeal.nD Cert.HidIdeal.τ).loc Cert.HidIdeal.main_v2) = v0 c
          ∧ r.2.mem ((c.tc : Thread Cert.HidIdeal.nD Cert.HidIdeal.τ).loc Cert.HidIdeal.main_arg0) = m ((c.tc : Thread Cert.HidIdeal.nD Cert.HidIdeal.τ).loc Cert.HidIdeal.main_arg0)
          ∧ r.2.mem ((c.tc : Thread Cert.HidIdeal.nD Cert.HidIdeal.τ).loc Cert.HidIdeal.main_arg1) = m ((c.tc : Thread Cert.HidIdeal.nD Cert.HidIdeal.τ).loc Cert.HidIdeal.main_arg1))
      ∧ θ_run (Cert.HidRefIdeal.defs (F := Ideal)) (onTc (τ := Cert.HidRefIdeal.τ) (Cert.HidRefIdeal.main (F := Ideal))) ⟨m', fun _ => 0, g'⟩ (fun r => ∀ c : Dev Cert.HidRefIdeal.nD,
          r.2.mem ((c.tc : Thread Cert.HidRefIdeal.nD Cert.HidRefIdeal.τ).loc Cert.HidRefIdeal.main_v1) = v0 c
          ∧ r.2.mem ((c.tc : Thread Cert.HidRefIdeal.nD Cert.HidRefIdeal.τ).loc Cert.HidRefIdeal.main_arg0) = m' ((c.tc : Thread Cert.HidRefIdeal.nD Cert.HidRefIdeal.τ).loc Cert.HidRefIdeal.main_arg0)
          ∧ r.2.mem ((c.tc : Thread Cert.HidRefIdeal.nD Cert.HidRefIdeal.τ).loc Cert.HidRefIdeal.main_arg1) = m' ((c.tc : Thread Cert.HidRefIdeal.nD Cert.HidRefIdeal.τ).loc Cert.HidRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v23) = v0 c
          ∧ r.2.mem ((c.tc : Thread Cert.AdamRefIdeal.nD Cert.AdamRefIdeal.τ).loc Cert.AdamRefIdeal.main_v4) = v1 c
          ∧ r.2.mem ((c.tc : Thread Cert.AdamRefIdeal.nD Cert.AdamRefIdeal.τ).loc Cert.AdamRefIdeal.main_v10) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v4)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v4) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v2) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Act_ActIdeal : Prop :=
  True

def algebraic_ActIdeal_ActRefIdeal [hActIdeal : Cert.ActIdeal.Facts] [hActRefIdeal : Cert.ActRefIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)) →
    ∃ (v0 : (c : Dev Cert.ActIdeal.nD) → Buf (Elt Ideal) ((c.tc : Thread Cert.ActIdeal.nD Cert.ActIdeal.τ).loc Cert.ActIdeal.main_v8)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v8) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v38) = v0 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)) →
    ∃ (v0 : (c : Dev Cert.DhIdeal.nD) → Buf (Elt Ideal) ((c.tc : Thread Cert.DhIdeal.nD Cert.DhIdeal.τ).loc Cert.DhIdeal.main_v6)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v6) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v1) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1))

def preserves_Win_WinIdeal : Prop :=
  True

def algebraic_WinIdeal_WinRefIdeal [hWinIdeal : Cert.WinIdeal.Facts] [hWinRefIdeal : Cert.WinRefIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)) →
    ∃ (v0 : (c : Dev Cert.WinIdeal.nD) → Buf (Elt Ideal) ((c.tc : Thread Cert.WinIdeal.nD Cert.WinIdeal.τ).loc Cert.WinIdeal.main_v3)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v3) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v2) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v2)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v2) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v12) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def Claim : Prop :=
  ∃ (hMemGain : Cert.MemGain.Facts) (hMemGainIdeal : Cert.MemGainIdeal.Facts) (hMemGainRefIdeal : Cert.MemGainRefIdeal.Facts) (hFox : Cert.Fox.Facts) (hFoxIdeal : Cert.FoxIdeal.Facts) (hFoxRefIdeal : Cert.FoxRefIdeal.Facts) (hXattn : Cert.Xattn.Facts) (hXattnIdeal : Cert.XattnIdeal.Facts) (hXattnRefIdeal : Cert.XattnRefIdeal.Facts) (hFirst : Cert.First.Facts) (hFirstIdeal : Cert.FirstIdeal.Facts) (hFirstRefIdeal : Cert.FirstRefIdeal.Facts) (hLoss : Cert.Loss.Facts) (hLossIdeal : Cert.LossIdeal.Facts) (hLossRefIdeal : Cert.LossRefIdeal.Facts) (hConv : Cert.Conv.Facts) (hConvIdeal : Cert.ConvIdeal.Facts) (hConvRefIdeal : Cert.ConvRefIdeal.Facts) (hPool : Cert.Pool.Facts) (hPoolIdeal : Cert.PoolIdeal.Facts) (hPoolRefIdeal : Cert.PoolRefIdeal.Facts) (hGate : Cert.Gate.Facts) (hGateIdeal : Cert.GateIdeal.Facts) (hGateRefIdeal : Cert.GateRefIdeal.Facts) (hMix : Cert.Mix.Facts) (hMixIdeal : Cert.MixIdeal.Facts) (hMixRefIdeal : Cert.MixRefIdeal.Facts) (hFoxFwd : Cert.FoxFwd.Facts) (hFoxFwdIdeal : Cert.FoxFwdIdeal.Facts) (hFoxFwdRefIdeal : Cert.FoxFwdRefIdeal.Facts) (hNorm : Cert.Norm.Facts) (hNormIdeal : Cert.NormIdeal.Facts) (hNormRefIdeal : Cert.NormRefIdeal.Facts) (hAtt : Cert.Att.Facts) (hAttIdeal : Cert.AttIdeal.Facts) (hAttRefIdeal : Cert.AttRefIdeal.Facts) (hHid : Cert.Hid.Facts) (hHidIdeal : Cert.HidIdeal.Facts) (hHidRefIdeal : Cert.HidRefIdeal.Facts) (hDown : Cert.Down.Facts) (hDownIdeal : Cert.DownIdeal.Facts) (hDownRefIdeal : Cert.DownRefIdeal.Facts) (hAdam : Cert.Adam.Facts) (hAdamIdeal : Cert.AdamIdeal.Facts) (hAdamRefIdeal : Cert.AdamRefIdeal.Facts) (hUp : Cert.Up.Facts) (hUpIdeal : Cert.UpIdeal.Facts) (hUpRefIdeal : Cert.UpRefIdeal.Facts) (hAct : Cert.Act.Facts) (hActIdeal : Cert.ActIdeal.Facts) (hActRefIdeal : Cert.ActRefIdeal.Facts) (hDh : Cert.Dh.Facts) (hDhIdeal : Cert.DhIdeal.Facts) (hDhRefIdeal : Cert.DhRefIdeal.Facts) (hWin : Cert.Win.Facts) (hWinIdeal : Cert.WinIdeal.Facts) (hWinRefIdeal : Cert.WinRefIdeal.Facts) (hDwIn : Cert.DwIn.Facts) (hDwInIdeal : Cert.DwInIdeal.Facts) (hDwInRefIdeal : Cert.DwInRefIdeal.Facts) (hPre_finite_attention : Cert.Pre_finite_attention.Facts) (hPre_finite_memory : Cert.Pre_finite_memory.Facts) (hPre_finite_forward : Cert.Pre_finite_forward.Facts) (hPre_finite_queries : Cert.Pre_finite_queries.Facts),
    quiescent_MemGain (hMemGain := hMemGain)
    ∧ quiescent_MemGainIdeal (hMemGainIdeal := hMemGainIdeal)
    ∧ quiescent_MemGainRefIdeal (hMemGainRefIdeal := hMemGainRefIdeal)
    ∧ quiescent_Fox (hFox := hFox)
    ∧ quiescent_FoxIdeal (hFoxIdeal := hFoxIdeal)
    ∧ quiescent_FoxIdeal_pre_finite_attention (hFoxIdeal := hFoxIdeal) (hPre_finite_attention := hPre_finite_attention)
    ∧ quiescent_FoxRefIdeal (hFoxRefIdeal := hFoxRefIdeal)
    ∧ quiescent_FoxRefIdeal_pre_finite_attention (hFoxRefIdeal := hFoxRefIdeal) (hPre_finite_attention := hPre_finite_attention)
    ∧ quiescent_Xattn (hXattn := hXattn)
    ∧ quiescent_XattnIdeal (hXattnIdeal := hXattnIdeal)
    ∧ quiescent_XattnIdeal_pre_finite_memory (hXattnIdeal := hXattnIdeal) (hPre_finite_memory := hPre_finite_memory)
    ∧ quiescent_XattnRefIdeal (hXattnRefIdeal := hXattnRefIdeal)
    ∧ quiescent_XattnRefIdeal_pre_finite_memory (hXattnRefIdeal := hXattnRefIdeal) (hPre_finite_memory := hPre_finite_memory)
    ∧ quiescent_First (hFirst := hFirst)
    ∧ quiescent_FirstIdeal (hFirstIdeal := hFirstIdeal)
    ∧ quiescent_FirstRefIdeal (hFirstRefIdeal := hFirstRefIdeal)
    ∧ quiescent_Loss (hLoss := hLoss)
    ∧ quiescent_LossIdeal (hLossIdeal := hLossIdeal)
    ∧ quiescent_LossRefIdeal (hLossRefIdeal := hLossRefIdeal)
    ∧ quiescent_Conv (hConv := hConv)
    ∧ quiescent_ConvIdeal (hConvIdeal := hConvIdeal)
    ∧ quiescent_ConvRefIdeal (hConvRefIdeal := hConvRefIdeal)
    ∧ quiescent_Pool (hPool := hPool)
    ∧ quiescent_PoolIdeal (hPoolIdeal := hPoolIdeal)
    ∧ quiescent_PoolRefIdeal (hPoolRefIdeal := hPoolRefIdeal)
    ∧ quiescent_Gate (hGate := hGate)
    ∧ quiescent_GateIdeal (hGateIdeal := hGateIdeal)
    ∧ quiescent_GateRefIdeal (hGateRefIdeal := hGateRefIdeal)
    ∧ quiescent_Mix (hMix := hMix)
    ∧ quiescent_MixIdeal (hMixIdeal := hMixIdeal)
    ∧ quiescent_MixRefIdeal (hMixRefIdeal := hMixRefIdeal)
    ∧ quiescent_FoxFwd (hFoxFwd := hFoxFwd)
    ∧ quiescent_FoxFwdIdeal (hFoxFwdIdeal := hFoxFwdIdeal)
    ∧ quiescent_FoxFwdIdeal_pre_finite_forward (hFoxFwdIdeal := hFoxFwdIdeal) (hPre_finite_forward := hPre_finite_forward)
    ∧ quiescent_FoxFwdRefIdeal (hFoxFwdRefIdeal := hFoxFwdRefIdeal)
    ∧ quiescent_FoxFwdRefIdeal_pre_finite_forward (hFoxFwdRefIdeal := hFoxFwdRefIdeal) (hPre_finite_forward := hPre_finite_forward)
    ∧ quiescent_Norm (hNorm := hNorm)
    ∧ quiescent_NormIdeal (hNormIdeal := hNormIdeal)
    ∧ quiescent_NormRefIdeal (hNormRefIdeal := hNormRefIdeal)
    ∧ quiescent_Att (hAtt := hAtt)
    ∧ quiescent_AttIdeal (hAttIdeal := hAttIdeal)
    ∧ quiescent_AttIdeal_pre_finite_queries (hAttIdeal := hAttIdeal) (hPre_finite_queries := hPre_finite_queries)
    ∧ quiescent_AttRefIdeal (hAttRefIdeal := hAttRefIdeal)
    ∧ quiescent_AttRefIdeal_pre_finite_queries (hAttRefIdeal := hAttRefIdeal) (hPre_finite_queries := hPre_finite_queries)
    ∧ quiescent_Hid (hHid := hHid)
    ∧ quiescent_HidIdeal (hHidIdeal := hHidIdeal)
    ∧ quiescent_HidRefIdeal (hHidRefIdeal := hHidRefIdeal)
    ∧ quiescent_Down (hDown := hDown)
    ∧ quiescent_DownIdeal (hDownIdeal := hDownIdeal)
    ∧ quiescent_DownRefIdeal (hDownRefIdeal := hDownRefIdeal)
    ∧ quiescent_Adam (hAdam := hAdam)
    ∧ quiescent_AdamIdeal (hAdamIdeal := hAdamIdeal)
    ∧ quiescent_AdamRefIdeal (hAdamRefIdeal := hAdamRefIdeal)
    ∧ quiescent_Up (hUp := hUp)
    ∧ quiescent_UpIdeal (hUpIdeal := hUpIdeal)
    ∧ quiescent_UpRefIdeal (hUpRefIdeal := hUpRefIdeal)
    ∧ quiescent_Act (hAct := hAct)
    ∧ quiescent_ActIdeal (hActIdeal := hActIdeal)
    ∧ quiescent_ActRefIdeal (hActRefIdeal := hActRefIdeal)
    ∧ quiescent_Dh (hDh := hDh)
    ∧ quiescent_DhIdeal (hDhIdeal := hDhIdeal)
    ∧ quiescent_DhRefIdeal (hDhRefIdeal := hDhRefIdeal)
    ∧ quiescent_Win (hWin := hWin)
    ∧ quiescent_WinIdeal (hWinIdeal := hWinIdeal)
    ∧ quiescent_WinRefIdeal (hWinRefIdeal := hWinRefIdeal)
    ∧ quiescent_DwIn (hDwIn := hDwIn)
    ∧ quiescent_DwInIdeal (hDwInIdeal := hDwInIdeal)
    ∧ quiescent_DwInRefIdeal (hDwInRefIdeal := hDwInRefIdeal)
    ∧ preserves_MemGain_MemGainIdeal
    ∧ algebraic_MemGainIdeal_MemGainRefIdeal (hMemGainIdeal := hMemGainIdeal) (hMemGainRefIdeal := hMemGainRefIdeal)
    ∧ preserves_Fox_FoxIdeal
    ∧ algebraic_FoxIdeal_FoxRefIdeal_pre_finite_attention (hFoxIdeal := hFoxIdeal) (hFoxRefIdeal := hFoxRefIdeal) (hPre_finite_attention := hPre_finite_attention)
    ∧ preserves_Xattn_XattnIdeal
    ∧ algebraic_XattnIdeal_XattnRefIdeal_pre_finite_memory (hXattnIdeal := hXattnIdeal) (hXattnRefIdeal := hXattnRefIdeal) (hPre_finite_memory := hPre_finite_memory)
    ∧ preserves_First_FirstIdeal
    ∧ algebraic_FirstIdeal_FirstRefIdeal (hFirstIdeal := hFirstIdeal) (hFirstRefIdeal := hFirstRefIdeal)
    ∧ preserves_Loss_LossIdeal
    ∧ preserves_Conv_ConvIdeal
    ∧ preserves_Pool_PoolIdeal
    ∧ preserves_Gate_GateIdeal
    ∧ preserves_Mix_MixIdeal
    ∧ preserves_FoxFwd_FoxFwdIdeal
    ∧ algebraic_FoxFwdIdeal_FoxFwdRefIdeal_pre_finite_forward (hFoxFwdIdeal := hFoxFwdIdeal) (hFoxFwdRefIdeal := hFoxFwdRefIdeal) (hPre_finite_forward := hPre_finite_forward)
    ∧ preserves_Norm_NormIdeal
    ∧ algebraic_NormIdeal_NormRefIdeal (hNormIdeal := hNormIdeal) (hNormRefIdeal := hNormRefIdeal)
    ∧ preserves_Att_AttIdeal
    ∧ algebraic_AttIdeal_AttRefIdeal_pre_finite_queries (hAttIdeal := hAttIdeal) (hAttRefIdeal := hAttRefIdeal) (hPre_finite_queries := hPre_finite_queries)
    ∧ preserves_Hid_HidIdeal
    ∧ algebraic_HidIdeal_HidRefIdeal (hHidIdeal := hHidIdeal) (hHidRefIdeal := hHidRefIdeal)
    ∧ preserves_Down_DownIdeal
    ∧ algebraic_DownIdeal_DownRefIdeal (hDownIdeal := hDownIdeal) (hDownRefIdeal := hDownRefIdeal)
    ∧ preserves_Adam_AdamIdeal
    ∧ algebraic_AdamIdeal_AdamRefIdeal (hAdamIdeal := hAdamIdeal) (hAdamRefIdeal := hAdamRefIdeal)
    ∧ preserves_Up_UpIdeal
    ∧ algebraic_UpIdeal_UpRefIdeal (hUpIdeal := hUpIdeal) (hUpRefIdeal := hUpRefIdeal)
    ∧ preserves_Act_ActIdeal
    ∧ algebraic_ActIdeal_ActRefIdeal (hActIdeal := hActIdeal) (hActRefIdeal := hActRefIdeal)
    ∧ preserves_Dh_DhIdeal
    ∧ algebraic_DhIdeal_DhRefIdeal (hDhIdeal := hDhIdeal) (hDhRefIdeal := hDhRefIdeal)
    ∧ preserves_Win_WinIdeal
    ∧ algebraic_WinIdeal_WinRefIdeal (hWinIdeal := hWinIdeal) (hWinRefIdeal := hWinRefIdeal)
    ∧ preserves_DwIn_DwInIdeal
    ∧ algebraic_DwInIdeal_DwInRefIdeal (hDwInIdeal := hDwInIdeal) (hDwInRefIdeal := hDwInRefIdeal)
-- ==== Pre_finite_attention.lean ====
abbrev S4096x12x64 : Shape := ⟨3, ![4096, 12, 64]⟩
abbrev S4096x12 : Shape := ⟨2, ![4096, 12]⟩
abbrev S_ : Shape := ⟨0, ![]⟩

class Facts : Prop where
  bcast_S_S4096x12x64 : S_.BroadcastsInDim S4096x12x64 (![] : Fin 0 → Fin S4096x12x64.rank)
  reducesTo_S4096x12x64_S_d0_1_2 : S4096x12x64.ReducesTo [0, 1, 2] S_
  h_S_ : 0 < S_.numel
  bcast_S_S4096x12 : S_.BroadcastsInDim S4096x12 (![] : Fin 0 → Fin S4096x12.rank)
  reducesTo_S4096x12_S_d0_1 : S4096x12.ReducesTo [0, 1] S_

variable [Facts]

def fn_part1 {F : FTy → Type} [FloatOps F] (main_arg4 : FVec F S4096x12x64 .f32) (main_v13 : IVec S_ 1) (main_v16 : IVec S4096x12 1) : IVec S_ 1 :=
  let main_c_5 : IVec S_ 1 := constantI S_ 1 1#1
  let main_v17 : IVec S_ 1 := (fun x v => Host.reduce IntOp.andi x v reducesTo_S4096x12_S_d0_1 h_S_) main_v16 main_c_5
  let main_v18 : IVec S_ 1 := andi main_v13 main_v17
  let main_v19 : FVec F S4096x12x64 .f32 := Host.absf main_arg4
  let main_cst_6 : FVec F S_ .f32 := constant S_ .f32 0x7F800000#32
  let main_v20 : FVec F S4096x12x64 .f32 := broadcastInDim S4096x12x64 ![] bcast_S_S4096x12x64 main_cst_6
  let main_v21 : IVec S4096x12x64 1 := cmpf .olt main_v19 main_v20
  let main_c_7 : IVec S_ 1 := constantI S_ 1 1#1
  let main_v22 : IVec S_ 1 := (fun x v => Host.reduce IntOp.andi x v reducesTo_S4096x12x64_S_d0_1_2 h_S_) main_v21 main_c_7
  let main_v23 : IVec S_ 1 := andi main_v18 main_v22
  main_v23

def fn {F : FTy → Type} [FloatOps F] (main_arg0 : FVec F S4096x12x64 .f32) (main_arg1 : FVec F S4096x12x64 .f32) (main_arg2 : FVec F S4096x12x64 .f32) (main_arg3 : FVec F S4096x12 .f32) (main_arg4 : FVec F S4096x12x64 .f32) : IVec S_ 1 :=
  let main_v0 : FVec F S4096x12x64 .f32 := Host.absf main_arg0
  let main_cst : FVec F S_ .f32 := constant S_ .f32 0x7F800000#32
  let main_v1 : FVec F S4096x12x64 .f32 := broadcastInDim S4096x12x64 ![] bcast_S_S4096x12x64 main_cst
  let main_v2 : IVec S4096x12x64 1 := cmpf .olt main_v0 main_v1
  let main_c : IVec S_ 1 := constantI S_ 1 1#1
  let main_v3 : IVec S_ 1 := (fun x v => Host.reduce IntOp.andi x v reducesTo_S4096x12x64_S_d0_1_2 h_S_) main_v2 main_c
  let main_v4 : FVec F S4096x12x64 .f32 := Host.absf main_arg1
  let main_cst_0 : FVec F S_ .f32 := constant S_ .f32 0x7F800000#32
  let main_v5 : FVec F S4096x12x64 .f32 := broadcastInDim S4096x12x64 ![] bcast_S_S4096x12x64 main_cst_0
  let main_v6 : IVec S4096x12x64 1 := cmpf .olt main_v4 main_v5
  let main_c_1 : IVec S_ 1 := constantI S_ 1 1#1
  let main_v7 : IVec S_ 1 := (fun x v => Host.reduce IntOp.andi x v reducesTo_S4096x12x64_S_d0_1_2 h_S_) main_v6 main_c_1
  let main_v8 : IVec S_ 1 := andi main_v3 main_v7
  let main_v9 : FVec F S4096x12x64 .f32 := Host.absf main_arg2
  let main_cst_2 : FVec F S_ .f32 := constant S_ .f32 0x7F800000#32
  let main_v10 : FVec F S4096x12x64 .f32 := broadcastInDim S4096x12x64 ![] bcast_S_S4096x12x64 main_cst_2
  let main_v11 : IVec S4096x12x64 1 := cmpf .olt main_v9 main_v10
  let main_c_3 : IVec S_ 1 := constantI S_ 1 1#1
  let main_v12 : IVec S_ 1 := (fun x v => Host.reduce IntOp.andi x v reducesTo_S4096x12x64_S_d0_1_2 h_S_) main_v11 main_c_3
  let main_v13 : IVec S_ 1 := andi main_v8 main_v12
  let main_v14 : FVec F S4096x12 .f32 := Host.absf main_arg3
  let main_cst_4 : FVec F S_ .f32 := constant S_ .f32 0x7F800000#32
  let main_v15 : FVec F S4096x12 .f32 := broadcastInDim S4096x12 ![] bcast_S_S4096x12 main_cst_4
  let main_v16 : IVec S4096x12 1 := cmpf .olt main_v14 main_v15
  fn_part1 (F := F) main_arg4 main_v13 main_v16
-- ==== Pre_finite_forward.lean ====
abbrev S4096x12x64 : Shape := ⟨3, ![4096, 12, 64]⟩
abbrev S4096x12 : Shape := ⟨2, ![4096, 12]⟩
abbrev S_ : Shape := ⟨0, ![]⟩

class Facts : Prop where
  bcast_S_S4096x12x64 : S_.BroadcastsInDim S4096x12x64 (![] : Fin 0 → Fin S4096x12x64.rank)
  reducesTo_S4096x12x64_S_d0_1_2 : S4096x12x64.ReducesTo [0, 1, 2] S_
  h_S_ : 0 < S_.numel
  bcast_S_S4096x12 : S_.BroadcastsInDim S4096x12 (![] : Fin 0 → Fin S4096x12.rank)
  reducesTo_S4096x12_S_d0_1 : S4096x12.ReducesTo [0, 1] S_

variable [Facts]

def fn_part1 {F : FTy → Type} [FloatOps F] (main_v13 : IVec S_ 1) (main_v16 : IVec S4096x12 1) : IVec S_ 1 :=
  let main_c_5 : IVec S_ 1 := constantI S_ 1 1#1
  let main_v17 : IVec S_ 1 := (fun x v => Host.reduce IntOp.andi x v reducesTo_S4096x12_S_d0_1 h_S_) main_v16 main_c_5
  let main_v18 : IVec S_ 1 := andi main_v13 main_v17
  main_v18

def fn {F : FTy → Type} [FloatOps F] (main_arg0 : FVec F S4096x12x64 .f32) (main_arg1 : FVec F S4096x12x64 .f32) (main_arg2 : FVec F S4096x12x64 .f32) (main_arg3 : FVec F S4096x12 .f32) : IVec S_ 1 :=
  let main_v0 : FVec F S4096x12x64 .f32 := Host.absf main_arg0
  let main_cst : FVec F S_ .f32 := constant S_ .f32 0x7F800000#32
  let main_v1 : FVec F S4096x12x64 .f32 := broadcastInDim S4096x12x64 ![] bcast_S_S4096x12x64 main_cst
  let main_v2 : IVec S4096x12x64 1 := cmpf .olt main_v0 main_v1
  let main_c : IVec S_ 1 := constantI S_ 1 1#1
  let main_v3 : IVec S_ 1 := (fun x v => Host.reduce IntOp.andi x v reducesTo_S4096x12x64_S_d0_1_2 h_S_) main_v2 main_c
  let main_v4 : FVec F S4096x12x64 .f32 := Host.absf main_arg1
  let main_cst_0 : FVec F S_ .f32 := constant S_ .f32 0x7F800000#32
  let main_v5 : FVec F S4096x12x64 .f32 := broadcastInDim S4096x12x64 ![] bcast_S_S4096x12x64 main_cst_0
  let main_v6 : IVec S4096x12x64 1 := cmpf .olt main_v4 main_v5
  let main_c_1 : IVec S_ 1 := constantI S_ 1 1#1
  let main_v7 : IVec S_ 1 := (fun x v => Host.reduce IntOp.andi x v reducesTo_S4096x12x64_S_d0_1_2 h_S_) main_v6 main_c_1
  let main_v8 : IVec S_ 1 := andi main_v3 main_v7
  let main_v9 : FVec F S4096x12x64 .f32 := Host.absf main_arg2
  let main_cst_2 : FVec F S_ .f32 := constant S_ .f32 0x7F800000#32
  let main_v10 : FVec F S4096x12x64 .f32 := broadcastInDim S4096x12x64 ![] bcast_S_S4096x12x64 main_cst_2
  let main_v11 : IVec S4096x12x64 1 := cmpf .olt main_v9 main_v10
  let main_c_3 : IVec S_ 1 := constantI S_ 1 1#1
  let main_v12 : IVec S_ 1 := (fun x v => Host.reduce IntOp.andi x v reducesTo_S4096x12x64_S_d0_1_2 h_S_) main_v11 main_c_3
  let main_v13 : IVec S_ 1 := andi main_v8 main_v12
  let main_v14 : FVec F S4096x12 .f32 := Host.absf main_arg3
  let main_cst_4 : FVec F S_ .f32 := constant S_ .f32 0x7F800000#32
  let main_v15 : FVec F S4096x12 .f32 := broadcastInDim S4096x12 ![] bcast_S_S4096x12 main_cst_4
  let main_v16 : IVec S4096x12 1 := cmpf .olt main_v14 main_v15
  fn_part1 (F := F) main_v13 main_v16
-- ==== Pre_finite_memory.lean ====
abbrev S4096x1024 : Shape := ⟨2, ![4096, 1024]⟩
abbrev S256x2048 : Shape := ⟨2, ![256, 2048]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_

variable [Facts]

def fn {F : FTy → Type} [FloatOps F] (main_arg0 : FVec F S4096x1024 .f32) (main_arg1 : FVec F S256x2048 .f32) (main_arg2 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S256x2048 .f32 := Host.absf main_arg1
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  let main_c_1 : IVec S_ 1 := constantI S_ 1 1#1
  let main_v7 : IVec S_ 1 := (fun x v => Host.reduce IntOp.andi x v reducesTo_S256x2048_S_d0_1 h_S_) main_v6 main_c_1
  let main_v8 : IVec S_ 1 := andi main_v3 main_v7
  main_v8
-- ==== Pre_finite_queries.lean ====
abbrev S4096x1024 : Shape := ⟨2, ![4096, 1024]⟩
abbrev S256x2048 : Shape := ⟨2, ![256, 2048]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_

variable [Facts]

def fn {F : FTy → Type} [FloatOps F] (main_arg0 : FVec F S4096x1024 .f32) (main_arg1 : FVec F S256x2048 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S256x2048 .f32 := Host.absf main_arg1
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  let main_c_1 : IVec S_ 1 := constantI S_ 1 1#1
  let main_v7 : IVec S_ 1 := (fun x v => Host.reduce IntOp.andi x v reducesTo_S256x2048_S_d0_1 h_S_) main_v6 main_c_1
  let main_v8 : IVec S_ 1 := andi main_v3 main_v7
  main_v8
-- ==== MemGain.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 4
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== MemGainRefIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 22
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S1024, .f32⟩
  | .hbm, ⟨21, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Fox.lean ====
abbrev S4096x12x64 : Shape := ⟨3, ![4096, 12, 64]⟩
abbrev S4096x12 : Shape := ⟨2, ![4096, 12]⟩
abbrev S12x4096x64 : Shape := ⟨3, ![12, 4096, 64]⟩
abbrev S12x4096 : Shape := ⟨2, ![12, 4096]⟩
abbrev S12x4096x4096 : Shape := ⟨3, ![12, 4096, 4096]⟩
abbrev S_ : Shape := ⟨0, ![]⟩
abbrev S12x4096x1 : Shape := ⟨3, ![12, 4096, 1]⟩
abbrev S12x1x4096 : Shape := ⟨3, ![12, 1, 4096]⟩
abbrev S12x4096x3 : Shape := ⟨3, ![12, 4096, 3]⟩
abbrev S12x4096x54 : Shape := ⟨3, ![12, 4096, 54]⟩
abbrev S12x4096x128 : Shape := ⟨3, ![12, 4096, 128]⟩
abbrev S12x4096x60 : Shape := ⟨3, ![12, 4096, 60]⟩
abbrev S2x4096x128 : Shape := ⟨3, ![2, 4096, 128]⟩
abbrev S2x512x128 : Shape := ⟨3, ![2, 512, 128]⟩
abbrev S512x512 : Shape := ⟨2, ![512, 512]⟩
abbrev S1x512x128 : Shape := ⟨3, ![1, 512, 128]⟩
abbrev S512x128 : Shape := ⟨2, ![512, 128]⟩

abbrev nBuf : Space → Nat
  | .hbm => 201
  | .vmem => 15
  | .smem => 0
  | _ => 0

abbrev hbmTy0_0 (i : Nat) : BufTy := match i % 128 with
  | 0 => ⟨S4096x12x64, .f32⟩
  | 1 => ⟨S4096x12x64, .f32⟩
  | 2 => ⟨S4096x12x64, .f32⟩
  | 3 => ⟨S4096x12, .f32⟩
  | 4 => ⟨S4096x12x64, .f32⟩
  | 5 => ⟨S12x4096x64, .f32⟩
  | 6 => ⟨S12x4096x64, .f32⟩
  | 7 => ⟨S12x4096x64, .f32⟩
  | 8 => ⟨S12x4096x64, .f32⟩
  | 9 => ⟨S12x4096, .f32⟩
  | 10 => ⟨S12x4096x4096, .f32⟩
  | 11 => ⟨S_, .f32⟩
  | 12 => ⟨S12x4096x4096, .f32⟩
  | 13 => ⟨S12x4096x4096, .f32⟩
  | 14 => ⟨S12x4096x1, .f32⟩
  | 15 => ⟨S12x1x4096, .f32⟩
  | 16 => ⟨S12x4096x4096, .f32⟩
  | 17 => ⟨S12x4096x4096, .f32⟩
  | 18 => ⟨S12x4096x4096, .f32⟩
  | 19 => ⟨S12x4096x4096, .f32⟩
  | 20 => ⟨S12x4096x4096, .i32⟩
  | 21 => ⟨S12x4096x4096, .i32⟩
  | 22 => ⟨S12x4096x4096, .i1⟩
  | 23 => ⟨S_, .f32⟩
  | 24 => ⟨S12x4096x4096, .f32⟩
  | 25 => ⟨S12x4096x4096, .f32⟩
  | 26 => ⟨S_, .f32⟩
  | 27 => ⟨S12x4096, .f32⟩
  | 28 => ⟨S12x4096x1, .f32⟩
  | 29 => ⟨S12x4096x4096, .f32⟩
  | 30 => ⟨S12x4096x4096, .f32⟩
  | 31 => ⟨S12x4096x4096, .f32⟩
  | 32 => ⟨S_, .f32⟩
  | 33 => ⟨S12x4096, .f32⟩
  | 34 => ⟨S12x4096x1, .f32⟩
  | 35 => ⟨S12x4096x1, .f32⟩
  | 36 => ⟨S12x4096x1, .f32⟩
  | 37 => ⟨S12x4096x4096, .f32⟩
  | 38 => ⟨S12x4096x4096, .f32⟩
  | 39 => ⟨S12x4096x64, .f32⟩
  | 40 => ⟨S12x4096x64, .f32⟩
  | 41 => ⟨S_, .f32⟩
  | 42 => ⟨S12x4096, .f32⟩
  | 43 => ⟨S12x4096x1, .f32⟩
  | 44 => ⟨S_, .f32⟩
  | 45 => ⟨S12x4096x1, .f32⟩
  | 46 => ⟨S_, .f32⟩
  | 47 => ⟨S12x4096x3, .f32⟩
  | 48 => ⟨S12x4096x1, .f32⟩
  | 49 => ⟨S12x4096x1, .bf16⟩
  | 50 => ⟨S12x4096x1, .f32⟩
  | 51 => ⟨S12x4096x1, .f32⟩
  | 52 => ⟨S12x4096x1, .bf16⟩
  | 53 => ⟨S12x4096x1, .f32⟩
  | 54 => ⟨S12x4096x1, .f32⟩
  | 55 => ⟨S12x4096x1, .bf16⟩
  | 56 => ⟨S12x4096x1, .f32⟩
  | 57 => ⟨S12x4096x1, .f32⟩
  | 58 => ⟨S12x4096x1, .f32⟩
  | 59 => ⟨S_, .f32⟩
  | 60 => ⟨S12x4096x1, .f32⟩
  | 61 => ⟨S12x4096x1, .f32⟩
  | 62 => ⟨S12x4096x1, .f32⟩
  | 63 => ⟨S12x4096x1, .bf16⟩
  | 64 => ⟨S12x4096x1, .f32⟩
  | 65 => ⟨S12x4096x1, .f32⟩
  | 66 => ⟨S12x4096x1, .bf16⟩
  | 67 => ⟨S12x4096x1, .f32⟩
  | 68 => ⟨S12x4096x1, .f32⟩
  | 69 => ⟨S12x4096x1, .bf16⟩
  | 70 => ⟨S12x4096x1, .f32⟩
  | 71 => ⟨S12x4096x1, .f32⟩
  | 72 => ⟨S12x4096x1, .f32⟩
  | 73 => ⟨S12x4096x1, .bf16⟩
  | 74 => ⟨S12x4096x1, .f32⟩
  | 75 => ⟨S12x4096x1, .f32⟩
  | 76 => ⟨S12x4096x1, .bf16⟩
  | 77 => ⟨S12x4096x1, .f32⟩
  | 78 => ⟨S12x4096x1, .f32⟩
  | 79 => ⟨S12x4096x1, .bf16⟩
  | 80 => ⟨S12x4096x1, .f32⟩
  | 81 => ⟨S12x4096x1, .f32⟩
  | 82 => ⟨S12x4096x1, .f32⟩
  | 83 => ⟨S_, .f32⟩
  | 84 => ⟨S12x4096x64, .f32⟩
  | 85 => ⟨S12x4096x64, .f32⟩
  | 86 => ⟨S_, .f32⟩
  | 87 => ⟨S12x4096x54, .f32⟩
  | 88 => ⟨S12x4096x64, .f32⟩
  | 89 => ⟨S12x4096x128, .i32⟩
  | 90 => ⟨S_, .i32⟩
  | 91 => ⟨S12x4096x128, .i32⟩
  | 92 => ⟨S12x4096x128, .i32⟩
  | 93 => ⟨S_, .i32⟩
  | 94 => ⟨S12x4096x128, .i32⟩
  | 95 => ⟨S12x4096x128, .i1⟩
  | 96 => ⟨S12x4096x128, .f32⟩
  | 97 => ⟨S12x4096x128, .f32⟩
  | 98 => ⟨S12x4096x128, .f32⟩
  | 99 => ⟨S12x4096x128, .bf16⟩
  | 100 => ⟨S12x4096x1, .f32⟩
  | 101 => ⟨S12x4096x1, .f32⟩
  | 102 => ⟨S12x4096x1, .f32⟩
  | 103 => ⟨S_, .f32⟩
  | 104 => ⟨S12x4096x54, .f32⟩
  | 105 => ⟨S12x4096x64, .f32⟩
  | 106 => ⟨S12x4096x128, .i32⟩
  | 107 => ⟨S_, .i32⟩
  | 108 => ⟨S12x4096x128, .i32⟩
  | 109 => ⟨S12x4096x128, .i32⟩
  | 110 => ⟨S_, .i32⟩
  | 111 => ⟨S12x4096x128, .i32⟩
  | 112 => ⟨S12x4096x128, .i1⟩
  | 113 => ⟨S12x4096x128, .f32⟩
  | 114 => ⟨S12x4096x128, .f32⟩
  | 115 => ⟨S12x4096x128, .f32⟩
  | 116 => ⟨S12x4096x128, .bf16⟩
  | 117 => ⟨S12x4096x3, .f32⟩
  | 118 => ⟨S_, .f32⟩
  | 119 => ⟨S12x4096x60, .f32⟩
  | 120 => ⟨S12x4096x64, .f32⟩
  | 121 => ⟨S12x4096x128, .i32⟩
  | 122 => ⟨S_, .i32⟩
  | 123 => ⟨S12x4096x128, .i32⟩
  | 124 => ⟨S12x4096x128, .i32⟩
  | 125 => ⟨S_, .i32⟩
  | 126 => ⟨S12x4096x128, .i32⟩
  | 127 => ⟨S12x4096x128, .i1⟩
  | _ => ⟨S4096x12x64, .f32⟩

abbrev hbmTy0_1 (i : Nat) : BufTy := match i % 128 with
  | 0 => ⟨S12x4096x128, .f32⟩
  | 1 => ⟨S12x4096x128, .f32⟩
  | 2 => ⟨S12x4096x128, .f32⟩
  | 3 => ⟨S12x4096x128, .bf16⟩
  | 4 => ⟨S_, .f32⟩
  | 5 => ⟨S12x4096x1, .f32⟩
  | 6 => ⟨S_, .f32⟩
  | 7 => ⟨S12x4096x60, .f32⟩
  | 8 => ⟨S12x4096x64, .f32⟩
  | 9 => ⟨S12x4096x128, .i32⟩
  | 10 => ⟨S_, .i32⟩
  | 11 => ⟨S12x4096x128, .i32⟩
  | 12 => ⟨S12x4096x128, .i32⟩
  | 13 => ⟨S_, .i32⟩
  | 14 => ⟨S12x4096x128, .i32⟩
  | 15 => ⟨S12x4096x128, .i1⟩
  | 16 => ⟨S12x4096x128, .f32⟩
  | 17 => ⟨S12x4096x128, .f32⟩
  | 18 => ⟨S12x4096x128, .f32⟩
  | 19 => ⟨S12x4096x128, .bf16⟩
  | 20 => ⟨S12x4096x128, .f32⟩
  | 21 => ⟨S12x4096x128, .f32⟩
  | 22 => ⟨S12x4096x128, .bf16⟩
  | 23 => ⟨S12x4096x128, .f32⟩
  | 24 => ⟨S12x4096x1, .i32⟩
  | 25 => ⟨S_, .i32⟩
  | 26 => ⟨S12x4096x1, .i32⟩
  | 27 => ⟨S12x4096x1, .i32⟩
  | 28 => ⟨S_, .i32⟩
  | 29 => ⟨S12x4096x1, .i32⟩
  | 30 => ⟨S12x4096x1, .i1⟩
  | 31 => ⟨S12x4096x1, .f32⟩
  | 32 => ⟨S12x4096x1, .f32⟩
  | 33 => ⟨S12x4096x1, .f32⟩
  | 34 => ⟨S12x4096x64, .i32⟩
  | 35 => ⟨S_, .i32⟩
  | 36 => ⟨S12x4096x64, .i32⟩
  | 37 => ⟨S12x4096x64, .i32⟩
  | 38 => ⟨S_, .i32⟩
  | 39 => ⟨S12x4096x64, .i32⟩
  | 40 => ⟨S12x4096x64, .i1⟩
  | 41 => ⟨S12x4096x64, .f32⟩
  | 42 => ⟨S12x4096x64, .f32⟩
  | 43 => ⟨S12x4096x64, .f32⟩
  | 44 => ⟨S4096x12x64, .f32⟩
  | 45 => ⟨S_, .f32⟩
  | 46 => ⟨S4096x12x64, .f32⟩
  | 47 => ⟨S4096x12x64, .f32⟩
  | 48 => ⟨S12x4096x64, .i32⟩
  | 49 => ⟨S_, .i32⟩
  | 50 => ⟨S12x4096x64, .i32⟩
  | 51 => ⟨S12x4096x64, .i32⟩
  | 52 => ⟨S_, .i32⟩
  | 53 => ⟨S12x4096x64, .i32⟩
  | 54 => ⟨S12x4096x64, .i1⟩
  | 55 => ⟨S12x4096x64, .f32⟩
  | 56 => ⟨S12x4096x64, .f32⟩
  | 57 => ⟨S12x4096x64, .f32⟩
  | 58 => ⟨S4096x12x64, .f32⟩
  | 59 => ⟨S12x4096x64, .i32⟩
  | 60 => ⟨S_, .i32⟩
  | 61 => ⟨S12x4096x64, .i32⟩
  | 62 => ⟨S12x4096x64, .i32⟩
  | 63 => ⟨S_, .i32⟩
  | 64 => ⟨S12x4096x64, .i32⟩
  | 65 => ⟨S12x4096x64, .i1⟩
  | 66 => ⟨S12x4096x64, .bf16⟩
  | 67 => ⟨S12x4096x64, .bf16⟩
  | 68 => ⟨S12x4096x64, .bf16⟩
  | 69 => ⟨S12x4096x64, .f32⟩
  | 70 => ⟨S4096x12x64, .f32⟩
  | 71 => ⟨S12x4096, .f32⟩
  | 72 => ⟨S4096x12, .f32⟩
  | _ => ⟨S4096x12x64, .f32⟩

abbrev hbmTy (i : Nat) : BufTy := match i / 128 with
  | 0 => hbmTy0_0 i
  | 1 => hbmTy0_1 i
  | _ => ⟨S4096x12x64, .f32⟩

abbrev bufTy : (tb : Table) → Fin (tcTables nBuf tb) → BufTy
  | .hbm, ⟨i, _⟩ => hbmTy i
  | .local _ .vmem, ⟨0, _⟩ => ⟨S2x4096x128, .bf16⟩
  | .local _ .vmem, ⟨1, _⟩ => ⟨S2x4096x128, .bf16⟩
  | .local _ .vmem, ⟨2, _⟩ => ⟨S2x4096x128, .bf16⟩
  | .local _ .vmem, ⟨3, _⟩ => ⟨S2x4096x128, .bf16⟩
  | .local _ .vmem, ⟨4, _⟩ => ⟨S2x512x128, .bf16⟩
  | .local _ .vmem, ⟨5, _⟩ => ⟨S2x512x128, .bf16⟩
  | .local _ .vmem, ⟨6, _⟩ => ⟨S2x512x128, .bf16⟩
  | .local _ .vmem, ⟨7, _⟩ => ⟨S2x512x128, .bf16⟩
  | .local _ .vmem, ⟨8, _⟩ => ⟨S2x4096x128, .f32⟩
  | .local _ .vmem, ⟨9, _⟩ => ⟨S2x4096x128, .f32⟩
  | .local _ .vmem, ⟨10, _⟩ => ⟨S2x512x128, .f32⟩
  | .local _ .vmem, ⟨11, _⟩ => ⟨S2x512x128, .f32⟩
  | .local _ .vmem, ⟨12, _⟩ => ⟨S2x512x128, .bf16⟩
  | .local _ .vmem, ⟨13, _⟩ => ⟨S2x512x128, .bf16⟩
  | .local _ .vmem, ⟨14, _⟩ => ⟨S2x512x128, .f32⟩
  | _, _ => ⟨S4096x12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_6 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_cst_7 : Ref sig .tc := ⟨.hbm, 83, rfl⟩
abbrev main_v70 : Ref sig .tc := ⟨.hbm, 84, rfl⟩
abbrev main_v71 : Ref sig .tc := ⟨.hbm, 85, rfl⟩
abbrev main_cst_8 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_c : Ref sig .tc := ⟨.hbm, 90, rfl⟩
abbrev main_v75 : Ref sig .tc := ⟨.hbm, 91, rfl⟩
abbrev main_v76 : Ref sig .tc := ⟨.hbm, 92, rfl⟩
abbrev main_c_9 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_cst_10 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_c_11 : Ref sig .tc := ⟨.hbm, 107, rfl⟩
abbrev main_v89 : Ref sig .tc := ⟨.hbm, 108, rfl⟩
abbrev main_v90 : Ref sig .tc := ⟨.hbm, 109, rfl⟩
abbrev main_c_12 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_cst_13 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_c_14 : Ref sig .tc := ⟨.hbm, 122, rfl⟩
abbrev main_v101 : Ref sig .tc := ⟨.hbm, 123, rfl⟩
abbrev main_v102 : Ref sig .tc := ⟨.hbm, 124, rfl⟩
abbrev main_c_15 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_cst_16 : Ref sig .tc := ⟨.hbm, 132, rfl⟩
abbrev main_v109 : Ref sig .tc := ⟨.hbm, 133, rfl⟩
abbrev main_cst_17 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_c_18 : Ref sig .tc := ⟨.hbm, 138, rfl⟩
abbrev main_v113 : Ref sig .tc := ⟨.hbm, 139, rfl⟩
abbrev main_v114 : Ref sig .tc := ⟨.hbm, 140, rfl⟩
abbrev main_c_19 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121_0 : Ref sig .tc := ⟨.hbm, 148, rfl⟩
abbrev main_v121_1 : Ref sig .tc := ⟨.hbm, 149, rfl⟩
abbrev main_v121_2 : Ref sig .tc := ⟨.hbm, 150, rfl⟩
abbrev main_v122 : Ref sig .tc := ⟨.hbm, 151, rfl⟩
abbrev main_v123 : Ref sig .tc := ⟨.hbm, 152, rfl⟩
abbrev main_c_20 : Ref sig .tc := ⟨.hbm, 153, rfl⟩
abbrev main_v124 : Ref sig .tc := ⟨.hbm, 154, rfl⟩
abbrev main_v125 : Ref sig .tc := ⟨.hbm, 155, rfl⟩
abbrev main_c_21 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_c_22 : Ref sig .tc := ⟨.hbm, 163, rfl⟩
abbrev main_v132 : Ref sig .tc := ⟨.hbm, 164, rfl⟩
abbrev main_v133 : Ref sig .tc := ⟨.hbm, 165, rfl⟩
abbrev main_c_23 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_cst_24 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_c_25 : Ref sig .tc := ⟨.hbm, 177, rfl⟩
abbrev main_v143 : Ref sig .tc := ⟨.hbm, 178, rfl⟩
abbrev main_v144 : Ref sig .tc := ⟨.hbm, 179, rfl⟩
abbrev main_c_26 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_c_27 : Ref sig .tc := ⟨.hbm, 188, rfl⟩
abbrev main_v152 : Ref sig .tc := ⟨.hbm, 189, rfl⟩
abbrev main_v153 : Ref sig .tc := ⟨.hbm, 190, rfl⟩
abbrev main_c_28 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![6, 8], ![false, false]⟩

def k0_mult1 (i : grid0.Coords) : BitVec 32 :=
  let arg1 : BitVec 32 := BitVec.ofNat 32 (i 1).val
  let c512_i32 : BitVec 32 := 512#32
  let v12 : BitVec 32 := Scalar.muli arg1 c512_i32
  v12
def k0_off1 (i : grid0.Coords) : Fin 3 → Nat :=
  let c0_10 : Index := 0#32
  let arg1 : BitVec 32 := BitVec.ofNat 32 (i 1).val
  let c512_i32 : BitVec 32 := 512#32
  let v12 : BitVec 32 := Scalar.muli arg1 c512_i32
  let v13 : BitVec 32 := v12
  let v16 : Index := Scalar.indexCast v13
  let c0_11 : Index := 0#32
  ![0, v16.toNat, 0]
def k0_off2 (i : grid0.Coords) : Fin 3 → Nat :=
  let c1_41 : Index := 1#32
  let arg1 : BitVec 32 := BitVec.ofNat 32 (i 1).val
  let c512_i32 : BitVec 32 := 512#32
  let v12 : BitVec 32 := Scalar.muli arg1 c512_i32
  let v13 : BitVec 32 := v12
  let v57 : Index := Scalar.indexCast v13
  let c0_42 : Index := 0#32
  ![1, v57.toNat, 0]
@[reducible] def k0_t1_loop (i : grid0.Coords) : Scf.Loop 32 :=
  let arg1 : BitVec 32 := BitVec.ofNat 32 (i 1).val
  let c1_i32 : BitVec 32 := 1#32
  let v96 : BitVec 32 := Scalar.addi arg1 c1_i32
  let c8_i32 : BitVec 32 := 8#32
  let v97 : BitVec 32 := Scalar.subi c8_i32 v96
  let c1_i32_71 : BitVec 32 := 1#32
  let v99 : BitVec 32 := Scalar.divsi v97 c1_i32_71
  let v100 : BitVec 32 := Scalar.muli v99 c1_i32_71
  let v101 : BitVec 32 := Scalar.addi v96 v100
  let c1_i32_72 : BitVec 32 := 1#32
  ⟨v96, v101, c1_i32_72⟩
def k0_mult2 (i : grid0.Coords) (k0_t1 : Fin (k0_t1_loop i).trips) : BitVec 32 :=
  let arg1 : BitVec 32 := BitVec.ofNat 32 (i 1).val
  let c1_i32 : BitVec 32 := 1#32
  let v96 : BitVec 32 := Scalar.addi arg1 c1_i32
  let c1_i32_72 : BitVec 32 := 1#32
  let arg10 : BitVec 32 := Scf.iv v96 c1_i32_72 k0_t1
  let c512_i32_80 : BitVec 32 := 512#32
  let v105 : BitVec 32 := Scalar.muli arg10 c512_i32_80
  v105
def k0_off3 (i : grid0.Coords) (k0_t1 : Fin (k0_t1_loop i).trips) : Fin 3 → Nat :=
  let c0_84 : Index := 0#32
  let arg1 : BitVec 32 := BitVec.ofNat 32 (i 1).val
  let c1_i32 : BitVec 32 := 1#32
  let v96 : BitVec 32 := Scalar.addi arg1 c1_i32
  let c1_i32_72 : BitVec 32 := 1#32
  let arg10 : BitVec 32 := Scf.iv v96 c1_i32_72 k0_t1
  let c512_i32_80 : BitVec 32 := 512#32
  let v105 : BitVec 32 := Scalar.muli arg10 c512_i32_80
  let v106 : BitVec 32 := v105
  let v109 : Index := Scalar.indexCast v106
  let c0_85 : Index := 0#32
  ![0, v109.toNat, 0]
def k0_off4 (i : grid0.Coords) (k0_t1 : Fin (k0_t1_loop i).trips) : Fin 3 → Nat :=
  let c1_115 : Index := 1#32
  let arg1 : BitVec 32 := BitVec.ofNat 32 (i 1).val
  let c1_i32 : BitVec 32 := 1#32
  let v96 : BitVec 32 := Scalar.addi arg1 c1_i32
  let c1_i32_72 : BitVec 32 := 1#32
  let arg10 : BitVec 32 := Scf.iv v96 c1_i32_72 k0_t1
  let c512_i32_80 : BitVec 32 := 512#32
  let v105 : BitVec 32 := Scalar.muli arg10 c512_i32_80
  let v106 : BitVec 32 := v105
  let v148 : Index := Scalar.indexCast v106
  let c0_116 : Index := 0#32
  ![1, v148.toNat, 0]
@[reducible] def k0_t2_loop (i : grid0.Coords) : Scf.Loop 32 :=
  let arg1 : BitVec 32 := BitVec.ofNat 32 (i 1).val
  let c1_i32 : BitVec 32 := 1#32
  let v96 : BitVec 32 := Scalar.addi arg1 c1_i32
  let c8_i32 : BitVec 32 := 8#32
  let v97 : BitVec 32 := Scalar.subi c8_i32 v96
  let c1_i32_71 : BitVec 32 := 1#32
  let v99 : BitVec 32 := Scalar.divsi v97 c1_i32_71
  let v100 : BitVec 32 := Scalar.muli v99 c1_i32_71
  let v101 : BitVec 32 := Scalar.addi v96 v100
  let v98 : BitVec 32 := Scalar.addi v96 v97
  let c1_i32_73 : BitVec 32 := 1#32
  ⟨v101, v98, c1_i32_73⟩
def k0_mult3 (i : grid0.Coords) (k0_t2 : Fin (k0_t2_loop i).trips) : BitVec 32 :=
  let arg1 : BitVec 32 := BitVec.ofNat 32 (i 1).val
  let c1_i32 : BitVec 32 := 1#32
  let v96 : BitVec 32 := Scalar.addi arg1 c1_i32
  let c8_i32 : BitVec 32 := 8#32
  let v97 : BitVec 32 := Scalar.subi c8_i32 v96
  let c1_i32_71 : BitVec 32 := 1#32
  let v99 : BitVec 32 := Scalar.divsi v97 c1_i32_71
  let v100 : BitVec 32 := Scalar.muli v99 c1_i32_71
  let v101 : BitVec 32 := Scalar.addi v96 v100
  let c1_i32_73 : BitVec 32 := 1#32
  let arg10 : BitVec 32 := Scf.iv v101 c1_i32_73 k0_t2
  let c512_i32_80 : BitVec 32 := 512#32
  let v105 : BitVec 32 := Scalar.muli arg10 c512_i32_80
  v105
def k0_off5 (i : grid0.Coords) (k0_t2 : Fin (k0_t2_loop i).trips) : Fin 3 → Nat :=
  let c0_84 : Index := 0#32
  let arg1 : BitVec 32 := BitVec.ofNat 32 (i 1).val
  let c1_i32 : BitVec 32 := 1#32
  let v96 : BitVec 32 := Scalar.addi arg1 c1_i32
  let c8_i32 : BitVec 32 := 8#32
  let v97 : BitVec 32 := Scalar.subi c8_i32 v96
  let c1_i32_71 : BitVec 32 := 1#32
  let v99 : BitVec 32 := Scalar.divsi v97 c1_i32_71
  let v100 : BitVec 32 := Scalar.muli v99 c1_i32_71
  let v101 : BitVec 32 := Scalar.addi v96 v100
  let c1_i32_73 : BitVec 32 := 1#32
  let arg10 : BitVec 32 := Scf.iv v101 c1_i32_73 k0_t2
  let c512_i32_80 : BitVec 32 := 512#32
  let v105 : BitVec 32 := Scalar.muli arg10 c512_i32_80
  let v106 : BitVec 32 := v105
  let v109 : Index := Scalar.indexCast v106
  let c0_85 : Index := 0#32
  ![0, v109.toNat, 0]
def k0_off6 (i : grid0.Coords) (k0_t2 : Fin (k0_t2_loop i).trips) : Fin 3 → Nat :=
  let c1_115 : Index := 1#32
  let arg1 : BitVec 32 := BitVec.ofNat 32 (i 1).val
  let c1_i32 : BitVec 32 := 1#32
  let v96 : BitVec 32 := Scalar.addi arg1 c1_i32
  let c8_i32 : BitVec 32 := 8#32
  let v97 : BitVec 32 := Scalar.subi c8_i32 v96
  let c1_i32_71 : BitVec 32 := 1#32
  let v99 : BitVec 32 := Scalar.divsi v97 c1_i32_71
  let v100 : BitVec 32 := Scalar.muli v99 c1_i32_71
  let v101 : BitVec 32 := Scalar.addi v96 v100
  let c1_i32_73 : BitVec 32 := 1#32
  let arg10 : BitVec 32 := Scf.iv v101 c1_i32_73 k0_t2
  let c512_i32_80 : BitVec 32 := 512#32
  let v105 : BitVec 32 := Scalar.muli arg10 c512_i32_80
  let v106 : BitVec 32 := v105
  let v148 : Index := Scalar.indexCast v106
  let c0_116 : Index := 0#32
  ![1, v148.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FoxIdeal.lean ====
variable {F : FTy → Type} [FloatOps F] [Named F]
def κ : String → Option EReal := fun
  | "mask" => some ⊥
  | _ => none
-- ==== FoxRefIdeal.lean ====
abbrev S4096x12x64 : Shape := ⟨3, ![4096, 12, 64]⟩
abbrev S4096x12 : Shape := ⟨2, ![4096, 12]⟩
abbrev S12x4096x4096 : Shape := ⟨3, ![12, 4096, 4096]⟩
abbrev S_ : Shape := ⟨0, ![]⟩
abbrev S12x4096 : Shape := ⟨2, ![12, 4096]⟩
abbrev S12x4096x1 : Shape := ⟨3, ![12, 4096, 1]⟩
abbrev S12x1x4096 : Shape := ⟨3, ![12, 1, 4096]⟩
abbrev S12x64x4096 : Shape := ⟨3, ![12, 64, 4096]⟩
abbrev S12x4096x64 : Shape := ⟨3, ![12, 4096, 64]⟩

abbrev nBuf : Space → Nat
  | .hbm => 105
  | .vmem => 0
  | .smem => 0
  | _ => 0

abbrev bufTy : (tb : Table) → Fin (tcTables nBuf tb) → BufTy
  | .hbm, ⟨0, _⟩ => ⟨S4096x12x64, .f32⟩
  | .hbm, ⟨1, _⟩ => ⟨S4096x12x64, .f32⟩
  | .hbm, ⟨2, _⟩ => ⟨S4096x12x64, .f32⟩
  | .hbm, ⟨3, _⟩ => ⟨S4096x12, .f32⟩
  | .hbm, ⟨4, _⟩ => ⟨S4096x12x64, .f32⟩
  | .hbm, ⟨5, _⟩ => ⟨S12x4096x4096, .f32⟩
  | .hbm, ⟨6, _⟩ => ⟨S_, .f32⟩
  | .hbm, ⟨7, _⟩ => ⟨S12x4096x4096, .f32⟩
  | .hbm, ⟨8, _⟩ => ⟨S12x4096x4096, .f32⟩
  | .hbm, ⟨9, _⟩ => ⟨S12x4096, .f32⟩
  | .hbm, ⟨10, _⟩ => ⟨S12x4096x1, .f32⟩
  | .hbm, ⟨11, _⟩ => ⟨S12x1x4096, .f32⟩
  | .hbm, ⟨12, _⟩ => ⟨S12x4096x4096, .f32⟩
  | .hbm, ⟨13, _⟩ => ⟨S12x4096x4096, .f32⟩
  | .hbm, ⟨14, _⟩ => ⟨S12x4096x4096, .f32⟩
  | .hbm, ⟨15, _⟩ => ⟨S12x4096x4096, .i32⟩
  | .hbm, ⟨16, _⟩ => ⟨S12x4096x4096, .i32⟩
  | .hbm, ⟨17, _⟩ => ⟨S12x4096x4096, .i1⟩
  | .hbm, ⟨18, _⟩ => ⟨S12x4096x4096, .f32⟩
  | .hbm, ⟨19, _⟩ => ⟨S_, .f32⟩
  | .hbm, ⟨20, _⟩ => ⟨S12x4096x4096, .f32⟩
  | .hbm, ⟨21, _⟩ => ⟨S12x4096x4096, .f32⟩
  | .hbm, ⟨22, _⟩ => ⟨S_, .f32⟩
  | .hbm, ⟨23, _⟩ => ⟨S12x4096x4096, .f32⟩
  | .hbm, ⟨24, _⟩ => ⟨S_, .f32⟩
  | .hbm, ⟨25, _⟩ => ⟨S12x4096, .f32⟩
  | .hbm, ⟨26, _⟩ => ⟨S12x4096x1, .f32⟩
  | .hbm, ⟨27, _⟩ => ⟨S12x4096x4096, .f32⟩
  | .hbm, ⟨28, _⟩ => ⟨S12x4096x4096, .i1⟩
  | .hbm, ⟨29, _⟩ => ⟨S12x4096x4096, .f32⟩
  | .hbm, ⟨30, _⟩ => ⟨S_, .f32⟩
  | .hbm, ⟨31, _⟩ => ⟨S12x4096, .f32⟩
  | .hbm, ⟨32, _⟩ => ⟨S_, .f32⟩
  | .hbm, ⟨33, _⟩ => ⟨S12x4096, .f32⟩
  | .hbm, ⟨34, _⟩ => ⟨S12x4096, .f32⟩
  | .hbm, ⟨35, _⟩ => ⟨S_, .f32⟩
  | .hbm, ⟨36, _⟩ => ⟨S12x4096, .f32⟩
  | .hbm, ⟨37, _⟩ => ⟨S12x4096, .i1⟩
  | .hbm, ⟨38, _⟩ => ⟨S_, .f32⟩
  | .hbm, ⟨39, _⟩ => ⟨S12x4096, .f32⟩
  | .hbm, ⟨40, _⟩ => ⟨S12x4096, .i1⟩
  | .hbm, ⟨41, _⟩ => ⟨S_, .f32⟩
  | .hbm, ⟨42, _⟩ => ⟨S12x4096, .f32⟩
  | .hbm, ⟨43, _⟩ => ⟨S_, .f32⟩
  | .hbm, ⟨44, _⟩ => ⟨S12x4096, .f32⟩
  | .hbm, ⟨45, _⟩ => ⟨S_, .f32⟩
  | .hbm, ⟨46, _⟩ => ⟨S12x4096, .f32⟩
  | .hbm, ⟨47, _⟩ => ⟨S12x4096, .f32⟩
  | .hbm, ⟨48, _⟩ => ⟨S12x4096, .f32⟩
  | .hbm, ⟨49, _⟩ => ⟨S12x4096x1, .f32⟩
  | .hbm, ⟨50, _⟩ => ⟨S12x4096x4096, .f32⟩
  | .hbm, ⟨51, _⟩ => ⟨S12x4096x4096, .f32⟩
  | .hbm, ⟨52, _⟩ => ⟨S12x4096x4096, .f32⟩
  | .hbm, ⟨53, _⟩ => ⟨S_, .f32⟩
  | .hbm, ⟨54, _⟩ => ⟨S12x4096, .f32⟩
  | .hbm, ⟨55, _⟩ => ⟨S12x4096x1, .f32⟩
  | .hbm, ⟨56, _⟩ => ⟨S12x4096x4096, .f32⟩
  | .hbm, ⟨57, _⟩ => ⟨S12x4096x4096, .f32⟩
  | .hbm, ⟨58, _⟩ => ⟨S12x4096x1, .f32⟩
  | .hbm, ⟨59, _⟩ => ⟨S_, .f32⟩
  | .hbm, ⟨60, _⟩ => ⟨S12x4096x1, .f32⟩
  | .hbm, ⟨61, _⟩ => ⟨S12x4096x1, .f32⟩
  | .hbm, ⟨62, _⟩ => ⟨S12x64x4096, .f32⟩
  | .hbm, ⟨63, _⟩ => ⟨S4096x12x64, .f32⟩
  | .hbm, ⟨64, _⟩ => ⟨S12x64x4096, .f32⟩
  | .hbm, ⟨65, _⟩ => ⟨S12x4096x4096, .f32⟩
  | .hbm, ⟨66, _⟩ => ⟨S12x64x4096, .f32⟩
  | .hbm, ⟨67, _⟩ => ⟨S4096x12x64, .f32⟩
  | .hbm, ⟨68, _⟩ => ⟨S12x4096x4096, .f32⟩
  | .hbm, ⟨69, _⟩ => ⟨S12x4096x4096, .f32⟩
  | .hbm, ⟨70, _⟩ => ⟨S12x4096x4096, .f32⟩
  | .hbm, ⟨71, _⟩ => ⟨S_, .f32⟩
  | .hbm, ⟨72, _⟩ => ⟨S12x4096, .f32⟩
  | .hbm, ⟨73, _⟩ => ⟨S12x4096x1, .f32⟩
  | .hbm, ⟨74, _⟩ => ⟨S12x4096x1, .f32⟩
  | .hbm, ⟨75, _⟩ => ⟨S12x4096x4096, .f32⟩
  | .hbm, ⟨76, _⟩ => ⟨S12x4096x4096, .f32⟩
  | .hbm, ⟨77, _⟩ => ⟨S_, .f32⟩
  | .hbm, ⟨78, _⟩ => ⟨S12x4096, .f32⟩
  | .hbm, ⟨79, _⟩ => ⟨S12x4096x4096, .f32⟩
  | .hbm, ⟨80, _⟩ => ⟨S12x4096x4096, .f32⟩
  | .hbm, ⟨81, _⟩ => ⟨S12x4096x4096, .f32⟩
  | .hbm, ⟨82, _⟩ => ⟨S_, .f32⟩
  | .hbm, ⟨83, _⟩ => ⟨S12x4096x4096, .f32⟩
  | .hbm, ⟨84, _⟩ => ⟨S12x4096x4096, .f32⟩
  | .hbm, ⟨85, _⟩ => ⟨S_, .f32⟩
  | .hbm, ⟨86, _⟩ => ⟨S12x4096, .f32⟩
  | .hbm, ⟨87, _⟩ => ⟨S12x4096x1, .f32⟩
  | .hbm, ⟨88, _⟩ => ⟨S12x4096x4096, .f32⟩
  | .hbm, ⟨89, _⟩ => ⟨S_, .f32⟩
  | .hbm, ⟨90, _⟩ => ⟨S12x4096, .f32⟩
  | .hbm, ⟨91, _⟩ => ⟨S12x1x4096, .f32⟩
  | .hbm, ⟨92, _⟩ => ⟨S_, .f32⟩
  | .hbm, ⟨93, _⟩ => ⟨S12x4096, .f32⟩
  | .hbm, ⟨94, _⟩ => ⟨S_, .f32⟩
  | .hbm, ⟨95, _⟩ => ⟨S12x4096, .f32⟩
  | .hbm, ⟨96, _⟩ => ⟨S12x4096, .f32⟩
  | .hbm, ⟨97, _⟩ => ⟨S4096x12, .f32⟩
  | .hbm, ⟨98, _⟩ => ⟨S_, .f32⟩
  | .hbm, ⟨99, _⟩ => ⟨S12x4096x4096, .f32⟩
  | .hbm, ⟨100, _⟩ => ⟨S12x4096x4096, .f32⟩
  | .hbm, ⟨101, _⟩ => ⟨S12x4096x64, .f32⟩
  | .hbm, ⟨102, _⟩ => ⟨S4096x12x64, .f32⟩
  | .hbm, ⟨103, _⟩ => ⟨S12x4096x64, .f32⟩
  | .hbm, ⟨104, _⟩ => ⟨S4096x12x64, .f32⟩
  | _, _ => ⟨S4096x12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_11 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_12 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_13 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_14 : Ref sig .tc := ⟨.hbm, 82, rfl⟩
abbrev main_v62 : Ref sig .tc := ⟨.hbm, 83, rfl⟩
abbrev main_v63 : Ref sig .tc := ⟨.hbm, 84, rfl⟩
abbrev main_cst_15 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_16 : Ref sig .tc := ⟨.hbm, 89, rfl⟩
abbrev main_v67 : Ref sig .tc := ⟨.hbm, 90, rfl⟩
abbrev main_v68 : Ref sig .tc := ⟨.hbm, 91, rfl⟩
abbrev main_cst_17 : Ref sig .tc := ⟨.hbm, 92, rfl⟩
abbrev main_v69 : Ref sig .tc := ⟨.hbm, 93, rfl⟩
abbrev main_cst_18 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_19 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩

abbrev nD : Nat := 1
abbrev τ : Topo := Topo.v7x

variable {F : FTy → Type} [FloatOps F]
-- ==== Xattn.lean ====
abbrev S4096x1024 : Shape := ⟨2, ![4096, 1024]⟩
abbrev S256x2048 : Shape := ⟨2, ![256, 2048]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S256x2048, .f32⟩
  | .hbm, ⟨2, _⟩ => ⟨S4096x1024, .f32⟩
  | .hbm, ⟨3, _⟩ => ⟨S4096x1024, .bf16⟩
  | .hbm, ⟨4, _⟩ => ⟨S256x2048, .bf16⟩
  | .hbm, ⟨5, _⟩ => ⟨S4096x1024, .bf16⟩
  | .hbm, ⟨6, _⟩ => ⟨S4096x1024, .bf16⟩
  | .hbm, ⟨7, _⟩ => ⟨S256x2048, .f32⟩
  | .local _ .vmem, ⟨0, _⟩ => ⟨S512x1024, .bf16⟩
  | .local _ .vmem, ⟨1, _⟩ => ⟨S512x1024, .bf16⟩
  | .local _ .vmem, ⟨2, _⟩ => ⟨S256x2048, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S256x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== XattnRefIdeal.lean ====
abbrev S4096x1024 : Shape := ⟨2, ![4096, 1024]⟩
abbrev S256x2048 : Shape := ⟨2, ![256, 2048]⟩
abbrev S256x1024 : Shape := ⟨2, ![256, 1024]⟩
abbrev S256x4x256 : Shape := ⟨3, ![256, 4, 256]⟩
abbrev S4096x4x256 : Shape := ⟨3, ![4096, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩

abbrev nBuf : Space → Nat
  | .hbm => 88
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S256x2048, .f32⟩
  | .hbm, ⟨2, _⟩ => ⟨S4096x1024, .f32⟩
  | .hbm, ⟨3, _⟩ => ⟨S256x1024, .f32⟩
  | .hbm, ⟨4, _⟩ => ⟨S256x4x256, .f32⟩
  | .hbm, ⟨5, _⟩ => ⟨S256x1024, .f32⟩
  | .hbm, ⟨6, _⟩ => ⟨S256x4x256, .f32⟩
  | .hbm, ⟨7, _⟩ => ⟨S4096x4x256, .f32⟩
  | .hbm, ⟨8, _⟩ => ⟨S4x4096x256, .f32⟩
  | .hbm, ⟨9, _⟩ => ⟨S_, .f32⟩
  | .hbm, ⟨10, _⟩ => ⟨S4x4096x256, .f32⟩
  | .hbm, ⟨11, _⟩ => ⟨S4x4096x256, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S4x4096x256, .f32⟩
  | .hbm, ⟨16, _⟩ => ⟨S4x4096x256, .i1⟩
  | .hbm, ⟨17, _⟩ => ⟨S4x4096x256, .f32⟩
  | .hbm, ⟨18, _⟩ => ⟨S_, .f32⟩
  | .hbm, ⟨19, _⟩ => ⟨S4x4096, .f32⟩
  | .hbm, ⟨20, _⟩ => ⟨S_, .f32⟩
  | .hbm, ⟨21, _⟩ => ⟨S4x4096, .f32⟩
  | .hbm, ⟨22, _⟩ => ⟨S4x4096, .f32⟩
  | .hbm, ⟨23, _⟩ => ⟨S_, .f32⟩
  | .hbm, ⟨24, _⟩ => ⟨S4x4096, .f32⟩
  | .hbm, ⟨25, _⟩ => ⟨S4x4096, .i1⟩
  | .hbm, ⟨26, _⟩ => ⟨S_, .f32⟩
  | .hbm, ⟨27, _⟩ => ⟨S4x4096, .f32⟩
  | .hbm, ⟨28, _⟩ => ⟨S4x4096, .i1⟩
  | .hbm, ⟨29, _⟩ => ⟨S_, .f32⟩
  | .hbm, ⟨30, _⟩ => ⟨S4x4096, .f32⟩
  | .hbm, ⟨31, _⟩ => ⟨S_, .f32⟩
  | .hbm, ⟨32, _⟩ => ⟨S4x4096, .f32⟩
  | .hbm, ⟨33, _⟩ => ⟨S_, .f32⟩
  | .hbm, ⟨34, _⟩ => ⟨S4x4096, .f32⟩
  | .hbm, ⟨35, _⟩ => ⟨S4x4096, .f32⟩
  | .hbm, ⟨36, _⟩ => ⟨S4x4096, .f32⟩
  | .hbm, ⟨37, _⟩ => ⟨S4x4096x1, .f32⟩
  | .hbm, ⟨38, _⟩ => ⟨S4x4096x256, .f32⟩
  | .hbm, ⟨39, _⟩ => ⟨S4x4096x256, .f32⟩
  | .hbm, ⟨40, _⟩ => ⟨S4x4096x256, .f32⟩
  | .hbm, ⟨41, _⟩ => ⟨S_, .f32⟩
  | .hbm, ⟨42, _⟩ => ⟨S4x4096, .f32⟩
  | .hbm, ⟨43, _⟩ => ⟨S4x4096x1, .f32⟩
  | .hbm, ⟨44, _⟩ => ⟨S4x4096x256, .f32⟩
  | .hbm, ⟨45, _⟩ => ⟨S4x4096x256, .f32⟩
  | .hbm, ⟨46, _⟩ => ⟨S4x4096x1, .f32⟩
  | .hbm, ⟨47, _⟩ => ⟨S_, .f32⟩
  | .hbm, ⟨48, _⟩ => ⟨S4x4096x1, .f32⟩
  | .hbm, ⟨49, _⟩ => ⟨S4x4096x1, .f32⟩
  | .hbm, ⟨50, _⟩ => ⟨S4x256x4096, .f32⟩
  | .hbm, ⟨51, _⟩ => ⟨S4096x4x256, .f32⟩
  | .hbm, ⟨52, _⟩ => ⟨S4096x1024, .f32⟩
  | .hbm, ⟨53, _⟩ => ⟨S4096x4x256, .f32⟩
  | .hbm, ⟨54, _⟩ => ⟨S4x256x4096, .f32⟩
  | .hbm, ⟨55, _⟩ => ⟨S4x4096x256, .f32⟩
  | .hbm, ⟨56, _⟩ => ⟨S4x256x256, .f32⟩
  | .hbm, ⟨57, _⟩ => ⟨S256x4x256, .f32⟩
  | .hbm, ⟨58, _⟩ => ⟨S4x4096x256, .f32⟩
  | .hbm, ⟨59, _⟩ => ⟨S4x4096x256, .f32⟩
  | .hbm, ⟨60, _⟩ => ⟨S4x4096x256, .f32⟩
  | .hbm, ⟨61, _⟩ => ⟨S_, .f32⟩
  | .hbm, ⟨62, _⟩ => ⟨S4x4096, .f32⟩
  | .hbm, ⟨63, _⟩ => ⟨S4x4096x1, .f32⟩
  | .hbm, ⟨64, _⟩ => ⟨S4x4096x1, .f32⟩
  | .hbm, ⟨65, _⟩ => ⟨S4x4096x256, .f32⟩
  | .hbm, ⟨66, _⟩ => ⟨S4x4096x256, .f32⟩
  | .hbm, ⟨67, _⟩ => ⟨S_, .f32⟩
  | .hbm, ⟨68, _⟩ => ⟨S4x4096, .f32⟩
  | .hbm, ⟨69, _⟩ => ⟨S4x4096x256, .f32⟩
  | .hbm, ⟨70, _⟩ => ⟨S4x4096x256, .f32⟩
  | .hbm, ⟨71, _⟩ => ⟨S4x4096x256, .f32⟩
  | .hbm, ⟨72, _⟩ => ⟨S_, .f32⟩
  | .hbm, ⟨73, _⟩ => ⟨S4x4096x256, .f32⟩
  | .hbm, ⟨74, _⟩ => ⟨S4x4096x256, .f32⟩
  | .hbm, ⟨75, _⟩ => ⟨S4x256x256, .f32⟩
  | .hbm, ⟨76, _⟩ => ⟨S256x4x256, .f32⟩
  | .hbm, ⟨77, _⟩ => ⟨S4x4096x256, .f32⟩
  | .hbm, ⟨78, _⟩ => ⟨S4096x4x256, .f32⟩
  | .hbm, ⟨79, _⟩ => ⟨S4096x1024, .f32⟩
  | .hbm, ⟨80, _⟩ => ⟨S256x1024, .f32⟩
  | .hbm, ⟨81, _⟩ => ⟨S_, .f32⟩
  | .hbm, ⟨82, _⟩ => ⟨S256x2048, .f32⟩
  | .hbm, ⟨83, _⟩ => ⟨S256x1024, .f32⟩
  | .hbm, ⟨84, _⟩ => ⟨S_, .f32⟩
  | .hbm, ⟨85, _⟩ => ⟨S256x2048, .f32⟩
  | .hbm, ⟨86, _⟩ => ⟨S256x2048, .f32⟩
  | .hbm, ⟨87, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_cst_7 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_8 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_9 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_10 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_11 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_12 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_13 : Ref sig .tc := ⟨.hbm, 81, rfl⟩
abbrev main_v64 : Ref sig .tc := ⟨.hbm, 82, rfl⟩
abbrev main_v65 : Ref sig .tc := ⟨.hbm, 83, rfl⟩
abbrev main_cst_14 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩

abbrev nD : Nat := 1
abbrev τ : Topo := Topo.v7x

variable {F : FTy → Type} [FloatOps F]
-- ==== First.lean ====
abbrev S4096x2572 : Shape := ⟨2, ![4096, 2572]⟩
abbrev S1024x2572 : Shape := ⟨2, ![1024, 2572]⟩
abbrev S4096x1024 : Shape := ⟨2, ![4096, 1024]⟩
abbrev S1x1024 : Shape := ⟨2, ![1, 1024]⟩
abbrev S_ : Shape := ⟨0, ![]⟩
abbrev S4096x2688 : Shape := ⟨2, ![4096, 2688]⟩
abbrev S1024x2688 : Shape := ⟨2, ![1024, 2688]⟩
abbrev S512x2688 : Shape := ⟨2, ![512, 2688]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 15
  | .vmem => 11
  | .smem => 0
  | _ => 0

abbrev bufTy : (tb : Table) → Fin (tcTables nBuf tb) → BufTy
  | .hbm, ⟨0, _⟩ => ⟨S4096x2572, .f32⟩
  | .hbm, ⟨1, _⟩ => ⟨S1024x2572, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S_, .i32⟩
  | .hbm, ⟨6, _⟩ => ⟨S_, .f32⟩
  | .hbm, ⟨7, _⟩ => ⟨S4096x2688, .f32⟩
  | .hbm, ⟨8, _⟩ => ⟨S4096x2688, .bf16⟩
  | .hbm, ⟨9, _⟩ => ⟨S_, .i32⟩
  | .hbm, ⟨10, _⟩ => ⟨S_, .f32⟩
  | .hbm, ⟨11, _⟩ => ⟨S1024x2688, .f32⟩
  | .hbm, ⟨12, _⟩ => ⟨S1024x2688, .bf16⟩
  | .hbm, ⟨13, _⟩ => ⟨S4096x1024, .f32⟩
  | .hbm, ⟨14, _⟩ => ⟨S1x1024, .f32⟩
  | .local _ .vmem, ⟨0, _⟩ => ⟨S512x2688, .bf16⟩
  | .local _ .vmem, ⟨1, _⟩ => ⟨S512x2688, .bf16⟩
  | .local _ .vmem, ⟨2, _⟩ => ⟨S1024x2688, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x2572, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2688 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== FirstRefIdeal.lean ====
abbrev S4096x2572 : Shape := ⟨2, ![4096, 2572]⟩
abbrev S1024x2572 : Shape := ⟨2, ![1024, 2572]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x2572, .f32⟩
  | .hbm, ⟨1, _⟩ => ⟨S1024x2572, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x2572, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | _, _ => ⟨S4096x2572, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Loss.lean ====
abbrev S4096x4096 : Shape := ⟨2, ![4096, 4096]⟩
abbrev S4096x1024 : Shape := ⟨2, ![4096, 1024]⟩
abbrev S1x1024 : Shape := ⟨2, ![1, 1024]⟩
abbrev S512x4096 : Shape := ⟨2, ![512, 4096]⟩
abbrev S512x1024 : Shape := ⟨2, ![512, 1024]⟩
abbrev S128x4096 : Shape := ⟨2, ![128, 4096]⟩
abbrev S128x1024 : Shape := ⟨2, ![128, 1024]⟩
abbrev S128 : Shape := ⟨1, ![128]⟩
abbrev S128x1 : Shape := ⟨2, ![128, 1]⟩
abbrev S1024 : Shape := ⟨1, ![1024]⟩
abbrev S_ : Shape := ⟨0, ![]⟩

abbrev nBuf : Space → Nat
  | .hbm => 13
  | .vmem => 14
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x4096, .bf16⟩
  | .hbm, ⟨6, _⟩ => ⟨S4096x1024, .bf16⟩
  | .hbm, ⟨7, _⟩ => ⟨S4096x1024, .f32⟩
  | .hbm, ⟨8, _⟩ => ⟨S4096x1024, .bf16⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S_, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_cst : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossRefIdeal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 73
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4096, .f32⟩
  | .hbm, ⟨44, _⟩ => ⟨S_, .f32⟩
  | .hbm, ⟨45, _⟩ => ⟨S4096, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_cst_8 : Ref sig .tc := ⟨.hbm, 40, rfl⟩
abbrev main_cst_9 : Ref sig .tc := ⟨.hbm, 41, rfl⟩
abbrev main_v26 : Ref sig .tc := ⟨.hbm, 42, rfl⟩
abbrev main_v27 : Ref sig .tc := ⟨.hbm, 43, rfl⟩
abbrev main_cst_10 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_11 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]
-- ==== Conv.lean ====
abbrev S4096x8192 : Shape := ⟨2, ![4096, 8192]⟩
abbrev S3x1x8192 : Shape := ⟨3, ![3, 1, 8192]⟩
abbrev S8192 : Shape := ⟨1, ![8192]⟩
abbrev S4096x4096 : Shape := ⟨2, ![4096, 4096]⟩
abbrev S3x2x4096 : Shape := ⟨3, ![3, 2, 4096]⟩
abbrev S2x3x4096 : Shape := ⟨3, ![2, 3, 4096]⟩
abbrev S1x2x4096 : Shape := ⟨3, ![1, 2, 4096]⟩
abbrev S2x1x4096 : Shape := ⟨3, ![2, 1, 4096]⟩
abbrev S_ : Shape := ⟨0, ![]⟩
abbrev S2x4x4096 : Shape := ⟨3, ![2, 4, 4096]⟩
abbrev S2x8x4096 : Shape := ⟨3, ![2, 8, 4096]⟩
abbrev S4096x2x4096 : Shape := ⟨3, ![4096, 2, 4096]⟩
abbrev S2x4096x4096 : Shape := ⟨3, ![2, 4096, 4096]⟩
abbrev S2x512x512 : Shape := ⟨3, ![2, 512, 512]⟩
abbrev S2x8x512 : Shape := ⟨3, ![2, 8, 512]⟩
abbrev S512x512 : Shape := ⟨2, ![512, 512]⟩
abbrev S8x512 : Shape := ⟨2, ![8, 512]⟩
abbrev S520x512 : Shape := ⟨2, ![520, 512]⟩
abbrev S1x8x512 : Shape := ⟨3, ![1, 8, 512]⟩
abbrev S1x512x512 : Shape := ⟨3, ![1, 512, 512]⟩
abbrev S528x512 : Shape := ⟨2, ![528, 512]⟩
abbrev S1x512 : Shape := ⟨2, ![1, 512]⟩
abbrev S1x1x512 : Shape := ⟨3, ![1, 1, 512]⟩
abbrev S512 : Shape := ⟨1, ![512]⟩

abbrev nBuf : Space → Nat
  | .hbm => 15
  | .vmem => 16
  | .smem => 0
  | _ => 0

abbrev bufTy : (tb : Table) → Fin (tcTables nBuf tb) → BufTy
  | .hbm, ⟨0, _⟩ => ⟨S4096x8192, .f32⟩
  | .hbm, ⟨1, _⟩ => ⟨S3x1x8192, .f32⟩
  | .hbm, ⟨2, _⟩ => ⟨S8192, .f32⟩
  | .hbm, ⟨3, _⟩ => ⟨S4096x4096, .f32⟩
  | .hbm, ⟨4, _⟩ => ⟨S3x2x4096, .f32⟩
  | .hbm, ⟨5, _⟩ => ⟨S2x3x4096, .f32⟩
  | .hbm, ⟨6, _⟩ => ⟨S1x2x4096, .f32⟩
  | .hbm, ⟨7, _⟩ => ⟨S2x1x4096, .f32⟩
  | .hbm, ⟨8, _⟩ => ⟨S_, .f32⟩
  | .hbm, ⟨9, _⟩ => ⟨S2x4x4096, .f32⟩
  | .hbm, ⟨10, _⟩ => ⟨S2x8x4096, .f32⟩
  | .hbm, ⟨11, _⟩ => ⟨S4096x2x4096, .f32⟩
  | .hbm, ⟨12, _⟩ => ⟨S2x4096x4096, .f32⟩
  | .hbm, ⟨13, _⟩ => ⟨S2x4096x4096, .bf16⟩
  | .hbm, ⟨14, _⟩ => ⟨S2x8x4096, .f32⟩
  | .local _ .vmem, ⟨0, _⟩ => ⟨S2x512x512, .f32⟩
  | .local _ .vmem, ⟨1, _⟩ => ⟨S2x512x512, .f32⟩
  | .local _ .vmem, ⟨2, _⟩ => ⟨S2x8x512, .f32⟩
  | .local _ .vmem, ⟨3, _⟩ => ⟨S2x8x512, .f32⟩
  | .local _ .vmem, ⟨4, _⟩ => ⟨S2x8x512, .f32⟩
  | .local _ .vmem, ⟨5, _⟩ => ⟨S2x8x512, .f32⟩
  | .local _ .vmem, ⟨6, _⟩ => ⟨S512x512, .f32⟩
  | .local _ .vmem, ⟨7, _⟩ => ⟨S512x512, .f32⟩
  | .local _ .vmem, ⟨8, _⟩ => ⟨S8x512, .f32⟩
  | .local _ .vmem, ⟨9, _⟩ => ⟨S8x512, .f32⟩
  | .local _ .vmem, ⟨10, _⟩ => ⟨S2x8x512, .f32⟩
  | .local _ .vmem, ⟨11, _⟩ => ⟨S2x8x512, .f32⟩
  | .local _ .vmem, ⟨12, _⟩ => ⟨S2x512x512, .bf16⟩
  | .local _ .vmem, ⟨13, _⟩ => ⟨S2x512x512, .bf16⟩
  | .local _ .vmem, ⟨14, _⟩ => ⟨S2x8x512, .f32⟩
  | .local _ .vmem, ⟨15, _⟩ => ⟨S2x8x512, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![c0_i32.toNat, v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ConvRefIdeal.lean ====
abbrev S4096x8192 : Shape := ⟨2, ![4096, 8192]⟩
abbrev S3x1x8192 : Shape := ⟨3, ![3, 1, 8192]⟩
abbrev S8192 : Shape := ⟨1, ![8192]⟩
abbrev S4096x4096 : Shape := ⟨2, ![4096, 4096]⟩
abbrev S_ : Shape := ⟨0, ![]⟩
abbrev S2x8192 : Shape := ⟨2, ![2, 8192]⟩
abbrev S4098x8192 : Shape := ⟨2, ![4098, 8192]⟩
abbrev S1x1x8192 : Shape := ⟨3, ![1, 1, 8192]⟩
abbrev S1x8192 : Shape := ⟨2, ![1, 8192]⟩
abbrev S3x2x4096 : Shape := ⟨3, ![3, 2, 4096]⟩
abbrev S1x2x4096 : Shape := ⟨3, ![1, 2, 4096]⟩
abbrev S4x2x4096 : Shape := ⟨3, ![4, 2, 4096]⟩
abbrev S8x2x4096 : Shape := ⟨3, ![8, 2, 4096]⟩
abbrev S4096x2x4096 : Shape := ⟨3, ![4096, 2, 4096]⟩
abbrev S2x4096x4096 : Shape := ⟨3, ![2, 4096, 4096]⟩
abbrev S2x8x4096 : Shape := ⟨3, ![2, 8, 4096]⟩

abbrev nBuf : Space → Nat
  | .hbm => 135
  | .vmem => 0
  | .smem => 0
  | _ => 0

abbrev hbmTy0_0 (i : Nat) : BufTy := match i % 128 with
  | 0 => ⟨S4096x8192, .f32⟩
  | 1 => ⟨S3x1x8192, .f32⟩
  | 2 => ⟨S8192, .f32⟩
  | 3 => ⟨S4096x4096, .f32⟩
  | 4 => ⟨S_, .f32⟩
  | 5 => ⟨S2x8192, .f32⟩
  | 6 => ⟨S4098x8192, .f32⟩
  | 7 => ⟨S_, .f32⟩
  | 8 => ⟨S2x8192, .f32⟩
  | 9 => ⟨S4096x8192, .f32⟩
  | 10 => ⟨S1x1x8192, .f32⟩
  | 11 => ⟨S1x8192, .f32⟩
  | 12 => ⟨S4096x8192, .f32⟩
  | 13 => ⟨S4096x8192, .f32⟩
  | 14 => ⟨S4096x8192, .f32⟩
  | 15 => ⟨S1x1x8192, .f32⟩
  | 16 => ⟨S1x8192, .f32⟩
  | 17 => ⟨S4096x8192, .f32⟩
  | 18 => ⟨S4096x8192, .f32⟩
  | 19 => ⟨S4096x8192, .f32⟩
  | 20 => ⟨S4096x8192, .f32⟩
  | 21 => ⟨S1x1x8192, .f32⟩
  | 22 => ⟨S1x8192, .f32⟩
  | 23 => ⟨S4096x8192, .f32⟩
  | 24 => ⟨S4096x8192, .f32⟩
  | 25 => ⟨S4096x8192, .f32⟩
  | 26 => ⟨S1x8192, .f32⟩
  | 27 => ⟨S4096x8192, .f32⟩
  | 28 => ⟨S4096x8192, .f32⟩
  | 29 => ⟨S4096x4096, .f32⟩
  | 30 => ⟨S4096x4096, .f32⟩
  | 31 => ⟨S4096x4096, .f32⟩
  | 32 => ⟨S4096x4096, .f32⟩
  | 33 => ⟨S4096x4096, .f32⟩
  | 34 => ⟨S_, .f32⟩
  | 35 => ⟨S4096x4096, .f32⟩
  | 36 => ⟨S4096x4096, .f32⟩
  | 37 => ⟨S_, .f32⟩
  | 38 => ⟨S4096x4096, .f32⟩
  | 39 => ⟨S4096x4096, .f32⟩
  | 40 => ⟨S4096x4096, .f32⟩
  | 41 => ⟨S_, .f32⟩
  | 42 => ⟨S4096x4096, .f32⟩
  | 43 => ⟨S4096x4096, .f32⟩
  | 44 => ⟨S4096x4096, .f32⟩
  | 45 => ⟨S_, .f32⟩
  | 46 => ⟨S4096x4096, .f32⟩
  | 47 => ⟨S4096x4096, .f32⟩
  | 48 => ⟨S_, .f32⟩
  | 49 => ⟨S4096x4096, .f32⟩
  | 50 => ⟨S4096x4096, .f32⟩
  | 51 => ⟨S4096x4096, .f32⟩
  | 52 => ⟨S_, .f32⟩
  | 53 => ⟨S4096x4096, .f32⟩
  | 54 => ⟨S4096x4096, .f32⟩
  | 55 => ⟨S_, .f32⟩
  | 56 => ⟨S4096x4096, .f32⟩
  | 57 => ⟨S4096x4096, .f32⟩
  | 58 => ⟨S4096x4096, .f32⟩
  | 59 => ⟨S4096x4096, .f32⟩
  | 60 => ⟨S4096x4096, .f32⟩
  | 61 => ⟨S4096x4096, .f32⟩
  | 62 => ⟨S4096x4096, .f32⟩
  | 63 => ⟨S4096x4096, .f32⟩
  | 64 => ⟨S_, .f32⟩
  | 65 => ⟨S4096x4096, .f32⟩
  | 66 => ⟨S4096x4096, .f32⟩
  | 67 => ⟨S4096x4096, .f32⟩
  | 68 => ⟨S_, .f32⟩
  | 69 => ⟨S4096x4096, .f32⟩
  | 70 => ⟨S4096x4096, .f32⟩
  | 71 => ⟨S4096x4096, .f32⟩
  | 72 => ⟨S_, .f32⟩
  | 73 => ⟨S4096x4096, .f32⟩
  | 74 => ⟨S4096x4096, .f32⟩
  | 75 => ⟨S4096x4096, .f32⟩
  | 76 => ⟨S4096x4096, .f32⟩
  | 77 => ⟨S_, .f32⟩
  | 78 => ⟨S4096x8192, .f32⟩
  | 79 => ⟨S_, .f32⟩
  | 80 => ⟨S4096x8192, .f32⟩
  | 81 => ⟨S4096x8192, .f32⟩
  | 82 => ⟨S_, .f32⟩
  | 83 => ⟨S8192, .f32⟩
  | 84 => ⟨S1x8192, .f32⟩
  | 85 => ⟨S_, .f32⟩
  | 86 => ⟨S8192, .f32⟩
  | 87 => ⟨S4096x8192, .f32⟩
  | 88 => ⟨S_, .f32⟩
  | 89 => ⟨S8192, .f32⟩
  | 90 => ⟨S1x8192, .f32⟩
  | 91 => ⟨S4096x8192, .f32⟩
  | 92 => ⟨S4096x8192, .f32⟩
  | 93 => ⟨S1x1x8192, .f32⟩
  | 94 => ⟨S_, .f32⟩
  | 95 => ⟨S3x1x8192, .f32⟩
  | 96 => ⟨S_, .f32⟩
  | 97 => ⟨S4098x8192, .f32⟩
  | 98 => ⟨S4096x8192, .f32⟩
  | 99 => ⟨S_, .f32⟩
  | 100 => ⟨S8192, .f32⟩
  | 101 => ⟨S1x8192, .f32⟩
  | 102 => ⟨S4096x8192, .f32⟩
  | 103 => ⟨S4096x8192, .f32⟩
  | 104 => ⟨S1x1x8192, .f32⟩
  | 105 => ⟨S_, .f32⟩
  | 106 => ⟨S3x1x8192, .f32⟩
  | 107 => ⟨S3x1x8192, .f32⟩
  | 108 => ⟨S_, .f32⟩
  | 109 => ⟨S4098x8192, .f32⟩
  | 110 => ⟨S4098x8192, .f32⟩
  | 111 => ⟨S4096x8192, .f32⟩
  | 112 => ⟨S_, .f32⟩
  | 113 => ⟨S8192, .f32⟩
  | 114 => ⟨S1x8192, .f32⟩
  | 115 => ⟨S4096x8192, .f32⟩
  | 116 => ⟨S4096x8192, .f32⟩
  | 117 => ⟨S1x1x8192, .f32⟩
  | 118 => ⟨S_, .f32⟩
  | 119 => ⟨S3x1x8192, .f32⟩
  | 120 => ⟨S3x1x8192, .f32⟩
  | 121 => ⟨S_, .f32⟩
  | 122 => ⟨S4098x8192, .f32⟩
  | 123 => ⟨S4098x8192, .f32⟩
  | 124 => ⟨S2x8192, .f32⟩
  | 125 => ⟨S4096x8192, .f32⟩
  | 126 => ⟨S3x2x4096, .f32⟩
  | 127 => ⟨S1x2x4096, .f32⟩
  | _ => ⟨S4096x8192, .f32⟩

abbrev hbmTy0_1 (i : Nat) : BufTy := match i % 128 with
  | 0 => ⟨S_, .f32⟩
  | 1 => ⟨S4x2x4096, .f32⟩
  | 2 => ⟨S8x2x4096, .f32⟩
  | 3 => ⟨S4096x2x4096, .f32⟩
  | 4 => ⟨S2x4096x4096, .f32⟩
  | 5 => ⟨S2x4096x4096, .bf16⟩
  | 6 => ⟨S2x8x4096, .f32⟩
  | _ => ⟨S4096x8192, .f32⟩

abbrev hbmTy (i : Nat) : BufTy := match i / 128 with
  | 0 => hbmTy0_0 i
  | 1 => hbmTy0_1 i
  | _ => ⟨S4096x8192, .f32⟩

abbrev bufTy : (tb : Table) → Fin (tcTables nBuf tb) → BufTy
  | .hbm, ⟨i, _⟩ => hbmTy i
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_1 : Ref sig .tc := ⟨.hbm, 34, rfl⟩
abbrev main_v28 : Ref sig .tc := ⟨.hbm, 35, rfl⟩
abbrev main_v29 : Ref sig .tc := ⟨.hbm, 36, rfl⟩
abbrev main_cst_2 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_6 : Ref sig .tc := ⟨.hbm, 52, rfl⟩
abbrev main_v41 : Ref sig .tc := ⟨.hbm, 53, rfl⟩
abbrev main_v42 : Ref sig .tc := ⟨.hbm, 54, rfl⟩
abbrev main_cst_7 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_8 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_9 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_10 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_11 : Ref sig .tc := ⟨.hbm, 77, rfl⟩
abbrev main_v61 : Ref sig .tc := ⟨.hbm, 78, rfl⟩
abbrev main_cst_12 : Ref sig .tc := ⟨.hbm, 79, rfl⟩
abbrev main_v62 : Ref sig .tc := ⟨.hbm, 80, rfl⟩
abbrev main_v63 : Ref sig .tc := ⟨.hbm, 81, rfl⟩
abbrev main_cst_13 : Ref sig .tc := ⟨.hbm, 82, rfl⟩
abbrev main_v64 : Ref sig .tc := ⟨.hbm, 83, rfl⟩
abbrev main_v65 : Ref sig .tc := ⟨.hbm, 84, rfl⟩
abbrev main_cst_14 : Ref sig .tc := ⟨.hbm, 85, rfl⟩
abbrev main_v66 : Ref sig .tc := ⟨.hbm, 86, rfl⟩
abbrev main_v67 : Ref sig .tc := ⟨.hbm, 87, rfl⟩
abbrev main_cst_15 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_16 : Ref sig .tc := ⟨.hbm, 94, rfl⟩
abbrev main_v73 : Ref sig .tc := ⟨.hbm, 95, rfl⟩
abbrev main_cst_17 : Ref sig .tc := ⟨.hbm, 96, rfl⟩
abbrev main_v74 : Ref sig .tc := ⟨.hbm, 97, rfl⟩
abbrev main_v75 : Ref sig .tc := ⟨.hbm, 98, rfl⟩
abbrev main_cst_18 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_19 : Ref sig .tc := ⟨.hbm, 105, rfl⟩
abbrev main_v81 : Ref sig .tc := ⟨.hbm, 106, rfl⟩
abbrev main_v82 : Ref sig .tc := ⟨.hbm, 107, rfl⟩
abbrev main_cst_20 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_21 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_22 : Ref sig .tc := ⟨.hbm, 118, rfl⟩
abbrev main_v91 : Ref sig .tc := ⟨.hbm, 119, rfl⟩
abbrev main_v92 : Ref sig .tc := ⟨.hbm, 120, rfl⟩
abbrev main_cst_23 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_cst_24 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩

abbrev nD : Nat := 1
abbrev τ : Topo := Topo.v7x

variable {F : FTy → Type} [FloatOps F]
-- ==== Pool.lean ====
abbrev S4096x256 : Shape := ⟨2, ![4096, 256]⟩
abbrev S4x64x64 : Shape := ⟨3, ![4, 64, 64]⟩
abbrev S4x64 : Shape := ⟨2, ![4, 64]⟩
abbrev S_ : Shape := ⟨0, ![]⟩
abbrev S256x256 : Shape := ⟨2, ![256, 256]⟩
abbrev S1x64x64 : Shape := ⟨3, ![1, 64, 64]⟩
abbrev S64x64 : Shape := ⟨2, ![64, 64]⟩
abbrev S1 : Shape := ⟨1, ![1]⟩
abbrev S2 : Shape := ⟨1, ![2]⟩
abbrev S1x256 : Shape := ⟨2, ![1, 256]⟩
abbrev S512x256 : Shape := ⟨2, ![512, 256]⟩
abbrev S16x256 : Shape := ⟨2, ![16, 256]⟩
abbrev S528x256 : Shape := ⟨2, ![528, 256]⟩
abbrev S256 : Shape := ⟨1, ![256]⟩

abbrev nBuf : Space → Nat
  | .hbm => 54
  | .vmem => 15
  | .smem => 0
  | _ => 0

abbrev bufTy : (tb : Table) → Fin (tcTables nBuf tb) → BufTy
  | .hbm, ⟨0, _⟩ => ⟨S4096x256, .f32⟩
  | .hbm, ⟨1, _⟩ => ⟨S4x64x64, .f32⟩
  | .hbm, ⟨2, _⟩ => ⟨S4x64, .f32⟩
  | .hbm, ⟨3, _⟩ => ⟨S4096x256, .f32⟩
  | .hbm, ⟨4, _⟩ => ⟨S_, .f32⟩
  | .hbm, ⟨5, _⟩ => ⟨S256x256, .f32⟩
  | .hbm, ⟨6, _⟩ => ⟨S1x64x64, .f32⟩
  | .hbm, ⟨7, _⟩ => ⟨S64x64, .f32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S2, .i32⟩
  | .hbm, ⟨13, _⟩ => ⟨S256x256, .f32⟩
  | .hbm, ⟨14, _⟩ => ⟨S1x64x64, .f32⟩
  | .hbm, ⟨15, _⟩ => ⟨S64x64, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S256x256, .f32⟩
  | .hbm, ⟨22, _⟩ => ⟨S1x64x64, .f32⟩
  | .hbm, ⟨23, _⟩ => ⟨S64x64, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S256x256, .f32⟩
  | .hbm, ⟨30, _⟩ => ⟨S1x64x64, .f32⟩
  | .hbm, ⟨31, _⟩ => ⟨S64x64, .f32⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S2, .i32⟩
  | .hbm, ⟨37, _⟩ => ⟨S256x256, .f32⟩
  | .hbm, ⟨38, _⟩ => ⟨S256x256, .bf16⟩
  | .hbm, ⟨39, _⟩ => ⟨S256x256, .f32⟩
  | .hbm, ⟨40, _⟩ => ⟨S256x256, .bf16⟩
  | .hbm, ⟨41, _⟩ => ⟨S1x256, .f32⟩
  | .hbm, ⟨42, _⟩ => ⟨S4096x256, .f32⟩
  | .hbm, ⟨43, _⟩ => ⟨S256x256, .f32⟩
  | .hbm, ⟨44, _⟩ => ⟨S1x256, .f32⟩
  | .hbm, ⟨45, _⟩ => ⟨S64x64, .f32⟩
  | .hbm, ⟨46, _⟩ => ⟨S64x64, .f32⟩
  | .hbm, ⟨47, _⟩ => ⟨S64x64, .f32⟩
  | .hbm, ⟨48, _⟩ => ⟨S64x64, .f32⟩
  | .hbm, ⟨49, _⟩ => ⟨S1x64x64, .f32⟩
  | .hbm, ⟨50, _⟩ => ⟨S1x64x64, .f32⟩
  | .hbm, ⟨51, _⟩ => ⟨S1x64x64, .f32⟩
  | .hbm, ⟨52, _⟩ => ⟨S1x64x64, .f32⟩
  | .hbm, ⟨53, _⟩ => ⟨S4x64x64, .f32⟩
  | .local _ .vmem, ⟨0, _⟩ => ⟨S512x256, .f32⟩
  | .local _ .vmem, ⟨1, _⟩ => ⟨S512x256, .f32⟩
  | .local _ .vmem, ⟨2, _⟩ => ⟨S16x256, .f32⟩
  | .local _ .vmem, ⟨3, _⟩ => ⟨S16x256, .f32⟩
  | .local _ .vmem, ⟨4, _⟩ => ⟨S512x256, .f32⟩
  | .local _ .vmem, ⟨5, _⟩ => ⟨S512x256, .f32⟩
  | .local _ .vmem, ⟨6, _⟩ => ⟨S16x256, .f32⟩
  | .local _ .vmem, ⟨7, _⟩ => ⟨S16x256, .f32⟩
  | .local _ .vmem, ⟨8, _⟩ => ⟨S256x256, .bf16⟩
  | .local _ .vmem, ⟨9, _⟩ => ⟨S256x256, .bf16⟩
  | .local _ .vmem, ⟨10, _⟩ => ⟨S1x256, .f32⟩
  | .local _ .vmem, ⟨11, _⟩ => ⟨S512x256, .f32⟩
  | .local _ .vmem, ⟨12, _⟩ => ⟨S512x256, .f32⟩
  | .local _ .vmem, ⟨13, _⟩ => ⟨S256x256, .f32⟩
  | .local _ .vmem, ⟨14, _⟩ => ⟨S1x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_v21 : Ref sig .tc := ⟨.hbm, 33, rfl⟩
abbrev main_c_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29_0 : Ref sig .tc := ⟨.hbm, 42, rfl⟩
abbrev main_v29_1 : Ref sig .tc := ⟨.hbm, 43, rfl⟩
abbrev main_v29_2 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== PoolRefIdeal.lean ====
abbrev S4096x256 : Shape := ⟨2, ![4096, 256]⟩
abbrev S4x64x64 : Shape := ⟨3, ![4, 64, 64]⟩
abbrev S4x64 : Shape := ⟨2, ![4, 64]⟩
abbrev S4096x4x64 : Shape := ⟨3, ![4096, 4, 64]⟩
abbrev S_ : Shape := ⟨0, ![]⟩
abbrev S1x4x64 : Shape := ⟨3, ![1, 4, 64]⟩
abbrev S4097x4x64 : Shape := ⟨3, ![4097, 4, 64]⟩
abbrev S4096 : Shape := ⟨1, ![4096]⟩
abbrev S4097x1x64 : Shape := ⟨3, ![4097, 1, 64]⟩
abbrev S4097x64 : Shape := ⟨2, ![4097, 64]⟩
abbrev S1x64 : Shape := ⟨2, ![1, 64]⟩
abbrev S4095x64 : Shape := ⟨2, ![4095, 64]⟩
abbrev S4096x64 : Shape := ⟨2, ![4096, 64]⟩
abbrev S4096x1 : Shape := ⟨2, ![4096, 1]⟩
abbrev S3x64 : Shape := ⟨2, ![3, 64]⟩
abbrev S4093x64 : Shape := ⟨2, ![4093, 64]⟩
abbrev S7x64 : Shape := ⟨2, ![7, 64]⟩
abbrev S4089x64 : Shape := ⟨2, ![4089, 64]⟩
abbrev S15x64 : Shape := ⟨2, ![15, 64]⟩
abbrev S4081x64 : Shape := ⟨2, ![4081, 64]⟩
abbrev S4096x1x64 : Shape := ⟨3, ![4096, 1, 64]⟩
abbrev S4x64x4096 : Shape := ⟨3, ![4, 64, 4096]⟩
abbrev S4x4096x64 : Shape := ⟨3, ![4, 4096, 64]⟩
abbrev S1x256 : Shape := ⟨2, ![1, 256]⟩

abbrev nBuf : Space → Nat
  | .hbm => 179
  | .vmem => 0
  | .smem => 0
  | _ => 0

abbrev hbmTy0_0 (i : Nat) : BufTy := match i % 128 with
  | 0 => ⟨S4096x256, .f32⟩
  | 1 => ⟨S4x64x64, .f32⟩
  | 2 => ⟨S4x64, .f32⟩
  | 3 => ⟨S4096x256, .f32⟩
  | 4 => ⟨S4096x4x64, .f32⟩
  | 5 => ⟨S_, .f32⟩
  | 6 => ⟨S1x4x64, .f32⟩
  | 7 => ⟨S_, .f32⟩
  | 8 => ⟨S_, .f32⟩
  | 9 => ⟨S4096x4x64, .f32⟩
  | 10 => ⟨S4097x4x64, .f32⟩
  | 11 => ⟨S_, .f32⟩
  | 12 => ⟨S1x4x64, .f32⟩
  | 13 => ⟨S4096, .f32⟩
  | 14 => ⟨S_, .f32⟩
  | 15 => ⟨S4096, .f32⟩
  | 16 => ⟨S4096, .f32⟩
  | 17 => ⟨S4097x1x64, .f32⟩
  | 18 => ⟨S4097x64, .f32⟩
  | 19 => ⟨S_, .f32⟩
  | 20 => ⟨S1x64, .f32⟩
  | 21 => ⟨S4095x64, .f32⟩
  | 22 => ⟨S4096x64, .f32⟩
  | 23 => ⟨S_, .f32⟩
  | 24 => ⟨S1x64, .f32⟩
  | 25 => ⟨S4096x64, .f32⟩
  | 26 => ⟨S4096x64, .f32⟩
  | 27 => ⟨S_, .f32⟩
  | 28 => ⟨S4096, .f32⟩
  | 29 => ⟨S4096, .f32⟩
  | 30 => ⟨S4096x1, .f32⟩
  | 31 => ⟨S4096x64, .f32⟩
  | 32 => ⟨S4096x64, .f32⟩
  | 33 => ⟨S4097x1x64, .f32⟩
  | 34 => ⟨S4097x64, .f32⟩
  | 35 => ⟨S_, .f32⟩
  | 36 => ⟨S3x64, .f32⟩
  | 37 => ⟨S4093x64, .f32⟩
  | 38 => ⟨S4096x64, .f32⟩
  | 39 => ⟨S_, .f32⟩
  | 40 => ⟨S3x64, .f32⟩
  | 41 => ⟨S4096x64, .f32⟩
  | 42 => ⟨S4096x64, .f32⟩
  | 43 => ⟨S_, .f32⟩
  | 44 => ⟨S4096, .f32⟩
  | 45 => ⟨S4096, .f32⟩
  | 46 => ⟨S4096x1, .f32⟩
  | 47 => ⟨S4096x64, .f32⟩
  | 48 => ⟨S4096x64, .f32⟩
  | 49 => ⟨S4097x1x64, .f32⟩
  | 50 => ⟨S4097x64, .f32⟩
  | 51 => ⟨S_, .f32⟩
  | 52 => ⟨S7x64, .f32⟩
  | 53 => ⟨S4089x64, .f32⟩
  | 54 => ⟨S4096x64, .f32⟩
  | 55 => ⟨S_, .f32⟩
  | 56 => ⟨S7x64, .f32⟩
  | 57 => ⟨S4096x64, .f32⟩
  | 58 => ⟨S4096x64, .f32⟩
  | 59 => ⟨S_, .f32⟩
  | 60 => ⟨S4096, .f32⟩
  | 61 => ⟨S4096, .f32⟩
  | 62 => ⟨S4096x1, .f32⟩
  | 63 => ⟨S4096x64, .f32⟩
  | 64 => ⟨S4096x64, .f32⟩
  | 65 => ⟨S4097x1x64, .f32⟩
  | 66 => ⟨S4097x64, .f32⟩
  | 67 => ⟨S_, .f32⟩
  | 68 => ⟨S15x64, .f32⟩
  | 69 => ⟨S4081x64, .f32⟩
  | 70 => ⟨S4096x64, .f32⟩
  | 71 => ⟨S_, .f32⟩
  | 72 => ⟨S15x64, .f32⟩
  | 73 => ⟨S4096x64, .f32⟩
  | 74 => ⟨S4096x64, .f32⟩
  | 75 => ⟨S_, .f32⟩
  | 76 => ⟨S4096, .f32⟩
  | 77 => ⟨S4096, .f32⟩
  | 78 => ⟨S4096x1, .f32⟩
  | 79 => ⟨S4096x64, .f32⟩
  | 80 => ⟨S4096x64, .f32⟩
  | 81 => ⟨S4096x1x64, .f32⟩
  | 82 => ⟨S4096x1x64, .f32⟩
  | 83 => ⟨S4096x1x64, .f32⟩
  | 84 => ⟨S4096x1x64, .f32⟩
  | 85 => ⟨S4096x4x64, .f32⟩
  | 86 => ⟨S4096x4x64, .f32⟩
  | 87 => ⟨S4x64x4096, .f32⟩
  | 88 => ⟨S4096x4x64, .f32⟩
  | 89 => ⟨S1x4x64, .f32⟩
  | 90 => ⟨S4096x4x64, .f32⟩
  | 91 => ⟨S4096x4x64, .f32⟩
  | 92 => ⟨S4096x256, .f32⟩
  | 93 => ⟨S4096x4x64, .f32⟩
  | 94 => ⟨S4096x4x64, .f32⟩
  | 95 => ⟨S_, .f32⟩
  | 96 => ⟨S4x64, .f32⟩
  | 97 => ⟨S1x4x64, .f32⟩
  | 98 => ⟨S4096x4x64, .f32⟩
  | 99 => ⟨S4096x4x64, .f32⟩
  | 100 => ⟨S_, .f32⟩
  | 101 => ⟨S4x64, .f32⟩
  | 102 => ⟨S4x64x4096, .f32⟩
  | 103 => ⟨S4x4096x64, .f32⟩
  | 104 => ⟨S4096x4x64, .f32⟩
  | 105 => ⟨S4x64x64, .f32⟩
  | 106 => ⟨S4x64x64, .f32⟩
  | 107 => ⟨S4096x4x64, .f32⟩
  | 108 => ⟨S4096x1x64, .f32⟩
  | 109 => ⟨S4096x64, .f32⟩
  | 110 => ⟨S4096x1x64, .f32⟩
  | 111 => ⟨S4096x64, .f32⟩
  | 112 => ⟨S4096x1x64, .f32⟩
  | 113 => ⟨S4096x64, .f32⟩
  | 114 => ⟨S4096x1x64, .f32⟩
  | 115 => ⟨S4096x64, .f32⟩
  | 116 => ⟨S4096x64, .f32⟩
  | 117 => ⟨S4096x64, .f32⟩
  | 118 => ⟨S4096x64, .f32⟩
  | 119 => ⟨S_, .f32⟩
  | 120 => ⟨S4097x64, .f32⟩
  | 121 => ⟨S15x64, .f32⟩
  | 122 => ⟨S4081x64, .f32⟩
  | 123 => ⟨S_, .f32⟩
  | 124 => ⟨S4097x64, .f32⟩
  | 125 => ⟨S4097x64, .f32⟩
  | 126 => ⟨S4097x1x64, .f32⟩
  | 127 => ⟨S_, .f32⟩
  | _ => ⟨S4096x256, .f32⟩

abbrev hbmTy0_1 (i : Nat) : BufTy := match i % 128 with
  | 0 => ⟨S4097x4x64, .f32⟩
  | 1 => ⟨S4096x64, .f32⟩
  | 2 => ⟨S4096x64, .f32⟩
  | 3 => ⟨S4096x64, .f32⟩
  | 4 => ⟨S_, .f32⟩
  | 5 => ⟨S4097x64, .f32⟩
  | 6 => ⟨S7x64, .f32⟩
  | 7 => ⟨S4089x64, .f32⟩
  | 8 => ⟨S_, .f32⟩
  | 9 => ⟨S4097x64, .f32⟩
  | 10 => ⟨S4097x64, .f32⟩
  | 11 => ⟨S4097x1x64, .f32⟩
  | 12 => ⟨S_, .f32⟩
  | 13 => ⟨S4097x4x64, .f32⟩
  | 14 => ⟨S4097x4x64, .f32⟩
  | 15 => ⟨S4096x64, .f32⟩
  | 16 => ⟨S4096x64, .f32⟩
  | 17 => ⟨S4096x64, .f32⟩
  | 18 => ⟨S_, .f32⟩
  | 19 => ⟨S4097x64, .f32⟩
  | 20 => ⟨S3x64, .f32⟩
  | 21 => ⟨S4093x64, .f32⟩
  | 22 => ⟨S_, .f32⟩
  | 23 => ⟨S4097x64, .f32⟩
  | 24 => ⟨S4097x64, .f32⟩
  | 25 => ⟨S4097x1x64, .f32⟩
  | 26 => ⟨S_, .f32⟩
  | 27 => ⟨S4097x4x64, .f32⟩
  | 28 => ⟨S4097x4x64, .f32⟩
  | 29 => ⟨S4096x64, .f32⟩
  | 30 => ⟨S4096x64, .f32⟩
  | 31 => ⟨S4096x64, .f32⟩
  | 32 => ⟨S_, .f32⟩
  | 33 => ⟨S4097x64, .f32⟩
  | 34 => ⟨S1x64, .f32⟩
  | 35 => ⟨S4095x64, .f32⟩
  | 36 => ⟨S_, .f32⟩
  | 37 => ⟨S4097x64, .f32⟩
  | 38 => ⟨S4097x64, .f32⟩
  | 39 => ⟨S4097x1x64, .f32⟩
  | 40 => ⟨S_, .f32⟩
  | 41 => ⟨S4097x4x64, .f32⟩
  | 42 => ⟨S4097x4x64, .f32⟩
  | 43 => ⟨S1x4x64, .f32⟩
  | 44 => ⟨S4096x4x64, .f32⟩
  | 45 => ⟨S_, .f32⟩
  | 46 => ⟨S_, .f32⟩
  | 47 => ⟨S4096x4x64, .f32⟩
  | 48 => ⟨S4096x4x64, .f32⟩
  | 49 => ⟨S4096x256, .f32⟩
  | 50 => ⟨S1x256, .f32⟩
  | _ => ⟨S4096x256, .f32⟩

abbrev hbmTy (i : Nat) : BufTy := match i / 128 with
  | 0 => hbmTy0_0 i
  | 1 => hbmTy0_1 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_call0_call0_cst : Ref sig .tc := ⟨.hbm, 7, rfl⟩
abbrev main_call0_call0_v0 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_12 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_13 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_14 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_15 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_cst_16 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_cst_17 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_cst_18 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_cst_19 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_cst_20 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_cst_21 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_cst_22 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_cst_23 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_cst_24 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_cst_25 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_cst_26 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_cst_27 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_call1_call0_cst : Ref sig .tc := ⟨.hbm, 173, rfl⟩
abbrev main_call1_call0_v0 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩

abbrev nD : Nat := 1
abbrev τ : Topo := Topo.v7x

variable {F : FTy → Type} [FloatOps F]
-- ==== Gate.lean ====
abbrev S4096x12x64 : Shape := ⟨3, ![4096, 12, 64]⟩
abbrev S4096x12 : Shape := ⟨2, ![4096, 12]⟩
abbrev S4096x256 : Shape := ⟨2, ![4096, 256]⟩
abbrev S1x12 : Shape := ⟨2, ![1, 12]⟩
abbrev S12x4096x64 : Shape := ⟨3, ![12, 4096, 64]⟩
abbrev S12x4096 : Shape := ⟨2, ![12, 4096]⟩
abbrev S_ : Shape := ⟨0, ![]⟩
abbrev S12x4096x9 : Shape := ⟨3, ![12, 4096, 9]⟩
abbrev S12x4096x1 : Shape := ⟨3, ![12, 4096, 1]⟩
abbrev S12x4096x54 : Shape := ⟨3, ![12, 4096, 54]⟩
abbrev S12x4096x128 : Shape := ⟨3, ![12, 4096, 128]⟩
abbrev S4096x128 : Shape := ⟨2, ![4096, 128]⟩
abbrev S1x128 : Shape := ⟨2, ![1, 128]⟩
abbrev S1536x128 : Shape := ⟨2, ![1536, 128]⟩
abbrev S4096x2688 : Shape := ⟨2, ![4096, 2688]⟩
abbrev S12x256x128 : Shape := ⟨3, ![12, 256, 128]⟩
abbrev S256x256 : Shape := ⟨2, ![256, 256]⟩
abbrev S256x128 : Shape := ⟨2, ![256, 128]⟩
abbrev S256x2688 : Shape := ⟨2, ![256, 2688]⟩
abbrev S8x128 : Shape := ⟨2, ![8, 128]⟩
abbrev S1x256x128 : Shape := ⟨3, ![1, 256, 128]⟩
abbrev S256x1536 : Shape := ⟨2, ![256, 1536]⟩
abbrev S128 : Shape := ⟨1, ![128]⟩

abbrev nBuf : Space → Nat
  | .hbm => 120
  | .vmem => 16
  | .smem => 0
  | _ => 0

abbrev bufTy : (tb : Table) → Fin (tcTables nBuf tb) → BufTy
  | .hbm, ⟨0, _⟩ => ⟨S4096x12x64, .f32⟩
  | .hbm, ⟨1, _⟩ => ⟨S4096x12x64, .f32⟩
  | .hbm, ⟨2, _⟩ => ⟨S4096x12x64, .f32⟩
  | .hbm, ⟨3, _⟩ => ⟨S4096x12, .f32⟩
  | .hbm, ⟨4, _⟩ => ⟨S4096x12, .f32⟩
  | .hbm, ⟨5, _⟩ => ⟨S4096x256, .f32⟩
  | .hbm, ⟨6, _⟩ => ⟨S4096x12, .f32⟩
  | .hbm, ⟨7, _⟩ => ⟨S1x12, .f32⟩
  | .hbm, ⟨8, _⟩ => ⟨S12x4096x64, .f32⟩
  | .hbm, ⟨9, _⟩ => ⟨S12x4096, .f32⟩
  | .hbm, ⟨10, _⟩ => ⟨S_, .f32⟩
  | .hbm, ⟨11, _⟩ => ⟨S12x4096x9, .f32⟩
  | .hbm, ⟨12, _⟩ => ⟨S12x4096x1, .f32⟩
  | .hbm, ⟨13, _⟩ => ⟨S_, .f32⟩
  | .hbm, ⟨14, _⟩ => ⟨S12x4096x54, .f32⟩
  | .hbm, ⟨15, _⟩ => ⟨S12x4096x64, .f32⟩
  | .hbm, ⟨16, _⟩ => ⟨S12x4096x128, .i32⟩
  | .hbm, ⟨17, _⟩ => ⟨S_, .i32⟩
  | .hbm, ⟨18, _⟩ => ⟨S12x4096x128, .i32⟩
  | .hbm, ⟨19, _⟩ => ⟨S12x4096x128, .i32⟩
  | .hbm, ⟨20, _⟩ => ⟨S_, .i32⟩
  | .hbm, ⟨21, _⟩ => ⟨S12x4096x128, .i32⟩
  | .hbm, ⟨22, _⟩ => ⟨S12x4096x128, .i1⟩
  | .hbm, ⟨23, _⟩ => ⟨S12x4096x128, .f32⟩
  | .hbm, ⟨24, _⟩ => ⟨S12x4096x128, .f32⟩
  | .hbm, ⟨25, _⟩ => ⟨S12x4096x128, .f32⟩
  | .hbm, ⟨26, _⟩ => ⟨S12x4096x64, .f32⟩
  | .hbm, ⟨27, _⟩ => ⟨S12x4096, .f32⟩
  | .hbm, ⟨28, _⟩ => ⟨S_, .f32⟩
  | .hbm, ⟨29, _⟩ => ⟨S12x4096x9, .f32⟩
  | .hbm, ⟨30, _⟩ => ⟨S12x4096x1, .f32⟩
  | .hbm, ⟨31, _⟩ => ⟨S_, .f32⟩
  | .hbm, ⟨32, _⟩ => ⟨S12x4096x54, .f32⟩
  | .hbm, ⟨33, _⟩ => ⟨S12x4096x64, .f32⟩
  | .hbm, ⟨34, _⟩ => ⟨S12x4096x128, .i32⟩
  | .hbm, ⟨35, _⟩ => ⟨S_, .i32⟩
  | .hbm, ⟨36, _⟩ => ⟨S12x4096x128, .i32⟩
  | .hbm, ⟨37, _⟩ => ⟨S12x4096x128, .i32⟩
  | .hbm, ⟨38, _⟩ => ⟨S_, .i32⟩
  | .hbm, ⟨39, _⟩ => ⟨S12x4096x128, .i32⟩
  | .hbm, ⟨40, _⟩ => ⟨S12x4096x128, .i1⟩
  | .hbm, ⟨41, _⟩ => ⟨S12x4096x128, .f32⟩
  | .hbm, ⟨42, _⟩ => ⟨S12x4096x128, .f32⟩
  | .hbm, ⟨43, _⟩ => ⟨S12x4096x128, .f32⟩
  | .hbm, ⟨44, _⟩ => ⟨S12x4096x64, .f32⟩
  | .hbm, ⟨45, _⟩ => ⟨S_, .f32⟩
  | .hbm, ⟨46, _⟩ => ⟨S12x4096, .f32⟩
  | .hbm, ⟨47, _⟩ => ⟨S_, .f32⟩
  | .hbm, ⟨48, _⟩ => ⟨S12x4096x9, .f32⟩
  | .hbm, ⟨49, _⟩ => ⟨S12x4096x1, .f32⟩
  | .hbm, ⟨50, _⟩ => ⟨S_, .f32⟩
  | .hbm, ⟨51, _⟩ => ⟨S12x4096x54, .f32⟩
  | .hbm, ⟨52, _⟩ => ⟨S12x4096x64, .f32⟩
  | .hbm, ⟨53, _⟩ => ⟨S12x4096x128, .i32⟩
  | .hbm, ⟨54, _⟩ => ⟨S_, .i32⟩
  | .hbm, ⟨55, _⟩ => ⟨S12x4096x128, .i32⟩
  | .hbm, ⟨56, _⟩ => ⟨S12x4096x128, .i32⟩
  | .hbm, ⟨57, _⟩ => ⟨S_, .i32⟩
  | .hbm, ⟨58, _⟩ => ⟨S12x4096x128, .i32⟩
  | .hbm, ⟨59, _⟩ => ⟨S12x4096x128, .i1⟩
  | .hbm, ⟨60, _⟩ => ⟨S12x4096x128, .f32⟩
  | .hbm, ⟨61, _⟩ => ⟨S12x4096x128, .f32⟩
  | .hbm, ⟨62, _⟩ => ⟨S12x4096x128, .f32⟩
  | .hbm, ⟨63, _⟩ => ⟨S12x4096x128, .bf16⟩
  | .hbm, ⟨64, _⟩ => ⟨S_, .i32⟩
  | .hbm, ⟨65, _⟩ => ⟨S_, .f32⟩
  | .hbm, ⟨66, _⟩ => ⟨S4096x128, .f32⟩
  | .hbm, ⟨67, _⟩ => ⟨S_, .i32⟩
  | .hbm, ⟨68, _⟩ => ⟨S_, .f32⟩
  | .hbm, ⟨69, _⟩ => ⟨S1x128, .f32⟩
  | .hbm, ⟨70, _⟩ => ⟨S1536x128, .i32⟩
  | .hbm, ⟨71, _⟩ => ⟨S1536x128, .i32⟩
  | .hbm, ⟨72, _⟩ => ⟨S_, .i32⟩
  | .hbm, ⟨73, _⟩ => ⟨S1536x128, .i32⟩
  | .hbm, ⟨74, _⟩ => ⟨S1536x128, .i32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i1⟩
  | .hbm, ⟨79, _⟩ => ⟨S_, .i32⟩
  | .hbm, ⟨80, _⟩ => ⟨S_, .i32⟩
  | .hbm, ⟨81, _⟩ => ⟨S1536x128, .i32⟩
  | .hbm, ⟨82, _⟩ => ⟨S1536x128, .i32⟩
  | .hbm, ⟨83, _⟩ => ⟨S_, .i32⟩
  | .hbm, ⟨84, _⟩ => ⟨S1536x128, .i32⟩
  | .hbm, ⟨85, _⟩ => ⟨S1536x128, .i1⟩
  | .hbm, ⟨86, _⟩ => ⟨S_, .i32⟩
  | .hbm, ⟨87, _⟩ => ⟨S1536x128, .i32⟩
  | .hbm, ⟨88, _⟩ => ⟨S1536x128, .i1⟩
  | .hbm, ⟨89, _⟩ => ⟨S_, .i32⟩
  | .hbm, ⟨90, _⟩ => ⟨S_, .i1⟩
  | .hbm, ⟨91, _⟩ => ⟨S1536x128, .i1⟩
  | .hbm, ⟨92, _⟩ => ⟨S1536x128, .i1⟩
  | .hbm, ⟨93, _⟩ => ⟨S1536x128, .i1⟩
  | .hbm, ⟨94, _⟩ => ⟨S1536x128, .i32⟩
  | .hbm, ⟨95, _⟩ => ⟨S1536x128, .i32⟩
  | .hbm, ⟨96, _⟩ => ⟨S1536x128, .i32⟩
  | .hbm, ⟨97, _⟩ => ⟨S_, .i32⟩
  | .hbm, ⟨98, _⟩ => ⟨S1536x128, .i32⟩
  | .hbm, ⟨99, _⟩ => ⟨S1536x128, .i1⟩
  | .hbm, ⟨100, _⟩ => ⟨S_, .i32⟩
  | .hbm, ⟨101, _⟩ => ⟨S_, .i32⟩
  | .hbm, ⟨102, _⟩ => ⟨S1536x128, .i32⟩
  | .hbm, ⟨103, _⟩ => ⟨S1536x128, .i32⟩
  | .hbm, ⟨104, _⟩ => ⟨S1536x128, .i32⟩
  | .hbm, ⟨105, _⟩ => ⟨S1536x128, .i32⟩
  | .hbm, ⟨106, _⟩ => ⟨S1536x128, .i32⟩
  | .hbm, ⟨107, _⟩ => ⟨S1536x128, .i1⟩
  | .hbm, ⟨108, _⟩ => ⟨S_, .i32⟩
  | .hbm, ⟨109, _⟩ => ⟨S1536x128, .i32⟩
  | .hbm, ⟨110, _⟩ => ⟨S1536x128, .i1⟩
  | .hbm, ⟨111, _⟩ => ⟨S1536x128, .i1⟩
  | .hbm, ⟨112, _⟩ => ⟨S_, .f32⟩
  | .hbm, ⟨113, _⟩ => ⟨S_, .f32⟩
  | .hbm, ⟨114, _⟩ => ⟨S1536x128, .f32⟩
  | .hbm, ⟨115, _⟩ => ⟨S1536x128, .f32⟩
  | .hbm, ⟨116, _⟩ => ⟨S1536x128, .f32⟩
  | .hbm, ⟨117, _⟩ => ⟨S1536x128, .bf16⟩
  | .hbm, ⟨118, _⟩ => ⟨S4096x2688, .bf16⟩
  | .hbm, ⟨119, _⟩ => ⟨S1x128, .f32⟩
  | .local _ .vmem, ⟨0, _⟩ => ⟨S12x256x128, .f32⟩
  | .local _ .vmem, ⟨1, _⟩ => ⟨S12x256x128, .f32⟩
  | .local _ .vmem, ⟨2, _⟩ => ⟨S12x256x128, .f32⟩
  | .local _ .vmem, ⟨3, _⟩ => ⟨S12x256x128, .f32⟩
  | .local _ .vmem, ⟨4, _⟩ => ⟨S12x256x128, .bf16⟩
  | .local _ .vmem, ⟨5, _⟩ => ⟨S12x256x128, .bf16⟩
  | .local _ .vmem, ⟨6, _⟩ => ⟨S256x256, .f32⟩
  | .local _ .vmem, ⟨7, _⟩ => ⟨S256x256, .f32⟩
  | .local _ .vmem, ⟨8, _⟩ => ⟨S256x128, .f32⟩
  | .local _ .vmem, ⟨9, _⟩ => ⟨S256x128, .f32⟩
  | .local _ .vmem, ⟨10, _⟩ => ⟨S1x128, .f32⟩
  | .local _ .vmem, ⟨11, _⟩ => ⟨S1536x128, .bf16⟩
  | .local _ .vmem, ⟨12, _⟩ => ⟨S256x2688, .bf16⟩
  | .local _ .vmem, ⟨13, _⟩ => ⟨S256x2688, .bf16⟩
  | .local _ .vmem, ⟨14, _⟩ => ⟨S1x128, .f32⟩
  | .local _ .vmem, ⟨15, _⟩ => ⟨S8x128, .f32⟩
  | _, _ => ⟨S4096x12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_9 : Ref sig .tc := ⟨.hbm, 54, rfl⟩
abbrev main_v35 : Ref sig .tc := ⟨.hbm, 55, rfl⟩
abbrev main_v36 : Ref sig .tc := ⟨.hbm, 56, rfl⟩
abbrev main_c_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_11 : Ref sig .tc := ⟨.hbm, 64, rfl⟩
abbrev main_call0_v0 : Ref sig .tc := ⟨.hbm, 65, rfl⟩
abbrev main_v43 : Ref sig .tc := ⟨.hbm, 66, rfl⟩
abbrev main_c_12 : Ref sig .tc := ⟨.hbm, 67, rfl⟩
abbrev main_call1_v0 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_13 : Ref sig .tc := ⟨.hbm, 72, rfl⟩
abbrev main_v47 : Ref sig .tc := ⟨.hbm, 73, rfl⟩
abbrev main_v48 : Ref sig .tc := ⟨.hbm, 74, rfl⟩
abbrev main_c_14 : Ref sig .tc := ⟨.hbm, 75, rfl⟩
abbrev main_call2_v0 : Ref sig .tc := ⟨.hbm, 76, rfl⟩
abbrev main_call2_c : Ref sig .tc := ⟨.hbm, 77, rfl⟩
abbrev main_call2_v1 : Ref sig .tc := ⟨.hbm, 78, rfl⟩
abbrev main_call2_c_0 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_c_1 : Ref sig .tc := ⟨.hbm, 83, rfl⟩
abbrev main_call2_v5 : Ref sig .tc := ⟨.hbm, 84, rfl⟩
abbrev main_call2_v6 : Ref sig .tc := ⟨.hbm, 85, rfl⟩
abbrev main_call2_c_2 : Ref sig .tc := ⟨.hbm, 86, rfl⟩
abbrev main_call2_v7 : Ref sig .tc := ⟨.hbm, 87, rfl⟩
abbrev main_call2_v8 : Ref sig .tc := ⟨.hbm, 88, rfl⟩
abbrev main_call2_c_3 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_v12 : Ref sig .tc := ⟨.hbm, 93, rfl⟩
abbrev main_call2_v13 : Ref sig .tc := ⟨.hbm, 94, rfl⟩
abbrev main_call2_v14 : Ref sig .tc := ⟨.hbm, 95, rfl⟩
abbrev main_v49 : Ref sig .tc := ⟨.hbm, 96, rfl⟩
abbrev main_c_15 : Ref sig .tc := ⟨.hbm, 97, rfl⟩
abbrev main_v50 : Ref sig .tc := ⟨.hbm, 98, rfl⟩
abbrev main_v51 : Ref sig .tc := ⟨.hbm, 99, rfl⟩
abbrev main_c_16 : Ref sig .tc := ⟨.hbm, 100, rfl⟩
abbrev main_c_17 : Ref sig .tc := ⟨.hbm, 101, rfl⟩
abbrev main_call3_v0 : Ref sig .tc := ⟨.hbm, 102, rfl⟩
abbrev main_call3_v1 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_c_18 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_cst_19 : Ref sig .tc := ⟨.hbm, 112, rfl⟩
abbrev main_cst_20 : Ref sig .tc := ⟨.hbm, 113, rfl⟩
abbrev main_call4_v0 : Ref sig .tc := ⟨.hbm, 114, rfl⟩
abbrev main_call4_v1 : Ref sig .tc := ⟨.hbm, 115, rfl⟩
abbrev main_v59 : Ref sig .tc := ⟨.hbm, 116, rfl⟩
abbrev main_v60 : Ref sig .tc := ⟨.hbm, 117, rfl⟩
abbrev main_v61_0 : Ref sig .tc := ⟨.hbm, 118, rfl⟩
abbrev main_v61_1 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S12x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S12x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1536x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2688 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== GateRefIdeal.lean ====
abbrev S4096x12x64 : Shape := ⟨3, ![4096, 12, 64]⟩
abbrev S4096x12 : Shape := ⟨2, ![4096, 12]⟩
abbrev S4096x256 : Shape := ⟨2, ![4096, 256]⟩
abbrev S1x12 : Shape := ⟨2, ![1, 12]⟩
abbrev S_ : Shape := ⟨0, ![]⟩
abbrev S4096x768 : Shape := ⟨2, ![4096, 768]⟩
abbrev S4096x4096 : Shape := ⟨2, ![4096, 4096]⟩
abbrev S12x4096 : Shape := ⟨2, ![12, 4096]⟩
abbrev S12 : Shape := ⟨1, ![12]⟩
abbrev S4096x116 : Shape := ⟨2, ![4096, 116]⟩
abbrev S4096x2688 : Shape := ⟨2, ![4096, 2688]⟩
abbrev S1x128 : Shape := ⟨2, ![1, 128]⟩

abbrev nBuf : Space → Nat
  | .hbm => 97
  | .vmem => 0
  | .smem => 0
  | _ => 0

abbrev bufTy : (tb : Table) → Fin (tcTables nBuf tb) → BufTy
  | .hbm, ⟨0, _⟩ => ⟨S4096x12x64, .f32⟩
  | .hbm, ⟨1, _⟩ => ⟨S4096x12x64, .f32⟩
  | .hbm, ⟨2, _⟩ => ⟨S4096x12x64, .f32⟩
  | .hbm, ⟨3, _⟩ => ⟨S4096x12, .f32⟩
  | .hbm, ⟨4, _⟩ => ⟨S4096x12, .f32⟩
  | .hbm, ⟨5, _⟩ => ⟨S4096x256, .f32⟩
  | .hbm, ⟨6, _⟩ => ⟨S4096x12, .f32⟩
  | .hbm, ⟨7, _⟩ => ⟨S1x12, .f32⟩
  | .hbm, ⟨8, _⟩ => ⟨S_, .f32⟩
  | .hbm, ⟨9, _⟩ => ⟨S4096x768, .f32⟩
  | .hbm, ⟨10, _⟩ => ⟨S4096x768, .f32⟩
  | .hbm, ⟨11, _⟩ => ⟨S4096x768, .f32⟩
  | .hbm, ⟨12, _⟩ => ⟨S4096x768, .f32⟩
  | .hbm, ⟨13, _⟩ => ⟨S4096x12, .f32⟩
  | .hbm, ⟨14, _⟩ => ⟨S4096x12, .f32⟩
  | .hbm, ⟨15, _⟩ => ⟨S4096x12, .f32⟩
  | .hbm, ⟨16, _⟩ => ⟨S4096x12, .f32⟩
  | .hbm, ⟨17, _⟩ => ⟨S_, .f32⟩
  | .hbm, ⟨18, _⟩ => ⟨S4096x12, .f32⟩
  | .hbm, ⟨19, _⟩ => ⟨S4096x12, .f32⟩
  | .hbm, ⟨20, _⟩ => ⟨S4096x12, .f32⟩
  | .hbm, ⟨21, _⟩ => ⟨S4096x12, .f32⟩
  | .hbm, ⟨22, _⟩ => ⟨S4096x12, .i1⟩
  | .hbm, ⟨23, _⟩ => ⟨S4096x12, .f32⟩
  | .hbm, ⟨24, _⟩ => ⟨S4096x12, .f32⟩
  | .hbm, ⟨25, _⟩ => ⟨S4096x12, .f32⟩
  | .hbm, ⟨26, _⟩ => ⟨S4096x12, .f32⟩
  | .hbm, ⟨27, _⟩ => ⟨S4096x12, .f32⟩
  | .hbm, ⟨28, _⟩ => ⟨S4096x12, .f32⟩
  | .hbm, ⟨29, _⟩ => ⟨S4096x12, .f32⟩
  | .hbm, ⟨30, _⟩ => ⟨S4096x12, .f32⟩
  | .hbm, ⟨31, _⟩ => ⟨S_, .f32⟩
  | .hbm, ⟨32, _⟩ => ⟨S4096x12, .f32⟩
  | .hbm, ⟨33, _⟩ => ⟨S4096x12, .i1⟩
  | .hbm, ⟨34, _⟩ => ⟨S_, .f32⟩
  | .hbm, ⟨35, _⟩ => ⟨S4096x12, .f32⟩
  | .hbm, ⟨36, _⟩ => ⟨S4096x12, .f32⟩
  | .hbm, ⟨37, _⟩ => ⟨S_, .f32⟩
  | .hbm, ⟨38, _⟩ => ⟨S4096x12, .f32⟩
  | .hbm, ⟨39, _⟩ => ⟨S4096x12, .i1⟩
  | .hbm, ⟨40, _⟩ => ⟨S_, .f32⟩
  | .hbm, ⟨41, _⟩ => ⟨S4096x12, .f32⟩
  | .hbm, ⟨42, _⟩ => ⟨S4096x12, .f32⟩
  | .hbm, ⟨43, _⟩ => ⟨S4096x12, .f32⟩
  | .hbm, ⟨44, _⟩ => ⟨S4096x12, .f32⟩
  | .hbm, ⟨45, _⟩ => ⟨S_, .f32⟩
  | .hbm, ⟨46, _⟩ => ⟨S_, .f32⟩
  | .hbm, ⟨47, _⟩ => ⟨S_, .i1⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S4096x12, .f32⟩
  | .hbm, ⟨53, _⟩ => ⟨S4096x12, .i1⟩
  | .hbm, ⟨54, _⟩ => ⟨S_, .f32⟩
  | .hbm, ⟨55, _⟩ => ⟨S4096x12, .f32⟩
  | .hbm, ⟨56, _⟩ => ⟨S4096x12, .f32⟩
  | .hbm, ⟨57, _⟩ => ⟨S4096x12, .f32⟩
  | .hbm, ⟨58, _⟩ => ⟨S4096x12, .f32⟩
  | .hbm, ⟨59, _⟩ => ⟨S4096x12, .f32⟩
  | .hbm, ⟨60, _⟩ => ⟨S_, .f32⟩
  | .hbm, ⟨61, _⟩ => ⟨S4096x12, .f32⟩
  | .hbm, ⟨62, _⟩ => ⟨S4096x12, .f32⟩
  | .hbm, ⟨63, _⟩ => ⟨S4096x12, .f32⟩
  | .hbm, ⟨64, _⟩ => ⟨S_, .f32⟩
  | .hbm, ⟨65, _⟩ => ⟨S4096x4096, .f32⟩
  | .hbm, ⟨66, _⟩ => ⟨S4096x4096, .i32⟩
  | .hbm, ⟨67, _⟩ => ⟨S_, .i32⟩
  | .hbm, ⟨68, _⟩ => ⟨S4096x4096, .i32⟩
  | .hbm, ⟨69, _⟩ => ⟨S4096x4096, .i32⟩
  | .hbm, ⟨70, _⟩ => ⟨S4096x4096, .i32⟩
  | .hbm, ⟨71, _⟩ => ⟨S4096x4096, .i1⟩
  | .hbm, ⟨72, _⟩ => ⟨S_, .f32⟩
  | .hbm, ⟨73, _⟩ => ⟨S4096x4096, .f32⟩
  | .hbm, ⟨74, _⟩ => ⟨S4096x4096, .f32⟩
  | .hbm, ⟨75, _⟩ => ⟨S4096x12, .f32⟩
  | .hbm, ⟨76, _⟩ => ⟨S_, .f32⟩
  | .hbm, ⟨77, _⟩ => ⟨S4096x768, .f32⟩
  | .hbm, ⟨78, _⟩ => ⟨S4096x768, .f32⟩
  | .hbm, ⟨79, _⟩ => ⟨S_, .f32⟩
  | .hbm, ⟨80, _⟩ => ⟨S4096x768, .f32⟩
  | .hbm, ⟨81, _⟩ => ⟨S4096x768, .f32⟩
  | .hbm, ⟨82, _⟩ => ⟨S12x4096, .f32⟩
  | .hbm, ⟨83, _⟩ => ⟨S4096x12, .f32⟩
  | .hbm, ⟨84, _⟩ => ⟨S4096x12, .f32⟩
  | .hbm, ⟨85, _⟩ => ⟨S4096x12, .f32⟩
  | .hbm, ⟨86, _⟩ => ⟨S4096x12, .f32⟩
  | .hbm, ⟨87, _⟩ => ⟨S_, .f32⟩
  | .hbm, ⟨88, _⟩ => ⟨S12, .f32⟩
  | .hbm, ⟨89, _⟩ => ⟨S1x12, .f32⟩
  | .hbm, ⟨90, _⟩ => ⟨S_, .f32⟩
  | .hbm, ⟨91, _⟩ => ⟨S4096x116, .f32⟩
  | .hbm, ⟨92, _⟩ => ⟨S4096x2688, .f32⟩
  | .hbm, ⟨93, _⟩ => ⟨S4096x2688, .bf16⟩
  | .hbm, ⟨94, _⟩ => ⟨S_, .i32⟩
  | .hbm, ⟨95, _⟩ => ⟨S_, .f32⟩
  | .hbm, ⟨96, _⟩ => ⟨S1x128, .f32⟩
  | _, _ => ⟨S4096x12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1_0 : Ref sig .tc := ⟨.hbm, 30, rfl⟩
abbrev main_call0_call0_cst_0 : Ref sig .tc := ⟨.hbm, 31, rfl⟩
abbrev main_call0_call0_v13 : Ref sig .tc := ⟨.hbm, 32, rfl⟩
abbrev main_call0_call0_v14 : Ref sig .tc := ⟨.hbm, 33, rfl⟩
abbrev main_call0_call0_cst_1 : Ref sig .tc := ⟨.hbm, 34, rfl⟩
abbrev main_call0_call0_v15 : Ref sig .tc := ⟨.hbm, 35, rfl⟩
abbrev main_call0_call0_v16 : Ref sig .tc := ⟨.hbm, 36, rfl⟩
abbrev main_call0_call0_cst_2 : Ref sig .tc := ⟨.hbm, 37, rfl⟩
abbrev main_call0_call0_v17 : Ref sig .tc := ⟨.hbm, 38, rfl⟩
abbrev main_call0_call0_v18 : Ref sig .tc := ⟨.hbm, 39, rfl⟩
abbrev main_call0_call0_cst_3 : Ref sig .tc := ⟨.hbm, 40, rfl⟩
abbrev main_call0_call0_v19 : Ref sig .tc := ⟨.hbm, 41, rfl⟩
abbrev main_call0_call0_v20 : Ref sig .tc := ⟨.hbm, 42, rfl⟩
abbrev main_call0_call0_v21 : Ref sig .tc := ⟨.hbm, 43, rfl⟩
abbrev main_v7_1 : Ref sig .tc := ⟨.hbm, 44, rfl⟩
abbrev main_call0_call0_cst_4 : Ref sig .tc := ⟨.hbm, 45, rfl⟩
abbrev main_call0_call0_cst_5 : Ref sig .tc := ⟨.hbm, 46, rfl⟩
abbrev main_call0_call0_v23 : Ref sig .tc := ⟨.hbm, 47, rfl⟩
abbrev main_call0_call0_cst_6 : Ref sig .tc := ⟨.hbm, 48, rfl⟩
abbrev main_call0_call0_cst_7 : Ref sig .tc := ⟨.hbm, 49, rfl⟩
abbrev main_call0_call0_v24 : Ref sig .tc := ⟨.hbm, 50, rfl⟩
abbrev main_call0_call0_cst_8 : Ref sig .tc := ⟨.hbm, 51, rfl⟩
abbrev main_call0_call0_v25 : Ref sig .tc := ⟨.hbm, 52, rfl⟩
abbrev main_call0_call0_v26 : Ref sig .tc := ⟨.hbm, 53, rfl⟩
abbrev main_call0_call0_cst_9 : Ref sig .tc := ⟨.hbm, 54, rfl⟩
abbrev main_call0_call0_v27 : Ref sig .tc := ⟨.hbm, 55, rfl⟩
abbrev main_call0_call0_v28 : Ref sig .tc := ⟨.hbm, 56, rfl⟩
abbrev main_call0_call0_v29 : Ref sig .tc := ⟨.hbm, 57, rfl⟩
abbrev main_call0_call0_v30 : Ref sig .tc := ⟨.hbm, 58, rfl⟩
abbrev main_call0_call0_v31 : Ref sig .tc := ⟨.hbm, 59, rfl⟩
abbrev main_call0_call0_cst_10 : Ref sig .tc := ⟨.hbm, 60, rfl⟩
abbrev main_call0_call0_v32 : Ref sig .tc := ⟨.hbm, 61, rfl⟩
abbrev main_v7_2 : Ref sig .tc := ⟨.hbm, 62, rfl⟩
abbrev main_v7_0 : Ref sig .tc := ⟨.hbm, 63, rfl⟩
abbrev main_cst_0 : Ref sig .tc := ⟨.hbm, 64, rfl⟩
abbrev main_v8 : Ref sig .tc := ⟨.hbm, 65, rfl⟩
abbrev main_call1_v0 : Ref sig .tc := ⟨.hbm, 66, rfl⟩
abbrev main_call1_c : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_cst : Ref sig .tc := ⟨.hbm, 72, rfl⟩
abbrev main_call1_v5 : Ref sig .tc := ⟨.hbm, 73, rfl⟩
abbrev main_v9 : Ref sig .tc := ⟨.hbm, 74, rfl⟩
abbrev main_v10 : Ref sig .tc := ⟨.hbm, 75, rfl⟩
abbrev main_cst_1 : Ref sig .tc := ⟨.hbm, 76, rfl⟩
abbrev main_v11 : Ref sig .tc := ⟨.hbm, 77, rfl⟩
abbrev main_v12 : Ref sig .tc := ⟨.hbm, 78, rfl⟩
abbrev main_cst_2 : Ref sig .tc := ⟨.hbm, 79, rfl⟩
abbrev main_v13 : Ref sig .tc := ⟨.hbm, 80, rfl⟩
abbrev main_v14 : Ref sig .tc := ⟨.hbm, 81, rfl⟩
abbrev main_v15 : Ref sig .tc := ⟨.hbm, 82, rfl⟩
abbrev main_v16 : Ref sig .tc := ⟨.hbm, 83, rfl⟩
abbrev main_call2_v0 : Ref sig .tc := ⟨.hbm, 84, rfl⟩
abbrev main_call2_v1 : Ref sig .tc := ⟨.hbm, 85, rfl⟩
abbrev main_v17 : Ref sig .tc := ⟨.hbm, 86, rfl⟩
abbrev main_cst_3 : Ref sig .tc := ⟨.hbm, 87, rfl⟩
abbrev main_v18 : Ref sig .tc := ⟨.hbm, 88, rfl⟩
abbrev main_v19 : Ref sig .tc := ⟨.hbm, 89, rfl⟩
abbrev main_cst_4 : Ref sig .tc := ⟨.hbm, 90, rfl⟩
abbrev main_v20 : Ref sig .tc := ⟨.hbm, 91, rfl⟩
abbrev main_v21 : Ref sig .tc := ⟨.hbm, 92, rfl⟩
abbrev main_v22 : Ref sig .tc := ⟨.hbm, 93, rfl⟩
abbrev main_c : Ref sig .tc := ⟨.hbm, 94, rfl⟩
abbrev main_call3_v0 : Ref sig .tc := ⟨.hbm, 95, rfl⟩
abbrev main_v23 : Ref sig .tc := ⟨.hbm, 96, rfl⟩

abbrev nD : Nat := 1
abbrev τ : Topo := Topo.v7x

variable {F : FTy → Type} [FloatOps F]
-- ==== Mix.lean ====
abbrev S4096x1024 : Shape := ⟨2, ![4096, 1024]⟩
abbrev S1024x1024 : Shape := ⟨2, ![1024, 1024]⟩
abbrev S1x1024 : Shape := ⟨2, ![1, 1024]⟩
abbrev S4096x256 : Shape := ⟨2, ![4096, 256]⟩
abbrev S12x4096x128 : Shape := ⟨3, ![12, 4096, 128]⟩
abbrev S512x1024 : Shape := ⟨2, ![512, 1024]⟩
abbrev S512x256 : Shape := ⟨2, ![512, 256]⟩
abbrev S12x512x128 : Shape := ⟨3, ![12, 512, 128]⟩
abbrev S512 : Shape := ⟨1, ![512]⟩
abbrev S512x1 : Shape := ⟨2, ![512, 1]⟩
abbrev S1024 : Shape := ⟨1, ![1024]⟩
abbrev S512x128 : Shape := ⟨2, ![512, 128]⟩
abbrev S1x512x128 : Shape := ⟨3, ![1, 512, 128]⟩
abbrev S12x4096x1 : Shape := ⟨3, ![12, 4096, 1]⟩
abbrev S_ : Shape := ⟨0, ![]⟩
abbrev S12x4096x64 : Shape := ⟨3, ![12, 4096, 64]⟩
abbrev S4096x12x64 : Shape := ⟨3, ![4096, 12, 64]⟩
abbrev S12x4096 : Shape := ⟨2, ![12, 4096]⟩
abbrev S4096x12 : Shape := ⟨2, ![4096, 12]⟩

abbrev nBuf : Space → Nat
  | .hbm => 71
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .hbm, ⟨7, _⟩ => ⟨S1024x1024, .f32⟩
  | .hbm, ⟨8, _⟩ => ⟨S4096x1024, .f32⟩
  | .hbm, ⟨9, _⟩ => ⟨S4096x1024, .bf16⟩
  | .hbm, ⟨10, _⟩ => ⟨S1024x1024, .bf16⟩
  | .hbm, ⟨11, _⟩ => ⟨S1024x1024, .bf16⟩
  | .hbm, ⟨12, _⟩ => ⟨S4096x1024, .bf16⟩
  | .hbm, ⟨13, _⟩ => ⟨S4096x1024, .f32⟩
  | .hbm, ⟨14, _⟩ => ⟨S4096x1024, .bf16⟩
  | .hbm, ⟨15, _⟩ => ⟨S1x1024, .f32⟩
  | .hbm, ⟨16, _⟩ => ⟨S1x1024, .f32⟩
  | .hbm, ⟨17, _⟩ => ⟨S4096x256, .f32⟩
  | .hbm, ⟨18, _⟩ => ⟨S12x4096x128, .bf16⟩
  | .hbm, ⟨19, _⟩ => ⟨S12x4096x1, .i32⟩
  | .hbm, ⟨20, _⟩ => ⟨S_, .i32⟩
  | .hbm, ⟨21, _⟩ => ⟨S12x4096x1, .i32⟩
  | .hbm, ⟨22, _⟩ => ⟨S12x4096x1, .i32⟩
  | .hbm, ⟨23, _⟩ => ⟨S_, .i32⟩
  | .hbm, ⟨24, _⟩ => ⟨S12x4096x1, .i32⟩
  | .hbm, ⟨25, _⟩ => ⟨S12x4096x1, .i1⟩
  | .hbm, ⟨26, _⟩ => ⟨S12x4096x1, .bf16⟩
  | .hbm, ⟨27, _⟩ => ⟨S12x4096x1, .bf16⟩
  | .hbm, ⟨28, _⟩ => ⟨S12x4096x1, .bf16⟩
  | .hbm, ⟨29, _⟩ => ⟨S12x4096x1, .f32⟩
  | .hbm, ⟨30, _⟩ => ⟨S_, .f32⟩
  | .hbm, ⟨31, _⟩ => ⟨S12x4096x1, .f32⟩
  | .hbm, ⟨32, _⟩ => ⟨S12x4096x1, .f32⟩
  | .hbm, ⟨33, _⟩ => ⟨S12x4096x1, .i32⟩
  | .hbm, ⟨34, _⟩ => ⟨S_, .i32⟩
  | .hbm, ⟨35, _⟩ => ⟨S12x4096x1, .i32⟩
  | .hbm, ⟨36, _⟩ => ⟨S12x4096x1, .i32⟩
  | .hbm, ⟨37, _⟩ => ⟨S_, .i32⟩
  | .hbm, ⟨38, _⟩ => ⟨S12x4096x1, .i32⟩
  | .hbm, ⟨39, _⟩ => ⟨S12x4096x1, .i1⟩
  | .hbm, ⟨40, _⟩ => ⟨S12x4096x1, .bf16⟩
  | .hbm, ⟨41, _⟩ => ⟨S12x4096x1, .bf16⟩
  | .hbm, ⟨42, _⟩ => ⟨S12x4096x1, .bf16⟩
  | .hbm, ⟨43, _⟩ => ⟨S12x4096x1, .f32⟩
  | .hbm, ⟨44, _⟩ => ⟨S12x4096x1, .f32⟩
  | .hbm, ⟨45, _⟩ => ⟨S12x4096x1, .i32⟩
  | .hbm, ⟨46, _⟩ => ⟨S_, .i32⟩
  | .hbm, ⟨47, _⟩ => ⟨S12x4096x1, .i32⟩
  | .hbm, ⟨48, _⟩ => ⟨S12x4096x1, .i32⟩
  | .hbm, ⟨49, _⟩ => ⟨S_, .i32⟩
  | .hbm, ⟨50, _⟩ => ⟨S12x4096x1, .i32⟩
  | .hbm, ⟨51, _⟩ => ⟨S12x4096x1, .i1⟩
  | .hbm, ⟨52, _⟩ => ⟨S12x4096x1, .bf16⟩
  | .hbm, ⟨53, _⟩ => ⟨S12x4096x1, .bf16⟩
  | .hbm, ⟨54, _⟩ => ⟨S12x4096x1, .bf16⟩
  | .hbm, ⟨55, _⟩ => ⟨S12x4096x1, .f32⟩
  | .hbm, ⟨56, _⟩ => ⟨S12x4096x1, .f32⟩
  | .hbm, ⟨57, _⟩ => ⟨S12x4096x64, .i32⟩
  | .hbm, ⟨58, _⟩ => ⟨S_, .i32⟩
  | .hbm, ⟨59, _⟩ => ⟨S12x4096x64, .i32⟩
  | .hbm, ⟨60, _⟩ => ⟨S12x4096x64, .i32⟩
  | .hbm, ⟨61, _⟩ => ⟨S_, .i32⟩
  | .hbm, ⟨62, _⟩ => ⟨S12x4096x64, .i32⟩
  | .hbm, ⟨63, _⟩ => ⟨S12x4096x64, .i1⟩
  | .hbm, ⟨64, _⟩ => ⟨S12x4096x64, .bf16⟩
  | .hbm, ⟨65, _⟩ => ⟨S12x4096x64, .bf16⟩
  | .hbm, ⟨66, _⟩ => ⟨S12x4096x64, .bf16⟩
  | .hbm, ⟨67, _⟩ => ⟨S12x4096x64, .f32⟩
  | .hbm, ⟨68, _⟩ => ⟨S4096x12x64, .f32⟩
  | .hbm, ⟨69, _⟩ => ⟨S12x4096, .f32⟩
  | .hbm, ⟨70, _⟩ => ⟨S4096x12, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1024x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | .local _ .vmem, ⟨19, _⟩ => ⟨S1x1024, .f32⟩
  | .local _ .vmem, ⟨20, _⟩ => ⟨S512x256, .f32⟩
  | .local _ .vmem, ⟨21, _⟩ => ⟨S512x256, .f32⟩
  | .local _ .vmem, ⟨22, _⟩ => ⟨S12x512x128, .bf16⟩
  | .local _ .vmem, ⟨23, _⟩ => ⟨S12x512x128, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev main_v4_5 : Ref sig .tc := ⟨.hbm, 18, rfl⟩
abbrev main_v5 : Ref sig .tc := ⟨.hbm, 19, rfl⟩
abbrev main_c : Ref sig .tc := ⟨.hbm, 20, rfl⟩
abbrev main_v6 : Ref sig .tc := ⟨.hbm, 21, rfl⟩
abbrev main_v7 : Ref sig .tc := ⟨.hbm, 22, rfl⟩
abbrev main_c_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_1 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_3 : Ref sig .tc := ⟨.hbm, 46, rfl⟩
abbrev main_v27 : Ref sig .tc := ⟨.hbm, 47, rfl⟩
abbrev main_v28 : Ref sig .tc := ⟨.hbm, 48, rfl⟩
abbrev main_c_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_5 : Ref sig .tc := ⟨.hbm, 58, rfl⟩
abbrev main_v37 : Ref sig .tc := ⟨.hbm, 59, rfl⟩
abbrev main_v38 : Ref sig .tc := ⟨.hbm, 60, rfl⟩
abbrev main_c_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S12x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MixRefIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S4096x768 : Shape := ⟨2, ![4096, 768]⟩
abbrev S4096x12x64 : Shape := ⟨3, ![4096, 12, 64]⟩
abbrev S4096x12 : Shape := ⟨2, ![4096, 12]⟩
abbrev S4096x256 : Shape := ⟨2, ![4096, 256]⟩

abbrev nBuf : Space → Nat
  | .hbm => 107
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .hbm, ⟨7, _⟩ => ⟨S1024x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S4096, .f32⟩
  | .hbm, ⟨82, _⟩ => ⟨S4096x1, .f32⟩
  | .hbm, ⟨83, _⟩ => ⟨S4096x1024, .f32⟩
  | .hbm, ⟨84, _⟩ => ⟨S4096x1024, .f32⟩
  | .hbm, ⟨85, _⟩ => ⟨S4096x1, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S_, .f32⟩
  | .hbm, ⟨90, _⟩ => ⟨S4096, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S1024x1024, .f32⟩
  | .hbm, ⟨97, _⟩ => ⟨S4096x1024, .f32⟩
  | .hbm, ⟨98, _⟩ => ⟨S4096x768, .f32⟩
  | .hbm, ⟨99, _⟩ => ⟨S4096x12x64, .f32⟩
  | .hbm, ⟨100, _⟩ => ⟨S4096x768, .f32⟩
  | .hbm, ⟨101, _⟩ => ⟨S4096x12x64, .f32⟩
  | .hbm, ⟨102, _⟩ => ⟨S4096x12x64, .f32⟩
  | .hbm, ⟨103, _⟩ => ⟨S_, .f32⟩
  | .hbm, ⟨104, _⟩ => ⟨S4096x12, .f32⟩
  | .hbm, ⟨105, _⟩ => ⟨S4096x1024, .bf16⟩
  | .hbm, ⟨106, _⟩ => ⟨S4096x256, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_15 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩

abbrev nD : Nat := 1
abbrev τ : Topo := Topo.v7x

variable {F : FTy → Type} [FloatOps F]
-- ==== FoxFwd.lean ====
abbrev S4096x12x64 : Shape := ⟨3, ![4096, 12, 64]⟩
abbrev S4096x12 : Shape := ⟨2, ![4096, 12]⟩
abbrev S12x4096x64 : Shape := ⟨3, ![12, 4096, 64]⟩
abbrev S_ : Shape := ⟨0, ![]⟩
abbrev S12x4096x1 : Shape := ⟨3, ![12, 4096, 1]⟩
abbrev S12x4096x3 : Shape := ⟨3, ![12, 4096, 3]⟩
abbrev S12x4096 : Shape := ⟨2, ![12, 4096]⟩
abbrev S12x4096x54 : Shape := ⟨3, ![12, 4096, 54]⟩
abbrev S12x4096x128 : Shape := ⟨3, ![12, 4096, 128]⟩
abbrev S12x4096x60 : Shape := ⟨3, ![12, 4096, 60]⟩
abbrev S4096x1024 : Shape := ⟨2, ![4096, 1024]⟩
abbrev S2x1024x128 : Shape := ⟨3, ![2, 1024, 128]⟩
abbrev S2x4096x128 : Shape := ⟨3, ![2, 4096, 128]⟩
abbrev S1024x128 : Shape := ⟨2, ![1024, 128]⟩
abbrev S1024x1024 : Shape := ⟨2, ![1024, 1024]⟩
abbrev S1x1024x128 : Shape := ⟨3, ![1, 1024, 128]⟩
abbrev S1024 : Shape := ⟨1, ![1024]⟩
abbrev S1024x1 : Shape := ⟨2, ![1024, 1]⟩
abbrev S4096x768 : Shape := ⟨2, ![4096, 768]⟩

abbrev nBuf : Space → Nat
  | .hbm => 120
  | .vmem => 12
  | .smem => 0
  | _ => 0

abbrev bufTy : (tb : Table) → Fin (tcTables nBuf tb) → BufTy
  | .hbm, ⟨0, _⟩ => ⟨S4096x12x64, .f32⟩
  | .hbm, ⟨1, _⟩ => ⟨S4096x12x64, .f32⟩
  | .hbm, ⟨2, _⟩ => ⟨S4096x12x64, .f32⟩
  | .hbm, ⟨3, _⟩ => ⟨S4096x12, .f32⟩
  | .hbm, ⟨4, _⟩ => ⟨S12x4096x64, .f32⟩
  | .hbm, ⟨5, _⟩ => ⟨S12x4096x64, .f32⟩
  | .hbm, ⟨6, _⟩ => ⟨S12x4096x64, .f32⟩
  | .hbm, ⟨7, _⟩ => ⟨S_, .f32⟩
  | .hbm, ⟨8, _⟩ => ⟨S12x4096x1, .f32⟩
  | .hbm, ⟨9, _⟩ => ⟨S_, .f32⟩
  | .hbm, ⟨10, _⟩ => ⟨S12x4096x3, .f32⟩
  | .hbm, ⟨11, _⟩ => ⟨S12x4096, .f32⟩
  | .hbm, ⟨12, _⟩ => ⟨S12x4096x1, .f32⟩
  | .hbm, ⟨13, _⟩ => ⟨S12x4096x1, .bf16⟩
  | .hbm, ⟨14, _⟩ => ⟨S12x4096x1, .f32⟩
  | .hbm, ⟨15, _⟩ => ⟨S12x4096x1, .f32⟩
  | .hbm, ⟨16, _⟩ => ⟨S12x4096x1, .bf16⟩
  | .hbm, ⟨17, _⟩ => ⟨S12x4096x1, .f32⟩
  | .hbm, ⟨18, _⟩ => ⟨S12x4096x1, .f32⟩
  | .hbm, ⟨19, _⟩ => ⟨S12x4096x1, .bf16⟩
  | .hbm, ⟨20, _⟩ => ⟨S12x4096x1, .f32⟩
  | .hbm, ⟨21, _⟩ => ⟨S12x4096x1, .f32⟩
  | .hbm, ⟨22, _⟩ => ⟨S12x4096x1, .f32⟩
  | .hbm, ⟨23, _⟩ => ⟨S_, .f32⟩
  | .hbm, ⟨24, _⟩ => ⟨S12x4096x64, .f32⟩
  | .hbm, ⟨25, _⟩ => ⟨S12x4096x64, .f32⟩
  | .hbm, ⟨26, _⟩ => ⟨S_, .f32⟩
  | .hbm, ⟨27, _⟩ => ⟨S12x4096x3, .f32⟩
  | .hbm, ⟨28, _⟩ => ⟨S_, .f32⟩
  | .hbm, ⟨29, _⟩ => ⟨S12x4096x54, .f32⟩
  | .hbm, ⟨30, _⟩ => ⟨S12x4096x64, .f32⟩
  | .hbm, ⟨31, _⟩ => ⟨S12x4096x128, .i32⟩
  | .hbm, ⟨32, _⟩ => ⟨S_, .i32⟩
  | .hbm, ⟨33, _⟩ => ⟨S12x4096x128, .i32⟩
  | .hbm, ⟨34, _⟩ => ⟨S12x4096x128, .i32⟩
  | .hbm, ⟨35, _⟩ => ⟨S_, .i32⟩
  | .hbm, ⟨36, _⟩ => ⟨S12x4096x128, .i32⟩
  | .hbm, ⟨37, _⟩ => ⟨S12x4096x128, .i1⟩
  | .hbm, ⟨38, _⟩ => ⟨S12x4096x128, .f32⟩
  | .hbm, ⟨39, _⟩ => ⟨S12x4096x128, .f32⟩
  | .hbm, ⟨40, _⟩ => ⟨S12x4096x128, .f32⟩
  | .hbm, ⟨41, _⟩ => ⟨S12x4096x128, .bf16⟩
  | .hbm, ⟨42, _⟩ => ⟨S12x4096x1, .f32⟩
  | .hbm, ⟨43, _⟩ => ⟨S12x4096x1, .f32⟩
  | .hbm, ⟨44, _⟩ => ⟨S12x4096x1, .f32⟩
  | .hbm, ⟨45, _⟩ => ⟨S_, .f32⟩
  | .hbm, ⟨46, _⟩ => ⟨S12x4096x54, .f32⟩
  | .hbm, ⟨47, _⟩ => ⟨S12x4096x64, .f32⟩
  | .hbm, ⟨48, _⟩ => ⟨S12x4096x128, .i32⟩
  | .hbm, ⟨49, _⟩ => ⟨S_, .i32⟩
  | .hbm, ⟨50, _⟩ => ⟨S12x4096x128, .i32⟩
  | .hbm, ⟨51, _⟩ => ⟨S12x4096x128, .i32⟩
  | .hbm, ⟨52, _⟩ => ⟨S_, .i32⟩
  | .hbm, ⟨53, _⟩ => ⟨S12x4096x128, .i32⟩
  | .hbm, ⟨54, _⟩ => ⟨S12x4096x128, .i1⟩
  | .hbm, ⟨55, _⟩ => ⟨S12x4096x128, .f32⟩
  | .hbm, ⟨56, _⟩ => ⟨S12x4096x128, .f32⟩
  | .hbm, ⟨57, _⟩ => ⟨S12x4096x128, .f32⟩
  | .hbm, ⟨58, _⟩ => ⟨S12x4096x128, .bf16⟩
  | .hbm, ⟨59, _⟩ => ⟨S12x4096x3, .f32⟩
  | .hbm, ⟨60, _⟩ => ⟨S_, .f32⟩
  | .hbm, ⟨61, _⟩ => ⟨S12x4096x60, .f32⟩
  | .hbm, ⟨62, _⟩ => ⟨S12x4096x64, .f32⟩
  | .hbm, ⟨63, _⟩ => ⟨S12x4096x128, .i32⟩
  | .hbm, ⟨64, _⟩ => ⟨S_, .i32⟩
  | .hbm, ⟨65, _⟩ => ⟨S12x4096x128, .i32⟩
  | .hbm, ⟨66, _⟩ => ⟨S12x4096x128, .i32⟩
  | .hbm, ⟨67, _⟩ => ⟨S_, .i32⟩
  | .hbm, ⟨68, _⟩ => ⟨S12x4096x128, .i32⟩
  | .hbm, ⟨69, _⟩ => ⟨S12x4096x128, .i1⟩
  | .hbm, ⟨70, _⟩ => ⟨S12x4096x128, .f32⟩
  | .hbm, ⟨71, _⟩ => ⟨S12x4096x128, .f32⟩
  | .hbm, ⟨72, _⟩ => ⟨S12x4096x128, .f32⟩
  | .hbm, ⟨73, _⟩ => ⟨S12x4096x128, .bf16⟩
  | .hbm, ⟨74, _⟩ => ⟨S4096x1024, .bf16⟩
  | .hbm, ⟨75, _⟩ => ⟨S12x4096x128, .bf16⟩
  | .hbm, ⟨76, _⟩ => ⟨S12x4096x1, .i32⟩
  | .hbm, ⟨77, _⟩ => ⟨S_, .i32⟩
  | .hbm, ⟨78, _⟩ => ⟨S12x4096x1, .i32⟩
  | .hbm, ⟨79, _⟩ => ⟨S12x4096x1, .i32⟩
  | .hbm, ⟨80, _⟩ => ⟨S_, .i32⟩
  | .hbm, ⟨81, _⟩ => ⟨S12x4096x1, .i32⟩
  | .hbm, ⟨82, _⟩ => ⟨S12x4096x1, .i1⟩
  | .hbm, ⟨83, _⟩ => ⟨S12x4096x1, .bf16⟩
  | .hbm, ⟨84, _⟩ => ⟨S12x4096x1, .bf16⟩
  | .hbm, ⟨85, _⟩ => ⟨S12x4096x1, .bf16⟩
  | .hbm, ⟨86, _⟩ => ⟨S12x4096x1, .f32⟩
  | .hbm, ⟨87, _⟩ => ⟨S_, .f32⟩
  | .hbm, ⟨88, _⟩ => ⟨S12x4096x1, .f32⟩
  | .hbm, ⟨89, _⟩ => ⟨S12x4096x1, .f32⟩
  | .hbm, ⟨90, _⟩ => ⟨S12x4096x1, .i32⟩
  | .hbm, ⟨91, _⟩ => ⟨S_, .i32⟩
  | .hbm, ⟨92, _⟩ => ⟨S12x4096x1, .i32⟩
  | .hbm, ⟨93, _⟩ => ⟨S12x4096x1, .i32⟩
  | .hbm, ⟨94, _⟩ => ⟨S_, .i32⟩
  | .hbm, ⟨95, _⟩ => ⟨S12x4096x1, .i32⟩
  | .hbm, ⟨96, _⟩ => ⟨S12x4096x1, .i1⟩
  | .hbm, ⟨97, _⟩ => ⟨S12x4096x1, .bf16⟩
  | .hbm, ⟨98, _⟩ => ⟨S12x4096x1, .bf16⟩
  | .hbm, ⟨99, _⟩ => ⟨S12x4096x1, .bf16⟩
  | .hbm, ⟨100, _⟩ => ⟨S12x4096x1, .f32⟩
  | .hbm, ⟨101, _⟩ => ⟨S12x4096x1, .f32⟩
  | .hbm, ⟨102, _⟩ => ⟨S12x4096x1, .i32⟩
  | .hbm, ⟨103, _⟩ => ⟨S_, .i32⟩
  | .hbm, ⟨104, _⟩ => ⟨S12x4096x1, .i32⟩
  | .hbm, ⟨105, _⟩ => ⟨S12x4096x1, .i32⟩
  | .hbm, ⟨106, _⟩ => ⟨S_, .i32⟩
  | .hbm, ⟨107, _⟩ => ⟨S12x4096x1, .i32⟩
  | .hbm, ⟨108, _⟩ => ⟨S12x4096x1, .i1⟩
  | .hbm, ⟨109, _⟩ => ⟨S12x4096x1, .bf16⟩
  | .hbm, ⟨110, _⟩ => ⟨S12x4096x1, .bf16⟩
  | .hbm, ⟨111, _⟩ => ⟨S12x4096x1, .bf16⟩
  | .hbm, ⟨112, _⟩ => ⟨S12x4096x1, .f32⟩
  | .hbm, ⟨113, _⟩ => ⟨S12x4096x1, .f32⟩
  | .hbm, ⟨114, _⟩ => ⟨S12x4096x1, .f32⟩
  | .hbm, ⟨115, _⟩ => ⟨S4096x768, .bf16⟩
  | .hbm, ⟨116, _⟩ => ⟨S12x4096, .f32⟩
  | .hbm, ⟨117, _⟩ => ⟨S_, .f32⟩
  | .hbm, ⟨118, _⟩ => ⟨S12x4096, .f32⟩
  | .hbm, ⟨119, _⟩ => ⟨S12x4096, .f32⟩
  | .local _ .vmem, ⟨0, _⟩ => ⟨S2x1024x128, .bf16⟩
  | .local _ .vmem, ⟨1, _⟩ => ⟨S2x1024x128, .bf16⟩
  | .local _ .vmem, ⟨2, _⟩ => ⟨S2x4096x128, .bf16⟩
  | .local _ .vmem, ⟨3, _⟩ => ⟨S2x4096x128, .bf16⟩
  | .local _ .vmem, ⟨4, _⟩ => ⟨S2x4096x128, .bf16⟩
  | .local _ .vmem, ⟨5, _⟩ => ⟨S2x4096x128, .bf16⟩
  | .local _ .vmem, ⟨6, _⟩ => ⟨S1024x128, .bf16⟩
  | .local _ .vmem, ⟨7, _⟩ => ⟨S1024x128, .bf16⟩
  | .local _ .vmem, ⟨8, _⟩ => ⟨S2x1024x128, .bf16⟩
  | .local _ .vmem, ⟨9, _⟩ => ⟨S2x1024x128, .bf16⟩
  | .local _ .vmem, ⟨10, _⟩ => ⟨S2x1024x128, .f32⟩
  | .local _ .vmem, ⟨11, _⟩ => ⟨S2x1024x128, .f32⟩
  | _, _ => ⟨S4096x12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c : Ref sig .tc := ⟨.hbm, 32, rfl⟩
abbrev main_v23 : Ref sig .tc := ⟨.hbm, 33, rfl⟩
abbrev main_v24 : Ref sig .tc := ⟨.hbm, 34, rfl⟩
abbrev main_c_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_6 : Ref sig .tc := ⟨.hbm, 49, rfl⟩
abbrev main_v37 : Ref sig .tc := ⟨.hbm, 50, rfl⟩
abbrev main_v38 : Ref sig .tc := ⟨.hbm, 51, rfl⟩
abbrev main_c_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_c_9 : Ref sig .tc := ⟨.hbm, 64, rfl⟩
abbrev main_v49 : Ref sig .tc := ⟨.hbm, 65, rfl⟩
abbrev main_v50 : Ref sig .tc := ⟨.hbm, 66, rfl⟩
abbrev main_c_10 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57_0 : Ref sig .tc := ⟨.hbm, 74, rfl⟩
abbrev main_v57_1 : Ref sig .tc := ⟨.hbm, 75, rfl⟩
abbrev main_v58 : Ref sig .tc := ⟨.hbm, 76, rfl⟩
abbrev main_c_11 : Ref sig .tc := ⟨.hbm, 77, rfl⟩
abbrev main_v59 : Ref sig .tc := ⟨.hbm, 78, rfl⟩
abbrev main_v60 : Ref sig .tc := ⟨.hbm, 79, rfl⟩
abbrev main_c_12 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_13 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_c_14 : Ref sig .tc := ⟨.hbm, 91, rfl⟩
abbrev main_v70 : Ref sig .tc := ⟨.hbm, 92, rfl⟩
abbrev main_v71 : Ref sig .tc := ⟨.hbm, 93, rfl⟩
abbrev main_c_15 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_c_16 : Ref sig .tc := ⟨.hbm, 103, rfl⟩
abbrev main_v80 : Ref sig .tc := ⟨.hbm, 104, rfl⟩
abbrev main_v81 : Ref sig .tc := ⟨.hbm, 105, rfl⟩
abbrev main_c_17 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_cst_18 : Ref sig .tc := ⟨.hbm, 117, rfl⟩
abbrev main_v92 : Ref sig .tc := ⟨.hbm, 118, rfl⟩
abbrev main_v93 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![6, 4], ![false, false]⟩

@[reducible] def k0_t1_loop (i : grid0.Coords) : Scf.Loop 32 :=
  let c0_i32_6 : BitVec 32 := 0#32
  let arg1 : BitVec 32 := BitVec.ofNat 32 (i 1).val
  let v12 : BitVec 32 := Scalar.subi arg1 c0_i32_6
  let c1_i32 : BitVec 32 := 1#32
  let v14 : BitVec 32 := Scalar.divsi v12 c1_i32
  let v15 : BitVec 32 := Scalar.muli v14 c1_i32
  let v16 : BitVec 32 := Scalar.addi c0_i32_6 v15
  let c1_i32_7 : BitVec 32 := 1#32
  ⟨c0_i32_6, v16, c1_i32_7⟩
def k0_mult1 (i : grid0.Coords) (k0_t1 : Fin (k0_t1_loop i).trips) : BitVec 32 :=
  let c0_i32_6 : BitVec 32 := 0#32
  let c1_i32_7 : BitVec 32 := 1#32
  let arg9 : BitVec 32 := Scf.iv c0_i32_6 c1_i32_7 k0_t1
  let c1024_i32_84 : BitVec 32 := 1024#32
  let v162 : BitVec 32 := Scalar.muli arg9 c1024_i32_84
  v162
def k0_off1 (i : grid0.Coords) (k0_t1 : Fin (k0_t1_loop i).trips) : Fin 3 → Nat :=
  let c0_88 : Index := 0#32
  let c0_i32_6 : BitVec 32 := 0#32
  let c1_i32_7 : BitVec 32 := 1#32
  let arg9 : BitVec 32 := Scf.iv c0_i32_6 c1_i32_7 k0_t1
  let c1024_i32_84 : BitVec 32 := 1024#32
  let v162 : BitVec 32 := Scalar.muli arg9 c1024_i32_84
  let v163 : BitVec 32 := v162
  let v166 : Index := Scalar.indexCast v163
  let c0_89 : Index := 0#32
  ![0, v166.toNat, 0]
def k0_off2 (i : grid0.Coords) (k0_t1 : Fin (k0_t1_loop i).trips) : Fin 3 → Nat :=
  let c1_110 : Index := 1#32
  let c0_i32_6 : BitVec 32 := 0#32
  let c1_i32_7 : BitVec 32 := 1#32
  let arg9 : BitVec 32 := Scf.iv c0_i32_6 c1_i32_7 k0_t1
  let c1024_i32_84 : BitVec 32 := 1024#32
  let v162 : BitVec 32 := Scalar.muli arg9 c1024_i32_84
  let v163 : BitVec 32 := v162
  let v198 : Index := Scalar.indexCast v163
  let c0_111 : Index := 0#32
  ![1, v198.toNat, 0]
@[reducible] def k0_t2_loop (i : grid0.Coords) : Scf.Loop 32 :=
  let c0_i32_6 : BitVec 32 := 0#32
  let arg1 : BitVec 32 := BitVec.ofNat 32 (i 1).val
  let v12 : BitVec 32 := Scalar.subi arg1 c0_i32_6
  let c1_i32 : BitVec 32 := 1#32
  let v14 : BitVec 32 := Scalar.divsi v12 c1_i32
  let v15 : BitVec 32 := Scalar.muli v14 c1_i32
  let v16 : BitVec 32 := Scalar.addi c0_i32_6 v15
  let v13 : BitVec 32 := Scalar.addi c0_i32_6 v12
  let c1_i32_8 : BitVec 32 := 1#32
  ⟨v16, v13, c1_i32_8⟩
def k0_mult2 (i : grid0.Coords) (k0_t2 : Fin (k0_t2_loop i).trips) : BitVec 32 :=
  let c0_i32_6 : BitVec 32 := 0#32
  let arg1 : BitVec 32 := BitVec.ofNat 32 (i 1).val
  let v12 : BitVec 32 := Scalar.subi arg1 c0_i32_6
  let c1_i32 : BitVec 32 := 1#32
  let v14 : BitVec 32 := Scalar.divsi v12 c1_i32
  let v15 : BitVec 32 := Scalar.muli v14 c1_i32
  let v16 : BitVec 32 := Scalar.addi c0_i32_6 v15
  let c1_i32_8 : BitVec 32 := 1#32
  let arg9 : BitVec 32 := Scf.iv v16 c1_i32_8 k0_t2
  let c1024_i32_84 : BitVec 32 := 1024#32
  let v162 : BitVec 32 := Scalar.muli arg9 c1024_i32_84
  v162
def k0_off3 (i : grid0.Coords) (k0_t2 : Fin (k0_t2_loop i).trips) : Fin 3 → Nat :=
  let c0_88 : Index := 0#32
  let c0_i32_6 : BitVec 32 := 0#32
  let arg1 : BitVec 32 := BitVec.ofNat 32 (i 1).val
  let v12 : BitVec 32 := Scalar.subi arg1 c0_i32_6
  let c1_i32 : BitVec 32 := 1#32
  let v14 : BitVec 32 := Scalar.divsi v12 c1_i32
  let v15 : BitVec 32 := Scalar.muli v14 c1_i32
  let v16 : BitVec 32 := Scalar.addi c0_i32_6 v15
  let c1_i32_8 : BitVec 32 := 1#32
  let arg9 : BitVec 32 := Scf.iv v16 c1_i32_8 k0_t2
  let c1024_i32_84 : BitVec 32 := 1024#32
  let v162 : BitVec 32 := Scalar.muli arg9 c1024_i32_84
  let v163 : BitVec 32 := v162
  let v166 : Index := Scalar.indexCast v163
  let c0_89 : Index := 0#32
  ![0, v166.toNat, 0]
def k0_off4 (i : grid0.Coords) (k0_t2 : Fin (k0_t2_loop i).trips) : Fin 3 → Nat :=
  let c1_110 : Index := 1#32
  let c0_i32_6 : BitVec 32 := 0#32
  let arg1 : BitVec 32 := BitVec.ofNat 32 (i 1).val
  let v12 : BitVec 32 := Scalar.subi arg1 c0_i32_6
  let c1_i32 : BitVec 32 := 1#32
  let v14 : BitVec 32 := Scalar.divsi v12 c1_i32
  let v15 : BitVec 32 := Scalar.muli v14 c1_i32
  let v16 : BitVec 32 := Scalar.addi c0_i32_6 v15
  let c1_i32_8 : BitVec 32 := 1#32
  let arg9 : BitVec 32 := Scf.iv v16 c1_i32_8 k0_t2
  let c1024_i32_84 : BitVec 32 := 1024#32
  let v162 : BitVec 32 := Scalar.muli arg9 c1024_i32_84
  let v163 : BitVec 32 := v162
  let v198 : Index := Scalar.indexCast v163
  let c0_111 : Index := 0#32
  ![1, v198.toNat, 0]
def k0_mult3 (i : grid0.Coords) : BitVec 32 :=
  let arg1 : BitVec 32 := BitVec.ofNat 32 (i 1).val
  let c1024_i32 : BitVec 32 := 1024#32
  let v17 : BitVec 32 := Scalar.muli arg1 c1024_i32
  v17
def k0_off5 (i : grid0.Coords) : Fin 3 → Nat :=
  let c0_12 : Index := 0#32
  let arg1 : BitVec 32 := BitVec.ofNat 32 (i 1).val
  let c1024_i32 : BitVec 32 := 1024#32
  let v17 : BitVec 32 := Scalar.muli arg1 c1024_i32
  let v18 : BitVec 32 := v17
  let v21 : Index := Scalar.indexCast v18
  let c0_13 : Index := 0#32
  ![0, v21.toNat, 0]
def k0_off6 (i : grid0.Coords) : Fin 3 → Nat :=
  let c1_34 : Index := 1#32
  let arg1 : BitVec 32 := BitVec.ofNat 32 (i 1).val
  let c1024_i32 : BitVec 32 := 1024#32
  let v17 : BitVec 32 := Scalar.muli arg1 c1024_i32
  let v18 : BitVec 32 := v17
  let v55 : Index := Scalar.indexCast v18
  let c0_35 : Index := 0#32
  ![1, v55.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FoxFwdIdeal.lean ====
variable {F : FTy → Type} [FloatOps F] [Named F]
def κ : String → Option EReal := fun
  | "mask" => some ⊥
  | _ => none
-- ==== FoxFwdRefIdeal.lean ====
abbrev S4096x12x64 : Shape := ⟨3, ![4096, 12, 64]⟩
abbrev S4096x12 : Shape := ⟨2, ![4096, 12]⟩
abbrev S12x4096x4096 : Shape := ⟨3, ![12, 4096, 4096]⟩
abbrev S_ : Shape := ⟨0, ![]⟩
abbrev S12x4096 : Shape := ⟨2, ![12, 4096]⟩
abbrev S12x4096x1 : Shape := ⟨3, ![12, 4096, 1]⟩
abbrev S12x1x4096 : Shape := ⟨3, ![12, 1, 4096]⟩
abbrev S12x64x4096 : Shape := ⟨3, ![12, 64, 4096]⟩
abbrev S4096x768 : Shape := ⟨2, ![4096, 768]⟩

abbrev nBuf : Space → Nat
  | .hbm => 51
  | .vmem => 0
  | .smem => 0
  | _ => 0

abbrev bufTy : (tb : Table) → Fin (tcTables nBuf tb) → BufTy
  | .hbm, ⟨0, _⟩ => ⟨S4096x12x64, .f32⟩
  | .hbm, ⟨1, _⟩ => ⟨S4096x12x64, .f32⟩
  | .hbm, ⟨2, _⟩ => ⟨S4096x12x64, .f32⟩
  | .hbm, ⟨3, _⟩ => ⟨S4096x12, .f32⟩
  | .hbm, ⟨4, _⟩ => ⟨S12x4096x4096, .f32⟩
  | .hbm, ⟨5, _⟩ => ⟨S_, .f32⟩
  | .hbm, ⟨6, _⟩ => ⟨S12x4096x4096, .f32⟩
  | .hbm, ⟨7, _⟩ => ⟨S12x4096x4096, .f32⟩
  | .hbm, ⟨8, _⟩ => ⟨S12x4096, .f32⟩
  | .hbm, ⟨9, _⟩ => ⟨S12x4096x1, .f32⟩
  | .hbm, ⟨10, _⟩ => ⟨S12x1x4096, .f32⟩
  | .hbm, ⟨11, _⟩ => ⟨S12x4096x4096, .f32⟩
  | .hbm, ⟨12, _⟩ => ⟨S12x4096x4096, .f32⟩
  | .hbm, ⟨13, _⟩ => ⟨S12x4096x4096, .f32⟩
  | .hbm, ⟨14, _⟩ => ⟨S12x4096x4096, .i32⟩
  | .hbm, ⟨15, _⟩ => ⟨S12x4096x4096, .i32⟩
  | .hbm, ⟨16, _⟩ => ⟨S12x4096x4096, .i1⟩
  | .hbm, ⟨17, _⟩ => ⟨S12x4096x4096, .f32⟩
  | .hbm, ⟨18, _⟩ => ⟨S_, .f32⟩
  | .hbm, ⟨19, _⟩ => ⟨S12x4096x4096, .f32⟩
  | .hbm, ⟨20, _⟩ => ⟨S12x4096x4096, .f32⟩
  | .hbm, ⟨21, _⟩ => ⟨S_, .f32⟩
  | .hbm, ⟨22, _⟩ => ⟨S12x4096, .f32⟩
  | .hbm, ⟨23, _⟩ => ⟨S_, .f32⟩
  | .hbm, ⟨24, _⟩ => ⟨S12x4096, .f32⟩
  | .hbm, ⟨25, _⟩ => ⟨S12x4096, .f32⟩
  | .hbm, ⟨26, _⟩ => ⟨S12x4096x1, .f32⟩
  | .hbm, ⟨27, _⟩ => ⟨S12x4096x4096, .f32⟩
  | .hbm, ⟨28, _⟩ => ⟨S12x4096x4096, .f32⟩
  | .hbm, ⟨29, _⟩ => ⟨S12x4096x4096, .f32⟩
  | .hbm, ⟨30, _⟩ => ⟨S_, .f32⟩
  | .hbm, ⟨31, _⟩ => ⟨S12x4096, .f32⟩
  | .hbm, ⟨32, _⟩ => ⟨S12x4096x1, .f32⟩
  | .hbm, ⟨33, _⟩ => ⟨S12x4096x4096, .f32⟩
  | .hbm, ⟨34, _⟩ => ⟨S12x4096x4096, .f32⟩
  | .hbm, ⟨35, _⟩ => ⟨S_, .f32⟩
  | .hbm, ⟨36, _⟩ => ⟨S12x4096, .f32⟩
  | .hbm, ⟨37, _⟩ => ⟨S_, .f32⟩
  | .hbm, ⟨38, _⟩ => ⟨S12x4096, .f32⟩
  | .hbm, ⟨39, _⟩ => ⟨S12x4096x1, .f32⟩
  | .hbm, ⟨40, _⟩ => ⟨S12x4096x4096, .f32⟩
  | .hbm, ⟨41, _⟩ => ⟨S12x4096x4096, .f32⟩
  | .hbm, ⟨42, _⟩ => ⟨S12x4096x4096, .f32⟩
  | .hbm, ⟨43, _⟩ => ⟨S_, .f32⟩
  | .hbm, ⟨44, _⟩ => ⟨S12x4096, .f32⟩
  | .hbm, ⟨45, _⟩ => ⟨S12x4096, .f32⟩
  | .hbm, ⟨46, _⟩ => ⟨S12x4096, .f32⟩
  | .hbm, ⟨47, _⟩ => ⟨S12x64x4096, .f32⟩
  | .hbm, ⟨48, _⟩ => ⟨S4096x12x64, .f32⟩
  | .hbm, ⟨49, _⟩ => ⟨S4096x768, .f32⟩
  | .hbm, ⟨50, _⟩ => ⟨S4096x768, .bf16⟩
  | _, _ => ⟨S4096x12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Norm.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Att.lean ====
abbrev S4096x1024 : Shape := ⟨2, ![4096, 1024]⟩
abbrev S256x2048 : Shape := ⟨2, ![256, 2048]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S256x2048, .f32⟩
  | .hbm, ⟨2, _⟩ => ⟨S4096x1024, .bf16⟩
  | .hbm, ⟨3, _⟩ => ⟨S256x2048, .bf16⟩
  | .hbm, ⟨4, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S256x2048, .bf16⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AttRefIdeal.lean ====
abbrev S4096x1024 : Shape := ⟨2, ![4096, 1024]⟩
abbrev S256x2048 : Shape := ⟨2, ![256, 2048]⟩
abbrev S256x1024 : Shape := ⟨2, ![256, 1024]⟩
abbrev S256x4x256 : Shape := ⟨3, ![256, 4, 256]⟩
abbrev S4096x4x256 : Shape := ⟨3, ![4096, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S256x2048, .f32⟩
  | .hbm, ⟨2, _⟩ => ⟨S256x1024, .f32⟩
  | .hbm, ⟨3, _⟩ => ⟨S256x4x256, .f32⟩
  | .hbm, ⟨4, _⟩ => ⟨S256x1024, .f32⟩
  | .hbm, ⟨5, _⟩ => ⟨S256x4x256, .f32⟩
  | .hbm, ⟨6, _⟩ => ⟨S4096x4x256, .f32⟩
  | .hbm, ⟨7, _⟩ => ⟨S4x4096x256, .f32⟩
  | .hbm, ⟨8, _⟩ => ⟨S_, .f32⟩
  | .hbm, ⟨9, _⟩ => ⟨S4x4096x256, .f32⟩
  | .hbm, ⟨10, _⟩ => ⟨S4x4096x256, .f32⟩
  | .hbm, ⟨11, _⟩ => ⟨S_, .f32⟩
  | .hbm, ⟨12, _⟩ => ⟨S4x4096, .f32⟩
  | .hbm, ⟨13, _⟩ => ⟨S_, .f32⟩
  | .hbm, ⟨14, _⟩ => ⟨S4x4096, .f32⟩
  | .hbm, ⟨15, _⟩ => ⟨S4x4096, .f32⟩
  | .hbm, ⟨16, _⟩ => ⟨S4x4096x1, .f32⟩
  | .hbm, ⟨17, _⟩ => ⟨S4x4096x256, .f32⟩
  | .hbm, ⟨18, _⟩ => ⟨S4x4096x256, .f32⟩
  | .hbm, ⟨19, _⟩ => ⟨S4x4096x256, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S4x4096x256, .f32⟩
  | .hbm, ⟨24, _⟩ => ⟨S4x4096x256, .f32⟩
  | .hbm, ⟨25, _⟩ => ⟨S4x256x4096, .f32⟩
  | .hbm, ⟨26, _⟩ => ⟨S4096x4x256, .f32⟩
  | .hbm, ⟨27, _⟩ => ⟨S4096x1024, .f32⟩
  | .hbm, ⟨28, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Hid.lean ====
abbrev S4096x1024 : Shape := ⟨2, ![4096, 1024]⟩
abbrev S4096x4096 : Shape := ⟨2, ![4096, 4096]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S4096x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HidRefIdeal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x4096, .f32⟩
  | .hbm, ⟨3, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Down.lean ====
abbrev S4096x4096 : Shape := ⟨2, ![4096, 4096]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x4096, .bf16⟩
  | .hbm, ⟨3, _⟩ => ⟨S4096x1024, .bf16⟩
  | .hbm, ⟨4, _⟩ => ⟨S4096x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S4096x4096 : Shape := ⟨2, ![4096, 4096]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x4096, .f32⟩
  | .hbm, ⟨3, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Adam.lean ====
abbrev S312x128 : Shape := ⟨2, ![312, 128]⟩

abbrev nBuf : Space → Nat
  | .hbm => 7
  | .vmem => 7
  | .smem => 0
  | _ => 0

abbrev bufTy : (tb : Table) → Fin (tcTables nBuf tb) → BufTy
  | .hbm, ⟨0, _⟩ => ⟨S312x128, .f32⟩
  | .hbm, ⟨1, _⟩ => ⟨S312x128, .f32⟩
  | .hbm, ⟨2, _⟩ => ⟨S312x128, .f32⟩
  | .hbm, ⟨3, _⟩ => ⟨S312x128, .f32⟩
  | .hbm, ⟨4, _⟩ => ⟨S312x128, .f32⟩
  | .hbm, ⟨5, _⟩ => ⟨S312x128, .f32⟩
  | .hbm, ⟨6, _⟩ => ⟨S312x128, .f32⟩
  | .local _ .vmem, ⟨0, _⟩ => ⟨S312x128, .f32⟩
  | .local _ .vmem, ⟨1, _⟩ => ⟨S312x128, .f32⟩
  | .local _ .vmem, ⟨2, _⟩ => ⟨S312x128, .f32⟩
  | .local _ .vmem, ⟨3, _⟩ => ⟨S312x128, .f32⟩
  | .local _ .vmem, ⟨4, _⟩ => ⟨S312x128, .f32⟩
  | .local _ .vmem, ⟨5, _⟩ => ⟨S312x128, .f32⟩
  | .local _ .vmem, ⟨6, _⟩ => ⟨S312x128, .f32⟩
  | _, _ => ⟨S312x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S312x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S312x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S312x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S312x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S312x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S312x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S312x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRefIdeal.lean ====
abbrev S312x128 : Shape := ⟨2, ![312, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S312x128, .f32⟩
  | .hbm, ⟨1, _⟩ => ⟨S312x128, .f32⟩
  | .hbm, ⟨2, _⟩ => ⟨S312x128, .f32⟩
  | .hbm, ⟨3, _⟩ => ⟨S312x128, .f32⟩
  | .hbm, ⟨4, _⟩ => ⟨S_, .f32⟩
  | .hbm, ⟨5, _⟩ => ⟨S312x128, .f32⟩
  | .hbm, ⟨6, _⟩ => ⟨S312x128, .f32⟩
  | .hbm, ⟨7, _⟩ => ⟨S_, .f32⟩
  | .hbm, ⟨8, _⟩ => ⟨S312x128, .f32⟩
  | .hbm, ⟨9, _⟩ => ⟨S312x128, .f32⟩
  | .hbm, ⟨10, _⟩ => ⟨S312x128, .f32⟩
  | .hbm, ⟨11, _⟩ => ⟨S_, .f32⟩
  | .hbm, ⟨12, _⟩ => ⟨S312x128, .f32⟩
  | .hbm, ⟨13, _⟩ => ⟨S312x128, .f32⟩
  | .hbm, ⟨14, _⟩ => ⟨S312x128, .f32⟩
  | .hbm, ⟨15, _⟩ => ⟨S_, .f32⟩
  | .hbm, ⟨16, _⟩ => ⟨S312x128, .f32⟩
  | .hbm, ⟨17, _⟩ => ⟨S312x128, .f32⟩
  | .hbm, ⟨18, _⟩ => ⟨S312x128, .f32⟩
  | .hbm, ⟨19, _⟩ => ⟨S_, .f32⟩
  | .hbm, ⟨20, _⟩ => ⟨S312x128, .f32⟩
  | .hbm, ⟨21, _⟩ => ⟨S312x128, .f32⟩
  | .hbm, ⟨22, _⟩ => ⟨S_, .f32⟩
  | .hbm, ⟨23, _⟩ => ⟨S312x128, .f32⟩
  | .hbm, ⟨24, _⟩ => ⟨S312x128, .f32⟩
  | .hbm, ⟨25, _⟩ => ⟨S312x128, .f32⟩
  | .hbm, ⟨26, _⟩ => ⟨S_, .f32⟩
  | .hbm, ⟨27, _⟩ => ⟨S312x128, .f32⟩
  | .hbm, ⟨28, _⟩ => ⟨S312x128, .f32⟩
  | .hbm, ⟨29, _⟩ => ⟨S312x128, .f32⟩
  | .hbm, ⟨30, _⟩ => ⟨S_, .f32⟩
  | .hbm, ⟨31, _⟩ => ⟨S312x128, .f32⟩
  | .hbm, ⟨32, _⟩ => ⟨S312x128, .f32⟩
  | .hbm, ⟨33, _⟩ => ⟨S312x128, .f32⟩
  | .hbm, ⟨34, _⟩ => ⟨S_, .f32⟩
  | .hbm, ⟨35, _⟩ => ⟨S312x128, .f32⟩
  | .hbm, ⟨36, _⟩ => ⟨S312x128, .f32⟩
  | _, _ => ⟨S312x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Up.lean ====
abbrev S4096x1024 : Shape := ⟨2, ![4096, 1024]⟩
abbrev S1024x8192 : Shape := ⟨2, ![1024, 8192]⟩
abbrev S1024x4x2048 : Shape := ⟨3, ![1024, 4, 2048]⟩
abbrev S4x1024x2048 : Shape := ⟨3, ![4, 1024, 2048]⟩
abbrev S2x4096x4096 : Shape := ⟨3, ![2, 4096, 4096]⟩
abbrev S2048x1024 : Shape := ⟨2, ![2048, 1024]⟩
abbrev S1x1024x1024 : Shape := ⟨3, ![1, 1024, 1024]⟩
abbrev S1x2048x1024 : Shape := ⟨3, ![1, 2048, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x8192, .f32⟩
  | .hbm, ⟨2, _⟩ => ⟨S1024x4x2048, .f32⟩
  | .hbm, ⟨3, _⟩ => ⟨S4x1024x2048, .f32⟩
  | .hbm, ⟨4, _⟩ => ⟨S4096x1024, .bf16⟩
  | .hbm, ⟨5, _⟩ => ⟨S4x1024x2048, .bf16⟩
  | .hbm, ⟨6, _⟩ => ⟨S2x4096x4096, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x2048x1024, .f32⟩
  | .local _ .vmem, ⟨5, _⟩ => ⟨S1x2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S4096x1024 : Shape := ⟨2, ![4096, 1024]⟩
abbrev S1024x8192 : Shape := ⟨2, ![1024, 8192]⟩
abbrev S4096x8192 : Shape := ⟨2, ![4096, 8192]⟩
abbrev S4096x2x4096 : Shape := ⟨3, ![4096, 2, 4096]⟩
abbrev S2x4096x4096 : Shape := ⟨3, ![2, 4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x8192, .f32⟩
  | .hbm, ⟨2, _⟩ => ⟨S4096x8192, .f32⟩
  | .hbm, ⟨3, _⟩ => ⟨S4096x2x4096, .f32⟩
  | .hbm, ⟨4, _⟩ => ⟨S2x4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Act.lean ====
abbrev S4096x8192 : Shape := ⟨2, ![4096, 8192]⟩
abbrev S3x1x8192 : Shape := ⟨3, ![3, 1, 8192]⟩
abbrev S8192 : Shape := ⟨1, ![8192]⟩
abbrev S3x2x4096 : Shape := ⟨3, ![3, 2, 4096]⟩
abbrev S2x3x4096 : Shape := ⟨3, ![2, 3, 4096]⟩
abbrev S1x2x4096 : Shape := ⟨3, ![1, 2, 4096]⟩
abbrev S2x1x4096 : Shape := ⟨3, ![2, 1, 4096]⟩
abbrev S_ : Shape := ⟨0, ![]⟩
abbrev S2x4x4096 : Shape := ⟨3, ![2, 4, 4096]⟩
abbrev S2x8x4096 : Shape := ⟨3, ![2, 8, 4096]⟩
abbrev S4096x2x4096 : Shape := ⟨3, ![4096, 2, 4096]⟩
abbrev S2x4096x4096 : Shape := ⟨3, ![2, 4096, 4096]⟩
abbrev S4096x4096 : Shape := ⟨2, ![4096, 4096]⟩
abbrev S2x512x1024 : Shape := ⟨3, ![2, 512, 1024]⟩
abbrev S2x8x1024 : Shape := ⟨3, ![2, 8, 1024]⟩
abbrev S512x1024 : Shape := ⟨2, ![512, 1024]⟩
abbrev S1x8x1024 : Shape := ⟨3, ![1, 8, 1024]⟩
abbrev S8x1024 : Shape := ⟨2, ![8, 1024]⟩
abbrev S1x512x1024 : Shape := ⟨3, ![1, 512, 1024]⟩
abbrev S520x1024 : Shape := ⟨2, ![520, 1024]⟩
abbrev S1x1024 : Shape := ⟨2, ![1, 1024]⟩

abbrev nBuf : Space → Nat
  | .hbm => 13
  | .vmem => 8
  | .smem => 0
  | _ => 0

abbrev bufTy : (tb : Table) → Fin (tcTables nBuf tb) → BufTy
  | .hbm, ⟨0, _⟩ => ⟨S4096x8192, .f32⟩
  | .hbm, ⟨1, _⟩ => ⟨S3x1x8192, .f32⟩
  | .hbm, ⟨2, _⟩ => ⟨S8192, .f32⟩
  | .hbm, ⟨3, _⟩ => ⟨S3x2x4096, .f32⟩
  | .hbm, ⟨4, _⟩ => ⟨S2x3x4096, .f32⟩
  | .hbm, ⟨5, _⟩ => ⟨S1x2x4096, .f32⟩
  | .hbm, ⟨6, _⟩ => ⟨S2x1x4096, .f32⟩
  | .hbm, ⟨7, _⟩ => ⟨S_, .f32⟩
  | .hbm, ⟨8, _⟩ => ⟨S2x4x4096, .f32⟩
  | .hbm, ⟨9, _⟩ => ⟨S2x8x4096, .f32⟩
  | .hbm, ⟨10, _⟩ => ⟨S4096x2x4096, .f32⟩
  | .hbm, ⟨11, _⟩ => ⟨S2x4096x4096, .f32⟩
  | .hbm, ⟨12, _⟩ => ⟨S4096x4096, .bf16⟩
  | .local _ .vmem, ⟨0, _⟩ => ⟨S2x512x1024, .f32⟩
  | .local _ .vmem, ⟨1, _⟩ => ⟨S2x512x1024, .f32⟩
  | .local _ .vmem, ⟨2, _⟩ => ⟨S2x8x1024, .f32⟩
  | .local _ .vmem, ⟨3, _⟩ => ⟨S2x8x1024, .f32⟩
  | .local _ .vmem, ⟨4, _⟩ => ⟨S2x8x1024, .f32⟩
  | .local _ .vmem, ⟨5, _⟩ => ⟨S2x8x1024, .f32⟩
  | .local _ .vmem, ⟨6, _⟩ => ⟨S512x1024, .bf16⟩
  | .local _ .vmem, ⟨7, _⟩ => ⟨S512x1024, .bf16⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ActRefIdeal.lean ====
abbrev S4096x8192 : Shape := ⟨2, ![4096, 8192]⟩
abbrev S3x1x8192 : Shape := ⟨3, ![3, 1, 8192]⟩
abbrev S8192 : Shape := ⟨1, ![8192]⟩
abbrev S_ : Shape := ⟨0, ![]⟩
abbrev S2x8192 : Shape := ⟨2, ![2, 8192]⟩
abbrev S4098x8192 : Shape := ⟨2, ![4098, 8192]⟩
abbrev S1x1x8192 : Shape := ⟨3, ![1, 1, 8192]⟩
abbrev S1x8192 : Shape := ⟨2, ![1, 8192]⟩
abbrev S4096x4096 : Shape := ⟨2, ![4096, 4096]⟩

abbrev nBuf : Space → Nat
  | .hbm => 47
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S3x1x8192, .f32⟩
  | .hbm, ⟨2, _⟩ => ⟨S8192, .f32⟩
  | .hbm, ⟨3, _⟩ => ⟨S_, .f32⟩
  | .hbm, ⟨4, _⟩ => ⟨S2x8192, .f32⟩
  | .hbm, ⟨5, _⟩ => ⟨S4098x8192, .f32⟩
  | .hbm, ⟨6, _⟩ => ⟨S4096x8192, .f32⟩
  | .hbm, ⟨7, _⟩ => ⟨S1x1x8192, .f32⟩
  | .hbm, ⟨8, _⟩ => ⟨S1x8192, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S1x1x8192, .f32⟩
  | .hbm, ⟨13, _⟩ => ⟨S1x8192, .f32⟩
  | .hbm, ⟨14, _⟩ => ⟨S4096x8192, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S1x1x8192, .f32⟩
  | .hbm, ⟨19, _⟩ => ⟨S1x8192, .f32⟩
  | .hbm, ⟨20, _⟩ => ⟨S4096x8192, .f32⟩
  | .hbm, ⟨21, _⟩ => ⟨S4096x8192, .f32⟩
  | .hbm, ⟨22, _⟩ => ⟨S4096x8192, .f32⟩
  | .hbm, ⟨23, _⟩ => ⟨S1x8192, .f32⟩
  | .hbm, ⟨24, _⟩ => ⟨S4096x8192, .f32⟩
  | .hbm, ⟨25, _⟩ => ⟨S4096x8192, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S4096x4096, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_1 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩

abbrev nD : Nat := 1
abbrev τ : Topo := Topo.v7x

variable {F : FTy → Type} [FloatOps F]
-- ==== Dh.lean ====
abbrev S4096x8192 : Shape := ⟨2, ![4096, 8192]⟩
abbrev S1024x8192 : Shape := ⟨2, ![1024, 8192]⟩
abbrev S1024x4x2048 : Shape := ⟨3, ![1024, 4, 2048]⟩
abbrev S4x1024x2048 : Shape := ⟨3, ![4, 1024, 2048]⟩
abbrev S4096x2x4096 : Shape := ⟨3, ![4096, 2, 4096]⟩
abbrev S2x4096x4096 : Shape := ⟨3, ![2, 4096, 4096]⟩
abbrev S4096x1024 : Shape := ⟨2, ![4096, 1024]⟩
abbrev S1x1024x2048 : Shape := ⟨3, ![1, 1024, 2048]⟩
abbrev S1024x1024 : Shape := ⟨2, ![1024, 1024]⟩
abbrev S1024x2048 : Shape := ⟨2, ![1024, 2048]⟩

abbrev nBuf : Space → Nat
  | .hbm => 9
  | .vmem => 7
  | .smem => 0
  | _ => 0

abbrev bufTy : (tb : Table) → Fin (tcTables nBuf tb) → BufTy
  | .hbm, ⟨0, _⟩ => ⟨S4096x8192, .f32⟩
  | .hbm, ⟨1, _⟩ => ⟨S1024x8192, .f32⟩
  | .hbm, ⟨2, _⟩ => ⟨S1024x4x2048, .f32⟩
  | .hbm, ⟨3, _⟩ => ⟨S4x1024x2048, .f32⟩
  | .hbm, ⟨4, _⟩ => ⟨S4096x2x4096, .f32⟩
  | .hbm, ⟨5, _⟩ => ⟨S2x4096x4096, .f32⟩
  | .hbm, ⟨6, _⟩ => ⟨S2x4096x4096, .bf16⟩
  | .hbm, ⟨7, _⟩ => ⟨S4x1024x2048, .bf16⟩
  | .hbm, ⟨8, _⟩ => ⟨S4096x1024, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhRefIdeal.lean ====
abbrev S4096x8192 : Shape := ⟨2, ![4096, 8192]⟩
abbrev S1024x8192 : Shape := ⟨2, ![1024, 8192]⟩
abbrev S8192x1024 : Shape := ⟨2, ![8192, 1024]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S1024x8192, .f32⟩
  | .hbm, ⟨2, _⟩ => ⟨S8192x1024, .f32⟩
  | .hbm, ⟨3, _⟩ => ⟨S4096x1024, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Win.lean ====
abbrev S1024x2572 : Shape := ⟨2, ![1024, 2572]⟩
abbrev S1024x4x643 : Shape := ⟨3, ![1024, 4, 643]⟩
abbrev S4x1024x643 : Shape := ⟨3, ![4, 1024, 643]⟩
abbrev S1024x2688 : Shape := ⟨2, ![1024, 2688]⟩
abbrev S4x256x643 : Shape := ⟨3, ![4, 256, 643]⟩
abbrev S256x2688 : Shape := ⟨2, ![256, 2688]⟩
abbrev S1x256x643 : Shape := ⟨3, ![1, 256, 643]⟩
abbrev S256x643 : Shape := ⟨2, ![256, 643]⟩
abbrev S256x116 : Shape := ⟨2, ![256, 116]⟩

abbrev nBuf : Space → Nat
  | .hbm => 5
  | .vmem => 4
  | .smem => 0
  | _ => 0

abbrev bufTy : (tb : Table) → Fin (tcTables nBuf tb) → BufTy
  | .hbm, ⟨0, _⟩ => ⟨S1024x2572, .f32⟩
  | .hbm, ⟨1, _⟩ => ⟨S1024x4x643, .f32⟩
  | .hbm, ⟨2, _⟩ => ⟨S4x1024x643, .f32⟩
  | .hbm, ⟨3, _⟩ => ⟨S4x1024x643, .bf16⟩
  | .hbm, ⟨4, _⟩ => ⟨S1024x2688, .bf16⟩
  | .local _ .vmem, ⟨0, _⟩ => ⟨S4x256x643, .bf16⟩
  | .local _ .vmem, ⟨1, _⟩ => ⟨S4x256x643, .bf16⟩
  | .local _ .vmem, ⟨2, _⟩ => ⟨S256x2688, .bf16⟩
  | .local _ .vmem, ⟨3, _⟩ => ⟨S256x2688, .bf16⟩
  | _, _ => ⟨S1024x2572, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x643 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== WinRefIdeal.lean ====
abbrev S1024x2572 : Shape := ⟨2, ![1024, 2572]⟩
abbrev S_ : Shape := ⟨0, ![]⟩
abbrev S1024x116 : Shape := ⟨2, ![1024, 116]⟩
abbrev S1024x2688 : Shape := ⟨2, ![1024, 2688]⟩

abbrev nBuf : Space → Nat
  | .hbm => 5
  | .vmem => 0
  | .smem => 0
  | _ => 0

abbrev bufTy : (tb : Table) → Fin (tcTables nBuf tb) → BufTy
  | .hbm, ⟨0, _⟩ => ⟨S1024x2572, .f32⟩
  | .hbm, ⟨1, _⟩ => ⟨S_, .f32⟩
  | .hbm, ⟨2, _⟩ => ⟨S1024x116, .f32⟩
  | .hbm, ⟨3, _⟩ => ⟨S1024x2688, .f32⟩
  | .hbm, ⟨4, _⟩ => ⟨S1024x2688, .bf16⟩
  | _, _ => ⟨S1024x2572, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwIn.lean ====
abbrev S4096x2688 : Shape := ⟨2, ![4096, 2688]⟩
abbrev S4096x1024 : Shape := ⟨2, ![4096, 1024]⟩
abbrev S4x2x648x512 : Shape := ⟨4, ![4, 2, 648, 512]⟩
abbrev S1024x2688 : Shape := ⟨2, ![1024, 2688]⟩
abbrev S1024x1024 : Shape := ⟨2, ![1024, 1024]⟩
abbrev S1024x768 : Shape := ⟨2, ![1024, 768]⟩
abbrev S768x1024 : Shape := ⟨2, ![768, 1024]⟩
abbrev S1x1x648x512 : Shape := ⟨4, ![1, 1, 648, 512]⟩
abbrev S648x512 : Shape := ⟨2, ![648, 512]⟩

abbrev nBuf : Space → Nat
  | .hbm => 5
  | .vmem => 5
  | .smem => 0
  | _ => 0

abbrev bufTy : (tb : Table) → Fin (tcTables nBuf tb) → BufTy
  | .hbm, ⟨0, _⟩ => ⟨S4096x2688, .f32⟩
  | .hbm, ⟨1, _⟩ => ⟨S4096x1024, .f32⟩
  | .hbm, ⟨2, _⟩ => ⟨S4096x2688, .bf16⟩
  | .hbm, ⟨3, _⟩ => ⟨S4096x1024, .bf16⟩
  | .hbm, ⟨4, _⟩ => ⟨S4x2x648x512, .f32⟩
  | .local _ .vmem, ⟨0, _⟩ => ⟨S1024x2688, .bf16⟩
  | .local _ .vmem, ⟨1, _⟩ => ⟨S1024x2688, .bf16⟩
  | .local _ .vmem, ⟨2, _⟩ => ⟨S1024x1024, .bf16⟩
  | .local _ .vmem, ⟨3, _⟩ => ⟨S1024x1024, .bf16⟩
  | .local _ .vmem, ⟨4, _⟩ => ⟨S4x2x648x512, .f32⟩
  | _, _ => ⟨S4096x2688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S1024x2688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x2x648x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DwInRefIdeal.lean ====
abbrev S4096x2688 : Shape := ⟨2, ![4096, 2688]⟩
abbrev S4096x1024 : Shape := ⟨2, ![4096, 1024]⟩
abbrev S2688x4096 : Shape := ⟨2, ![2688, 4096]⟩
abbrev S2688x1024 : Shape := ⟨2, ![2688, 1024]⟩
abbrev S648x1024 : Shape := ⟨2, ![648, 1024]⟩
abbrev S1x648x1024 : Shape := ⟨3, ![1, 648, 1024]⟩
abbrev S4x648x1024 : Shape := ⟨3, ![4, 648, 1024]⟩
abbrev S4x648x2x512 : Shape := ⟨4, ![4, 648, 2, 512]⟩
abbrev S4x2x648x512 : Shape := ⟨4, ![4, 2, 648, 512]⟩

abbrev nBuf : Space → Nat
  | .hbm => 15
  | .vmem => 0
  | .smem => 0
  | _ => 0

abbrev bufTy : (tb : Table) → Fin (tcTables nBuf tb) → BufTy
  | .hbm, ⟨0, _⟩ => ⟨S4096x2688, .f32⟩
  | .hbm, ⟨1, _⟩ => ⟨S4096x1024, .f32⟩
  | .hbm, ⟨2, _⟩ => ⟨S2688x4096, .f32⟩
  | .hbm, ⟨3, _⟩ => ⟨S2688x1024, .f32⟩
  | .hbm, ⟨4, _⟩ => ⟨S648x1024, .f32⟩
  | .hbm, ⟨5, _⟩ => ⟨S648x1024, .f32⟩
  | .hbm, ⟨6, _⟩ => ⟨S648x1024, .f32⟩
  | .hbm, ⟨7, _⟩ => ⟨S648x1024, .f32⟩
  | .hbm, ⟨8, _⟩ => ⟨S1x648x1024, .f32⟩
  | .hbm, ⟨9, _⟩ => ⟨S1x648x1024, .f32⟩
  | .hbm, ⟨10, _⟩ => ⟨S1x648x1024, .f32⟩
  | .hbm, ⟨11, _⟩ => ⟨S1x648x1024, .f32⟩
  | .hbm, ⟨12, _⟩ => ⟨S4x648x1024, .f32⟩
  | .hbm, ⟨13, _⟩ => ⟨S4x648x2x512, .f32⟩
  | .hbm, ⟨14, _⟩ => ⟨S4x2x648x512, .f32⟩
  | _, _ => ⟨S4096x2688, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== Proof.MemGain.lean ====
/- The gain gradient of the memory's RMS norm: the kernel's one block and the reference's sum over the rows are one function. -/
module

public import proofs.«01_k».proof.Defs
public import proofs.«01_k».proof.Proof.Gen.MemGainIdeal.Value
public import proofs.«01_k».proof.Proof.Gen.MemGainRefIdeal.Run
public import Idealize.ShloMosaic.Lib.IdealHost
public import Idealize.ShloMosaic.Lib.Pointwise

@[expose] public section

set_option maxRecDepth 16384

noncomputable section

namespace Cert.MemGain.Tie

open Idealize.ShloMosaic Idealize.SL.Sem

/-- Over the reals the reference's gain gradient, the sum over the rows of `normed · dy`, is the kernel's sum of `dy · normed`. -/
theorem algebraic : algebraic_MemGainIdeal_MemGainRefIdeal := by
  intro m ρ m' ρ' _ hagree
  refine ⟨_, Cert.MemGainIdeal.Value.run (F := Ideal) m ρ, ?_⟩
  refine (θ_run Cert.MemGainRefIdeal.defs _ _).mono (fun _ h c => ⟨?_, (h c).2⟩) (Cert.MemGainRefIdeal.Value.run (F := Ideal) m' ρ')
  rw [(h c).1]
  simp only [hagree c, MemGainIdeal.Value.G3, MemGainIdeal.Value.lay3_0_eq]
  funext i
  idx_vars i
  pointwise
  exact Finset.sum_congr rfl fun x _ => mul_comm _ _

end Cert.MemGain.Tie
-- ==== Proof.FoxBits.lean ====
module

public import proofs.«01_k».proof.Defs
public import proofs.«01_k».proof.Proof.Gen.Fox.Frame
public import proofs.«01_k».proof.Proof.Gen.Fox.Launch
public import proofs.«01_k».proof.Proof.Gen.Fox.Skeleton
public import proofs.«01_k».proof.Proof.Gen.Fox.Loops
public import proofs.«01_k».proof.Proof.Gen.Fox.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Claim

/-! The frame of the call on machine words: nothing is said of what the gradients' blocks hold. -/

@[expose] public section
set_option maxRecDepth 16384
noncomputable section
namespace Cert.Fox.Hand
open Cert.Fox Cert.Fox.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Bits) ℕ (UR sig nD τ) ℕ

/-- The body's branch condition at a grid point: the key block is the pair's first. -/
abbrev firstKey (i : grid0.Coords) : Prop :=
  (Scalar.cmpi .ne (Scalar.extui (Scalar.cmpi .eq (BitVec.ofNat 32 (i 1).val) 0#32)) 0#32) = 1#1

/-- The memory operands of the body, all whole. -/
structure Ops where
  q : Memref sig .tc .vmem S2x4096x128 .bf16
  hq : q.IsWhole
  do' : Memref sig .tc .vmem S2x4096x128 .bf16
  hdo : do'.IsWhole
  k : Memref sig .tc .vmem S2x512x128 .bf16
  hk : k.IsWhole
  v : Memref sig .tc .vmem S2x512x128 .bf16
  hv : v.IsWhole
  dq : Memref sig .tc .vmem S2x4096x128 .f32
  hdq : dq.IsWhole
  dk : Memref sig .tc .vmem S2x512x128 .f32
  hdk : dk.IsWhole
  dv : Memref sig .tc .vmem S2x512x128 .bf16
  hdv : dv.IsWhole
  acc : Memref sig .tc .vmem S2x512x128 .f32
  hacc : acc.IsWhole

/-- The four inputs' buffers at what they hold, the outputs' and the scratch at anything. -/
def held (c : Dev nD) (A : Ops) (x0 x1 : Vec Bits S2x4096x128 .bf16) (x2 x3 : Vec Bits S2x512x128 .bf16) : sProp 𝕄 :=
  iprop(owns (c : Thread nD τ) A.q fullShare x0 ∗ owns (c : Thread nD τ) A.do' fullShare x1 ∗ owns (c : Thread nD τ) A.k fullShare x2 ∗ owns (c : Thread nD τ) A.v fullShare x3
    ∗ (∃ d, owns (c : Thread nD τ) A.dq fullShare d) ∗ (∃ d, owns (c : Thread nD τ) A.dk fullShare d) ∗ (∃ d, owns (c : Thread nD τ) A.dv fullShare d)
    ∗ (∃ d, owns (c : Thread nD τ) A.acc fullShare d))

set_option maxHeartbeats 4000000 in
/-- The body keeps the inputs, at every grid point. -/
theorem body_run (c : Dev nD) (i : grid0.Coords) (A : Ops) (x0 x1 : Vec Bits S2x4096x128 .bf16) (x2 x3 : Vec Bits S2x512x128 .bf16)
    (E : Set ℕ) (K : PUnit → sProp 𝕄) :
    iprop(held c A x0 x1 x2 x3 ∗ (held c A x0 x1 x2 x3 -∗ K ⟨⟩))
      ⊢ wp frame (wpE (defs₀ (F := Bits)) Variants.none c none) E
        (cc0_fox_bwd i A.q A.hq A.do' A.hdo A.k A.hk A.v A.hv A.dq A.hdq A.dk A.hdk A.dv A.hdv A.acc A.hacc) K := by
  simp only [cc0_fox_bwd_eq_skeleton]; unfold cc0_fox_bwd_skel
  unfold held owns
  iintro ⟨⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩⟩, Hk⟩
  obtain rfl := A.hq.eq_unread hf0; obtain rfl := A.hdo.eq_unread hf1; obtain rfl := A.hk.eq_unread hf2; obtain rfl := A.hv.eq_unread hf3
  by_cases hc : firstKey i
  all_goals
    sl_exec (disch := first | sl_exact hc)
    sl_step
    iapply Hk
    isplitl [H0]
    · iexists _; isplitr; · ipureintro; exact A.hq.read_unread _
      iexact H0
    isplitl [H1]
    · iexists _; isplitr; · ipureintro; exact A.hdo.read_unread _
      iexact H1
    isplitl [H2]
    · iexists _; isplitr; · ipureintro; exact A.hk.read_unread _
      iexact H2
    isplitl [H3]
    · iexists _; isplitr; · ipureintro; exact A.hv.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    iexists _, _; isplitr; swap; · iexact HS0
    ipureintro; rfl

variable (m : (l : Loc nD τ sig) → Buf (Elt Bits) l) (ρ : Dev nD → PrngReg)

/-- The operands the pipeline hands the body at point `t`. -/
abbrev opsAt (t : Fin cfg0.N) : Ops :=
  ⟨win0_0.stage (cfg0.slots t 0), hstage0_0 ((cfg0.slots t 0).cast nbuf0_0), win0_1.stage (cfg0.slots t 1), hstage0_1 ((cfg0.slots t 1).cast nbuf0_1), win0_2.stage (cfg0.slots t 2), hstage0_2 ((cfg0.slots t 2).cast nbuf0_2), win0_3.stage (cfg0.slots t 3), hstage0_3 ((cfg0.slots t 3).cast nbuf0_3), win0_4.stage (cfg0.slots t 4), hstage0_4 ((cfg0.slots t 4).cast nbuf0_4), win0_5.stage (cfg0.slots t 5), hstage0_5 ((cfg0.slots t 5).cast nbuf0_5), win0_6.stage (cfg0.slots t 6), hstage0_6 ((cfg0.slots t 6).cast nbuf0_6), Memref.whole cc0_scratch0, Memref.isWhole_whole _⟩

/-- The gradients' windows, of whose contents nothing is said. -/
def outs : Fin cfg0.W → Bool := fun w : Fin 7 => decide (4 ≤ w.val)

/-- The proof data: each input's buffer keeps its block. -/
def dats (_ : Fin 1) (c : Dev nD) : Dat τ (Elt Bits) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in (c : Dev nD) (t : Fin cfg0.N) :
    (dats m 0 c).after 0 t = iblk m c 0 t ∧ (dats m 0 c).after 1 t = iblk m c 1 t
      ∧ (dats m 0 c).after 2 t = iblk m c 2 t ∧ (dats m 0 c).after 3 t = iblk m c 3 t := by
  dsimp only [dats]; exact ⟨rfl, rfl, rfl, rfl⟩

/-- Each input's buffer holds its block at every point. -/
theorem before_in (c : Dev nD) (t : Fin cfg0.N) :
    (∀ d, (dats m 0 c).before 0 t d = iblk m c 0 t) ∧ (∀ d, (dats m 0 c).before 1 t d = iblk m c 1 t)
      ∧ (∀ d, (dats m 0 c).before 2 t d = iblk m c 2 t) ∧ (∀ d, (dats m 0 c).before 3 t d = iblk m c 3 t) :=
  ⟨before0_0_of m (dats m 0 c) (A_eq m c 0) (fun t => (after_in m c t).1) t, before0_1_of m (dats m 0 c) (A_eq m c 1) (fun t => (after_in m c t).2.1) t,
    before0_2_of m (dats m 0 c) (A_eq m c 2) (fun t => (after_in m c t).2.2.1) t, before0_3_of m (dats m 0 c) (A_eq m c 3) (fun t => (after_in m c t).2.2.2) t⟩

/-- The invariant of the pipeline: the scratch buffer at some contents, and the generator register. -/
theorem inv_eq (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (opsAt t).q fullShare ((dats m 0 c).before 0 t d))
    ∗ (∃ d, owns (c : Thread nD τ) (opsAt t).do' fullShare ((dats m 0 c).before 1 t d))
    ∗ (∃ d, owns (c : Thread nD τ) (opsAt t).k fullShare ((dats m 0 c).before 2 t d))
    ∗ (∃ d, owns (c : Thread nD τ) (opsAt t).v fullShare ((dats m 0 c).before 3 t d))
    ∗ (∃ d, owns (c : Thread nD τ) (opsAt t).dq fullShare d)
    ∗ (∃ d, owns (c : Thread nD τ) (opsAt t).dk fullShare d)
    ∗ (∃ d, owns (c : Thread nD τ) (opsAt t).dv fullShare d))

/-- and what it returns. -/
def bodyPost (c : Dev nD) (t : Fin cfg0.N) : sProp 𝕄 :=
  iprop((dats m 0 c).Φ t.succ ∗ (dats m 0 c).owesAt () t.succ
    ∗ owns (c : Thread nD τ) (opsAt t).q fullShare ((dats m 0 c).after 0 t)
    ∗ owns (c : Thread nD τ) (opsAt t).do' fullShare ((dats m 0 c).after 1 t)
    ∗ owns (c : Thread nD τ) (opsAt t).k fullShare ((dats m 0 c).after 2 t)
    ∗ owns (c : Thread nD τ) (opsAt t).v fullShare ((dats m 0 c).after 3 t)
    ∗ (∃ d, owns (c : Thread nD τ) (opsAt t).dq fullShare d)
    ∗ (∃ d, owns (c : Thread nD τ) (opsAt t).dk fullShare d)
    ∗ (∃ d, owns (c : Thread nD τ) (opsAt t).dv fullShare d))

set_option maxHeartbeats 1600000 in
/-- The body at any point takes the one to the other. -/
theorem sound_body (c : Dev nD) (t : Fin cfg0.N) :
    bodyPre m c t ⊢ wp frame (wpE (defs₀ (F := Bits)) Variants.none c none) Set.univ (bodyAt0 t) (fun _ => bodyPost m c t) := by
  unfold bodyPre bodyPost
  obtain ⟨b0, b1, b2, b3⟩ := before_in m c t
  obtain ⟨a0, a1, a2, a3⟩ := after_in m c t
  simp only [b0, b1, b2, b3]
  rw [show (dats m 0 c).Φ t.succ = (dats m 0 c).Φ t.castSucc from rfl,
    show (dats m 0 c).owesAt () t.succ = (dats m 0 c).owesAt () t.castSucc from rfl, a0, a1, a2, a3]
  rw [show (dats m 0 c).Φ t.castSucc = Pipeline.ΦA spec0 c from rfl, inv_eq]
  iintro ⟨⟨HS0, Hg⟩, Ho, ⟨%d0, H0⟩, ⟨%d1, H1⟩, ⟨%d2, H2⟩, ⟨%d3, H3⟩, H4, H5, H6⟩
  iapply (body_run c (grid0.coords t) (opsAt t) (iblk m c 0 t) (iblk m c 1 t) (iblk m c 2 t) (iblk m c 3 t) Set.univ _)
  unfold held
  isplitl [H0 H1 H2 H3 H4 H5 H6 HS0]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact HS0
  iintro ⟨H0, H1, H2, H3, H4, H5, H6, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body. -/
theorem row_body (t : Fin cfg0.N) :
    defs₀ (F := Bits) .tc cfg0.body (cfg0.bodyArgs t (cfg0.slots t)) = bodyAt0 t := by
  unfold defs₀; rw [Defs.onTc_tc]

/-- The pipeline's body obligation, at every point. -/
theorem body_obligation (c : Dev nD) : BodyObligation (dats m 0 c) (defs₀ (F := Bits)) Variants.none () Set.univ outs := fun t => by
  rw [bigSep_W0, bigSep_W0, row_body]
  exact triple_restated (sound_body m c t) rfl .rfl fun _ => .rfl

/-- The argument arrays. -/
def argRefs : Finset (Ref sig .tc) := {main_arg0, main_arg1, main_arg2, main_arg3, main_arg4}

/-- The lines after the call write no argument. -/
theorem later_writes : ∀ ops ∈ ([hostOps1] : List (List (HloOp τ sig (Elt Bits)))), ∀ op ∈ ops,
    ∀ b : Ref sig .tc, Proc.devRef .tc b ∈ op.writes → b ∈ argRefsᶜ := by
  intro ops hops op hop b hb
  obtain rfl := List.mem_singleton.mp hops
  have key : (hostOps1 : List (HloOp τ sig (Elt Bits))).Forall fun op => ∀ a ∈ argRefs, Proc.devRef .tc a ∉ op.writes := by
    simp only [argRefs, Finset.forall_mem_insert, Finset.mem_singleton, forall_eq, hostOps1, List.Forall, StableHlo.nullary_writes, StableHlo.unary_writes, StableHlo.binary_writes, StableHlo.ternary_writes,
      StableHlo.reshape_writes, StableHlo.binaryIndexed_writes, StableHlo.unaryIndexed_writes, StableHlo.nary_writes]
    repeat' apply And.intro
    all_goals exact StableHlo.devRef_ne_of_ne (by decide)
  exact Finset.mem_compl.mpr fun ha => List.forall_iff_forall_mem.mp key op hop b ha hb

set_option backward.isDefEq.respectTransparency.types false in
set_option maxHeartbeats 800000 in
/-- Every run ends with every counter at zero and the arguments where they were when the call was reached. -/
theorem run_all : θ_run defs (onTc (τ := τ) (main (F := Bits))) (s₀ m ρ)
    (fun r => (Pipeline.RDat.FramePostR (cfgs 0) (fun c => (dats m 0 c).toRForget outs) argRefsᶜ (V m)) r ∧ r.2.sem = fun _ => 0) :=
  Pipeline.θ_run_frame_around_T_forget (Q' := _) cfgs (dats m) (0 : Fin 1) launch0 defs₀ Variants.none outs argRefsᶜ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := later_writes)
    (hmain := hmain m Variants.none) (hA := A_eq m) (hΦ := fun _ _ => rfl)

/-- The arguments end as they were, and every counter is at zero. -/
theorem frame : θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => by
    have kept : ∀ b ∈ argRefs, b ∈ Pipeline.restRefs sig spec0 → r.2.mem ((c.tc : Thread nD τ).loc b) = V m c b := fun b hb hr =>
      (h.1 c).2 b (Finset.mem_sdiff.mpr ⟨hr, fun hn => Finset.mem_compl.mp hn hb⟩)
    exact ⟨(kept _ (by decide) (Pipeline.mem_restRefs_of _ (by decide) (by decide))).trans (V_main_arg0 m c),
      (kept _ (by decide) (Pipeline.mem_restRefs_of _ (by decide) (by decide))).trans (V_main_arg1 m c),
      (kept _ (by decide) (Pipeline.mem_restRefs_of _ (by decide) (by decide))).trans (V_main_arg2 m c),
      (kept _ (by decide) (Pipeline.mem_restRefs_of _ (by decide) (by decide))).trans (V_main_arg3 m c),
      (kept _ (by decide) (Pipeline.mem_restRefs_of _ (by decide) (by decide))).trans (V_main_arg4 m c)⟩, h.2⟩) (run_all m ρ)

end Cert.Fox.Hand
-- ==== Proof.FoxRun.lean ====
module

public import proofs.«01_k».proof.Proof.Gen.Fox.Frame
public import proofs.«01_k».proof.Proof.Gen.FoxIdeal.Frame
public import proofs.«01_k».proof.Proof.Gen.FoxIdeal.Launch
public import proofs.«01_k».proof.Proof.Gen.FoxIdeal.Skeleton
public import proofs.«01_k».proof.Proof.Gen.FoxIdeal.Loops
public import proofs.«01_k».proof.Proof.Gen.FoxIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.FoxIdeal.Hand

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The body's branch condition at a grid point: the key block is the pair's first. -/
abbrev firstKey (i : grid0.Coords) : Prop :=
  (Scalar.cmpi .ne (Scalar.extui (Scalar.cmpi .eq (BitVec.ofNat 32 (i 1).val) 0#32)) 0#32) = 1#1

theorem firstKey_iff : ∀ t : Fin cfg0.N, firstKey (grid0.coords t) ↔ t.val % 8 = 0 :=
  (fun t => by
    have ht : t.val < 48 := Nat.lt_of_lt_of_eq t.isLt N_0
    have e1 : (grid0.coords t 1).val = t.val / 1 % 8 := Pipeline.Grid.coords_val t 1 (by decide) rfl
    simp only [firstKey, e1]
    word_cmp
   : ∀ t : Fin grid0.N, firstKey (grid0.coords t) ↔ t.val % 8 = 0)

/-- The memory operands of the body, all whole. -/
structure Args where
  q : Memref sig .tc .vmem S2x4096x128 .bf16
  hq : q.IsWhole
  do' : Memref sig .tc .vmem S2x4096x128 .bf16
  hdo : do'.IsWhole
  k : Memref sig .tc .vmem S2x512x128 .bf16
  hk : k.IsWhole
  v : Memref sig .tc .vmem S2x512x128 .bf16
  hv : v.IsWhole
  dq : Memref sig .tc .vmem S2x4096x128 .f32
  hdq : dq.IsWhole
  dk : Memref sig .tc .vmem S2x512x128 .f32
  hdk : dk.IsWhole
  dv : Memref sig .tc .vmem S2x512x128 .bf16
  hdv : dv.IsWhole
  acc : Memref sig .tc .vmem S2x512x128 .f32
  hacc : acc.IsWhole

/-- The body on the operands `A` at the grid point `i`. -/
abbrev bodyOn (i : grid0.Coords) (A : Args) : Prog (TpuEff nD τ sig (Elt Ideal) Λ₀ .tc) PUnit :=
  cc0_fox_bwd i A.q A.hq A.do' A.hdo A.k A.hk A.v A.hv A.dq A.hdq A.dk A.hdk A.dv A.hdv A.acc A.hacc

/-- The pieces a run of the body stores at a pair's first key block, with the run that stores them. -/
abbrev StoresFirst (c : Dev nD) (i : grid0.Coords) (A : Args)
    (x0 x1 : Vec Ideal S2x4096x128 .bf16) (x2 x3 : Vec Ideal S2x512x128 .bf16)
    (y4 : Vec Ideal S2x4096x128 .f32) (y5 : Vec Ideal S2x512x128 .f32) (y6 : Vec Ideal S2x512x128 .bf16) (y7 : Vec Ideal S2x512x128 .f32) : Type _ :=
    Σ' (L4 : List (View.Piece (Elt Ideal) S2x4096x128 .f32)), Σ' (L5 : List (View.Piece (Elt Ideal) S2x512x128 .f32)),
    { L6 : List (View.Piece (Elt Ideal) S2x512x128 .bf16) //
      ∀ (E : Set ℕ) (K : PUnit → sProp 𝕄),
        iprop(owns (c : Thread nD τ) A.q fullShare x0 ∗ owns (c : Thread nD τ) A.do' fullShare x1 ∗ owns (c : Thread nD τ) A.k fullShare x2 ∗ owns (c : Thread nD τ) A.v fullShare x3
            ∗ owns (c : Thread nD τ) A.dq fullShare y4 ∗ owns (c : Thread nD τ) A.dk fullShare y5 ∗ owns (c : Thread nD τ) A.dv fullShare y6 ∗ owns (c : Thread nD τ) A.acc fullShare y7
            ∗ (iprop(owns (c : Thread nD τ) A.q fullShare x0 ∗ owns (c : Thread nD τ) A.do' fullShare x1 ∗ owns (c : Thread nD τ) A.k fullShare x2 ∗ owns (c : Thread nD τ) A.v fullShare x3
                ∗ (∃ f, A.dq.view.loc (c : Thread nD τ) ↦[A.dq.view.set]{fullShare} A.dq.view.writes (Elt Ideal) f L4)
                ∗ (∃ f, A.dk.view.loc (c : Thread nD τ) ↦[A.dk.view.set]{fullShare} A.dk.view.writes (Elt Ideal) f L5)
                ∗ (∃ f, A.dv.view.loc (c : Thread nD τ) ↦[A.dv.view.set]{fullShare} A.dv.view.writes (Elt Ideal) f L6)
                ∗ (∃ d, owns (c : Thread nD τ) A.acc fullShare d)) -∗ K ⟨⟩))
          ⊢ wp frame (wpE (defs₀ (F := Ideal)) Variants.none c none) E (bodyOn i A) K }

/-- The pieces a run of the body stores at a later key block, the query gradient's over what it held, with the run that stores them. -/
abbrev StoresLater (c : Dev nD) (i : grid0.Coords) (A : Args)
    (x0 x1 : Vec Ideal S2x4096x128 .bf16) (x2 x3 : Vec Ideal S2x512x128 .bf16)
    (y4 : Vec Ideal S2x4096x128 .f32) (y5 : Vec Ideal S2x512x128 .f32) (y6 : Vec Ideal S2x512x128 .bf16) (y7 : Vec Ideal S2x512x128 .f32) : Type _ :=
    Σ' (L4 : List (View.Piece (Elt Ideal) S2x4096x128 .f32)), Σ' (L5 : List (View.Piece (Elt Ideal) S2x512x128 .f32)),
    { L6 : List (View.Piece (Elt Ideal) S2x512x128 .bf16) //
      ∀ (E : Set ℕ) (K : PUnit → sProp 𝕄),
        iprop(owns (c : Thread nD τ) A.q fullShare x0 ∗ owns (c : Thread nD τ) A.do' fullShare x1 ∗ owns (c : Thread nD τ) A.k fullShare x2 ∗ owns (c : Thread nD τ) A.v fullShare x3
            ∗ owns (c : Thread nD τ) A.dq fullShare y4 ∗ owns (c : Thread nD τ) A.dk fullShare y5 ∗ owns (c : Thread nD τ) A.dv fullShare y6 ∗ owns (c : Thread nD τ) A.acc fullShare y7
            ∗ (iprop(owns (c : Thread nD τ) A.q fullShare x0 ∗ owns (c : Thread nD τ) A.do' fullShare x1 ∗ owns (c : Thread nD τ) A.k fullShare x2 ∗ owns (c : Thread nD τ) A.v fullShare x3
                ∗ (A.dq.view.loc (c : Thread nD τ) ↦[A.dq.view.set]{fullShare} A.dq.view.writes (Elt Ideal) (A.hdq.unread y4) L4)
                ∗ (∃ f, A.dk.view.loc (c : Thread nD τ) ↦[A.dk.view.set]{fullShare} A.dk.view.writes (Elt Ideal) f L5)
                ∗ (∃ f, A.dv.view.loc (c : Thread nD τ) ↦[A.dv.view.set]{fullShare} A.dv.view.writes (Elt Ideal) f L6)
                ∗ (∃ d, owns (c : Thread nD τ) A.acc fullShare d)) -∗ K ⟨⟩))
          ⊢ wp frame (wpE (defs₀ (F := Ideal)) Variants.none c none) E (bodyOn i A) K }

set_option maxHeartbeats 4000000 in
/-- What the body stores at a pair's first key block. -/
def runFirst (c : Dev nD) (i : grid0.Coords) (A : Args) (hc0 : firstKey i)
    (x0 x1 : Vec Ideal S2x4096x128 .bf16) (x2 x3 : Vec Ideal S2x512x128 .bf16)
    (y4 : Vec Ideal S2x4096x128 .f32) (y5 : Vec Ideal S2x512x128 .f32) (y6 : Vec Ideal S2x512x128 .bf16) (y7 : Vec Ideal S2x512x128 .f32) :
    StoresFirst c i A x0 x1 x2 x3 y4 y5 y6 y7 := by
  refine ⟨?_, ?_, ?_, fun E K => ?run⟩
  case run =>
    unfold bodyOn
    simp only [cc0_fox_bwd_eq_skeleton]; unfold cc0_fox_bwd_skel
    simp only [k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := A.hq.eq_unread hf0; obtain rfl := A.hdo.eq_unread hf1; obtain rfl := A.hk.eq_unread hf2; obtain rfl := A.hv.eq_unread hf3
    obtain rfl := A.hdq.eq_unread hf4; obtain rfl := A.hdk.eq_unread hf5; obtain rfl := A.hdv.eq_unread hf6; obtain rfl := A.hacc.eq_unread hfs0
    sl_exec (disch := first | sl_exact hc0)
    sl_step
    iapply Hk
    isplitl [H0]
    · iexists _; isplitr; · ipureintro; exact A.hq.read_unread _
      iexact H0
    isplitl [H1]
    · iexists _; isplitr; · ipureintro; exact A.hdo.read_unread _
      iexact H1
    isplitl [H2]
    · iexists _; isplitr; · ipureintro; exact A.hk.read_unread _
      iexact H2
    isplitl [H3]
    · iexists _; isplitr; · ipureintro; exact A.hv.read_unread _
      iexact H3
    isplitl [H4]; · iexists _; iexact H4
    isplitl [H5]; · iexists _; iexact H5
    isplitl [H6]; · iexists _; iexact H6
    iexists _, _; isplitr; swap; · iexact HS0
    ipureintro; rfl

set_option maxHeartbeats 4000000 in
/-- What the body stores at a pair's later key blocks. -/
def runLater (c : Dev nD) (i : grid0.Coords) (A : Args) (hc0 : ¬firstKey i)
    (x0 x1 : Vec Ideal S2x4096x128 .bf16) (x2 x3 : Vec Ideal S2x512x128 .bf16)
    (y4 : Vec Ideal S2x4096x128 .f32) (y5 : Vec Ideal S2x512x128 .f32) (y6 : Vec Ideal S2x512x128 .bf16) (y7 : Vec Ideal S2x512x128 .f32) :
    StoresLater c i A x0 x1 x2 x3 y4 y5 y6 y7 := by
  refine ⟨?_, ?_, ?_, fun E K => ?run⟩
  case run =>
    unfold bodyOn
    simp only [cc0_fox_bwd_eq_skeleton]; unfold cc0_fox_bwd_skel
    simp only [k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := A.hq.eq_unread hf0; obtain rfl := A.hdo.eq_unread hf1; obtain rfl := A.hk.eq_unread hf2; obtain rfl := A.hv.eq_unread hf3
    obtain rfl := A.hdq.eq_unread hf4; obtain rfl := A.hdk.eq_unread hf5; obtain rfl := A.hdv.eq_unread hf6; obtain rfl := A.hacc.eq_unread hfs0
    sl_exec (disch := first | sl_exact hc0)
    sl_step
    iapply Hk
    isplitl [H0]
    · iexists _; isplitr; · ipureintro; exact A.hq.read_unread _
      iexact H0
    isplitl [H1]
    · iexists _; isplitr; · ipureintro; exact A.hdo.read_unread _
      iexact H1
    isplitl [H2]
    · iexists _; isplitr; · ipureintro; exact A.hk.read_unread _
      iexact H2
    isplitl [H3]
    · iexists _; isplitr; · ipureintro; exact A.hv.read_unread _
      iexact H3
    isplitl [H4]; · iexact H4
    isplitl [H5]; · iexists _; iexact H5
    isplitl [H6]; · iexists _; iexact H6
    iexists _, _; isplitr; swap; · iexact HS0
    ipureintro; rfl

end Cert.FoxIdeal.Hand

end
-- ==== Proof.FoxStep.lean ====
module

public import proofs.«01_k».proof.Proof.FoxRun
public import Idealize.ShloMosaic.Lib.ValueIdx
public import Idealize.ShloMosaic.Lib.Pointwise
public import Idealize.ShloMosaic.Lib.WritesUnit
public import Idealize.ShloMosaic.PureOps.Ideal

/-! What one row block adds to the three gradients of a key block, read off the pieces a run stores. -/

@[expose] public section
set_option maxRecDepth 16384
noncomputable section
namespace Cert.FoxIdeal.Hand
open Cert.FoxIdeal Cert.FoxIdeal.Gen
open Idealize.ShloMosaic Idealize.ShloMosaic.TcCoe Idealize.ShloMosaic.Tactic

/-- Row `r` of row block `b`. -/
def rowAt (b : ℕ) (r : Fin 512) : Fin 4096 := Fin.ofNat 4096 (512 * b + r.val)

theorem rowAt_val {b : ℕ} (hb : b < 8) (r : Fin 512) : (rowAt b r).val = 512 * b + r.val := by
  have := r.isLt
  simp only [rowAt, Fin.ofNat]; omega

/-- The weight of key column `c` of key block `j` at row `r`: zero above the diagonal. -/
def wt (j : ℕ) (Q : Vec Ideal S2x4096x128 .bf16) (K : Vec Ideal S2x512x128 .bf16) (hh : Fin 2) (r : Fin 4096) (c : Fin 512) : EReal :=
  if 512 * j + c.val ≤ r.val then Ideal.exp (∑ l : Fin 128, Q (ix3 hh r l) * K (ix3 hh c l)) else 0

/-- The weight times what flows into it. -/
def dwt (j : ℕ) (Q D : Vec Ideal S2x4096x128 .bf16) (K V : Vec Ideal S2x512x128 .bf16) (hh : Fin 2) (r : Fin 4096) (c : Fin 512) : EReal :=
  wt j Q K hh r c * ∑ l : Fin 128, D (ix3 hh r l) * V (ix3 hh c l)

theorem wt_of_lt {j b : ℕ} (hjb : j < b) (hb : b < 8) (Q : Vec Ideal S2x4096x128 .bf16) (K : Vec Ideal S2x512x128 .bf16) (hh : Fin 2) (r c : Fin 512) :
    wt j Q K hh (rowAt b r) c = Ideal.exp (∑ l : Fin 128, Q (ix3 hh (rowAt b r) l) * K (ix3 hh c l)) := by
  have := r.isLt; have := c.isLt
  unfold wt; rw [if_pos]; rw [rowAt_val hb]; omega

/-- What row block `b` adds to the key gradient. -/
def dkBlk (j : ℕ) (Q D : Vec Ideal S2x4096x128 .bf16) (K V : Vec Ideal S2x512x128 .bf16) (b : ℕ) (hh : Fin 2) (c : Fin 512) (l : Fin 128) : EReal :=
  ∑ r : Fin 512, dwt j Q D K V hh (rowAt b r) c * Q (ix3 hh (rowAt b r) l)

/-- What row block `b` adds to the value gradient. -/
def dvBlk (j : ℕ) (Q D : Vec Ideal S2x4096x128 .bf16) (K : Vec Ideal S2x512x128 .bf16) (b : ℕ) (hh : Fin 2) (c : Fin 512) (l : Fin 128) : EReal :=
  ∑ r : Fin 512, wt j Q K hh (rowAt b r) c * D (ix3 hh (rowAt b r) l)

/-- What the key block adds to the query gradient of row `r`. -/
def dqRow (j : ℕ) (Q D : Vec Ideal S2x4096x128 .bf16) (K V : Vec Ideal S2x512x128 .bf16) (hh : Fin 2) (r : Fin 4096) (l : Fin 128) : EReal :=
  ∑ c : Fin 512, dwt j Q D K V hh r c * K (ix3 hh c l)

theorem trips_t1 (i : grid0.Coords) : (k0_t1_loop i).trips = 7 - (i 1).val :=
  (by decide +kernel : ∀ j : Fin 8, (k0_t1_loop (fun a => if h : a = 1 then h ▸ j else ⟨0, by revert h; fin_cases a <;> decide⟩)).trips = 7 - j.val) (i 1)

theorem off3_eq (i : grid0.Coords) (k : Fin (k0_t1_loop i).trips) :
    k0_off3 i k = ![0, 512 * ((i 1).val + 1 + k.val), 0] := by
  have hi : (i 1).val < 8 := (i 1).isLt
  have hk : k.val < 7 - (i 1).val := lt_of_lt_of_eq k.isLt (trips_t1 i)
  have : (Scalar.indexCast (Scalar.muli (Scf.iv (Scalar.addi (BitVec.ofNat 32 (i 1).val) 1#32) 1#32 k.val) 512#32)).toNat = 512 * ((i 1).val + 1 + k.val) :=
    (by decide +kernel : ∀ j kk : Fin 8, (Scalar.indexCast (Scalar.muli (Scf.iv (Scalar.addi (BitVec.ofNat 32 j.val) 1#32) 1#32 kk.val) 512#32)).toNat = 512 * (j.val + 1 + kk.val)) (i 1) ⟨k.val, by omega⟩
  simp only [k0_off3]
  rw [this]

theorem off4_eq (i : grid0.Coords) (k : Fin (k0_t1_loop i).trips) :
    k0_off4 i k = ![1, 512 * ((i 1).val + 1 + k.val), 0] := by
  have h := congrFun (off3_eq i k) 1
  simp only [k0_off3, k0_off4] at h ⊢
  rw [show (Scalar.indexCast (Scalar.muli (Scf.iv (Scalar.addi (BitVec.ofNat 32 (i 1).val) 1#32) 1#32 k.val) 512#32)).toNat = 512 * ((i 1).val + 1 + k.val) from h]

theorem row3 (i : grid0.Coords) (k : Fin (k0_t1_loop i).trips) (x : Fin 512) (l : Fin 128) (h h' h'') :
    ix3 (⟨k0_off3 i k 0, h⟩ : Fin 2) (⟨k0_off3 i k 1 + x.val, h'⟩ : Fin 4096) (⟨k0_off3 i k 2 + l.val, h''⟩ : Fin 128)
      = ix3 0 (rowAt ((i 1).val + 1 + k.val) x) l := by
  have e := off3_eq i k
  have hk : k.val < 7 - (i 1).val := lt_of_lt_of_eq k.isLt (trips_t1 i)
  have hb : (i 1).val + 1 + k.val < 8 := by omega
  congr 1
  · exact Fin.ext ((congrArg (· + x.val) (congrFun e 1)).trans (rowAt_val hb x).symm)
  · exact Fin.ext ((congrArg (· + l.val) (congrFun e 2)).trans (Nat.zero_add _))

theorem row4 (i : grid0.Coords) (k : Fin (k0_t1_loop i).trips) (x : Fin 512) (l : Fin 128) (h h' h'') :
    ix3 (⟨k0_off4 i k 0, h⟩ : Fin 2) (⟨k0_off4 i k 1 + x.val, h'⟩ : Fin 4096) (⟨k0_off4 i k 2 + l.val, h''⟩ : Fin 128)
      = ix3 1 (rowAt ((i 1).val + 1 + k.val) x) l := by
  have e := off4_eq i k
  have hk : k.val < 7 - (i 1).val := lt_of_lt_of_eq k.isLt (trips_t1 i)
  have hb : (i 1).val + 1 + k.val < 8 := by omega
  congr 1
  · exact Fin.ext ((congrArg (· + x.val) (congrFun e 1)).trans (rowAt_val hb x).symm)
  · exact Fin.ext ((congrArg (· + l.val) (congrFun e 2)).trans (Nat.zero_add _))

section
variable (𝒱 : Variants) (c : Dev nD) (bd : Option 𝒱.V) (i : grid0.Coords) (A : Args) (w : BitVec 32)
    (X2 : BufTy.Contents (Elt Ideal) A.q.view.ty) (X3 : BufTy.Contents (Elt Ideal) A.do'.view.ty)
    (X4 : BufTy.Contents (Elt Ideal) A.k.view.ty) (X5 : BufTy.Contents (Elt Ideal) A.v.view.ty)
    (f6 : BufTy.Contents (Elt Ideal) A.dq.view.ty) (f7 : BufTy.Contents (Elt Ideal) A.dk.view.ty)
    (f9 : BufTy.Contents (Elt Ideal) A.acc.view.ty)

local notation "QQ" => A.q.view.read (Elt Ideal) X2
local notation "DD" => A.do'.view.read (Elt Ideal) X3
local notation "KK" => A.k.view.read (Elt Ideal) X4
local notation "VV" => A.v.view.read (Elt Ideal) X5

/-- A later row block's trip adds its share to the key gradient. -/
theorem trip_dk (k : Fin (k0_t1_loop i).trips) (hh : Fin 2) (cc : Fin 512) (l : Fin 128) :
    A.dk.view.read (Elt Ideal) (A.dk.view.writes (Elt Ideal) f7 ((trip_k0_t1 (F := Ideal) 𝒱 c bd i A.q A.hq A.do' A.hdo A.k A.hk A.v A.hv A.dq A.hdq A.dk A.hdk A.dv A.hdv A.acc A.hacc w X2 X3 X4 X5 k).2.1 f6 f7 f9)) (ix3 hh cc l)
      = A.dk.view.read (Elt Ideal) f7 (ix3 hh cc l) + dkBlk (i 1).val QQ DD KK VV ((i 1).val + 1 + k.val) hh cc l := by
  have hk : k.val < 7 - (i 1).val := lt_of_lt_of_eq k.isLt (trips_t1 i)
  have hb : (i 1).val + 1 + k.val < 8 := by omega
  unfold trip_k0_t1
  dsimp only
  unfold dkBlk dwt
  simp only [wt_of_lt (show (i 1).val < (i 1).val + 1 + k.val by omega) hb]
  rcases (by omega : hh = 0 ∨ hh = 1) with rfl | rfl
  · refine (View.read_writes_cons_unit_of_not_mem A.dk.view f7 _ _ _ _ rfl 0 (Or.inl Nat.zero_lt_one)).trans ?_
    refine (View.read_writes_cons_unit_of_mem A.dk.view f7 _ _ _ _ (ix3 (0 : Fin 1) cc l) rfl ?_).trans ?_
    · intro a; fin_cases a <;> first | rfl | exact (Nat.zero_add _).symm
    simp only [trip_k0_t1.sl.cst_88, trip_k0_t1.sl.cst_96, trip_k0_t1.sl.v108, trip_k0_t1.sl.v111, trip_k0_t1.sl.v114, trip_k0_t1.sl.v115, trip_k0_t1.sl.v116, trip_k0_t1.sl.v118, trip_k0_t1.sl.v119, trip_k0_t1.sl.v120, trip_k0_t1.sl.v121, trip_k0_t1.sl.v122, trip_k0_t1.sl.v124, trip_k0_t1.sl.v125, trip_k0_t1.sl.v126, trip_k0_t1.sl.v129, trip_k0_t1.sl.v131, trip_k0_t1.sl.v132, trip_k0_t1.sl.v133, trip_k0_t1.sl.v136, trip_k0_t1.sl.v139, trip_k0_t1.sl.v140, trip_k0_t1.sl.v141, trip_k0_t1.sl.v145, View.readAt_eq_ld]
    pointwise
    simp only [row3, zero_add]
  · refine (View.read_writes_cons_unit_of_mem A.dk.view f7 _ _ _ _ (ix3 (0 : Fin 1) cc l) rfl ?_).trans ?_
    · intro a; fin_cases a <;> first | rfl | exact (Nat.zero_add _).symm
    simp only [trip_k0_t1.sl.cst_88, trip_k0_t1.sl.cst_96, trip_k0_t1.sl.v105, trip_k0_t1.sl.v108, trip_k0_t1.sl.v109, trip_k0_t1.sl.v147, trip_k0_t1.sl.v150, trip_k0_t1.sl.v153, trip_k0_t1.sl.v154, trip_k0_t1.sl.v155, trip_k0_t1.sl.v157, trip_k0_t1.sl.v158, trip_k0_t1.sl.v159, trip_k0_t1.sl.v160, trip_k0_t1.sl.v161, trip_k0_t1.sl.v162, trip_k0_t1.sl.v163, trip_k0_t1.sl.v164, trip_k0_t1.sl.v165, trip_k0_t1.sl.v168, trip_k0_t1.sl.v169, trip_k0_t1.sl.v177, k0_pay2, k0_pay3, View.readAt_eq_ld]
    pointwise
    simp only [row4, zero_add]

/-- A later row block's trip adds its share to the value gradient. -/
theorem trip_dv (k : Fin (k0_t1_loop i).trips) (hh : Fin 2) (cc : Fin 512) (l : Fin 128) :
    A.acc.view.read (Elt Ideal) (A.acc.view.writes (Elt Ideal) f9 ((trip_k0_t1 (F := Ideal) 𝒱 c bd i A.q A.hq A.do' A.hdo A.k A.hk A.v A.hv A.dq A.hdq A.dk A.hdk A.dv A.hdv A.acc A.hacc w X2 X3 X4 X5 k).2.2.1 f6 f7 f9)) (ix3 hh cc l)
      = A.acc.view.read (Elt Ideal) f9 (ix3 hh cc l) + dvBlk (i 1).val QQ DD KK ((i 1).val + 1 + k.val) hh cc l := by
  have hk : k.val < 7 - (i 1).val := lt_of_lt_of_eq k.isLt (trips_t1 i)
  have hb : (i 1).val + 1 + k.val < 8 := by omega
  unfold trip_k0_t1
  dsimp only
  unfold dvBlk
  simp only [wt_of_lt (show (i 1).val < (i 1).val + 1 + k.val by omega) hb]
  rcases (by omega : hh = 0 ∨ hh = 1) with rfl | rfl
  · refine (View.read_writes_cons_unit_of_not_mem A.acc.view f9 _ _ _ _ rfl 0 (Or.inl Nat.zero_lt_one)).trans ?_
    refine (View.read_writes_cons_unit_of_mem A.acc.view f9 _ _ _ _ (ix3 (0 : Fin 1) cc l) rfl ?_).trans ?_
    · intro a; fin_cases a <;> first | rfl | exact (Nat.zero_add _).symm
    simp only [trip_k0_t1.sl.cst_88, trip_k0_t1.sl.cst_96, trip_k0_t1.sl.v108, trip_k0_t1.sl.v111, trip_k0_t1.sl.v114, trip_k0_t1.sl.v115, trip_k0_t1.sl.v116, trip_k0_t1.sl.v118, trip_k0_t1.sl.v119, trip_k0_t1.sl.v120, trip_k0_t1.sl.v121, trip_k0_t1.sl.v122, trip_k0_t1.sl.v124, trip_k0_t1.sl.v125, trip_k0_t1.sl.v126, trip_k0_t1.sl.v129, trip_k0_t1.sl.v131, trip_k0_t1.sl.v132, trip_k0_t1.sl.v133, trip_k0_t1.sl.v136, trip_k0_t1.sl.v139, trip_k0_t1.sl.v140, trip_k0_t1.sl.v141, trip_k0_t1.sl.v145, View.readAt_eq_ld]
    pointwise
    simp only [row3, zero_add]
  · refine (View.read_writes_cons_unit_of_mem A.acc.view f9 _ _ _ _ (ix3 (0 : Fin 1) cc l) rfl ?_).trans ?_
    · intro a; fin_cases a <;> first | rfl | exact (Nat.zero_add _).symm
    simp only [trip_k0_t1.sl.cst_88, trip_k0_t1.sl.cst_96, trip_k0_t1.sl.v105, trip_k0_t1.sl.v108, trip_k0_t1.sl.v109, trip_k0_t1.sl.v147, trip_k0_t1.sl.v150, trip_k0_t1.sl.v153, trip_k0_t1.sl.v154, trip_k0_t1.sl.v155, trip_k0_t1.sl.v157, trip_k0_t1.sl.v158, trip_k0_t1.sl.v159, trip_k0_t1.sl.v160, trip_k0_t1.sl.v161, trip_k0_t1.sl.v162, trip_k0_t1.sl.v163, trip_k0_t1.sl.v164, trip_k0_t1.sl.v165, trip_k0_t1.sl.v168, trip_k0_t1.sl.v169, trip_k0_t1.sl.v177, k0_pay2, k0_pay3, View.readAt_eq_ld]
    pointwise
    simp only [row4, zero_add]

/-- A later row block's trip adds the key block's share to the query gradient of its rows, -/
theorem trip_dq_at (k : Fin (k0_t1_loop i).trips) (hh : Fin 2) (x : Fin 512) (l : Fin 128) :
    A.dq.view.read (Elt Ideal) (A.dq.view.writes (Elt Ideal) f6 ((trip_k0_t1 (F := Ideal) 𝒱 c bd i A.q A.hq A.do' A.hdo A.k A.hk A.v A.hv A.dq A.hdq A.dk A.hdk A.dv A.hdv A.acc A.hacc w X2 X3 X4 X5 k).1 f6 f7 f9)) (ix3 hh (rowAt ((i 1).val + 1 + k.val) x) l)
      = A.dq.view.read (Elt Ideal) f6 (ix3 hh (rowAt ((i 1).val + 1 + k.val) x) l) + dqRow (i 1).val QQ DD KK VV hh (rowAt ((i 1).val + 1 + k.val) x) l := by
  have hk : k.val < 7 - (i 1).val := lt_of_lt_of_eq k.isLt (trips_t1 i)
  have hb : (i 1).val + 1 + k.val < 8 := by omega
  unfold trip_k0_t1
  dsimp only
  unfold dqRow dwt
  simp only [wt_of_lt (show (i 1).val < (i 1).val + 1 + k.val by omega) hb]
  rcases (by omega : hh = 0 ∨ hh = 1) with rfl | rfl
  · refine (View.read_writes_cons_unit_of_not_mem A.dq.view f6 _ _ _ _ (off4_eq i k) 0 (Or.inl Nat.zero_lt_one)).trans ?_
    refine (View.read_writes_cons_unit_of_mem A.dq.view f6 _ _ _ _ (ix3 (0 : Fin 1) x l) (off3_eq i k) ?_).trans ?_
    · intro a; fin_cases a <;> first | rfl | exact rowAt_val hb x | exact (Nat.zero_add _).symm
    simp only [trip_k0_t1.sl.cst_88, trip_k0_t1.sl.cst_96, trip_k0_t1.sl.v108, trip_k0_t1.sl.v111, trip_k0_t1.sl.v114, trip_k0_t1.sl.v115, trip_k0_t1.sl.v116, trip_k0_t1.sl.v118, trip_k0_t1.sl.v119, trip_k0_t1.sl.v120, trip_k0_t1.sl.v121, trip_k0_t1.sl.v122, trip_k0_t1.sl.v124, trip_k0_t1.sl.v125, trip_k0_t1.sl.v126, trip_k0_t1.sl.v129, trip_k0_t1.sl.v131, trip_k0_t1.sl.v132, trip_k0_t1.sl.v133, trip_k0_t1.sl.v136, trip_k0_t1.sl.v139, trip_k0_t1.sl.v140, trip_k0_t1.sl.v141, trip_k0_t1.sl.v145, View.readAt_eq_ld]
    pointwise
    simp only [row3, zero_add]
  · refine (View.read_writes_cons_unit_of_mem A.dq.view f6 _ _ _ _ (ix3 (0 : Fin 1) x l) (off4_eq i k) ?_).trans ?_
    · intro a; fin_cases a <;> first | rfl | exact rowAt_val hb x | exact (Nat.zero_add _).symm
    simp only [trip_k0_t1.sl.cst_88, trip_k0_t1.sl.cst_96, trip_k0_t1.sl.v105, trip_k0_t1.sl.v108, trip_k0_t1.sl.v109, trip_k0_t1.sl.v147, trip_k0_t1.sl.v150, trip_k0_t1.sl.v153, trip_k0_t1.sl.v154, trip_k0_t1.sl.v155, trip_k0_t1.sl.v157, trip_k0_t1.sl.v158, trip_k0_t1.sl.v159, trip_k0_t1.sl.v160, trip_k0_t1.sl.v161, trip_k0_t1.sl.v162, trip_k0_t1.sl.v163, trip_k0_t1.sl.v164, trip_k0_t1.sl.v165, trip_k0_t1.sl.v168, trip_k0_t1.sl.v169, trip_k0_t1.sl.v177, k0_pay2, k0_pay3, View.readAt_eq_ld]
    pointwise
    simp only [row4, zero_add]

/-- and leaves every other row alone. -/
theorem trip_dq_off (k : Fin (k0_t1_loop i).trips) (hh : Fin 2) (r : Fin 4096) (hr : r.val / 512 ≠ (i 1).val + 1 + k.val) (l : Fin 128) :
    A.dq.view.read (Elt Ideal) (A.dq.view.writes (Elt Ideal) f6 ((trip_k0_t1 (F := Ideal) 𝒱 c bd i A.q A.hq A.do' A.hdo A.k A.hk A.v A.hv A.dq A.hdq A.dk A.hdk A.dv A.hdv A.acc A.hacc w X2 X3 X4 X5 k).1 f6 f7 f9)) (ix3 hh r l)
      = A.dq.view.read (Elt Ideal) f6 (ix3 hh r l) := by
  have ho : r.val < 512 * ((i 1).val + 1 + k.val) ∨ 512 * ((i 1).val + 1 + k.val) + 512 ≤ r.val := by omega
  unfold trip_k0_t1
  dsimp only
  refine (View.read_writes_cons_unit_of_not_mem A.dq.view f6 _ _ _ _ (off4_eq i k) 1 ho).trans ?_
  exact View.read_writes_cons_unit_of_not_mem A.dq.view f6 _ _ _ _ (off3_eq i k) 1 ho

end
end Cert.FoxIdeal.Hand
-- ==== Proof.FoxLoop.lean ====
module

public import proofs.«01_k».proof.Proof.FoxStep

/-! What the loop over the later row blocks leaves in the three gradients of a key block. -/

@[expose] public section
set_option maxRecDepth 16384
noncomputable section
namespace Cert.FoxIdeal.Hand
open Cert.FoxIdeal Cert.FoxIdeal.Gen
open Idealize.ShloMosaic Idealize.ShloMosaic.TcCoe Idealize.ShloMosaic.Tactic

theorem trips_t2 (i : grid0.Coords) : (k0_t2_loop i).trips = 0 :=
  (by decide +kernel : ∀ j : Fin 8, (k0_t2_loop (fun a => if h : a = 1 then h ▸ j else ⟨0, by revert h; fin_cases a <;> decide⟩)).trips = 0) (i 1)

section
variable (𝒱 : Variants) (c : Dev nD) (bd : Option 𝒱.V) (i : grid0.Coords) (A : Args) (w : BitVec 32)
    (X2 : BufTy.Contents (Elt Ideal) A.q.view.ty) (X3 : BufTy.Contents (Elt Ideal) A.do'.view.ty)
    (X4 : BufTy.Contents (Elt Ideal) A.k.view.ty) (X5 : BufTy.Contents (Elt Ideal) A.v.view.ty)
    (f6 : BufTy.Contents (Elt Ideal) A.dq.view.ty) (f7 : BufTy.Contents (Elt Ideal) A.dk.view.ty)
    (f9 : BufTy.Contents (Elt Ideal) A.acc.view.ty)

local notation "QQ" => A.q.view.read (Elt Ideal) X2
local notation "DD" => A.do'.view.read (Elt Ideal) X3
local notation "KK" => A.k.view.read (Elt Ideal) X4
local notation "VV" => A.v.view.read (Elt Ideal) X5
local notation "PB" => pb_k0_t1 (F := Ideal) 𝒱 c bd i A.q A.hq A.do' A.hdo A.k A.hk A.v A.hv A.dq A.hdq A.dk A.hdk A.dv A.hdv A.acc A.hacc w X2 X3 X4 X5 f6 f7 f9

/-- The key gradient after `n` trips. -/
theorem loop_dk (n : ℕ) (hn : n ≤ (k0_t1_loop i).trips) (hh : Fin 2) (cc : Fin 512) (l : Fin 128) :
    A.dk.view.read (Elt Ideal) (A.dk.view.writes (Elt Ideal) f7 (PB n).2.1) (ix3 hh cc l)
      = A.dk.view.read (Elt Ideal) f7 (ix3 hh cc l) + ∑ b ∈ Finset.range n, dkBlk (i 1).val QQ DD KK VV ((i 1).val + 1 + b) hh cc l := by
  induction n with
  | zero => exact (add_zero _).symm
  | succ n ih =>
    have hs := pb_k0_t1_succ (F := Ideal) 𝒱 c bd i A.q A.hq A.do' A.hdo A.k A.hk A.v A.hv A.dq A.hdq A.dk A.hdk A.dv A.hdv A.acc A.hacc w X2 X3 X4 X5 f6 f7 f9 ⟨n, hn⟩
    refine (congrArg (fun p => A.dk.view.read (Elt Ideal) (A.dk.view.writes (Elt Ideal) f7 p.2.1) (ix3 hh cc l)) hs).trans ?_
    dsimp only
    rw [View.writes_append, trip_dk, ih (by omega), Finset.sum_range_succ, add_assoc]

/-- The value gradient after `n` trips. -/
theorem loop_dv (n : ℕ) (hn : n ≤ (k0_t1_loop i).trips) (hh : Fin 2) (cc : Fin 512) (l : Fin 128) :
    A.acc.view.read (Elt Ideal) (A.acc.view.writes (Elt Ideal) f9 (PB n).2.2) (ix3 hh cc l)
      = A.acc.view.read (Elt Ideal) f9 (ix3 hh cc l) + ∑ b ∈ Finset.range n, dvBlk (i 1).val QQ DD KK ((i 1).val + 1 + b) hh cc l := by
  induction n with
  | zero => exact (add_zero _).symm
  | succ n ih =>
    have hs := pb_k0_t1_succ (F := Ideal) 𝒱 c bd i A.q A.hq A.do' A.hdo A.k A.hk A.v A.hv A.dq A.hdq A.dk A.hdk A.dv A.hdv A.acc A.hacc w X2 X3 X4 X5 f6 f7 f9 ⟨n, hn⟩
    refine (congrArg (fun p => A.acc.view.read (Elt Ideal) (A.acc.view.writes (Elt Ideal) f9 p.2.2) (ix3 hh cc l)) hs).trans ?_
    dsimp only
    rw [View.writes_append, trip_dv, ih (by omega), Finset.sum_range_succ, add_assoc]

/-- The query gradient after `n` trips: the rows of the blocks gone through have had their share. -/
theorem loop_dq (n : ℕ) (hn : n ≤ (k0_t1_loop i).trips) (hh : Fin 2) (r : Fin 4096) (l : Fin 128) :
    A.dq.view.read (Elt Ideal) (A.dq.view.writes (Elt Ideal) f6 (PB n).1) (ix3 hh r l)
      = if (i 1).val < r.val / 512 ∧ r.val / 512 < (i 1).val + 1 + n then
          A.dq.view.read (Elt Ideal) f6 (ix3 hh r l) + dqRow (i 1).val QQ DD KK VV hh r l
        else A.dq.view.read (Elt Ideal) f6 (ix3 hh r l) := by
  induction n with
  | zero => exact (if_neg (by omega)).symm
  | succ n ih =>
    have hs := pb_k0_t1_succ (F := Ideal) 𝒱 c bd i A.q A.hq A.do' A.hdo A.k A.hk A.v A.hv A.dq A.hdq A.dk A.hdk A.dv A.hdv A.acc A.hacc w X2 X3 X4 X5 f6 f7 f9 ⟨n, hn⟩
    refine (congrArg (fun p => A.dq.view.read (Elt Ideal) (A.dq.view.writes (Elt Ideal) f6 p.1) (ix3 hh r l)) hs).trans ?_
    dsimp only
    rw [View.writes_append]
    have hlt : n < 7 - (i 1).val := lt_of_lt_of_eq hn (trips_t1 i)
    by_cases hr : r.val / 512 = (i 1).val + 1 + n
    · obtain ⟨x, rfl⟩ : ∃ x : Fin 512, r = rowAt ((i 1).val + 1 + n) x :=
        ⟨⟨r.val % 512, Nat.mod_lt _ (by decide)⟩, Fin.ext (by rw [rowAt_val (by omega)]; dsimp only; omega)⟩
      refine (trip_dq_at 𝒱 c bd i A w X2 X3 X4 X5 _ _ _ ⟨n, hn⟩ hh x l).trans ?_
      rw [if_pos (by omega)]
      congr 1
      exact (ih (by omega)).trans (if_neg (by omega))
    · refine (trip_dq_off 𝒱 c bd i A w X2 X3 X4 X5 _ _ _ ⟨n, hn⟩ hh r hr l).trans ?_
      rw [ih (by omega)]
      exact if_congr (by omega) rfl rfl

end

end Cert.FoxIdeal.Hand
-- ==== Proof.FoxMask.lean ====
module

public import proofs.«01_k».proof.Proof.FoxLoop

/-! What the diagonal row block of a key block, done before the loop, leaves in the three gradients. -/

@[expose] public section
set_option maxRecDepth 16384
noncomputable section
namespace Cert.FoxIdeal.Hand
open Cert.FoxIdeal Cert.FoxIdeal.Gen
open Idealize.ShloMosaic Idealize.ShloMosaic.TcCoe Idealize.ShloMosaic.Tactic

theorem off1_eq (i : grid0.Coords) : k0_off1 i = ![0, 512 * (i 1).val, 0] := by
  have : (Scalar.indexCast (Scalar.muli (BitVec.ofNat 32 (i 1).val) 512#32)).toNat = 512 * (i 1).val :=
    (by decide +kernel : ∀ j : Fin 8, (Scalar.indexCast (Scalar.muli (BitVec.ofNat 32 j.val) 512#32)).toNat = 512 * j.val) (i 1)
  simp only [k0_off1]
  rw [this]

theorem off2_eq (i : grid0.Coords) : k0_off2 i = ![1, 512 * (i 1).val, 0] := by
  have : (Scalar.indexCast (Scalar.muli (BitVec.ofNat 32 (i 1).val) 512#32)).toNat = 512 * (i 1).val :=
    (by decide +kernel : ∀ j : Fin 8, (Scalar.indexCast (Scalar.muli (BitVec.ofNat 32 j.val) 512#32)).toNat = 512 * j.val) (i 1)
  simp only [k0_off2]
  rw [this]

theorem row1 (i : grid0.Coords) (x : Fin 512) (l : Fin 128) (h h' h'') :
    ix3 (⟨k0_off1 i 0, h⟩ : Fin 2) (⟨k0_off1 i 1 + x.val, h'⟩ : Fin 4096) (⟨k0_off1 i 2 + l.val, h''⟩ : Fin 128)
      = ix3 0 (rowAt (i 1).val x) l := by
  have e := off1_eq i
  have hb : (i 1).val < 8 := (i 1).isLt
  congr 1
  · exact Fin.ext ((congrArg (· + x.val) (congrFun e 1)).trans (rowAt_val hb x).symm)
  · exact Fin.ext ((congrArg (· + l.val) (congrFun e 2)).trans (Nat.zero_add _))

theorem row2 (i : grid0.Coords) (x : Fin 512) (l : Fin 128) (h h' h'') :
    ix3 (⟨k0_off2 i 0, h⟩ : Fin 2) (⟨k0_off2 i 1 + x.val, h'⟩ : Fin 4096) (⟨k0_off2 i 2 + l.val, h''⟩ : Fin 128)
      = ix3 1 (rowAt (i 1).val x) l := by
  have e := off2_eq i
  have hb : (i 1).val < 8 := (i 1).isLt
  congr 1
  · exact Fin.ext ((congrArg (· + x.val) (congrFun e 1)).trans (rowAt_val hb x).symm)
  · exact Fin.ext ((congrArg (· + l.val) (congrFun e 2)).trans (Nat.zero_add _))

/-- The masked weight at the diagonal block is the weight. -/
theorem mask_exp (i : grid0.Coords) (Q : Vec Ideal S2x4096x128 .bf16) (K : Vec Ideal S2x512x128 .bf16) (hh : Fin 2) (x cc : Fin 512) :
    Ideal.exp (Scalar.select (IntOp.cmpi CmpIPredicate.sge (BitVec.ofNat 32 x.val) (BitVec.ofNat 32 cc.val))
        (∑ l : Fin 128, Q (ix3 hh (rowAt (i 1).val x) l) * K (ix3 hh cc l)) (Named.named (F := Ideal) (φ := .f32) κ "mask" 0xF149F2CA#32))
      = wt (i 1).val Q K hh (rowAt (i 1).val x) cc := by
  have hb : (i 1).val < 8 := (i 1).isLt
  have hx := x.isLt
  have hc := cc.isLt
  have hk : (Named.named (F := Ideal) (φ := .f32) κ "mask" 0xF149F2CA#32 : EReal) = ⊥ := rfl
  have hm : IntOp.cmpi CmpIPredicate.sge (BitVec.ofNat 32 x.val) (BitVec.ofNat 32 cc.val) = 1 ↔ cc.val ≤ x.val := by
    word_cmp
  unfold wt
  rw [show ∀ (b : BitVec 1) (p q : EReal), Scalar.select b p q = if b = 1 then p else q from fun _ _ _ => rfl, rowAt_val hb, hk]
  by_cases h : cc.val ≤ x.val
  · rw [if_pos (hm.mpr h), if_pos (by omega)]
  · rw [if_neg (fun h' => h (hm.mp h')), if_neg (by omega)]; exact Ideal.exp_bot

section
variable (c : Dev nD) (i : grid0.Coords) (A : Args)
    (x0 x1 : Vec Ideal S2x4096x128 .bf16) (x2 x3 : Vec Ideal S2x512x128 .bf16)
    (f7 : BufTy.Contents (Elt Ideal) A.dk.view.ty) (f9 : BufTy.Contents (Elt Ideal) A.acc.view.ty)

/-- A load over pieces reads what the pieces leave. -/
theorem readCov_at {s : Shape} {e : EltTy} (m : Memref sig .tc .vmem s e) (L : List (View.Piece (Elt Ideal) s e)) (r : Rect s) (x : r.shape.Idx) :
    m.view.readCov L r.toLoadRect x = m.view.read (Elt Ideal) (m.view.writes (Elt Ideal) m.view.junk L) (r.emb x) := rfl

theorem dk_zero (y : S2x512x128.Idx) :
    A.dk.view.read (Elt Ideal) (A.dk.view.writes (Elt Ideal) f7 (runFirst.sl.H5_1)) y = (0 : EReal) := by
  idx_vars y
  unfold runFirst.sl.H5_1
  refine (View.read_writes_cons_unit_of_mem A.dk.view f7 _ _ _ _ (ix3 y0 y1 y2) rfl ?_).trans ?_
  · intro a; fin_cases a <;> exact (Nat.zero_add _).symm
  unfold_payloads
  pointwise

theorem dv_zero (y : S2x512x128.Idx) :
    A.acc.view.read (Elt Ideal) (A.acc.view.writes (Elt Ideal) f9 (runFirst.sl.HS0_1)) y = (0 : EReal) := by
  idx_vars y
  unfold runFirst.sl.HS0_1
  refine (View.read_writes_cons_unit_of_mem A.acc.view f9 _ _ _ _ (ix3 y0 y1 y2) rfl ?_).trans ?_
  · intro a; fin_cases a <;> exact (Nat.zero_add _).symm
  unfold_payloads
  pointwise

theorem dk_mask (hh : Fin 2) (cc : Fin 512) (l : Fin 128) :
    A.dk.view.read (Elt Ideal) (A.dk.view.writes (Elt Ideal) f7 (runFirst.sl.H5_3 c i A x0 x1 x2 x3)) (ix3 hh cc l)
      = dkBlk (i 1).val x0 x1 x2 x3 (i 1).val hh cc l := by
  unfold dkBlk dwt runFirst.sl.H5_3
  rcases (by omega : hh = 0 ∨ hh = 1) with rfl | rfl
  · refine (View.read_writes_cons_unit_of_not_mem A.dk.view f7 _ _ _ _ rfl 0 (Or.inl Nat.zero_lt_one)).trans ?_
    unfold runFirst.sl.H5_2
    refine (View.read_writes_cons_unit_of_mem A.dk.view f7 _ _ _ _ (ix3 (0 : Fin 1) cc l) rfl ?_).trans ?_
    · intro a; fin_cases a <;> first | rfl | exact (Nat.zero_add _).symm
    simp only [runFirst.sl.r, runFirst.sl.r_1, runFirst.sl.r_2, runFirst.sl.r_3, runFirst.sl.r_4, runFirst.sl.r_5, runFirst.sl.r_6, runFirst.sl.r_7, runFirst.sl.r_8, runFirst.sl.v0, runFirst.sl.v1, runFirst.sl.v12, runFirst.sl.v2, runFirst.sl.v32, runFirst.sl.v39, runFirst.sl.v73, runFirst.sl.v80, runFirst.sl.v88]
    unfold_payloads
    pointwise
    simp only [View.readAt_eq_ld, A.hq.read_unread, A.hdo.read_unread, A.hk.read_unread, A.hv.read_unread]
    pointwise
    simp only [row1, mask_exp]
    refine (congrArg (· + _) ?_).trans (zero_add _)
    exact dk_zero A _ _
  · refine (View.read_writes_cons_unit_of_mem A.dk.view f7 _ _ _ _ (ix3 (0 : Fin 1) cc l) rfl ?_).trans ?_
    · intro a; fin_cases a <;> first | rfl | exact (Nat.zero_add _).symm
    simp only [runFirst.sl.r, runFirst.sl.r_1, runFirst.sl.r_2, runFirst.sl.r_3, runFirst.sl.r_4, runFirst.sl.r_5, runFirst.sl.r_6, runFirst.sl.r_7, runFirst.sl.r_8, runFirst.sl.v0, runFirst.sl.v1, runFirst.sl.v12, runFirst.sl.v2, runFirst.sl.v32, runFirst.sl.v39, runFirst.sl.v73, runFirst.sl.v80, runFirst.sl.v88]
    unfold_payloads
    pointwise
    simp only [View.readAt_eq_ld, A.hq.read_unread, A.hdo.read_unread, A.hk.read_unread, A.hv.read_unread]
    pointwise
    simp only [row2, mask_exp]
    refine (congrArg (· + _) ?_).trans (zero_add _)
    unfold runFirst.sl.H5_2
    refine (View.read_writes_cons_unit_of_not_mem A.dk.view _ _ _ _ _ rfl 0 (Or.inr le_rfl)).trans ?_
    exact dk_zero A _ _

theorem dv_mask (hh : Fin 2) (cc : Fin 512) (l : Fin 128) :
    A.acc.view.read (Elt Ideal) (A.acc.view.writes (Elt Ideal) f9 (runFirst.sl.HS0_3 c i A x0 x1 x2)) (ix3 hh cc l)
      = dvBlk (i 1).val x0 x1 x2 (i 1).val hh cc l := by
  unfold dvBlk runFirst.sl.HS0_3
  rcases (by omega : hh = 0 ∨ hh = 1) with rfl | rfl
  · refine (View.read_writes_cons_unit_of_not_mem A.acc.view f9 _ _ _ _ rfl 0 (Or.inl Nat.zero_lt_one)).trans ?_
    unfold runFirst.sl.HS0_2
    refine (View.read_writes_cons_unit_of_mem A.acc.view f9 _ _ _ _ (ix3 (0 : Fin 1) cc l) rfl ?_).trans ?_
    · intro a; fin_cases a <;> first | rfl | exact (Nat.zero_add _).symm
    simp only [runFirst.sl.r, runFirst.sl.r_1, runFirst.sl.r_2, runFirst.sl.r_3, runFirst.sl.r_4, runFirst.sl.r_5, runFirst.sl.r_6, runFirst.sl.r_7, runFirst.sl.r_8, runFirst.sl.v0, runFirst.sl.v1, runFirst.sl.v12, runFirst.sl.v2, runFirst.sl.v32, runFirst.sl.v39, runFirst.sl.v73, runFirst.sl.v80, runFirst.sl.v88]
    unfold_payloads
    pointwise
    simp only [View.readAt_eq_ld, A.hq.read_unread, A.hdo.read_unread, A.hk.read_unread, A.hv.read_unread]
    pointwise
    simp only [row1, mask_exp]
    refine (congrArg (· + _) ?_).trans (zero_add _)
    exact dv_zero A _ _
  · refine (View.read_writes_cons_unit_of_mem A.acc.view f9 _ _ _ _ (ix3 (0 : Fin 1) cc l) rfl ?_).trans ?_
    · intro a; fin_cases a <;> first | rfl | exact (Nat.zero_add _).symm
    simp only [runFirst.sl.r, runFirst.sl.r_1, runFirst.sl.r_2, runFirst.sl.r_3, runFirst.sl.r_4, runFirst.sl.r_5, runFirst.sl.r_6, runFirst.sl.r_7, runFirst.sl.r_8, runFirst.sl.v0, runFirst.sl.v1, runFirst.sl.v12, runFirst.sl.v2, runFirst.sl.v32, runFirst.sl.v39, runFirst.sl.v73, runFirst.sl.v80, runFirst.sl.v88]
    unfold_payloads
    pointwise
    simp only [View.readAt_eq_ld, A.hq.read_unread, A.hdo.read_unread, A.hk.read_unread, A.hv.read_unread]
    pointwise
    simp only [row2, mask_exp]
    refine (congrArg (· + _) ?_).trans (zero_add _)
    unfold runFirst.sl.HS0_2
    refine (View.read_writes_cons_unit_of_not_mem A.acc.view _ _ _ _ _ rfl 0 (Or.inr le_rfl)).trans ?_
    exact dv_zero A _ _

variable (f6 : BufTy.Contents (Elt Ideal) A.dq.view.ty)

theorem dq_zero (y : S2x4096x128.Idx) :
    A.dq.view.read (Elt Ideal) (A.dq.view.writes (Elt Ideal) f6 runFirst.sl.H4_1) y = (0 : EReal) := by
  idx_vars y
  unfold runFirst.sl.H4_1
  refine (View.read_writes_cons_unit_of_mem A.dq.view f6 _ _ _ _ (ix3 y0 y1 y2) rfl ?_).trans ?_
  · intro a; fin_cases a <;> exact (Nat.zero_add _).symm
  unfold_payloads
  pointwise

/-- The pieces of the query gradient before the loop, at a pair's first key block. -/
abbrev dqFirst : List (View.Piece (Elt Ideal) S2x4096x128 .f32) :=
  ⟨Rect.unit (s := S2x4096x128) (k0_off2 i) S1x512x128.size (k0_off2_inb i), k0_pay1 (runFirst.sl.r_8 c i A x0 x1 x2 x3)⟩ ::
    runFirst.sl.H4_2 c i A x0 x1 x2 x3

theorem dq_mask_first (hh : Fin 2) (r : Fin 4096) (l : Fin 128) :
    A.dq.view.read (Elt Ideal) (A.dq.view.writes (Elt Ideal) f6 (dqFirst c i A x0 x1 x2 x3)) (ix3 hh r l)
      = if r.val / 512 = (i 1).val then dqRow (i 1).val x0 x1 x2 x3 hh r l else 0 := by
  have hb : (i 1).val < 8 := (i 1).isLt
  unfold dqFirst
  by_cases hr : r.val / 512 = (i 1).val
  · rw [if_pos hr]
    obtain ⟨x, rfl⟩ : ∃ x : Fin 512, r = rowAt (i 1).val x :=
      ⟨⟨r.val % 512, Nat.mod_lt _ (by decide)⟩, Fin.ext (by rw [rowAt_val hb]; dsimp only; omega)⟩
    unfold dqRow dwt
    rcases (by omega : hh = 0 ∨ hh = 1) with rfl | rfl
    · refine (View.read_writes_cons_unit_of_not_mem A.dq.view f6 _ _ _ _ (off2_eq i) 0 (Or.inl Nat.zero_lt_one)).trans ?_
      unfold runFirst.sl.H4_2
      refine (View.read_writes_cons_unit_of_mem A.dq.view f6 _ _ _ _ (ix3 (0 : Fin 1) x l) (off1_eq i) ?_).trans ?_
      · intro a; fin_cases a <;> first | rfl | exact rowAt_val hb x | exact (Nat.zero_add _).symm
      simp only [runFirst.sl.r, runFirst.sl.r_1, runFirst.sl.r_2, runFirst.sl.r_3, runFirst.sl.r_4, runFirst.sl.r_5, runFirst.sl.r_6, runFirst.sl.r_7, runFirst.sl.r_8, runFirst.sl.v0, runFirst.sl.v1, runFirst.sl.v12, runFirst.sl.v2, runFirst.sl.v32, runFirst.sl.v39, runFirst.sl.v73, runFirst.sl.v80, runFirst.sl.v88]
      unfold_payloads
      pointwise
      simp only [View.readAt_eq_ld, A.hq.read_unread, A.hdo.read_unread, A.hk.read_unread, A.hv.read_unread]
      pointwise
      simp only [row1, mask_exp]
      refine (congrArg (· + _) ?_).trans (zero_add _)
      exact dq_zero A _ _
    · refine (View.read_writes_cons_unit_of_mem A.dq.view f6 _ _ _ _ (ix3 (0 : Fin 1) x l) (off2_eq i) ?_).trans ?_
      · intro a; fin_cases a <;> first | rfl | exact rowAt_val hb x | exact (Nat.zero_add _).symm
      simp only [runFirst.sl.r, runFirst.sl.r_1, runFirst.sl.r_2, runFirst.sl.r_3, runFirst.sl.r_4, runFirst.sl.r_5, runFirst.sl.r_6, runFirst.sl.r_7, runFirst.sl.r_8, runFirst.sl.v0, runFirst.sl.v1, runFirst.sl.v12, runFirst.sl.v2, runFirst.sl.v32, runFirst.sl.v39, runFirst.sl.v73, runFirst.sl.v80, runFirst.sl.v88]
      unfold_payloads
      pointwise
      simp only [View.readAt_eq_ld, A.hq.read_unread, A.hdo.read_unread, A.hk.read_unread, A.hv.read_unread]
      pointwise
      simp only [row2, mask_exp]
      refine (congrArg (· + _) ?_).trans (zero_add _)
      unfold runFirst.sl.H4_2
      refine (View.read_writes_cons_unit_of_not_mem A.dq.view _ _ _ _ _ (off1_eq i) 0 (Or.inr le_rfl)).trans ?_
      exact dq_zero A _ _
  · rw [if_neg hr]
    have ho : r.val < 512 * (i 1).val ∨ 512 * (i 1).val + 512 ≤ r.val := by omega
    refine (View.read_writes_cons_unit_of_not_mem A.dq.view f6 _ _ _ _ (off2_eq i) 1 ho).trans ?_
    unfold runFirst.sl.H4_2
    refine (View.read_writes_cons_unit_of_not_mem A.dq.view f6 _ _ _ _ (off1_eq i) 1 ho).trans ?_
    exact dq_zero A _ _

end
end Cert.FoxIdeal.Hand
-- ==== Proof.FoxRead.lean ====
module

public import proofs.«01_k».proof.Proof.FoxMask

/-! What a whole run of the body leaves in the three gradients, in closed form. -/

@[expose] public section
set_option maxRecDepth 16384
noncomputable section
namespace Cert.FoxIdeal.Hand
open Cert.FoxIdeal Cert.FoxIdeal.Gen
open Idealize.ShloMosaic Idealize.ShloMosaic.TcCoe Idealize.ShloMosaic.Tactic

/-- A sum over all rows, by row blocks. -/
theorem sum_rows (G : Fin 4096 → EReal) : ∑ r, G r = ∑ b ∈ Finset.range 8, ∑ x : Fin 512, G (rowAt b x) := by
  rw [Finset.sum_range, ← Fintype.sum_prod_type', ← (finProdFinEquiv (m := 8) (n := 512)).sum_comp]
  refine Finset.sum_congr rfl fun p _ => congrArg G (Fin.ext ?_)
  rw [rowAt_val p.1.isLt]
  exact Nat.add_comm _ _

/-- A sum over all rows whose terms vanish above row block `j`: block `j`, then the later ones. -/
theorem sum_from (j : ℕ) (hj : j < 8) (G : Fin 4096 → EReal) (h : ∀ r : Fin 4096, r.val < 512 * j → G r = 0) :
    ∑ r, G r = ∑ x : Fin 512, G (rowAt j x) + ∑ b ∈ Finset.range (7 - j), ∑ x : Fin 512, G (rowAt (j + 1 + b) x) := by
  rw [sum_rows, show 8 = j + (1 + (7 - j)) by omega, Finset.sum_range_add, Finset.sum_range_add]
  have h0 : ∑ b ∈ Finset.range j, ∑ x : Fin 512, G (rowAt b x) = 0 :=
    Finset.sum_eq_zero fun b hb => Finset.sum_eq_zero fun x _ => h _ (by
      have := Finset.mem_range.mp hb
      rw [rowAt_val (by omega)]; have := x.isLt; omega)
  rw [h0, zero_add]
  simp only [Finset.sum_range_one, add_zero, Nat.add_assoc]

/-- The key gradient of key block `j`. -/
def dkAll (j : ℕ) (Q D : Vec Ideal S2x4096x128 .bf16) (K V : Vec Ideal S2x512x128 .bf16) (hh : Fin 2) (c : Fin 512) (l : Fin 128) : EReal :=
  ∑ r : Fin 4096, dwt j Q D K V hh r c * Q (ix3 hh r l)

/-- The value gradient of key block `j`. -/
def dvAll (j : ℕ) (Q D : Vec Ideal S2x4096x128 .bf16) (K : Vec Ideal S2x512x128 .bf16) (hh : Fin 2) (c : Fin 512) (l : Fin 128) : EReal :=
  ∑ r : Fin 4096, wt j Q K hh r c * D (ix3 hh r l)

theorem wt_above (j : ℕ) (Q : Vec Ideal S2x4096x128 .bf16) (K : Vec Ideal S2x512x128 .bf16) (hh : Fin 2) (r : Fin 4096) (c : Fin 512)
    (h : r.val < 512 * j) : wt j Q K hh r c = 0 := if_neg (by omega)

theorem dqRow_above (j : ℕ) (Q D : Vec Ideal S2x4096x128 .bf16) (K V : Vec Ideal S2x512x128 .bf16) (hh : Fin 2) (r : Fin 4096) (l : Fin 128)
    (h : r.val < 512 * j) : dqRow j Q D K V hh r l = 0 :=
  Finset.sum_eq_zero fun c _ => by unfold dwt; rw [wt_above j Q K hh r c h, zero_mul, zero_mul]

theorem dkAll_eq (j : ℕ) (hj : j < 8) (Q D : Vec Ideal S2x4096x128 .bf16) (K V : Vec Ideal S2x512x128 .bf16) (hh : Fin 2) (c : Fin 512) (l : Fin 128) :
    dkAll j Q D K V hh c l = dkBlk j Q D K V j hh c l + ∑ b ∈ Finset.range (7 - j), dkBlk j Q D K V (j + 1 + b) hh c l :=
  sum_from j hj _ fun r hr => by unfold dwt; rw [wt_above j Q K hh r c hr, zero_mul, zero_mul]

theorem dvAll_eq (j : ℕ) (hj : j < 8) (Q D : Vec Ideal S2x4096x128 .bf16) (K : Vec Ideal S2x512x128 .bf16) (hh : Fin 2) (c : Fin 512) (l : Fin 128) :
    dvAll j Q D K hh c l = dvBlk j Q D K j hh c l + ∑ b ∈ Finset.range (7 - j), dvBlk j Q D K (j + 1 + b) hh c l :=
  sum_from j hj _ fun r hr => by rw [wt_above j Q K hh r c hr, zero_mul]

/-- Two contents of a whole operand that read alike are the same. -/
theorem whole_ext {s : Shape} {e : EltTy} {m : Memref sig .tc .vmem s e} (hm : m.IsWhole) (f g : BufTy.Contents (Elt Ideal) m.view.ty)
    (h : m.view.read (Elt Ideal) f = m.view.read (Elt Ideal) g) : f = g :=
  (hm.eq_unread h).trans (hm.eq_unread rfl).symm

section
variable (c : Dev nD) (i : grid0.Coords) (A : Args)
    (x0 x1 : Vec Ideal S2x4096x128 .bf16) (x2 x3 : Vec Ideal S2x512x128 .bf16)
    (y4 : Vec Ideal S2x4096x128 .f32) (y5 : Vec Ideal S2x512x128 .f32) (y6 : Vec Ideal S2x512x128 .bf16) (y7 : Vec Ideal S2x512x128 .f32)
    (f6 : BufTy.Contents (Elt Ideal) A.dq.view.ty) (f7 : BufTy.Contents (Elt Ideal) A.dk.view.ty) (f9 : BufTy.Contents (Elt Ideal) A.acc.view.ty)

theorem same_H5 : runLater.sl.H5_3 c i A x0 x1 x2 x3 = runFirst.sl.H5_3 c i A x0 x1 x2 x3 := rfl
theorem same_HS0 : runLater.sl.HS0_3 c i A x0 x1 x2 = runFirst.sl.HS0_3 c i A x0 x1 x2 := rfl

/-- The pieces of the query gradient before the loop, at a pair's later key blocks. -/
abbrev dqLater : List (View.Piece (Elt Ideal) S2x4096x128 .f32) :=
  (⟨Rect.unit (s := S2x4096x128) (k0_off2 i) S1x512x128.size (k0_off2_inb i), k0_pay1 (runLater.sl.r_8 c i A x0 x1 x2 x3 y4)⟩ ::
    [⟨Rect.unit (s := S2x4096x128) (k0_off1 i) S1x512x128.size (k0_off1_inb i), k0_pay50 (runLater.sl.r c A x2) (runLater.sl.r_3 c i A x0 x1 x2 x3)
        (View.readAt (Elt Ideal) A.dq.view (Rect.unit (s := S2x4096x128) (k0_off1 i) S1x512x128.size (k0_off1_inb i)).toLoadRect (A.hdq.unread y4))⟩])

theorem dq_mask_later (hf : A.dq.view.read (Elt Ideal) f6 = y4) (hh : Fin 2) (r : Fin 4096) (l : Fin 128) :
    A.dq.view.read (Elt Ideal) (A.dq.view.writes (Elt Ideal) f6 (dqLater c i A x0 x1 x2 x3 y4)) (ix3 hh r l)
      = if r.val / 512 = (i 1).val then y4 (ix3 hh r l) + dqRow (i 1).val x0 x1 x2 x3 hh r l else y4 (ix3 hh r l) := by
  subst hf
  have hb : (i 1).val < 8 := (i 1).isLt
  by_cases hr : r.val / 512 = (i 1).val
  · rw [if_pos hr]
    obtain ⟨x, rfl⟩ : ∃ x : Fin 512, r = rowAt (i 1).val x :=
      ⟨⟨r.val % 512, Nat.mod_lt _ (by decide)⟩, Fin.ext (by rw [rowAt_val hb]; dsimp only; omega)⟩
    unfold dqRow dwt
    rcases (by omega : hh = 0 ∨ hh = 1) with rfl | rfl
    · refine (View.read_writes_cons_unit_of_not_mem A.dq.view f6 _ _ _ _ (off2_eq i) 0 (Or.inl Nat.zero_lt_one)).trans ?_
      refine (View.read_writes_cons_unit_of_mem A.dq.view f6 _ _ _ _ (ix3 (0 : Fin 1) x l) (off1_eq i) ?_).trans ?_
      · intro a; fin_cases a <;> first | rfl | exact rowAt_val hb x | exact (Nat.zero_add _).symm
      simp only [runLater.sl.r, runLater.sl.r_1, runLater.sl.r_2, runLater.sl.r_3, runLater.sl.r_4, runLater.sl.r_5, runLater.sl.r_6, runLater.sl.r_7, runLater.sl.r_8, runLater.sl.v0, runLater.sl.v1, runLater.sl.v12, runLater.sl.v2, runLater.sl.v32, runLater.sl.v39, runLater.sl.v73, runLater.sl.v80, runLater.sl.v88, View.readAt_eq_ld, A.hdq.read_unread]
      unfold_payloads
      pointwise
      simp only [View.readAt_eq_ld, A.hq.read_unread, A.hdo.read_unread, A.hk.read_unread, A.hv.read_unread]
      pointwise
      simp only [row1, mask_exp]
    · refine (View.read_writes_cons_unit_of_mem A.dq.view f6 _ _ _ _ (ix3 (0 : Fin 1) x l) (off2_eq i) ?_).trans ?_
      · intro a; fin_cases a <;> first | rfl | exact rowAt_val hb x | exact (Nat.zero_add _).symm
      simp only [runLater.sl.r, runLater.sl.r_1, runLater.sl.r_2, runLater.sl.r_3, runLater.sl.r_4, runLater.sl.r_5, runLater.sl.r_6, runLater.sl.r_7, runLater.sl.r_8, runLater.sl.v0, runLater.sl.v1, runLater.sl.v12, runLater.sl.v2, runLater.sl.v32, runLater.sl.v39, runLater.sl.v73, runLater.sl.v80, runLater.sl.v88, View.readAt_eq_ld, A.hdq.read_unread]
      unfold_payloads
      pointwise
      simp only [View.readAt_eq_ld, A.hq.read_unread, A.hdo.read_unread, A.hk.read_unread, A.hv.read_unread]
      pointwise
      simp only [row2, mask_exp]
  · rw [if_neg hr]
    have ho : r.val < 512 * (i 1).val ∨ 512 * (i 1).val + 512 ≤ r.val := by omega
    refine (View.read_writes_cons_unit_of_not_mem A.dq.view f6 _ _ _ _ (off2_eq i) 1 ho).trans ?_
    exact View.read_writes_cons_unit_of_not_mem A.dq.view f6 _ _ _ _ (off1_eq i) 1 ho

/-- The loop past the last full chunk has no trip. -/
theorem rest_none (𝒱 : Variants) (bd : Option 𝒱.V) (w : BitVec 32)
    (X2 : BufTy.Contents (Elt Ideal) A.q.view.ty) (X3 : BufTy.Contents (Elt Ideal) A.do'.view.ty)
    (X4 : BufTy.Contents (Elt Ideal) A.k.view.ty) (X5 : BufTy.Contents (Elt Ideal) A.v.view.ty) :
    pb_k0_t2 (F := Ideal) 𝒱 c bd i A.q A.hq A.do' A.hdo A.k A.hk A.v A.hv A.dq A.hdq A.dk A.hdk A.dv A.hdv A.acc A.hacc w X2 X3 X4 X5 f6 f7 f9 (k0_t2_loop i).trips = ([], [], []) := by
  rw [trips_t2]; rfl

/-- At a pair's first key block the query gradient starts from nothing. -/
theorem first_dq (hc0 : firstKey i) (hh : Fin 2) (r : Fin 4096) (l : Fin 128) :
    A.dq.view.read (Elt Ideal) (A.dq.view.writes (Elt Ideal) f6 (runFirst c i A hc0 x0 x1 x2 x3 y4 y5 y6 y7).1) (ix3 hh r l)
      = dqRow (i 1).val x0 x1 x2 x3 hh r l := by
  have hb : (i 1).val < 8 := (i 1).isLt
  unfold runFirst
  dsimp only
  refine (congrArg (fun L => A.dq.view.read (Elt Ideal) (A.dq.view.writes (Elt Ideal) f6 (L ++ _)) (ix3 hh r l))
    (congrArg (fun p => p.1) (rest_none c i A _ _ _ Variants.none none _ _ _ _ _))).trans ?_
  rw [List.nil_append, View.writes_append,
    whole_ext A.hdq (A.dq.view.writes (Elt Ideal) f6 _) (A.dq.view.writes (Elt Ideal) A.dq.view.junk _)
      (funext fun y => by idx_vars y; exact (dq_mask_first c i A x0 x1 x2 x3 f6 y0 y1 y2).trans (dq_mask_first c i A x0 x1 x2 x3 _ y0 y1 y2).symm)]
  refine (loop_dq Variants.none c none i A _ _ _ _ _ _ _ _ (k0_t1_loop i).trips le_rfl hh r l).trans ?_
  rw [dq_mask_first, trips_t1, A.hq.read_unread, A.hdo.read_unread, A.hk.read_unread, A.hv.read_unread]
  have hr := r.isLt
  by_cases h : r.val / 512 = (i 1).val
  · rw [if_neg (by omega), if_pos h]
  · by_cases h' : (i 1).val < r.val / 512
    · rw [if_pos (by omega), if_neg h, zero_add]
    · rw [if_neg (by omega), if_neg h, dqRow_above _ _ _ _ _ _ _ _ (by omega)]

/-- At the later key blocks it gains the key block's share. -/
theorem later_dq (hc0 : ¬firstKey i) (hh : Fin 2) (r : Fin 4096) (l : Fin 128) :
    A.dq.view.read (Elt Ideal) (A.dq.view.writes (Elt Ideal) (A.hdq.unread y4) (runLater c i A hc0 x0 x1 x2 x3 y4 y5 y6 y7).1) (ix3 hh r l)
      = y4 (ix3 hh r l) + dqRow (i 1).val x0 x1 x2 x3 hh r l := by
  have hb : (i 1).val < 8 := (i 1).isLt
  unfold runLater
  dsimp only
  refine (congrArg (fun L => A.dq.view.read (Elt Ideal) (A.dq.view.writes (Elt Ideal) (A.hdq.unread y4) (L ++ _)) (ix3 hh r l))
    (congrArg (fun p => p.1) (rest_none c i A _ _ _ Variants.none none _ _ _ _ _))).trans ?_
  rw [List.nil_append, View.writes_append]
  refine (loop_dq Variants.none c none i A _ _ _ _ _ _ _ _ (k0_t1_loop i).trips le_rfl hh r l).trans ?_
  rw [dq_mask_later c i A x0 x1 x2 x3 y4 _ (A.hdq.read_unread _), trips_t1, A.hq.read_unread, A.hdo.read_unread, A.hk.read_unread, A.hv.read_unread]
  have hr := r.isLt
  by_cases h : r.val / 512 = (i 1).val
  · rw [if_neg (by omega), if_pos h]
  · by_cases h' : (i 1).val < r.val / 512
    · rw [if_pos (by omega), if_neg h]
    · rw [if_neg (by omega), if_neg h, dqRow_above _ _ _ _ _ _ _ _ (by omega), add_zero]

theorem first_dk (hc0 : firstKey i) (hh : Fin 2) (cc : Fin 512) (l : Fin 128) :
    A.dk.view.read (Elt Ideal) (A.dk.view.writes (Elt Ideal) f7 (runFirst c i A hc0 x0 x1 x2 x3 y4 y5 y6 y7).2.1) (ix3 hh cc l)
      = dkAll (i 1).val x0 x1 x2 x3 hh cc l := by
  have hb : (i 1).val < 8 := (i 1).isLt
  unfold runFirst
  dsimp only
  refine (congrArg (fun L => A.dk.view.read (Elt Ideal) (A.dk.view.writes (Elt Ideal) f7 (L ++ _)) (ix3 hh cc l))
    (congrArg (fun p => p.2.1) (rest_none c i A _ _ _ Variants.none none _ _ _ _ _))).trans ?_
  rw [List.nil_append, View.writes_append,
    whole_ext A.hdk (A.dk.view.writes (Elt Ideal) f7 _) (A.dk.view.writes (Elt Ideal) A.dk.view.junk _)
      (funext fun y => by idx_vars y; exact (dk_mask c i A x0 x1 x2 x3 f7 y0 y1 y2).trans (dk_mask c i A x0 x1 x2 x3 _ y0 y1 y2).symm)]
  refine (loop_dk Variants.none c none i A _ _ _ _ _ _ _ _ (k0_t1_loop i).trips le_rfl hh cc l).trans ?_
  rw [dk_mask, trips_t1, A.hq.read_unread, A.hdo.read_unread, A.hk.read_unread, A.hv.read_unread, dkAll_eq _ hb]

theorem later_dk (hc0 : ¬firstKey i) (hh : Fin 2) (cc : Fin 512) (l : Fin 128) :
    A.dk.view.read (Elt Ideal) (A.dk.view.writes (Elt Ideal) f7 (runLater c i A hc0 x0 x1 x2 x3 y4 y5 y6 y7).2.1) (ix3 hh cc l)
      = dkAll (i 1).val x0 x1 x2 x3 hh cc l := by
  have hb : (i 1).val < 8 := (i 1).isLt
  unfold runLater
  dsimp only
  refine (congrArg (fun L => A.dk.view.read (Elt Ideal) (A.dk.view.writes (Elt Ideal) f7 (L ++ _)) (ix3 hh cc l))
    (congrArg (fun p => p.2.1) (rest_none c i A _ _ _ Variants.none none _ _ _ _ _))).trans ?_
  simp only [same_H5]
  rw [List.nil_append, View.writes_append,
    whole_ext A.hdk (A.dk.view.writes (Elt Ideal) f7 _) (A.dk.view.writes (Elt Ideal) A.dk.view.junk _)
      (funext fun y => by idx_vars y; exact (dk_mask c i A x0 x1 x2 x3 f7 y0 y1 y2).trans (dk_mask c i A x0 x1 x2 x3 _ y0 y1 y2).symm)]
  refine (loop_dk Variants.none c none i A _ _ _ _ _ _ _ _ (k0_t1_loop i).trips le_rfl hh cc l).trans ?_
  rw [dk_mask, trips_t1, A.hq.read_unread, A.hdo.read_unread, A.hk.read_unread, A.hv.read_unread, dkAll_eq _ hb]

variable (fv : BufTy.Contents (Elt Ideal) A.dv.view.ty)

theorem first_dv (hc0 : firstKey i) (hh : Fin 2) (cc : Fin 512) (l : Fin 128) :
    A.dv.view.read (Elt Ideal) (A.dv.view.writes (Elt Ideal) fv (runFirst c i A hc0 x0 x1 x2 x3 y4 y5 y6 y7).2.2.1) (ix3 hh cc l)
      = dvAll (i 1).val x0 x1 x2 hh cc l := by
  have hb : (i 1).val < 8 := (i 1).isLt
  unfold runFirst
  dsimp only
  refine (View.read_writes_cons_unit_of_mem A.dv.view fv _ _ _ _ (ix3 hh cc l) rfl ?_).trans ?_
  · intro a; fin_cases a <;> exact (Nat.zero_add _).symm
  unfold runFirst.sl.v102
  unfold k0_pay6
  pointwise
  simp only [View.readAt_eq_ld]
  pointwise
  refine (congrArg (fun L => A.acc.view.read (Elt Ideal) (A.acc.view.writes (Elt Ideal) A.acc.view.junk (L ++ _)) (ix3 hh cc l))
    (congrArg (fun p => p.2.2) (rest_none c i A _ _ _ Variants.none none _ _ _ _ _))).trans ?_
  rw [List.nil_append, View.writes_append]
  refine (loop_dv Variants.none c none i A _ _ _ _ _ _ _ _ (k0_t1_loop i).trips le_rfl hh cc l).trans ?_
  rw [dv_mask, trips_t1, A.hq.read_unread, A.hdo.read_unread, A.hk.read_unread, dvAll_eq _ hb]

theorem later_dv (hc0 : ¬firstKey i) (hh : Fin 2) (cc : Fin 512) (l : Fin 128) :
    A.dv.view.read (Elt Ideal) (A.dv.view.writes (Elt Ideal) fv (runLater c i A hc0 x0 x1 x2 x3 y4 y5 y6 y7).2.2.1) (ix3 hh cc l)
      = dvAll (i 1).val x0 x1 x2 hh cc l := by
  have hb : (i 1).val < 8 := (i 1).isLt
  unfold runLater
  dsimp only
  refine (View.read_writes_cons_unit_of_mem A.dv.view fv _ _ _ _ (ix3 hh cc l) rfl ?_).trans ?_
  · intro a; fin_cases a <;> exact (Nat.zero_add _).symm
  unfold runLater.sl.v102
  unfold k0_pay6
  pointwise
  simp only [View.readAt_eq_ld, same_HS0]
  pointwise
  refine (congrArg (fun L => A.acc.view.read (Elt Ideal) (A.acc.view.writes (Elt Ideal) A.acc.view.junk (L ++ _)) (ix3 hh cc l))
    (congrArg (fun p => p.2.2) (rest_none c i A _ _ _ Variants.none none _ _ _ _ _))).trans ?_
  rw [List.nil_append, View.writes_append]
  refine (loop_dv Variants.none c none i A _ _ _ _ _ _ _ _ (k0_t1_loop i).trips le_rfl hh cc l).trans ?_
  rw [dv_mask, trips_t1, A.hq.read_unread, A.hdo.read_unread, A.hk.read_unread, dvAll_eq _ hb]

end
end Cert.FoxIdeal.Hand
-- ==== Proof.FoxFrame.lean ====
module

public import proofs.«01_k».proof.Proof.FoxRead
public import Idealize.ShloMosaic.Lib.Claim

/-! The run of the call at the ideal values: what every output block holds, in closed form, and the frame. -/

@[expose] public section
set_option maxRecDepth 16384
noncomputable section
namespace Cert.FoxIdeal.Hand
open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (l : Loc nD τ sig) → Buf (Elt Ideal) l) (ρ : Dev nD → PrngReg)

/-- The operands the pipeline hands the body at point `t`. -/
abbrev opsAt (t : Fin cfg0.N) : Args :=
  ⟨win0_0.stage (cfg0.slots t 0), hstage0_0 ((cfg0.slots t 0).cast nbuf0_0), win0_1.stage (cfg0.slots t 1), hstage0_1 ((cfg0.slots t 1).cast nbuf0_1), win0_2.stage (cfg0.slots t 2), hstage0_2 ((cfg0.slots t 2).cast nbuf0_2), win0_3.stage (cfg0.slots t 3), hstage0_3 ((cfg0.slots t 3).cast nbuf0_3), win0_4.stage (cfg0.slots t 4), hstage0_4 ((cfg0.slots t 4).cast nbuf0_4), win0_5.stage (cfg0.slots t 5), hstage0_5 ((cfg0.slots t 5).cast nbuf0_5), win0_6.stage (cfg0.slots t 6), hstage0_6 ((cfg0.slots t 6).cast nbuf0_6), Memref.whole cc0_scratch0, Memref.isWhole_whole _⟩

/-- The key block's number at a point. -/
abbrev keyNo (t : Fin cfg0.N) : ℕ := (grid0.coords t 1).val

/-- What the point adds to the query gradient. -/
def dqGain (c : Dev nD) (t : Fin cfg0.N) (y : S2x4096x128.Idx) : EReal :=
  dqRow (keyNo t) (iblk m c 0 t) (iblk m c 1 t) (iblk m c 2 t) (iblk m c 3 t) (y 0) (y 1) (y 2)

/-- The query gradient's block after the body at position `n`. -/
def dqAt (c : Dev nD) : (n : ℕ) → n < cfg0.N → Vec Ideal S2x4096x128 .f32
  | 0, hn => fun y => dqGain m c ⟨0, hn⟩ y
  | n + 1, hn => fun y => if (n + 1) % 8 = 0 then dqGain m c ⟨n + 1, hn⟩ y else dqAt c n (Nat.lt_of_succ_lt hn) y + dqGain m c ⟨n + 1, hn⟩ y

theorem dqAt_first (c : Dev nD) (t : Fin cfg0.N) (h0 : t.val % 8 = 0) : dqAt m c t.val t.isLt = fun y => dqGain m c t y := by
  obtain ⟨n, hn⟩ := t
  cases n with
  | zero => rfl
  | succ n => exact funext fun y => if_pos h0

theorem dqAt_later (c : Dev nD) (t : Fin cfg0.N) (h0 : ¬t.val % 8 = 0) :
    dqAt m c t.val t.isLt = fun y => dqAt m c (t.val - 1) (Nat.lt_of_le_of_lt (Nat.sub_le _ _) t.isLt) y + dqGain m c t y := by
  obtain ⟨n, hn⟩ := t
  cases n with
  | zero => exact absurd rfl h0
  | succ n => exact funext fun y => if_neg h0

/-- The proof data of the pipeline: each input's buffer keeps its block, the outputs' hold the gradients. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => dqAt m c t.val t.isLt
    | ⟨5, _⟩ => fun y : S2x512x128.Idx => dkAll (keyNo t) (iblk m c 0 t) (iblk m c 1 t) (iblk m c 2 t) (iblk m c 3 t) (y 0) (y 1) (y 2)
    | ⟨6, _⟩ => fun y : S2x512x128.Idx => dvAll (keyNo t) (iblk m c 0 t) (iblk m c 1 t) (iblk m c 2 t) (y 0) (y 1) (y 2)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_q (c : Dev nD) (t : Fin cfg0.N) : (dats m 0 c).after 0 t = iblk m c 0 t := by dsimp only [dats]
theorem after_do (c : Dev nD) (t : Fin cfg0.N) : (dats m 0 c).after 1 t = iblk m c 1 t := by dsimp only [dats]
theorem after_k (c : Dev nD) (t : Fin cfg0.N) : (dats m 0 c).after 2 t = iblk m c 2 t := by dsimp only [dats]
theorem after_v (c : Dev nD) (t : Fin cfg0.N) : (dats m 0 c).after 3 t = iblk m c 3 t := by dsimp only [dats]
theorem after_dq (c : Dev nD) (t : Fin cfg0.N) : (dats m 0 c).after 4 t = dqAt m c t.val t.isLt := by dsimp only [dats]
theorem after_dk (c : Dev nD) (t : Fin cfg0.N) : (dats m 0 c).after 5 t
    = fun y : S2x512x128.Idx => dkAll (keyNo t) (iblk m c 0 t) (iblk m c 1 t) (iblk m c 2 t) (iblk m c 3 t) (y 0) (y 1) (y 2) := by dsimp only [dats]
theorem after_dv (c : Dev nD) (t : Fin cfg0.N) : (dats m 0 c).after 6 t
    = fun y : S2x512x128.Idx => dvAll (keyNo t) (iblk m c 0 t) (iblk m c 1 t) (iblk m c 2 t) (y 0) (y 1) (y 2) := by dsimp only [dats]

/-- Each input's buffer holds its block at every point. -/
theorem before_in (c : Dev nD) (t : Fin cfg0.N) :
    (∀ d, (dats m 0 c).before 0 t d = iblk m c 0 t) ∧ (∀ d, (dats m 0 c).before 1 t d = iblk m c 1 t)
      ∧ (∀ d, (dats m 0 c).before 2 t d = iblk m c 2 t) ∧ (∀ d, (dats m 0 c).before 3 t d = iblk m c 3 t) :=
  ⟨before0_0_of m (dats m 0 c) (A_eq m c 0) (after_q m c) t, before0_1_of m (dats m 0 c) (A_eq m c 1) (after_do m c) t,
    before0_2_of m (dats m 0 c) (A_eq m c 2) (after_k m c) t, before0_3_of m (dats m 0 c) (A_eq m c 3) (after_v m c) t⟩

/-- At a later key block the query gradient's buffer holds what the point before left. -/
theorem before_dq (c : Dev nD) (t : Fin cfg0.N) (h0 : ¬t.val % 8 = 0) (d) :
    (dats m 0 c).before 4 t d = dqAt m c (t.val - 1) (Nat.lt_of_le_of_lt (Nat.sub_le _ _) t.isLt) := by
  have hN : t.val < 48 := lt_of_lt_of_eq t.isLt (show cfg0.N = 48 from N_0)
  rw [Dat.before_out_kept _ 4 rfl t (by omega) (Bool.eq_false_iff.mpr fun h => by have := (flush0_4 _).mp h; dsimp only at this; omega)
    (fun _ => rfl) (fun _ _ => rfl)]
  dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (opsAt t).q fullShare ((dats m 0 c).before 0 t d))
    ∗ (∃ d, owns (c : Thread nD τ) (opsAt t).do' fullShare ((dats m 0 c).before 1 t d))
    ∗ (∃ d, owns (c : Thread nD τ) (opsAt t).k fullShare ((dats m 0 c).before 2 t d))
    ∗ (∃ d, owns (c : Thread nD τ) (opsAt t).v fullShare ((dats m 0 c).before 3 t d))
    ∗ (∃ d, owns (c : Thread nD τ) (opsAt t).dq fullShare ((dats m 0 c).before 4 t d))
    ∗ (∃ d, owns (c : Thread nD τ) (opsAt t).dk fullShare ((dats m 0 c).before 5 t d))
    ∗ (∃ d, owns (c : Thread nD τ) (opsAt t).dv fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (opsAt t).q fullShare ((dats m 0 c).after 0 t)
    ∗ owns (c : Thread nD τ) (opsAt t).do' fullShare ((dats m 0 c).after 1 t)
    ∗ owns (c : Thread nD τ) (opsAt t).k fullShare ((dats m 0 c).after 2 t)
    ∗ owns (c : Thread nD τ) (opsAt t).v fullShare ((dats m 0 c).after 3 t)
    ∗ owns (c : Thread nD τ) (opsAt t).dq fullShare ((dats m 0 c).after 4 t)
    ∗ owns (c : Thread nD τ) (opsAt t).dk fullShare ((dats m 0 c).after 5 t)
    ∗ owns (c : Thread nD τ) (opsAt t).dv fullShare ((dats m 0 c).after 6 t))

/-- The invariant of the pipeline: the scratch buffer at some contents, and the generator register. -/
theorem inv_eq (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]; try rfl

set_option maxHeartbeats 3200000 in
/-- The body at any point takes the one to the other. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost
  obtain ⟨b0, b1, b2, b3⟩ := before_in m c t
  simp only [b0, b1, b2, b3]
  rw [show (dats m 0 c).Φ t.succ = (dats m 0 c).Φ t.castSucc from rfl,
    show (dats m 0 c).owesAt () t.succ = (dats m 0 c).owesAt () t.castSucc from rfl,
    after_q, after_do, after_k, after_v, after_dq, after_dk, after_dv]
  rw [show (dats m 0 c).Φ t.castSucc = Pipeline.ΦA spec0 c from rfl, inv_eq]
  by_cases h0 : t.val % 8 = 0
  · rw [dqAt_first m c t h0]
    iintro ⟨⟨⟨%s0, HS0⟩, Hg⟩, Ho, ⟨%d0, H0⟩, ⟨%d1, H1⟩, ⟨%d2, H2⟩, ⟨%d3, H3⟩, ⟨%d4, H4⟩, ⟨%d5, H5⟩, ⟨%d6, H6⟩⟩
    iapply ((runFirst c (grid0.coords t) (opsAt t) ((firstKey_iff t).mpr h0) (iblk m c 0 t) (iblk m c 1 t) (iblk m c 2 t) (iblk m c 3 t) ((dats m 0 c).before 4 t d4) ((dats m 0 c).before 5 t d5) ((dats m 0 c).before 6 t d6) s0).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    iintro ⟨H0, H1, H2, H3, ⟨%e4, H4⟩, ⟨%e5, H5⟩, ⟨%e6, H6⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; funext y; idx_vars y; exact first_dq c (grid0.coords t) (opsAt t) (iblk m c 0 t) (iblk m c 1 t) (iblk m c 2 t) _ _ _ _ _ _ ((firstKey_iff t).mpr h0) y0 y1 y2
    isplitl [H5]
    · unfold owns; iexists _; isplitr
      swap; · iexact H5
      ipureintro; funext y; idx_vars y; exact first_dk c (grid0.coords t) (opsAt t) (iblk m c 0 t) (iblk m c 1 t) (iblk m c 2 t) _ _ _ _ _ _ ((firstKey_iff t).mpr h0) y0 y1 y2
    unfold owns; iexists _; isplitr
    swap; · iexact H6
    ipureintro; funext y; idx_vars y; exact first_dv c (grid0.coords t) (opsAt t) (iblk m c 0 t) (iblk m c 1 t) (iblk m c 2 t) _ _ _ _ _ _ ((firstKey_iff t).mpr h0) y0 y1 y2
  · rw [dqAt_later m c t h0]
    simp only [before_dq m c t h0]
    iintro ⟨⟨⟨%s0, HS0⟩, Hg⟩, Ho, ⟨%d0, H0⟩, ⟨%d1, H1⟩, ⟨%d2, H2⟩, ⟨%d3, H3⟩, ⟨%d4, H4⟩, ⟨%d5, H5⟩, ⟨%d6, H6⟩⟩
    iapply ((runLater c (grid0.coords t) (opsAt t) (fun h => h0 ((firstKey_iff t).mp h)) (iblk m c 0 t) (iblk m c 1 t) (iblk m c 2 t) (iblk m c 3 t) (dqAt m c (t.val - 1) (Nat.lt_of_le_of_lt (Nat.sub_le _ _) t.isLt)) ((dats m 0 c).before 5 t d5) ((dats m 0 c).before 6 t d6) s0).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    iintro ⟨H0, H1, H2, H3, H4, ⟨%e5, H5⟩, ⟨%e6, H6⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; funext y; idx_vars y; exact later_dq c (grid0.coords t) (opsAt t) (iblk m c 0 t) (iblk m c 1 t) (iblk m c 2 t) _ _ _ _ _ (fun h => h0 ((firstKey_iff t).mp h)) y0 y1 y2
    isplitl [H5]
    · unfold owns; iexists _; isplitr
      swap; · iexact H5
      ipureintro; funext y; idx_vars y; exact later_dk c (grid0.coords t) (opsAt t) (iblk m c 0 t) (iblk m c 1 t) (iblk m c 2 t) _ _ _ _ _ _ (fun h => h0 ((firstKey_iff t).mp h)) y0 y1 y2
    unfold owns; iexists _; isplitr
    swap; · iexact H6
    ipureintro; funext y; idx_vars y; exact later_dv c (grid0.coords t) (opsAt t) (iblk m c 0 t) (iblk m c 1 t) (iblk m c 2 t) _ _ _ _ _ _ (fun h => h0 ((firstKey_iff t).mp h)) y0 y1 y2

/-- The body table's row at point `t`'s slots is the body. -/
theorem row_body (t : Fin cfg0.N) :
    defs₀ (F := Ideal) .tc cfg0.body (cfg0.bodyArgs t (cfg0.slots t)) = bodyAt0 t := by
  unfold defs₀; rw [Defs.onTc_tc]

/-- The pipeline's body obligation, at every point. -/
theorem body_obligation (c : Dev nD) : BodyObligation (dats m 0 c) (defs₀ (F := Ideal)) Variants.none () Set.univ := fun t => by
  rw [bigSep_W0, bigSep_W0, row_body]
  exact triple_restated (sound_body m c t) rfl .rfl fun _ => .rfl

set_option backward.isDefEq.respectTransparency.types false in
set_option maxHeartbeats 800000 in
/-- Every run ends with the arrays at what the proof data says, and every counter at zero. -/
theorem run_all : θ_run defs (onTc (τ := τ) (main (F := Ideal))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The arguments end as they were, and every counter is at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.FoxIdeal.Hand
-- ==== Proof.FoxArrays.lean ====
module

public import proofs.«01_k».proof.Proof.FoxFrame
public import Idealize.ShloMosaic.Lib.Pipeline.Value

/-! The three gradient arrays the call leaves, whole, as functions of the four arrays it is handed. -/

@[expose] public section
set_option maxRecDepth 16384
noncomputable section
namespace Cert.FoxIdeal.Hand
open Cert.FoxIdeal Cert.FoxIdeal.Gen
open Idealize.ShloMosaic Idealize.ShloMosaic.TcCoe Idealize.ShloMosaic.Tactic
open Idealize.ShloMosaic.Pipeline (Dat)

variable (m : (l : Loc nD τ sig) → Buf (Elt Ideal) l) (ρ : Dev nD → PrngReg)

/-- The causal weight of row `r` at key `c` of head `h`, over whole arrays. -/
def wH (Q K : Vec Ideal S12x4096x128 .bf16) (h : Fin 12) (r c : Fin 4096) : EReal :=
  if c.val ≤ r.val then Ideal.exp (∑ l : Fin 128, Q (ix3 h r l) * K (ix3 h c l)) else 0

/-- The weight times what flows into it. -/
def dwH (Q D K V : Vec Ideal S12x4096x128 .bf16) (h : Fin 12) (r c : Fin 4096) : EReal :=
  wH Q K h r c * ∑ l : Fin 128, D (ix3 h r l) * V (ix3 h c l)

/-- The query gradient. -/
def dqArr (Q D K V : Vec Ideal S12x4096x128 .bf16) : Vec Ideal S12x4096x128 .f32 := fun i =>
  ∑ c : Fin 4096, dwH Q D K V (i 0) (i 1) c * K (ix3 (i 0) c (i 2))

/-- The key gradient. -/
def dkArr (Q D K V : Vec Ideal S12x4096x128 .bf16) : Vec Ideal S12x4096x128 .f32 := fun i =>
  ∑ r : Fin 4096, dwH Q D K V (i 0) r (i 1) * Q (ix3 (i 0) r (i 2))

/-- The value gradient. -/
def dvArr (Q D K : Vec Ideal S12x4096x128 .bf16) : Vec Ideal S12x4096x128 .f32 := fun i =>
  ∑ r : Fin 4096, wH Q K (i 0) r (i 1) * D (ix3 (i 0) r (i 2))

/-- The head a point's row `hh` is. -/
def headAt (n : ℕ) (hh : Fin 2) : Fin 12 := Fin.ofNat 12 (2 * (n / 8) + hh.val)

theorem headAt_val {n : ℕ} (h : n < 48) (hh : Fin 2) : (headAt n hh).val = 2 * (n / 8) + hh.val := by
  have := hh.isLt
  simp only [headAt, Fin.ofNat]; omega

theorem lt48 (t : Fin cfg0.N) : t.val < 48 := lt_of_lt_of_eq t.isLt (show cfg0.N = 48 from N_0)

theorem keyNo_eq (t : Fin cfg0.N) : keyNo t = t.val % 8 :=
  (by decide +kernel : ∀ t : Fin grid0.N, (grid0.coords t 1).val = t.val % 8) t

theorem pos_q (t : Fin cfg0.N) : win0_0.index t (0 : Fin 3) = t.val / 8 ∧ win0_0.index t (1 : Fin 3) = 0 ∧ win0_0.index t (2 : Fin 3) = 0 :=
  (by decide +kernel : ∀ t : Fin grid0.N, win0_0.index t (0 : Fin 3) = t.val / 8 ∧ win0_0.index t (1 : Fin 3) = 0 ∧ win0_0.index t (2 : Fin 3) = 0) t
theorem pos_do (t : Fin cfg0.N) : win0_1.index t (0 : Fin 3) = t.val / 8 ∧ win0_1.index t (1 : Fin 3) = 0 ∧ win0_1.index t (2 : Fin 3) = 0 :=
  (by decide +kernel : ∀ t : Fin grid0.N, win0_1.index t (0 : Fin 3) = t.val / 8 ∧ win0_1.index t (1 : Fin 3) = 0 ∧ win0_1.index t (2 : Fin 3) = 0) t
theorem pos_k (t : Fin cfg0.N) : win0_2.index t (0 : Fin 3) = t.val / 8 ∧ win0_2.index t (1 : Fin 3) = t.val % 8 ∧ win0_2.index t (2 : Fin 3) = 0 :=
  (by decide +kernel : ∀ t : Fin grid0.N, win0_2.index t (0 : Fin 3) = t.val / 8 ∧ win0_2.index t (1 : Fin 3) = t.val % 8 ∧ win0_2.index t (2 : Fin 3) = 0) t
theorem pos_v (t : Fin cfg0.N) : win0_3.index t (0 : Fin 3) = t.val / 8 ∧ win0_3.index t (1 : Fin 3) = t.val % 8 ∧ win0_3.index t (2 : Fin 3) = 0 :=
  (by decide +kernel : ∀ t : Fin grid0.N, win0_3.index t (0 : Fin 3) = t.val / 8 ∧ win0_3.index t (1 : Fin 3) = t.val % 8 ∧ win0_3.index t (2 : Fin 3) = 0) t
theorem pos_dq (t : Fin cfg0.N) : win0_4.index t (0 : Fin 3) = t.val / 8 ∧ win0_4.index t (1 : Fin 3) = 0 ∧ win0_4.index t (2 : Fin 3) = 0 :=
  (by decide +kernel : ∀ t : Fin grid0.N, win0_4.index t (0 : Fin 3) = t.val / 8 ∧ win0_4.index t (1 : Fin 3) = 0 ∧ win0_4.index t (2 : Fin 3) = 0) t
theorem pos_dk (t : Fin cfg0.N) : win0_5.index t (0 : Fin 3) = t.val / 8 ∧ win0_5.index t (1 : Fin 3) = t.val % 8 ∧ win0_5.index t (2 : Fin 3) = 0 :=
  (by decide +kernel : ∀ t : Fin grid0.N, win0_5.index t (0 : Fin 3) = t.val / 8 ∧ win0_5.index t (1 : Fin 3) = t.val % 8 ∧ win0_5.index t (2 : Fin 3) = 0) t
theorem pos_dv (t : Fin cfg0.N) : win0_6.index t (0 : Fin 3) = t.val / 8 ∧ win0_6.index t (1 : Fin 3) = t.val % 8 ∧ win0_6.index t (2 : Fin 3) = 0 :=
  (by decide +kernel : ∀ t : Fin grid0.N, win0_6.index t (0 : Fin 3) = t.val / 8 ∧ win0_6.index t (1 : Fin 3) = t.val % 8 ∧ win0_6.index t (2 : Fin 3) = 0) t

/-- A block over all rows: where its element lies in the array. -/
theorem emb_rows {a b d : ℕ} (t : Fin cfg0.N) (hh : Fin 2) (r : Fin 4096) (l : Fin 128) (ha : a = t.val / 8) (hb : b = 0) (hd : d = 0)
    (i : S12x4096x128.Idx) (h0 : (i 0).val = a * 2 + 1 * hh.val) (h1 : (i 1).val = b * 4096 + 1 * r.val) (h2 : (i 2).val = d * 128 + 1 * l.val) :
    i = ix3 (headAt t.val hh) r l := by
  subst ha hb hd
  funext x; apply Fin.ext
  match x with
  | ⟨0, _⟩ => exact h0.trans ((by omega : _ = 2 * (t.val / 8) + hh.val).trans (headAt_val (lt48 t) hh).symm)
  | ⟨1, _⟩ => exact h1.trans (by show _ = r.val; omega)
  | ⟨2, _⟩ => exact h2.trans (by show _ = l.val; omega)

/-- A block of 512 rows. -/
theorem emb_blk {a b d : ℕ} (t : Fin cfg0.N) (hh : Fin 2) (r : Fin 512) (l : Fin 128) (ha : a = t.val / 8) (hb : b = t.val % 8) (hd : d = 0)
    (i : S12x4096x128.Idx) (h0 : (i 0).val = a * 2 + 1 * hh.val) (h1 : (i 1).val = b * 512 + 1 * r.val) (h2 : (i 2).val = d * 128 + 1 * l.val) :
    i = ix3 (headAt t.val hh) (rowAt (t.val % 8) r) l := by
  subst ha hb hd
  funext x; apply Fin.ext
  match x with
  | ⟨0, _⟩ => exact h0.trans ((by omega : _ = 2 * (t.val / 8) + hh.val).trans (headAt_val (lt48 t) hh).symm)
  | ⟨1, _⟩ => exact h1.trans ((by omega : _ = 512 * (t.val % 8) + r.val).trans (rowAt_val (Nat.mod_lt _ (by decide)) r).symm)
  | ⟨2, _⟩ => exact h2.trans (by show _ = l.val; omega)

theorem iblk_q (c : Dev nD) (t : Fin cfg0.N) (hh : Fin 2) (r : Fin 4096) (l : Fin 128) :
    iblk m c 0 t (ix3 hh r l) = (V m c main_v82 : Vec Ideal S12x4096x128 .bf16) (ix3 (headAt t.val hh) r l) :=
  congrArg (V m c main_v82 : Vec Ideal S12x4096x128 .bf16) (emb_rows t hh r l (pos_q t).1 (pos_q t).2.1 (pos_q t).2.2
    (((cfg0.win 0).blk t).view.emb (ix3 hh r l)) rfl rfl rfl)
theorem iblk_do (c : Dev nD) (t : Fin cfg0.N) (hh : Fin 2) (r : Fin 4096) (l : Fin 128) :
    iblk m c 1 t (ix3 hh r l) = (V m c main_v120 : Vec Ideal S12x4096x128 .bf16) (ix3 (headAt t.val hh) r l) :=
  congrArg (V m c main_v120 : Vec Ideal S12x4096x128 .bf16) (emb_rows t hh r l (pos_do t).1 (pos_do t).2.1 (pos_do t).2.2
    (((cfg0.win 1).blk t).view.emb (ix3 hh r l)) rfl rfl rfl)
theorem iblk_k (c : Dev nD) (t : Fin cfg0.N) (hh : Fin 2) (r : Fin 512) (l : Fin 128) :
    iblk m c 2 t (ix3 hh r l) = (V m c main_v96 : Vec Ideal S12x4096x128 .bf16) (ix3 (headAt t.val hh) (rowAt (t.val % 8) r) l) :=
  congrArg (V m c main_v96 : Vec Ideal S12x4096x128 .bf16) (emb_blk t hh r l (pos_k t).1 (pos_k t).2.1 (pos_k t).2.2
    (((cfg0.win 2).blk t).view.emb (ix3 hh r l)) rfl rfl rfl)
theorem iblk_v (c : Dev nD) (t : Fin cfg0.N) (hh : Fin 2) (r : Fin 512) (l : Fin 128) :
    iblk m c 3 t (ix3 hh r l) = (V m c main_v108 : Vec Ideal S12x4096x128 .bf16) (ix3 (headAt t.val hh) (rowAt (t.val % 8) r) l) :=
  congrArg (V m c main_v108 : Vec Ideal S12x4096x128 .bf16) (emb_blk t hh r l (pos_v t).1 (pos_v t).2.1 (pos_v t).2.2
    (((cfg0.win 3).blk t).view.emb (ix3 hh r l)) rfl rfl rfl)

theorem emb_dq (t : Fin cfg0.N) (hh : Fin 2) (r : Fin 4096) (l : Fin 128) :
    ((cfg0.win 4).blk t).view.emb (ix3 hh r l) = (ix3 (headAt t.val hh) r l : S12x4096x128.Idx) :=
  emb_rows t hh r l (pos_dq t).1 (pos_dq t).2.1 (pos_dq t).2.2 (((cfg0.win 4).blk t).view.emb (ix3 hh r l)) rfl rfl rfl
theorem emb_dk (t : Fin cfg0.N) (hh : Fin 2) (r : Fin 512) (l : Fin 128) :
    ((cfg0.win 5).blk t).view.emb (ix3 hh r l) = (ix3 (headAt t.val hh) (rowAt (t.val % 8) r) l : S12x4096x128.Idx) :=
  emb_blk t hh r l (pos_dk t).1 (pos_dk t).2.1 (pos_dk t).2.2 (((cfg0.win 5).blk t).view.emb (ix3 hh r l)) rfl rfl rfl
theorem emb_dv (t : Fin cfg0.N) (hh : Fin 2) (r : Fin 512) (l : Fin 128) :
    ((cfg0.win 6).blk t).view.emb (ix3 hh r l) = (ix3 (headAt t.val hh) (rowAt (t.val % 8) r) l : S12x4096x128.Idx) :=
  emb_blk t hh r l (pos_dv t).1 (pos_dv t).2.1 (pos_dv t).2.2 (((cfg0.win 6).blk t).view.emb (ix3 hh r l)) rfl rfl rfl

variable (c : Dev nD)

/-- The weight inside a block is the whole array's. -/
theorem wt_eq (t : Fin cfg0.N) (hh : Fin 2) (r : Fin 4096) (k : Fin 512) :
    wt (keyNo t) (iblk m c 0 t) (iblk m c 2 t) hh r k
      = wH (V m c main_v82) (V m c main_v96) (headAt t.val hh) r (rowAt (t.val % 8) k) := by
  unfold wt wH
  rw [rowAt_val (Nat.mod_lt _ (by decide)), keyNo_eq]
  simp only [iblk_q, iblk_k]

theorem dwt_eq (t : Fin cfg0.N) (hh : Fin 2) (r : Fin 4096) (k : Fin 512) :
    dwt (keyNo t) (iblk m c 0 t) (iblk m c 1 t) (iblk m c 2 t) (iblk m c 3 t) hh r k
      = dwH (V m c main_v82) (V m c main_v120) (V m c main_v96) (V m c main_v108) (headAt t.val hh) r (rowAt (t.val % 8) k) := by
  unfold dwt dwH
  rw [wt_eq]
  simp only [iblk_do, iblk_v]

/-- One point's share of the query gradient, over the whole arrays. -/
theorem dqGain_eq (t : Fin cfg0.N) (hh : Fin 2) (r : Fin 4096) (l : Fin 128) :
    dqGain m c t (ix3 hh r l)
      = ∑ k : Fin 512, dwH (V m c main_v82) (V m c main_v120) (V m c main_v96) (V m c main_v108) (headAt t.val hh) r (rowAt (t.val % 8) k)
          * (V m c main_v96 : Vec Ideal S12x4096x128 .bf16) (ix3 (headAt t.val hh) (rowAt (t.val % 8) k) l) := by
  show dqRow _ _ _ _ _ hh r l = _
  unfold dqRow
  simp only [dwt_eq, iblk_k]

/-- After key block `j` of a pair, the query gradient's block holds the blocks so far. -/
theorem dqAt_sum (p : ℕ) (hp : p < 6) (hh : Fin 2) (r : Fin 4096) (l : Fin 128) : ∀ (j : ℕ) (hj : j < 8) (hn : 8 * p + j < cfg0.N),
    dqAt m c (8 * p + j) hn (ix3 hh r l)
      = ∑ b ∈ Finset.range (j + 1), ∑ k : Fin 512, dwH (V m c main_v82) (V m c main_v120) (V m c main_v96) (V m c main_v108) (headAt (8 * p) hh) r (rowAt b k)
          * (V m c main_v96 : Vec Ideal S12x4096x128 .bf16) (ix3 (headAt (8 * p) hh) (rowAt b k) l) := by
  intro j
  induction j with
  | zero =>
    intro hj hn
    rw [dqAt_first m c ⟨8 * p + 0, hn⟩ (by show (8 * p + 0) % 8 = 0; omega)]
    show dqGain m c ⟨8 * p + 0, hn⟩ (ix3 hh r l) = _
    rw [dqGain_eq, Finset.sum_range_one]
    show (∑ k : Fin 512, dwH _ _ _ _ (headAt (8 * p + 0) hh) r (rowAt ((8 * p + 0) % 8) k) * _) = _
    rw [show (8 * p + 0) % 8 = 0 by omega]
    rfl
  | succ j ih =>
    intro hj hn
    rw [dqAt_later m c ⟨8 * p + (j + 1), hn⟩ (by show ¬(8 * p + (j + 1)) % 8 = 0; omega)]
    show dqAt m c (8 * p + j) (Nat.lt_of_succ_lt hn) (ix3 hh r l) + dqGain m c ⟨8 * p + (j + 1), hn⟩ (ix3 hh r l) = _
    rw [dqGain_eq, Finset.sum_range_succ, ← ih (by omega) (Nat.lt_of_succ_lt hn)]
    show dqAt m c (8 * p + j) _ _ + (∑ k : Fin 512, dwH _ _ _ _ (headAt (8 * p + (j + 1)) hh) r (rowAt ((8 * p + (j + 1)) % 8) k) * _) = _
    rw [show (8 * p + (j + 1)) % 8 = j + 1 by omega]
    rw [show headAt (8 * p + (j + 1)) hh = headAt (8 * p) hh from Fin.ext (by
      rw [headAt_val (n := 8 * p + (j + 1)) (by omega), headAt_val (n := 8 * p) (by omega)]; omega)]

/-- The points whose blocks hold an element. -/
theorem pt_lt {p j : ℕ} (hp : p < 6) (hj : j < 8) : 8 * p + j < cfg0.N := lt_of_lt_of_eq (by omega) (show 48 = cfg0.N from N_0.symm)

theorem mem_of_emb {w : Fin cfg0.W} {t : Fin cfg0.N} {i} (y) (h : ((cfg0.win w).blk t).view.emb y = i) : i ∈ ((cfg0.win w).blk t).view.set :=
  h ▸ ((cfg0.win w).blk t).view.emb_mem_set y

theorem head_split (h : Fin 12) : ∃ p : ℕ, p < 6 ∧ ∃ hh : Fin 2, ∀ j < 8, headAt (8 * p + j) hh = h :=
  ⟨h.val / 2, by omega, ⟨h.val % 2, Nat.mod_lt _ (by decide)⟩, fun j hj => Fin.ext (by
    rw [headAt_val (by omega)]; show 2 * ((8 * (h.val / 2) + j) / 8) + h.val % 2 = h.val; omega)⟩

theorem row_split (r : Fin 4096) : ∃ j : ℕ, j < 8 ∧ ∃ k : Fin 512, rowAt j k = r :=
  ⟨r.val / 512, by omega, ⟨r.val % 512, Nat.mod_lt _ (by decide)⟩, Fin.ext (by
    rw [rowAt_val (by omega)]; show 512 * (r.val / 512) + r.val % 512 = r.val; omega)⟩

/-- Every element of each gradient's array lies in a block that is written back. -/
theorem cover_dq : ∀ i : S12x4096x128.Idx, ∃ t : Fin cfg0.N, (cfg0.win 4).flush t = true ∧ i ∈ ((cfg0.win 4).blk t).view.set := by
  intro i
  idx_vars i
  obtain ⟨p, hp, hh, hpe⟩ := head_split i0
  have e := emb_dq ⟨8 * p + 7, pt_lt hp (by omega)⟩ hh i1 i2
  rw [show headAt (⟨8 * p + 7, pt_lt hp (by omega)⟩ : Fin cfg0.N).val hh = i0 from hpe 7 (by omega)] at e
  exact ⟨⟨8 * p + 7, pt_lt hp (by omega)⟩, (flush0_4 _).mpr (by show (8 * p + 7) % 8 = 7; omega), mem_of_emb (w := 4) (ix3 hh i1 i2 : S2x4096x128.Idx) e⟩

theorem cover_dk : ∀ i : S12x4096x128.Idx, ∃ t : Fin cfg0.N, (cfg0.win 5).flush t = true ∧ i ∈ ((cfg0.win 5).blk t).view.set := by
  intro i
  idx_vars i
  obtain ⟨p, hp, hh, hpe⟩ := head_split i0
  obtain ⟨j, hj, k, hk⟩ := row_split i1
  have e := emb_dk ⟨8 * p + j, pt_lt hp hj⟩ hh k i2
  rw [show headAt (⟨8 * p + j, pt_lt hp hj⟩ : Fin cfg0.N).val hh = i0 from hpe j hj,
    show rowAt ((⟨8 * p + j, pt_lt hp hj⟩ : Fin cfg0.N).val % 8) k = i1 from (by show rowAt ((8 * p + j) % 8) k = i1; rw [show (8 * p + j) % 8 = j by omega, hk])] at e
  exact ⟨⟨8 * p + j, pt_lt hp hj⟩, flush0_5 _, mem_of_emb (w := 5) (ix3 hh k i2 : S2x512x128.Idx) e⟩

theorem cover_dv : ∀ i : S12x4096x128.Idx, ∃ t : Fin cfg0.N, (cfg0.win 6).flush t = true ∧ i ∈ ((cfg0.win 6).blk t).view.set := by
  intro i
  idx_vars i
  obtain ⟨p, hp, hh, hpe⟩ := head_split i0
  obtain ⟨j, hj, k, hk⟩ := row_split i1
  have e := emb_dv ⟨8 * p + j, pt_lt hp hj⟩ hh k i2
  rw [show headAt (⟨8 * p + j, pt_lt hp hj⟩ : Fin cfg0.N).val hh = i0 from hpe j hj,
    show rowAt ((⟨8 * p + j, pt_lt hp hj⟩ : Fin cfg0.N).val % 8) k = i1 from (by show rowAt ((8 * p + j) % 8) k = i1; rw [show (8 * p + j) % 8 = j by omega, hk])] at e
  exact ⟨⟨8 * p + j, pt_lt hp hj⟩, flush0_6 _, mem_of_emb (w := 6) (ix3 hh k i2 : S2x512x128.Idx) e⟩

/-- The query gradient's array at the end. -/
theorem final_dq : (dats m 0 c).arrAt 4 cfg0.N
    = dqArr (V m c main_v82) (V m c main_v120) (V m c main_v96) (V m c main_v108) := by
  refine (dats m 0 c).arrAt_eq_of_cover 4 (dqArr (V m c main_v82) (V m c main_v120) (V m c main_v96) (V m c main_v108)) ?_ ?_
  · intro t hf
    have h7 := (flush0_4 t).mp hf
    have h48 := lt48 t
    funext y
    idx_vars y
    show (dats m 0 c).after 4 t (ix3 y0 y1 y2) = dqArr _ _ _ _ (((cfg0.win 4).blk t).view.emb (ix3 y0 y1 y2))
    rw [emb_dq, after_dq]
    obtain ⟨n, hn⟩ := t
    have e : n = 8 * (n / 8) + 7 := by dsimp only at h7; omega
    generalize n / 8 = p at e
    subst e
    rw [dqAt_sum m c p (by dsimp only at h48; omega) y0 y1 y2 7 (by omega) hn]
    show _ = ∑ k : Fin 4096, dwH _ _ _ _ (headAt (8 * p + 7) y0) y1 k * _
    rw [sum_rows, show headAt (8 * p + 7) y0 = headAt (8 * p) y0 from Fin.ext (by
      rw [headAt_val h48, headAt_val (by have := h48; dsimp only at this; omega)]; have := h48; dsimp only at this ⊢; omega)]
    rfl
  · exact cover_dq

/-- The key gradient's array at the end. -/
theorem final_dk : (dats m 0 c).arrAt 5 cfg0.N
    = dkArr (V m c main_v82) (V m c main_v120) (V m c main_v96) (V m c main_v108) := by
  refine (dats m 0 c).arrAt_eq_of_cover 5 (dkArr (V m c main_v82) (V m c main_v120) (V m c main_v96) (V m c main_v108)) ?_ ?_
  · intro t _
    funext y
    idx_vars y
    show (dats m 0 c).after 5 t (ix3 y0 y1 y2) = dkArr _ _ _ _ (((cfg0.win 5).blk t).view.emb (ix3 y0 y1 y2))
    rw [emb_dk, after_dk]
    show dkAll _ _ _ _ _ y0 y1 y2 = ∑ r : Fin 4096, _ * _
    unfold dkAll
    simp only [dwt_eq, iblk_q]
    rfl
  · exact cover_dk

/-- The value gradient's array at the end. -/
theorem final_dv : (dats m 0 c).arrAt 6 cfg0.N
    = dvArr (V m c main_v82) (V m c main_v120) (V m c main_v96) := by
  refine (dats m 0 c).arrAt_eq_of_cover 6 (dvArr (V m c main_v82) (V m c main_v120) (V m c main_v96)) ?_ ?_
  · intro t _
    funext y
    idx_vars y
    show (dats m 0 c).after 6 t (ix3 y0 y1 y2) = dvArr _ _ _ (((cfg0.win 6).blk t).view.emb (ix3 y0 y1 y2))
    rw [emb_dv, after_dv]
    show dvAll _ _ _ _ y0 y1 y2 = ∑ r : Fin 4096, _ * _
    unfold dvAll
    simp only [wt_eq, iblk_do]
    rfl
  · exact cover_dv

end Cert.FoxIdeal.Hand
-- ==== Proof.FoxPack.lean ====
module

public import proofs.«01_k».proof.Proof.FoxArrays

/-! What the host lines before the call lay out, element by element: the four packed arrays as functions of the arguments. The lines are
    cut into twelve stretches, each read over any contents before it. -/

@[expose] public section
set_option maxRecDepth 16384
noncomputable section
namespace Cert.FoxIdeal.Hand
open Cert.FoxIdeal Cert.FoxIdeal.Gen
open Idealize.ShloMosaic Idealize.ShloMosaic.TcCoe Idealize.ShloMosaic.Tactic

/-- `n` host lines from the `a`-th on. -/
abbrev seg (a n : ℕ) : List (HloOp τ sig (Elt Ideal)) := ((hostOps0 (F := Ideal)).drop a).take n

variable (W : Valuation τ sig (Elt Ideal)) (h : Fin 12) (r k : Fin 4096) (d : Fin 64) (i0 : Fin 1) (j3 : Fin 3) (j54 : Fin 54) (j60 : Fin 60)

set_option maxHeartbeats 1600000 in
/-- The masked logits. -/
theorem s1_logits (x_arg0 : Vec Ideal S4096x12x64 .f32) (hx_arg0 : x_arg0 = W (Proc.devRef .tc main_arg0)) (x_arg1 : Vec Ideal S4096x12x64 .f32) (hx_arg1 : x_arg1 = W (Proc.devRef .tc main_arg1)) (x_arg3 : Vec Ideal S4096x12 .f32) (hx_arg3 : x_arg3 = W (Proc.devRef .tc main_arg3)) :
    (StableHlo.after (seg 0 21) W (Proc.devRef .tc main_v18) : Vec Ideal S12x4096x4096 .f32) (ix3 h r k) = (Scalar.select (IntOp.cmpi CmpIPredicate.sge (BitVec.ofNat 32 r.val) (BitVec.ofNat 32 k.val)) ((∑ x, x_arg0 (ix3 r h x) * x_arg1 (ix3 k h x)) * Ideal.ofBits FTy.f32 1040187392#32 + (x_arg3 (ix2 r h) - x_arg3 (ix2 k h))) (Ideal.ofBits FTy.f32 4286578688#32) : EReal) := by
  simp only [seg, List.take_succ_cons, List.take_zero, List.take_nil, List.drop_succ_cons, List.drop_zero]
  after_results_simp
  simp only [← hx_arg0, ← hx_arg1, ← hx_arg3]
  pointwise

set_option maxHeartbeats 1600000 in
/-- The arguments, heads first. -/
theorem s1_turned (x_arg0 : Vec Ideal S4096x12x64 .f32) (hx_arg0 : x_arg0 = W (Proc.devRef .tc main_arg0)) (x_arg1 : Vec Ideal S4096x12x64 .f32) (hx_arg1 : x_arg1 = W (Proc.devRef .tc main_arg1)) (x_arg2 : Vec Ideal S4096x12x64 .f32) (hx_arg2 : x_arg2 = W (Proc.devRef .tc main_arg2)) (x_arg3 : Vec Ideal S4096x12 .f32) (hx_arg3 : x_arg3 = W (Proc.devRef .tc main_arg3)) (x_arg4 : Vec Ideal S4096x12x64 .f32) (hx_arg4 : x_arg4 = W (Proc.devRef .tc main_arg4)) :
    (StableHlo.after (seg 0 21) W (Proc.devRef .tc main_v0) : Vec Ideal S12x4096x64 .f32) (ix3 h r d) = (x_arg0 (ix3 r h d) : EReal)
      ∧ (StableHlo.after (seg 0 21) W (Proc.devRef .tc main_v1) : Vec Ideal S12x4096x64 .f32) (ix3 h r d) = (x_arg1 (ix3 r h d) : EReal)
      ∧ (StableHlo.after (seg 0 21) W (Proc.devRef .tc main_v2) : Vec Ideal S12x4096x64 .f32) (ix3 h r d) = (x_arg2 (ix3 r h d) : EReal)
      ∧ (StableHlo.after (seg 0 21) W (Proc.devRef .tc main_v3) : Vec Ideal S12x4096x64 .f32) (ix3 h r d) = (x_arg4 (ix3 r h d) : EReal)
      ∧ (StableHlo.after (seg 0 21) W (Proc.devRef .tc main_v4) : Vec Ideal S12x4096 .f32) (ix2 h r) = (x_arg3 (ix2 r h) : EReal) := by
  simp only [seg, List.take_succ_cons, List.take_zero, List.take_nil, List.drop_succ_cons, List.drop_zero]
  after_results_simp
  simp only [← hx_arg0, ← hx_arg1, ← hx_arg2, ← hx_arg3, ← hx_arg4]
  refine ⟨?_, ?_, ?_, ?_, ?_⟩ <;> (pointwise)

set_option maxHeartbeats 1600000 in
/-- The row's largest logit, the exponentials and their sum. -/
theorem s2 (x_v18 : Vec Ideal S12x4096x4096 .f32) (hx_v18 : x_v18 = W (Proc.devRef .tc main_v18)) :
    (StableHlo.after (seg 21 8) W (Proc.devRef .tc main_v20) : Vec Ideal S12x4096x1 .f32) (ix3 h r i0) = (Finset.fold max (Ideal.ofBits FTy.f32 4286578688#32) (fun x => x_v18 (ix3 h r x)) Finset.univ : EReal)
      ∧ (StableHlo.after (seg 21 8) W (Proc.devRef .tc main_v23) : Vec Ideal S12x4096x4096 .f32) (ix3 h r k) = (Ideal.exp (x_v18 (ix3 h r k) - Finset.fold max (Ideal.ofBits FTy.f32 4286578688#32) (fun x => x_v18 (ix3 h r x)) Finset.univ) : EReal)
      ∧ (StableHlo.after (seg 21 8) W (Proc.devRef .tc main_v24) : Vec Ideal S12x4096 .f32) (ix2 h r) = (∑ y, Ideal.exp (x_v18 (ix3 h r y) - Finset.fold max (Ideal.ofBits FTy.f32 4286578688#32) (fun x => x_v18 (ix3 h r x)) Finset.univ) : EReal) := by
  simp only [seg, List.take_succ_cons, List.take_zero, List.take_nil, List.drop_succ_cons, List.drop_zero]
  after_results_simp
  simp only [← hx_v18]
  refine ⟨?_, ?_, ?_⟩ <;> (pointwise)

set_option maxHeartbeats 1600000 in
/-- These stand through the stretch. -/
theorem s2_keep :
    StableHlo.after (seg 21 8) W (Proc.devRef .tc main_v0) = W (Proc.devRef .tc main_v0)
      ∧ StableHlo.after (seg 21 8) W (Proc.devRef .tc main_v1) = W (Proc.devRef .tc main_v1)
      ∧ StableHlo.after (seg 21 8) W (Proc.devRef .tc main_v2) = W (Proc.devRef .tc main_v2)
      ∧ StableHlo.after (seg 21 8) W (Proc.devRef .tc main_v3) = W (Proc.devRef .tc main_v3)
      ∧ StableHlo.after (seg 21 8) W (Proc.devRef .tc main_v4) = W (Proc.devRef .tc main_v4) := by
  simp only [seg, List.take_succ_cons, List.take_zero, List.take_nil, List.drop_succ_cons, List.drop_zero]
  refine ⟨?_, ?_, ?_, ?_, ?_⟩ <;> after_results_simp

set_option maxHeartbeats 1600000 in
/-- The row's log-sum and delta. -/
theorem s3 (x_v20 : Vec Ideal S12x4096x1 .f32) (hx_v20 : x_v20 = W (Proc.devRef .tc main_v20)) (x_v23 : Vec Ideal S12x4096x4096 .f32) (hx_v23 : x_v23 = W (Proc.devRef .tc main_v23)) (x_v24 : Vec Ideal S12x4096 .f32) (hx_v24 : x_v24 = W (Proc.devRef .tc main_v24)) (x_v2 : Vec Ideal S12x4096x64 .f32) (hx_v2 : x_v2 = W (Proc.devRef .tc main_v2)) (x_v3 : Vec Ideal S12x4096x64 .f32) (hx_v3 : x_v3 = W (Proc.devRef .tc main_v3)) :
    (StableHlo.after (seg 29 10) W (Proc.devRef .tc main_v27) : Vec Ideal S12x4096x1 .f32) (ix3 h r i0) = (x_v20 (ix3 h r i0) + Ideal.log (x_v24 (ix2 h r)) : EReal)
      ∧ (StableHlo.after (seg 29 10) W (Proc.devRef .tc main_v33) : Vec Ideal S12x4096x1 .f32) (ix3 h r i0) = (∑ x, (∑ y, Ideal.div (x_v23 (ix3 h r y)) (x_v24 (ix2 h r)) * x_v2 (ix3 h y x)) * x_v3 (ix3 h r x) : EReal) := by
  simp only [seg, List.take_succ_cons, List.take_zero, List.take_nil, List.drop_succ_cons, List.drop_zero]
  after_results_simp
  simp only [← hx_v20, ← hx_v23, ← hx_v24, ← hx_v2, ← hx_v3]
  refine ⟨?_, ?_⟩ <;> (pointwise)

set_option maxHeartbeats 1600000 in
/-- These stand through the stretch. -/
theorem s3_keep :
    StableHlo.after (seg 29 10) W (Proc.devRef .tc main_v0) = W (Proc.devRef .tc main_v0)
      ∧ StableHlo.after (seg 29 10) W (Proc.devRef .tc main_v1) = W (Proc.devRef .tc main_v1)
      ∧ StableHlo.after (seg 29 10) W (Proc.devRef .tc main_v2) = W (Proc.devRef .tc main_v2)
      ∧ StableHlo.after (seg 29 10) W (Proc.devRef .tc main_v3) = W (Proc.devRef .tc main_v3)
      ∧ StableHlo.after (seg 29 10) W (Proc.devRef .tc main_v4) = W (Proc.devRef .tc main_v4) := by
  simp only [seg, List.take_succ_cons, List.take_zero, List.take_nil, List.drop_succ_cons, List.drop_zero]
  refine ⟨?_, ?_, ?_, ?_, ?_⟩ <;> after_results_simp

set_option maxHeartbeats 1600000 in
/-- The decay in three pieces. -/
theorem s4_decay (x_v4 : Vec Ideal S12x4096 .f32) (hx_v4 : x_v4 = W (Proc.devRef .tc main_v4)) :
    (StableHlo.after (seg 39 44) W (Proc.devRef .tc main_v44) : Vec Ideal S12x4096x1 .f32) (ix3 h r i0) = (x_v4 (ix2 h r) : EReal)
      ∧ (StableHlo.after (seg 39 44) W (Proc.devRef .tc main_v45) : Vec Ideal S12x4096x1 .f32) (ix3 h r i0) = (x_v4 (ix2 h r) - x_v4 (ix2 h r) : EReal)
      ∧ (StableHlo.after (seg 39 44) W (Proc.devRef .tc main_v46) : Vec Ideal S12x4096x1 .f32) (ix3 h r i0) = (x_v4 (ix2 h r) - x_v4 (ix2 h r) - (x_v4 (ix2 h r) - x_v4 (ix2 h r)) : EReal) := by
  simp only [seg, List.take_succ_cons, List.take_zero, List.take_nil, List.drop_succ_cons, List.drop_zero]
  after_results_simp
  simp only [← hx_v4]
  refine ⟨?_, ?_, ?_⟩ <;> (pointwise)

set_option maxHeartbeats 1600000 in
/-- Minus the log-sum and one, in three pieces. -/
theorem s4_lse (x_v27 : Vec Ideal S12x4096x1 .f32) (hx_v27 : x_v27 = W (Proc.devRef .tc main_v27)) :
    (StableHlo.after (seg 39 44) W (Proc.devRef .tc main_v57) : Vec Ideal S12x4096x1 .f32) (ix3 h r i0) = ((-(x_v27 (ix3 h r i0) + Ideal.ofBits FTy.f32 1065353216#32)) : EReal)
      ∧ (StableHlo.after (seg 39 44) W (Proc.devRef .tc main_v58) : Vec Ideal S12x4096x1 .f32) (ix3 h r i0) = ((-(x_v27 (ix3 h r i0) + Ideal.ofBits FTy.f32 1065353216#32)) - (-(x_v27 (ix3 h r i0) + Ideal.ofBits FTy.f32 1065353216#32)) : EReal)
      ∧ (StableHlo.after (seg 39 44) W (Proc.devRef .tc main_v59) : Vec Ideal S12x4096x1 .f32) (ix3 h r i0) = ((-(x_v27 (ix3 h r i0) + Ideal.ofBits FTy.f32 1065353216#32)) - (-(x_v27 (ix3 h r i0) + Ideal.ofBits FTy.f32 1065353216#32)) - ((-(x_v27 (ix3 h r i0) + Ideal.ofBits FTy.f32 1065353216#32)) - (-(x_v27 (ix3 h r i0) + Ideal.ofBits FTy.f32 1065353216#32))) : EReal) := by
  simp only [seg, List.take_succ_cons, List.take_zero, List.take_nil, List.drop_succ_cons, List.drop_zero]
  after_results_simp
  simp only [← hx_v27]
  refine ⟨?_, ?_, ?_⟩ <;> (pointwise)

set_option maxHeartbeats 1600000 in
/-- Delta in three pieces. -/
theorem s4_delta (x_v33 : Vec Ideal S12x4096x1 .f32) (hx_v33 : x_v33 = W (Proc.devRef .tc main_v33)) :
    (StableHlo.after (seg 39 44) W (Proc.devRef .tc main_v67) : Vec Ideal S12x4096x1 .f32) (ix3 h r i0) = (x_v33 (ix3 h r i0) : EReal)
      ∧ (StableHlo.after (seg 39 44) W (Proc.devRef .tc main_v68) : Vec Ideal S12x4096x1 .f32) (ix3 h r i0) = (x_v33 (ix3 h r i0) - x_v33 (ix3 h r i0) : EReal)
      ∧ (StableHlo.after (seg 39 44) W (Proc.devRef .tc main_v69) : Vec Ideal S12x4096x1 .f32) (ix3 h r i0) = (x_v33 (ix3 h r i0) - x_v33 (ix3 h r i0) - (x_v33 (ix3 h r i0) - x_v33 (ix3 h r i0)) : EReal) := by
  simp only [seg, List.take_succ_cons, List.take_zero, List.take_nil, List.drop_succ_cons, List.drop_zero]
  after_results_simp
  simp only [← hx_v33]
  refine ⟨?_, ?_, ?_⟩ <;> (pointwise)

set_option maxHeartbeats 1600000 in
/-- The constants, and the scaled query. -/
theorem s4_rest (x_v0 : Vec Ideal S12x4096x64 .f32) (hx_v0 : x_v0 = W (Proc.devRef .tc main_v0)) :
    (StableHlo.after (seg 39 44) W (Proc.devRef .tc main_v34) : Vec Ideal S12x4096x1 .f32) (ix3 h r i0) = (Ideal.ofBits FTy.f32 1065353216#32 : EReal)
      ∧ (StableHlo.after (seg 39 44) W (Proc.devRef .tc main_v35) : Vec Ideal S12x4096x3 .f32) (ix3 h r j3) = (Ideal.ofBits FTy.f32 1065353216#32 : EReal)
      ∧ (StableHlo.after (seg 39 44) W (Proc.devRef .tc main_v72) : Vec Ideal S12x4096x54 .f32) (ix3 h r j54) = (Ideal.ofBits FTy.f32 0#32 : EReal)
      ∧ (StableHlo.after (seg 39 44) W (Proc.devRef .tc main_v71) : Vec Ideal S12x4096x64 .f32) (ix3 h r d) = (x_v0 (ix3 h r d) * Ideal.ofBits FTy.f32 1040187392#32 : EReal) := by
  simp only [seg, List.take_succ_cons, List.take_zero, List.take_nil, List.drop_succ_cons, List.drop_zero]
  after_results_simp
  simp only [← hx_v0]
  refine ⟨?_, ?_, ?_, ?_⟩ <;> (pointwise)

set_option maxHeartbeats 1600000 in
/-- These stand through the stretch. -/
theorem s4_keep :
    StableHlo.after (seg 39 44) W (Proc.devRef .tc main_v1) = W (Proc.devRef .tc main_v1)
      ∧ StableHlo.after (seg 39 44) W (Proc.devRef .tc main_v2) = W (Proc.devRef .tc main_v2)
      ∧ StableHlo.after (seg 39 44) W (Proc.devRef .tc main_v3) = W (Proc.devRef .tc main_v3) := by
  simp only [seg, List.take_succ_cons, List.take_zero, List.take_nil, List.drop_succ_cons, List.drop_zero]
  refine ⟨?_, ?_, ?_⟩ <;> after_results_simp

set_option maxHeartbeats 1600000 in
/-- The query's extra lanes. -/
theorem s5 (x_v44 : Vec Ideal S12x4096x1 .f32) (hx_v44 : x_v44 = W (Proc.devRef .tc main_v44)) (x_v45 : Vec Ideal S12x4096x1 .f32) (hx_v45 : x_v45 = W (Proc.devRef .tc main_v45)) (x_v46 : Vec Ideal S12x4096x1 .f32) (hx_v46 : x_v46 = W (Proc.devRef .tc main_v46)) (x_v35 : Vec Ideal S12x4096x3 .f32) (hx_v35 : x_v35 = W (Proc.devRef .tc main_v35)) (x_v57 : Vec Ideal S12x4096x1 .f32) (hx_v57 : x_v57 = W (Proc.devRef .tc main_v57)) (x_v58 : Vec Ideal S12x4096x1 .f32) (hx_v58 : x_v58 = W (Proc.devRef .tc main_v58)) (x_v59 : Vec Ideal S12x4096x1 .f32) (hx_v59 : x_v59 = W (Proc.devRef .tc main_v59)) (x_v34 : Vec Ideal S12x4096x1 .f32) (hx_v34 : x_v34 = W (Proc.devRef .tc main_v34)) (x_v72 : Vec Ideal S12x4096x54 .f32) (hx_v72 : x_v72 = W (Proc.devRef .tc main_v72)) (a : Fin 64) :
    (StableHlo.after (seg 83 1) W (Proc.devRef .tc main_v73) : Vec Ideal S12x4096x64 .f32) (ix3 h r a) = (if q0 : a.val < 1 then x_v44 (ix3 h r ⟨a.val, by omega⟩) else if q1 : a.val - 1 < 1 then x_v45 (ix3 h r ⟨a.val - 1, by omega⟩) else if q2 : a.val - 1 - 1 < 1 then x_v46 (ix3 h r ⟨a.val - 1 - 1, by omega⟩) else if q3 : a.val - 1 - 1 - 1 < 3 then x_v35 (ix3 h r ⟨a.val - 1 - 1 - 1, by omega⟩) else if q4 : a.val - 1 - 1 - 1 - 3 < 1 then x_v57 (ix3 h r ⟨a.val - 1 - 1 - 1 - 3, by omega⟩) else if q5 : a.val - 1 - 1 - 1 - 3 - 1 < 1 then x_v58 (ix3 h r ⟨a.val - 1 - 1 - 1 - 3 - 1, by omega⟩) else if q6 : a.val - 1 - 1 - 1 - 3 - 1 - 1 < 1 then x_v59 (ix3 h r ⟨a.val - 1 - 1 - 1 - 3 - 1 - 1, by omega⟩) else if q7 : a.val - 1 - 1 - 1 - 3 - 1 - 1 - 1 < 1 then x_v34 (ix3 h r ⟨a.val - 1 - 1 - 1 - 3 - 1 - 1 - 1, by omega⟩) else x_v72 (ix3 h r ⟨a.val - 1 - 1 - 1 - 3 - 1 - 1 - 1 - 1, by omega⟩) : EReal) := by
  simp only [seg, List.take_succ_cons, List.take_zero, List.take_nil, List.drop_succ_cons, List.drop_zero]
  simp only [StableHlo.after_cons, StableHlo.after_nil, StableHlo.nary_result']
  show concatenate _ _ _ _ _ = _
  subst hx_v44 hx_v45 hx_v46 hx_v35 hx_v57 hx_v58 hx_v59 hx_v34 hx_v72
  pointwise

set_option maxHeartbeats 1600000 in
/-- These stand through the stretch. -/
theorem s5_keep :
    StableHlo.after (seg 83 1) W (Proc.devRef .tc main_v71) = W (Proc.devRef .tc main_v71)
      ∧ StableHlo.after (seg 83 1) W (Proc.devRef .tc main_v1) = W (Proc.devRef .tc main_v1)
      ∧ StableHlo.after (seg 83 1) W (Proc.devRef .tc main_v2) = W (Proc.devRef .tc main_v2)
      ∧ StableHlo.after (seg 83 1) W (Proc.devRef .tc main_v3) = W (Proc.devRef .tc main_v3)
      ∧ StableHlo.after (seg 83 1) W (Proc.devRef .tc main_v34) = W (Proc.devRef .tc main_v34)
      ∧ StableHlo.after (seg 83 1) W (Proc.devRef .tc main_v35) = W (Proc.devRef .tc main_v35)
      ∧ StableHlo.after (seg 83 1) W (Proc.devRef .tc main_v44) = W (Proc.devRef .tc main_v44)
      ∧ StableHlo.after (seg 83 1) W (Proc.devRef .tc main_v45) = W (Proc.devRef .tc main_v45)
      ∧ StableHlo.after (seg 83 1) W (Proc.devRef .tc main_v46) = W (Proc.devRef .tc main_v46)
      ∧ StableHlo.after (seg 83 1) W (Proc.devRef .tc main_v67) = W (Proc.devRef .tc main_v67)
      ∧ StableHlo.after (seg 83 1) W (Proc.devRef .tc main_v68) = W (Proc.devRef .tc main_v68)
      ∧ StableHlo.after (seg 83 1) W (Proc.devRef .tc main_v69) = W (Proc.devRef .tc main_v69) := by
  simp only [seg, List.take_succ_cons, List.take_zero, List.take_nil, List.drop_succ_cons, List.drop_zero]
  refine ⟨?_, ?_, ?_, ?_, ?_, ?_, ?_, ?_, ?_, ?_, ?_, ?_⟩ <;> after_results_simp

set_option maxHeartbeats 1600000 in
/-- The query, packed. -/
theorem s6_q (x_v71 : Vec Ideal S12x4096x64 .f32) (hx_v71 : x_v71 = W (Proc.devRef .tc main_v71)) (x_v73 : Vec Ideal S12x4096x64 .f32) (hx_v73 : x_v73 = W (Proc.devRef .tc main_v73)) (l : Fin 128) :
    (StableHlo.after (seg 84 16) W (Proc.devRef .tc main_v82) : Vec Ideal S12x4096x128 .bf16) (ix3 h r l) = (Scalar.select (IntOp.cmpi CmpIPredicate.eq (IntOp.andi (BitVec.ofNat 32 h.val) 1#32) 0#32) (if p : l.val < 64 then x_v71 (ix3 h r ⟨l.val, by omega⟩) else x_v73 (ix3 h r ⟨l.val - 64, by omega⟩)) (if p : l.val < 64 then x_v73 (ix3 h r ⟨l.val, by omega⟩) else x_v71 (ix3 h r ⟨l.val - 64, by omega⟩)) : EReal) := by
  simp only [seg, List.take_succ_cons, List.take_zero, List.take_nil, List.drop_succ_cons, List.drop_zero]
  after_results_simp
  pointwise
  after_results_simp
  simp only [← hx_v71, ← hx_v73]

set_option maxHeartbeats 1600000 in
/-- The key's extra pieces. -/
theorem s6_rest (x_v44 : Vec Ideal S12x4096x1 .f32) (hx_v44 : x_v44 = W (Proc.devRef .tc main_v44)) (x_v45 : Vec Ideal S12x4096x1 .f32) (hx_v45 : x_v45 = W (Proc.devRef .tc main_v45)) (x_v46 : Vec Ideal S12x4096x1 .f32) (hx_v46 : x_v46 = W (Proc.devRef .tc main_v46)) :
    (StableHlo.after (seg 84 16) W (Proc.devRef .tc main_v83) : Vec Ideal S12x4096x1 .f32) (ix3 h r i0) = (-x_v44 (ix3 h r i0) : EReal)
      ∧ (StableHlo.after (seg 84 16) W (Proc.devRef .tc main_v84) : Vec Ideal S12x4096x1 .f32) (ix3 h r i0) = (-x_v45 (ix3 h r i0) : EReal)
      ∧ (StableHlo.after (seg 84 16) W (Proc.devRef .tc main_v85) : Vec Ideal S12x4096x1 .f32) (ix3 h r i0) = (-x_v46 (ix3 h r i0) : EReal)
      ∧ (StableHlo.after (seg 84 16) W (Proc.devRef .tc main_v86) : Vec Ideal S12x4096x54 .f32) (ix3 h r j54) = (Ideal.ofBits FTy.f32 0#32 : EReal) := by
  simp only [seg, List.take_succ_cons, List.take_zero, List.take_nil, List.drop_succ_cons, List.drop_zero]
  after_results_simp
  simp only [← hx_v44, ← hx_v45, ← hx_v46]
  refine ⟨?_, ?_, ?_, ?_⟩ <;> (pointwise)

set_option maxHeartbeats 1600000 in
/-- These stand through the stretch. -/
theorem s6_keep :
    StableHlo.after (seg 84 16) W (Proc.devRef .tc main_v1) = W (Proc.devRef .tc main_v1)
      ∧ StableHlo.after (seg 84 16) W (Proc.devRef .tc main_v2) = W (Proc.devRef .tc main_v2)
      ∧ StableHlo.after (seg 84 16) W (Proc.devRef .tc main_v3) = W (Proc.devRef .tc main_v3)
      ∧ StableHlo.after (seg 84 16) W (Proc.devRef .tc main_v34) = W (Proc.devRef .tc main_v34)
      ∧ StableHlo.after (seg 84 16) W (Proc.devRef .tc main_v35) = W (Proc.devRef .tc main_v35)
      ∧ StableHlo.after (seg 84 16) W (Proc.devRef .tc main_v67) = W (Proc.devRef .tc main_v67)
      ∧ StableHlo.after (seg 84 16) W (Proc.devRef .tc main_v68) = W (Proc.devRef .tc main_v68)
      ∧ StableHlo.after (seg 84 16) W (Proc.devRef .tc main_v69) = W (Proc.devRef .tc main_v69) := by
  simp only [seg, List.take_succ_cons, List.take_zero, List.take_nil, List.drop_succ_cons, List.drop_zero]
  refine ⟨?_, ?_, ?_, ?_, ?_, ?_, ?_, ?_⟩ <;> after_results_simp

set_option maxHeartbeats 1600000 in
/-- The key's extra lanes. -/
theorem s7 (x_v35 : Vec Ideal S12x4096x3 .f32) (hx_v35 : x_v35 = W (Proc.devRef .tc main_v35)) (x_v83 : Vec Ideal S12x4096x1 .f32) (hx_v83 : x_v83 = W (Proc.devRef .tc main_v83)) (x_v84 : Vec Ideal S12x4096x1 .f32) (hx_v84 : x_v84 = W (Proc.devRef .tc main_v84)) (x_v85 : Vec Ideal S12x4096x1 .f32) (hx_v85 : x_v85 = W (Proc.devRef .tc main_v85)) (x_v34 : Vec Ideal S12x4096x1 .f32) (hx_v34 : x_v34 = W (Proc.devRef .tc main_v34)) (x_v86 : Vec Ideal S12x4096x54 .f32) (hx_v86 : x_v86 = W (Proc.devRef .tc main_v86)) (a : Fin 64) :
    (StableHlo.after (seg 100 1) W (Proc.devRef .tc main_v87) : Vec Ideal S12x4096x64 .f32) (ix3 h r a) = (if q0 : a.val < 3 then x_v35 (ix3 h r ⟨a.val, by omega⟩) else if q1 : a.val - 3 < 1 then x_v83 (ix3 h r ⟨a.val - 3, by omega⟩) else if q2 : a.val - 3 - 1 < 1 then x_v84 (ix3 h r ⟨a.val - 3 - 1, by omega⟩) else if q3 : a.val - 3 - 1 - 1 < 1 then x_v85 (ix3 h r ⟨a.val - 3 - 1 - 1, by omega⟩) else if q4 : a.val - 3 - 1 - 1 - 1 < 3 then x_v35 (ix3 h r ⟨a.val - 3 - 1 - 1 - 1, by omega⟩) else if q5 : a.val - 3 - 1 - 1 - 1 - 3 < 1 then x_v34 (ix3 h r ⟨a.val - 3 - 1 - 1 - 1 - 3, by omega⟩) else x_v86 (ix3 h r ⟨a.val - 3 - 1 - 1 - 1 - 3 - 1, by omega⟩) : EReal) := by
  simp only [seg, List.take_succ_cons, List.take_zero, List.take_nil, List.drop_succ_cons, List.drop_zero]
  simp only [StableHlo.after_cons, StableHlo.after_nil, StableHlo.nary_result']
  show concatenate _ _ _ _ _ = _
  subst hx_v35 hx_v83 hx_v84 hx_v85 hx_v34 hx_v86
  pointwise

set_option maxHeartbeats 1600000 in
/-- These stand through the stretch. -/
theorem s7_keep :
    StableHlo.after (seg 100 1) W (Proc.devRef .tc main_v82) = W (Proc.devRef .tc main_v82)
      ∧ StableHlo.after (seg 100 1) W (Proc.devRef .tc main_v1) = W (Proc.devRef .tc main_v1)
      ∧ StableHlo.after (seg 100 1) W (Proc.devRef .tc main_v2) = W (Proc.devRef .tc main_v2)
      ∧ StableHlo.after (seg 100 1) W (Proc.devRef .tc main_v3) = W (Proc.devRef .tc main_v3)
      ∧ StableHlo.after (seg 100 1) W (Proc.devRef .tc main_v34) = W (Proc.devRef .tc main_v34)
      ∧ StableHlo.after (seg 100 1) W (Proc.devRef .tc main_v35) = W (Proc.devRef .tc main_v35)
      ∧ StableHlo.after (seg 100 1) W (Proc.devRef .tc main_v67) = W (Proc.devRef .tc main_v67)
      ∧ StableHlo.after (seg 100 1) W (Proc.devRef .tc main_v68) = W (Proc.devRef .tc main_v68)
      ∧ StableHlo.after (seg 100 1) W (Proc.devRef .tc main_v69) = W (Proc.devRef .tc main_v69) := by
  simp only [seg, List.take_succ_cons, List.take_zero, List.take_nil, List.drop_succ_cons, List.drop_zero]
  refine ⟨?_, ?_, ?_, ?_, ?_, ?_, ?_, ?_, ?_⟩ <;> after_results_simp

set_option maxHeartbeats 1600000 in
/-- The key, packed. -/
theorem s8_k (x_v1 : Vec Ideal S12x4096x64 .f32) (hx_v1 : x_v1 = W (Proc.devRef .tc main_v1)) (x_v87 : Vec Ideal S12x4096x64 .f32) (hx_v87 : x_v87 = W (Proc.devRef .tc main_v87)) (l : Fin 128) :
    (StableHlo.after (seg 101 14) W (Proc.devRef .tc main_v96) : Vec Ideal S12x4096x128 .bf16) (ix3 h r l) = (Scalar.select (IntOp.cmpi CmpIPredicate.eq (IntOp.andi (BitVec.ofNat 32 h.val) 1#32) 0#32) (if p : l.val < 64 then x_v1 (ix3 h r ⟨l.val, by omega⟩) else x_v87 (ix3 h r ⟨l.val - 64, by omega⟩)) (if p : l.val < 64 then x_v87 (ix3 h r ⟨l.val, by omega⟩) else x_v1 (ix3 h r ⟨l.val - 64, by omega⟩)) : EReal) := by
  simp only [seg, List.take_succ_cons, List.take_zero, List.take_nil, List.drop_succ_cons, List.drop_zero]
  after_results_simp
  pointwise
  after_results_simp
  simp only [← hx_v1, ← hx_v87]

set_option maxHeartbeats 1600000 in
/-- The value's extra pieces. -/
theorem s8_rest (x_v35 : Vec Ideal S12x4096x3 .f32) (hx_v35 : x_v35 = W (Proc.devRef .tc main_v35)) :
    (StableHlo.after (seg 101 14) W (Proc.devRef .tc main_v97) : Vec Ideal S12x4096x3 .f32) (ix3 h r j3) = (-x_v35 (ix3 h r j3) : EReal)
      ∧ (StableHlo.after (seg 101 14) W (Proc.devRef .tc main_v98) : Vec Ideal S12x4096x60 .f32) (ix3 h r j60) = (Ideal.ofBits FTy.f32 0#32 : EReal) := by
  simp only [seg, List.take_succ_cons, List.take_zero, List.take_nil, List.drop_succ_cons, List.drop_zero]
  after_results_simp
  simp only [← hx_v35]
  refine ⟨?_, ?_⟩ <;> (pointwise)

set_option maxHeartbeats 1600000 in
/-- These stand through the stretch. -/
theorem s8_keep :
    StableHlo.after (seg 101 14) W (Proc.devRef .tc main_v82) = W (Proc.devRef .tc main_v82)
      ∧ StableHlo.after (seg 101 14) W (Proc.devRef .tc main_v2) = W (Proc.devRef .tc main_v2)
      ∧ StableHlo.after (seg 101 14) W (Proc.devRef .tc main_v3) = W (Proc.devRef .tc main_v3)
      ∧ StableHlo.after (seg 101 14) W (Proc.devRef .tc main_v34) = W (Proc.devRef .tc main_v34)
      ∧ StableHlo.after (seg 101 14) W (Proc.devRef .tc main_v67) = W (Proc.devRef .tc main_v67)
      ∧ StableHlo.after (seg 101 14) W (Proc.devRef .tc main_v68) = W (Proc.devRef .tc main_v68)
      ∧ StableHlo.after (seg 101 14) W (Proc.devRef .tc main_v69) = W (Proc.devRef .tc main_v69) := by
  simp only [seg, List.take_succ_cons, List.take_zero, List.take_nil, List.drop_succ_cons, List.drop_zero]
  refine ⟨?_, ?_, ?_, ?_, ?_, ?_, ?_⟩ <;> after_results_simp

set_option maxHeartbeats 1600000 in
/-- The value's extra lanes. -/
theorem s9 (x_v34 : Vec Ideal S12x4096x1 .f32) (hx_v34 : x_v34 = W (Proc.devRef .tc main_v34)) (x_v97 : Vec Ideal S12x4096x3 .f32) (hx_v97 : x_v97 = W (Proc.devRef .tc main_v97)) (x_v98 : Vec Ideal S12x4096x60 .f32) (hx_v98 : x_v98 = W (Proc.devRef .tc main_v98)) (a : Fin 64) :
    (StableHlo.after (seg 115 1) W (Proc.devRef .tc main_v99) : Vec Ideal S12x4096x64 .f32) (ix3 h r a) = (if q0 : a.val < 1 then x_v34 (ix3 h r ⟨a.val, by omega⟩) else if q1 : a.val - 1 < 3 then x_v97 (ix3 h r ⟨a.val - 1, by omega⟩) else x_v98 (ix3 h r ⟨a.val - 1 - 3, by omega⟩) : EReal) := by
  simp only [seg, List.take_succ_cons, List.take_zero, List.take_nil, List.drop_succ_cons, List.drop_zero]
  simp only [StableHlo.after_cons, StableHlo.after_nil, StableHlo.nary_result']
  show concatenate _ _ _ _ _ = _
  subst hx_v34 hx_v97 hx_v98
  pointwise

set_option maxHeartbeats 1600000 in
/-- These stand through the stretch. -/
theorem s9_keep :
    StableHlo.after (seg 115 1) W (Proc.devRef .tc main_v82) = W (Proc.devRef .tc main_v82)
      ∧ StableHlo.after (seg 115 1) W (Proc.devRef .tc main_v96) = W (Proc.devRef .tc main_v96)
      ∧ StableHlo.after (seg 115 1) W (Proc.devRef .tc main_v2) = W (Proc.devRef .tc main_v2)
      ∧ StableHlo.after (seg 115 1) W (Proc.devRef .tc main_v3) = W (Proc.devRef .tc main_v3)
      ∧ StableHlo.after (seg 115 1) W (Proc.devRef .tc main_v67) = W (Proc.devRef .tc main_v67)
      ∧ StableHlo.after (seg 115 1) W (Proc.devRef .tc main_v68) = W (Proc.devRef .tc main_v68)
      ∧ StableHlo.after (seg 115 1) W (Proc.devRef .tc main_v69) = W (Proc.devRef .tc main_v69) := by
  simp only [seg, List.take_succ_cons, List.take_zero, List.take_nil, List.drop_succ_cons, List.drop_zero]
  refine ⟨?_, ?_, ?_, ?_, ?_, ?_, ?_⟩ <;> after_results_simp

set_option maxHeartbeats 1600000 in
/-- The value, packed. -/
theorem s10_v (x_v2 : Vec Ideal S12x4096x64 .f32) (hx_v2 : x_v2 = W (Proc.devRef .tc main_v2)) (x_v99 : Vec Ideal S12x4096x64 .f32) (hx_v99 : x_v99 = W (Proc.devRef .tc main_v99)) (l : Fin 128) :
    (StableHlo.after (seg 116 15) W (Proc.devRef .tc main_v108) : Vec Ideal S12x4096x128 .bf16) (ix3 h r l) = (Scalar.select (IntOp.cmpi CmpIPredicate.eq (IntOp.andi (BitVec.ofNat 32 h.val) 1#32) 0#32) (if p : l.val < 64 then x_v2 (ix3 h r ⟨l.val, by omega⟩) else x_v99 (ix3 h r ⟨l.val - 64, by omega⟩)) (if p : l.val < 64 then x_v99 (ix3 h r ⟨l.val, by omega⟩) else x_v2 (ix3 h r ⟨l.val - 64, by omega⟩)) : EReal) := by
  simp only [seg, List.take_succ_cons, List.take_zero, List.take_nil, List.drop_succ_cons, List.drop_zero]
  after_results_simp
  pointwise
  after_results_simp
  simp only [← hx_v2, ← hx_v99]

set_option maxHeartbeats 1600000 in
/-- The cotangent's zero pieces. -/
theorem s10_rest  :
    (StableHlo.after (seg 116 15) W (Proc.devRef .tc main_v109) : Vec Ideal S12x4096x1 .f32) (ix3 h r i0) = (Ideal.ofBits FTy.f32 0#32 : EReal)
      ∧ (StableHlo.after (seg 116 15) W (Proc.devRef .tc main_v110) : Vec Ideal S12x4096x60 .f32) (ix3 h r j60) = (Ideal.ofBits FTy.f32 0#32 : EReal) := by
  simp only [seg, List.take_succ_cons, List.take_zero, List.take_nil, List.drop_succ_cons, List.drop_zero]
  after_results_simp
  refine ⟨?_, ?_⟩ <;> (pointwise)

set_option maxHeartbeats 1600000 in
/-- These stand through the stretch. -/
theorem s10_keep :
    StableHlo.after (seg 116 15) W (Proc.devRef .tc main_v82) = W (Proc.devRef .tc main_v82)
      ∧ StableHlo.after (seg 116 15) W (Proc.devRef .tc main_v96) = W (Proc.devRef .tc main_v96)
      ∧ StableHlo.after (seg 116 15) W (Proc.devRef .tc main_v3) = W (Proc.devRef .tc main_v3)
      ∧ StableHlo.after (seg 116 15) W (Proc.devRef .tc main_v67) = W (Proc.devRef .tc main_v67)
      ∧ StableHlo.after (seg 116 15) W (Proc.devRef .tc main_v68) = W (Proc.devRef .tc main_v68)
      ∧ StableHlo.after (seg 116 15) W (Proc.devRef .tc main_v69) = W (Proc.devRef .tc main_v69) := by
  simp only [seg, List.take_succ_cons, List.take_zero, List.take_nil, List.drop_succ_cons, List.drop_zero]
  refine ⟨?_, ?_, ?_, ?_, ?_, ?_⟩ <;> after_results_simp

set_option maxHeartbeats 1600000 in
/-- The cotangent's extra lanes. -/
theorem s11 (x_v109 : Vec Ideal S12x4096x1 .f32) (hx_v109 : x_v109 = W (Proc.devRef .tc main_v109)) (x_v67 : Vec Ideal S12x4096x1 .f32) (hx_v67 : x_v67 = W (Proc.devRef .tc main_v67)) (x_v68 : Vec Ideal S12x4096x1 .f32) (hx_v68 : x_v68 = W (Proc.devRef .tc main_v68)) (x_v69 : Vec Ideal S12x4096x1 .f32) (hx_v69 : x_v69 = W (Proc.devRef .tc main_v69)) (x_v110 : Vec Ideal S12x4096x60 .f32) (hx_v110 : x_v110 = W (Proc.devRef .tc main_v110)) (a : Fin 64) :
    (StableHlo.after (seg 131 1) W (Proc.devRef .tc main_v111) : Vec Ideal S12x4096x64 .f32) (ix3 h r a) = (if q0 : a.val < 1 then x_v109 (ix3 h r ⟨a.val, by omega⟩) else if q1 : a.val - 1 < 1 then x_v67 (ix3 h r ⟨a.val - 1, by omega⟩) else if q2 : a.val - 1 - 1 < 1 then x_v68 (ix3 h r ⟨a.val - 1 - 1, by omega⟩) else if q3 : a.val - 1 - 1 - 1 < 1 then x_v69 (ix3 h r ⟨a.val - 1 - 1 - 1, by omega⟩) else x_v110 (ix3 h r ⟨a.val - 1 - 1 - 1 - 1, by omega⟩) : EReal) := by
  simp only [seg, List.take_succ_cons, List.take_zero, List.take_nil, List.drop_succ_cons, List.drop_zero]
  simp only [StableHlo.after_cons, StableHlo.after_nil, StableHlo.nary_result']
  show concatenate _ _ _ _ _ = _
  subst hx_v109 hx_v67 hx_v68 hx_v69 hx_v110
  pointwise

set_option maxHeartbeats 1600000 in
/-- These stand through the stretch. -/
theorem s11_keep :
    StableHlo.after (seg 131 1) W (Proc.devRef .tc main_v82) = W (Proc.devRef .tc main_v82)
      ∧ StableHlo.after (seg 131 1) W (Proc.devRef .tc main_v96) = W (Proc.devRef .tc main_v96)
      ∧ StableHlo.after (seg 131 1) W (Proc.devRef .tc main_v108) = W (Proc.devRef .tc main_v108)
      ∧ StableHlo.after (seg 131 1) W (Proc.devRef .tc main_v3) = W (Proc.devRef .tc main_v3) := by
  simp only [seg, List.take_succ_cons, List.take_zero, List.take_nil, List.drop_succ_cons, List.drop_zero]
  refine ⟨?_, ?_, ?_, ?_⟩ <;> after_results_simp

set_option maxHeartbeats 1600000 in
/-- The cotangent, packed. -/
theorem s12_do (x_v3 : Vec Ideal S12x4096x64 .f32) (hx_v3 : x_v3 = W (Proc.devRef .tc main_v3)) (x_v111 : Vec Ideal S12x4096x64 .f32) (hx_v111 : x_v111 = W (Proc.devRef .tc main_v111)) (l : Fin 128) :
    (StableHlo.after (seg 132 14) W (Proc.devRef .tc main_v120) : Vec Ideal S12x4096x128 .bf16) (ix3 h r l) = (Scalar.select (IntOp.cmpi CmpIPredicate.eq (IntOp.andi (BitVec.ofNat 32 h.val) 1#32) 0#32) (if p : l.val < 64 then x_v3 (ix3 h r ⟨l.val, by omega⟩) else x_v111 (ix3 h r ⟨l.val - 64, by omega⟩)) (if p : l.val < 64 then x_v111 (ix3 h r ⟨l.val, by omega⟩) else x_v3 (ix3 h r ⟨l.val - 64, by omega⟩)) : EReal) := by
  simp only [seg, List.take_succ_cons, List.take_zero, List.take_nil, List.drop_succ_cons, List.drop_zero]
  after_results_simp
  pointwise
  after_results_simp
  simp only [← hx_v3, ← hx_v111]

set_option maxHeartbeats 1600000 in
/-- These stand through the stretch. -/
theorem s12_keep :
    StableHlo.after (seg 132 14) W (Proc.devRef .tc main_v82) = W (Proc.devRef .tc main_v82)
      ∧ StableHlo.after (seg 132 14) W (Proc.devRef .tc main_v96) = W (Proc.devRef .tc main_v96)
      ∧ StableHlo.after (seg 132 14) W (Proc.devRef .tc main_v108) = W (Proc.devRef .tc main_v108) := by
  simp only [seg, List.take_succ_cons, List.take_zero, List.take_nil, List.drop_succ_cons, List.drop_zero]
  refine ⟨?_, ?_, ?_⟩ <;> after_results_simp

end Cert.FoxIdeal.Hand
-- ==== Proof.FoxReal.lean ====
module

public import Idealize.ShloMosaic.PureOps.Ideal.Laws
public import Mathlib.Analysis.SpecialFunctions.Log.Basic
public import Mathlib.Data.Finset.Fold

/-! The causal softmax with decays over the reals, one head at a time: its weights, and its gradients; and the extended-real expressions
    the two programs compute, as coerced reals. -/

@[expose] public section
noncomputable section
namespace Cert.FoxReal
open Idealize.ShloMosaic

/-- A finite sum of reals, coerced. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The logit of row `r` at key `c`. -/
def lg (q k : Fin 4096 → Fin 64 → ℝ) (g : Fin 4096 → ℝ) (r c : Fin 4096) : ℝ := (∑ d, q r d * k c d) * (1 / 8) + (g r - g c)

variable (L : Fin 4096 → Fin 4096 → ℝ) (t : ℝ) (r c : Fin 4096)

/-- The logit where the row sees the key. -/
def msk : EReal := if c.val ≤ r.val then (L r c : EReal) else ⊥

/-- The exponential above `t`, where the row sees the key. -/
def un : ℝ := if c.val ≤ r.val then Real.exp (L r c - t) else 0

/-- The softmax weight. -/
def wt : ℝ := un L 0 r c / ∑ x, un L 0 r x

/-- The largest logit of a row is a real number. -/
theorem top_real : ∃ t : ℝ, Finset.fold max (⊥ : EReal) (fun x => msk L r x) Finset.univ = (t : EReal) := by
  have hb : Finset.fold max (⊥ : EReal) (fun x => msk L r x) Finset.univ ≠ ⊥ := by
    refine ne_of_gt ((Finset.lt_fold_max _).mpr (Or.inr ⟨r, Finset.mem_univ _, ?_⟩))
    simp [msk]
  have ht : Finset.fold max (⊥ : EReal) (fun x => msk L r x) Finset.univ ≠ ⊤ := by
    refine ne_of_lt ((Finset.fold_max_lt _).mpr ⟨by simp, fun x _ => ?_⟩)
    unfold msk
    split_ifs <;> simp
  exact ⟨_, (EReal.coe_toReal ht hb).symm⟩

theorem exp_msk : Ideal.exp (msk L r c - (t : EReal)) = ((un L t r c : ℝ) : EReal) := by
  unfold msk un
  split_ifs
  · rw [← EReal.coe_sub, Ideal.exp_coe]
  · simp [Ideal.exp_bot]

theorem un_nonneg : 0 ≤ un L t r c := by
  unfold un
  split_ifs
  · exact (Real.exp_pos _).le
  · exact le_rfl

theorem den_pos : 0 < ∑ x, un L t r x :=
  Finset.sum_pos' (fun x _ => un_nonneg L t r x) ⟨r, Finset.mem_univ _, by simp [un, Real.exp_pos]⟩

theorem un_shift : un L t r c = un L 0 r c * Real.exp (-t) := by
  unfold un
  split_ifs
  · rw [← Real.exp_add]; congr 1; ring
  · simp

/-- The weight does not depend on what is subtracted from the row. -/
theorem un_div : un L t r c / ∑ x, un L t r x = wt L r c := by
  unfold wt
  rw [un_shift L t r c, Finset.sum_congr rfl (fun x _ => un_shift L t r x), ← Finset.sum_mul]
  exact mul_div_mul_right _ _ (Real.exp_pos _).ne'

/-- The weight from the row's log-sum. -/
theorem exp_lse (h : c.val ≤ r.val) : Real.exp (L r c - (t + Real.log (∑ x, un L t r x))) = wt L r c := by
  rw [← un_div L t r c, show L r c - (t + Real.log (∑ x, un L t r x)) = (L r c - t) - Real.log (∑ x, un L t r x) by ring, Real.exp_sub,
    Real.exp_log (den_pos L t r)]
  simp [un, h]

theorem wt_zero (h : ¬ c.val ≤ r.val) : wt L r c = 0 := by simp [wt, un, h]

variable (q k v o : Fin 4096 → Fin 64 → ℝ) (g : Fin 4096 → ℝ)

/-- What flows into a weight. -/
def dp : ℝ := ∑ d, o r d * v c d
/-- The row's mean of what flows in. -/
def dl : ℝ := ∑ x, wt L r x * dp r x v o
/-- What flows into a logit. -/
def ds : ℝ := wt L r c * (dp r c v o - dl L r v o)
/-- The query gradient. -/
def gq (d : Fin 64) : ℝ := (∑ x, ds L r x v o * k x d) * (1 / 8)
/-- The key gradient. -/
def gk (d : Fin 64) : ℝ := ∑ y, ds L y c v o * (q y d * (1 / 8))
/-- The value gradient. -/
def gv (d : Fin 64) : ℝ := ∑ y, wt L y c * o y d
/-- The gradient of the summed decay. -/
def gg : ℝ := ∑ x, ds L r x v o - ∑ y, ds L y r v o

/-- Delta as the host lines compute it, from the attention's output. -/
theorem dl_out : (∑ d, (∑ x, un L t r x / (∑ y, un L t r y) * v x d) * o r d) = dl L r v o := by
  unfold dl dp
  simp only [un_div, Finset.sum_mul, Finset.mul_sum]
  rw [Finset.sum_comm]
  exact Finset.sum_congr rfl fun x _ => Finset.sum_congr rfl fun d _ => by ring

/-- What flows into a logit, as the plain derivative of the quotient writes it. -/
theorem ds_quot : (dp r c v o / (∑ x, un L t r x) + -(∑ x, dp r x v o * (1 / ((∑ y, un L t r y) * ∑ y, un L t r y)) * un L t r x)) * un L t r c
    = ds L r c v o := by
  have hd := (den_pos L t r).ne'
  have h1 : (∑ x, dp r x v o * (1 / ((∑ y, un L t r y) * ∑ y, un L t r y)) * un L t r x) = dl L r v o / ∑ x, un L t r x := by
    unfold dl
    simp only [← un_div L t]
    rw [Finset.sum_div]
    refine Finset.sum_congr rfl fun x _ => ?_
    field_simp
  rw [h1, ds, ← un_div L t]
  field_simp
  ring

/-- The two halves of a packed row: the data and what rides with it, by the head's parity. -/
def lay (h : Fin 12) (D A : Fin 64 → ℝ) (l : Fin 128) : ℝ :=
  if h.val % 2 = 0 then (if p : l.val < 64 then D ⟨l.val, p⟩ else A ⟨l.val - 64, by omega⟩)
  else (if p : l.val < 64 then A ⟨l.val, p⟩ else D ⟨l.val - 64, by omega⟩)

theorem sum_lay (h : Fin 12) (D A D' A' : Fin 64 → ℝ) :
    ∑ l, lay h D A l * lay h D' A' l = ∑ d, D d * D' d + ∑ a, A a * A' a := by
  rw [show (∑ l, lay h D A l * lay h D' A' l) = _ from Fin.sum_univ_add (a := 64) (b := 64) (fun l => lay h D A l * lay h D' A' l)]
  unfold lay
  by_cases hp : h.val % 2 = 0
  · simp [hp]
  · simp [hp, add_comm]

/-- What rides with a query: its decay, ones, minus the log-sum and one, a one. -/
def aq (g n : ℝ) (a : Fin 64) : ℝ :=
  if a.val < 1 then g else if a.val - 1 < 1 then 0 else if a.val - 1 - 1 < 1 then 0 else if a.val - 1 - 1 - 1 < 3 then 1
  else if a.val - 1 - 1 - 1 - 3 < 1 then n else if a.val - 1 - 1 - 1 - 3 - 1 < 1 then 0 else if a.val - 1 - 1 - 1 - 3 - 1 - 1 < 1 then 0
  else if a.val - 1 - 1 - 1 - 3 - 1 - 1 - 1 < 1 then 1 else 0

/-- What rides with a key: ones, minus its decay, ones. -/
def ak (g : ℝ) (a : Fin 64) : ℝ :=
  if a.val < 3 then 1 else if a.val - 3 < 1 then -g else if a.val - 3 - 1 < 1 then 0 else if a.val - 3 - 1 - 1 < 1 then 0
  else if a.val - 3 - 1 - 1 - 1 < 3 then 1 else if a.val - 3 - 1 - 1 - 1 - 3 < 1 then 1 else 0

/-- What rides with a value: a one and three minus ones. -/
def av (a : Fin 64) : ℝ := if a.val < 1 then 1 else if a.val - 1 < 3 then -1 else 0

/-- What rides with a cotangent: delta. -/
def ad (x : ℝ) (a : Fin 64) : ℝ :=
  if a.val < 1 then 0 else if a.val - 1 < 1 then x else if a.val - 1 - 1 < 1 then 0 else if a.val - 1 - 1 - 1 < 1 then 0 else 0

theorem sum_ten (f : Fin 64 → ℝ) (h : ∀ a : Fin 64, 10 ≤ a.val → f a = 0) :
    ∑ a, f a = f 0 + f 1 + f 2 + f 3 + f 4 + f 5 + f 6 + f 7 + f 8 + f 9 := by
  rw [show (∑ a, f a) = _ from Fin.sum_univ_add (a := 10) (b := 54) f]
  rw [Finset.sum_eq_zero (s := (Finset.univ : Finset (Fin 54))) (fun i _ => h _ (by simp))]
  simp [Fin.sum_univ_succ, add_assoc]

theorem sum_aq_ak (g n g' : ℝ) : ∑ a, aq g n a * ak g' a = g - g' + n + 1 := by
  rw [sum_ten]
  · simp [aq, ak]; ring
  · intro a ha
    have : aq g n a = 0 := by
      unfold aq
      split_ifs <;> first | omega | rfl
    rw [this, zero_mul]

theorem sum_ad_av (x : ℝ) : ∑ a, ad x a * av a = -x := by
  rw [sum_ten]
  · simp [ad, av]
  · intro a ha
    have : av a = 0 := by
      unfold av
      split_ifs <;> first | omega | rfl
    rw [this, mul_zero]

/-- The product of a packed query and a packed key is the logit above the row's log-sum. -/
theorem dot_qk (h : Fin 12) (s : ℝ) : ∑ l, lay h (fun d => q r d * (1 / 8)) (aq (g r) (-(s + 1))) l * lay h (k c) (ak (g c)) l
    = lg q k g r c - s := by
  rw [sum_lay, sum_aq_ak, lg, Finset.sum_mul]
  rw [Finset.sum_congr rfl (fun d _ => (by ring : q r d * (1 / 8) * k c d = q r d * k c d * (1 / 8)))]
  ring

/-- The product of a packed cotangent and a packed value is what flows into the weight, less delta. -/
theorem dot_dov (h : Fin 12) (s : ℝ) : ∑ l, lay h (o r) (ad s) l * lay h (v c) av l = dp r c v o - s := by
  rw [sum_lay, sum_ad_av, dp]; ring

end Cert.FoxReal
-- ==== Proof.FoxMath.lean ====
module

public import proofs.«01_k».proof.Proof.Gen.FoxRefIdeal.Run
public import proofs.«01_k».proof.Proof.Gen.FoxRefIdeal.Read
-- ==== Proof.FoxRef.lean ====
module

public import proofs.«01_k».proof.Proof.FoxReal
public import proofs.«01_k».proof.Proof.FoxMath
public import Idealize.ShloMosaic.Lib.IdealHost
public import Idealize.ShloMosaic.Lib.Pointwise
public import Idealize.ShloMosaic.Lib.WordCmp

/-! The reference's lines, stage by stage, on arguments that are real numbers: each stage's element as a coerced real. -/

@[expose] public section
set_option maxRecDepth 16384
noncomputable section
namespace Cert.FoxReal
open Idealize.ShloMosaic Idealize.ShloMosaic.Tactic

/-- The word of one eighth. -/
theorem word_eighth : Ideal.ofBits .f32 1040187392#32 = (((1 : ℝ) / 8 : ℝ) : EReal) := by
  simp [Ideal.ofBits, Ideal.ieee, -EReal.coe_mul]; norm_num

/-- The word of minus infinity. -/
theorem word_ninf : Ideal.ofBits .f32 4286578688#32 = (⊥ : EReal) := by
  simp [Ideal.ofBits, Ideal.ieee]

/-- A choice by the comparison of two positions. -/
theorem sel_ge (r c : Fin 4096) (p q : EReal) :
    Scalar.select (IntOp.cmpi CmpIPredicate.sge (BitVec.ofNat 32 r.val) (BitVec.ofNat 32 c.val)) p q = if c.val ≤ r.val then p else q := by
  have hr := r.isLt
  have hc := c.isLt
  have hm : IntOp.cmpi CmpIPredicate.sge (BitVec.ofNat 32 r.val) (BitVec.ofNat 32 c.val) = 1 ↔ c.val ≤ r.val := by
    word_cmp
  rw [show ∀ (b : BitVec 1) (p q : EReal), Scalar.select b p q = if b = 1 then p else q from fun _ _ _ => rfl]
  by_cases h : c.val ≤ r.val
  · rw [if_pos (hm.mpr h), if_pos h]
  · rw [if_neg (fun h' => h (hm.mp h')), if_neg h]

/-- A choice by the parity of a head. -/
theorem sel_even (h : Fin 12) (p q : EReal) :
    Scalar.select (IntOp.cmpi CmpIPredicate.eq (IntOp.andi (BitVec.ofNat 32 h.val) 1#32) 0#32) p q = if h.val % 2 = 0 then p else q := by
  have hm : ∀ h : Fin 12, (IntOp.cmpi CmpIPredicate.eq (IntOp.andi (BitVec.ofNat 32 h.val) 1#32) 0#32 = 1 ↔ h.val % 2 = 0) := by decide
  rw [show ∀ (b : BitVec 1) (p q : EReal), Scalar.select b p q = if b = 1 then p else q from fun _ _ _ => rfl]
  by_cases h' : h.val % 2 = 0
  · rw [if_pos ((hm h).mpr h'), if_pos h']
  · rw [if_neg (fun e => h' ((hm h).mp e)), if_neg h']

/-- A quotient of reals. -/
theorem div_real (x y : ℝ) (h : y ≠ 0) : Ideal.div (x : EReal) (y : EReal) = ((x / y : ℝ) : EReal) := by
  rw [Ideal.div_coe h, ← EReal.coe_mul, mul_one_div]

/-- A logit as the programs write it. -/
theorem lg_coe (q k : Fin 4096 → Fin 64 → ℝ) (g : Fin 4096 → ℝ) (r c : Fin 4096) :
    (∑ d, (q r d : EReal) * (k c d : EReal)) * (((1 : ℝ) / 8 : ℝ) : EReal) + ((g r : EReal) - (g c : EReal)) = ((lg q k g r c : ℝ) : EReal) := by
  simp only [lg, EReal.coe_add, EReal.coe_mul, EReal.coe_sub, coe_sum]

end Cert.FoxReal

namespace Cert.FoxRefIdeal.Tie
open Cert.FoxRefIdeal Cert.FoxRefIdeal.Gen Cert.FoxRefIdeal.Read Cert.FoxReal
open Idealize.ShloMosaic Idealize.ShloMosaic.TcCoe Idealize.ShloMosaic.Tactic

variable (x0 x1 x2 : Vec Ideal S4096x12x64 .f32) (x3 : Vec Ideal S4096x12 .f32) (x4 : Vec Ideal S4096x12x64 .f32)
  (q k v o : Fin 12 → Fin 4096 → Fin 64 → ℝ) (g : Fin 12 → Fin 4096 → ℝ) (t : Fin 12 → Fin 4096 → ℝ)
  (h0 : ∀ h r d, x0 (ix3 r h d) = ((q h r d : ℝ) : EReal)) (h1 : ∀ h r d, x1 (ix3 r h d) = ((k h r d : ℝ) : EReal))
  (h2 : ∀ h r d, x2 (ix3 r h d) = ((v h r d : ℝ) : EReal)) (h3 : ∀ h r, x3 (ix2 r h) = ((g h r : ℝ) : EReal))
  (h4 : ∀ h r d, x4 (ix3 r h d) = ((o h r d : ℝ) : EReal))

include h0 h1 h3 in
/-- The masked logits. -/
theorem r14 (h : Fin 12) (r c : Fin 4096) : val_main_v14 (F := Ideal) x0 x1 x3 (ix3 h r c) = (msk (lg (q h) (k h) (g h)) r c : EReal) := by
  unfold val_main_v14 val_main_v13 val_main_v12 val_main_v11 val_main_v10 val_main_v9 val_main_v8 val_main_v7 val_main_v6 val_main_v5 val_main_v4
    val_main_v3 val_main_v2 val_main_v1 val_main_v0 val_main_cst val_main_cst_0
  pointwise
  simp only [h0, h1, h3, sel_ge, word_eighth, word_ninf, lg_coe]
  rfl

/-- A row's largest logit. -/
theorem r16 (h : Fin 12) (r : Fin 4096) :
    val_main_v16 (F := Ideal) x0 x1 x3 (ix2 h r) = Finset.fold max (⊥ : EReal) (fun c => (val_main_v14 (F := Ideal) x0 x1 x3 (ix3 h r c) : EReal)) Finset.univ := by
  unfold val_main_v16 val_main_cst_2
  generalize val_main_v14 (F := Ideal) x0 x1 x3 = y
  change Vec Ideal S12x4096x4096 .f32 at y
  rw [← word_ninf]
  pointwise

/-- What is subtracted from a row. -/
theorem r23_eq (h : Fin 12) (r : Fin 4096) :
    val_main_v23 (F := Ideal) x0 x1 x3 (ix2 h r) = max (⊥ : EReal) (val_main_v16 (F := Ideal) x0 x1 x3 (ix2 h r)) := by
  unfold val_main_v23 val_main_v22 val_main_cst_4
  generalize val_main_v16 (F := Ideal) x0 x1 x3 = y
  change Vec Ideal S12x4096 .f32 at y
  rw [← word_ninf]
  pointwise

include h0 h1 h3 in
/-- What is subtracted from a row is a real number. -/
theorem r23 : ∃ t : Fin 12 → Fin 4096 → ℝ, ∀ h r, val_main_v23 (F := Ideal) x0 x1 x3 (ix2 h r) = ((t h r : ℝ) : EReal) := by
  have key : ∀ h r, ∃ t : ℝ, val_main_v23 (F := Ideal) x0 x1 x3 (ix2 h r) = (t : EReal) := by
    intro h r
    obtain ⟨t, ht⟩ := top_real (lg (q h) (k h) (g h)) r
    refine ⟨t, ?_⟩
    rw [r23_eq, r16, funext (fun c => r14 x0 x1 x3 q k g h0 h1 h3 h r c), ht]
    exact max_eq_right bot_le
  exact ⟨fun h r => (key h r).choose, fun h r => (key h r).choose_spec⟩

section
variable (h23 : ∀ h r, val_main_v23 (F := Ideal) x0 x1 x3 (ix2 h r) = ((t h r : ℝ) : EReal))

include h0 h1 h3 h23 in
/-- The exponentials. -/
theorem r36 (h : Fin 12) (r c : Fin 4096) : val_main_v36 (F := Ideal) x0 x1 x3 (ix3 h r c) = ((un (lg (q h) (k h) (g h)) (t h r) r c : ℝ) : EReal) := by
  have hh := r14 x0 x1 x3 q k g h0 h1 h3
  unfold val_main_v36 val_main_v35 val_main_v34 val_main_v33
  generalize val_main_v14 (F := Ideal) x0 x1 x3 = y at hh ⊢
  generalize val_main_v23 (F := Ideal) x0 x1 x3 = z at h23 ⊢
  change Vec Ideal S12x4096x4096 .f32 at y
  change Vec Ideal S12x4096 .f32 at z
  pointwise
  simp only [hh, h23, exp_msk]

include h0 h1 h3 h23 in
/-- Their sum. -/
theorem r38 (h : Fin 12) (r : Fin 4096) (i0 : Fin 1) :
    val_main_v38 (F := Ideal) x0 x1 x3 (ix3 h r i0) = ((∑ x, un (lg (q h) (k h) (g h)) (t h r) r x : ℝ) : EReal) := by
  have hh := r36 x0 x1 x3 q k g t h0 h1 h3 h23
  unfold val_main_v38 val_main_v37 val_main_cst_10
  generalize val_main_v36 (F := Ideal) x0 x1 x3 = y at hh ⊢
  change Vec Ideal S12x4096x4096 .f32 at y
  pointwise
  simp only [hh, coe_sum]

include h0 h1 h3 h23 in
/-- The weights. -/
theorem r40 (h : Fin 12) (r c : Fin 4096) : val_main_v40 (F := Ideal) x0 x1 x3 (ix3 h r c) = ((wt (lg (q h) (k h) (g h)) r c : ℝ) : EReal) := by
  have hh := r36 x0 x1 x3 q k g t h0 h1 h3 h23
  have hd := r38 x0 x1 x3 q k g t h0 h1 h3 h23
  unfold val_main_v40 val_main_v39
  generalize val_main_v36 (F := Ideal) x0 x1 x3 = y at hh ⊢
  generalize val_main_v38 (F := Ideal) x0 x1 x3 = z at hd ⊢
  change Vec Ideal S12x4096x4096 .f32 at y
  change Vec Ideal S12x4096x1 .f32 at z
  pointwise
  simp only [hh, hd]
  rw [div_real _ _ (den_pos _ _ _).ne', un_div]

include h2 h4 in
/-- What flows into a weight. -/
theorem r47 (h : Fin 12) (r c : Fin 4096) : val_main_v47 (F := Ideal) x2 x4 (ix3 h r c) = ((dp r c (v h) (o h) : ℝ) : EReal) := by
  unfold val_main_v47 val_main_v46
  pointwise
  simp only [h2, h4, dp, coe_sum, EReal.coe_mul]

include h0 h1 h3 h4 h23 in
/-- The value gradient. -/
theorem r49 (h : Fin 12) (r : Fin 4096) (d : Fin 64) :
    val_main_v49 (F := Ideal) x0 x1 x3 x4 (ix3 r h d) = ((gv (lg (q h) (k h) (g h)) r (o h) d : ℝ) : EReal) := by
  have hh := r40 x0 x1 x3 q k g t h0 h1 h3 h23
  unfold val_main_v49 val_main_v48 val_main_v46
  generalize val_main_v40 (F := Ideal) x0 x1 x3 = y at hh ⊢
  change Vec Ideal S12x4096x4096 .f32 at y
  pointwise
  simp only [hh, h4, gv, coe_sum, EReal.coe_mul]
  exact Finset.sum_congr rfl fun _ _ => mul_comm _ _

include h0 h1 h2 h3 h4 h23 in
/-- The quotient's own share, a row at a time. -/
theorem r58 (h : Fin 12) (r : Fin 4096) :
    val_main_v58 (F := Ideal) x0 x1 x2 x3 x4 (ix2 h r)
      = ((-(∑ x, dp r x (v h) (o h) * (1 / ((∑ y, un (lg (q h) (k h) (g h)) (t h r) r y) * ∑ y, un (lg (q h) (k h) (g h)) (t h r) r y))
          * un (lg (q h) (k h) (g h)) (t h r) r x) : ℝ) : EReal) := by
  have hh := r36 x0 x1 x3 q k g t h0 h1 h3 h23
  have hd := r38 x0 x1 x3 q k g t h0 h1 h3 h23
  have hp := r47 x2 x4 v o h2 h4
  unfold val_main_v58 val_main_v55 val_main_v54 val_main_v53 val_main_v52 val_main_v51 val_main_v50 val_main_v43 val_main_v42 val_main_v41
    val_main_cst_11 val_main_cst_12 val_main_cst_13
  generalize val_main_v36 (F := Ideal) x0 x1 x3 = y at hh ⊢
  generalize val_main_v38 (F := Ideal) x0 x1 x3 = z at hd ⊢
  generalize val_main_v47 (F := Ideal) x2 x4 = w at hp ⊢
  change Vec Ideal S12x4096x4096 .f32 at y
  change Vec Ideal S12x4096x1 .f32 at z
  change Vec Ideal S12x4096x4096 .f32 at w
  pointwise
  have hne := (den_pos (lg (q h) (k h) (g h)) (t h r) r).ne'
  simp only [hh, hd, hp, ← EReal.coe_mul]
  rw [show (1 : EReal) = ((1 : ℝ) : EReal) from rfl, div_real _ _ (mul_ne_zero hne hne)]
  simp only [EReal.coe_neg, coe_sum, EReal.coe_mul, Finset.univ_unique, Finset.sum_singleton]

include h0 h1 h2 h3 h4 h23 in
/-- What flows into a logit. -/
theorem r63 (h : Fin 12) (r c : Fin 4096) :
    val_main_v63 (F := Ideal) x0 x1 x2 x3 x4 (ix3 h r c) = ((ds (lg (q h) (k h) (g h)) r c (v h) (o h) : ℝ) : EReal) := by
  have hh := r36 x0 x1 x3 q k g t h0 h1 h3 h23
  have hd := r38 x0 x1 x3 q k g t h0 h1 h3 h23
  have hp := r47 x2 x4 v o h2 h4
  have hs := r58 x0 x1 x2 x3 x4 q k v o g t h0 h1 h2 h3 h4 h23
  unfold val_main_v63 val_main_v62 val_main_v61 val_main_v60 val_main_v59 val_main_v57 val_main_v56 val_main_v11 val_main_v10 val_main_v9 val_main_cst_14
  generalize val_main_v36 (F := Ideal) x0 x1 x3 = y at hh ⊢
  generalize val_main_v38 (F := Ideal) x0 x1 x3 = z at hd ⊢
  generalize val_main_v47 (F := Ideal) x2 x4 = w at hp ⊢
  generalize val_main_v58 (F := Ideal) x0 x1 x2 x3 x4 = u at hs ⊢
  change Vec Ideal S12x4096x4096 .f32 at y
  change Vec Ideal S12x4096x1 .f32 at z
  change Vec Ideal S12x4096x4096 .f32 at w
  change Vec Ideal S12x4096 .f32 at u
  pointwise
  have hne := (den_pos (lg (q h) (k h) (g h)) (t h r) r).ne'
  simp only [hh, hd, hp, hs, sel_ge]
  rw [div_real _ _ hne, ← EReal.coe_add, ← EReal.coe_mul, ds_quot]
  split_ifs with hc
  · rfl
  · simp [ds, wt_zero _ _ _ hc]

include h0 h1 h2 h3 h4 h23 in
/-- The query gradient. -/
theorem r78 (h : Fin 12) (r : Fin 4096) (d : Fin 64) :
    val_main_v78 (F := Ideal) x0 x1 x2 x3 x4 (ix3 r h d) = ((gq (lg (q h) (k h) (g h)) r (k h) (v h) (o h) d : ℝ) : EReal) := by
  have hh := r63 x0 x1 x2 x3 x4 q k v o g t h0 h1 h2 h3 h4 h23
  unfold val_main_v78 val_main_v77 val_main_v74 val_main_v73 val_main_cst_19
  generalize val_main_v63 (F := Ideal) x0 x1 x2 x3 x4 = y at hh ⊢
  change Vec Ideal S12x4096x4096 .f32 at y
  pointwise
  simp only [hh, h1, gq, word_eighth, Finset.sum_mul, coe_sum, ← EReal.coe_mul]
  exact Finset.sum_congr rfl fun _ _ => by congr 1; ring

include h0 h1 h2 h3 h4 h23 in
/-- The key gradient. -/
theorem r76 (h : Fin 12) (r : Fin 4096) (d : Fin 64) :
    val_main_v76 (F := Ideal) x0 x1 x2 x3 x4 (ix3 r h d) = ((gk (lg (q h) (k h) (g h)) r (q h) (v h) (o h) d : ℝ) : EReal) := by
  have hh := r63 x0 x1 x2 x3 x4 q k v o g t h0 h1 h2 h3 h4 h23
  unfold val_main_v76 val_main_v75 val_main_v74 val_main_v73 val_main_cst_19
  generalize val_main_v63 (F := Ideal) x0 x1 x2 x3 x4 = y at hh ⊢
  change Vec Ideal S12x4096x4096 .f32 at y
  pointwise
  simp only [hh, h0, gk, word_eighth, coe_sum, ← EReal.coe_mul]
  exact Finset.sum_congr rfl fun _ _ => by congr 1; ring

include h0 h1 h2 h3 h4 h23 in
/-- The gradient of the summed decay. -/
theorem r72 (h : Fin 12) (r : Fin 4096) :
    val_main_v72 (F := Ideal) x0 x1 x2 x3 x4 (ix2 r h) = ((gg (lg (q h) (k h) (g h)) r (v h) (o h) : ℝ) : EReal) := by
  have hh := r63 x0 x1 x2 x3 x4 q k v o g t h0 h1 h2 h3 h4 h23
  unfold val_main_v72 val_main_v71 val_main_v70 val_main_v69 val_main_v68 val_main_v67 val_main_v66 val_main_v65 val_main_v64
    val_main_cst_15 val_main_cst_16 val_main_cst_17 val_main_cst_18
  generalize val_main_v63 (F := Ideal) x0 x1 x2 x3 x4 = y at hh ⊢
  change Vec Ideal S12x4096x4096 .f32 at y
  pointwise
  simp only [hh, gg, coe_sum, ← EReal.coe_neg, ← coe_sum, ← EReal.coe_add]
  congr 1
  simp only [Finset.sum_neg_distrib, Finset.univ_unique, Finset.sum_singleton]
  ring
end

end Cert.FoxRefIdeal.Tie
-- ==== Proof.FoxPrefix.lean ====
module

public import proofs.«01_k».proof.Proof.FoxPack
public import proofs.«01_k».proof.Proof.FoxRef

/-! The four packed arrays on arguments that are real numbers, as coerced reals: the host lines stretch by stretch. -/

@[expose] public section
set_option maxRecDepth 16384
noncomputable section
namespace Cert.FoxIdeal.Hand
open Cert.FoxIdeal Cert.FoxIdeal.Gen Cert.FoxReal
open Idealize.ShloMosaic Idealize.ShloMosaic.TcCoe Idealize.ShloMosaic.Tactic

variable (W : Valuation τ sig (Elt Ideal)) (q k v o : Fin 12 → Fin 4096 → Fin 64 → ℝ) (g t : Fin 12 → Fin 4096 → ℝ)

/-- Zero, one and minus one as coerced reals, and a real less itself. -/
theorem sub_same (x : ℝ) : (x : EReal) - (x : EReal) = ((0 : ℝ) : EReal) := by rw [← EReal.coe_sub, sub_self]

/-- A row packed from its two halves. -/
theorem lay_coe (h : Fin 12) (D A : Fin 64 → ℝ) (l : Fin 128) :
    (if h.val % 2 = 0 then (if p : l.val < 64 then ((D ⟨l.val, p⟩ : ℝ) : EReal) else ((A ⟨l.val - 64, by omega⟩ : ℝ) : EReal))
      else (if p : l.val < 64 then ((A ⟨l.val, p⟩ : ℝ) : EReal) else ((D ⟨l.val - 64, by omega⟩ : ℝ) : EReal))) = ((lay h D A l : ℝ) : EReal) := by
  unfold lay
  split_ifs <;> rfl

set_option maxHeartbeats 1600000 in
/-- The first stretch. -/
theorem p1 (h_arg0 : ∀ h r a, (W (Proc.devRef .tc main_arg0) : Vec Ideal S4096x12x64 .f32) (ix3 r h a) = ((q h r a : ℝ) : EReal)) (h_arg1 : ∀ h r a, (W (Proc.devRef .tc main_arg1) : Vec Ideal S4096x12x64 .f32) (ix3 r h a) = ((k h r a : ℝ) : EReal)) (h_arg2 : ∀ h r a, (W (Proc.devRef .tc main_arg2) : Vec Ideal S4096x12x64 .f32) (ix3 r h a) = ((v h r a : ℝ) : EReal)) (h_arg4 : ∀ h r a, (W (Proc.devRef .tc main_arg4) : Vec Ideal S4096x12x64 .f32) (ix3 r h a) = ((o h r a : ℝ) : EReal)) (h_arg3 : ∀ h r, (W (Proc.devRef .tc main_arg3) : Vec Ideal S4096x12 .f32) (ix2 r h) = ((g h r : ℝ) : EReal)) :
    (∀ h r c, ((StableHlo.after (seg 0 21) W) (Proc.devRef .tc main_v18) : Vec Ideal S12x4096x4096 .f32) (ix3 h r c) = (msk (lg (q h) (k h) (g h)) r c : EReal))
      ∧ (∀ h r (a : Fin 64), ((StableHlo.after (seg 0 21) W) (Proc.devRef .tc main_v0) : Vec Ideal S12x4096x64 .f32) (ix3 h r a) = ((q h r a : ℝ) : EReal))
      ∧ (∀ h r (a : Fin 64), ((StableHlo.after (seg 0 21) W) (Proc.devRef .tc main_v1) : Vec Ideal S12x4096x64 .f32) (ix3 h r a) = ((k h r a : ℝ) : EReal))
      ∧ (∀ h r (a : Fin 64), ((StableHlo.after (seg 0 21) W) (Proc.devRef .tc main_v2) : Vec Ideal S12x4096x64 .f32) (ix3 h r a) = ((v h r a : ℝ) : EReal))
      ∧ (∀ h r (a : Fin 64), ((StableHlo.after (seg 0 21) W) (Proc.devRef .tc main_v3) : Vec Ideal S12x4096x64 .f32) (ix3 h r a) = ((o h r a : ℝ) : EReal))
      ∧ (∀ h r, ((StableHlo.after (seg 0 21) W) (Proc.devRef .tc main_v4) : Vec Ideal S12x4096 .f32) (ix2 h r) = ((g h r : ℝ) : EReal)) := by
  refine ⟨?_, ?_, ?_, ?_, ?_, ?_⟩
  · intro h r c
    refine (s1_logits (W := W) (h := h) (r := r) (k := c) _ rfl _ rfl _ rfl).trans ?_
    simp only [h_arg0, h_arg1, h_arg3, sel_ge, word_eighth, word_ninf, lg_coe]
    rfl
  · intro h r a
    refine (s1_turned (W := W) (h := h) (r := r) (d := a) _ rfl _ rfl _ rfl _ rfl _ rfl).1.trans ?_
    exact h_arg0 h r a
  · intro h r a
    refine (s1_turned (W := W) (h := h) (r := r) (d := a) _ rfl _ rfl _ rfl _ rfl _ rfl).2.1.trans ?_
    exact h_arg1 h r a
  · intro h r a
    refine (s1_turned (W := W) (h := h) (r := r) (d := a) _ rfl _ rfl _ rfl _ rfl _ rfl).2.2.1.trans ?_
    exact h_arg2 h r a
  · intro h r a
    refine (s1_turned (W := W) (h := h) (r := r) (d := a) _ rfl _ rfl _ rfl _ rfl _ rfl).2.2.2.1.trans ?_
    exact h_arg4 h r a
  · intro h r
    refine (s1_turned (W := W) (h := h) (r := r) (d := 0) _ rfl _ rfl _ rfl _ rfl _ rfl).2.2.2.2.trans ?_
    exact h_arg3 h r

set_option maxHeartbeats 1600000 in
/-- The second. -/
theorem p2 (ht : ∀ h r, Finset.fold max (⊥ : EReal) (fun x => msk (lg (q h) (k h) (g h)) r x) Finset.univ = ((t h r : ℝ) : EReal)) (h_v18 : ∀ h r c, (W (Proc.devRef .tc main_v18) : Vec Ideal S12x4096x4096 .f32) (ix3 h r c) = (msk (lg (q h) (k h) (g h)) r c : EReal)) (h_v0 : ∀ h r (a : Fin 64), (W (Proc.devRef .tc main_v0) : Vec Ideal S12x4096x64 .f32) (ix3 h r a) = ((q h r a : ℝ) : EReal)) (h_v1 : ∀ h r (a : Fin 64), (W (Proc.devRef .tc main_v1) : Vec Ideal S12x4096x64 .f32) (ix3 h r a) = ((k h r a : ℝ) : EReal)) (h_v2 : ∀ h r (a : Fin 64), (W (Proc.devRef .tc main_v2) : Vec Ideal S12x4096x64 .f32) (ix3 h r a) = ((v h r a : ℝ) : EReal)) (h_v3 : ∀ h r (a : Fin 64), (W (Proc.devRef .tc main_v3) : Vec Ideal S12x4096x64 .f32) (ix3 h r a) = ((o h r a : ℝ) : EReal)) (h_v4 : ∀ h r, (W (Proc.devRef .tc main_v4) : Vec Ideal S12x4096 .f32) (ix2 h r) = ((g h r : ℝ) : EReal)) :
    (∀ h r (a : Fin 1), ((StableHlo.after (seg 21 8) W) (Proc.devRef .tc main_v20) : Vec Ideal S12x4096x1 .f32) (ix3 h r a) = ((t h r : ℝ) : EReal))
      ∧ (∀ h r (a : Fin 4096), ((StableHlo.after (seg 21 8) W) (Proc.devRef .tc main_v23) : Vec Ideal S12x4096x4096 .f32) (ix3 h r a) = ((un (lg (q h) (k h) (g h)) (t h r) r a : ℝ) : EReal))
      ∧ (∀ h r, ((StableHlo.after (seg 21 8) W) (Proc.devRef .tc main_v24) : Vec Ideal S12x4096 .f32) (ix2 h r) = (((∑ x, un (lg (q h) (k h) (g h)) (t h r) r x) : ℝ) : EReal))
      ∧ (∀ h r (a : Fin 64), ((StableHlo.after (seg 21 8) W) (Proc.devRef .tc main_v0) : Vec Ideal S12x4096x64 .f32) (ix3 h r a) = ((q h r a : ℝ) : EReal))
      ∧ (∀ h r (a : Fin 64), ((StableHlo.after (seg 21 8) W) (Proc.devRef .tc main_v1) : Vec Ideal S12x4096x64 .f32) (ix3 h r a) = ((k h r a : ℝ) : EReal))
      ∧ (∀ h r (a : Fin 64), ((StableHlo.after (seg 21 8) W) (Proc.devRef .tc main_v2) : Vec Ideal S12x4096x64 .f32) (ix3 h r a) = ((v h r a : ℝ) : EReal))
      ∧ (∀ h r (a : Fin 64), ((StableHlo.after (seg 21 8) W) (Proc.devRef .tc main_v3) : Vec Ideal S12x4096x64 .f32) (ix3 h r a) = ((o h r a : ℝ) : EReal))
      ∧ (∀ h r, ((StableHlo.after (seg 21 8) W) (Proc.devRef .tc main_v4) : Vec Ideal S12x4096 .f32) (ix2 h r) = ((g h r : ℝ) : EReal)) := by
  refine ⟨?_, ?_, ?_, ?_, ?_, ?_, ?_, ?_⟩
  · intro h r a
    refine (s2 (W := W) (h := h) (r := r) (i0 := a) (k := 0) _ rfl).1.trans ?_
    simp only [h_v18, word_ninf, ht]
  · intro h r a
    refine (s2 (W := W) (h := h) (r := r) (i0 := 0) (k := a) _ rfl).2.1.trans ?_
    simp only [h_v18, word_ninf, ht, exp_msk]
  · intro h r
    refine (s2 (W := W) (h := h) (r := r) (i0 := 0) (k := 0) _ rfl).2.2.trans ?_
    simp only [h_v18, word_ninf, ht, exp_msk, coe_sum]
  · intro h r a; rw [(s2_keep W).1]; exact h_v0 h r a
  · intro h r a; rw [(s2_keep W).2.1]; exact h_v1 h r a
  · intro h r a; rw [(s2_keep W).2.2.1]; exact h_v2 h r a
  · intro h r a; rw [(s2_keep W).2.2.2.1]; exact h_v3 h r a
  · intro h r; rw [(s2_keep W).2.2.2.2]; exact h_v4 h r

set_option maxHeartbeats 1600000 in
/-- The third. -/
theorem p3 (h_v20 : ∀ h r (a : Fin 1), (W (Proc.devRef .tc main_v20) : Vec Ideal S12x4096x1 .f32) (ix3 h r a) = ((t h r : ℝ) : EReal)) (h_v23 : ∀ h r (a : Fin 4096), (W (Proc.devRef .tc main_v23) : Vec Ideal S12x4096x4096 .f32) (ix3 h r a) = ((un (lg (q h) (k h) (g h)) (t h r) r a : ℝ) : EReal)) (h_v24 : ∀ h r, (W (Proc.devRef .tc main_v24) : Vec Ideal S12x4096 .f32) (ix2 h r) = (((∑ x, un (lg (q h) (k h) (g h)) (t h r) r x) : ℝ) : EReal)) (h_v0 : ∀ h r (a : Fin 64), (W (Proc.devRef .tc main_v0) : Vec Ideal S12x4096x64 .f32) (ix3 h r a) = ((q h r a : ℝ) : EReal)) (h_v1 : ∀ h r (a : Fin 64), (W (Proc.devRef .tc main_v1) : Vec Ideal S12x4096x64 .f32) (ix3 h r a) = ((k h r a : ℝ) : EReal)) (h_v2 : ∀ h r (a : Fin 64), (W (Proc.devRef .tc main_v2) : Vec Ideal S12x4096x64 .f32) (ix3 h r a) = ((v h r a : ℝ) : EReal)) (h_v3 : ∀ h r (a : Fin 64), (W (Proc.devRef .tc main_v3) : Vec Ideal S12x4096x64 .f32) (ix3 h r a) = ((o h r a : ℝ) : EReal)) (h_v4 : ∀ h r, (W (Proc.devRef .tc main_v4) : Vec Ideal S12x4096 .f32) (ix2 h r) = ((g h r : ℝ) : EReal)) :
    (∀ h r (a : Fin 1), ((StableHlo.after (seg 29 10) W) (Proc.devRef .tc main_v27) : Vec Ideal S12x4096x1 .f32) (ix3 h r a) = ((t h r + Real.log (∑ x, un (lg (q h) (k h) (g h)) (t h r) r x) : ℝ) : EReal))
      ∧ (∀ h r (a : Fin 1), ((StableHlo.after (seg 29 10) W) (Proc.devRef .tc main_v33) : Vec Ideal S12x4096x1 .f32) (ix3 h r a) = ((dl (lg (q h) (k h) (g h)) r (v h) (o h) : ℝ) : EReal))
      ∧ (∀ h r (a : Fin 64), ((StableHlo.after (seg 29 10) W) (Proc.devRef .tc main_v0) : Vec Ideal S12x4096x64 .f32) (ix3 h r a) = ((q h r a : ℝ) : EReal))
      ∧ (∀ h r (a : Fin 64), ((StableHlo.after (seg 29 10) W) (Proc.devRef .tc main_v1) : Vec Ideal S12x4096x64 .f32) (ix3 h r a) = ((k h r a : ℝ) : EReal))
      ∧ (∀ h r (a : Fin 64), ((StableHlo.after (seg 29 10) W) (Proc.devRef .tc main_v2) : Vec Ideal S12x4096x64 .f32) (ix3 h r a) = ((v h r a : ℝ) : EReal))
      ∧ (∀ h r (a : Fin 64), ((StableHlo.after (seg 29 10) W) (Proc.devRef .tc main_v3) : Vec Ideal S12x4096x64 .f32) (ix3 h r a) = ((o h r a : ℝ) : EReal))
      ∧ (∀ h r, ((StableHlo.after (seg 29 10) W) (Proc.devRef .tc main_v4) : Vec Ideal S12x4096 .f32) (ix2 h r) = ((g h r : ℝ) : EReal)) := by
  refine ⟨?_, ?_, ?_, ?_, ?_, ?_, ?_⟩
  · intro h r a
    refine (s3 (W := W) (h := h) (r := r) (i0 := a) _ rfl _ rfl _ rfl _ rfl _ rfl).1.trans ?_
    simp only [h_v20, h_v24]
    rw [Ideal.log_coe, if_neg (not_le.mpr (den_pos _ _ _)), EReal.coe_add]
  · intro h r a
    refine (s3 (W := W) (h := h) (r := r) (i0 := a) _ rfl _ rfl _ rfl _ rfl _ rfl).2.trans ?_
    simp only [h_v23, h_v24, h_v2, h_v3, div_real _ _ (den_pos _ _ _).ne', ← EReal.coe_mul, ← coe_sum]
    rw [dl_out]
  · intro h r a; rw [(s3_keep W).1]; exact h_v0 h r a
  · intro h r a; rw [(s3_keep W).2.1]; exact h_v1 h r a
  · intro h r a; rw [(s3_keep W).2.2.1]; exact h_v2 h r a
  · intro h r a; rw [(s3_keep W).2.2.2.1]; exact h_v3 h r a
  · intro h r; rw [(s3_keep W).2.2.2.2]; exact h_v4 h r

set_option maxHeartbeats 1600000 in
/-- The fourth. -/
theorem p4 (h_v27 : ∀ h r (a : Fin 1), (W (Proc.devRef .tc main_v27) : Vec Ideal S12x4096x1 .f32) (ix3 h r a) = ((t h r + Real.log (∑ x, un (lg (q h) (k h) (g h)) (t h r) r x) : ℝ) : EReal)) (h_v33 : ∀ h r (a : Fin 1), (W (Proc.devRef .tc main_v33) : Vec Ideal S12x4096x1 .f32) (ix3 h r a) = ((dl (lg (q h) (k h) (g h)) r (v h) (o h) : ℝ) : EReal)) (h_v0 : ∀ h r (a : Fin 64), (W (Proc.devRef .tc main_v0) : Vec Ideal S12x4096x64 .f32) (ix3 h r a) = ((q h r a : ℝ) : EReal)) (h_v1 : ∀ h r (a : Fin 64), (W (Proc.devRef .tc main_v1) : Vec Ideal S12x4096x64 .f32) (ix3 h r a) = ((k h r a : ℝ) : EReal)) (h_v2 : ∀ h r (a : Fin 64), (W (Proc.devRef .tc main_v2) : Vec Ideal S12x4096x64 .f32) (ix3 h r a) = ((v h r a : ℝ) : EReal)) (h_v3 : ∀ h r (a : Fin 64), (W (Proc.devRef .tc main_v3) : Vec Ideal S12x4096x64 .f32) (ix3 h r a) = ((o h r a : ℝ) : EReal)) (h_v4 : ∀ h r, (W (Proc.devRef .tc main_v4) : Vec Ideal S12x4096 .f32) (ix2 h r) = ((g h r : ℝ) : EReal)) :
    (∀ h r (a : Fin 1), ((StableHlo.after (seg 39 44) W) (Proc.devRef .tc main_v44) : Vec Ideal S12x4096x1 .f32) (ix3 h r a) = ((g h r : ℝ) : EReal))
      ∧ (∀ h r (a : Fin 1), ((StableHlo.after (seg 39 44) W) (Proc.devRef .tc main_v45) : Vec Ideal S12x4096x1 .f32) (ix3 h r a) = ((0 : ℝ) : EReal))
      ∧ (∀ h r (a : Fin 1), ((StableHlo.after (seg 39 44) W) (Proc.devRef .tc main_v46) : Vec Ideal S12x4096x1 .f32) (ix3 h r a) = ((0 : ℝ) : EReal))
      ∧ (∀ h r (a : Fin 1), ((StableHlo.after (seg 39 44) W) (Proc.devRef .tc main_v57) : Vec Ideal S12x4096x1 .f32) (ix3 h r a) = ((-(t h r + Real.log (∑ x, un (lg (q h) (k h) (g h)) (t h r) r x) + 1) : ℝ) : EReal))
      ∧ (∀ h r (a : Fin 1), ((StableHlo.after (seg 39 44) W) (Proc.devRef .tc main_v58) : Vec Ideal S12x4096x1 .f32) (ix3 h r a) = ((0 : ℝ) : EReal))
      ∧ (∀ h r (a : Fin 1), ((StableHlo.after (seg 39 44) W) (Proc.devRef .tc main_v59) : Vec Ideal S12x4096x1 .f32) (ix3 h r a) = ((0 : ℝ) : EReal))
      ∧ (∀ h r (a : Fin 1), ((StableHlo.after (seg 39 44) W) (Proc.devRef .tc main_v67) : Vec Ideal S12x4096x1 .f32) (ix3 h r a) = ((dl (lg (q h) (k h) (g h)) r (v h) (o h) : ℝ) : EReal))
      ∧ (∀ h r (a : Fin 1), ((StableHlo.after (seg 39 44) W) (Proc.devRef .tc main_v68) : Vec Ideal S12x4096x1 .f32) (ix3 h r a) = ((0 : ℝ) : EReal))
      ∧ (∀ h r (a : Fin 1), ((StableHlo.after (seg 39 44) W) (Proc.devRef .tc main_v69) : Vec Ideal S12x4096x1 .f32) (ix3 h r a) = ((0 : ℝ) : EReal))
      ∧ (∀ h r (a : Fin 1), ((StableHlo.after (seg 39 44) W) (Proc.devRef .tc main_v34) : Vec Ideal S12x4096x1 .f32) (ix3 h r a) = ((1 : ℝ) : EReal))
      ∧ (∀ h r (a : Fin 3), ((StableHlo.after (seg 39 44) W) (Proc.devRef .tc main_v35) : Vec Ideal S12x4096x3 .f32) (ix3 h r a) = ((1 : ℝ) : EReal))
      ∧ (∀ h r (a : Fin 54), ((StableHlo.after (seg 39 44) W) (Proc.devRef .tc main_v72) : Vec Ideal S12x4096x54 .f32) (ix3 h r a) = ((0 : ℝ) : EReal))
      ∧ (∀ h r (a : Fin 64), ((StableHlo.after (seg 39 44) W) (Proc.devRef .tc main_v71) : Vec Ideal S12x4096x64 .f32) (ix3 h r a) = ((q h r a * (1 / 8) : ℝ) : EReal))
      ∧ (∀ h r (a : Fin 64), ((StableHlo.after (seg 39 44) W) (Proc.devRef .tc main_v1) : Vec Ideal S12x4096x64 .f32) (ix3 h r a) = ((k h r a : ℝ) : EReal))
      ∧ (∀ h r (a : Fin 64), ((StableHlo.after (seg 39 44) W) (Proc.devRef .tc main_v2) : Vec Ideal S12x4096x64 .f32) (ix3 h r a) = ((v h r a : ℝ) : EReal))
      ∧ (∀ h r (a : Fin 64), ((StableHlo.after (seg 39 44) W) (Proc.devRef .tc main_v3) : Vec Ideal S12x4096x64 .f32) (ix3 h r a) = ((o h r a : ℝ) : EReal)) := by
  refine ⟨?_, ?_, ?_, ?_, ?_, ?_, ?_, ?_, ?_, ?_, ?_, ?_, ?_, ?_, ?_, ?_⟩
  · intro h r a
    refine (s4_decay (W := W) (h := h) (r := r) (i0 := a) _ rfl).1.trans ?_
    simp only [h_v4]
  · intro h r a
    refine (s4_decay (W := W) (h := h) (r := r) (i0 := a) _ rfl).2.1.trans ?_
    simp only [h_v4, sub_same]
  · intro h r a
    refine (s4_decay (W := W) (h := h) (r := r) (i0 := a) _ rfl).2.2.trans ?_
    simp only [h_v4, sub_same]
  · intro h r a
    refine (s4_lse (W := W) (h := h) (r := r) (i0 := a) _ rfl).1.trans ?_
    simp only [h_v27, show (Ideal.ofBits FTy.f32 1065353216#32 : EReal) = ((1 : ℝ) : EReal) from Ideal.ofBits_one_f32, ← EReal.coe_add, ← EReal.coe_neg]
  · intro h r a
    refine (s4_lse (W := W) (h := h) (r := r) (i0 := a) _ rfl).2.1.trans ?_
    simp only [h_v27, show (Ideal.ofBits FTy.f32 1065353216#32 : EReal) = ((1 : ℝ) : EReal) from Ideal.ofBits_one_f32, ← EReal.coe_add, ← EReal.coe_neg, sub_same]
  · intro h r a
    refine (s4_lse (W := W) (h := h) (r := r) (i0 := a) _ rfl).2.2.trans ?_
    simp only [h_v27, show (Ideal.ofBits FTy.f32 1065353216#32 : EReal) = ((1 : ℝ) : EReal) from Ideal.ofBits_one_f32, ← EReal.coe_add, ← EReal.coe_neg, sub_same]
  · intro h r a
    refine (s4_delta (W := W) (h := h) (r := r) (i0 := a) _ rfl).1.trans ?_
    simp only [h_v33]
  · intro h r a
    refine (s4_delta (W := W) (h := h) (r := r) (i0 := a) _ rfl).2.1.trans ?_
    simp only [h_v33, sub_same]
  · intro h r a
    refine (s4_delta (W := W) (h := h) (r := r) (i0 := a) _ rfl).2.2.trans ?_
    simp only [h_v33, sub_same]
  · intro h r a
    refine (s4_rest (W := W) (h := h) (r := r) (i0 := a) (d := 0) (j3 := 0) (j54 := 0) _ rfl).1.trans ?_
    exact Ideal.ofBits_one_f32
  · intro h r a
    refine (s4_rest (W := W) (h := h) (r := r) (i0 := 0) (d := 0) (j3 := a) (j54 := 0) _ rfl).2.1.trans ?_
    exact Ideal.ofBits_one_f32
  · intro h r a
    refine (s4_rest (W := W) (h := h) (r := r) (i0 := 0) (d := 0) (j3 := 0) (j54 := a) _ rfl).2.2.1.trans ?_
    exact Ideal.ofBits_zero_f32
  · intro h r a
    refine (s4_rest (W := W) (h := h) (r := r) (i0 := 0) (d := a) (j3 := 0) (j54 := 0) _ rfl).2.2.2.trans ?_
    simp only [h_v0, word_eighth, ← EReal.coe_mul]
  · intro h r a; rw [(s4_keep W).1]; exact h_v1 h r a
  · intro h r a; rw [(s4_keep W).2.1]; exact h_v2 h r a
  · intro h r a; rw [(s4_keep W).2.2]; exact h_v3 h r a

set_option maxHeartbeats 1600000 in
/-- The query's extra lanes. -/
theorem p5 (h_v44 : ∀ h r (a : Fin 1), (W (Proc.devRef .tc main_v44) : Vec Ideal S12x4096x1 .f32) (ix3 h r a) = ((g h r : ℝ) : EReal)) (h_v45 : ∀ h r (a : Fin 1), (W (Proc.devRef .tc main_v45) : Vec Ideal S12x4096x1 .f32) (ix3 h r a) = ((0 : ℝ) : EReal)) (h_v46 : ∀ h r (a : Fin 1), (W (Proc.devRef .tc main_v46) : Vec Ideal S12x4096x1 .f32) (ix3 h r a) = ((0 : ℝ) : EReal)) (h_v35 : ∀ h r (a : Fin 3), (W (Proc.devRef .tc main_v35) : Vec Ideal S12x4096x3 .f32) (ix3 h r a) = ((1 : ℝ) : EReal)) (h_v57 : ∀ h r (a : Fin 1), (W (Proc.devRef .tc main_v57) : Vec Ideal S12x4096x1 .f32) (ix3 h r a) = ((-(t h r + Real.log (∑ x, un (lg (q h) (k h) (g h)) (t h r) r x) + 1) : ℝ) : EReal)) (h_v58 : ∀ h r (a : Fin 1), (W (Proc.devRef .tc main_v58) : Vec Ideal S12x4096x1 .f32) (ix3 h r a) = ((0 : ℝ) : EReal)) (h_v59 : ∀ h r (a : Fin 1), (W (Proc.devRef .tc main_v59) : Vec Ideal S12x4096x1 .f32) (ix3 h r a) = ((0 : ℝ) : EReal)) (h_v34 : ∀ h r (a : Fin 1), (W (Proc.devRef .tc main_v34) : Vec Ideal S12x4096x1 .f32) (ix3 h r a) = ((1 : ℝ) : EReal)) (h_v72 : ∀ h r (a : Fin 54), (W (Proc.devRef .tc main_v72) : Vec Ideal S12x4096x54 .f32) (ix3 h r a) = ((0 : ℝ) : EReal)) (h_v71 : ∀ h r (a : Fin 64), (W (Proc.devRef .tc main_v71) : Vec Ideal S12x4096x64 .f32) (ix3 h r a) = ((q h r a * (1 / 8) : ℝ) : EReal)) (h_v1 : ∀ h r (a : Fin 64), (W (Proc.devRef .tc main_v1) : Vec Ideal S12x4096x64 .f32) (ix3 h r a) = ((k h r a : ℝ) : EReal)) (h_v2 : ∀ h r (a : Fin 64), (W (Proc.devRef .tc main_v2) : Vec Ideal S12x4096x64 .f32) (ix3 h r a) = ((v h r a : ℝ) : EReal)) (h_v3 : ∀ h r (a : Fin 64), (W (Proc.devRef .tc main_v3) : Vec Ideal S12x4096x64 .f32) (ix3 h r a) = ((o h r a : ℝ) : EReal)) (h_v67 : ∀ h r (a : Fin 1), (W (Proc.devRef .tc main_v67) : Vec Ideal S12x4096x1 .f32) (ix3 h r a) = ((dl (lg (q h) (k h) (g h)) r (v h) (o h) : ℝ) : EReal)) (h_v68 : ∀ h r (a : Fin 1), (W (Proc.devRef .tc main_v68) : Vec Ideal S12x4096x1 .f32) (ix3 h r a) = ((0 : ℝ) : EReal)) (h_v69 : ∀ h r (a : Fin 1), (W (Proc.devRef .tc main_v69) : Vec Ideal S12x4096x1 .f32) (ix3 h r a) = ((0 : ℝ) : EReal)) :
    (∀ h r (a : Fin 64), ((StableHlo.after (seg 83 1) W) (Proc.devRef .tc main_v73) : Vec Ideal S12x4096x64 .f32) (ix3 h r a) = ((aq (g h r) (-(t h r + Real.log (∑ x, un (lg (q h) (k h) (g h)) (t h r) r x) + 1)) a : ℝ) : EReal))
      ∧ (∀ h r (a : Fin 64), ((StableHlo.after (seg 83 1) W) (Proc.devRef .tc main_v71) : Vec Ideal S12x4096x64 .f32) (ix3 h r a) = ((q h r a * (1 / 8) : ℝ) : EReal))
      ∧ (∀ h r (a : Fin 64), ((StableHlo.after (seg 83 1) W) (Proc.devRef .tc main_v1) : Vec Ideal S12x4096x64 .f32) (ix3 h r a) = ((k h r a : ℝ) : EReal))
      ∧ (∀ h r (a : Fin 64), ((StableHlo.after (seg 83 1) W) (Proc.devRef .tc main_v2) : Vec Ideal S12x4096x64 .f32) (ix3 h r a) = ((v h r a : ℝ) : EReal))
      ∧ (∀ h r (a : Fin 64), ((StableHlo.after (seg 83 1) W) (Proc.devRef .tc main_v3) : Vec Ideal S12x4096x64 .f32) (ix3 h r a) = ((o h r a : ℝ) : EReal))
      ∧ (∀ h r (a : Fin 1), ((StableHlo.after (seg 83 1) W) (Proc.devRef .tc main_v34) : Vec Ideal S12x4096x1 .f32) (ix3 h r a) = ((1 : ℝ) : EReal))
      ∧ (∀ h r (a : Fin 3), ((StableHlo.after (seg 83 1) W) (Proc.devRef .tc main_v35) : Vec Ideal S12x4096x3 .f32) (ix3 h r a) = ((1 : ℝ) : EReal))
      ∧ (∀ h r (a : Fin 1), ((StableHlo.after (seg 83 1) W) (Proc.devRef .tc main_v44) : Vec Ideal S12x4096x1 .f32) (ix3 h r a) = ((g h r : ℝ) : EReal))
      ∧ (∀ h r (a : Fin 1), ((StableHlo.after (seg 83 1) W) (Proc.devRef .tc main_v45) : Vec Ideal S12x4096x1 .f32) (ix3 h r a) = ((0 : ℝ) : EReal))
      ∧ (∀ h r (a : Fin 1), ((StableHlo.after (seg 83 1) W) (Proc.devRef .tc main_v46) : Vec Ideal S12x4096x1 .f32) (ix3 h r a) = ((0 : ℝ) : EReal))
      ∧ (∀ h r (a : Fin 1), ((StableHlo.after (seg 83 1) W) (Proc.devRef .tc main_v67) : Vec Ideal S12x4096x1 .f32) (ix3 h r a) = ((dl (lg (q h) (k h) (g h)) r (v h) (o h) : ℝ) : EReal))
      ∧ (∀ h r (a : Fin 1), ((StableHlo.after (seg 83 1) W) (Proc.devRef .tc main_v68) : Vec Ideal S12x4096x1 .f32) (ix3 h r a) = ((0 : ℝ) : EReal))
      ∧ (∀ h r (a : Fin 1), ((StableHlo.after (seg 83 1) W) (Proc.devRef .tc main_v69) : Vec Ideal S12x4096x1 .f32) (ix3 h r a) = ((0 : ℝ) : EReal)) := by
  refine ⟨?_, ?_, ?_, ?_, ?_, ?_, ?_, ?_, ?_, ?_, ?_, ?_, ?_⟩
  · intro h r a
    refine (s5 (W := W) (h := h) (r := r) _ rfl _ rfl _ rfl _ rfl _ rfl _ rfl _ rfl _ rfl _ rfl a).trans ?_
    simp only [h_v44, h_v45, h_v46, h_v35, h_v57, h_v58, h_v59, h_v34, h_v72]
    unfold aq
    split_ifs <;> rfl
  · intro h r a; rw [(s5_keep W).1]; exact h_v71 h r a
  · intro h r a; rw [(s5_keep W).2.1]; exact h_v1 h r a
  · intro h r a; rw [(s5_keep W).2.2.1]; exact h_v2 h r a
  · intro h r a; rw [(s5_keep W).2.2.2.1]; exact h_v3 h r a
  · intro h r a; rw [(s5_keep W).2.2.2.2.1]; exact h_v34 h r a
  · intro h r a; rw [(s5_keep W).2.2.2.2.2.1]; exact h_v35 h r a
  · intro h r a; rw [(s5_keep W).2.2.2.2.2.2.1]; exact h_v44 h r a
  · intro h r a; rw [(s5_keep W).2.2.2.2.2.2.2.1]; exact h_v45 h r a
  · intro h r a; rw [(s5_keep W).2.2.2.2.2.2.2.2.1]; exact h_v46 h r a
  · intro h r a; rw [(s5_keep W).2.2.2.2.2.2.2.2.2.1]; exact h_v67 h r a
  · intro h r a; rw [(s5_keep W).2.2.2.2.2.2.2.2.2.2.1]; exact h_v68 h r a
  · intro h r a; rw [(s5_keep W).2.2.2.2.2.2.2.2.2.2.2]; exact h_v69 h r a

set_option maxHeartbeats 1600000 in
/-- The packed query. -/
theorem p6 (h_v71 : ∀ h r (a : Fin 64), (W (Proc.devRef .tc main_v71) : Vec Ideal S12x4096x64 .f32) (ix3 h r a) = ((q h r a * (1 / 8) : ℝ) : EReal)) (h_v73 : ∀ h r (a : Fin 64), (W (Proc.devRef .tc main_v73) : Vec Ideal S12x4096x64 .f32) (ix3 h r a) = ((aq (g h r) (-(t h r + Real.log (∑ x, un (lg (q h) (k h) (g h)) (t h r) r x) + 1)) a : ℝ) : EReal)) (h_v1 : ∀ h r (a : Fin 64), (W (Proc.devRef .tc main_v1) : Vec Ideal S12x4096x64 .f32) (ix3 h r a) = ((k h r a : ℝ) : EReal)) (h_v2 : ∀ h r (a : Fin 64), (W (Proc.devRef .tc main_v2) : Vec Ideal S12x4096x64 .f32) (ix3 h r a) = ((v h r a : ℝ) : EReal)) (h_v3 : ∀ h r (a : Fin 64), (W (Proc.devRef .tc main_v3) : Vec Ideal S12x4096x64 .f32) (ix3 h r a) = ((o h r a : ℝ) : EReal)) (h_v34 : ∀ h r (a : Fin 1), (W (Proc.devRef .tc main_v34) : Vec Ideal S12x4096x1 .f32) (ix3 h r a) = ((1 : ℝ) : EReal)) (h_v35 : ∀ h r (a : Fin 3), (W (Proc.devRef .tc main_v35) : Vec Ideal S12x4096x3 .f32) (ix3 h r a) = ((1 : ℝ) : EReal)) (h_v44 : ∀ h r (a : Fin 1), (W (Proc.devRef .tc main_v44) : Vec Ideal S12x4096x1 .f32) (ix3 h r a) = ((g h r : ℝ) : EReal)) (h_v45 : ∀ h r (a : Fin 1), (W (Proc.devRef .tc main_v45) : Vec Ideal S12x4096x1 .f32) (ix3 h r a) = ((0 : ℝ) : EReal)) (h_v46 : ∀ h r (a : Fin 1), (W (Proc.devRef .tc main_v46) : Vec Ideal S12x4096x1 .f32) (ix3 h r a) = ((0 : ℝ) : EReal)) (h_v67 : ∀ h r (a : Fin 1), (W (Proc.devRef .tc main_v67) : Vec Ideal S12x4096x1 .f32) (ix3 h r a) = ((dl (lg (q h) (k h) (g h)) r (v h) (o h) : ℝ) : EReal)) (h_v68 : ∀ h r (a : Fin 1), (W (Proc.devRef .tc main_v68) : Vec Ideal S12x4096x1 .f32) (ix3 h r a) = ((0 : ℝ) : EReal)) (h_v69 : ∀ h r (a : Fin 1), (W (Proc.devRef .tc main_v69) : Vec Ideal S12x4096x1 .f32) (ix3 h r a) = ((0 : ℝ) : EReal)) :
    (∀ h r (a : Fin 128), ((StableHlo.after (seg 84 16) W) (Proc.devRef .tc main_v82) : Vec Ideal S12x4096x128 .bf16) (ix3 h r a) = ((lay h (fun d => q h r d * (1 / 8)) (aq (g h r) (-(t h r + Real.log (∑ x, un (lg (q h) (k h) (g h)) (t h r) r x) + 1))) a : ℝ) : EReal))
      ∧ (∀ h r (a : Fin 1), ((StableHlo.after (seg 84 16) W) (Proc.devRef .tc main_v83) : Vec Ideal S12x4096x1 .f32) (ix3 h r a) = ((-(g h r) : ℝ) : EReal))
      ∧ (∀ h r (a : Fin 1), ((StableHlo.after (seg 84 16) W) (Proc.devRef .tc main_v84) : Vec Ideal S12x4096x1 .f32) (ix3 h r a) = ((0 : ℝ) : EReal))
      ∧ (∀ h r (a : Fin 1), ((StableHlo.after (seg 84 16) W) (Proc.devRef .tc main_v85) : Vec Ideal S12x4096x1 .f32) (ix3 h r a) = ((0 : ℝ) : EReal))
      ∧ (∀ h r (a : Fin 54), ((StableHlo.after (seg 84 16) W) (Proc.devRef .tc main_v86) : Vec Ideal S12x4096x54 .f32) (ix3 h r a) = ((0 : ℝ) : EReal))
      ∧ (∀ h r (a : Fin 64), ((StableHlo.after (seg 84 16) W) (Proc.devRef .tc main_v1) : Vec Ideal S12x4096x64 .f32) (ix3 h r a) = ((k h r a : ℝ) : EReal))
      ∧ (∀ h r (a : Fin 64), ((StableHlo.after (seg 84 16) W) (Proc.devRef .tc main_v2) : Vec Ideal S12x4096x64 .f32) (ix3 h r a) = ((v h r a : ℝ) : EReal))
      ∧ (∀ h r (a : Fin 64), ((StableHlo.after (seg 84 16) W) (Proc.devRef .tc main_v3) : Vec Ideal S12x4096x64 .f32) (ix3 h r a) = ((o h r a : ℝ) : EReal))
      ∧ (∀ h r (a : Fin 1), ((StableHlo.after (seg 84 16) W) (Proc.devRef .tc main_v34) : Vec Ideal S12x4096x1 .f32) (ix3 h r a) = ((1 : ℝ) : EReal))
      ∧ (∀ h r (a : Fin 3), ((StableHlo.after (seg 84 16) W) (Proc.devRef .tc main_v35) : Vec Ideal S12x4096x3 .f32) (ix3 h r a) = ((1 : ℝ) : EReal))
      ∧ (∀ h r (a : Fin 1), ((StableHlo.after (seg 84 16) W) (Proc.devRef .tc main_v67) : Vec Ideal S12x4096x1 .f32) (ix3 h r a) = ((dl (lg (q h) (k h) (g h)) r (v h) (o h) : ℝ) : EReal))
      ∧ (∀ h r (a : Fin 1), ((StableHlo.after (seg 84 16) W) (Proc.devRef .tc main_v68) : Vec Ideal S12x4096x1 .f32) (ix3 h r a) = ((0 : ℝ) : EReal))
      ∧ (∀ h r (a : Fin 1), ((StableHlo.after (seg 84 16) W) (Proc.devRef .tc main_v69) : Vec Ideal S12x4096x1 .f32) (ix3 h r a) = ((0 : ℝ) : EReal)) := by
  refine ⟨?_, ?_, ?_, ?_, ?_, ?_, ?_, ?_, ?_, ?_, ?_, ?_, ?_⟩
  · intro h r a
    refine (s6_q (W := W) (h := h) (r := r) _ rfl _ rfl a).trans ?_
    simp only [h_v71, h_v73, sel_even]
    exact lay_coe h (fun d => q h r d * (1 / 8)) _ a
  · intro h r a
    refine (s6_rest (W := W) (h := h) (r := r) (i0 := a) (j54 := 0) _ rfl _ rfl _ rfl).1.trans ?_
    simp only [h_v44, ← EReal.coe_neg]
  · intro h r a
    refine (s6_rest (W := W) (h := h) (r := r) (i0 := a) (j54 := 0) _ rfl _ rfl _ rfl).2.1.trans ?_
    simp only [h_v45, ← EReal.coe_neg, neg_zero]
  · intro h r a
    refine (s6_rest (W := W) (h := h) (r := r) (i0 := a) (j54 := 0) _ rfl _ rfl _ rfl).2.2.1.trans ?_
    simp only [h_v46, ← EReal.coe_neg, neg_zero]
  · intro h r a
    refine (s6_rest (W := W) (h := h) (r := r) (i0 := 0) (j54 := a) _ rfl _ rfl _ rfl).2.2.2.trans ?_
    exact Ideal.ofBits_zero_f32
  · intro h r a; rw [(s6_keep W).1]; exact h_v1 h r a
  · intro h r a; rw [(s6_keep W).2.1]; exact h_v2 h r a
  · intro h r a; rw [(s6_keep W).2.2.1]; exact h_v3 h r a
  · intro h r a; rw [(s6_keep W).2.2.2.1]; exact h_v34 h r a
  · intro h r a; rw [(s6_keep W).2.2.2.2.1]; exact h_v35 h r a
  · intro h r a; rw [(s6_keep W).2.2.2.2.2.1]; exact h_v67 h r a
  · intro h r a; rw [(s6_keep W).2.2.2.2.2.2.1]; exact h_v68 h r a
  · intro h r a; rw [(s6_keep W).2.2.2.2.2.2.2]; exact h_v69 h r a

set_option maxHeartbeats 1600000 in
/-- The key's extra lanes. -/
theorem p7 (h_v82 : ∀ h r (a : Fin 128), (W (Proc.devRef .tc main_v82) : Vec Ideal S12x4096x128 .bf16) (ix3 h r a) = ((lay h (fun d => q h r d * (1 / 8)) (aq (g h r) (-(t h r + Real.log (∑ x, un (lg (q h) (k h) (g h)) (t h r) r x) + 1))) a : ℝ) : EReal)) (h_v35 : ∀ h r (a : Fin 3), (W (Proc.devRef .tc main_v35) : Vec Ideal S12x4096x3 .f32) (ix3 h r a) = ((1 : ℝ) : EReal)) (h_v83 : ∀ h r (a : Fin 1), (W (Proc.devRef .tc main_v83) : Vec Ideal S12x4096x1 .f32) (ix3 h r a) = ((-(g h r) : ℝ) : EReal)) (h_v84 : ∀ h r (a : Fin 1), (W (Proc.devRef .tc main_v84) : Vec Ideal S12x4096x1 .f32) (ix3 h r a) = ((0 : ℝ) : EReal)) (h_v85 : ∀ h r (a : Fin 1), (W (Proc.devRef .tc main_v85) : Vec Ideal S12x4096x1 .f32) (ix3 h r a) = ((0 : ℝ) : EReal)) (h_v34 : ∀ h r (a : Fin 1), (W (Proc.devRef .tc main_v34) : Vec Ideal S12x4096x1 .f32) (ix3 h r a) = ((1 : ℝ) : EReal)) (h_v86 : ∀ h r (a : Fin 54), (W (Proc.devRef .tc main_v86) : Vec Ideal S12x4096x54 .f32) (ix3 h r a) = ((0 : ℝ) : EReal)) (h_v1 : ∀ h r (a : Fin 64), (W (Proc.devRef .tc main_v1) : Vec Ideal S12x4096x64 .f32) (ix3 h r a) = ((k h r a : ℝ) : EReal)) (h_v2 : ∀ h r (a : Fin 64), (W (Proc.devRef .tc main_v2) : Vec Ideal S12x4096x64 .f32) (ix3 h r a) = ((v h r a : ℝ) : EReal)) (h_v3 : ∀ h r (a : Fin 64), (W (Proc.devRef .tc main_v3) : Vec Ideal S12x4096x64 .f32) (ix3 h r a) = ((o h r a : ℝ) : EReal)) (h_v67 : ∀ h r (a : Fin 1), (W (Proc.devRef .tc main_v67) : Vec Ideal S12x4096x1 .f32) (ix3 h r a) = ((dl (lg (q h) (k h) (g h)) r (v h) (o h) : ℝ) : EReal)) (h_v68 : ∀ h r (a : Fin 1), (W (Proc.devRef .tc main_v68) : Vec Ideal S12x4096x1 .f32) (ix3 h r a) = ((0 : ℝ) : EReal)) (h_v69 : ∀ h r (a : Fin 1), (W (Proc.devRef .tc main_v69) : Vec Ideal S12x4096x1 .f32) (ix3 h r a) = ((0 : ℝ) : EReal)) :
    (∀ h r (a : Fin 64), ((StableHlo.after (seg 100 1) W) (Proc.devRef .tc main_v87) : Vec Ideal S12x4096x64 .f32) (ix3 h r a) = ((ak (g h r) a : ℝ) : EReal))
      ∧ (∀ h r (a : Fin 128), ((StableHlo.after (seg 100 1) W) (Proc.devRef .tc main_v82) : Vec Ideal S12x4096x128 .bf16) (ix3 h r a) = ((lay h (fun d => q h r d * (1 / 8)) (aq (g h r) (-(t h r + Real.log (∑ x, un (lg (q h) (k h) (g h)) (t h r) r x) + 1))) a : ℝ) : EReal))
      ∧ (∀ h r (a : Fin 64), ((StableHlo.after (seg 100 1) W) (Proc.devRef .tc main_v1) : Vec Ideal S12x4096x64 .f32) (ix3 h r a) = ((k h r a : ℝ) : EReal))
      ∧ (∀ h r (a : Fin 64), ((StableHlo.after (seg 100 1) W) (Proc.devRef .tc main_v2) : Vec Ideal S12x4096x64 .f32) (ix3 h r a) = ((v h r a : ℝ) : EReal))
      ∧ (∀ h r (a : Fin 64), ((StableHlo.after (seg 100 1) W) (Proc.devRef .tc main_v3) : Vec Ideal S12x4096x64 .f32) (ix3 h r a) = ((o h r a : ℝ) : EReal))
      ∧ (∀ h r (a : Fin 1), ((StableHlo.after (seg 100 1) W) (Proc.devRef .tc main_v34) : Vec Ideal S12x4096x1 .f32) (ix3 h r a) = ((1 : ℝ) : EReal))
      ∧ (∀ h r (a : Fin 3), ((StableHlo.after (seg 100 1) W) (Proc.devRef .tc main_v35) : Vec Ideal S12x4096x3 .f32) (ix3 h r a) = ((1 : ℝ) : EReal))
      ∧ (∀ h r (a : Fin 1), ((StableHlo.after (seg 100 1) W) (Proc.devRef .tc main_v67) : Vec Ideal S12x4096x1 .f32) (ix3 h r a) = ((dl (lg (q h) (k h) (g h)) r (v h) (o h) : ℝ) : EReal))
      ∧ (∀ h r (a : Fin 1), ((StableHlo.after (seg 100 1) W) (Proc.devRef .tc main_v68) : Vec Ideal S12x4096x1 .f32) (ix3 h r a) = ((0 : ℝ) : EReal))
      ∧ (∀ h r (a : Fin 1), ((StableHlo.after (seg 100 1) W) (Proc.devRef .tc main_v69) : Vec Ideal S12x4096x1 .f32) (ix3 h r a) = ((0 : ℝ) : EReal)) := by
  refine ⟨?_, ?_, ?_, ?_, ?_, ?_, ?_, ?_, ?_, ?_⟩
  · intro h r a
    refine (s7 (W := W) (h := h) (r := r) _ rfl _ rfl _ rfl _ rfl _ rfl _ rfl a).trans ?_
    simp only [h_v35, h_v83, h_v84, h_v85, h_v34, h_v86]
    unfold ak
    split_ifs <;> rfl
  · intro h r a; rw [(s7_keep W).1]; exact h_v82 h r a
  · intro h r a; rw [(s7_keep W).2.1]; exact h_v1 h r a
  · intro h r a; rw [(s7_keep W).2.2.1]; exact h_v2 h r a
  · intro h r a; rw [(s7_keep W).2.2.2.1]; exact h_v3 h r a
  · intro h r a; rw [(s7_keep W).2.2.2.2.1]; exact h_v34 h r a
  · intro h r a; rw [(s7_keep W).2.2.2.2.2.1]; exact h_v35 h r a
  · intro h r a; rw [(s7_keep W).2.2.2.2.2.2.1]; exact h_v67 h r a
  · intro h r a; rw [(s7_keep W).2.2.2.2.2.2.2.1]; exact h_v68 h r a
  · intro h r a; rw [(s7_keep W).2.2.2.2.2.2.2.2]; exact h_v69 h r a

set_option maxHeartbeats 1600000 in
/-- The packed key. -/
theorem p8 (h_v82 : ∀ h r (a : Fin 128), (W (Proc.devRef .tc main_v82) : Vec Ideal S12x4096x128 .bf16) (ix3 h r a) = ((lay h (fun d => q h r d * (1 / 8)) (aq (g h r) (-(t h r + Real.log (∑ x, un (lg (q h) (k h) (g h)) (t h r) r x) + 1))) a : ℝ) : EReal)) (h_v1 : ∀ h r (a : Fin 64), (W (Proc.devRef .tc main_v1) : Vec Ideal S12x4096x64 .f32) (ix3 h r a) = ((k h r a : ℝ) : EReal)) (h_v87 : ∀ h r (a : Fin 64), (W (Proc.devRef .tc main_v87) : Vec Ideal S12x4096x64 .f32) (ix3 h r a) = ((ak (g h r) a : ℝ) : EReal)) (h_v2 : ∀ h r (a : Fin 64), (W (Proc.devRef .tc main_v2) : Vec Ideal S12x4096x64 .f32) (ix3 h r a) = ((v h r a : ℝ) : EReal)) (h_v3 : ∀ h r (a : Fin 64), (W (Proc.devRef .tc main_v3) : Vec Ideal S12x4096x64 .f32) (ix3 h r a) = ((o h r a : ℝ) : EReal)) (h_v34 : ∀ h r (a : Fin 1), (W (Proc.devRef .tc main_v34) : Vec Ideal S12x4096x1 .f32) (ix3 h r a) = ((1 : ℝ) : EReal)) (h_v35 : ∀ h r (a : Fin 3), (W (Proc.devRef .tc main_v35) : Vec Ideal S12x4096x3 .f32) (ix3 h r a) = ((1 : ℝ) : EReal)) (h_v67 : ∀ h r (a : Fin 1), (W (Proc.devRef .tc main_v67) : Vec Ideal S12x4096x1 .f32) (ix3 h r a) = ((dl (lg (q h) (k h) (g h)) r (v h) (o h) : ℝ) : EReal)) (h_v68 : ∀ h r (a : Fin 1), (W (Proc.devRef .tc main_v68) : Vec Ideal S12x4096x1 .f32) (ix3 h r a) = ((0 : ℝ) : EReal)) (h_v69 : ∀ h r (a : Fin 1), (W (Proc.devRef .tc main_v69) : Vec Ideal S12x4096x1 .f32) (ix3 h r a) = ((0 : ℝ) : EReal)) :
    (∀ h r (a : Fin 128), ((StableHlo.after (seg 101 14) W) (Proc.devRef .tc main_v96) : Vec Ideal S12x4096x128 .bf16) (ix3 h r a) = ((lay h (k h r) (ak (g h r)) a : ℝ) : EReal))
      ∧ (∀ h r (a : Fin 3), ((StableHlo.after (seg 101 14) W) (Proc.devRef .tc main_v97) : Vec Ideal S12x4096x3 .f32) (ix3 h r a) = ((-1 : ℝ) : EReal))
      ∧ (∀ h r (a : Fin 60), ((StableHlo.after (seg 101 14) W) (Proc.devRef .tc main_v98) : Vec Ideal S12x4096x60 .f32) (ix3 h r a) = ((0 : ℝ) : EReal))
      ∧ (∀ h r (a : Fin 128), ((StableHlo.after (seg 101 14) W) (Proc.devRef .tc main_v82) : Vec Ideal S12x4096x128 .bf16) (ix3 h r a) = ((lay h (fun d => q h r d * (1 / 8)) (aq (g h r) (-(t h r + Real.log (∑ x, un (lg (q h) (k h) (g h)) (t h r) r x) + 1))) a : ℝ) : EReal))
      ∧ (∀ h r (a : Fin 64), ((StableHlo.after (seg 101 14) W) (Proc.devRef .tc main_v2) : Vec Ideal S12x4096x64 .f32) (ix3 h r a) = ((v h r a : ℝ) : EReal))
      ∧ (∀ h r (a : Fin 64), ((StableHlo.after (seg 101 14) W) (Proc.devRef .tc main_v3) : Vec Ideal S12x4096x64 .f32) (ix3 h r a) = ((o h r a : ℝ) : EReal))
      ∧ (∀ h r (a : Fin 1), ((StableHlo.after (seg 101 14) W) (Proc.devRef .tc main_v34) : Vec Ideal S12x4096x1 .f32) (ix3 h r a) = ((1 : ℝ) : EReal))
      ∧ (∀ h r (a : Fin 1), ((StableHlo.after (seg 101 14) W) (Proc.devRef .tc main_v67) : Vec Ideal S12x4096x1 .f32) (ix3 h r a) = ((dl (lg (q h) (k h) (g h)) r (v h) (o h) : ℝ) : EReal))
      ∧ (∀ h r (a : Fin 1), ((StableHlo.after (seg 101 14) W) (Proc.devRef .tc main_v68) : Vec Ideal S12x4096x1 .f32) (ix3 h r a) = ((0 : ℝ) : EReal))
      ∧ (∀ h r (a : Fin 1), ((StableHlo.after (seg 101 14) W) (Proc.devRef .tc main_v69) : Vec Ideal S12x4096x1 .f32) (ix3 h r a) = ((0 : ℝ) : EReal)) := by
  refine ⟨?_, ?_, ?_, ?_, ?_, ?_, ?_, ?_, ?_, ?_⟩
  · intro h r a
    refine (s8_k (W := W) (h := h) (r := r) _ rfl _ rfl a).trans ?_
    simp only [h_v1, h_v87, sel_even]
    exact lay_coe h _ _ a
  · intro h r a
    refine (s8_rest (W := W) (h := h) (r := r) (j3 := a) (j60 := 0) _ rfl).1.trans ?_
    simp only [h_v35, ← EReal.coe_neg]
  · intro h r a
    refine (s8_rest (W := W) (h := h) (r := r) (j3 := 0) (j60 := a) _ rfl).2.trans ?_
    exact Ideal.ofBits_zero_f32
  · intro h r a; rw [(s8_keep W).1]; exact h_v82 h r a
  · intro h r a; rw [(s8_keep W).2.1]; exact h_v2 h r a
  · intro h r a; rw [(s8_keep W).2.2.1]; exact h_v3 h r a
  · intro h r a; rw [(s8_keep W).2.2.2.1]; exact h_v34 h r a
  · intro h r a; rw [(s8_keep W).2.2.2.2.1]; exact h_v67 h r a
  · intro h r a; rw [(s8_keep W).2.2.2.2.2.1]; exact h_v68 h r a
  · intro h r a; rw [(s8_keep W).2.2.2.2.2.2]; exact h_v69 h r a

set_option maxHeartbeats 1600000 in
/-- The value's extra lanes. -/
theorem p9 (h_v82 : ∀ h r (a : Fin 128), (W (Proc.devRef .tc main_v82) : Vec Ideal S12x4096x128 .bf16) (ix3 h r a) = ((lay h (fun d => q h r d * (1 / 8)) (aq (g h r) (-(t h r + Real.log (∑ x, un (lg (q h) (k h) (g h)) (t h r) r x) + 1))) a : ℝ) : EReal)) (h_v96 : ∀ h r (a : Fin 128), (W (Proc.devRef .tc main_v96) : Vec Ideal S12x4096x128 .bf16) (ix3 h r a) = ((lay h (k h r) (ak (g h r)) a : ℝ) : EReal)) (h_v97 : ∀ h r (a : Fin 3), (W (Proc.devRef .tc main_v97) : Vec Ideal S12x4096x3 .f32) (ix3 h r a) = ((-1 : ℝ) : EReal)) (h_v98 : ∀ h r (a : Fin 60), (W (Proc.devRef .tc main_v98) : Vec Ideal S12x4096x60 .f32) (ix3 h r a) = ((0 : ℝ) : EReal)) (h_v2 : ∀ h r (a : Fin 64), (W (Proc.devRef .tc main_v2) : Vec Ideal S12x4096x64 .f32) (ix3 h r a) = ((v h r a : ℝ) : EReal)) (h_v3 : ∀ h r (a : Fin 64), (W (Proc.devRef .tc main_v3) : Vec Ideal S12x4096x64 .f32) (ix3 h r a) = ((o h r a : ℝ) : EReal)) (h_v34 : ∀ h r (a : Fin 1), (W (Proc.devRef .tc main_v34) : Vec Ideal S12x4096x1 .f32) (ix3 h r a) = ((1 : ℝ) : EReal)) (h_v67 : ∀ h r (a : Fin 1), (W (Proc.devRef .tc main_v67) : Vec Ideal S12x4096x1 .f32) (ix3 h r a) = ((dl (lg (q h) (k h) (g h)) r (v h) (o h) : ℝ) : EReal)) (h_v68 : ∀ h r (a : Fin 1), (W (Proc.devRef .tc main_v68) : Vec Ideal S12x4096x1 .f32) (ix3 h r a) = ((0 : ℝ) : EReal)) (h_v69 : ∀ h r (a : Fin 1), (W (Proc.devRef .tc main_v69) : Vec Ideal S12x4096x1 .f32) (ix3 h r a) = ((0 : ℝ) : EReal)) :
    (∀ h r (a : Fin 64), ((StableHlo.after (seg 115 1) W) (Proc.devRef .tc main_v99) : Vec Ideal S12x4096x64 .f32) (ix3 h r a) = ((av a : ℝ) : EReal))
      ∧ (∀ h r (a : Fin 128), ((StableHlo.after (seg 115 1) W) (Proc.devRef .tc main_v82) : Vec Ideal S12x4096x128 .bf16) (ix3 h r a) = ((lay h (fun d => q h r d * (1 / 8)) (aq (g h r) (-(t h r + Real.log (∑ x, un (lg (q h) (k h) (g h)) (t h r) r x) + 1))) a : ℝ) : EReal))
      ∧ (∀ h r (a : Fin 128), ((StableHlo.after (seg 115 1) W) (Proc.devRef .tc main_v96) : Vec Ideal S12x4096x128 .bf16) (ix3 h r a) = ((lay h (k h r) (ak (g h r)) a : ℝ) : EReal))
      ∧ (∀ h r (a : Fin 64), ((StableHlo.after (seg 115 1) W) (Proc.devRef .tc main_v2) : Vec Ideal S12x4096x64 .f32) (ix3 h r a) = ((v h r a : ℝ) : EReal))
      ∧ (∀ h r (a : Fin 64), ((StableHlo.after (seg 115 1) W) (Proc.devRef .tc main_v3) : Vec Ideal S12x4096x64 .f32) (ix3 h r a) = ((o h r a : ℝ) : EReal))
      ∧ (∀ h r (a : Fin 1), ((StableHlo.after (seg 115 1) W) (Proc.devRef .tc main_v67) : Vec Ideal S12x4096x1 .f32) (ix3 h r a) = ((dl (lg (q h) (k h) (g h)) r (v h) (o h) : ℝ) : EReal))
      ∧ (∀ h r (a : Fin 1), ((StableHlo.after (seg 115 1) W) (Proc.devRef .tc main_v68) : Vec Ideal S12x4096x1 .f32) (ix3 h r a) = ((0 : ℝ) : EReal))
      ∧ (∀ h r (a : Fin 1), ((StableHlo.after (seg 115 1) W) (Proc.devRef .tc main_v69) : Vec Ideal S12x4096x1 .f32) (ix3 h r a) = ((0 : ℝ) : EReal)) := by
  refine ⟨?_, ?_, ?_, ?_, ?_, ?_, ?_, ?_⟩
  · intro h r a
    refine (s9 (W := W) (h := h) (r := r) _ rfl _ rfl _ rfl a).trans ?_
    simp only [h_v34, h_v97, h_v98]
    unfold av
    split_ifs <;> rfl
  · intro h r a; rw [(s9_keep W).1]; exact h_v82 h r a
  · intro h r a; rw [(s9_keep W).2.1]; exact h_v96 h r a
  · intro h r a; rw [(s9_keep W).2.2.1]; exact h_v2 h r a
  · intro h r a; rw [(s9_keep W).2.2.2.1]; exact h_v3 h r a
  · intro h r a; rw [(s9_keep W).2.2.2.2.1]; exact h_v67 h r a
  · intro h r a; rw [(s9_keep W).2.2.2.2.2.1]; exact h_v68 h r a
  · intro h r a; rw [(s9_keep W).2.2.2.2.2.2]; exact h_v69 h r a

set_option maxHeartbeats 1600000 in
/-- The packed value. -/
theorem p10 (h_v82 : ∀ h r (a : Fin 128), (W (Proc.devRef .tc main_v82) : Vec Ideal S12x4096x128 .bf16) (ix3 h r a) = ((lay h (fun d => q h r d * (1 / 8)) (aq (g h r) (-(t h r + Real.log (∑ x, un (lg (q h) (k h) (g h)) (t h r) r x) + 1))) a : ℝ) : EReal)) (h_v96 : ∀ h r (a : Fin 128), (W (Proc.devRef .tc main_v96) : Vec Ideal S12x4096x128 .bf16) (ix3 h r a) = ((lay h (k h r) (ak (g h r)) a : ℝ) : EReal)) (h_v99 : ∀ h r (a : Fin 64), (W (Proc.devRef .tc main_v99) : Vec Ideal S12x4096x64 .f32) (ix3 h r a) = ((av a : ℝ) : EReal)) (h_v2 : ∀ h r (a : Fin 64), (W (Proc.devRef .tc main_v2) : Vec Ideal S12x4096x64 .f32) (ix3 h r a) = ((v h r a : ℝ) : EReal)) (h_v3 : ∀ h r (a : Fin 64), (W (Proc.devRef .tc main_v3) : Vec Ideal S12x4096x64 .f32) (ix3 h r a) = ((o h r a : ℝ) : EReal)) (h_v67 : ∀ h r (a : Fin 1), (W (Proc.devRef .tc main_v67) : Vec Ideal S12x4096x1 .f32) (ix3 h r a) = ((dl (lg (q h) (k h) (g h)) r (v h) (o h) : ℝ) : EReal)) (h_v68 : ∀ h r (a : Fin 1), (W (Proc.devRef .tc main_v68) : Vec Ideal S12x4096x1 .f32) (ix3 h r a) = ((0 : ℝ) : EReal)) (h_v69 : ∀ h r (a : Fin 1), (W (Proc.devRef .tc main_v69) : Vec Ideal S12x4096x1 .f32) (ix3 h r a) = ((0 : ℝ) : EReal)) :
    (∀ h r (a : Fin 128), ((StableHlo.after (seg 116 15) W) (Proc.devRef .tc main_v108) : Vec Ideal S12x4096x128 .bf16) (ix3 h r a) = ((lay h (v h r) av a : ℝ) : EReal))
      ∧ (∀ h r (a : Fin 1), ((StableHlo.after (seg 116 15) W) (Proc.devRef .tc main_v109) : Vec Ideal S12x4096x1 .f32) (ix3 h r a) = ((0 : ℝ) : EReal))
      ∧ (∀ h r (a : Fin 60), ((StableHlo.after (seg 116 15) W) (Proc.devRef .tc main_v110) : Vec Ideal S12x4096x60 .f32) (ix3 h r a) = ((0 : ℝ) : EReal))
      ∧ (∀ h r (a : Fin 128), ((StableHlo.after (seg 116 15) W) (Proc.devRef .tc main_v82) : Vec Ideal S12x4096x128 .bf16) (ix3 h r a) = ((lay h (fun d => q h r d * (1 / 8)) (aq (g h r) (-(t h r + Real.log (∑ x, un (lg (q h) (k h) (g h)) (t h r) r x) + 1))) a : ℝ) : EReal))
      ∧ (∀ h r (a : Fin 128), ((StableHlo.after (seg 116 15) W) (Proc.devRef .tc main_v96) : Vec Ideal S12x4096x128 .bf16) (ix3 h r a) = ((lay h (k h r) (ak (g h r)) a : ℝ) : EReal))
      ∧ (∀ h r (a : Fin 64), ((StableHlo.after (seg 116 15) W) (Proc.devRef .tc main_v3) : Vec Ideal S12x4096x64 .f32) (ix3 h r a) = ((o h r a : ℝ) : EReal))
      ∧ (∀ h r (a : Fin 1), ((StableHlo.after (seg 116 15) W) (Proc.devRef .tc main_v67) : Vec Ideal S12x4096x1 .f32) (ix3 h r a) = ((dl (lg (q h) (k h) (g h)) r (v h) (o h) : ℝ) : EReal))
      ∧ (∀ h r (a : Fin 1), ((StableHlo.after (seg 116 15) W) (Proc.devRef .tc main_v68) : Vec Ideal S12x4096x1 .f32) (ix3 h r a) = ((0 : ℝ) : EReal))
      ∧ (∀ h r (a : Fin 1), ((StableHlo.after (seg 116 15) W) (Proc.devRef .tc main_v69) : Vec Ideal S12x4096x1 .f32) (ix3 h r a) = ((0 : ℝ) : EReal)) := by
  refine ⟨?_, ?_, ?_, ?_, ?_, ?_, ?_, ?_, ?_⟩
  · intro h r a
    refine (s10_v (W := W) (h := h) (r := r) _ rfl _ rfl a).trans ?_
    simp only [h_v2, h_v99, sel_even]
    exact lay_coe h _ _ a
  · intro h r a
    refine (s10_rest (W := W) (h := h) (r := r) (i0 := a) (j60 := 0)).1.trans ?_
    exact Ideal.ofBits_zero_f32
  · intro h r a
    refine (s10_rest (W := W) (h := h) (r := r) (i0 := 0) (j60 := a)).2.trans ?_
    exact Ideal.ofBits_zero_f32
  · intro h r a; rw [(s10_keep W).1]; exact h_v82 h r a
  · intro h r a; rw [(s10_keep W).2.1]; exact h_v96 h r a
  · intro h r a; rw [(s10_keep W).2.2.1]; exact h_v3 h r a
  · intro h r a; rw [(s10_keep W).2.2.2.1]; exact h_v67 h r a
  · intro h r a; rw [(s10_keep W).2.2.2.2.1]; exact h_v68 h r a
  · intro h r a; rw [(s10_keep W).2.2.2.2.2]; exact h_v69 h r a

set_option maxHeartbeats 1600000 in
/-- The cotangent's extra lanes. -/
theorem p11 (h_v82 : ∀ h r (a : Fin 128), (W (Proc.devRef .tc main_v82) : Vec Ideal S12x4096x128 .bf16) (ix3 h r a) = ((lay h (fun d => q h r d * (1 / 8)) (aq (g h r) (-(t h r + Real.log (∑ x, un (lg (q h) (k h) (g h)) (t h r) r x) + 1))) a : ℝ) : EReal)) (h_v96 : ∀ h r (a : Fin 128), (W (Proc.devRef .tc main_v96) : Vec Ideal S12x4096x128 .bf16) (ix3 h r a) = ((lay h (k h r) (ak (g h r)) a : ℝ) : EReal)) (h_v108 : ∀ h r (a : Fin 128), (W (Proc.devRef .tc main_v108) : Vec Ideal S12x4096x128 .bf16) (ix3 h r a) = ((lay h (v h r) av a : ℝ) : EReal)) (h_v3 : ∀ h r (a : Fin 64), (W (Proc.devRef .tc main_v3) : Vec Ideal S12x4096x64 .f32) (ix3 h r a) = ((o h r a : ℝ) : EReal)) (h_v67 : ∀ h r (a : Fin 1), (W (Proc.devRef .tc main_v67) : Vec Ideal S12x4096x1 .f32) (ix3 h r a) = ((dl (lg (q h) (k h) (g h)) r (v h) (o h) : ℝ) : EReal)) (h_v68 : ∀ h r (a : Fin 1), (W (Proc.devRef .tc main_v68) : Vec Ideal S12x4096x1 .f32) (ix3 h r a) = ((0 : ℝ) : EReal)) (h_v69 : ∀ h r (a : Fin 1), (W (Proc.devRef .tc main_v69) : Vec Ideal S12x4096x1 .f32) (ix3 h r a) = ((0 : ℝ) : EReal)) (h_v109 : ∀ h r (a : Fin 1), (W (Proc.devRef .tc main_v109) : Vec Ideal S12x4096x1 .f32) (ix3 h r a) = ((0 : ℝ) : EReal)) (h_v110 : ∀ h r (a : Fin 60), (W (Proc.devRef .tc main_v110) : Vec Ideal S12x4096x60 .f32) (ix3 h r a) = ((0 : ℝ) : EReal)) :
    (∀ h r (a : Fin 64), ((StableHlo.after (seg 131 1) W) (Proc.devRef .tc main_v111) : Vec Ideal S12x4096x64 .f32) (ix3 h r a) = ((ad (dl (lg (q h) (k h) (g h)) r (v h) (o h)) a : ℝ) : EReal))
      ∧ (∀ h r (a : Fin 128), ((StableHlo.after (seg 131 1) W) (Proc.devRef .tc main_v82) : Vec Ideal S12x4096x128 .bf16) (ix3 h r a) = ((lay h (fun d => q h r d * (1 / 8)) (aq (g h r) (-(t h r + Real.log (∑ x, un (lg (q h) (k h) (g h)) (t h r) r x) + 1))) a : ℝ) : EReal))
      ∧ (∀ h r (a : Fin 128), ((StableHlo.after (seg 131 1) W) (Proc.devRef .tc main_v96) : Vec Ideal S12x4096x128 .bf16) (ix3 h r a) = ((lay h (k h r) (ak (g h r)) a : ℝ) : EReal))
      ∧ (∀ h r (a : Fin 128), ((StableHlo.after (seg 131 1) W) (Proc.devRef .tc main_v108) : Vec Ideal S12x4096x128 .bf16) (ix3 h r a) = ((lay h (v h r) av a : ℝ) : EReal))
      ∧ (∀ h r (a : Fin 64), ((StableHlo.after (seg 131 1) W) (Proc.devRef .tc main_v3) : Vec Ideal S12x4096x64 .f32) (ix3 h r a) = ((o h r a : ℝ) : EReal)) := by
  refine ⟨?_, ?_, ?_, ?_, ?_⟩
  · intro h r a
    refine (s11 (W := W) (h := h) (r := r) _ rfl _ rfl _ rfl _ rfl _ rfl a).trans ?_
    simp only [h_v109, h_v67, h_v68, h_v69, h_v110]
    unfold ad
    split_ifs <;> rfl
  · intro h r a; rw [(s11_keep W).1]; exact h_v82 h r a
  · intro h r a; rw [(s11_keep W).2.1]; exact h_v96 h r a
  · intro h r a; rw [(s11_keep W).2.2.1]; exact h_v108 h r a
  · intro h r a; rw [(s11_keep W).2.2.2]; exact h_v3 h r a

set_option maxHeartbeats 1600000 in
/-- The packed cotangent. -/
theorem p12 (h_v82 : ∀ h r (a : Fin 128), (W (Proc.devRef .tc main_v82) : Vec Ideal S12x4096x128 .bf16) (ix3 h r a) = ((lay h (fun d => q h r d * (1 / 8)) (aq (g h r) (-(t h r + Real.log (∑ x, un (lg (q h) (k h) (g h)) (t h r) r x) + 1))) a : ℝ) : EReal)) (h_v96 : ∀ h r (a : Fin 128), (W (Proc.devRef .tc main_v96) : Vec Ideal S12x4096x128 .bf16) (ix3 h r a) = ((lay h (k h r) (ak (g h r)) a : ℝ) : EReal)) (h_v108 : ∀ h r (a : Fin 128), (W (Proc.devRef .tc main_v108) : Vec Ideal S12x4096x128 .bf16) (ix3 h r a) = ((lay h (v h r) av a : ℝ) : EReal)) (h_v3 : ∀ h r (a : Fin 64), (W (Proc.devRef .tc main_v3) : Vec Ideal S12x4096x64 .f32) (ix3 h r a) = ((o h r a : ℝ) : EReal)) (h_v111 : ∀ h r (a : Fin 64), (W (Proc.devRef .tc main_v111) : Vec Ideal S12x4096x64 .f32) (ix3 h r a) = ((ad (dl (lg (q h) (k h) (g h)) r (v h) (o h)) a : ℝ) : EReal)) :
    (∀ h r (a : Fin 128), ((StableHlo.after (seg 132 14) W) (Proc.devRef .tc main_v120) : Vec Ideal S12x4096x128 .bf16) (ix3 h r a) = ((lay h (o h r) (ad (dl (lg (q h) (k h) (g h)) r (v h) (o h))) a : ℝ) : EReal))
      ∧ (∀ h r (a : Fin 128), ((StableHlo.after (seg 132 14) W) (Proc.devRef .tc main_v82) : Vec Ideal S12x4096x128 .bf16) (ix3 h r a) = ((lay h (fun d => q h r d * (1 / 8)) (aq (g h r) (-(t h r + Real.log (∑ x, un (lg (q h) (k h) (g h)) (t h r) r x) + 1))) a : ℝ) : EReal))
      ∧ (∀ h r (a : Fin 128), ((StableHlo.after (seg 132 14) W) (Proc.devRef .tc main_v96) : Vec Ideal S12x4096x128 .bf16) (ix3 h r a) = ((lay h (k h r) (ak (g h r)) a : ℝ) : EReal))
      ∧ (∀ h r (a : Fin 128), ((StableHlo.after (seg 132 14) W) (Proc.devRef .tc main_v108) : Vec Ideal S12x4096x128 .bf16) (ix3 h r a) = ((lay h (v h r) av a : ℝ) : EReal)) := by
  refine ⟨?_, ?_, ?_, ?_⟩
  · intro h r a
    refine (s12_do (W := W) (h := h) (r := r) _ rfl _ rfl a).trans ?_
    simp only [h_v3, h_v111, sel_even]
    exact lay_coe h _ _ a
  · intro h r a; rw [(s12_keep W).1]; exact h_v82 h r a
  · intro h r a; rw [(s12_keep W).2.1]; exact h_v96 h r a
  · intro h r a; rw [(s12_keep W).2.2]; exact h_v108 h r a

end Cert.FoxIdeal.Hand
-- ==== Proof.FoxTail.lean ====
module

public import proofs.«01_k».proof.Proof.FoxPrefix

/-! What the host lines after the call return, element by element: the data lanes of the three arrays, and the one lane that carries the decay's. -/

@[expose] public section
set_option maxRecDepth 16384
noncomputable section
namespace Cert.FoxIdeal.Hand
open Cert.FoxIdeal Cert.FoxIdeal.Gen Cert.FoxReal
open Idealize.ShloMosaic Idealize.ShloMosaic.TcCoe Idealize.ShloMosaic.Tactic

variable (W : Valuation τ sig (Elt Ideal)) (h : Fin 12) (r : Fin 4096) (d : Fin 64)
  (x0 x1 : Vec Ideal S12x4096x128 .f32) (x2 : Vec Ideal S12x4096x128 .bf16)
  (hx0 : x0 = W (Proc.devRef .tc main_v121_0)) (hx1 : x1 = W (Proc.devRef .tc main_v121_1)) (hx2 : x2 = W (Proc.devRef .tc main_v121_2))

set_option maxHeartbeats 1600000 in
include hx0 in
/-- The query gradient returned. -/
theorem tail_dq : (StableHlo.after (hostOps1 (F := Ideal)) W (Proc.devRef .tc main_v141) : Vec Ideal S4096x12x64 .f32) (ix3 r h d)
    = ((if h.val % 2 = 0 then x0 (ix3 h r ⟨d.val, by omega⟩) else x0 (ix3 h r ⟨64 + d.val, by omega⟩)) * (((1 : ℝ) / 8 : ℝ) : EReal) : EReal) := by
  after_results_simp
  simp only [← hx0]
  rw [← sel_even, ← word_eighth]
  pointwise

set_option maxHeartbeats 1600000 in
include hx1 in
/-- The key gradient returned. -/
theorem tail_dk : (StableHlo.after (hostOps1 (F := Ideal)) W (Proc.devRef .tc main_v150) : Vec Ideal S4096x12x64 .f32) (ix3 r h d)
    = (if h.val % 2 = 0 then x1 (ix3 h r ⟨d.val, by omega⟩) else x1 (ix3 h r ⟨64 + d.val, by omega⟩) : EReal) := by
  after_results_simp
  simp only [← hx1]
  rw [← sel_even]
  pointwise

set_option maxHeartbeats 1600000 in
include hx2 in
/-- The value gradient returned. -/
theorem tail_dv : (StableHlo.after (hostOps1 (F := Ideal)) W (Proc.devRef .tc main_v160) : Vec Ideal S4096x12x64 .f32) (ix3 r h d)
    = (if h.val % 2 = 0 then x2 (ix3 h r ⟨d.val, by omega⟩) else x2 (ix3 h r ⟨64 + d.val, by omega⟩) : EReal) := by
  after_results_simp
  simp only [← hx2]
  rw [← sel_even]
  pointwise

set_option maxHeartbeats 1600000 in
include hx0 hx1 in
/-- The gradient of the summed decay returned. -/
theorem tail_dg : (StableHlo.after (hostOps1 (F := Ideal)) W (Proc.devRef .tc main_v162) : Vec Ideal S4096x12 .f32) (ix2 r h)
    = (if h.val % 2 = 0 then x0 (ix3 h r (73 : Fin 128)) - x1 (ix3 h r (73 : Fin 128)) else x0 (ix3 h r (9 : Fin 128)) - x1 (ix3 h r (9 : Fin 128)) : EReal) := by
  after_results_simp
  simp only [← hx0, ← hx1]
  rw [← sel_even]
  pointwise

/-- The host lines before the call, stretch by stretch. -/
theorem stretches : StableHlo.after (List.flatten [hostOps0 (F := Ideal)]) W
    = StableHlo.after (seg 132 14) (StableHlo.after (seg 131 1) (StableHlo.after (seg 116 15) (StableHlo.after (seg 115 1)
      (StableHlo.after (seg 101 14) (StableHlo.after (seg 100 1) (StableHlo.after (seg 84 16) (StableHlo.after (seg 83 1)
      (StableHlo.after (seg 39 44) (StableHlo.after (seg 29 10) (StableHlo.after (seg 21 8) (StableHlo.after (seg 0 21) W))))))))))) := rfl

section
variable (q k v o : Fin 12 → Fin 4096 → Fin 64 → ℝ) (g t : Fin 12 → Fin 4096 → ℝ) (Q K V D : Vec Ideal S12x4096x128 .bf16)
  (hQ : ∀ h r (a : Fin 128), Q (ix3 h r a) = ((lay h (fun d => q h r d * (1 / 8)) (aq (g h r) (-(t h r + Real.log (∑ x, un (lg (q h) (k h) (g h)) (t h r) r x) + 1))) a : ℝ) : EReal))
  (hK : ∀ h r (a : Fin 128), K (ix3 h r a) = ((lay h (k h r) (ak (g h r)) a : ℝ) : EReal))
  (hV : ∀ h r (a : Fin 128), V (ix3 h r a) = ((lay h (v h r) av a : ℝ) : EReal))
  (hD : ∀ h r (a : Fin 128), D (ix3 h r a) = ((lay h (o h r) (ad (dl (lg (q h) (k h) (g h)) r (v h) (o h))) a : ℝ) : EReal))

include hQ hK in
theorem wH_real (h : Fin 12) (r c : Fin 4096) : wH Q K h r c = ((Cert.FoxReal.wt (lg (q h) (k h) (g h)) r c : ℝ) : EReal) := by
  unfold wH
  split_ifs with hc
  · simp only [hQ, hK, ← EReal.coe_mul, ← coe_sum]
    rw [dot_qk (q := q h) (k := k h) (g := g h), Ideal.exp_coe, exp_lse _ _ _ _ hc]
  · rw [wt_zero _ _ _ hc]; rfl

include hQ hK hV hD in
theorem dwH_real (h : Fin 12) (r c : Fin 4096) : dwH Q D K V h r c = ((ds (lg (q h) (k h) (g h)) r c (v h) (o h) : ℝ) : EReal) := by
  unfold dwH
  rw [wH_real q k g t Q K hQ hK]
  simp only [hV, hD, ← EReal.coe_mul, ← coe_sum]
  rw [dot_dov (v := v h) (o := o h), ds]

include hQ hK hV hD in
theorem dqArr_real (h : Fin 12) (r : Fin 4096) (l : Fin 128) : dqArr Q D K V (ix3 h r l)
    = ((∑ c, ds (lg (q h) (k h) (g h)) r c (v h) (o h) * lay h (k h c) (ak (g h c)) l : ℝ) : EReal) := by
  show ∑ c : Fin 4096, dwH Q D K V h r c * K (ix3 h c l) = _
  simp only [dwH_real q k v o g t Q K V D hQ hK hV hD, hK, ← EReal.coe_mul, ← coe_sum]

include hQ hK hV hD in
theorem dkArr_real (h : Fin 12) (c : Fin 4096) (l : Fin 128) : dkArr Q D K V (ix3 h c l)
    = ((∑ r, ds (lg (q h) (k h) (g h)) r c (v h) (o h)
      * lay h (fun d => q h r d * (1 / 8)) (aq (g h r) (-(t h r + Real.log (∑ x, un (lg (q h) (k h) (g h)) (t h r) r x) + 1))) l : ℝ) : EReal) := by
  show ∑ r : Fin 4096, dwH Q D K V h r c * Q (ix3 h r l) = _
  simp only [dwH_real q k v o g t Q K V D hQ hK hV hD, hQ, ← EReal.coe_mul, ← coe_sum]

include hQ hK hD in
theorem dvArr_real (h : Fin 12) (c : Fin 4096) (l : Fin 128) : dvArr Q D K (ix3 h c l)
    = ((∑ r, Cert.FoxReal.wt (lg (q h) (k h) (g h)) r c * lay h (o h r) (ad (dl (lg (q h) (k h) (g h)) r (v h) (o h))) l : ℝ) : EReal) := by
  show ∑ r : Fin 4096, wH Q K h r c * D (ix3 h r l) = _
  simp only [wH_real q k g t Q K hQ hK, hD, ← EReal.coe_mul, ← coe_sum]
end

/-- A packed row at its data lanes. -/
theorem lay_data (h : Fin 12) (D A : Fin 64 → ℝ) (d : Fin 64) :
    (h.val % 2 = 0 → lay h D A ⟨d.val, by omega⟩ = D d) ∧ (¬ h.val % 2 = 0 → lay h D A ⟨64 + d.val, by omega⟩ = D d) := by
  constructor
  · intro e; simp [lay, e]
  · intro e; simp [lay, e]

/-- A packed row at the lane that carries the decay's gradient. -/
theorem lay_nine (h : Fin 12) (D A : Fin 64 → ℝ) :
    (h.val % 2 = 0 → lay h D A (73 : Fin 128) = A 9) ∧ (¬ h.val % 2 = 0 → lay h D A (9 : Fin 128) = A 9) := by
  constructor
  · intro e; simp [lay, e]
  · intro e; simp [lay, e]

end Cert.FoxIdeal.Hand
-- ==== Proof.FoxTie.lean ====
module

public import proofs.«01_k».proof.Defs
public import proofs.«01_k».proof.Proof.FoxTail
public import Idealize.ShloMosaic.Lib.ReduceAll

/-! On finite arguments the forgetting attention's four gradients are the reference's, element by element. -/

@[expose] public section
set_option maxRecDepth 16384
noncomputable section
namespace Cert.FoxReal
open Idealize.ShloMosaic Idealize.ShloMosaic.Tactic

/-- An extended real whose absolute value is below infinity is a real. -/
theorem real_of_abs (x : EReal) (h : Ideal.cmp .olt (max x (-x)) (Ideal.ofBits .f32 0x7F800000#32) = 1#1) : x = ((x.toReal : ℝ) : EReal) := by
  have ht : Ideal.ofBits .f32 0x7F800000#32 = (⊤ : EReal) := by simp [Ideal.ofBits, Ideal.ieee]
  have hl : max x (-x) < ⊤ := by
    rw [ht] at h
    by_contra hn
    simp [Ideal.cmp, hn] at h
  have h1 : x ≠ ⊤ := fun e => by simp [e] at hl
  have h2 : x ≠ ⊥ := fun e => by simp [e] at hl
  exact (EReal.coe_toReal h1 h2).symm

/-- Both of two bits whose conjunction is one. -/
theorem both (a b : BitVec 1) (h : IntOp.andi a b = 1#1) : a = 1#1 ∧ b = 1#1 := by
  revert a b; decide

theorem both_at {s : Shape} (x y : IVec s 1) (h : andi x y = fun _ => 1#1) : (x = fun _ => 1#1) ∧ (y = fun _ => 1#1) :=
  ⟨funext fun i => (both _ _ (congrFun h i)).1, funext fun i => (both _ _ (congrFun h i)).2⟩

open Cert.Pre_finite_attention in
/-- Every element of the five arguments is a real number. -/
theorem finite_of [Cert.Pre_finite_attention.Facts] (x0 x1 x2 : FVec Ideal S4096x12x64 .f32) (x3 : FVec Ideal S4096x12 .f32) (x4 : FVec Ideal S4096x12x64 .f32)
    (h : fn (F := Ideal) x0 x1 x2 x3 x4 = fun _ => 1#1) :
    (∀ i, x0 i = (((x0 i : EReal).toReal : ℝ) : EReal)) ∧ (∀ i, x1 i = (((x1 i : EReal).toReal : ℝ) : EReal))
      ∧ (∀ i, x2 i = (((x2 i : EReal).toReal : ℝ) : EReal)) ∧ (∀ i, x3 i = (((x3 i : EReal).toReal : ℝ) : EReal))
      ∧ (∀ i, x4 i = (((x4 i : EReal).toReal : ℝ) : EReal)) := by
  obtain ⟨h, h4⟩ := both_at _ _ h
  obtain ⟨h, h3⟩ := both_at _ _ h
  obtain ⟨h, h2⟩ := both_at _ _ h
  obtain ⟨h0, h1⟩ := both_at _ _ h
  exact ⟨fun i => real_of_abs _ (Host.reduce_andi_all _ _ _ _ finZeroElim (congrFun h0 _) i), fun i => real_of_abs _ (Host.reduce_andi_all _ _ _ _ finZeroElim (congrFun h1 _) i),
    fun i => real_of_abs _ (Host.reduce_andi_all _ _ _ _ finZeroElim (congrFun h2 _) i), fun i => real_of_abs _ (Host.reduce_andi_all _ _ _ _ finZeroElim (congrFun h3 _) i),
    fun i => real_of_abs _ (Host.reduce_andi_all _ _ _ _ finZeroElim (congrFun h4 _) i)⟩

end Cert.FoxReal

namespace Cert.FoxIdeal.Hand
open Cert.FoxIdeal Cert.FoxIdeal.Gen Cert.FoxReal
open Idealize.ShloMosaic Idealize.ShloMosaic.TcCoe Idealize.ShloMosaic.Tactic Idealize.SL.Sem

/-- The four packed arrays, after all the host lines before the call. -/
theorem packed (W : Valuation τ sig (Elt Ideal)) (q k v o : Fin 12 → Fin 4096 → Fin 64 → ℝ) (g : Fin 12 → Fin 4096 → ℝ)
    (h0 : ∀ h r a, (W (Proc.devRef .tc main_arg0) : Vec Ideal S4096x12x64 .f32) (ix3 r h a) = ((q h r a : ℝ) : EReal))
    (h1 : ∀ h r a, (W (Proc.devRef .tc main_arg1) : Vec Ideal S4096x12x64 .f32) (ix3 r h a) = ((k h r a : ℝ) : EReal))
    (h2 : ∀ h r a, (W (Proc.devRef .tc main_arg2) : Vec Ideal S4096x12x64 .f32) (ix3 r h a) = ((v h r a : ℝ) : EReal))
    (h3 : ∀ h r, (W (Proc.devRef .tc main_arg3) : Vec Ideal S4096x12 .f32) (ix2 r h) = ((g h r : ℝ) : EReal))
    (h4 : ∀ h r a, (W (Proc.devRef .tc main_arg4) : Vec Ideal S4096x12x64 .f32) (ix3 r h a) = ((o h r a : ℝ) : EReal)) :
    ∃ t : Fin 12 → Fin 4096 → ℝ,
      (∀ h r (a : Fin 128), (StableHlo.after (List.flatten [hostOps0 (F := Ideal)]) W (Proc.devRef .tc main_v82) : Vec Ideal S12x4096x128 .bf16) (ix3 h r a)
        = ((lay h (fun d => q h r d * (1 / 8)) (aq (g h r) (-(t h r + Real.log (∑ x, un (lg (q h) (k h) (g h)) (t h r) r x) + 1))) a : ℝ) : EReal))
      ∧ (∀ h r (a : Fin 128), (StableHlo.after (List.flatten [hostOps0 (F := Ideal)]) W (Proc.devRef .tc main_v96) : Vec Ideal S12x4096x128 .bf16) (ix3 h r a)
        = ((lay h (k h r) (ak (g h r)) a : ℝ) : EReal))
      ∧ (∀ h r (a : Fin 128), (StableHlo.after (List.flatten [hostOps0 (F := Ideal)]) W (Proc.devRef .tc main_v108) : Vec Ideal S12x4096x128 .bf16) (ix3 h r a)
        = ((lay h (v h r) av a : ℝ) : EReal))
      ∧ (∀ h r (a : Fin 128), (StableHlo.after (List.flatten [hostOps0 (F := Ideal)]) W (Proc.devRef .tc main_v120) : Vec Ideal S12x4096x128 .bf16) (ix3 h r a)
        = ((lay h (o h r) (ad (dl (lg (q h) (k h) (g h)) r (v h) (o h))) a : ℝ) : EReal)) := by
  have key : ∀ h r, ∃ t : ℝ, Finset.fold max (⊥ : EReal) (fun x => msk (lg (q h) (k h) (g h)) r x) Finset.univ = (t : EReal) := fun h r => top_real _ r
  choose t ht using key
  refine ⟨t, ?_⟩
  rw [stretches]
  obtain ⟨a18, a0, a1, a2, a3, a4⟩ := p1 W q k v o g h0 h1 h2 h4 h3
  generalize StableHlo.after (seg 0 21) W = W at *
  obtain ⟨a20, a23, a24, a0, a1, a2, a3, a4⟩ := p2 W q k v o g t ht a18 a0 a1 a2 a3 a4
  generalize StableHlo.after (seg 21 8) W = W at *
  obtain ⟨a27, a33, a0, a1, a2, a3, a4⟩ := p3 W q k v o g t a20 a23 a24 a0 a1 a2 a3 a4
  generalize StableHlo.after (seg 29 10) W = W at *
  obtain ⟨a44, a45, a46, a57, a58, a59, a67, a68, a69, a34, a35, a72, a71, a1, a2, a3⟩ := p4 W q k v o g t a27 a33 a0 a1 a2 a3 a4
  generalize StableHlo.after (seg 39 44) W = W at *
  obtain ⟨a73, a71, a1, a2, a3, a34, a35, a44, a45, a46, a67, a68, a69⟩ :=
    p5 W q k v o g t a44 a45 a46 a35 a57 a58 a59 a34 a72 a71 a1 a2 a3 a67 a68 a69
  generalize StableHlo.after (seg 83 1) W = W at *
  obtain ⟨a82, a83, a84, a85, a86, a1, a2, a3, a34, a35, a67, a68, a69⟩ := p6 W q k v o g t a71 a73 a1 a2 a3 a34 a35 a44 a45 a46 a67 a68 a69
  generalize StableHlo.after (seg 84 16) W = W at *
  obtain ⟨a87, a82, a1, a2, a3, a34, a35, a67, a68, a69⟩ := p7 W q k v o g t a82 a35 a83 a84 a85 a34 a86 a1 a2 a3 a67 a68 a69
  generalize StableHlo.after (seg 100 1) W = W at *
  obtain ⟨a96, a97, a98, a82, a2, a3, a34, a67, a68, a69⟩ := p8 W q k v o g t a82 a1 a87 a2 a3 a34 a35 a67 a68 a69
  generalize StableHlo.after (seg 101 14) W = W at *
  obtain ⟨a99, a82, a96, a2, a3, a67, a68, a69⟩ := p9 W q k v o g t a82 a96 a97 a98 a2 a3 a34 a67 a68 a69
  generalize StableHlo.after (seg 115 1) W = W at *
  obtain ⟨a108, a109, a110, a82, a96, a3, a67, a68, a69⟩ := p10 W q k v o g t a82 a96 a99 a2 a3 a67 a68 a69
  generalize StableHlo.after (seg 116 15) W = W at *
  obtain ⟨a111, a82, a96, a108, a3⟩ := p11 W q k v o g t a82 a96 a108 a3 a67 a68 a69 a109 a110
  generalize StableHlo.after (seg 131 1) W = W at *
  obtain ⟨a120, a82, a96, a108⟩ := p12 W q k v o g t a82 a96 a108 a3 a111
  exact ⟨a82, a96, a108, a120⟩

variable (m : (l : Loc nD τ sig) → Buf (Elt Ideal) l) (ρ : Dev nD → PrngReg) (c : Dev nD)

/-- What the lines after the call read. -/
abbrev Wout : Valuation τ sig (Elt Ideal) := Pipeline.withArrays cfg0.spec c (V0 m c) fun w => (dats m 0 c).arrAt w cfg0.N

theorem wout_dq : Wout m c (Proc.devRef .tc main_v121_0) = dqArr (V m c main_v82) (V m c main_v120) (V m c main_v96) (V m c main_v108) :=
  (Pipeline.withArrays_arr cfg0.spec launch0.win.arr_inj c (V0 m c) (fun w => (dats m 0 c).arrAt w cfg0.N) 4).trans (final_dq m c)
theorem wout_dk : Wout m c (Proc.devRef .tc main_v121_1) = dkArr (V m c main_v82) (V m c main_v120) (V m c main_v96) (V m c main_v108) :=
  (Pipeline.withArrays_arr cfg0.spec launch0.win.arr_inj c (V0 m c) (fun w => (dats m 0 c).arrAt w cfg0.N) 5).trans (final_dk m c)
theorem wout_dv : Wout m c (Proc.devRef .tc main_v121_2) = dvArr (V m c main_v82) (V m c main_v120) (V m c main_v96) :=
  (Pipeline.withArrays_arr cfg0.spec launch0.win.arr_inj c (V0 m c) (fun w => (dats m 0 c).arrAt w cfg0.N) 6).trans (final_dv m c)

section
variable (q k v o : Fin 12 → Fin 4096 → Fin 64 → ℝ) (g : Fin 12 → Fin 4096 → ℝ)
    (h0 : ∀ h r a, (m (c, Proc.devRef .tc main_arg0) : Vec Ideal S4096x12x64 .f32) (ix3 r h a) = ((q h r a : ℝ) : EReal))
    (h1 : ∀ h r a, (m (c, Proc.devRef .tc main_arg1) : Vec Ideal S4096x12x64 .f32) (ix3 r h a) = ((k h r a : ℝ) : EReal))
    (h2 : ∀ h r a, (m (c, Proc.devRef .tc main_arg2) : Vec Ideal S4096x12x64 .f32) (ix3 r h a) = ((v h r a : ℝ) : EReal))
    (h3 : ∀ h r, (m (c, Proc.devRef .tc main_arg3) : Vec Ideal S4096x12 .f32) (ix2 r h) = ((g h r : ℝ) : EReal))
    (h4 : ∀ h r a, (m (c, Proc.devRef .tc main_arg4) : Vec Ideal S4096x12x64 .f32) (ix3 r h a) = ((o h r a : ℝ) : EReal))

include h0 h1 h2 h3 h4 in
/-- The four results the program leaves, as coerced reals. -/
theorem results (h : Fin 12) (r : Fin 4096) :
    (∀ d : Fin 64, (StableHlo.after (hostOps1 (F := Ideal)) (Wout m c) (Proc.devRef .tc main_v141) : Vec Ideal S4096x12x64 .f32) (ix3 r h d)
        = ((gq (lg (q h) (k h) (g h)) r (k h) (v h) (o h) d : ℝ) : EReal))
    ∧ (∀ d : Fin 64, (StableHlo.after (hostOps1 (F := Ideal)) (Wout m c) (Proc.devRef .tc main_v150) : Vec Ideal S4096x12x64 .f32) (ix3 r h d)
        = ((gk (lg (q h) (k h) (g h)) r (q h) (v h) (o h) d : ℝ) : EReal))
    ∧ (∀ d : Fin 64, (StableHlo.after (hostOps1 (F := Ideal)) (Wout m c) (Proc.devRef .tc main_v160) : Vec Ideal S4096x12x64 .f32) (ix3 r h d)
        = ((gv (lg (q h) (k h) (g h)) r (o h) d : ℝ) : EReal))
    ∧ (StableHlo.after (hostOps1 (F := Ideal)) (Wout m c) (Proc.devRef .tc main_v162) : Vec Ideal S4096x12 .f32) (ix2 r h)
        = ((gg (lg (q h) (k h) (g h)) r (v h) (o h) : ℝ) : EReal) := by
  obtain ⟨t, hQ, hK, hV, hD⟩ := packed (fun b => m (c, b)) q k v o g h0 h1 h2 h3 h4
  have e0 := wout_dq m c
  have e1 := wout_dk m c
  have e2 := wout_dv m c
  have g0 := dqArr_real q k v o g t _ _ _ _ hQ hK hV hD h
  have g1 := dkArr_real q k v o g t _ _ _ _ hQ hK hV hD h
  have g2 := dvArr_real q k v o g t _ _ _ hQ hK hD h
  refine ⟨fun d => ?_, fun d => ?_, fun d => ?_, ?_⟩
  · refine (tail_dq (Wout m c) h r d _ e0.symm).trans ?_
    rw [g0, g0, gq]
    split_ifs with hp
    · simp only [(lay_data h _ _ d).1 hp, ← EReal.coe_mul]
    · simp only [(lay_data h _ _ d).2 hp, ← EReal.coe_mul]
  · refine (tail_dk (Wout m c) h r d _ e1.symm).trans ?_
    rw [g1, g1, gk]
    split_ifs with hp
    · simp only [(lay_data h _ _ d).1 hp]
    · simp only [(lay_data h _ _ d).2 hp]
  · refine (tail_dv (Wout m c) h r d _ e2.symm).trans ?_
    rw [g2, g2, gv]
    split_ifs with hp
    · simp only [(lay_data h _ _ d).1 hp]
    · simp only [(lay_data h _ _ d).2 hp]
  · refine (tail_dg (Wout m c) h r _ _ e0.symm e1.symm).trans ?_
    rw [g0, g0, g1, g1, gg]
    have hk : ∀ x, ak x 9 = 1 := fun x => by simp [ak]
    have ha : ∀ x y, aq x y 9 = 1 := fun x y => by simp [aq]
    split_ifs with hp
    · simp only [(lay_nine h _ _).1 hp, hk, ha, mul_one, ← EReal.coe_sub]
    · simp only [(lay_nine h _ _).2 hp, hk, ha, mul_one, ← EReal.coe_sub]
end

end Cert.FoxIdeal.Hand

namespace Cert.Fox.Tie
open Cert.FoxReal
open Idealize.ShloMosaic Idealize.ShloMosaic.TcCoe Idealize.ShloMosaic.Tactic Idealize.SL.Sem

instance : Subsingleton Cert.Pre_finite_attention.S_.Idx := ⟨fun a b => funext fun j => j.elim0⟩

/-- The side conditions the precondition states. -/
theorem preFacts : Cert.Pre_finite_attention.Facts := ⟨by decide, by decide, by decide, by decide, by decide⟩

attribute [local instance] preFacts

/-- On finite arguments the four gradients the packed program leaves are the reference's. -/
theorem algebraic : algebraic_FoxIdeal_FoxRefIdeal_pre_finite_attention := by
  intro m ρ m' ρ' hpre hagree
  refine ⟨fun c => StableHlo.after Cert.FoxIdeal.Gen.hostOps1 (Cert.FoxIdeal.Hand.Wout m c) (Proc.devRef .tc Cert.FoxIdeal.main_v141),
    fun c => StableHlo.after Cert.FoxIdeal.Gen.hostOps1 (Cert.FoxIdeal.Hand.Wout m c) (Proc.devRef .tc Cert.FoxIdeal.main_v150),
    fun c => StableHlo.after Cert.FoxIdeal.Gen.hostOps1 (Cert.FoxIdeal.Hand.Wout m c) (Proc.devRef .tc Cert.FoxIdeal.main_v160),
    fun c => StableHlo.after Cert.FoxIdeal.Gen.hostOps1 (Cert.FoxIdeal.Hand.Wout m c) (Proc.devRef .tc Cert.FoxIdeal.main_v162), ?_, ?_⟩
  · refine (θ_run _ _ _).mono (fun r h c => ⟨?_, ?_, ?_, ?_, h.2.1 c⟩) (θ_run_and (Cert.FoxIdeal.Hand.run_all m ρ) (Cert.FoxIdeal.Hand.frame m ρ))
    · exact (h.1.1 c).2 Cert.FoxIdeal.main_v141 (Pipeline.mem_restRefs_of _ (by decide) (by decide))
    · exact (h.1.1 c).2 Cert.FoxIdeal.main_v150 (Pipeline.mem_restRefs_of _ (by decide) (by decide))
    · exact (h.1.1 c).2 Cert.FoxIdeal.main_v160 (Pipeline.mem_restRefs_of _ (by decide) (by decide))
    · exact (h.1.1 c).2 Cert.FoxIdeal.main_v162 (Pipeline.mem_restRefs_of _ (by decide) (by decide))
  · refine (θ_run Cert.FoxRefIdeal.defs _ _).mono (fun r h c => ?_) (Cert.FoxRefIdeal.Value.run (F := Ideal) m' ρ')
    obtain ⟨e0, e1, e2, e3, hargs⟩ := h c
    obtain ⟨f0, f1, f2, f3, f4⟩ := finite_of _ _ _ _ _ (hpre c)
    obtain ⟨a0, a1, a2, a3, a4⟩ := hagree c
    have key := fun h r => Cert.FoxIdeal.Hand.results m c _ _ _ _ _ (fun h r a => f0 (ix3 r h a)) (fun h r a => f1 (ix3 r h a)) (fun h r a => f2 (ix3 r h a)) (fun h r => f3 (ix2 r h)) (fun h r a => f4 (ix3 r h a)) h r
    obtain ⟨t, ht⟩ := Cert.FoxRefIdeal.Tie.r23 _ _ _ _ _ _ (fun h r a => f0 (ix3 r h a)) (fun h r a => f1 (ix3 r h a)) (fun h r => f3 (ix2 r h))
    refine ⟨e0.trans ?_, e1.trans ?_, e2.trans ?_, e3.trans ?_, hargs⟩
    · rw [Cert.FoxRefIdeal.Read.val_main_v78_eq, a0, a1, a2, a3, a4]
      funext i
      idx_vars i
      exact (Cert.FoxRefIdeal.Tie.r78 _ _ _ _ _ _ _ _ _ _ t (fun h r a => f0 (ix3 r h a)) (fun h r a => f1 (ix3 r h a)) (fun h r a => f2 (ix3 r h a)) (fun h r => f3 (ix2 r h)) (fun h r a => f4 (ix3 r h a)) ht _ _ _).trans ((key _ _).1 _).symm
    · rw [Cert.FoxRefIdeal.Read.val_main_v76_eq, a0, a1, a2, a3, a4]
      funext i
      idx_vars i
      exact (Cert.FoxRefIdeal.Tie.r76 _ _ _ _ _ _ _ _ _ _ t (fun h r a => f0 (ix3 r h a)) (fun h r a => f1 (ix3 r h a)) (fun h r a => f2 (ix3 r h a)) (fun h r => f3 (ix2 r h)) (fun h r a => f4 (ix3 r h a)) ht _ _ _).trans ((key _ _).2.1 _).symm
    · rw [Cert.FoxRefIdeal.Read.val_main_v49_eq, a0, a1, a3, a4]
      funext i
      idx_vars i
      exact (Cert.FoxRefIdeal.Tie.r49 _ _ _ _ _ _ _ _ t (fun h r a => f0 (ix3 r h a)) (fun h r a => f1 (ix3 r h a)) (fun h r => f3 (ix2 r h)) (fun h r a => f4 (ix3 r h a)) ht _ _ _).trans ((key _ _).2.2.1 _).symm
    · rw [Cert.FoxRefIdeal.Read.val_main_v72_eq, a0, a1, a2, a3, a4]
      funext i
      idx_vars i
      exact (Cert.FoxRefIdeal.Tie.r72 _ _ _ _ _ _ _ _ _ _ t (fun h r a => f0 (ix3 r h a)) (fun h r a => f1 (ix3 r h a)) (fun h r a => f2 (ix3 r h a)) (fun h r => f3 (ix2 r h)) (fun h r a => f4 (ix3 r h a)) ht _ _).trans (key _ _).2.2.2.symm

end Cert.Fox.Tie
-- ==== Proof.XattnBlock.lean ====
module

public import proofs.«01_k».proof.Proof.Gen.XattnIdeal.Value
public import Idealize.ShloMosaic.Lib.ValueIdx
public import Idealize.ShloMosaic.Lib.Pointwise
public import Idealize.ShloMosaic.Lib.WritesUnit
public import Idealize.ShloMosaic.PureOps.Ideal

/-! What one block of 512 rows leaves in the gradients of the queries and of the keys and values. -/

@[expose] public section
set_option maxRecDepth 16384
noncomputable section
namespace Cert.XattnIdeal.Hand
open Cert.XattnIdeal Cert.XattnIdeal.Gen
open Idealize.ShloMosaic Idealize.ShloMosaic.TcCoe Idealize.ShloMosaic.Tactic

/-- A row's logit at memory slot `m`. -/
def logit (q : Fin 256 → EReal) (k : Fin 256 → Fin 256 → EReal) (m : Fin 256) : EReal := (∑ x, q x * k m x) * Ideal.ofBits FTy.f32 1031798784#32

/-- The exponential of a logit less the row's largest. -/
def wgt (s : Fin 256 → EReal) (m : Fin 256) : EReal :=
  Ideal.exp (s m - Finset.fold max (Ideal.ofBits FTy.f32 4286578688#32) (fun x => s x) Finset.univ)

/-- A row's weight at memory slot `m`. -/
def prob (s : Fin 256 → EReal) (m : Fin 256) : EReal := wgt s m * Ideal.div 1 (∑ x, wgt s x)

/-- What flows into a row's weights. -/
def flow (o : Fin 256 → EReal) (v : Fin 256 → Fin 256 → EReal) (m : Fin 256) : EReal := ∑ x, o x * v m x

/-- What flows into a row's logits. -/
def dlogit (p f : Fin 256 → EReal) (m : Fin 256) : EReal := p m * (f m - ∑ x, p x * f x) * Ideal.ofBits FTy.f32 1031798784#32

/-- The columns from `o` on of a block of rows. -/
def rows (o : ℕ) (x : Vec Ideal S512x1024 .bf16) : FVec Ideal S512x256 .bf16 := fun y => x (ix2 (y 0) (Fin.ofNat 1024 (o + (y 1).val)))

/-- The columns from `o` on of the memory. -/
def slots {e : EltTy} (o : ℕ) (x : Vec Ideal S256x2048 e) : Vec Ideal S256x256 e := fun y => x (ix2 (y 0) (Fin.ofNat 2048 (o + (y 1).val)))

section
variable (q : FVec Ideal S512x256 .bf16) (k : FVec Ideal S256x256 .bf16)

/-- The weights of a block's rows. -/
def pB : FVec Ideal S512x256 .f32 := k0_pay17 (k0_pay20 q k)

/-- What flows into a block's logits. -/
def dB (o : FVec Ideal S512x256 .bf16) (v : FVec Ideal S256x256 .bf16) : FVec Ideal S512x256 .bf16 := k0_pay26 o (pB q k) v

theorem pB_apply (r : Fin 512) (m : Fin 256) :
    pB q k (ix2 r m) = prob (logit (fun d => q (ix2 r d)) (fun m d => k (ix2 m d))) m := by
  unfold pB prob wgt logit
  have h : ∀ (s : FVec Ideal S512x256 .f32), k0_pay17 s (ix2 r m) = Ideal.exp (s (ix2 r m) - Finset.fold max (Ideal.ofBits FTy.f32 4286578688#32) (fun x => s (ix2 r x)) Finset.univ) *
      Ideal.div 1 (∑ x, Ideal.exp (s (ix2 r x) - Finset.fold max (Ideal.ofBits FTy.f32 4286578688#32) (fun x => s (ix2 r x)) Finset.univ)) := by
    intro s; unfold k0_pay17; pointwise
  have h' : ∀ m, k0_pay20 q k (ix2 r m) = (∑ x, q (ix2 r x) * k (ix2 m x)) * Ideal.ofBits FTy.f32 1031798784#32 := by
    intro m; unfold k0_pay20; pointwise
  rw [h]; simp only [h']

theorem dB_apply (o : FVec Ideal S512x256 .bf16) (v : FVec Ideal S256x256 .bf16) (r : Fin 512) (m : Fin 256) :
    dB q k o v (ix2 r m) = dlogit (prob (logit (fun d => q (ix2 r d)) (fun m d => k (ix2 m d)))) (flow (fun d => o (ix2 r d)) (fun m d => v (ix2 m d))) m := by
  have h : ∀ p : FVec Ideal S512x256 .f32, k0_pay26 o p v (ix2 r m) = p (ix2 r m) * (∑ x, o (ix2 r x) * v (ix2 m x) - ∑ x, p (ix2 r x) * ∑ y, o (ix2 r y) * v (ix2 x y)) * Ideal.ofBits FTy.f32 1031798784#32 := by
    intro p; unfold k0_pay26; pointwise
  unfold dB; rw [h]; simp only [pB_apply]; rfl

/-- The gradient of a block's queries. -/
theorem dq_apply (ds : FVec Ideal S512x256 .bf16) (r : Fin 512) (d : Fin 256) : k0_pay1 k ds (ix2 r d) = ∑ m : Fin 256, ds (ix2 r m) * k (ix2 m d) := by
  unfold k0_pay1; pointwise

/-- What a block adds to the gradient of the keys. -/
theorem dk_apply (ds : FVec Ideal S512x256 .bf16) (acc : FVec Ideal S256x256 .f32) (m : Fin 256) (d : Fin 256) :
    k0_pay2 q ds acc (ix2 m d) = acc (ix2 m d) + ∑ r : Fin 512, ds (ix2 r m) * q (ix2 r d) := by
  unfold k0_pay2; pointwise

/-- What a block adds to the gradient of the values. -/
theorem dv_apply (o : FVec Ideal S512x256 .bf16) (p : FVec Ideal S512x256 .f32) (acc : FVec Ideal S256x256 .f32) (m : Fin 256) (d : Fin 256) :
    k0_pay39 o p acc (ix2 m d) = acc (ix2 m d) + ∑ r : Fin 512, p (ix2 r m) * o (ix2 r d) := by
  unfold k0_pay39; pointwise
end

theorem keep_rows (v : FVec Ideal S512x256 .bf16) : k0_pay4 v = v := by
  funext y; unfold k0_pay4; idx_vars y; pointwise
theorem keep_slots (v : FVec Ideal S256x256 .bf16) : k0_pay8 v = v := by
  funext y; unfold k0_pay8; idx_vars y; pointwise

theorem load_rows (a : Memref sig .tc .vmem S512x1024 .bf16) (h : a.IsWhole) (x : Vec Ideal S512x1024 .bf16) (o : ℕ) (inb) :
    a.view.readAt (Elt Ideal) (Rect.unit (s := S512x1024) ![0, o] ![512, 256] inb).toLoadRect (h.unread x) = rows o x := by
  rw [View.readAt_eq_ld, h.read_unread]
  have ho : o + 256 ≤ 1024 := inb 1
  funext y; unfold rows
  refine congrArg x (funext fun a => ?_)
  have h1 : (y 1).val < 256 := (y 1).isLt
  fin_cases a
  · exact Fin.ext (show 0 + 1 * (y 0).val = (y 0).val by omega)
  · exact Fin.ext ((show o + 1 * (y 1).val = o + (y 1).val by omega).trans (Nat.mod_eq_of_lt (by omega)).symm)

theorem load_slots {e : EltTy} (a : Memref sig .tc .vmem S256x2048 e) (h : a.IsWhole) (x : Vec Ideal S256x2048 e) (o : ℕ) (inb) :
    a.view.readAt (Elt Ideal) (Rect.unit (s := S256x2048) ![0, o] ![256, 256] inb).toLoadRect (h.unread x) = slots o x := by
  rw [View.readAt_eq_ld, h.read_unread]
  have ho : o + 256 ≤ 2048 := inb 1
  funext y; unfold slots
  refine congrArg x (funext fun a => ?_)
  have h1 : (y 1).val < 256 := (y 1).isLt
  fin_cases a
  · exact Fin.ext (show 0 + 1 * (y 0).val = (y 0).val by omega)
  · exact Fin.ext ((show o + 1 * (y 1).val = o + (y 1).val by omega).trans (Nat.mod_eq_of_lt (by omega)).symm)

/-- Column `d` of group `g` of a row of 1024. -/
def col (g : ℕ) (d : Fin 256) : Fin 1024 := Fin.ofNat 1024 (256 * g + d.val)
/-- Column `d` of group `g` of a row of 2048. -/
def lane (g : ℕ) (d : Fin 256) : Fin 2048 := Fin.ofNat 2048 (256 * g + d.val)

theorem col_val {g : ℕ} (hg : g < 4) (d : Fin 256) : (col g d).val = 256 * g + d.val := Nat.mod_eq_of_lt (by have := d.isLt; omega)
theorem lane_val {g : ℕ} (hg : g < 8) (d : Fin 256) : (lane g d).val = 256 * g + d.val := Nat.mod_eq_of_lt (by have := d.isLt; omega)

/-- A read off a piece's columns passes it by. -/
theorem pass {n N W : ℕ} {e : EltTy} (V : View sig .tc .vmem ⟨2, ![n, N]⟩ e) (f : BufTy.Contents (Elt Ideal) V.ty) (o : ℕ) (inb) (w : Vec Ideal ⟨2, ![n, W]⟩ e)
    (L : List (View.Piece (Elt Ideal) ⟨2, ![n, N]⟩ e)) (r : Fin n) (x : Fin N) (hx : x.val < o ∨ o + W ≤ x.val) :
    V.read (Elt Ideal) (V.writes (Elt Ideal) f (⟨Rect.unit (s := ⟨2, ![n, N]⟩) ![0, o] ![n, W] inb, w⟩ :: L)) (ix2 r x)
      = V.read (Elt Ideal) (V.writes (Elt Ideal) f L) (ix2 r x) :=
  View.read_writes_cons_unit_of_not_mem V f inb w L (ix2 r x) rfl 1 hx

/-- A read in a piece's columns reads the piece. -/
theorem take {n N W : ℕ} {e : EltTy} (V : View sig .tc .vmem ⟨2, ![n, N]⟩ e) (f : BufTy.Contents (Elt Ideal) V.ty) (o : ℕ) (inb) (w : Vec Ideal ⟨2, ![n, W]⟩ e)
    (L : List (View.Piece (Elt Ideal) ⟨2, ![n, N]⟩ e)) (r : Fin n) (x : Fin N) (d : Fin W) (hx : x.val = o + d.val) :
    V.read (Elt Ideal) (V.writes (Elt Ideal) f (⟨Rect.unit (s := ⟨2, ![n, N]⟩) ![0, o] ![n, W] inb, w⟩ :: L)) (ix2 r x) = w (ix2 r d) :=
  View.read_writes_cons_unit_of_mem V f inb w L (ix2 r x) (ix2 r d) rfl (by
    intro a; fin_cases a
    · exact (Nat.zero_add _).symm
    · exact hx)

/-- Four column groups stored one by one, read back. -/
theorem read4 (V : View sig .tc .vmem S512x1024 .bf16) (f : BufTy.Contents (Elt Ideal) V.ty) (w : ℕ → Vec Ideal S512x256 .bf16) (i3 i2 i1 i0) (g : ℕ) (hg : g < 4) (r : Fin 512) (d : Fin 256) :
    V.read (Elt Ideal) (V.writes (Elt Ideal) f
      [⟨Rect.unit (s := S512x1024) ![0, 768] ![512, 256] i3, w 3⟩, ⟨Rect.unit (s := S512x1024) ![0, 512] ![512, 256] i2, w 2⟩,
       ⟨Rect.unit (s := S512x1024) ![0, 256] ![512, 256] i1, w 1⟩, ⟨Rect.unit (s := S512x1024) ![0, 0] ![512, 256] i0, w 0⟩]) (ix2 r (col g d)) = w g (ix2 r d) := by
  have hd := d.isLt
  have hc := col_val hg d
  rcases (by omega : g = 0 ∨ g = 1 ∨ g = 2 ∨ g = 3) with rfl | rfl | rfl | rfl
  all_goals
    iterate 8 (try first
      | refine (pass V _ _ _ _ _ _ _ (by omega)).trans ?_
      | exact take V _ _ _ _ _ _ _ d (by omega))

/-- Eight column groups stored one by one, read back. -/
theorem read8 (V : View sig .tc .vmem S256x2048 .f32) (f : BufTy.Contents (Elt Ideal) V.ty) (w : ℕ → Vec Ideal S256x256 .f32) (i3 i7 i2 i6 i1 i5 i0 i4) (L : List (View.Piece (Elt Ideal) S256x2048 .f32)) (g : ℕ) (hg : g < 8) (r : Fin 256) (d : Fin 256) :
    V.read (Elt Ideal) (V.writes (Elt Ideal) f
      (⟨Rect.unit (s := S256x2048) ![0, 768] ![256, 256] i3, w 3⟩ :: ⟨Rect.unit (s := S256x2048) ![0, 1792] ![256, 256] i7, w 7⟩ ::
       ⟨Rect.unit (s := S256x2048) ![0, 512] ![256, 256] i2, w 2⟩ :: ⟨Rect.unit (s := S256x2048) ![0, 1536] ![256, 256] i6, w 6⟩ ::
       ⟨Rect.unit (s := S256x2048) ![0, 256] ![256, 256] i1, w 1⟩ :: ⟨Rect.unit (s := S256x2048) ![0, 1280] ![256, 256] i5, w 5⟩ ::
       ⟨Rect.unit (s := S256x2048) ![0, 0] ![256, 256] i0, w 0⟩ :: ⟨Rect.unit (s := S256x2048) ![0, 1024] ![256, 256] i4, w 4⟩ :: L)) (ix2 r (lane g d)) = w g (ix2 r d) := by
  have hd := d.isLt
  have hc := lane_val hg d
  rcases (by omega : g = 0 ∨ g = 1 ∨ g = 2 ∨ g = 3 ∨ g = 4 ∨ g = 5 ∨ g = 6 ∨ g = 7) with rfl | rfl | rfl | rfl | rfl | rfl | rfl | rfl
  all_goals
    iterate 8 (try first
      | refine (pass V _ _ _ _ _ _ _ (by omega)).trans ?_
      | exact take V _ _ _ _ _ _ _ d (by omega))

section
variable (c : Dev nD) (i : grid0.Coords) (arg1 : Memref sig .tc .vmem S512x1024 .bf16) (harg1 : arg1.IsWhole) (arg2 : Memref sig .tc .vmem S256x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S256x2048 .f32) (harg5 : arg5.IsWhole)
    (x0 : Vec Ideal S512x1024 .bf16) (x1 : Vec Ideal S256x2048 .bf16) (x2 : Vec Ideal S512x1024 .bf16)

/-- A head's weights over the block's rows. -/
def headP (g : ℕ) : FVec Ideal S512x256 .f32 := pB (rows (256 * g) x0) (slots (256 * g) x1)
/-- What flows into a head's logits over the block's rows. -/
def headD (g : ℕ) : FVec Ideal S512x256 .bf16 := dB (rows (256 * g) x0) (slots (256 * g) x1) (rows (256 * g) x2) (slots (1024 + 256 * g) x1)

/-- What the block leaves in column group `g` of the gradient of the keys and values. -/
def group (acc : ℕ → FVec Ideal S256x256 .f32) : ℕ → FVec Ideal S256x256 .f32
  | 0 => k0_pay2 (rows 0 x0) (headD x0 x1 x2 0) (acc 0)
  | 1 => k0_pay2 (rows 256 x0) (headD x0 x1 x2 1) (acc 1)
  | 2 => k0_pay2 (rows 512 x0) (headD x0 x1 x2 2) (acc 2)
  | 3 => k0_pay2 (rows 768 x0) (headD x0 x1 x2 3) (acc 3)
  | 4 => k0_pay39 (rows 0 x2) (headP x0 x1 0) (acc 4)
  | 5 => k0_pay39 (rows 256 x2) (headP x0 x1 1) (acc 5)
  | 6 => k0_pay39 (rows 512 x2) (headP x0 x1 2) (acc 6)
  | _ => k0_pay39 (rows 768 x2) (headP x0 x1 3) (acc 7)

/-- What the block leaves in column group `g` of the gradient of the queries. -/
def dqGroup : ℕ → FVec Ideal S512x256 .bf16
  | 0 => k0_pay1 (slots 0 x1) (headD x0 x1 x2 0)
  | 1 => k0_pay1 (slots 256 x1) (headD x0 x1 x2 1)
  | 2 => k0_pay1 (slots 512 x1) (headD x0 x1 x2 2)
  | _ => k0_pay1 (slots 768 x1) (headD x0 x1 x2 3)

theorem keep5 (v : FVec Ideal S512x256 .bf16) : k0_pay5 v = v := keep_rows v
theorem keep6 (v : FVec Ideal S512x256 .bf16) : k0_pay6 v = v := keep_rows v
theorem keep7 (v : FVec Ideal S512x256 .bf16) : k0_pay7 v = v := keep_rows v
theorem keep12 (v : FVec Ideal S512x256 .bf16) : k0_pay12 v = v := keep_rows v
theorem keep13 (v : FVec Ideal S512x256 .bf16) : k0_pay13 v = v := keep_rows v
theorem keep14 (v : FVec Ideal S512x256 .bf16) : k0_pay14 v = v := keep_rows v
theorem keep15 (v : FVec Ideal S512x256 .bf16) : k0_pay15 v = v := keep_rows v
theorem keep9 (v : FVec Ideal S256x256 .bf16) : k0_pay9 v = v := keep_slots v
theorem keep10 (v : FVec Ideal S256x256 .bf16) : k0_pay10 v = v := keep_slots v
theorem keep11 (v : FVec Ideal S256x256 .bf16) : k0_pay11 v = v := keep_slots v

section
variable (q o : FVec Ideal S512x256 .bf16) (k v : FVec Ideal S256x256 .bf16) (ds : FVec Ideal S512x256 .bf16) (p : FVec Ideal S512x256 .f32) (acc : FVec Ideal S256x256 .f32)
theorem same16 : k0_pay17 (k0_pay16 q k) = pB q k := by
  have h : k0_pay16 (F := Ideal) q k = k0_pay20 (F := Ideal) (k0_pay4 q) (k0_pay8 k) := rfl
  rw [h, keep_rows, keep_slots]; rfl
theorem same18 : k0_pay18 q k = pB q k := rfl
theorem same19 : k0_pay19 q k = pB q k := rfl
theorem same22 : k0_pay22 (k0_pay20 q k) (k0_pay21 q k) = pB q k := rfl
theorem same25 : k0_pay25 o (pB q k) v = dB q k o v := rfl
theorem same26 : k0_pay26 o (pB q k) v = dB q k o v := rfl
theorem same28 : k0_pay28 (pB q k) (k0_pay23 o v) (k0_pay27 o (pB q k) v) = dB q k o v := rfl
theorem same29 : k0_pay29 (pB q k) (k0_pay24 o v) = dB q k o v := rfl
theorem same31 : k0_pay31 k ds = k0_pay1 k ds := rfl
theorem same34 : k0_pay34 k ds = k0_pay1 k ds := rfl
theorem same37 : k0_pay37 k ds = k0_pay1 k ds := rfl
theorem same32 : k0_pay32 q ds acc = k0_pay2 q ds acc := rfl
theorem same35 : k0_pay35 q ds acc = k0_pay2 q ds acc := rfl
theorem same38 : k0_pay38 q ds acc = k0_pay2 q ds acc := rfl
theorem same30 : k0_pay30 o p acc = k0_pay39 o p acc := rfl
theorem same33 : k0_pay33 o p acc = k0_pay39 o p acc := rfl
theorem same36 : k0_pay36 o p acc = k0_pay39 o p acc := rfl
end
theorem fold0 : dB (rows 0 x0) (slots 0 x1) (rows 0 x2) (slots 1024 x1) = headD x0 x1 x2 0 := rfl
theorem fold1 : dB (rows 256 x0) (slots 256 x1) (rows 256 x2) (slots 1280 x1) = headD x0 x1 x2 1 := rfl
theorem fold2 : dB (rows 512 x0) (slots 512 x1) (rows 512 x2) (slots 1536 x1) = headD x0 x1 x2 2 := rfl
theorem fold3 : dB (rows 768 x0) (slots 768 x1) (rows 768 x2) (slots 1792 x1) = headD x0 x1 x2 3 := rfl
theorem foldp0 : pB (rows 0 x0) (slots 0 x1) = headP x0 x1 0 := rfl
theorem foldp1 : pB (rows 256 x0) (slots 256 x1) = headP x0 x1 1 := rfl
theorem foldp2 : pB (rows 512 x0) (slots 512 x1) = headP x0 x1 2 := rfl
theorem foldp3 : pB (rows 768 x0) (slots 768 x1) = headP x0 x1 3 := rfl

open kernelRun0_B in
/-- The gradient of the queries after a later block. -/
theorem dq_later (hc0 : ¬cond0_0 i) (xo4 : Vec Ideal S256x2048 .f32) (g : ℕ) (hg : g < 4) (r : Fin 512) (d : Fin 256) :
    out0_B_3 c i arg1 harg1 arg2 harg2 arg3 harg3 arg4 harg4 arg5 harg5 hc0 x0 x1 x2 xo4 (ix2 r (col g d)) = dqGroup x0 x1 x2 g (ix2 r d) := by
  unfold out0_B_3 kernelRun0_B
  dsimp only
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27]
  simp only [keep_rows, keep5, keep6, keep7, keep12, keep13, keep14, keep15, keep_slots, keep9, keep10, keep11, same16, same18, same19, same22, same25, same26, same28, same29, same31, same34, same37, same32, same35, same38, same30, same33, same36, load_rows, load_slots]
  simp only [fold0, fold1, fold2, fold3, foldp0, foldp1, foldp2, foldp3]
  exact read4 VO0_3 _ (dqGroup x0 x1 x2) _ _ _ _ g hg r d

open kernelRun0_B in
/-- The gradient of the keys and values after a later block. -/
theorem dkv_later (hc0 : ¬cond0_0 i) (xo4 : Vec Ideal S256x2048 .f32) (g : ℕ) (hg : g < 8) (r : Fin 256) (d : Fin 256) :
    out0_B_4 c i arg1 harg1 arg2 harg2 arg3 harg3 arg4 harg4 arg5 harg5 hc0 x0 x1 x2 xo4 (ix2 r (lane g d)) = group x0 x1 x2 (fun g => slots (256 * g) xo4) g (ix2 r d) := by
  unfold out0_B_4 kernelRun0_B
  dsimp only
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.v140, sl.v145, sl.v154, sl.v159, sl.v168, sl.v173, sl.v182]
  simp only [keep_rows, keep5, keep6, keep7, keep12, keep13, keep14, keep15, keep_slots, keep9, keep10, keep11, same16, same18, same19, same22, same25, same26, same28, same29, same31, same34, same37, same32, same35, same38, same30, same33, same36, load_rows, load_slots]
  simp only [fold0, fold1, fold2, fold3, foldp0, foldp1, foldp2, foldp3]
  exact read8 VO0_4 _ (group x0 x1 x2 (fun g => slots (256 * g) xo4)) _ _ _ _ _ _ _ _ [] g hg r d

open kernelRun0_A
/-- The gradient of the queries after the first block. -/
theorem dq_first (hc0 : cond0_0 i) (g : ℕ) (hg : g < 4) (r : Fin 512) (d : Fin 256) :
    out0_A_3 c i arg1 harg1 arg2 harg2 arg3 harg3 arg4 harg4 arg5 harg5 hc0 x0 x1 x2 (ix2 r (col g d)) = dqGroup x0 x1 x2 g (ix2 r d) := by
  unfold out0_A_3 kernelRun0_A
  dsimp only
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27]
  simp only [keep_rows, keep5, keep6, keep7, keep12, keep13, keep14, keep15, keep_slots, keep9, keep10, keep11, same16, same18, same19, same22, same25, same26, same28, same29, same31, same34, same37, same32, same35, same38, same30, same33, same36, load_rows, load_slots]
  simp only [fold0, fold1, fold2, fold3, foldp0, foldp1, foldp2, foldp3]
  exact read4 VO0_3 _ (dqGroup x0 x1 x2) _ _ _ _ g hg r d

/-- Before anything is added the gradient of the keys and values reads zero. -/
theorem z1 (V : View sig .tc .vmem S256x2048 .f32) (f : BufTy.Contents (Elt Ideal) V.ty) (r : Fin 256) (x : Fin 2048) :
    V.read (Elt Ideal) (V.writes (Elt Ideal) f (sl.H4_1)) (ix2 r x) = (0 : EReal) := by
  unfold sl.H4_1
  refine (take V f 0 _ _ _ r x x (Nat.zero_add _).symm).trans ?_
  unfold_payloads
  pointwise

theorem z2 (V : View sig .tc .vmem S256x2048 .f32) (f : BufTy.Contents (Elt Ideal) V.ty) (r : Fin 256) (x : Fin 2048) (hx : (x.val < 1024 ∨ 1280 ≤ x.val)) :
    V.read (Elt Ideal) (V.writes (Elt Ideal) f (sl.H4_2 c arg1 harg1 arg2 harg2 arg3 harg3 arg5 x0 x1 x2)) (ix2 r x) = (0 : EReal) := by
  unfold sl.H4_2
  refine (pass V f _ _ _ _ r x (by omega)).trans ?_
  exact z1 V f r x

theorem z3 (V : View sig .tc .vmem S256x2048 .f32) (f : BufTy.Contents (Elt Ideal) V.ty) (r : Fin 256) (x : Fin 2048) (hx : (x.val < 1024 ∨ 1280 ≤ x.val) ∧ (x.val < 0 ∨ 256 ≤ x.val)) :
    V.read (Elt Ideal) (V.writes (Elt Ideal) f (sl.H4_3 c arg1 harg1 arg2 harg2 arg3 harg3 arg5 x0 x1 x2)) (ix2 r x) = (0 : EReal) := by
  unfold sl.H4_3
  refine (pass V f _ _ _ _ r x (by omega)).trans ?_
  exact z2 c arg1 harg1 arg2 harg2 arg3 harg3 arg5 x0 x1 x2 V f r x (by omega)

theorem z4 (V : View sig .tc .vmem S256x2048 .f32) (f : BufTy.Contents (Elt Ideal) V.ty) (r : Fin 256) (x : Fin 2048) (hx : (x.val < 1024 ∨ 1280 ≤ x.val) ∧ (x.val < 0 ∨ 256 ≤ x.val) ∧ (x.val < 1280 ∨ 1536 ≤ x.val)) :
    V.read (Elt Ideal) (V.writes (Elt Ideal) f (sl.H4_4 c arg1 harg1 arg2 harg2 arg3 harg3 arg5 x0 x1 x2)) (ix2 r x) = (0 : EReal) := by
  unfold sl.H4_4
  refine (pass V f _ _ _ _ r x (by omega)).trans ?_
  exact z3 c arg1 harg1 arg2 harg2 arg3 harg3 arg5 x0 x1 x2 V f r x (by omega)

theorem z5 (V : View sig .tc .vmem S256x2048 .f32) (f : BufTy.Contents (Elt Ideal) V.ty) (r : Fin 256) (x : Fin 2048) (hx : (x.val < 1024 ∨ 1280 ≤ x.val) ∧ (x.val < 0 ∨ 256 ≤ x.val) ∧ (x.val < 1280 ∨ 1536 ≤ x.val) ∧ (x.val < 256 ∨ 512 ≤ x.val)) :
    V.read (Elt Ideal) (V.writes (Elt Ideal) f (sl.H4_5 c arg1 harg1 arg2 harg2 arg3 harg3 arg5 x0 x1 x2)) (ix2 r x) = (0 : EReal) := by
  unfold sl.H4_5
  refine (pass V f _ _ _ _ r x (by omega)).trans ?_
  exact z4 c arg1 harg1 arg2 harg2 arg3 harg3 arg5 x0 x1 x2 V f r x (by omega)

theorem z6 (V : View sig .tc .vmem S256x2048 .f32) (f : BufTy.Contents (Elt Ideal) V.ty) (r : Fin 256) (x : Fin 2048) (hx : (x.val < 1024 ∨ 1280 ≤ x.val) ∧ (x.val < 0 ∨ 256 ≤ x.val) ∧ (x.val < 1280 ∨ 1536 ≤ x.val) ∧ (x.val < 256 ∨ 512 ≤ x.val) ∧ (x.val < 1536 ∨ 1792 ≤ x.val)) :
    V.read (Elt Ideal) (V.writes (Elt Ideal) f (sl.H4_6 c arg1 harg1 arg2 harg2 arg3 harg3 arg5 x0 x1 x2)) (ix2 r x) = (0 : EReal) := by
  unfold sl.H4_6
  refine (pass V f _ _ _ _ r x (by omega)).trans ?_
  exact z5 c arg1 harg1 arg2 harg2 arg3 harg3 arg5 x0 x1 x2 V f r x (by omega)

theorem z7 (V : View sig .tc .vmem S256x2048 .f32) (f : BufTy.Contents (Elt Ideal) V.ty) (r : Fin 256) (x : Fin 2048) (hx : (x.val < 1024 ∨ 1280 ≤ x.val) ∧ (x.val < 0 ∨ 256 ≤ x.val) ∧ (x.val < 1280 ∨ 1536 ≤ x.val) ∧ (x.val < 256 ∨ 512 ≤ x.val) ∧ (x.val < 1536 ∨ 1792 ≤ x.val) ∧ (x.val < 512 ∨ 768 ≤ x.val)) :
    V.read (Elt Ideal) (V.writes (Elt Ideal) f (sl.H4_7 c arg1 harg1 arg2 harg2 arg3 harg3 arg5 x0 x1 x2)) (ix2 r x) = (0 : EReal) := by
  unfold sl.H4_7
  refine (pass V f _ _ _ _ r x (by omega)).trans ?_
  exact z6 c arg1 harg1 arg2 harg2 arg3 harg3 arg5 x0 x1 x2 V f r x (by omega)

theorem z8 (V : View sig .tc .vmem S256x2048 .f32) (f : BufTy.Contents (Elt Ideal) V.ty) (r : Fin 256) (x : Fin 2048) (hx : (x.val < 1024 ∨ 1280 ≤ x.val) ∧ (x.val < 0 ∨ 256 ≤ x.val) ∧ (x.val < 1280 ∨ 1536 ≤ x.val) ∧ (x.val < 256 ∨ 512 ≤ x.val) ∧ (x.val < 1536 ∨ 1792 ≤ x.val) ∧ (x.val < 512 ∨ 768 ≤ x.val) ∧ (x.val < 1792 ∨ 2048 ≤ x.val)) :
    V.read (Elt Ideal) (V.writes (Elt Ideal) f (sl.H4_8 c arg1 harg1 arg2 harg2 arg3 harg3 arg5 x0 x1 x2)) (ix2 r x) = (0 : EReal) := by
  unfold sl.H4_8
  refine (pass V f _ _ _ _ r x (by omega)).trans ?_
  exact z7 c arg1 harg1 arg2 harg2 arg3 harg3 arg5 x0 x1 x2 V f r x (by omega)

theorem load_z1 (inb) : arg5.view.readCov (sl.H4_1 (F := Ideal)) (Rect.unit (s := S256x2048) ![0, 1024] ![256, 256] inb).toLoadRect = fun _ => (0 : EReal) := by
  funext y
  have h1 : (y 1).val < 256 := (y 1).isLt
  refine Eq.trans (congrArg (arg5.view.read (Elt Ideal) (arg5.view.writes (Elt Ideal) arg5.view.junk (sl.H4_1 (F := Ideal)))) (?_ : _ = ix2 (y 0) (lane 4 (y 1)))) ?_
  · funext a; fin_cases a
    · exact Fin.ext (show 0 + 1 * (y 0).val = (y 0).val by omega)
    · exact Fin.ext ((show 1024 + 1 * (y 1).val = 256 * 4 + (y 1).val by omega).trans (lane_val (by decide) _).symm)
  · have h2 : (lane 4 (y 1)).val = 256 * 4 + (y 1).val := lane_val (by decide) _
    exact z1 arg5.view arg5.view.junk (y 0) (lane 4 (y 1))

theorem load_z2 (inb) : arg5.view.readCov (sl.H4_2 c arg1 harg1 arg2 harg2 arg3 harg3 arg5 x0 x1 x2) (Rect.unit (s := S256x2048) ![0, 0] ![256, 256] inb).toLoadRect = fun _ => (0 : EReal) := by
  funext y
  have h1 : (y 1).val < 256 := (y 1).isLt
  refine Eq.trans (congrArg (arg5.view.read (Elt Ideal) (arg5.view.writes (Elt Ideal) arg5.view.junk (sl.H4_2 c arg1 harg1 arg2 harg2 arg3 harg3 arg5 x0 x1 x2))) (?_ : _ = ix2 (y 0) (lane 0 (y 1)))) ?_
  · funext a; fin_cases a
    · exact Fin.ext (show 0 + 1 * (y 0).val = (y 0).val by omega)
    · exact Fin.ext ((show 0 + 1 * (y 1).val = 256 * 0 + (y 1).val by omega).trans (lane_val (by decide) _).symm)
  · have h2 : (lane 0 (y 1)).val = 256 * 0 + (y 1).val := lane_val (by decide) _
    exact z2 c arg1 harg1 arg2 harg2 arg3 harg3 arg5 x0 x1 x2 arg5.view arg5.view.junk (y 0) (lane 0 (y 1)) (by omega)

theorem load_z3 (inb) : arg5.view.readCov (sl.H4_3 c arg1 harg1 arg2 harg2 arg3 harg3 arg5 x0 x1 x2) (Rect.unit (s := S256x2048) ![0, 1280] ![256, 256] inb).toLoadRect = fun _ => (0 : EReal) := by
  funext y
  have h1 : (y 1).val < 256 := (y 1).isLt
  refine Eq.trans (congrArg (arg5.view.read (Elt Ideal) (arg5.view.writes (Elt Ideal) arg5.view.junk (sl.H4_3 c arg1 harg1 arg2 harg2 arg3 harg3 arg5 x0 x1 x2))) (?_ : _ = ix2 (y 0) (lane 5 (y 1)))) ?_
  · funext a; fin_cases a
    · exact Fin.ext (show 0 + 1 * (y 0).val = (y 0).val by omega)
    · exact Fin.ext ((show 1280 + 1 * (y 1).val = 256 * 5 + (y 1).val by omega).trans (lane_val (by decide) _).symm)
  · have h2 : (lane 5 (y 1)).val = 256 * 5 + (y 1).val := lane_val (by decide) _
    exact z3 c arg1 harg1 arg2 harg2 arg3 harg3 arg5 x0 x1 x2 arg5.view arg5.view.junk (y 0) (lane 5 (y 1)) (by omega)

theorem load_z4 (inb) : arg5.view.readCov (sl.H4_4 c arg1 harg1 arg2 harg2 arg3 harg3 arg5 x0 x1 x2) (Rect.unit (s := S256x2048) ![0, 256] ![256, 256] inb).toLoadRect = fun _ => (0 : EReal) := by
  funext y
  have h1 : (y 1).val < 256 := (y 1).isLt
  refine Eq.trans (congrArg (arg5.view.read (Elt Ideal) (arg5.view.writes (Elt Ideal) arg5.view.junk (sl.H4_4 c arg1 harg1 arg2 harg2 arg3 harg3 arg5 x0 x1 x2))) (?_ : _ = ix2 (y 0) (lane 1 (y 1)))) ?_
  · funext a; fin_cases a
    · exact Fin.ext (show 0 + 1 * (y 0).val = (y 0).val by omega)
    · exact Fin.ext ((show 256 + 1 * (y 1).val = 256 * 1 + (y 1).val by omega).trans (lane_val (by decide) _).symm)
  · have h2 : (lane 1 (y 1)).val = 256 * 1 + (y 1).val := lane_val (by decide) _
    exact z4 c arg1 harg1 arg2 harg2 arg3 harg3 arg5 x0 x1 x2 arg5.view arg5.view.junk (y 0) (lane 1 (y 1)) (by omega)

theorem load_z5 (inb) : arg5.view.readCov (sl.H4_5 c arg1 harg1 arg2 harg2 arg3 harg3 arg5 x0 x1 x2) (Rect.unit (s := S256x2048) ![0, 1536] ![256, 256] inb).toLoadRect = fun _ => (0 : EReal) := by
  funext y
  have h1 : (y 1).val < 256 := (y 1).isLt
  refine Eq.trans (congrArg (arg5.view.read (Elt Ideal) (arg5.view.writes (Elt Ideal) arg5.view.junk (sl.H4_5 c arg1 harg1 arg2 harg2 arg3 harg3 arg5 x0 x1 x2))) (?_ : _ = ix2 (y 0) (lane 6 (y 1)))) ?_
  · funext a; fin_cases a
    · exact Fin.ext (show 0 + 1 * (y 0).val = (y 0).val by omega)
    · exact Fin.ext ((show 1536 + 1 * (y 1).val = 256 * 6 + (y 1).val by omega).trans (lane_val (by decide) _).symm)
  · have h2 : (lane 6 (y 1)).val = 256 * 6 + (y 1).val := lane_val (by decide) _
    exact z5 c arg1 harg1 arg2 harg2 arg3 harg3 arg5 x0 x1 x2 arg5.view arg5.view.junk (y 0) (lane 6 (y 1)) (by omega)

theorem load_z6 (inb) : arg5.view.readCov (sl.H4_6 c arg1 harg1 arg2 harg2 arg3 harg3 arg5 x0 x1 x2) (Rect.unit (s := S256x2048) ![0, 512] ![256, 256] inb).toLoadRect = fun _ => (0 : EReal) := by
  funext y
  have h1 : (y 1).val < 256 := (y 1).isLt
  refine Eq.trans (congrArg (arg5.view.read (Elt Ideal) (arg5.view.writes (Elt Ideal) arg5.view.junk (sl.H4_6 c arg1 harg1 arg2 harg2 arg3 harg3 arg5 x0 x1 x2))) (?_ : _ = ix2 (y 0) (lane 2 (y 1)))) ?_
  · funext a; fin_cases a
    · exact Fin.ext (show 0 + 1 * (y 0).val = (y 0).val by omega)
    · exact Fin.ext ((show 512 + 1 * (y 1).val = 256 * 2 + (y 1).val by omega).trans (lane_val (by decide) _).symm)
  · have h2 : (lane 2 (y 1)).val = 256 * 2 + (y 1).val := lane_val (by decide) _
    exact z6 c arg1 harg1 arg2 harg2 arg3 harg3 arg5 x0 x1 x2 arg5.view arg5.view.junk (y 0) (lane 2 (y 1)) (by omega)

theorem load_z7 (inb) : arg5.view.readCov (sl.H4_7 c arg1 harg1 arg2 harg2 arg3 harg3 arg5 x0 x1 x2) (Rect.unit (s := S256x2048) ![0, 1792] ![256, 256] inb).toLoadRect = fun _ => (0 : EReal) := by
  funext y
  have h1 : (y 1).val < 256 := (y 1).isLt
  refine Eq.trans (congrArg (arg5.view.read (Elt Ideal) (arg5.view.writes (Elt Ideal) arg5.view.junk (sl.H4_7 c arg1 harg1 arg2 harg2 arg3 harg3 arg5 x0 x1 x2))) (?_ : _ = ix2 (y 0) (lane 7 (y 1)))) ?_
  · funext a; fin_cases a
    · exact Fin.ext (show 0 + 1 * (y 0).val = (y 0).val by omega)
    · exact Fin.ext ((show 1792 + 1 * (y 1).val = 256 * 7 + (y 1).val by omega).trans (lane_val (by decide) _).symm)
  · have h2 : (lane 7 (y 1)).val = 256 * 7 + (y 1).val := lane_val (by decide) _
    exact z7 c arg1 harg1 arg2 harg2 arg3 harg3 arg5 x0 x1 x2 arg5.view arg5.view.junk (y 0) (lane 7 (y 1)) (by omega)

theorem load_z8 (inb) : arg5.view.readCov (sl.H4_8 c arg1 harg1 arg2 harg2 arg3 harg3 arg5 x0 x1 x2) (Rect.unit (s := S256x2048) ![0, 768] ![256, 256] inb).toLoadRect = fun _ => (0 : EReal) := by
  funext y
  have h1 : (y 1).val < 256 := (y 1).isLt
  refine Eq.trans (congrArg (arg5.view.read (Elt Ideal) (arg5.view.writes (Elt Ideal) arg5.view.junk (sl.H4_8 c arg1 harg1 arg2 harg2 arg3 harg3 arg5 x0 x1 x2))) (?_ : _ = ix2 (y 0) (lane 3 (y 1)))) ?_
  · funext a; fin_cases a
    · exact Fin.ext (show 0 + 1 * (y 0).val = (y 0).val by omega)
    · exact Fin.ext ((show 768 + 1 * (y 1).val = 256 * 3 + (y 1).val by omega).trans (lane_val (by decide) _).symm)
  · have h2 : (lane 3 (y 1)).val = 256 * 3 + (y 1).val := lane_val (by decide) _
    exact z8 c arg1 harg1 arg2 harg2 arg3 harg3 arg5 x0 x1 x2 arg5.view arg5.view.junk (y 0) (lane 3 (y 1)) (by omega)

/-- The gradient of the keys and values after the first block. -/
theorem dkv_first (hc0 : cond0_0 i) (g : ℕ) (hg : g < 8) (r : Fin 256) (d : Fin 256) :
    out0_A_4 c i arg1 harg1 arg2 harg2 arg3 harg3 arg4 harg4 arg5 harg5 hc0 x0 x1 x2 (ix2 r (lane g d)) = group x0 x1 x2 (fun _ _ => (0 : EReal)) g (ix2 r d) := by
  unfold out0_A_4 kernelRun0_A
  dsimp only
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.v131, sl.v140, sl.v145, sl.v154, sl.v159, sl.v168, sl.v173, sl.v182]
  simp only [keep_rows, keep5, keep6, keep7, keep12, keep13, keep14, keep15, keep_slots, keep9, keep10, keep11, same16, same18, same19, same22, same25, same26, same28, same29, same31, same34, same37, same32, same35, same38, same30, same33, same36, load_rows, load_slots]
  simp only [fold0, fold1, fold2, fold3, foldp0, foldp1, foldp2, foldp3]
  rw [load_z8]
  unfold sl.H4_8
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.v131, sl.v140, sl.v145, sl.v154, sl.v159, sl.v168, sl.v173, sl.v182, keep_rows, keep5, keep6, keep7, keep12, keep13, keep14, keep15, keep_slots, keep9, keep10, keep11, same16, same18, same19, same22, same25, same26, same28, same29, same31, same34, same37, same32, same35, same38, same30, same33, same36, load_rows, load_slots]
  simp only [fold0, fold1, fold2, fold3, foldp0, foldp1, foldp2, foldp3]
  rw [load_z7]
  unfold sl.H4_7
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.v131, sl.v140, sl.v145, sl.v154, sl.v159, sl.v168, sl.v173, sl.v182, keep_rows, keep5, keep6, keep7, keep12, keep13, keep14, keep15, keep_slots, keep9, keep10, keep11, same16, same18, same19, same22, same25, same26, same28, same29, same31, same34, same37, same32, same35, same38, same30, same33, same36, load_rows, load_slots]
  simp only [fold0, fold1, fold2, fold3, foldp0, foldp1, foldp2, foldp3]
  rw [load_z6]
  unfold sl.H4_6
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.v131, sl.v140, sl.v145, sl.v154, sl.v159, sl.v168, sl.v173, sl.v182, keep_rows, keep5, keep6, keep7, keep12, keep13, keep14, keep15, keep_slots, keep9, keep10, keep11, same16, same18, same19, same22, same25, same26, same28, same29, same31, same34, same37, same32, same35, same38, same30, same33, same36, load_rows, load_slots]
  simp only [fold0, fold1, fold2, fold3, foldp0, foldp1, foldp2, foldp3]
  rw [load_z5]
  unfold sl.H4_5
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.v131, sl.v140, sl.v145, sl.v154, sl.v159, sl.v168, sl.v173, sl.v182, keep_rows, keep5, keep6, keep7, keep12, keep13, keep14, keep15, keep_slots, keep9, keep10, keep11, same16, same18, same19, same22, same25, same26, same28, same29, same31, same34, same37, same32, same35, same38, same30, same33, same36, load_rows, load_slots]
  simp only [fold0, fold1, fold2, fold3, foldp0, foldp1, foldp2, foldp3]
  rw [load_z4]
  unfold sl.H4_4
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.v131, sl.v140, sl.v145, sl.v154, sl.v159, sl.v168, sl.v173, sl.v182, keep_rows, keep5, keep6, keep7, keep12, keep13, keep14, keep15, keep_slots, keep9, keep10, keep11, same16, same18, same19, same22, same25, same26, same28, same29, same31, same34, same37, same32, same35, same38, same30, same33, same36, load_rows, load_slots]
  simp only [fold0, fold1, fold2, fold3, foldp0, foldp1, foldp2, foldp3]
  rw [load_z3]
  unfold sl.H4_3
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.v131, sl.v140, sl.v145, sl.v154, sl.v159, sl.v168, sl.v173, sl.v182, keep_rows, keep5, keep6, keep7, keep12, keep13, keep14, keep15, keep_slots, keep9, keep10, keep11, same16, same18, same19, same22, same25, same26, same28, same29, same31, same34, same37, same32, same35, same38, same30, same33, same36, load_rows, load_slots]
  simp only [fold0, fold1, fold2, fold3, foldp0, foldp1, foldp2, foldp3]
  rw [load_z2]
  unfold sl.H4_2
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.v131, sl.v140, sl.v145, sl.v154, sl.v159, sl.v168, sl.v173, sl.v182, keep_rows, keep5, keep6, keep7, keep12, keep13, keep14, keep15, keep_slots, keep9, keep10, keep11, same16, same18, same19, same22, same25, same26, same28, same29, same31, same34, same37, same32, same35, same38, same30, same33, same36, load_rows, load_slots]
  simp only [fold0, fold1, fold2, fold3, foldp0, foldp1, foldp2, foldp3]
  rw [load_z1]
  exact read8 VO0_4 _ (group x0 x1 x2 (fun _ _ => (0 : EReal))) _ _ _ _ _ _ _ _ _ g hg r d
end
end Cert.XattnIdeal.Hand
-- ==== Proof.XattnArrays.lean ====
module

public import proofs.«01_k».proof.Proof.XattnBlock
public import proofs.«01_k».proof.Proof.FoxArrays

/-! The gradients of the queries and of the keys and values as whole arrays. -/

@[expose] public section
set_option maxRecDepth 16384
noncomputable section
namespace Cert.XattnIdeal.Hand
open Cert.XattnIdeal Cert.XattnIdeal.Gen Cert.XattnIdeal.Value
open Idealize.ShloMosaic Idealize.ShloMosaic.TcCoe Idealize.ShloMosaic.Tactic
open Idealize.ShloMosaic.Pipeline (Dat)
open Cert.FoxIdeal.Hand (rowAt rowAt_val sum_rows row_split)

section
variable (Q : Vec Ideal S4096x1024 .bf16) (M : Vec Ideal S256x2048 .bf16) (D : Vec Ideal S4096x1024 .bf16)

/-- Row `R` of head `g`. -/
def qRow (g : ℕ) (R : Fin 4096) (d : Fin 256) : EReal := Q (ix2 R (col g d))
/-- The keys of head `g`. -/
def kMat (g : ℕ) (m d : Fin 256) : EReal := M (ix2 m (lane g d))
/-- The values of head `g`. -/
def vMat (g : ℕ) (m d : Fin 256) : EReal := M (ix2 m (Fin.ofNat 2048 (1024 + 256 * g + d.val)))
/-- Row `R`'s weights in head `g`. -/
def pAt (g : ℕ) (R : Fin 4096) (m : Fin 256) : EReal := prob (logit (qRow Q g R) (kMat M g)) m
/-- What flows into row `R`'s logits in head `g`. -/
def dAt (g : ℕ) (R : Fin 4096) (m : Fin 256) : EReal := dlogit (fun x => pAt Q M g R x) (flow (qRow D g R) (vMat M g)) m

/-- The gradient of the queries. -/
def dqOf (g : ℕ) (R : Fin 4096) (d : Fin 256) : EReal := ∑ m : Fin 256, dAt Q M D g R m * kMat M g m d
/-- Row `R`'s part of column group `g` of the gradient of the keys and values. -/
def dkvRow (g : ℕ) (m d : Fin 256) (R : Fin 4096) : EReal :=
  if g < 4 then dAt Q M D g R m * qRow Q g R d else pAt Q M (g - 4) R m * qRow D (g - 4) R d

/-- The gradient of the queries as an array. -/
def dqArr : Vec Ideal S4096x1024 .bf16 := fun i => dqOf Q M D ((i 1).val / 256) (i 0) (Fin.ofNat 256 (i 1).val)
/-- The gradient of the keys and values as an array. -/
def dkvArr : Vec Ideal S256x2048 .f32 := fun i => ∑ R : Fin 4096, dkvRow Q M D ((i 1).val / 256) (i 0) (Fin.ofNat 256 (i 1).val) R

theorem col_split (x : Fin 1024) : x = col (x.val / 256) (Fin.ofNat 256 x.val) ∧ x.val / 256 < 4 := by
  have := x.isLt
  refine ⟨Fin.ext ?_, by omega⟩
  rw [col_val (by omega)]; show x.val = 256 * (x.val / 256) + x.val % 256; omega
theorem lane_split (x : Fin 2048) : x = lane (x.val / 256) (Fin.ofNat 256 x.val) ∧ x.val / 256 < 8 := by
  have := x.isLt
  refine ⟨Fin.ext ?_, by omega⟩
  rw [lane_val (by omega)]; show x.val = 256 * (x.val / 256) + x.val % 256; omega
end

section
variable (x0 : Vec Ideal S512x1024 .bf16) (x1 : Vec Ideal S256x2048 .bf16) (x2 : Vec Ideal S512x1024 .bf16)
  (Q : Vec Ideal S4096x1024 .bf16) (M : Vec Ideal S256x2048 .bf16) (D : Vec Ideal S4096x1024 .bf16) (b : ℕ)
  (h0 : ∀ r x, x0 (ix2 r x) = Q (ix2 (rowAt b r) x)) (h1 : x1 = M) (h2 : ∀ r x, x2 (ix2 r x) = D (ix2 (rowAt b r) x))

include h0 h1 in
theorem headP_eq (g : ℕ) (r : Fin 512) (m : Fin 256) : headP x0 x1 g (ix2 r m) = pAt Q M g (rowAt b r) m := by
  unfold headP
  rw [pB_apply]
  subst h1
  exact congrArg (fun q => prob (logit q (kMat x1 g)) m) (funext fun d => h0 r (col g d))

include h0 h1 h2 in
theorem headD_eq (g : ℕ) (r : Fin 512) (m : Fin 256) : headD x0 x1 x2 g (ix2 r m) = dAt Q M D g (rowAt b r) m := by
  unfold headD
  rw [dB_apply]
  subst h1
  exact congrArg₂ (fun q o => dlogit (prob (logit q (kMat x1 g))) (flow o (vMat x1 g)) m) (funext fun d => h0 r (col g d)) (funext fun d => h2 r (col g d))

include h0 h1 h2 in
/-- A block's part of the gradient of the queries. -/
theorem dqGroup_eq (g : ℕ) (hg : g < 4) (r : Fin 512) (d : Fin 256) : dqGroup x0 x1 x2 g (ix2 r d) = dqOf Q M D g (rowAt b r) d := by
  have key : ∀ g, k0_pay1 (slots (256 * g) x1) (headD x0 x1 x2 g) (ix2 r d) = dqOf Q M D g (rowAt b r) d := by
    intro g
    rw [dq_apply]
    simp only [headD_eq x0 x1 x2 Q M D b h0 h1 h2]
    subst h1
    rfl
  rcases (by omega : g = 0 ∨ g = 1 ∨ g = 2 ∨ g = 3) with rfl | rfl | rfl | rfl
  · exact key 0
  · exact key 1
  · exact key 2
  · exact key 3

include h0 h1 h2 in
/-- A block's part of the gradient of the keys and values. -/
theorem group_eq (acc : ℕ → FVec Ideal S256x256 .f32) (g : ℕ) (hg : g < 8) (m d : Fin 256) :
    group x0 x1 x2 acc g (ix2 m d) = acc g (ix2 m d) + ∑ r : Fin 512, dkvRow Q M D g m d (rowAt b r) := by
  have keyK : ∀ g, g < 4 → k0_pay2 (rows (256 * g) x0) (headD x0 x1 x2 g) (acc g) (ix2 m d) = acc g (ix2 m d) + ∑ r : Fin 512, dkvRow Q M D g m d (rowAt b r) := by
    intro g hg
    rw [dk_apply]
    simp only [headD_eq x0 x1 x2 Q M D b h0 h1 h2, dkvRow, if_pos hg]
    exact congrArg (acc g (ix2 m d) + ·) (Finset.sum_congr rfl fun r _ => congrArg (dAt Q M D g (rowAt b r) m * ·) (h0 r (col g d)))
  have keyV : ∀ g, k0_pay39 (rows (256 * g) x2) (headP x0 x1 g) (acc (g + 4)) (ix2 m d) = acc (g + 4) (ix2 m d) + ∑ r : Fin 512, dkvRow Q M D (g + 4) m d (rowAt b r) := by
    intro g
    rw [dv_apply]
    simp only [headP_eq x0 x1 Q M b h0 h1, dkvRow, if_neg (show ¬g + 4 < 4 by omega), Nat.add_sub_cancel]
    exact congrArg (acc (g + 4) (ix2 m d) + ·) (Finset.sum_congr rfl fun r _ => congrArg (pAt Q M g (rowAt b r) m * ·) (h2 r (col g d)))
  rcases (by omega : g = 0 ∨ g = 1 ∨ g = 2 ∨ g = 3 ∨ g = 4 ∨ g = 5 ∨ g = 6 ∨ g = 7) with rfl | rfl | rfl | rfl | rfl | rfl | rfl | rfl
  · exact keyK 0 (by decide)
  · exact keyK 1 (by decide)
  · exact keyK 2 (by decide)
  · exact keyK 3 (by decide)
  · exact keyV 0
  · exact keyV 1
  · exact keyV 2
  · exact keyV 3
end

variable (m : (ℓ : Loc nD τ sig) → Buf (Elt Ideal) ℓ)

theorem lt8 (t : Fin cfg0.N) : t.val < 8 := lt_of_lt_of_eq t.isLt (show cfg0.N = 8 from N_0)

theorem pos_q (t : Fin cfg0.N) : win0_0.index t (0 : Fin 2) = t.val ∧ win0_0.index t (1 : Fin 2) = 0 :=
  (by decide +kernel : ∀ t : Fin grid0.N, win0_0.index t (0 : Fin 2) = t.val ∧ win0_0.index t (1 : Fin 2) = 0) t
theorem pos_kv (t : Fin cfg0.N) : win0_1.index t (0 : Fin 2) = 0 ∧ win0_1.index t (1 : Fin 2) = 0 :=
  (by decide +kernel : ∀ t : Fin grid0.N, win0_1.index t (0 : Fin 2) = 0 ∧ win0_1.index t (1 : Fin 2) = 0) t
theorem pos_do (t : Fin cfg0.N) : win0_2.index t (0 : Fin 2) = t.val ∧ win0_2.index t (1 : Fin 2) = 0 :=
  (by decide +kernel : ∀ t : Fin grid0.N, win0_2.index t (0 : Fin 2) = t.val ∧ win0_2.index t (1 : Fin 2) = 0) t
theorem pos_dq (t : Fin cfg0.N) : win0_3.index t (0 : Fin 2) = t.val ∧ win0_3.index t (1 : Fin 2) = 0 :=
  (by decide +kernel : ∀ t : Fin grid0.N, win0_3.index t (0 : Fin 2) = t.val ∧ win0_3.index t (1 : Fin 2) = 0) t
theorem pos_dkv (t : Fin cfg0.N) : win0_4.index t (0 : Fin 2) = 0 ∧ win0_4.index t (1 : Fin 2) = 0 :=
  (by decide +kernel : ∀ t : Fin grid0.N, win0_4.index t (0 : Fin 2) = 0 ∧ win0_4.index t (1 : Fin 2) = 0) t

/-- A block of 512 rows: where its element lies in the array. -/
theorem emb_blk {a d : ℕ} (t : Fin cfg0.N) (r : Fin 512) (l : Fin 1024) (ha : a = t.val) (hd : d = 0)
    (i : S4096x1024.Idx) (h0 : (i 0).val = a * 512 + 1 * r.val) (h1 : (i 1).val = d * 1024 + 1 * l.val) : i = ix2 (rowAt t.val r) l := by
  subst ha hd
  funext x; apply Fin.ext
  match x with
  | ⟨0, _⟩ => exact h0.trans ((by omega : _ = 512 * t.val + r.val).trans (rowAt_val (lt8 t) r).symm)
  | ⟨1, _⟩ => exact h1.trans (by show _ = l.val; omega)

/-- The memory is one block. -/
theorem emb_all {a d : ℕ} (r : Fin 256) (l : Fin 2048) (ha : a = 0) (hd : d = 0)
    (i : S256x2048.Idx) (h0 : (i 0).val = a * 256 + 1 * r.val) (h1 : (i 1).val = d * 2048 + 1 * l.val) : i = ix2 r l := by
  subst ha hd
  funext x; apply Fin.ext
  match x with
  | ⟨0, _⟩ => exact h0.trans (by show _ = r.val; omega)
  | ⟨1, _⟩ => exact h1.trans (by show _ = l.val; omega)

variable (c : Dev nD)

theorem iblk_q (t : Fin cfg0.N) (r : Fin 512) (l : Fin 1024) : iblk m c 0 t (ix2 r l) = (V m c main_v0 : Vec Ideal S4096x1024 .bf16) (ix2 (rowAt t.val r) l) :=
  congrArg (V m c main_v0 : Vec Ideal S4096x1024 .bf16) (emb_blk t r l (pos_q t).1 (pos_q t).2 (((cfg0.win 0).blk t).view.emb (ix2 r l)) rfl rfl)
theorem iblk_kv (t : Fin cfg0.N) : iblk m c 1 t = (V m c main_v1 : Vec Ideal S256x2048 .bf16) := by
  funext y; idx_vars y
  exact congrArg (V m c main_v1 : Vec Ideal S256x2048 .bf16) (emb_all y0 y1 (pos_kv t).1 (pos_kv t).2 (((cfg0.win 1).blk t).view.emb (ix2 y0 y1)) rfl rfl)
theorem iblk_do (t : Fin cfg0.N) (r : Fin 512) (l : Fin 1024) : iblk m c 2 t (ix2 r l) = (V m c main_v2 : Vec Ideal S4096x1024 .bf16) (ix2 (rowAt t.val r) l) :=
  congrArg (V m c main_v2 : Vec Ideal S4096x1024 .bf16) (emb_blk t r l (pos_do t).1 (pos_do t).2 (((cfg0.win 2).blk t).view.emb (ix2 r l)) rfl rfl)
theorem emb_dq (t : Fin cfg0.N) (r : Fin 512) (l : Fin 1024) : ((cfg0.win 3).blk t).view.emb (ix2 r l) = (ix2 (rowAt t.val r) l : S4096x1024.Idx) :=
  emb_blk t r l (pos_dq t).1 (pos_dq t).2 (((cfg0.win 3).blk t).view.emb (ix2 r l)) rfl rfl
theorem emb_dkv (t : Fin cfg0.N) (r : Fin 256) (l : Fin 2048) : ((cfg0.win 4).blk t).view.emb (ix2 r l) = (ix2 r l : S256x2048.Idx) :=
  emb_all r l (pos_dkv t).1 (pos_dkv t).2 (((cfg0.win 4).blk t).view.emb (ix2 r l)) rfl rfl

theorem step_dq_first (t : Fin cfg0.N) (h0 : t.val % 8 = 0) (g : ℕ) (hg : g < 4) (r : Fin 512) (d : Fin 256) :
    (outsAt0 m c t.val t.isLt).1 (ix2 r (col g d)) = dqGroup (iblk m c 0 t) (iblk m c 1 t) (iblk m c 2 t) g (ix2 r d) :=
  (congrArg (fun z => z.1 (ix2 r (col g d))) (outsAt0_A m c t h0)).trans
    (dq_first c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) ((hcond0_0 t).mpr h0) g hg r d)
set_option maxHeartbeats 2000000 in
theorem step_dq_later (t : Fin cfg0.N) (h0 : ¬t.val % 8 = 0) (g : ℕ) (hg : g < 4) (r : Fin 512) (d : Fin 256) :
    (outsAt0 m c t.val t.isLt).1 (ix2 r (col g d)) = dqGroup (iblk m c 0 t) (iblk m c 1 t) (iblk m c 2 t) g (ix2 r d) := by
  have e := dq_later c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (fun h => h0 ((hcond0_0 t).mp h)) (outsAt0 m c (t.val - 1) (Nat.lt_of_le_of_lt (Nat.sub_le _ _) t.isLt)).2 g hg r d
  generalize hx : (outsAt0 m c (t.val - 1) (Nat.lt_of_le_of_lt (Nat.sub_le _ _) t.isLt)).2 = x at e
  rw [outsAt0_B m c t h0, hx]
  exact e
theorem step_dkv_first (t : Fin cfg0.N) (h0 : t.val % 8 = 0) (g : ℕ) (hg : g < 8) (r d : Fin 256) :
    (outsAt0 m c t.val t.isLt).2 (ix2 r (lane g d)) = group (iblk m c 0 t) (iblk m c 1 t) (iblk m c 2 t) (fun _ _ => (0 : EReal)) g (ix2 r d) :=
  (congrArg (fun z => z.2 (ix2 r (lane g d))) (outsAt0_A m c t h0)).trans
    (dkv_first c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) ((hcond0_0 t).mpr h0) g hg r d)
theorem step_dkv_later (t : Fin cfg0.N) (h0 : ¬t.val % 8 = 0) (g : ℕ) (hg : g < 8) (r d : Fin 256) :
    (outsAt0 m c t.val t.isLt).2 (ix2 r (lane g d)) = group (iblk m c 0 t) (iblk m c 1 t) (iblk m c 2 t) (fun g => slots (256 * g) (outsAt0 m c (t.val - 1) (Nat.lt_of_le_of_lt (Nat.sub_le _ _) t.isLt)).2) g (ix2 r d) :=
  (congrArg (fun z => z.2 (ix2 r (lane g d))) (outsAt0_B m c t h0)).trans
    (dkv_later c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (fun h => h0 ((hcond0_0 t).mp h)) (outsAt0 m c (t.val - 1) (Nat.lt_of_le_of_lt (Nat.sub_le _ _) t.isLt)).2 g hg r d)

/-- The query gradient's block after a point. -/
theorem dq_at (t : Fin cfg0.N) (g : ℕ) (hg : g < 4) (r : Fin 512) (d : Fin 256) :
    (outsAt0 m c t.val t.isLt).1 (ix2 r (col g d)) = dqOf (V m c main_v0) (V m c main_v1) (V m c main_v2) g (rowAt t.val r) d := by
  refine Eq.trans ?_ (dqGroup_eq (iblk m c 0 t) (iblk m c 1 t) (iblk m c 2 t) _ _ _ t.val (iblk_q m c t) (iblk_kv m c t) (iblk_do m c t) g hg r d)
  by_cases h0 : t.val % 8 = 0
  · exact step_dq_first m c t h0 g hg r d
  · exact step_dq_later m c t h0 g hg r d

/-- A point's part of the key and value gradient. -/
theorem group_at (t : Fin cfg0.N) (acc : ℕ → FVec Ideal S256x256 .f32) (g : ℕ) (hg : g < 8) (s d : Fin 256) :
    group (iblk m c 0 t) (iblk m c 1 t) (iblk m c 2 t) acc g (ix2 s d)
      = acc g (ix2 s d) + ∑ x : Fin 512, dkvRow (V m c main_v0) (V m c main_v1) (V m c main_v2) g s d (rowAt t.val x) :=
  group_eq (iblk m c 0 t) (iblk m c 1 t) (iblk m c 2 t) _ _ _ t.val (iblk_q m c t) (iblk_kv m c t) (iblk_do m c t) acc g hg s d

/-- The key and value gradient's block after a point: the blocks so far. -/
theorem dkv_at (g : ℕ) (hg : g < 8) (s d : Fin 256) : ∀ (n : ℕ) (hn : n < cfg0.N),
    (outsAt0 m c n hn).2 (ix2 s (lane g d))
      = ∑ b ∈ Finset.range (n + 1), ∑ x : Fin 512, dkvRow (V m c main_v0) (V m c main_v1) (V m c main_v2) g s d (rowAt b x) := by
  intro n
  induction n with
  | zero =>
    intro hn
    refine (step_dkv_first m c ⟨0, hn⟩ (Nat.zero_mod 8) g hg s d).trans ((group_at m c ⟨0, hn⟩ _ g hg s d).trans ?_)
    rw [Finset.sum_range_one]
    exact zero_add _
  | succ n ih =>
    intro hn
    have h8 : n + 1 < 8 := lt8 ⟨n + 1, hn⟩
    refine (step_dkv_later m c ⟨n + 1, hn⟩ (by dsimp only; omega) g hg s d).trans ((group_at m c ⟨n + 1, hn⟩ _ g hg s d).trans ?_)
    rw [Finset.sum_range_succ]
    exact congrArg (· + _) (ih (Nat.lt_of_succ_lt hn))

/-- Every element of each gradient's array lies in a block that is written back. -/
theorem cover_dq : ∀ i : S4096x1024.Idx, ∃ t : Fin cfg0.N, (cfg0.win 3).flush t = true ∧ i ∈ ((cfg0.win 3).blk t).view.set := by
  intro i
  idx_vars i
  obtain ⟨j, hj, k, hk⟩ := row_split i0
  have hn : j < cfg0.N := lt_of_lt_of_eq hj (show 8 = cfg0.N from N_0.symm)
  have e := emb_dq ⟨j, hn⟩ k i1
  rw [show rowAt (⟨j, hn⟩ : Fin cfg0.N).val k = i0 from hk] at e
  exact ⟨⟨j, hn⟩, flush0_3 _, e ▸ ((cfg0.win 3).blk ⟨j, hn⟩).view.emb_mem_set _⟩

theorem cover_dkv : ∀ i : S256x2048.Idx, ∃ t : Fin cfg0.N, (cfg0.win 4).flush t = true ∧ i ∈ ((cfg0.win 4).blk t).view.set := by
  intro i
  idx_vars i
  have hn : 7 < cfg0.N := lt_of_lt_of_eq (by decide) (show 8 = cfg0.N from N_0.symm)
  have e := emb_dkv ⟨7, hn⟩ i0 i1
  exact ⟨⟨7, hn⟩, (flush0_4 _).mpr (by rfl), e ▸ ((cfg0.win 4).blk ⟨7, hn⟩).view.emb_mem_set _⟩

/-- The query gradient's array at the end. -/
theorem final_dq : (dats m 0 c).arrAt 3 cfg0.N = dqArr (V m c main_v0) (V m c main_v1) (V m c main_v2) := by
  refine (dats m 0 c).arrAt_eq_of_cover 3 (dqArr (V m c main_v0) (V m c main_v1) (V m c main_v2)) ?_ cover_dq
  intro t _
  funext y
  idx_vars y
  show (dats m 0 c).after 3 t (ix2 y0 y1) = dqArr _ _ _ (((cfg0.win 3).blk t).view.emb (ix2 y0 y1))
  rw [emb_dq, after0_3]
  obtain ⟨e, hg⟩ := col_split y1
  refine (congrArg (fun z => (outsAt0 m c t.val t.isLt).1 (ix2 y0 z)) e).trans ?_
  exact dq_at m c t _ hg y0 _

/-- The key and value gradient's array at the end. -/
theorem final_dkv : (dats m 0 c).arrAt 4 cfg0.N = dkvArr (V m c main_v0) (V m c main_v1) (V m c main_v2) := by
  refine (dats m 0 c).arrAt_eq_of_cover 4 (dkvArr (V m c main_v0) (V m c main_v1) (V m c main_v2)) ?_ cover_dkv
  intro t hf
  have h7 := (flush0_4 t).mp hf
  have h8 := lt8 t
  funext y
  idx_vars y
  show (dats m 0 c).after 4 t (ix2 y0 y1) = dkvArr _ _ _ (((cfg0.win 4).blk t).view.emb (ix2 y0 y1))
  rw [emb_dkv, after0_4]
  obtain ⟨n, hn⟩ := t
  obtain rfl : n = 7 := by dsimp only at h7 h8; omega
  obtain ⟨e, hg⟩ := lane_split y1
  refine (congrArg (fun z => (outsAt0 m c 7 hn).2 (ix2 y0 z)) e).trans ?_
  refine (dkv_at m c _ hg y0 _ 7 hn).trans ?_
  exact (sum_rows _).symm

theorem V_q (i : S4096x1024.Idx) : (V m c main_v0 : Vec Ideal S4096x1024 .bf16) i = (m ((c : Thread nD τ).loc main_arg0) : Vec Ideal S4096x1024 .f32) i := by
  show (StableHlo.after hostOps0 (fun b => m (c, b)) (Proc.devRef .tc main_v0) : Vec Ideal S4096x1024 .bf16) i = _
  after_results_simp
  rfl
theorem V_kv (i : S256x2048.Idx) : (V m c main_v1 : Vec Ideal S256x2048 .bf16) i = (m ((c : Thread nD τ).loc main_arg1) : Vec Ideal S256x2048 .f32) i := by
  show (StableHlo.after hostOps0 (fun b => m (c, b)) (Proc.devRef .tc main_v1) : Vec Ideal S256x2048 .bf16) i = _
  after_results_simp
  rfl
theorem V_do (i : S4096x1024.Idx) : (V m c main_v2 : Vec Ideal S4096x1024 .bf16) i = (m ((c : Thread nD τ).loc main_arg2) : Vec Ideal S4096x1024 .f32) i := by
  show (StableHlo.after hostOps0 (fun b => m (c, b)) (Proc.devRef .tc main_v2) : Vec Ideal S4096x1024 .bf16) i = _
  after_results_simp
  rfl

end Cert.XattnIdeal.Hand
-- ==== Proof.XattnRef.lean ====
module

public import proofs.«01_k».proof.Proof.XattnArrays
public import proofs.«01_k».proof.Proof.FoxRef
public import proofs.«01_k».proof.Proof.Gen.XattnRefIdeal.Read

/-! The reference's two gradients, stage by stage, in the words of the rows' functions. -/

@[expose] public section
set_option maxRecDepth 16384
noncomputable section
namespace Cert.XattnIdeal.Hand
open Idealize.ShloMosaic Cert.FoxReal

/-- A positive real goes into a sum of extended reals. -/
theorem real_mul_sum {ι : Type} (S : Finset ι) (f : ι → EReal) (a : ℝ) (ha : 0 ≤ a) : (a : EReal) * ∑ x ∈ S, f x = ∑ x ∈ S, (a : EReal) * f x := by
  classical
  induction S using Finset.induction_on with
  | empty => simp
  | insert b S hb ih =>
    rw [Finset.sum_insert hb, Finset.sum_insert hb, EReal.left_distrib_of_nonneg_of_ne_top (by exact_mod_cast ha) (EReal.coe_ne_top a), ih]

variable (L : Fin 256 → ℝ) (s f : Fin 256 → EReal) (hs : ∀ m, s m = ((L m : ℝ) : EReal))

include hs in
/-- A row's weights before division are positive reals. -/
theorem wgt_real : ∃ E : Fin 256 → ℝ, (∀ m, 0 < E m) ∧ ∀ m, wgt s m = ((E m : ℝ) : EReal) := by
  have hb : Finset.fold max (⊥ : EReal) (fun x => s x) Finset.univ ≠ ⊥ := by
    refine ne_of_gt ((Finset.lt_fold_max _).mpr (Or.inr ⟨0, Finset.mem_univ _, ?_⟩))
    simp [hs]
  have ht : Finset.fold max (⊥ : EReal) (fun x => s x) Finset.univ ≠ ⊤ :=
    ne_of_lt ((Finset.fold_max_lt _).mpr ⟨by simp, fun x _ => by simp [hs]⟩)
  refine ⟨fun m => Real.exp (L m - (Finset.fold max (⊥ : EReal) (fun x => s x) Finset.univ).toReal), fun m => Real.exp_pos _, fun m => ?_⟩
  rw [← Ideal.exp_coe, EReal.coe_sub, EReal.coe_toReal ht hb, ← hs, wgt, word_ninf]

include hs in
/-- The division of a weight by the row's sum. -/
theorem prob_eq (m : Fin 256) : Ideal.div (wgt s m) (∑ x, wgt s x) = prob s m := by
  obtain ⟨E, hE, he⟩ := wgt_real L s hs
  have hZ : (0 : ℝ) < ∑ x, E x := Finset.sum_pos (fun x _ => hE x) ⟨0, Finset.mem_univ _⟩
  rw [prob, funext he, ← coe_sum, Ideal.div_coe hZ.ne', Ideal.div_coe hZ.ne', one_mul]

include hs in
/-- The quotient rule's two terms are the row's centred flow. -/
theorem dlogit_eq (m : Fin 256) :
    (Ideal.div (f m) (∑ x, wgt s x) + -∑ x, f x * Ideal.div 1 ((∑ x, wgt s x) * ∑ x, wgt s x) * wgt s x) * wgt s m * Ideal.ofBits FTy.f32 1031798784#32
      = dlogit (fun x => prob s x) f m := by
  obtain ⟨E, hE, he⟩ := wgt_real L s hs
  have hZ : (0 : ℝ) < ∑ x, E x := Finset.sum_pos (fun x _ => hE x) ⟨0, Finset.mem_univ _⟩
  have hi : (0 : ℝ) ≤ 1 / ∑ x, E x := (one_div_pos.mpr hZ).le
  have hp : ∀ x, prob s x = ((E x : ℝ) : EReal) * ((1 / ∑ x, E x : ℝ) : EReal) := fun x => by
    rw [prob, funext he, ← coe_sum, Ideal.div_coe hZ.ne', one_mul]
  have hS : ∑ x, f x * Ideal.div 1 ((∑ x, wgt s x) * ∑ x, wgt s x) * wgt s x = ((1 / ∑ x, E x : ℝ) : EReal) * ∑ x, prob s x * f x := by
    rw [real_mul_sum _ _ _ hi]
    refine Finset.sum_congr rfl fun x _ => ?_
    rw [hp, he, funext he, ← coe_sum, ← EReal.coe_mul, Ideal.div_coe (mul_pos hZ hZ).ne', one_mul,
      show (1 / ((∑ x, E x) * ∑ x, E x) : ℝ) = (1 / ∑ x, E x) * (1 / ∑ x, E x) by rw [div_mul_div_comm, one_mul], EReal.coe_mul]
    ac_rfl
  rw [hS, dlogit, hp m, he m, funext he, ← coe_sum, Ideal.div_coe hZ.ne', mul_comm (f m), ← mul_neg,
    ← EReal.left_distrib_of_nonneg_of_ne_top (by exact_mod_cast hi) (EReal.coe_ne_top _), sub_eq_add_neg]
  ac_rfl

end Cert.XattnIdeal.Hand

namespace Cert.XattnRefIdeal.Tie
open Cert.XattnRefIdeal Cert.XattnRefIdeal.Gen Cert.XattnRefIdeal.Read Cert.FoxReal
open Idealize.ShloMosaic Idealize.ShloMosaic.TcCoe Idealize.ShloMosaic.Tactic
open Cert.XattnIdeal.Hand (wgt prob dlogit logit flow qRow kMat vMat pAt dAt col lane col_val lane_val dqArr dkvArr dqOf dkvRow prob_eq dlogit_eq)
variable (x0 : Vec Ideal S4096x1024 .f32) (x1 : Vec Ideal S256x2048 .f32) (x2 : Vec Ideal S4096x1024 .f32)

theorem col_eq (g : Fin 4) (x : Fin 256) (h : g.val * 256 + x.val < 1024) : (⟨g.val * 256 + x.val, h⟩ : Fin 1024) = col g.val x :=
  Fin.ext (by rw [col_val g.isLt]; dsimp only; omega)
theorem lane_eq (g : Fin 4) (x : Fin 256) (h : g.val * 256 + x.val < 2048) : (⟨g.val * 256 + x.val, h⟩ : Fin 2048) = lane g.val x :=
  Fin.ext (by have := g.isLt; rw [lane_val (by omega)]; dsimp only; omega)
theorem late_eq (g : Fin 4) (x : Fin 256) (h : 1024 + (g.val * 256 + x.val) < 2048) :
    (⟨1024 + (g.val * 256 + x.val), h⟩ : Fin 2048) = Fin.ofNat 2048 (1024 + 256 * g.val + x.val) :=
  Fin.ext (by show _ = (1024 + 256 * g.val + x.val) % 2048; dsimp only; omega)

/-- The logits. -/
theorem r7 (g : Fin 4) (r : Fin 4096) (m : Fin 256) : val_main_v7 (F := Ideal) x0 x1 (ix3 g r m) = logit (qRow x0 g.val r) (kMat x1 g.val) m := by
  unfold val_main_v7 val_main_v6 val_main_v5 val_main_v4 val_main_v1 val_main_v0 val_main_cst
  pointwise
  simp only [col_eq, lane_eq]
  rfl

/-- A row's largest logit. -/
theorem r8 (g : Fin 4) (r : Fin 4096) :
    val_main_v8 (F := Ideal) x0 x1 (ix2 g r) = Finset.fold max (Ideal.ofBits FTy.f32 4286578688#32) (fun x => (val_main_v7 (F := Ideal) x0 x1 (ix3 g r x) : EReal)) Finset.univ := by
  unfold val_main_v8 val_main_cst_0
  generalize val_main_v7 (F := Ideal) x0 x1 = y
  change Vec Ideal S4x4096x256 .f32 at y
  pointwise

theorem r15 (g : Fin 4) (r : Fin 4096) : val_main_v15 (F := Ideal) x0 x1 (ix2 g r) = val_main_v8 (F := Ideal) x0 x1 (ix2 g r) := by
  unfold val_main_v15 val_main_v14 val_main_cst_2
  generalize val_main_v8 (F := Ideal) x0 x1 = y
  change Vec Ideal S4x4096 .f32 at y
  pointwise
  rw [word_ninf]
  exact max_eq_right bot_le

/-- The weights before division. -/
theorem r28 (g : Fin 4) (r : Fin 4096) (m : Fin 256) :
    val_main_v28 (F := Ideal) x0 x1 (ix3 g r m) = wgt (logit (qRow x0 g.val r) (kMat x1 g.val)) m := by
  have e15 := fun g r => (r15 x0 x1 g r).trans (r8 x0 x1 g r)
  have e7 := r7 x0 x1
  unfold val_main_v28 val_main_v27 val_main_v26 val_main_v25
  generalize val_main_v15 (F := Ideal) x0 x1 = z at e15 ⊢
  generalize val_main_v7 (F := Ideal) x0 x1 = y at e15 e7 ⊢
  change Vec Ideal S4x4096x256 .f32 at y
  change Vec Ideal S4x4096 .f32 at z
  pointwise
  simp only [e15, e7]
  rfl

/-- The flow into the weights. -/
theorem r41 (g : Fin 4) (r : Fin 4096) (m : Fin 256) : val_main_v41 (F := Ideal) x1 x2 (ix3 g r m) = flow (qRow x2 g.val r) (vMat x1 g.val) m := by
  unfold val_main_v41 val_main_v40 val_main_v39 val_main_v3 val_main_v2
  pointwise
  simp only [col_eq, late_eq]
  rfl

section
variable (L : Fin 4 → Fin 4096 → Fin 256 → ℝ) (hL : ∀ g r m, logit (qRow x0 g.val r) (kMat x1 g.val) m = ((L g r m : ℝ) : EReal))

include hL in
/-- The weights. -/
theorem r32 (g : Fin 4) (r : Fin 4096) (m : Fin 256) : val_main_v32 (F := Ideal) x0 x1 (ix3 g r m) = pAt x0 x1 g.val r m := by
  have e := r28 x0 x1
  unfold val_main_v32 val_main_v31 val_main_v30 val_main_v29 val_main_cst_8
  generalize val_main_v28 (F := Ideal) x0 x1 = y at e ⊢
  change Vec Ideal S4x4096x256 .f32 at y
  pointwise
  simp only [e]
  exact prob_eq (L g r) _ (hL g r) m

include hL in
/-- What flows into the logits. -/
theorem r57 (g : Fin 4) (r : Fin 4096) (m : Fin 256) : val_main_v57 (F := Ideal) x0 x1 x2 (ix3 g r m) = dAt x0 x1 x2 g.val r m := by
  have e1 := r28 x0 x1
  have e2 := r41 x1 x2
  unfold val_main_v57 val_main_v56 val_main_v55 val_main_v54 val_main_v53 val_main_v52 val_main_v51 val_main_v50 val_main_v49 val_main_v48 val_main_v47 val_main_v46
    val_main_v45 val_main_v44 val_main_v35 val_main_v34 val_main_v33 val_main_v30 val_main_v29 val_main_cst_8 val_main_cst_9 val_main_cst_10 val_main_cst_11 val_main_cst_12
  generalize val_main_v28 (F := Ideal) x0 x1 = e at e1 ⊢
  change Vec Ideal S4x4096x256 .f32 at e
  generalize val_main_v41 (F := Ideal) x1 x2 = f at e2 ⊢
  change Vec Ideal S4x4096x256 .f32 at f
  pointwise
  simp only [e1, e2, Fin.sum_univ_one]
  exact dlogit_eq (L g r) _ _ (hL g r) m

include hL in
/-- The gradient of the queries. -/
theorem r68 : val_main_v68 (F := Ideal) x0 x1 x2 = dqArr x0 x1 x2 := by
  funext i
  obtain ⟨r, j, rfl⟩ : ∃ r j, i = ix2 r j := ⟨i 0, i 1, by funext x; match x with | ⟨0, _⟩ => rfl | ⟨1, _⟩ => rfl⟩
  have e1 := r57 x0 x1 x2 L hL
  unfold val_main_v68 val_main_v62 val_main_v61 val_main_v60 val_main_v1 val_main_v0
  generalize val_main_v57 (F := Ideal) x0 x1 x2 = e at e1 ⊢
  change Vec Ideal S4x4096x256 .f32 at e
  pointwise
  have hj := j.isLt
  have hw : ∀ h : j.val < 2048, (⟨j.val, h⟩ : Fin 2048) = lane (j.val / 256) (Fin.ofNat 256 j.val) := fun h =>
    Fin.ext (by rw [lane_val (by omega)]; show j.val = 256 * (j.val / 256) + j.val % 256; omega)
  simp only [e1, hw]
  rfl

include hL in
/-- The gradient of the keys and values. -/
theorem r67 : val_main_v67 (F := Ideal) x0 x1 x2 = dkvArr x0 x1 x2 := by
  funext i
  obtain ⟨r, j, rfl⟩ : ∃ r j, i = ix2 r j := ⟨i 0, i 1, by funext x; match x with | ⟨0, _⟩ => rfl | ⟨1, _⟩ => rfl⟩
  have e1 := r57 x0 x1 x2 L hL
  have e2 := r32 x0 x1 L hL
  unfold val_main_v67 val_main_v66 val_main_v65 val_main_v64 val_main_v63 val_main_v59 val_main_v58 val_main_v43 val_main_v42 val_main_v40 val_main_v39 val_main_v4
    val_main_cst_13 val_main_cst_14
  generalize val_main_v57 (F := Ideal) x0 x1 x2 = e at e1 ⊢
  change Vec Ideal S4x4096x256 .f32 at e
  generalize val_main_v32 (F := Ideal) x0 x1 = f at e2 ⊢
  change Vec Ideal S4x4096x256 .f32 at f
  pointwise
  have hj := j.isLt
  show _ = ∑ R : Fin 4096, dkvRow x0 x1 x2 (j.val / 256) r (Fin.ofNat 256 j.val) R
  by_cases h : j.val < 1024
  · rw [dif_neg (by omega), dif_pos h, zero_add]
    simp only [e1, dkvRow, if_pos (show j.val / 256 < 4 by omega)]
    refine Finset.sum_congr rfl fun x _ => ?_
    refine congrArg (fun z => dAt x0 x1 x2 (j.val / 256) x r * x0 (ix2 x z)) (Fin.ext ?_)
    rw [col_val (by omega)]; show _ = 256 * (j.val / 256) + j.val % 256; dsimp only; omega
  · rw [dif_pos ⟨by omega, by omega⟩, dif_neg h, add_zero]
    have hg : j.val / 256 - 4 = (j.val - 1024) / 256 := by omega
    simp only [e2, dkvRow, if_neg (show ¬j.val / 256 < 4 by omega), hg]
    refine Finset.sum_congr rfl fun x _ => ?_
    rw [mul_comm]
    refine congrArg (fun z => pAt x0 x1 ((j.val - 1024) / 256) x r * x2 (ix2 x z)) (Fin.ext ?_)
    rw [col_val (by omega)]; show _ = 256 * ((j.val - 1024) / 256) + j.val % 256; dsimp only; omega
end
end Cert.XattnRefIdeal.Tie
-- ==== Proof.XattnTie.lean ====
module

public import proofs.«01_k».proof.Defs
public import proofs.«01_k».proof.Proof.XattnRef
public import proofs.«01_k».proof.Proof.FoxTie
public import proofs.«01_k».proof.Proof.Gen.XattnIdeal.Value
public import proofs.«01_k».proof.Proof.Gen.XattnRefIdeal.Run

/-! Where queries, keys and values are finite, the memory attention's two gradients are the reference's, element by element. -/

@[expose] public section
set_option maxRecDepth 16384
noncomputable section
namespace Cert.Xattn.Tie
open Cert.FoxReal Cert.XattnIdeal.Hand
open Idealize.ShloMosaic Idealize.ShloMosaic.TcCoe Idealize.ShloMosaic.Tactic Idealize.SL.Sem

instance : Subsingleton Cert.Pre_finite_memory.S_.Idx := ⟨fun a b => funext fun j => j.elim0⟩

/-- The side conditions the precondition states. -/
theorem preFacts : Cert.Pre_finite_memory.Facts := ⟨by decide, by decide, by decide, by decide, by decide⟩

attribute [local instance] preFacts

open Cert.Pre_finite_memory in
/-- Every element of the queries and of the keys and values is a real number. -/
theorem finite_of (x0 : FVec Ideal S4096x1024 .f32) (x1 : FVec Ideal S256x2048 .f32) (x2 : FVec Ideal S4096x1024 .f32)
    (h : fn (F := Ideal) x0 x1 x2 = fun _ => 1#1) :
    (∀ i, x0 i = (((x0 i : EReal).toReal : ℝ) : EReal)) ∧ (∀ i, x1 i = (((x1 i : EReal).toReal : ℝ) : EReal)) := by
  obtain ⟨h0, h1⟩ := both_at _ _ h
  exact ⟨fun i => real_of_abs _ (Host.reduce_andi_all _ _ _ _ finZeroElim (congrFun h0 _) i), fun i => real_of_abs _ (Host.reduce_andi_all _ _ _ _ finZeroElim (congrFun h1 _) i)⟩

/-- The logits of real queries and keys are real. -/
theorem logit_real (x0 : Vec Ideal Cert.XattnIdeal.S4096x1024 .f32) (x1 : Vec Ideal Cert.XattnIdeal.S256x2048 .f32)
    (h0 : ∀ i, x0 i = (((x0 i : EReal).toReal : ℝ) : EReal)) (h1 : ∀ i, x1 i = (((x1 i : EReal).toReal : ℝ) : EReal)) (g : Fin 4) (r : Fin 4096) (m : Fin 256) :
    logit (qRow x0 g.val r) (kMat x1 g.val) m
      = (((∑ d : Fin 256, (x0 (ix2 r (col g.val d)) : EReal).toReal * (x1 (ix2 m (lane g.val d)) : EReal).toReal) * (1 / 16) : ℝ) : EReal) := by
  have hw : Ideal.ofBits FTy.f32 1031798784#32 = (((1 : ℝ) / 16 : ℝ) : EReal) := by
    simp [Ideal.ofBits, Ideal.ieee, -EReal.coe_mul]; norm_num
  rw [logit, hw, EReal.coe_mul, coe_sum]
  refine congrArg (· * _) (Finset.sum_congr rfl fun d _ => ?_)
  rw [EReal.coe_mul, ← h0, ← h1]
  rfl

/-- The two gradients the program leaves are the reference's. -/
theorem algebraic : algebraic_XattnIdeal_XattnRefIdeal_pre_finite_memory := by
  intro m ρ m' ρ' hpre hagree
  refine ⟨fun c => (Cert.XattnIdeal.Gen.dats m 0 c).arrAt 3 Cert.XattnIdeal.cfg0.N, fun c => (Cert.XattnIdeal.Gen.dats m 0 c).arrAt 4 Cert.XattnIdeal.cfg0.N,
    Cert.XattnIdeal.Value.run_blocks m ρ, ?_⟩
  refine (θ_run Cert.XattnRefIdeal.defs _ _).mono (fun r h c => ?_) (Cert.XattnRefIdeal.Value.run (F := Ideal) m' ρ')
  obtain ⟨e0, e1, hargs⟩ := h c
  obtain ⟨f0, f1⟩ := finite_of _ _ _ (hpre c)
  obtain ⟨a0, a1, a2⟩ := hagree c
  have q : Cert.XattnIdeal.Gen.V m c Cert.XattnIdeal.main_v0 = m ((c : Thread Cert.XattnIdeal.nD Cert.XattnIdeal.τ).loc Cert.XattnIdeal.main_arg0) := funext fun i => V_q m c i
  have kv : Cert.XattnIdeal.Gen.V m c Cert.XattnIdeal.main_v1 = m ((c : Thread Cert.XattnIdeal.nD Cert.XattnIdeal.τ).loc Cert.XattnIdeal.main_arg1) := funext fun i => V_kv m c i
  have d : Cert.XattnIdeal.Gen.V m c Cert.XattnIdeal.main_v2 = m ((c : Thread Cert.XattnIdeal.nD Cert.XattnIdeal.τ).loc Cert.XattnIdeal.main_arg2) := funext fun i => V_do m c i
  refine ⟨e0.trans ?_, e1.trans ?_, hargs⟩
  · rw [Cert.XattnRefIdeal.Read.val_main_v68_eq, a0, a1, a2, Cert.XattnRefIdeal.Tie.r68 _ _ _ _ (fun g r m => logit_real _ _ f0 f1 g r m)]
    refine Eq.trans ?_ (final_dq m c).symm
    rw [q, kv, d]
  · rw [Cert.XattnRefIdeal.Read.val_main_v67_eq, a0, a1, a2, Cert.XattnRefIdeal.Tie.r67 _ _ _ _ (fun g r m => logit_real _ _ f0 f1 g r m)]
    refine Eq.trans ?_ (final_dkv m c).symm
    rw [q, kv, d]

end Cert.Xattn.Tie
-- ==== Proof.FwdReal.lean ====
module

public import proofs.«01_k».proof.Proof.FoxReal

/-! One step of a running softmax: the running maximum and the running sums after one more block of logits, over the reals. -/

@[expose] public section
noncomputable section
namespace Cert.FoxReal
open Idealize.ShloMosaic

/-- What the running maximum `m` and the running sums `a` hold when the logits so far weigh the values to `W`: nothing yet, or a real
    maximum and the sums scaled down by its exponential. -/
def Running (W : Fin 128 → ℝ) (m a : Fin 128 → EReal) : Prop :=
  ((∀ l, m l = ⊥ ∧ a l = 0) ∧ ∀ l, W l = 0) ∨ ∃ M : ℝ, ∀ l, m l = (M : EReal) ∧ a l = ((Real.exp (-M) * W l : ℝ) : EReal)

theorem Running.congr {W : Fin 128 → ℝ} {m a m' a' : Fin 128 → EReal} (h : Running W m a) (hm : ∀ l, m' l = m l) (ha : ∀ l, a' l = a l) :
    Running W m' a' := by
  rwa [funext hm, funext ha]

/-- A logit that is masked weighs nothing; another weighs its exponential. -/
def Weighs (s : EReal) (e : ℝ) : Prop := (s = ⊥ ∧ e = 0) ∨ ∃ L : ℝ, s = (L : EReal) ∧ e = Real.exp L

theorem Weighs.exp_sub {s : EReal} {e : ℝ} (h : Weighs s e) (M : ℝ) : Ideal.exp (s - (M : EReal)) = ((Real.exp (-M) * e : ℝ) : EReal) := by
  rcases h with ⟨rfl, rfl⟩ | ⟨L, rfl, rfl⟩
  · simp [Ideal.exp_bot]
  · rw [← EReal.coe_sub, Ideal.exp_coe, ← Real.exp_add, sub_eq_add_neg, add_comm]

/-- The running maximum meets one more block. -/
theorem Running.top {W : Fin 128 → ℝ} {m a : Fin 128 → EReal} (h : Running W m a) {s : Fin 1024 → EReal} {e : Fin 1024 → ℝ}
    (hs : ∀ c, Weighs (s c) (e c)) (c₀ : Fin 1024) (h₀ : s c₀ ≠ ⊥) :
    ∃ M : ℝ, ∀ l, max (m l) (Finset.fold max (⊥ : EReal) s Finset.univ) = (M : EReal) := by
  have hb : Finset.fold max (⊥ : EReal) s Finset.univ ≠ ⊥ :=
    ne_of_gt ((Finset.lt_fold_max _).mpr (Or.inr ⟨c₀, Finset.mem_univ _, bot_lt_iff_ne_bot.mpr h₀⟩))
  have ht : Finset.fold max (⊥ : EReal) s Finset.univ ≠ ⊤ := by
    refine ne_of_lt ((Finset.fold_max_lt _).mpr ⟨by simp, fun x _ => ?_⟩)
    rcases hs x with ⟨h, _⟩ | ⟨L, h, _⟩ <;> simp [h]
  obtain ⟨B, hB⟩ : ∃ B : ℝ, Finset.fold max (⊥ : EReal) s Finset.univ = (B : EReal) := ⟨_, (EReal.coe_toReal ht hb).symm⟩
  rcases h with ⟨h, _⟩ | ⟨M, h⟩
  · exact ⟨B, fun l => by rw [(h l).1, hB]; simp⟩
  · exact ⟨max M B, fun l => by rw [(h l).1, hB]; exact (EReal.coe_strictMono.monotone.map_max (a := M) (b := B)).symm⟩

/-- The running sums meet one more block. -/
theorem Running.step {W : Fin 128 → ℝ} {m a : Fin 128 → EReal} (h : Running W m a) {s : Fin 1024 → EReal} {e : Fin 1024 → ℝ}
    (hs : ∀ c, Weighs (s c) (e c)) (V : Fin 1024 → Fin 128 → ℝ) (M : ℝ) :
    Running (fun l => W l + ∑ c, e c * V c l) (fun _ => (M : EReal))
      (fun l => Ideal.exp (m l - (M : EReal)) * a l + ∑ c, Ideal.exp (s c - (M : EReal)) * (V c l : EReal)) := by
  refine Or.inr ⟨M, fun l => ⟨rfl, ?_⟩⟩
  have h1 : Ideal.exp (m l - (M : EReal)) * a l = ((Real.exp (-M) * W l : ℝ) : EReal) := by
    rcases h with ⟨h, hw⟩ | ⟨N, h⟩
    · rw [(h l).2, hw l]; simp
    · rw [(h l).1, (h l).2, ← EReal.coe_sub, Ideal.exp_coe, ← EReal.coe_mul, ← mul_assoc, ← Real.exp_add]
      congr 3; ring
  dsimp only
  rw [h1, Finset.sum_congr rfl fun c _ => by rw [(hs c).exp_sub M, ← EReal.coe_mul], ← coe_sum, ← EReal.coe_add]
  congr 1
  rw [mul_add, Finset.mul_sum]
  congr 1
  exact Finset.sum_congr rfl fun c _ => by ring

/-- A running sum over the running sum of weights, -/
theorem Running.quot {W : Fin 128 → ℝ} {m a : Fin 128 → EReal} (h : Running W m a) {d : Fin 128} (hd : 0 < W d) (l : Fin 128) :
    a l * Ideal.div 1 (a d) = ((W l / W d : ℝ) : EReal) := by
  rcases h with ⟨_, h⟩ | ⟨M, h⟩
  · exact absurd (h d) hd.ne'
  · rw [(h l).2, (h d).2, Ideal.div_coe (mul_pos (Real.exp_pos _) hd).ne', one_mul, ← EReal.coe_mul, mul_one_div,
      mul_div_mul_left _ _ (Real.exp_pos _).ne']

/-- and minus the logarithm of the sum of exponentials. -/
theorem Running.lse {W : Fin 128 → ℝ} {m a : Fin 128 → EReal} (h : Running W m a) {d : Fin 128} (hd : 0 < W d) (l : Fin 128) :
    0 - (m l + Ideal.log (a d)) = ((-Real.log (W d) : ℝ) : EReal) := by
  rcases h with ⟨_, h⟩ | ⟨M, h⟩
  · exact absurd (h d) hd.ne'
  · rw [(h l).1, (h d).2, Ideal.log_coe, if_neg (not_le.mpr (mul_pos (Real.exp_pos _) hd)), Real.log_mul (Real.exp_pos _).ne' hd.ne', Real.log_exp, ← EReal.coe_add, ← EReal.coe_zero, ← EReal.coe_sub]
    congr 1; ring

end Cert.FoxReal
-- ==== Proof.FwdStep.lean ====
module

public import proofs.«01_k».proof.Proof.Gen.FoxFwdIdeal.Frame
public import proofs.«01_k».proof.Proof.FwdReal
public import Idealize.ShloMosaic.Lib.ValueIdx
public import Idealize.ShloMosaic.Lib.Pointwise
public import Idealize.ShloMosaic.Lib.WritesUnit
public import Idealize.ShloMosaic.PureOps.Ideal

/-! What one key block does to the running maximum and the running sums of a query block, read off the pieces a trip stores. -/

@[expose] public section
set_option maxRecDepth 16384
noncomputable section
namespace Cert.FoxFwdIdeal.Hand
open Cert.FoxFwdIdeal Cert.FoxFwdIdeal.Gen
open Idealize.ShloMosaic Idealize.ShloMosaic.TcCoe Idealize.ShloMosaic.Tactic
open Cert.FoxReal (Running Weighs)

/-- The arrays the body of a grid point works on. -/
structure Args where
  q : Memref sig .tc .vmem S2x1024x128 .bf16
  hq : q.IsWhole
  k : Memref sig .tc .vmem S2x4096x128 .bf16
  hk : k.IsWhole
  v : Memref sig .tc .vmem S2x4096x128 .bf16
  hv : v.IsWhole
  y : Memref sig .tc .vmem S1024x128 .bf16
  hy : y.IsWhole
  b : Memref sig .tc .vmem S2x1024x128 .bf16
  hb : b.IsWhole
  top : Memref sig .tc .vmem S2x1024x128 .f32
  htop : top.IsWhole
  acc : Memref sig .tc .vmem S2x1024x128 .f32
  hacc : acc.IsWhole

/-- Row `c` of key block `b`. -/
def keyAt (b : ℕ) (c : Fin 1024) : Fin 4096 := Fin.ofNat 4096 (1024 * b + c.val)

theorem keyAt_val {b : ℕ} (hb : b < 4) (c : Fin 1024) : (keyAt b c).val = 1024 * b + c.val := by
  have := c.isLt
  simp only [keyAt, Fin.ofNat]; omega

/-- The products of the query rows with the key rows. -/
theorem scores_apply (q k : Vec Ideal S1x1024x128 .bf16) (x c : Fin 1024) :
    k0_pay3 (F := Ideal) q k (ix2 x c) = ∑ l : Fin 128, q (ix3 0 x l) * k (ix3 0 c l) := by
  unfold k0_pay3; pointwise

/-- A row's largest product. -/
theorem rowMax_apply (s : FVec Ideal S1024x1024 .f32) (x : Fin 1024) :
    multiReduction .maximumf [1] S1024 s 0xFF800000#32 reduces_S1024x1024_S1024 (.inl rfl) rfl (ix1 x)
      = Finset.fold max (⊥ : EReal) (fun c => s (ix2 x c)) Finset.univ := by
  rw [show (⊥ : EReal) = Ideal.ofBits .f32 4286578688#32 from (by simp [Ideal.ofBits, Ideal.ieee] : Ideal.ofBits .f32 4286578688#32 = ⊥).symm]
  pointwise

/-- The running maximum after a block. -/
theorem newTop_apply (s : FVec Ideal S1024x1024 .f32) (t : FVec Ideal S1024x128 .f32) (x : Fin 1024) (l : Fin 128) :
    k0_pay28 (F := Ideal) s t (ix2 x l) = max (t (ix2 x l)) (Finset.fold max (⊥ : EReal) (fun c => s (ix2 x c)) Finset.univ) := by
  rw [← rowMax_apply s x]
  unfold k0_pay28
  generalize multiReduction .maximumf [1] S1024 s 0xFF800000#32 reduces_S1024x1024_S1024 (.inl rfl) rfl = r
  pointwise

/-- The running sums after a block, when the new maximum is `M` at every lane. -/
theorem newAcc_apply (s : FVec Ideal S1024x1024 .f32) (t : FVec Ideal S1024x128 .f32) (a : Vec Ideal S1x1024x128 .f32) (v : Vec Ideal S1x1024x128 .bf16)
    (x : Fin 1024) (M : EReal) (hM : ∀ l, k0_pay28 (F := Ideal) s t (ix2 x l) = M) (l : Fin 128) :
    k0_pay29 (F := Ideal) s t a v (ix3 0 x l)
      = Ideal.exp (t (ix2 x l) - M) * a (ix3 0 x l) + ∑ c : Fin 1024, Ideal.exp (s (ix2 x c) - M) * v (ix3 0 c l) := by
  unfold k0_pay29
  generalize k0_pay28 (F := Ideal) s t = n at hM ⊢
  pointwise
  simp only [hM, dite_eq_ite, ite_self]

/-- One block's step at a row, on the stored pieces. -/
theorem row_step (s : FVec Ideal S1024x1024 .f32) (t a : Vec Ideal S1x1024x128 .f32) (v : Vec Ideal S1x1024x128 .bf16) (x : Fin 1024)
    {W : Fin 128 → ℝ} (h : Running W (fun l => t (ix3 0 x l)) (fun l => a (ix3 0 x l))) {e : Fin 1024 → ℝ}
    (hs : ∀ c, Weighs (s (ix2 x c)) (e c)) (c₀ : Fin 1024) (h₀ : s (ix2 x c₀) ≠ ⊥) (V : Fin 1024 → Fin 128 → ℝ)
    (hV : ∀ c l, v (ix3 0 c l) = (V c l : EReal)) :
    Running (fun l => W l + ∑ c, e c * V c l) (fun l => k0_pay30 (F := Ideal) s (k0_pay4 t) (ix3 0 x l))
      (fun l => k0_pay29 (F := Ideal) s (k0_pay4 t) a v (ix3 0 x l)) := by
  have ht : ∀ l, k0_pay4 (F := Ideal) t (ix2 x l) = t (ix3 0 x l) := fun l => by unfold k0_pay4; pointwise
  obtain ⟨M, hM⟩ := h.top hs c₀ h₀
  have hN : ∀ l, k0_pay28 (F := Ideal) s (k0_pay4 t) (ix2 x l) = (M : EReal) := fun l => by
    rw [newTop_apply, ht]; exact hM l
  have hT : ∀ l, k0_pay30 (F := Ideal) s (k0_pay4 t) (ix3 0 x l) = (M : EReal) := fun l => by
    rw [← hN l]
    unfold k0_pay30
    generalize k0_pay28 (F := Ideal) s (k0_pay4 t) = n
    pointwise
  simp only [hT, newAcc_apply _ _ _ _ x _ hN, ht, hV]
  exact h.step hs V M

theorem trips_t1 (i : grid0.Coords) : (k0_t1_loop i).trips = (i 1).val :=
  (by decide +kernel : ∀ j : Fin 4, (k0_t1_loop (fun a => if h : a = 1 then h ▸ j else ⟨0, by revert h; fin_cases a <;> decide⟩)).trips = j.val) (i 1)

theorem off1_eq (i : grid0.Coords) (k : Fin (k0_t1_loop i).trips) : k0_off1 i k = ![0, 1024 * k.val, 0] := by
  have hi : (i 1).val < 4 := (i 1).isLt
  have hk : k.val < (i 1).val := lt_of_lt_of_eq k.isLt (trips_t1 i)
  have : (Scalar.indexCast (Scalar.muli (Scf.iv 0#32 1#32 k.val) 1024#32)).toNat = 1024 * k.val :=
    (by decide +kernel : ∀ kk : Fin 4, (Scalar.indexCast (Scalar.muli (Scf.iv 0#32 1#32 kk.val) 1024#32)).toNat = 1024 * kk.val) ⟨k.val, by omega⟩
  simp only [k0_off1]
  rw [this]

theorem off2_eq (i : grid0.Coords) (k : Fin (k0_t1_loop i).trips) : k0_off2 i k = ![1, 1024 * k.val, 0] := by
  have h := congrFun (off1_eq i k) 1
  simp only [k0_off1, k0_off2] at h ⊢
  rw [show (Scalar.indexCast (Scalar.muli (Scf.iv 0#32 1#32 k.val) 1024#32)).toNat = 1024 * k.val from h]

/-- Two stores, one a head: the first head's is read back, -/
theorem read_first (m : Memref sig .tc .vmem S2x1024x128 .f32) (f : BufTy.Contents (Elt Ideal) m.view.ty) (h1 h0) (p1 p0 : Vec Ideal S1x1024x128 .f32)
    (rest : List (View.Piece (Elt Ideal) S2x1024x128 .f32)) (x : Fin 1024) (l : Fin 128) :
    m.view.read (Elt Ideal) (m.view.writes (Elt Ideal) f
      (⟨Rect.unit (s := S2x1024x128) ![1, 0, 0] ![1, 1024, 128] h1, p1⟩ :: ⟨Rect.unit (s := S2x1024x128) ![0, 0, 0] ![1, 1024, 128] h0, p0⟩ :: rest)) (ix3 0 x l)
      = p0 (ix3 0 x l) := by
  refine (View.read_writes_cons_unit_of_not_mem m.view f _ _ _ _ rfl 0 (Or.inl Nat.zero_lt_one)).trans ?_
  refine (View.read_writes_cons_unit_of_mem m.view f _ _ _ _ (ix3 (0 : Fin 1) x l) rfl ?_)
  intro a; fin_cases a <;> first | rfl | exact (Nat.zero_add _).symm

/-- and the second head's. -/
theorem read_second (m : Memref sig .tc .vmem S2x1024x128 .f32) (f : BufTy.Contents (Elt Ideal) m.view.ty) (h1) (p1 : Vec Ideal S1x1024x128 .f32)
    (rest : List (View.Piece (Elt Ideal) S2x1024x128 .f32)) (x : Fin 1024) (l : Fin 128) :
    m.view.read (Elt Ideal) (m.view.writes (Elt Ideal) f (⟨Rect.unit (s := S2x1024x128) ![1, 0, 0] ![1, 1024, 128] h1, p1⟩ :: rest)) (ix3 1 x l)
      = p1 (ix3 0 x l) := by
  refine (View.read_writes_cons_unit_of_mem m.view f _ _ _ _ (ix3 (0 : Fin 1) x l) rfl ?_)
  intro a; fin_cases a <;> first | rfl | exact (Nat.zero_add _).symm

/-- A load of one head's rows. -/
theorem load_head {e : EltTy} (m : Memref sig .tc .vmem S2x1024x128 e) (f : BufTy.Contents (Elt Ideal) m.view.ty) (o : ℕ) (ho : o < 2) (h1)
    (x : Fin 1024) (l : Fin 128) :
    (m.view.readAt (Elt Ideal) (Rect.unit (s := S2x1024x128) ![o, 0, 0] ![1, 1024, 128] h1).toLoadRect f : Vec Ideal S1x1024x128 e) (ix3 0 x l)
      = m.view.read (Elt Ideal) f (ix3 ⟨o, ho⟩ x l) := by
  rw [View.readAt_eq_ld]
  pointwise

/-- A load of one head's key block. -/
theorem load_keys {e : EltTy} (m : Memref sig .tc .vmem S2x4096x128 e) (f : BufTy.Contents (Elt Ideal) m.view.ty) (off : Fin 3 → ℕ) (o b : ℕ) (ho : o < 2)
    (hb : b < 4) (hoff : off = ![o, 1024 * b, 0]) (h1) (x : Fin 1024) (l : Fin 128) :
    (m.view.readAt (Elt Ideal) (Rect.unit (s := S2x4096x128) off ![1, 1024, 128] h1).toLoadRect f : Vec Ideal S1x1024x128 e) (ix3 0 x l)
      = m.view.read (Elt Ideal) f (ix3 ⟨o, ho⟩ (keyAt b x) l) := by
  subst hoff
  rw [View.readAt_eq_ld]
  pointwise
  exact congrArg (fun y => m.view.read (Elt Ideal) f (ix3 ⟨o, ho⟩ y l)) (Fin.ext (keyAt_val hb x).symm)

section
variable (𝒱 : Variants) (c : Dev nD) (bd : Option 𝒱.V) (i : grid0.Coords) (A : Args)
    (X2 : BufTy.Contents (Elt Ideal) A.q.view.ty) (X3 : BufTy.Contents (Elt Ideal) A.k.view.ty)
    (X4 : BufTy.Contents (Elt Ideal) A.v.view.ty)
    (f7 : BufTy.Contents (Elt Ideal) A.top.view.ty) (f8 : BufTy.Contents (Elt Ideal) A.acc.view.ty)

local notation "QQ" => A.q.view.read (Elt Ideal) X2
local notation "KK" => A.k.view.read (Elt Ideal) X3
local notation "VV" => A.v.view.read (Elt Ideal) X4

/-- The state of row `x` of head `hh`: the running maximum and sums of what the two arrays hold. -/
def At (W : Fin 128 → ℝ) (hh : Fin 2) (x : Fin 1024) : Prop :=
  Running W (fun l => A.top.view.read (Elt Ideal) f7 (ix3 hh x l)) (fun l => A.acc.view.read (Elt Ideal) f8 (ix3 hh x l))

/-- What key block `b` adds to row `x` of head `hh`. -/
def blk (L : Fin 2 → Fin 1024 → Fin 4096 → ℝ) (V : Fin 2 → Fin 4096 → Fin 128 → ℝ) (b : ℕ) (hh : Fin 2) (x : Fin 1024) (l : Fin 128) : ℝ :=
  ∑ c : Fin 1024, Real.exp (L hh x (keyAt b c)) * V hh (keyAt b c) l

variable {L : Fin 2 → Fin 1024 → Fin 4096 → ℝ} {V : Fin 2 → Fin 4096 → Fin 128 → ℝ}

/-- A trip's step. -/
theorem trip_at (hL : ∀ hh x c, ∑ l : Fin 128, QQ (ix3 hh x l) * KK (ix3 hh c l) = (L hh x c : EReal))
    (hV : ∀ hh c l, VV (ix3 hh c l) = (V hh c l : EReal)) (k : Fin (k0_t1_loop i).trips) (hh : Fin 2) (x : Fin 1024) {W : Fin 128 → ℝ}
    (h : At A f7 f8 W hh x) :
    At A
      (A.top.view.writes (Elt Ideal) f7 ((trip_k0_t1 (F := Ideal) 𝒱 c bd i A.q A.hq A.k A.hk A.v A.hv A.y A.hy A.b A.hb A.top A.htop A.acc A.hacc X2 X3 X4 k).1 f7 f8))
      (A.acc.view.writes (Elt Ideal) f8 ((trip_k0_t1 (F := Ideal) 𝒱 c bd i A.q A.hq A.k A.hk A.v A.hv A.y A.hy A.b A.hb A.top A.htop A.acc A.hacc X2 X3 X4 k).2.1 f7 f8))
      (fun l => W l + blk L V k.val hh x l) hh x := by
  have hk : k.val < (i 1).val := lt_of_lt_of_eq k.isLt (trips_t1 i)
  have hi : (i 1).val < 4 := (i 1).isLt
  have hb : k.val < 4 := by omega
  unfold trip_k0_t1
  dsimp only
  unfold At at h ⊢
  have hw : ∀ r : ℝ, Weighs (r : EReal) (Real.exp r) := fun r => Or.inr ⟨r, rfl, rfl⟩
  rcases (by omega : hh = 0 ∨ hh = 1) with rfl | rfl
  · simp only [read_first]
    have hsc : ∀ cc, k0_pay3 (F := Ideal) (A.q.view.readAt (Elt Ideal) (Rect.unit (s := S2x1024x128) ![0, 0, 0] ![1, 1024, 128] inb_S2x1024x128_S1x1024x128_0_0_0).toLoadRect X2)
        (A.k.view.readAt (Elt Ideal) (Rect.unit (s := S2x4096x128) (k0_off1 i k) ![1, 1024, 128] (k0_off1_inb i k)).toLoadRect X3) (ix2 x cc)
          = (L 0 x (keyAt k.val cc) : EReal) := fun cc => by
      refine (scores_apply _ _ x cc).trans ?_
      rw [← hL]
      refine Finset.sum_congr rfl fun l _ => congrArg₂ (· * ·) (load_head A.q X2 0 (by omega) _ x l) (load_keys A.k X3 _ 0 k.val (by omega) hb (off1_eq i k) _ cc l)
    exact row_step (k0_pay3 _ _) _ _ _ x (W := W)
      (h.congr (load_head A.top f7 0 (by omega) inb_S2x1024x128_S1x1024x128_0_0_0 x) (load_head A.acc f8 0 (by omega) inb_S2x1024x128_S1x1024x128_0_0_0 x))
      (e := fun cc => Real.exp (L 0 x (keyAt k.val cc))) (fun cc => (congrArg (Weighs · _) (hsc cc)).mpr (hw _)) 0 ((hsc 0).trans_ne (EReal.coe_ne_bot _))
      (fun cc => V 0 (keyAt k.val cc)) fun cc l => (load_keys A.v X4 _ 0 k.val (by omega) hb (off1_eq i k) _ cc l).trans (hV _ _ _)
  · simp only [read_second]
    have hsc : ∀ cc, k0_pay16 (F := Ideal) (A.q.view.readAt (Elt Ideal) (Rect.unit (s := S2x1024x128) ![1, 0, 0] ![1, 1024, 128] inb_S2x1024x128_S1x1024x128_1_0_0).toLoadRect X2)
        (A.k.view.readAt (Elt Ideal) (Rect.unit (s := S2x4096x128) (k0_off2 i k) ![1, 1024, 128] (k0_off2_inb i k)).toLoadRect X3) (ix2 x cc)
          = (L 1 x (keyAt k.val cc) : EReal) := fun cc => by
      refine (scores_apply _ _ x cc).trans ?_
      rw [← hL]
      refine Finset.sum_congr rfl fun l _ => congrArg₂ (· * ·) (load_head A.q X2 1 (by omega) _ x l) (load_keys A.k X3 _ 1 k.val (by omega) hb (off2_eq i k) _ cc l)
    exact row_step (k0_pay16 _ _) _ _ _ x (W := W)
      (h.congr (load_head A.top f7 1 (by omega) inb_S2x1024x128_S1x1024x128_1_0_0 x) (load_head A.acc f8 1 (by omega) inb_S2x1024x128_S1x1024x128_1_0_0 x))
      (e := fun cc => Real.exp (L 1 x (keyAt k.val cc))) (fun cc => (congrArg (Weighs · _) (hsc cc)).mpr (hw _)) 0 ((hsc 0).trans_ne (EReal.coe_ne_bot _))
      (fun cc => V 1 (keyAt k.val cc)) fun cc l => (load_keys A.v X4 _ 1 k.val (by omega) hb (off2_eq i k) _ cc l).trans (hV _ _ _)
end
end Cert.FoxFwdIdeal.Hand
-- ==== Proof.FwdLoop.lean ====
module

public import proofs.«01_k».proof.Proof.FwdStep

/-! The loop over the key blocks before the diagonal one. -/

@[expose] public section
set_option maxRecDepth 16384
noncomputable section
namespace Cert.FoxFwdIdeal.Hand
open Cert.FoxFwdIdeal Cert.FoxFwdIdeal.Gen
open Idealize.ShloMosaic Idealize.ShloMosaic.TcCoe Idealize.ShloMosaic.Tactic

theorem trips_t2 (i : grid0.Coords) : (k0_t2_loop i).trips = 0 :=
  (by decide +kernel : ∀ j : Fin 4, (k0_t2_loop (fun a => if h : a = 1 then h ▸ j else ⟨0, by revert h; fin_cases a <;> decide⟩)).trips = 0) (i 1)

section
variable (𝒱 : Variants) (c : Dev nD) (bd : Option 𝒱.V) (i : grid0.Coords) (A : Args)
    (X2 : BufTy.Contents (Elt Ideal) A.q.view.ty) (X3 : BufTy.Contents (Elt Ideal) A.k.view.ty)
    (X4 : BufTy.Contents (Elt Ideal) A.v.view.ty)
    (f7 : BufTy.Contents (Elt Ideal) A.top.view.ty) (f8 : BufTy.Contents (Elt Ideal) A.acc.view.ty)

local notation "QQ" => A.q.view.read (Elt Ideal) X2
local notation "KK" => A.k.view.read (Elt Ideal) X3
local notation "VV" => A.v.view.read (Elt Ideal) X4
local notation "PB" => pb_k0_t1 (F := Ideal) 𝒱 c bd i A.q A.hq A.k A.hk A.v A.hv A.y A.hy A.b A.hb A.top A.htop A.acc A.hacc X2 X3 X4 f7 f8

variable {L : Fin 2 → Fin 1024 → Fin 4096 → ℝ} {V : Fin 2 → Fin 4096 → Fin 128 → ℝ}

/-- A row's state after `n` trips. -/
theorem loop_at (hL : ∀ hh x c, ∑ l : Fin 128, QQ (ix3 hh x l) * KK (ix3 hh c l) = (L hh x c : EReal))
    (hV : ∀ hh c l, VV (ix3 hh c l) = (V hh c l : EReal)) (hh : Fin 2) (x : Fin 1024) (h : At A f7 f8 (fun _ => 0) hh x)
    (n : ℕ) (hn : n ≤ (k0_t1_loop i).trips) :
    At A (A.top.view.writes (Elt Ideal) f7 (PB n).1) (A.acc.view.writes (Elt Ideal) f8 (PB n).2)
      (fun l => ∑ b ∈ Finset.range n, blk L V b hh x l) hh x := by
  induction n with
  | zero => simp only [Finset.sum_range_zero]; exact h
  | succ n ih =>
    have hs := pb_k0_t1_succ (F := Ideal) 𝒱 c bd i A.q A.hq A.k A.hk A.v A.hv A.y A.hy A.b A.hb A.top A.htop A.acc A.hacc X2 X3 X4 f7 f8 ⟨n, hn⟩
    have ht := trip_at 𝒱 c bd i A X2 X3 X4 _ _ hL hV ⟨n, hn⟩ hh x (ih (by omega))
    simp only [← View.writes_append] at ht
    simp only [Finset.sum_range_succ]
    rw [show PB (n + 1) = _ from hs]
    exact ht

end
end Cert.FoxFwdIdeal.Hand
-- ==== Proof.FwdOut.lean ====
module

public import proofs.«01_k».proof.Proof.FwdLoop
public import Idealize.ShloMosaic.Lib.WordCmp

/-! The diagonal block, and a row's state when the blocks are done. -/

@[expose] public section
set_option maxRecDepth 16384
noncomputable section
namespace Cert.FoxFwdIdeal.Hand
open Cert.FoxFwdIdeal Cert.FoxFwdIdeal.Gen
open Idealize.ShloMosaic Idealize.ShloMosaic.TcCoe Idealize.ShloMosaic.Tactic
open Cert.FoxReal (Running Weighs)

theorem off5_eq (i : grid0.Coords) : k0_off5 i = ![0, 1024 * (i 1).val, 0] := by
  have : (Scalar.indexCast (Scalar.muli (BitVec.ofNat 32 (i 1).val) 1024#32)).toNat = 1024 * (i 1).val :=
    (by decide +kernel : ∀ j : Fin 4, (Scalar.indexCast (Scalar.muli (BitVec.ofNat 32 j.val) 1024#32)).toNat = 1024 * j.val) (i 1)
  simp only [k0_off5]
  rw [this]

theorem off6_eq (i : grid0.Coords) : k0_off6 i = ![1, 1024 * (i 1).val, 0] := by
  have h := congrFun (off5_eq i) 1
  simp only [k0_off5, k0_off6] at h ⊢
  rw [show (Scalar.indexCast (Scalar.muli (BitVec.ofNat 32 (i 1).val) 1024#32)).toNat = 1024 * (i 1).val from h]

/-- The products of the diagonal block, masked above the diagonal. -/
theorem masked_apply (q k : Vec Ideal S1x1024x128 .bf16) (x c : Fin 1024) :
    k0_pay26 (F := Ideal) q k (ix2 x c) = if c.val ≤ x.val then ∑ l : Fin 128, q (ix3 0 x l) * k (ix3 0 c l) else (⊥ : EReal) := by
  have hx := x.isLt
  have hc := c.isLt
  have hk : (Named.named (F := Ideal) (φ := .f32) κ "mask" 0xF149F2CA#32 : EReal) = ⊥ := rfl
  have hm : IntOp.cmpi CmpIPredicate.sge (BitVec.ofNat 32 x.val) (BitVec.ofNat 32 c.val) = 1 ↔ c.val ≤ x.val := by
    word_cmp
  unfold k0_pay26 k0_pay13
  pointwise
  rw [show ∀ (b : BitVec 1) (p q : EReal), Scalar.select b p q = if b = 1 then p else q from fun _ _ _ => rfl, hk]
  exact if_congr hm rfl rfl

section
variable (c : Dev nD) (i : grid0.Coords) (A : Args) (Q : Vec Ideal S2x1024x128 .bf16) (K V : Vec Ideal S2x4096x128 .bf16)

/-- The maximum's array as the loops find it, -/
abbrev G7 : BufTy.Contents (Elt Ideal) A.top.view.ty := A.top.view.writes (Elt Ideal) A.top.view.junk (kernelRun0_A.sl.HS0_1 (F := Ideal))
/-- and the sums'. -/
abbrev G8 : BufTy.Contents (Elt Ideal) A.acc.view.ty := A.acc.view.writes (Elt Ideal) A.acc.view.junk (kernelRun0_A.sl.HS1_1 (F := Ideal))

/-- The pieces the first loop stores, -/
abbrev P1 := pb_k0_t1 (F := Ideal) Variants.none c none i A.q A.hq A.k A.hk A.v A.hv A.y A.hy A.b A.hb A.top A.htop A.acc A.hacc
  (A.hq.unread Q) (A.hk.unread K) (A.hv.unread V) (G7 A) (G8 A) (k0_t1_loop i).trips
/-- and the second. -/
abbrev P2 := pb_k0_t2 (F := Ideal) Variants.none c none i A.q A.hq A.k A.hk A.v A.hv A.y A.hy A.b A.hb A.top A.htop A.acc A.hacc
  (kernelRun0_A.sl.v16 i) (A.hq.unread Q) (A.hk.unread K) (A.hv.unread V)
  (A.top.view.writes (Elt Ideal) A.top.view.junk ((P1 c i A Q K V).1 ++ kernelRun0_A.sl.HS0_1 (F := Ideal)))
  (A.acc.view.writes (Elt Ideal) A.acc.view.junk ((P1 c i A Q K V).2 ++ kernelRun0_A.sl.HS1_1 (F := Ideal))) (k0_t2_loop i).trips
/-- The pieces in the maximum's array before the diagonal block, -/
abbrev T7 := (P2 c i A Q K V).1 ++ ((P1 c i A Q K V).1 ++ kernelRun0_A.sl.HS0_1 (F := Ideal))
/-- and in the sums'. -/
abbrev T8 := (P2 c i A Q K V).2 ++ ((P1 c i A Q K V).2 ++ kernelRun0_A.sl.HS1_1 (F := Ideal))

theorem P2_nil : P2 c i A Q K V = ([], []) := by
  unfold P2
  rw [trips_t2]
  rfl

/-- Nothing has been seen yet when the loops start. -/
theorem start_at (hh : Fin 2) (x : Fin 1024) : At A (G7 A) (G8 A) (fun _ => 0) hh x := by
  refine Or.inl ⟨fun l => ⟨?_, ?_⟩, fun _ => rfl⟩
  · dsimp only [G7]
    unfold kernelRun0_A.sl.HS0_1
    refine (View.read_writes_cons_unit_of_mem A.top.view _ _ _ _ _ (ix3 hh x l) rfl ?_).trans ?_
    · intro a; fin_cases a <;> exact (Nat.zero_add _).symm
    unfold k0_pay14
    pointwise
    rfl
  · dsimp only [G8]
    unfold kernelRun0_A.sl.HS1_1
    refine (View.read_writes_cons_unit_of_mem A.acc.view _ _ _ _ _ (ix3 hh x l) rfl ?_).trans ?_
    · intro a; fin_cases a <;> exact (Nat.zero_add _).symm
    unfold k0_pay15
    pointwise

variable {L : Fin 2 → Fin 1024 → Fin 4096 → ℝ} {R : Fin 2 → Fin 4096 → Fin 128 → ℝ}

/-- A row's state before the diagonal block. -/
theorem before_at (hL : ∀ hh x c, ∑ l : Fin 128, Q (ix3 hh x l) * K (ix3 hh c l) = (L hh x c : EReal))
    (hV : ∀ hh c l, V (ix3 hh c l) = (R hh c l : EReal)) (hh : Fin 2) (x : Fin 1024) :
    At A (A.top.view.writes (Elt Ideal) A.top.view.junk (T7 c i A Q K V)) (A.acc.view.writes (Elt Ideal) A.acc.view.junk (T8 c i A Q K V))
      (fun l => ∑ b ∈ Finset.range (i 1).val, blk L R b hh x l) hh x := by
  unfold T7 T8
  rw [P2_nil]
  simp only [List.nil_append, View.writes_append]
  rw [← trips_t1 i]
  refine loop_at Variants.none c none i A _ _ _ (G7 A) (G8 A) ?_ ?_ hh x (start_at A hh x) _ le_rfl
  · simpa only [Memref.IsWhole.read_unread] using hL
  · simpa only [Memref.IsWhole.read_unread] using hV

/-- What the diagonal block adds to row `x` of head `hh`. -/
def diag (L : Fin 2 → Fin 1024 → Fin 4096 → ℝ) (R : Fin 2 → Fin 4096 → Fin 128 → ℝ) (b : ℕ) (hh : Fin 2) (x : Fin 1024) (l : Fin 128) : ℝ :=
  ∑ c : Fin 1024, (if c.val ≤ x.val then Real.exp (L hh x (keyAt b c)) else 0) * R hh (keyAt b c) l

/-- A store of the first head's rows leaves the second head's. -/
theorem read_past (m : Memref sig .tc .vmem S2x1024x128 .f32) (f : BufTy.Contents (Elt Ideal) m.view.ty) (h0) (p0 : Vec Ideal S1x1024x128 .f32)
    (rest : List (View.Piece (Elt Ideal) S2x1024x128 .f32)) (x : Fin 1024) (l : Fin 128) :
    m.view.read (Elt Ideal) (m.view.writes (Elt Ideal) f (⟨Rect.unit (s := S2x1024x128) ![0, 0, 0] ![1, 1024, 128] h0, p0⟩ :: rest)) (ix3 1 x l)
      = m.view.read (Elt Ideal) (m.view.writes (Elt Ideal) f rest) (ix3 1 x l) :=
  View.read_writes_cons_unit_of_not_mem m.view f _ _ _ _ rfl 0 (Or.inr (le_refl 1))

/-- A row's state when the blocks are done. -/
theorem done_at (hL : ∀ hh x c, ∑ l : Fin 128, Q (ix3 hh x l) * K (ix3 hh c l) = (L hh x c : EReal))
    (hV : ∀ hh c l, V (ix3 hh c l) = (R hh c l : EReal)) (hh : Fin 2) (x : Fin 1024) :
    At A
      (A.top.view.writes (Elt Ideal) A.top.view.junk (kernelRun0_A.sl.HS0_2 (F := Ideal) c i A.q A.hq A.k A.hk A.v A.hv A.y A.hy A.b A.hb A.top A.htop A.acc A.hacc Q K V))
      (A.acc.view.writes (Elt Ideal) A.acc.view.junk (kernelRun0_A.sl.HS1_2 (F := Ideal) c i A.q A.hq A.k A.hk A.v A.hv A.y A.hy A.b A.hb A.top A.htop A.acc A.hacc Q K V))
      (fun l => ∑ b ∈ Finset.range (i 1).val, blk L R b hh x l + diag L R (i 1).val hh x l) hh x := by
  have hb : (i 1).val < 4 := (i 1).isLt
  have hw : ∀ (hh : Fin 2) (cc : Fin 1024) (s : EReal), s = (if cc.val ≤ x.val then (L hh x (keyAt (i 1).val cc) : EReal) else ⊥) →
      Weighs s (if cc.val ≤ x.val then Real.exp (L hh x (keyAt (i 1).val cc)) else 0) := fun hh cc s hs => by
    rw [hs]
    split_ifs
    · exact Or.inr ⟨_, rfl, rfl⟩
    · exact Or.inl ⟨rfl, rfl⟩
  have h := before_at c i A Q K V hL hV hh x
  have hQ := A.hq.read_unread (Val := Elt Ideal) Q
  have hK := A.hk.read_unread (Val := Elt Ideal) K
  have hVV := A.hv.read_unread (Val := Elt Ideal) V
  unfold At at h ⊢
  unfold kernelRun0_A.sl.HS0_2 kernelRun0_A.sl.HS1_2 kernelRun0_A.sl.HS0_1_1 kernelRun0_A.sl.HS1_1_1
  rcases (by omega : hh = 0 ∨ hh = 1) with rfl | rfl
  · simp only [read_first]
    have hsc : ∀ cc, k0_pay26 (F := Ideal) (A.q.view.readAt (Elt Ideal) (Rect.unit (s := S2x1024x128) ![0, 0, 0] ![1, 1024, 128] inb_S2x1024x128_S1x1024x128_0_0_0).toLoadRect (A.hq.unread Q))
        (A.k.view.readAt (Elt Ideal) (Rect.unit (s := S2x4096x128) (k0_off5 i) ![1, 1024, 128] (k0_off5_inb i)).toLoadRect (A.hk.unread K)) (ix2 x cc)
          = if cc.val ≤ x.val then (L 0 x (keyAt (i 1).val cc) : EReal) else ⊥ := fun cc => by
      refine (masked_apply _ _ x cc).trans (if_congr Iff.rfl ?_ rfl)
      rw [← hL]
      refine Finset.sum_congr rfl fun l _ => congrArg₂ (· * ·) ?_ ?_
      · exact (load_head A.q _ 0 (by omega) _ x l).trans (congrFun hQ _)
      · exact (load_keys A.k _ _ 0 (i 1).val (by omega) hb (off5_eq i) _ cc l).trans (congrFun hK _)
    exact row_step (k0_pay26 _ _) _ _ _ x
      (h.congr (load_head A.top _ 0 (by omega) inb_S2x1024x128_S1x1024x128_0_0_0 x) (load_head A.acc _ 0 (by omega) inb_S2x1024x128_S1x1024x128_0_0_0 x))
      (fun cc => hw 0 cc _ (hsc cc)) 0 ((hsc 0).trans_ne (by rw [if_pos (show ((0 : Fin 1024) : ℕ) ≤ x.val from Nat.zero_le _)]; exact EReal.coe_ne_bot _))
      (fun cc => R 0 (keyAt (i 1).val cc)) fun cc l =>
        ((load_keys A.v _ _ 0 (i 1).val (by omega) hb (off5_eq i) _ cc l).trans (congrFun hVV _)).trans (hV _ _ _)
  · simp only [read_second]
    have hsc : ∀ cc, k0_pay31 k0_pay13 (F := Ideal) (A.q.view.readAt (Elt Ideal) (Rect.unit (s := S2x1024x128) ![1, 0, 0] ![1, 1024, 128] inb_S2x1024x128_S1x1024x128_1_0_0).toLoadRect (A.hq.unread Q))
        (A.k.view.readAt (Elt Ideal) (Rect.unit (s := S2x4096x128) (k0_off6 i) ![1, 1024, 128] (k0_off6_inb i)).toLoadRect (A.hk.unread K)) (ix2 x cc)
          = if cc.val ≤ x.val then (L 1 x (keyAt (i 1).val cc) : EReal) else ⊥ := fun cc => by
      refine (masked_apply _ _ x cc).trans (if_congr Iff.rfl ?_ rfl)
      rw [← hL]
      refine Finset.sum_congr rfl fun l _ => congrArg₂ (· * ·) ?_ ?_
      · exact (load_head A.q _ 1 (by omega) _ x l).trans (congrFun hQ _)
      · exact (load_keys A.k _ _ 1 (i 1).val (by omega) hb (off6_eq i) _ cc l).trans (congrFun hK _)
    have ht : ∀ l, kernelRun0_A.sl.v61 (F := Ideal) c i A.q A.hq A.k A.hk A.v A.hv A.y A.hy A.b A.hb A.top A.htop A.acc A.hacc Q K V (ix3 0 x l)
        = A.top.view.read (Elt Ideal) (A.top.view.writes (Elt Ideal) A.top.view.junk (T7 c i A Q K V)) (ix3 1 x l) := fun l => by
      unfold kernelRun0_A.sl.v61 kernelRun0_A.sl.HS0_1_1
      exact (load_head A.top _ 1 (by omega) inb_S2x1024x128_S1x1024x128_1_0_0 x l).trans (read_past A.top _ _ _ _ x l)
    have ha : ∀ l, kernelRun0_A.sl.v72 (F := Ideal) c i A.q A.hq A.k A.hk A.v A.hv A.y A.hy A.b A.hb A.top A.htop A.acc A.hacc Q K V (ix3 0 x l)
        = A.acc.view.read (Elt Ideal) (A.acc.view.writes (Elt Ideal) A.acc.view.junk (T8 c i A Q K V)) (ix3 1 x l) := fun l => by
      unfold kernelRun0_A.sl.v72 kernelRun0_A.sl.HS1_1_1
      exact (load_head A.acc _ 1 (by omega) inb_S2x1024x128_S1x1024x128_1_0_0 x l).trans (read_past A.acc _ _ _ _ x l)
    exact row_step (k0_pay31 k0_pay13 _ _) (kernelRun0_A.sl.v61 (F := Ideal) c i A.q A.hq A.k A.hk A.v A.hv A.y A.hy A.b A.hb A.top A.htop A.acc A.hacc Q K V) (kernelRun0_A.sl.v72 (F := Ideal) c i A.q A.hq A.k A.hk A.v A.hv A.y A.hy A.b A.hb A.top A.htop A.acc A.hacc Q K V) _ x
      (h.congr ht ha)
      (fun cc => hw 1 cc _ (hsc cc)) 0 ((hsc 0).trans_ne (by rw [if_pos (show ((0 : Fin 1024) : ℕ) ≤ x.val from Nat.zero_le _)]; exact EReal.coe_ne_bot _))
      (fun cc => R 1 (keyAt (i 1).val cc)) fun cc l =>
        ((load_keys A.v _ _ 1 (i 1).val (by omega) hb (off6_eq i) _ cc l).trans (congrFun hVV _)).trans (hV _ _ _)
end
end Cert.FoxFwdIdeal.Hand
-- ==== Proof.FwdPoint.lean ====
module

public import proofs.«01_k».proof.Proof.FwdOut

/-! What a grid point leaves in its two output blocks. -/

@[expose] public section
set_option maxRecDepth 16384
noncomputable section
namespace Cert.FoxFwdIdeal.Hand
open Cert.FoxFwdIdeal Cert.FoxFwdIdeal.Gen
open Idealize.ShloMosaic Idealize.ShloMosaic.TcCoe Idealize.ShloMosaic.Tactic
open Cert.FoxReal (Running)

/-- The first head's normalised sums, -/
theorem pay39_apply (a : Vec Ideal S1x1024x128 .f32) (x : Fin 1024) (l : Fin 128) :
    k0_pay39 (F := Ideal) a (ix2 x l) = a (ix3 0 x l) * Ideal.div 1 (a (ix3 0 x 64)) := by
  unfold k0_pay39 k0_pay38 k0_pay37
  pointwise

/-- the second head's, -/
theorem pay45_apply (a : Vec Ideal S1x1024x128 .f32) (x : Fin 1024) (l : Fin 128) :
    k0_pay45 (F := Ideal) a (ix2 x l) = a (ix3 0 x l) * Ideal.div 1 (a (ix3 0 x 0)) := by
  unfold k0_pay45 k0_pay44 k0_pay43
  pointwise

/-- minus the first head's log-sum, -/
theorem pay40_apply (a t : Vec Ideal S1x1024x128 .f32) (x : Fin 1024) (l : Fin 128) :
    k0_pay40 (F := Ideal) a t (ix2 x l) = 0 - (t (ix3 0 x l) + Ideal.log (a (ix3 0 x 64))) := by
  unfold k0_pay40 k0_pay38 k0_pay37
  pointwise

/-- and minus the second head's. -/
theorem pay46_apply (a t : Vec Ideal S1x1024x128 .f32) (x : Fin 1024) (l : Fin 128) :
    k0_pay46 (F := Ideal) a t (ix2 x l) = 0 - (t (ix3 0 x l) + Ideal.log (a (ix3 0 x 0))) := by
  unfold k0_pay46 k0_pay44 k0_pay43
  pointwise

/-- The two heads side by side. -/
theorem pay2_apply (p q : FVec Ideal S1024x128 .f32) (x : Fin 1024) (l : Fin 128) :
    k0_pay2 (F := Ideal) kernelRun0_A.sl.v0 p q (ix2 x l) = if l.val < 64 then p (ix2 x l) else q (ix2 x l) := by
  have hl := l.isLt
  have hm : IntOp.cmpi CmpIPredicate.slt (BitVec.ofNat 32 l.val) 64#32 = 1 ↔ l.val < 64 := by word_cmp
  unfold k0_pay2 kernelRun0_A.sl.v0
  pointwise
  rw [show ∀ (b : BitVec 1) (p q : EReal), Scalar.select b p q = if b = 1 then p else q from fun _ _ _ => rfl]
  exact if_congr hm rfl rfl

/-- The first head's three lanes for minus its log-sum, -/
theorem pay42_apply (r : FVec Ideal S1024x128 .f32) (r' : FVec Ideal S1024x128 .bf16) (q : Vec Ideal S1x1024x128 .bf16) (x : Fin 1024) :
    k0_pay42 (F := Ideal) kernelRun0_A.sl.v0 r r' q (ix3 0 x 70) = r' (ix2 x 70)
      ∧ k0_pay42 (F := Ideal) kernelRun0_A.sl.v0 r r' q (ix3 0 x 71) = r (ix2 x 71) - r' (ix2 x 71)
      ∧ k0_pay42 (F := Ideal) kernelRun0_A.sl.v0 r r' q (ix3 0 x 72) = r (ix2 x 72) - r' (ix2 x 72) - (r (ix2 x 72) - r' (ix2 x 72)) := by
  unfold k0_pay42 kernelRun0_A.sl.v0
  refine ⟨?_, ?_, ?_⟩ <;> · pointwise; try rfl

/-- and the second head's. -/
theorem pay1_apply (r r' r'' : FVec Ideal S1024x128 .bf16) (q : Vec Ideal S1x1024x128 .bf16) (x : Fin 1024) :
    k0_pay1 (F := Ideal) kernelRun0_A.sl.v0 r r' r'' 6#32 q (ix3 0 x 6) = r (ix2 x 6)
      ∧ k0_pay1 (F := Ideal) kernelRun0_A.sl.v0 r r' r'' 6#32 q (ix3 0 x 7) = r' (ix2 x 7)
      ∧ k0_pay1 (F := Ideal) kernelRun0_A.sl.v0 r r' r'' 6#32 q (ix3 0 x 8) = r'' (ix2 x 8) := by
  unfold k0_pay1 kernelRun0_A.sl.v0
  refine ⟨?_, ?_, ?_⟩ <;> · pointwise; try rfl

theorem pay41_apply (a t : Vec Ideal S1x1024x128 .f32) (x : Fin 1024) (l : Fin 128) :
    k0_pay41 (F := Ideal) a t (ix2 x l) = k0_pay40 (F := Ideal) a t (ix2 x l) := by
  unfold k0_pay41; generalize k0_pay40 (F := Ideal) a t = r; pointwise

theorem pay47_apply (a t : Vec Ideal S1x1024x128 .f32) (x : Fin 1024) (l : Fin 128) :
    k0_pay47 (F := Ideal) a t (ix2 x l) = k0_pay46 (F := Ideal) a t (ix2 x l) := by
  unfold k0_pay47; generalize k0_pay46 (F := Ideal) a t = r; pointwise

theorem pay49_apply (a t : Vec Ideal S1x1024x128 .f32) (x : Fin 1024) (l : Fin 128) :
    k0_pay49 (F := Ideal) a t (ix2 x l) = k0_pay46 (F := Ideal) a t (ix2 x l) - k0_pay46 (F := Ideal) a t (ix2 x l) := by
  unfold k0_pay49 k0_pay48 k0_pay47; generalize k0_pay46 (F := Ideal) a t = r; pointwise

theorem pay50_apply (a t : Vec Ideal S1x1024x128 .f32) (x : Fin 1024) (l : Fin 128) :
    k0_pay50 (F := Ideal) a t (ix2 x l) = k0_pay46 (F := Ideal) a t (ix2 x l) - k0_pay46 (F := Ideal) a t (ix2 x l)
      - (k0_pay46 (F := Ideal) a t (ix2 x l) - k0_pay46 (F := Ideal) a t (ix2 x l)) := by
  unfold k0_pay50 k0_pay49 k0_pay48 k0_pay47; generalize k0_pay46 (F := Ideal) a t = r; pointwise

section
variable (c : Dev nD) (i : grid0.Coords) (A : Args) (Q : Vec Ideal S2x1024x128 .bf16) (K V : Vec Ideal S2x4096x128 .bf16)
variable {L : Fin 2 → Fin 1024 → Fin 4096 → ℝ} {R : Fin 2 → Fin 4096 → Fin 128 → ℝ}

/-- The sums over the keys a row of query block `b` sees. -/
def seen (L : Fin 2 → Fin 1024 → Fin 4096 → ℝ) (R : Fin 2 → Fin 4096 → Fin 128 → ℝ) (b : ℕ) (hh : Fin 2) (x : Fin 1024) (l : Fin 128) : ℝ :=
  ∑ b' ∈ Finset.range b, blk L R b' hh x l + diag L R b hh x l

local notation "RUN" => kernelRun0_A (F := Ideal) c i A.q A.hq A.k A.hk A.v A.hv A.y A.hy A.b A.hb A.top A.htop A.acc A.hacc Q K V

theorem first_at (hL : ∀ hh x c, ∑ l : Fin 128, Q (ix3 hh x l) * K (ix3 hh c l) = (L hh x c : EReal))
    (hV : ∀ hh c l, V (ix3 hh c l) = (R hh c l : EReal)) (x : Fin 1024) :
    Running (fun l => seen L R (i 1).val 0 x l) (fun l => kernelRun0_A.sl.v95 (F := Ideal) c i A.q A.hq A.k A.hk A.v A.hv A.y A.hy A.b A.hb A.top A.htop A.acc A.hacc Q K V (ix3 0 x l))
      (fun l => kernelRun0_A.sl.v87 (F := Ideal) c i A.q A.hq A.k A.hk A.v A.hv A.y A.hy A.b A.hb A.top A.htop A.acc A.hacc Q K V (ix3 0 x l)) :=
  (done_at c i A Q K V hL hV 0 x).congr (load_head A.top _ 0 (by omega) inb_S2x1024x128_S1x1024x128_0_0_0 x)
    (load_head A.acc _ 0 (by omega) inb_S2x1024x128_S1x1024x128_0_0_0 x)

theorem second_at (hL : ∀ hh x c, ∑ l : Fin 128, Q (ix3 hh x l) * K (ix3 hh c l) = (L hh x c : EReal))
    (hV : ∀ hh c l, V (ix3 hh c l) = (R hh c l : EReal)) (x : Fin 1024) :
    Running (fun l => seen L R (i 1).val 1 x l) (fun l => kernelRun0_A.sl.v130 (F := Ideal) c i A.q A.hq A.k A.hk A.v A.hv A.y A.hy A.b A.hb A.top A.htop A.acc A.hacc Q K V (ix3 0 x l))
      (fun l => kernelRun0_A.sl.v122 (F := Ideal) c i A.q A.hq A.k A.hk A.v A.hv A.y A.hy A.b A.hb A.top A.htop A.acc A.hacc Q K V (ix3 0 x l)) :=
  (done_at c i A Q K V hL hV 1 x).congr (load_head A.top _ 1 (by omega) inb_S2x1024x128_S1x1024x128_1_0_0 x)
    (load_head A.acc _ 1 (by omega) inb_S2x1024x128_S1x1024x128_1_0_0 x)

/-- The attention's block: each head's sums over its weights' sum. -/
theorem point_y (hL : ∀ hh x c, ∑ l : Fin 128, Q (ix3 hh x l) * K (ix3 hh c l) = (L hh x c : EReal))
    (hV : ∀ hh c l, V (ix3 hh c l) = (R hh c l : EReal)) (x : Fin 1024) (h0 : 0 < seen L R (i 1).val 0 x 64) (h1 : 0 < seen L R (i 1).val 1 x 0)
    (l : Fin 128) :
    VO0_3.read (Elt Ideal) (VO0_3.writes (Elt Ideal) VO0_3.junk (RUN).1) (ix2 x l)
      = ((if l.val < 64 then seen L R (i 1).val 0 x l / seen L R (i 1).val 0 x 64 else seen L R (i 1).val 1 x l / seen L R (i 1).val 1 x 0 : ℝ) : EReal) := by
  unfold kernelRun0_A
  dsimp only
  refine (View.read_writes_cons_unit_of_mem VO0_3 _ _ _ _ _ (ix2 x l) rfl ?_).trans ?_
  · intro a; fin_cases a <;> exact (Nat.zero_add _).symm
  refine (pay2_apply _ _ x l).trans ?_
  unfold kernelRun0_A.sl.r_5 kernelRun0_A.sl.r_8
  rw [pay39_apply, pay45_apply]
  have e0 := (first_at c i A Q K V hL hV x).quot h0 l
  have e1 := (second_at c i A Q K V hL hV x).quot h1 l
  split_ifs
  · exact e0
  · exact e1

/-- Minus the two heads' log-sums, each spread over three lanes. -/
theorem point_b (hL : ∀ hh x c, ∑ l : Fin 128, Q (ix3 hh x l) * K (ix3 hh c l) = (L hh x c : EReal))
    (hV : ∀ hh c l, V (ix3 hh c l) = (R hh c l : EReal)) (x : Fin 1024) (h0 : 0 < seen L R (i 1).val 0 x 64) (h1 : 0 < seen L R (i 1).val 1 x 0) :
    VO0_4.read (Elt Ideal) (VO0_4.writes (Elt Ideal) VO0_4.junk (RUN).2.1) (ix3 0 x 70) = ((-Real.log (seen L R (i 1).val 0 x 64) : ℝ) : EReal)
      ∧ VO0_4.read (Elt Ideal) (VO0_4.writes (Elt Ideal) VO0_4.junk (RUN).2.1) (ix3 0 x 71) = 0
      ∧ VO0_4.read (Elt Ideal) (VO0_4.writes (Elt Ideal) VO0_4.junk (RUN).2.1) (ix3 0 x 72) = 0
      ∧ VO0_4.read (Elt Ideal) (VO0_4.writes (Elt Ideal) VO0_4.junk (RUN).2.1) (ix3 1 x 6) = ((-Real.log (seen L R (i 1).val 1 x 0) : ℝ) : EReal)
      ∧ VO0_4.read (Elt Ideal) (VO0_4.writes (Elt Ideal) VO0_4.junk (RUN).2.1) (ix3 1 x 7) = 0
      ∧ VO0_4.read (Elt Ideal) (VO0_4.writes (Elt Ideal) VO0_4.junk (RUN).2.1) (ix3 1 x 8) = 0 := by
  have hs : ∀ r : ℝ, (r : EReal) - (r : EReal) = 0 := fun r => by rw [← EReal.coe_sub, sub_self, EReal.coe_zero]
  have e0 : ∀ l, k0_pay40 (F := Ideal) (kernelRun0_A.sl.v87 (F := Ideal) c i A.q A.hq A.k A.hk A.v A.hv A.y A.hy A.b A.hb A.top A.htop A.acc A.hacc Q K V) (kernelRun0_A.sl.v95 (F := Ideal) c i A.q A.hq A.k A.hk A.v A.hv A.y A.hy A.b A.hb A.top A.htop A.acc A.hacc Q K V) (ix2 x l)
      = ((-Real.log (seen L R (i 1).val 0 x 64) : ℝ) : EReal) := fun l =>
    (pay40_apply _ _ x l).trans ((first_at c i A Q K V hL hV x).lse h0 l)
  have e1 : ∀ l, k0_pay46 (F := Ideal) (kernelRun0_A.sl.v122 (F := Ideal) c i A.q A.hq A.k A.hk A.v A.hv A.y A.hy A.b A.hb A.top A.htop A.acc A.hacc Q K V) (kernelRun0_A.sl.v130 (F := Ideal) c i A.q A.hq A.k A.hk A.v A.hv A.y A.hy A.b A.hb A.top A.htop A.acc A.hacc Q K V) (ix2 x l)
      = ((-Real.log (seen L R (i 1).val 1 x 0) : ℝ) : EReal) := fun l =>
    (pay46_apply _ _ x l).trans ((second_at c i A Q K V hL hV x).lse h1 l)
  unfold kernelRun0_A
  dsimp only
  unfold kernelRun0_A.sl.r_6 kernelRun0_A.sl.r_7 kernelRun0_A.sl.r_9 kernelRun0_A.sl.r_10 kernelRun0_A.sl.r_11
  have hf : ∀ (h1 h0) (p1 p0 : Vec Ideal S1x1024x128 .bf16) (l : Fin 128), VO0_4.read (Elt Ideal) (VO0_4.writes (Elt Ideal) VO0_4.junk
      [⟨Rect.unit (s := S2x1024x128) ![1, 0, 0] ![1, 1024, 128] h1, p1⟩, ⟨Rect.unit (s := S2x1024x128) ![0, 0, 0] ![1, 1024, 128] h0, p0⟩]) (ix3 0 x l)
      = p0 (ix3 0 x l) := fun h1 h0 p1 p0 l => by
    refine (View.read_writes_cons_unit_of_not_mem VO0_4 _ _ _ _ _ rfl 0 (Or.inl Nat.zero_lt_one)).trans ?_
    refine (View.read_writes_cons_unit_of_mem VO0_4 _ _ _ _ _ (ix3 (0 : Fin 1) x l) rfl ?_)
    intro a; fin_cases a <;> first | rfl | exact (Nat.zero_add _).symm
  have hg : ∀ (h1) (p1 : Vec Ideal S1x1024x128 .bf16) (rest : List (View.Piece (Elt Ideal) S2x1024x128 .bf16)) (l : Fin 128),
      VO0_4.read (Elt Ideal) (VO0_4.writes (Elt Ideal) VO0_4.junk
      (⟨Rect.unit (s := S2x1024x128) ![1, 0, 0] ![1, 1024, 128] h1, p1⟩ :: rest)) (ix3 1 x l) = p1 (ix3 0 x l) := fun h1 p1 rest l => by
    refine (View.read_writes_cons_unit_of_mem VO0_4 _ _ _ _ _ (ix3 (0 : Fin 1) x l) rfl ?_)
    intro a; fin_cases a <;> first | rfl | exact (Nat.zero_add _).symm
  refine ⟨?_, ?_, ?_, ?_, ?_, ?_⟩
  · exact (hf _ _ _ _ _).trans ((pay42_apply _ _ _ x).1.trans ((pay41_apply _ _ x _).trans (e0 _)))
  · refine (hf _ _ _ _ _).trans ((pay42_apply _ _ _ x).2.1.trans ?_)
    rw [pay41_apply, e0, hs]
  · refine (hf _ _ _ _ _).trans ((pay42_apply _ _ _ x).2.2.trans ?_)
    rw [pay41_apply, e0, hs, sub_zero]
  · exact (hg _ _ _ _).trans ((pay1_apply _ _ _ _ x).1.trans ((pay47_apply _ _ x _).trans (e1 _)))
  · refine (hg _ _ _ _).trans ((pay1_apply _ _ _ _ x).2.1.trans ?_)
    rw [pay49_apply, e1, hs]
  · refine (hg _ _ _ _).trans ((pay1_apply _ _ _ _ x).2.2.trans ?_)
    rw [pay50_apply, e1, hs, sub_zero]

end
end Cert.FoxFwdIdeal.Hand
-- ==== Proof.FwdArrays.lean ====
module

public import proofs.«01_k».proof.Proof.FwdPoint
public import Idealize.ShloMosaic.Lib.Pipeline.Value

/-! The attention's array and the log-sums the forward call leaves, as functions of the three arrays it is handed. -/

@[expose] public section
set_option maxRecDepth 16384
noncomputable section
namespace Cert.FoxFwdIdeal.Hand
open Cert.FoxFwdIdeal Cert.FoxFwdIdeal.Gen
open Idealize.ShloMosaic Idealize.ShloMosaic.TcCoe Idealize.ShloMosaic.Tactic
open Idealize.ShloMosaic.Pipeline (Dat)

/-- A sum over all keys, by blocks of 1024. -/
theorem sum_keys (G : Fin 4096 → ℝ) : ∑ r, G r = ∑ b ∈ Finset.range 4, ∑ x : Fin 1024, G (keyAt b x) := by
  rw [Finset.sum_range, ← Fintype.sum_prod_type', ← (finProdFinEquiv (m := 4) (n := 1024)).sum_comp]
  refine Finset.sum_congr rfl fun p _ => congrArg G (Fin.ext ?_)
  rw [keyAt_val p.1.isLt]
  exact Nat.add_comm _ _

/-- The blocks before a row's own, all of them, and its own up to the row, are the keys up to the row. -/
theorem seen_eq (L : Fin 2 → Fin 1024 → Fin 4096 → ℝ) (R : Fin 2 → Fin 4096 → Fin 128 → ℝ) {b : ℕ} (hb : b < 4) (hh : Fin 2) (x : Fin 1024) (l : Fin 128) :
    seen L R b hh x l = ∑ c : Fin 4096, (if c.val ≤ (keyAt b x).val then Real.exp (L hh x c) else 0) * R hh c l := by
  have hx := x.isLt
  rw [sum_keys, ← Finset.sum_subset (Finset.range_subset_range.mpr (Nat.succ_le_of_lt hb)), Finset.sum_range_succ]
  · unfold seen blk diag
    congr 1
    · refine Finset.sum_congr rfl fun b' hb' => Finset.sum_congr rfl fun c _ => ?_
      have hlt := Finset.mem_range.mp hb'
      have hc := c.isLt
      rw [if_pos (by rw [keyAt_val hb, keyAt_val (hlt.trans hb)]; omega)]
    · refine Finset.sum_congr rfl fun c _ => ?_
      have hc := c.isLt
      rw [keyAt_val hb, keyAt_val hb]
      exact congrArg (· * _) (if_congr (by omega) rfl rfl)
  · intro b' h4 hn
    refine Finset.sum_eq_zero fun c _ => ?_
    have hc := c.isLt
    have h4' := Finset.mem_range.mp h4
    have hn' : b < b' := by by_contra h; exact hn (Finset.mem_range.mpr (by omega))
    rw [if_neg (by rw [keyAt_val hb, keyAt_val h4']; omega), zero_mul]

variable (m : (l : Loc nD τ sig) → Buf (Elt Ideal) l) (ρ : Dev nD → PrngReg)

/-- The head a point's row `hh` is. -/
def headAt (n : ℕ) (hh : Fin 2) : Fin 12 := Fin.ofNat 12 (2 * (n / 4) + hh.val)

theorem headAt_val {n : ℕ} (h : n < 24) (hh : Fin 2) : (headAt n hh).val = 2 * (n / 4) + hh.val := by
  have := hh.isLt
  simp only [headAt, Fin.ofNat]; omega

theorem lt24 (t : Fin cfg0.N) : t.val < 24 := lt_of_lt_of_eq t.isLt (show cfg0.N = 24 from N_0)

theorem rowNo_eq (t : Fin cfg0.N) : (grid0.coords t 1).val = t.val % 4 :=
  (by decide +kernel : ∀ t : Fin grid0.N, (grid0.coords t 1).val = t.val % 4) t

theorem pos_q (t : Fin cfg0.N) : win0_0.index t (0 : Fin 3) = t.val / 4 ∧ win0_0.index t (1 : Fin 3) = t.val % 4 ∧ win0_0.index t (2 : Fin 3) = 0 :=
  (by decide +kernel : ∀ t : Fin grid0.N, win0_0.index t (0 : Fin 3) = t.val / 4 ∧ win0_0.index t (1 : Fin 3) = t.val % 4 ∧ win0_0.index t (2 : Fin 3) = 0) t
theorem pos_k (t : Fin cfg0.N) : win0_1.index t (0 : Fin 3) = t.val / 4 ∧ win0_1.index t (1 : Fin 3) = 0 ∧ win0_1.index t (2 : Fin 3) = 0 :=
  (by decide +kernel : ∀ t : Fin grid0.N, win0_1.index t (0 : Fin 3) = t.val / 4 ∧ win0_1.index t (1 : Fin 3) = 0 ∧ win0_1.index t (2 : Fin 3) = 0) t
theorem pos_v (t : Fin cfg0.N) : win0_2.index t (0 : Fin 3) = t.val / 4 ∧ win0_2.index t (1 : Fin 3) = 0 ∧ win0_2.index t (2 : Fin 3) = 0 :=
  (by decide +kernel : ∀ t : Fin grid0.N, win0_2.index t (0 : Fin 3) = t.val / 4 ∧ win0_2.index t (1 : Fin 3) = 0 ∧ win0_2.index t (2 : Fin 3) = 0) t
theorem pos_y (t : Fin cfg0.N) : win0_3.index t (0 : Fin 2) = t.val % 4 ∧ win0_3.index t (1 : Fin 2) = 2 + t.val / 4 :=
  (by decide +kernel : ∀ t : Fin grid0.N, win0_3.index t (0 : Fin 2) = t.val % 4 ∧ win0_3.index t (1 : Fin 2) = 2 + t.val / 4) t
theorem pos_b (t : Fin cfg0.N) : win0_4.index t (0 : Fin 3) = t.val / 4 ∧ win0_4.index t (1 : Fin 3) = t.val % 4 ∧ win0_4.index t (2 : Fin 3) = 0 :=
  (by decide +kernel : ∀ t : Fin grid0.N, win0_4.index t (0 : Fin 3) = t.val / 4 ∧ win0_4.index t (1 : Fin 3) = t.val % 4 ∧ win0_4.index t (2 : Fin 3) = 0) t

/-- A block over all rows: where its element lies in the array. -/
theorem emb_rows {a b d : ℕ} (t : Fin cfg0.N) (hh : Fin 2) (r : Fin 4096) (l : Fin 128) (ha : a = t.val / 4) (hb : b = 0) (hd : d = 0)
    (i : S12x4096x128.Idx) (h0 : (i 0).val = a * 2 + 1 * hh.val) (h1 : (i 1).val = b * 4096 + 1 * r.val) (h2 : (i 2).val = d * 128 + 1 * l.val) :
    i = ix3 (headAt t.val hh) r l := by
  subst ha hb hd
  funext x; apply Fin.ext
  match x with
  | ⟨0, _⟩ => exact h0.trans ((by omega : _ = 2 * (t.val / 4) + hh.val).trans (headAt_val (lt24 t) hh).symm)
  | ⟨1, _⟩ => exact h1.trans (by show _ = r.val; omega)
  | ⟨2, _⟩ => exact h2.trans (by show _ = l.val; omega)

/-- A block of 1024 rows. -/
theorem emb_blk {a b d : ℕ} (t : Fin cfg0.N) (hh : Fin 2) (r : Fin 1024) (l : Fin 128) (ha : a = t.val / 4) (hb : b = t.val % 4) (hd : d = 0)
    (i : S12x4096x128.Idx) (h0 : (i 0).val = a * 2 + 1 * hh.val) (h1 : (i 1).val = b * 1024 + 1 * r.val) (h2 : (i 2).val = d * 128 + 1 * l.val) :
    i = ix3 (headAt t.val hh) (keyAt (t.val % 4) r) l := by
  subst ha hb hd
  funext x; apply Fin.ext
  match x with
  | ⟨0, _⟩ => exact h0.trans ((by omega : _ = 2 * (t.val / 4) + hh.val).trans (headAt_val (lt24 t) hh).symm)
  | ⟨1, _⟩ => exact h1.trans ((by omega : _ = 1024 * (t.val % 4) + r.val).trans (keyAt_val (Nat.mod_lt _ (by decide)) r).symm)
  | ⟨2, _⟩ => exact h2.trans (by show _ = l.val; omega)

/-- Where a column of the pair's block lies in the attention's array. -/
def colAt (n : ℕ) (l : Fin 128) : Fin 1024 := Fin.ofNat 1024 (256 + 128 * (n / 4) + l.val)

theorem colAt_val {n : ℕ} (h : n < 24) (l : Fin 128) : (colAt n l).val = 256 + 128 * (n / 4) + l.val := by
  have := l.isLt
  simp only [colAt, Fin.ofNat]; omega

theorem emb_out {a b : ℕ} (t : Fin cfg0.N) (r : Fin 1024) (l : Fin 128) (ha : a = t.val % 4) (hb : b = 2 + t.val / 4)
    (i : S4096x1024.Idx) (h0 : (i 0).val = a * 1024 + 1 * r.val) (h1 : (i 1).val = b * 128 + 1 * l.val) :
    i = ix2 (keyAt (t.val % 4) r) (colAt t.val l) := by
  subst ha hb
  funext x; apply Fin.ext
  match x with
  | ⟨0, _⟩ => exact h0.trans ((by omega : _ = 1024 * (t.val % 4) + r.val).trans (keyAt_val (Nat.mod_lt _ (by decide)) r).symm)
  | ⟨1, _⟩ => exact h1.trans ((by omega : _ = 256 + 128 * (t.val / 4) + l.val).trans (colAt_val (lt24 t) l).symm)

theorem iblk_q (c : Dev nD) (t : Fin cfg0.N) (hh : Fin 2) (r : Fin 1024) (l : Fin 128) :
    iblk m c 0 t (ix3 hh r l) = (V m c main_v30 : Vec Ideal S12x4096x128 .bf16) (ix3 (headAt t.val hh) (keyAt (t.val % 4) r) l) :=
  congrArg (V m c main_v30 : Vec Ideal S12x4096x128 .bf16) (emb_blk t hh r l (pos_q t).1 (pos_q t).2.1 (pos_q t).2.2
    (((cfg0.win 0).blk t).view.emb (ix3 hh r l)) rfl rfl rfl)
theorem iblk_k (c : Dev nD) (t : Fin cfg0.N) (hh : Fin 2) (r : Fin 4096) (l : Fin 128) :
    iblk m c 1 t (ix3 hh r l) = (V m c main_v44 : Vec Ideal S12x4096x128 .bf16) (ix3 (headAt t.val hh) r l) :=
  congrArg (V m c main_v44 : Vec Ideal S12x4096x128 .bf16) (emb_rows t hh r l (pos_k t).1 (pos_k t).2.1 (pos_k t).2.2
    (((cfg0.win 1).blk t).view.emb (ix3 hh r l)) rfl rfl rfl)
theorem iblk_v (c : Dev nD) (t : Fin cfg0.N) (hh : Fin 2) (r : Fin 4096) (l : Fin 128) :
    iblk m c 2 t (ix3 hh r l) = (V m c main_v56 : Vec Ideal S12x4096x128 .bf16) (ix3 (headAt t.val hh) r l) :=
  congrArg (V m c main_v56 : Vec Ideal S12x4096x128 .bf16) (emb_rows t hh r l (pos_v t).1 (pos_v t).2.1 (pos_v t).2.2
    (((cfg0.win 2).blk t).view.emb (ix3 hh r l)) rfl rfl rfl)

theorem emb_y (t : Fin cfg0.N) (r : Fin 1024) (l : Fin 128) :
    ((cfg0.win 3).blk t).view.emb (ix2 r l) = (ix2 (keyAt (t.val % 4) r) (colAt t.val l) : S4096x1024.Idx) :=
  emb_out t r l (pos_y t).1 (pos_y t).2 (((cfg0.win 3).blk t).view.emb (ix2 r l)) rfl rfl
theorem emb_b (t : Fin cfg0.N) (hh : Fin 2) (r : Fin 1024) (l : Fin 128) :
    ((cfg0.win 4).blk t).view.emb (ix3 hh r l) = (ix3 (headAt t.val hh) (keyAt (t.val % 4) r) l : S12x4096x128.Idx) :=
  emb_blk t hh r l (pos_b t).1 (pos_b t).2.1 (pos_b t).2.2 (((cfg0.win 4).blk t).view.emb (ix3 hh r l)) rfl rfl rfl

theorem mem_of_emb {w : Fin cfg0.W} {t : Fin cfg0.N} {i} (y) (h : ((cfg0.win w).blk t).view.emb y = i) : i ∈ ((cfg0.win w).blk t).view.set :=
  h ▸ ((cfg0.win w).blk t).view.emb_mem_set y

theorem pt_lt {p j : ℕ} (hp : p < 6) (hj : j < 4) : 4 * p + j < cfg0.N := lt_of_lt_of_eq (by omega) (show 24 = cfg0.N from N_0.symm)

theorem head_split (h : Fin 12) : ∃ p : ℕ, p < 6 ∧ ∃ hh : Fin 2, ∀ j < 4, headAt (4 * p + j) hh = h :=
  ⟨h.val / 2, by omega, ⟨h.val % 2, Nat.mod_lt _ (by decide)⟩, fun j hj => Fin.ext (by
    rw [headAt_val (by omega)]; show 2 * ((4 * (h.val / 2) + j) / 4) + h.val % 2 = h.val; omega)⟩

theorem row_split (r : Fin 4096) : ∃ j : ℕ, j < 4 ∧ ∃ k : Fin 1024, keyAt j k = r :=
  ⟨r.val / 1024, by omega, ⟨r.val % 1024, Nat.mod_lt _ (by decide)⟩, Fin.ext (by
    rw [keyAt_val (by omega)]; show 1024 * (r.val / 1024) + r.val % 1024 = r.val; omega)⟩

/-- The keys up to a row, weighted by the exponentials of their logits. -/
def tot (L : Fin 12 → Fin 4096 → Fin 4096 → ℝ) (R : Fin 12 → Fin 4096 → Fin 128 → ℝ) (h : Fin 12) (r : Fin 4096) (l : Fin 128) : ℝ :=
  ∑ c : Fin 4096, (if c.val ≤ r.val then Real.exp (L h r c) else 0) * R h c l

/-- The lane a head's weights are summed in. -/
def denLane (h : Fin 12) : Fin 128 := if h.val % 2 = 0 then 64 else 0

/-- The head whose lane a column of the attention's array is. -/
def colHead (j : Fin 1024) : Fin 12 := Fin.ofNat 12 ((j.val - 256) / 64)

/-- The attention's array. -/
def yArr (L : Fin 12 → Fin 4096 → Fin 4096 → ℝ) (R : Fin 12 → Fin 4096 → Fin 128 → ℝ) : Vec Ideal S4096x1024 .bf16 := fun i =>
  ((tot L R (colHead (i 1)) (i 0) (Fin.ofNat 128 (i 1).val) / tot L R (colHead (i 1)) (i 0) (denLane (colHead (i 1))) : ℝ) : EReal)

/-- The three arrays the call is handed, and what a point reads and leaves of them. -/
abbrev qArr (c : Dev nD) : Vec Ideal S12x4096x128 .bf16 := V m c main_v30
abbrev kArr (c : Dev nD) : Vec Ideal S12x4096x128 .bf16 := V m c main_v44
abbrev vArr (c : Dev nD) : Vec Ideal S12x4096x128 .bf16 := V m c main_v56
abbrev qBlk (c : Dev nD) (t : Fin cfg0.N) : Vec Ideal S2x1024x128 .bf16 := iblk m c 0 t
abbrev kBlk (c : Dev nD) (t : Fin cfg0.N) : Vec Ideal S2x4096x128 .bf16 := iblk m c 1 t
abbrev vBlk (c : Dev nD) (t : Fin cfg0.N) : Vec Ideal S2x4096x128 .bf16 := iblk m c 2 t
abbrev yBlk (c : Dev nD) (t : Fin cfg0.N) : Vec Ideal S1024x128 .bf16 := (dats m 0 c).after 3 t
abbrev bBlk (c : Dev nD) (t : Fin cfg0.N) : Vec Ideal S2x1024x128 .bf16 := (dats m 0 c).after 4 t

section
variable (c : Dev nD) {L : Fin 12 → Fin 4096 → Fin 4096 → ℝ} {R : Fin 12 → Fin 4096 → Fin 128 → ℝ}
  (hL : ∀ h r k, ∑ l : Fin 128, qArr m c (ix3 h r l) * kArr m c (ix3 h k l) = (L h r k : EReal))
  (hR : ∀ h k l, vArr m c (ix3 h k l) = (R h k l : EReal))
  (hpos : ∀ h r, 0 < tot L R h r (denLane h))

/-- A point's logits and values, out of the whole arrays'. -/
def ptL (L : Fin 12 → Fin 4096 → Fin 4096 → ℝ) (n : ℕ) (hh : Fin 2) (x : Fin 1024) (k : Fin 4096) : ℝ := L (headAt n hh) (keyAt (n % 4) x) k
def ptR (R : Fin 12 → Fin 4096 → Fin 128 → ℝ) (n : ℕ) (hh : Fin 2) (k : Fin 4096) (l : Fin 128) : ℝ := R (headAt n hh) k l

theorem seen_tot (t : Fin cfg0.N) (hh : Fin 2) (x : Fin 1024) (l : Fin 128) :
    seen (ptL L t.val) (ptR R t.val) (grid0.coords t 1).val hh x l = tot L R (headAt t.val hh) (keyAt (t.val % 4) x) l := by
  rw [rowNo_eq, seen_eq _ _ (Nat.mod_lt _ (by decide))]
  rfl

include hL in
theorem pt_logits (t : Fin cfg0.N) (hh : Fin 2) (x : Fin 1024) (k : Fin 4096) :
    ∑ l : Fin 128, qBlk m c t (ix3 hh x l) * kBlk m c t (ix3 hh k l) = (ptL L t.val hh x k : EReal) := by
  refine (Finset.sum_congr rfl fun l _ => ?_).trans (hL (headAt t.val hh) (keyAt (t.val % 4) x) k)
  exact congrArg₂ (· * ·) (iblk_q m c t hh x l) (iblk_k m c t hh k l)

include hR in
theorem pt_values (t : Fin cfg0.N) (hh : Fin 2) (k : Fin 4096) (l : Fin 128) :
    vBlk m c t (ix3 hh k l) = (ptR R t.val hh k l : EReal) := (iblk_v m c t hh k l).trans (hR _ _ _)

theorem den_first (t : Fin cfg0.N) : denLane (headAt t.val 0) = 64 := by
  unfold denLane
  rw [if_pos (by rw [headAt_val (lt24 t)]; show (2 * (t.val / 4) + 0) % 2 = 0; omega)]

theorem den_second (t : Fin cfg0.N) : denLane (headAt t.val 1) = 0 := by
  unfold denLane
  rw [if_neg (by rw [headAt_val (lt24 t)]; show ¬ (2 * (t.val / 4) + 1) % 2 = 0; omega)]

include hpos in
theorem pt_first (t : Fin cfg0.N) (x : Fin 1024) : 0 < seen (ptL L t.val) (ptR R t.val) (grid0.coords t 1).val 0 x 64 := by
  rw [seen_tot]
  have := hpos (headAt t.val 0) (keyAt (t.val % 4) x)
  rwa [den_first] at this

include hpos in
theorem pt_second (t : Fin cfg0.N) (x : Fin 1024) : 0 < seen (ptL L t.val) (ptR R t.val) (grid0.coords t 1).val 1 x 0 := by
  rw [seen_tot]
  have := hpos (headAt t.val 1) (keyAt (t.val % 4) x)
  rwa [den_second] at this

end
end Cert.FoxFwdIdeal.Hand
-- ==== Proof.FwdFinal.lean ====
module

public import proofs.«01_k».proof.Proof.FwdArrays
public import Idealize.ShloMosaic.Lib.Pipeline.Value

/-! The attention's array and the log-sums the forward call leaves, as functions of the three arrays it is handed: the blocks put together. -/

@[expose] public section
set_option maxRecDepth 16384
noncomputable section
namespace Cert.FoxFwdIdeal.Hand
open Cert.FoxFwdIdeal Cert.FoxFwdIdeal.Gen
open Idealize.ShloMosaic Idealize.ShloMosaic.TcCoe Idealize.ShloMosaic.Tactic
open Idealize.ShloMosaic.Pipeline (Dat)

variable (m : (l : Loc nD τ sig) → Buf (Elt Ideal) l)

section
variable (c : Dev nD) {L : Fin 12 → Fin 4096 → Fin 4096 → ℝ} {R : Fin 12 → Fin 4096 → Fin 128 → ℝ}
  (hL : ∀ h r k, ∑ l : Fin 128, qArr m c (ix3 h r l) * kArr m c (ix3 h k l) = (L h r k : EReal))
  (hR : ∀ h k l, vArr m c (ix3 h k l) = (R h k l : EReal))
  (hpos : ∀ h r, 0 < tot L R h r (denLane h))

/-- The memory blocks of a point. -/
def argsAt (t : Fin cfg0.N) : Args :=
  ⟨ms0_0 t, hs0_0 t, ms0_1 t, hs0_1 t, ms0_2 t, hs0_2 t, ms0_3 t, hs0_3 t, ms0_4 t, hs0_4 t, scM0_0, Memref.isWhole_whole _, scM0_1, Memref.isWhole_whole _⟩

set_option maxHeartbeats 2000000 in
include hL hR hpos in
theorem after_y (t : Fin cfg0.N) (x : Fin 1024) (l : Fin 128) : yBlk m c t (ix2 x l)
    = ((if l.val < 64 then tot L R (headAt t.val 0) (keyAt (t.val % 4) x) l / tot L R (headAt t.val 0) (keyAt (t.val % 4) x) 64
        else tot L R (headAt t.val 1) (keyAt (t.val % 4) x) l / tot L R (headAt t.val 1) (keyAt (t.val % 4) x) 0 : ℝ) : EReal) := by
  show (dats m 0 c).after 3 t (ix2 x l) = _
  rw [after0_3]
  unfold outsAt0 out0_A_3
  refine (point_y c (grid0.coords t) (argsAt t) (qBlk m c t) (kBlk m c t) (vBlk m c t) (L := ptL L t.val) (R := ptR R t.val)
    (pt_logits m c hL t) (pt_values m c hR t) x (pt_first hpos t x) (pt_second hpos t x) l).trans ?_
  simp only [seen_tot]

/-- What a point leaves for the log-sums is what its run stores. -/
theorem bBlk_eq (t : Fin cfg0.N) (i : S2x1024x128.Idx) : bBlk m c t i = VO0_4.read (Elt Ideal) (VO0_4.writes (Elt Ideal) VO0_4.junk
    (kernelRun0_A (F := Ideal) c (grid0.coords t) (argsAt t).q (argsAt t).hq (argsAt t).k (argsAt t).hk (argsAt t).v (argsAt t).hv (argsAt t).y (argsAt t).hy
      (argsAt t).b (argsAt t).hb (argsAt t).top (argsAt t).htop (argsAt t).acc (argsAt t).hacc (qBlk m c t) (kBlk m c t) (vBlk m c t)).2.1) i := by
  show (dats m 0 c).after 4 t i = _
  rw [after0_4]
  unfold outsAt0 out0_A_4 argsAt
  dsimp only [qBlk, kBlk, vBlk]

include hL hR hpos in
theorem after_b (t : Fin cfg0.N) (x : Fin 1024) :
    bBlk m c t (ix3 0 x 70) = ((-Real.log (tot L R (headAt t.val 0) (keyAt (t.val % 4) x) 64) : ℝ) : EReal)
      ∧ bBlk m c t (ix3 0 x 71) = 0 ∧ bBlk m c t (ix3 0 x 72) = 0
      ∧ bBlk m c t (ix3 1 x 6) = ((-Real.log (tot L R (headAt t.val 1) (keyAt (t.val % 4) x) 0) : ℝ) : EReal)
      ∧ bBlk m c t (ix3 1 x 7) = 0 ∧ bBlk m c t (ix3 1 x 8) = 0 := by
  obtain ⟨a0, a1, a2, b0, b1, b2⟩ := point_b c (grid0.coords t) (argsAt t) (qBlk m c t) (kBlk m c t) (vBlk m c t) (L := ptL L t.val) (R := ptR R t.val)
    (pt_logits m c hL t) (pt_values m c hR t) x (pt_first hpos t x) (pt_second hpos t x)
  rw [seen_tot] at a0 b0
  have e := bBlk_eq m c t
  generalize bBlk m c t = B at e ⊢
  exact ⟨(e _).trans a0, (e _).trans a1, (e _).trans a2, (e _).trans b0, (e _).trans b1, (e _).trans b2⟩

theorem colHead_at (t : Fin cfg0.N) (l : Fin 128) : colHead (colAt t.val l) = if l.val < 64 then headAt t.val 0 else headAt t.val 1 := by
  have hl := l.isLt
  have ht := lt24 t
  have e0 := headAt_val ht 0
  have e1 := headAt_val ht 1
  have ec := colAt_val ht l
  apply Fin.ext
  split_ifs with h
  · rw [e0]; simp only [colHead, Fin.ofNat, ec]; show _ = 2 * (t.val / 4) + 0; omega
  · rw [e1]; simp only [colHead, Fin.ofNat, ec]; show _ = 2 * (t.val / 4) + 1; omega

theorem lane_at (t : Fin cfg0.N) (l : Fin 128) : Fin.ofNat 128 (colAt t.val l).val = l := by
  have hl := l.isLt
  apply Fin.ext
  simp only [Fin.ofNat, colAt_val (lt24 t) l]
  omega

include hL hR hpos in
/-- The attention's array at the end, past its first columns. -/
theorem final_y (r : Fin 4096) (j : Fin 1024) (hj : 256 ≤ j.val) :
    ((dats m 0 c).arrAt 3 cfg0.N : Vec Ideal S4096x1024 .bf16) (ix2 r j) = yArr L R (ix2 r j) := by
  obtain ⟨b, hb, x, hx⟩ := row_split r
  have hp : (j.val - 256) / 128 < 6 := by have := j.isLt; omega
  refine (dats m 0 c).arrAt_apply_of_mem 3 (yArr L R) ?_ cfg0.N ⟨4 * ((j.val - 256) / 128) + b, pt_lt hp hb⟩ _ (pt_lt hp hb) (flush0_3 _)
    (mem_of_emb (w := 3) (ix2 x (Fin.ofNat 128 j.val) : S1024x128.Idx) ?_)
  · intro t _
    funext y
    idx_vars y
    show yBlk m c t (ix2 y0 y1) = yArr L R (((cfg0.win 3).blk t).view.emb (ix2 y0 y1))
    rw [emb_y, after_y m c hL hR hpos]
    show _ = ((tot L R (colHead (colAt t.val y1)) (keyAt (t.val % 4) y0) (Fin.ofNat 128 (colAt t.val y1).val)
      / tot L R (colHead (colAt t.val y1)) (keyAt (t.val % 4) y0) (denLane (colHead (colAt t.val y1))) : ℝ) : EReal)
    rw [lane_at, colHead_at]
    split_ifs
    · rw [den_first]
    · rw [den_second]
  · refine (emb_y _ x _).trans ?_
    have e1 : keyAt ((4 * ((j.val - 256) / 128) + b) % 4) x = r := by
      rw [show (4 * ((j.val - 256) / 128) + b) % 4 = b by omega, hx]
    have e2 : colAt (4 * ((j.val - 256) / 128) + b) (Fin.ofNat 128 j.val) = j := Fin.ext (by
      rw [colAt_val (by omega)]; simp only [Fin.ofNat]; omega)
    show ix2 (keyAt ((4 * ((j.val - 256) / 128) + b) % 4) x) (colAt (4 * ((j.val - 256) / 128) + b) (Fin.ofNat 128 j.val)) = _
    rw [e1, e2]

theorem cover_b : ∀ i : S12x4096x128.Idx, ∃ t : Fin cfg0.N, (cfg0.win 4).flush t = true ∧ i ∈ ((cfg0.win 4).blk t).view.set := by
  intro i
  idx_vars i
  obtain ⟨p, hp, hh, hpe⟩ := head_split i0
  obtain ⟨j, hj, k, hk⟩ := row_split i1
  have e := emb_b ⟨4 * p + j, pt_lt hp hj⟩ hh k i2
  rw [show headAt (⟨4 * p + j, pt_lt hp hj⟩ : Fin cfg0.N).val hh = i0 from hpe j hj,
    show keyAt ((⟨4 * p + j, pt_lt hp hj⟩ : Fin cfg0.N).val % 4) k = i1 from (by show keyAt ((4 * p + j) % 4) k = i1; rw [show (4 * p + j) % 4 = j by omega, hk])] at e
  exact ⟨⟨4 * p + j, pt_lt hp hj⟩, flush0_4 _, mem_of_emb (w := 4) (ix3 hh k i2 : S2x1024x128.Idx) e⟩

/-- What the six lanes of the log-sums' array hold. -/
def Lanes (L : Fin 12 → Fin 4096 → Fin 4096 → ℝ) (R : Fin 12 → Fin 4096 → Fin 128 → ℝ) (h : Fin 12) (r : Fin 4096) (l : Fin 128) (v : EReal) : Prop :=
  (h.val % 2 = 0 → (l.val = 70 → v = ((-Real.log (tot L R h r (denLane h)) : ℝ) : EReal)) ∧ (l.val = 71 → v = 0) ∧ (l.val = 72 → v = 0))
    ∧ (¬ h.val % 2 = 0 → (l.val = 6 → v = ((-Real.log (tot L R h r (denLane h)) : ℝ) : EReal)) ∧ (l.val = 7 → v = 0) ∧ (l.val = 8 → v = 0))

include hL hR hpos in
/-- The log-sums' array at the end. -/
theorem final_b (h : Fin 12) (r : Fin 4096) (l : Fin 128) :
    Lanes L R h r l (((dats m 0 c).arrAt 4 cfg0.N : Vec Ideal S12x4096x128 .bf16) (ix3 h r l)) := by
  refine (dats m 0 c).arrAt_forall_of_cover 4 (fun i v => Lanes L R (i 0) (i 1) (i 2) v) ?_ cover_b (ix3 h r l)
  intro t _ y
  idx_vars y
  show Lanes L R ((((cfg0.win 4).blk t).view.emb (ix3 y0 y1 y2) : S12x4096x128.Idx) 0) ((((cfg0.win 4).blk t).view.emb (ix3 y0 y1 y2) : S12x4096x128.Idx) 1)
    ((((cfg0.win 4).blk t).view.emb (ix3 y0 y1 y2) : S12x4096x128.Idx) 2) (bBlk m c t (ix3 y0 y1 y2))
  rw [emb_b]
  show Lanes L R (headAt t.val y0) (keyAt (t.val % 4) y1) y2 _
  obtain ⟨a0, a1, a2, b0, b1, b2⟩ := after_b m c hL hR hpos t y1
  have hv := headAt_val (lt24 t) y0
  have two : y0 = 0 ∨ y0 = 1 := by have := y0.isLt; rcases (by omega : y0.val = 0 ∨ y0.val = 1) with e | e <;> [left; right] <;> exact Fin.ext e
  rcases two with e | e
  · subst e
    refine ⟨fun _ => ⟨fun e => ?_, fun e => ?_, fun e => ?_⟩, fun hn => absurd (by rw [hv]; show (2 * (t.val / 4) + 0) % 2 = 0; omega) hn⟩
    · obtain rfl : y2 = 70 := Fin.ext e
      rw [den_first]; exact a0
    · obtain rfl : y2 = 71 := Fin.ext e
      exact a1
    · obtain rfl : y2 = 72 := Fin.ext e
      exact a2
  · subst e
    refine ⟨fun hn => absurd hn (by rw [hv]; show ¬ (2 * (t.val / 4) + 1) % 2 = 0; omega), fun _ => ⟨fun e => ?_, fun e => ?_, fun e => ?_⟩⟩
    · obtain rfl : y2 = 6 := Fin.ext e
      rw [den_second]; exact b0
    · obtain rfl : y2 = 7 := Fin.ext e
      exact b1
    · obtain rfl : y2 = 8 := Fin.ext e
      exact b2

end
end Cert.FoxFwdIdeal.Hand
-- ==== Proof.FwdPack.lean ====
module

public import proofs.«01_k».proof.Proof.FwdFinal
public import proofs.«01_k».proof.Proof.FoxTie

/-! What the host lines before the forward call lay out: the three packed arrays, on arguments that are real numbers. -/

@[expose] public section
set_option maxRecDepth 16384
noncomputable section
namespace Cert.FoxFwdIdeal.Hand
open Cert.FoxFwdIdeal Cert.FoxFwdIdeal.Gen Cert.FoxReal
open Idealize.ShloMosaic Idealize.ShloMosaic.TcCoe Idealize.ShloMosaic.Tactic

/-- `n` host lines from the `a`-th on. -/
abbrev seg (a n : ℕ) : List (HloOp τ sig (Elt Ideal)) := ((hostOps0 (F := Ideal)).drop a).take n

section
variable (W : Valuation τ sig (Elt Ideal)) (h : Fin 12) (r : Fin 4096) (d : Fin 64) (i0 : Fin 1) (j3 : Fin 3) (j54 : Fin 54) (j60 : Fin 60)

set_option maxHeartbeats 1600000 in
/-- The key and the value heads first, and the query scaled. -/
theorem s1_args (x_arg0 : Vec Ideal S4096x12x64 .f32) (hx_arg0 : x_arg0 = W (Proc.devRef .tc main_arg0)) (x_arg1 : Vec Ideal S4096x12x64 .f32) (hx_arg1 : x_arg1 = W (Proc.devRef .tc main_arg1)) (x_arg2 : Vec Ideal S4096x12x64 .f32) (hx_arg2 : x_arg2 = W (Proc.devRef .tc main_arg2)) :
    (StableHlo.after (seg 0 26) W (Proc.devRef .tc main_v18) : Vec Ideal S12x4096x64 .f32) (ix3 h r d) = (x_arg0 (ix3 r h d) * Ideal.ofBits FTy.f32 1040187392#32 : EReal)
      ∧ (StableHlo.after (seg 0 26) W (Proc.devRef .tc main_v1) : Vec Ideal S12x4096x64 .f32) (ix3 h r d) = (x_arg1 (ix3 r h d) : EReal)
      ∧ (StableHlo.after (seg 0 26) W (Proc.devRef .tc main_v2) : Vec Ideal S12x4096x64 .f32) (ix3 h r d) = (x_arg2 (ix3 r h d) : EReal) := by
  simp only [seg, List.take_succ_cons, List.take_zero, List.take_nil, List.drop_succ_cons, List.drop_zero]
  after_results_simp
  simp only [← hx_arg0, ← hx_arg1, ← hx_arg2]
  refine ⟨?_, ?_, ?_⟩ <;> (pointwise)

set_option maxHeartbeats 1600000 in
/-- The decay in three parts. -/
theorem s1_decay (x_arg3 : Vec Ideal S4096x12 .f32) (hx_arg3 : x_arg3 = W (Proc.devRef .tc main_arg3)) :
    (StableHlo.after (seg 0 26) W (Proc.devRef .tc main_v14) : Vec Ideal S12x4096x1 .f32) (ix3 h r i0) = (x_arg3 (ix2 r h) : EReal)
      ∧ (StableHlo.after (seg 0 26) W (Proc.devRef .tc main_v15) : Vec Ideal S12x4096x1 .f32) (ix3 h r i0) = (x_arg3 (ix2 r h) - x_arg3 (ix2 r h) : EReal)
      ∧ (StableHlo.after (seg 0 26) W (Proc.devRef .tc main_v16) : Vec Ideal S12x4096x1 .f32) (ix3 h r i0) = (x_arg3 (ix2 r h) - x_arg3 (ix2 r h) - (x_arg3 (ix2 r h) - x_arg3 (ix2 r h)) : EReal) := by
  simp only [seg, List.take_succ_cons, List.take_zero, List.take_nil, List.drop_succ_cons, List.drop_zero]
  after_results_simp
  simp only [← hx_arg3]
  refine ⟨?_, ?_, ?_⟩ <;> (pointwise)

set_option maxHeartbeats 1600000 in
/-- The ones and zeros that ride along. -/
theorem s1_rest  :
    (StableHlo.after (seg 0 26) W (Proc.devRef .tc main_v3) : Vec Ideal S12x4096x1 .f32) (ix3 h r i0) = (Ideal.ofBits FTy.f32 1065353216#32 : EReal)
      ∧ (StableHlo.after (seg 0 26) W (Proc.devRef .tc main_v4) : Vec Ideal S12x4096x3 .f32) (ix3 h r j3) = (Ideal.ofBits FTy.f32 1065353216#32 : EReal)
      ∧ (StableHlo.after (seg 0 26) W (Proc.devRef .tc main_v19) : Vec Ideal S12x4096x3 .f32) (ix3 h r j3) = (Ideal.ofBits FTy.f32 0#32 : EReal)
      ∧ (StableHlo.after (seg 0 26) W (Proc.devRef .tc main_v20) : Vec Ideal S12x4096x54 .f32) (ix3 h r j54) = (Ideal.ofBits FTy.f32 0#32 : EReal) := by
  simp only [seg, List.take_succ_cons, List.take_zero, List.take_nil, List.drop_succ_cons, List.drop_zero]
  after_results_simp
  refine ⟨?_, ?_, ?_, ?_⟩ <;> (pointwise)

set_option maxHeartbeats 1600000 in
/-- The query's extra lanes. -/
theorem s2 (x_v14 : Vec Ideal S12x4096x1 .f32) (hx_v14 : x_v14 = W (Proc.devRef .tc main_v14)) (x_v15 : Vec Ideal S12x4096x1 .f32) (hx_v15 : x_v15 = W (Proc.devRef .tc main_v15)) (x_v16 : Vec Ideal S12x4096x1 .f32) (hx_v16 : x_v16 = W (Proc.devRef .tc main_v16)) (x_v4 : Vec Ideal S12x4096x3 .f32) (hx_v4 : x_v4 = W (Proc.devRef .tc main_v4)) (x_v19 : Vec Ideal S12x4096x3 .f32) (hx_v19 : x_v19 = W (Proc.devRef .tc main_v19)) (x_v3 : Vec Ideal S12x4096x1 .f32) (hx_v3 : x_v3 = W (Proc.devRef .tc main_v3)) (x_v20 : Vec Ideal S12x4096x54 .f32) (hx_v20 : x_v20 = W (Proc.devRef .tc main_v20)) (a : Fin 64) :
    (StableHlo.after (seg 26 1) W (Proc.devRef .tc main_v21) : Vec Ideal S12x4096x64 .f32) (ix3 h r a) = (if q0 : a.val < 1 then x_v14 (ix3 h r ⟨a.val, by omega⟩) else if q1 : a.val - 1 < 1 then x_v15 (ix3 h r ⟨a.val - 1, by omega⟩) else if q2 : a.val - 1 - 1 < 1 then x_v16 (ix3 h r ⟨a.val - 1 - 1, by omega⟩) else if q3 : a.val - 1 - 1 - 1 < 3 then x_v4 (ix3 h r ⟨a.val - 1 - 1 - 1, by omega⟩) else if q4 : a.val - 1 - 1 - 1 - 3 < 3 then x_v19 (ix3 h r ⟨a.val - 1 - 1 - 1 - 3, by omega⟩) else if q5 : a.val - 1 - 1 - 1 - 3 - 3 < 1 then x_v3 (ix3 h r ⟨a.val - 1 - 1 - 1 - 3 - 3, by omega⟩) else x_v20 (ix3 h r ⟨a.val - 1 - 1 - 1 - 3 - 3 - 1, by omega⟩) : EReal) := by
  simp only [seg, List.take_succ_cons, List.take_zero, List.take_nil, List.drop_succ_cons, List.drop_zero]
  simp only [StableHlo.after_cons, StableHlo.after_nil, StableHlo.nary_result']
  show concatenate _ _ _ _ _ = _
  subst hx_v14 hx_v15 hx_v16 hx_v4 hx_v19 hx_v3 hx_v20
  pointwise

set_option maxHeartbeats 1600000 in
/-- These stand through the stretch. -/
theorem s2_keep :
    StableHlo.after (seg 26 1) W (Proc.devRef .tc main_v18) = W (Proc.devRef .tc main_v18)
      ∧ StableHlo.after (seg 26 1) W (Proc.devRef .tc main_v1) = W (Proc.devRef .tc main_v1)
      ∧ StableHlo.after (seg 26 1) W (Proc.devRef .tc main_v2) = W (Proc.devRef .tc main_v2)
      ∧ StableHlo.after (seg 26 1) W (Proc.devRef .tc main_v3) = W (Proc.devRef .tc main_v3)
      ∧ StableHlo.after (seg 26 1) W (Proc.devRef .tc main_v4) = W (Proc.devRef .tc main_v4)
      ∧ StableHlo.after (seg 26 1) W (Proc.devRef .tc main_v14) = W (Proc.devRef .tc main_v14)
      ∧ StableHlo.after (seg 26 1) W (Proc.devRef .tc main_v15) = W (Proc.devRef .tc main_v15)
      ∧ StableHlo.after (seg 26 1) W (Proc.devRef .tc main_v16) = W (Proc.devRef .tc main_v16) := by
  simp only [seg, List.take_succ_cons, List.take_zero, List.take_nil, List.drop_succ_cons, List.drop_zero]
  refine ⟨?_, ?_, ?_, ?_, ?_, ?_, ?_, ?_⟩ <;> after_results_simp

set_option maxHeartbeats 1600000 in
/-- The query, packed. -/
theorem s3_q (x_v18 : Vec Ideal S12x4096x64 .f32) (hx_v18 : x_v18 = W (Proc.devRef .tc main_v18)) (x_v21 : Vec Ideal S12x4096x64 .f32) (hx_v21 : x_v21 = W (Proc.devRef .tc main_v21)) (l : Fin 128) :
    (StableHlo.after (seg 27 16) W (Proc.devRef .tc main_v30) : Vec Ideal S12x4096x128 .bf16) (ix3 h r l) = (Scalar.select (IntOp.cmpi CmpIPredicate.eq (IntOp.andi (BitVec.ofNat 32 h.val) 1#32) 0#32) (if p : l.val < 64 then x_v18 (ix3 h r ⟨l.val, by omega⟩) else x_v21 (ix3 h r ⟨l.val - 64, by omega⟩)) (if p : l.val < 64 then x_v21 (ix3 h r ⟨l.val, by omega⟩) else x_v18 (ix3 h r ⟨l.val - 64, by omega⟩)) : EReal) := by
  simp only [seg, List.take_succ_cons, List.take_zero, List.take_nil, List.drop_succ_cons, List.drop_zero]
  after_results_simp
  pointwise
  after_results_simp
  simp only [← hx_v18, ← hx_v21]

set_option maxHeartbeats 1600000 in
/-- The key's extra pieces. -/
theorem s3_rest (x_v14 : Vec Ideal S12x4096x1 .f32) (hx_v14 : x_v14 = W (Proc.devRef .tc main_v14)) (x_v15 : Vec Ideal S12x4096x1 .f32) (hx_v15 : x_v15 = W (Proc.devRef .tc main_v15)) (x_v16 : Vec Ideal S12x4096x1 .f32) (hx_v16 : x_v16 = W (Proc.devRef .tc main_v16)) :
    (StableHlo.after (seg 27 16) W (Proc.devRef .tc main_v31) : Vec Ideal S12x4096x1 .f32) (ix3 h r i0) = (-x_v14 (ix3 h r i0) : EReal)
      ∧ (StableHlo.after (seg 27 16) W (Proc.devRef .tc main_v32) : Vec Ideal S12x4096x1 .f32) (ix3 h r i0) = (-x_v15 (ix3 h r i0) : EReal)
      ∧ (StableHlo.after (seg 27 16) W (Proc.devRef .tc main_v33) : Vec Ideal S12x4096x1 .f32) (ix3 h r i0) = (-x_v16 (ix3 h r i0) : EReal)
      ∧ (StableHlo.after (seg 27 16) W (Proc.devRef .tc main_v34) : Vec Ideal S12x4096x54 .f32) (ix3 h r j54) = (Ideal.ofBits FTy.f32 0#32 : EReal) := by
  simp only [seg, List.take_succ_cons, List.take_zero, List.take_nil, List.drop_succ_cons, List.drop_zero]
  after_results_simp
  simp only [← hx_v14, ← hx_v15, ← hx_v16]
  refine ⟨?_, ?_, ?_, ?_⟩ <;> (pointwise)

set_option maxHeartbeats 1600000 in
/-- These stand through the stretch. -/
theorem s3_keep :
    StableHlo.after (seg 27 16) W (Proc.devRef .tc main_v1) = W (Proc.devRef .tc main_v1)
      ∧ StableHlo.after (seg 27 16) W (Proc.devRef .tc main_v2) = W (Proc.devRef .tc main_v2)
      ∧ StableHlo.after (seg 27 16) W (Proc.devRef .tc main_v3) = W (Proc.devRef .tc main_v3)
      ∧ StableHlo.after (seg 27 16) W (Proc.devRef .tc main_v4) = W (Proc.devRef .tc main_v4) := by
  simp only [seg, List.take_succ_cons, List.take_zero, List.take_nil, List.drop_succ_cons, List.drop_zero]
  refine ⟨?_, ?_, ?_, ?_⟩ <;> after_results_simp

set_option maxHeartbeats 1600000 in
/-- The key's extra lanes. -/
theorem s4 (x_v4 : Vec Ideal S12x4096x3 .f32) (hx_v4 : x_v4 = W (Proc.devRef .tc main_v4)) (x_v31 : Vec Ideal S12x4096x1 .f32) (hx_v31 : x_v31 = W (Proc.devRef .tc main_v31)) (x_v32 : Vec Ideal S12x4096x1 .f32) (hx_v32 : x_v32 = W (Proc.devRef .tc main_v32)) (x_v33 : Vec Ideal S12x4096x1 .f32) (hx_v33 : x_v33 = W (Proc.devRef .tc main_v33)) (x_v3 : Vec Ideal S12x4096x1 .f32) (hx_v3 : x_v3 = W (Proc.devRef .tc main_v3)) (x_v34 : Vec Ideal S12x4096x54 .f32) (hx_v34 : x_v34 = W (Proc.devRef .tc main_v34)) (a : Fin 64) :
    (StableHlo.after (seg 43 1) W (Proc.devRef .tc main_v35) : Vec Ideal S12x4096x64 .f32) (ix3 h r a) = (if q0 : a.val < 3 then x_v4 (ix3 h r ⟨a.val, by omega⟩) else if q1 : a.val - 3 < 1 then x_v31 (ix3 h r ⟨a.val - 3, by omega⟩) else if q2 : a.val - 3 - 1 < 1 then x_v32 (ix3 h r ⟨a.val - 3 - 1, by omega⟩) else if q3 : a.val - 3 - 1 - 1 < 1 then x_v33 (ix3 h r ⟨a.val - 3 - 1 - 1, by omega⟩) else if q4 : a.val - 3 - 1 - 1 - 1 < 3 then x_v4 (ix3 h r ⟨a.val - 3 - 1 - 1 - 1, by omega⟩) else if q5 : a.val - 3 - 1 - 1 - 1 - 3 < 1 then x_v3 (ix3 h r ⟨a.val - 3 - 1 - 1 - 1 - 3, by omega⟩) else x_v34 (ix3 h r ⟨a.val - 3 - 1 - 1 - 1 - 3 - 1, by omega⟩) : EReal) := by
  simp only [seg, List.take_succ_cons, List.take_zero, List.take_nil, List.drop_succ_cons, List.drop_zero]
  simp only [StableHlo.after_cons, StableHlo.after_nil, StableHlo.nary_result']
  show concatenate _ _ _ _ _ = _
  subst hx_v4 hx_v31 hx_v32 hx_v33 hx_v3 hx_v34
  pointwise

set_option maxHeartbeats 1600000 in
/-- These stand through the stretch. -/
theorem s4_keep :
    StableHlo.after (seg 43 1) W (Proc.devRef .tc main_v1) = W (Proc.devRef .tc main_v1)
      ∧ StableHlo.after (seg 43 1) W (Proc.devRef .tc main_v2) = W (Proc.devRef .tc main_v2)
      ∧ StableHlo.after (seg 43 1) W (Proc.devRef .tc main_v3) = W (Proc.devRef .tc main_v3)
      ∧ StableHlo.after (seg 43 1) W (Proc.devRef .tc main_v4) = W (Proc.devRef .tc main_v4)
      ∧ StableHlo.after (seg 43 1) W (Proc.devRef .tc main_v30) = W (Proc.devRef .tc main_v30) := by
  simp only [seg, List.take_succ_cons, List.take_zero, List.take_nil, List.drop_succ_cons, List.drop_zero]
  refine ⟨?_, ?_, ?_, ?_, ?_⟩ <;> after_results_simp

set_option maxHeartbeats 1600000 in
/-- The key, packed. -/
theorem s5_k (x_v1 : Vec Ideal S12x4096x64 .f32) (hx_v1 : x_v1 = W (Proc.devRef .tc main_v1)) (x_v35 : Vec Ideal S12x4096x64 .f32) (hx_v35 : x_v35 = W (Proc.devRef .tc main_v35)) (l : Fin 128) :
    (StableHlo.after (seg 44 14) W (Proc.devRef .tc main_v44) : Vec Ideal S12x4096x128 .bf16) (ix3 h r l) = (Scalar.select (IntOp.cmpi CmpIPredicate.eq (IntOp.andi (BitVec.ofNat 32 h.val) 1#32) 0#32) (if p : l.val < 64 then x_v1 (ix3 h r ⟨l.val, by omega⟩) else x_v35 (ix3 h r ⟨l.val - 64, by omega⟩)) (if p : l.val < 64 then x_v35 (ix3 h r ⟨l.val, by omega⟩) else x_v1 (ix3 h r ⟨l.val - 64, by omega⟩)) : EReal) := by
  simp only [seg, List.take_succ_cons, List.take_zero, List.take_nil, List.drop_succ_cons, List.drop_zero]
  after_results_simp
  pointwise
  after_results_simp
  simp only [← hx_v1, ← hx_v35]

set_option maxHeartbeats 1600000 in
/-- The value's extra pieces. -/
theorem s5_rest (x_v4 : Vec Ideal S12x4096x3 .f32) (hx_v4 : x_v4 = W (Proc.devRef .tc main_v4)) :
    (StableHlo.after (seg 44 14) W (Proc.devRef .tc main_v45) : Vec Ideal S12x4096x3 .f32) (ix3 h r j3) = (-x_v4 (ix3 h r j3) : EReal)
      ∧ (StableHlo.after (seg 44 14) W (Proc.devRef .tc main_v46) : Vec Ideal S12x4096x60 .f32) (ix3 h r j60) = (Ideal.ofBits FTy.f32 0#32 : EReal) := by
  simp only [seg, List.take_succ_cons, List.take_zero, List.take_nil, List.drop_succ_cons, List.drop_zero]
  after_results_simp
  simp only [← hx_v4]
  refine ⟨?_, ?_⟩ <;> (pointwise)

set_option maxHeartbeats 1600000 in
/-- These stand through the stretch. -/
theorem s5_keep :
    StableHlo.after (seg 44 14) W (Proc.devRef .tc main_v2) = W (Proc.devRef .tc main_v2)
      ∧ StableHlo.after (seg 44 14) W (Proc.devRef .tc main_v3) = W (Proc.devRef .tc main_v3)
      ∧ StableHlo.after (seg 44 14) W (Proc.devRef .tc main_v30) = W (Proc.devRef .tc main_v30) := by
  simp only [seg, List.take_succ_cons, List.take_zero, List.take_nil, List.drop_succ_cons, List.drop_zero]
  refine ⟨?_, ?_, ?_⟩ <;> after_results_simp

set_option maxHeartbeats 1600000 in
/-- The value's extra lanes. -/
theorem s6 (x_v3 : Vec Ideal S12x4096x1 .f32) (hx_v3 : x_v3 = W (Proc.devRef .tc main_v3)) (x_v45 : Vec Ideal S12x4096x3 .f32) (hx_v45 : x_v45 = W (Proc.devRef .tc main_v45)) (x_v46 : Vec Ideal S12x4096x60 .f32) (hx_v46 : x_v46 = W (Proc.devRef .tc main_v46)) (a : Fin 64) :
    (StableHlo.after (seg 58 1) W (Proc.devRef .tc main_v47) : Vec Ideal S12x4096x64 .f32) (ix3 h r a) = (if q0 : a.val < 1 then x_v3 (ix3 h r ⟨a.val, by omega⟩) else if q1 : a.val - 1 < 3 then x_v45 (ix3 h r ⟨a.val - 1, by omega⟩) else x_v46 (ix3 h r ⟨a.val - 1 - 3, by omega⟩) : EReal) := by
  simp only [seg, List.take_succ_cons, List.take_zero, List.take_nil, List.drop_succ_cons, List.drop_zero]
  simp only [StableHlo.after_cons, StableHlo.after_nil, StableHlo.nary_result']
  show concatenate _ _ _ _ _ = _
  subst hx_v3 hx_v45 hx_v46
  pointwise

set_option maxHeartbeats 1600000 in
/-- These stand through the stretch. -/
theorem s6_keep :
    StableHlo.after (seg 58 1) W (Proc.devRef .tc main_v2) = W (Proc.devRef .tc main_v2)
      ∧ StableHlo.after (seg 58 1) W (Proc.devRef .tc main_v30) = W (Proc.devRef .tc main_v30)
      ∧ StableHlo.after (seg 58 1) W (Proc.devRef .tc main_v44) = W (Proc.devRef .tc main_v44) := by
  simp only [seg, List.take_succ_cons, List.take_zero, List.take_nil, List.drop_succ_cons, List.drop_zero]
  refine ⟨?_, ?_, ?_⟩ <;> after_results_simp

set_option maxHeartbeats 1600000 in
/-- The value, packed. -/
theorem s7_v (x_v2 : Vec Ideal S12x4096x64 .f32) (hx_v2 : x_v2 = W (Proc.devRef .tc main_v2)) (x_v47 : Vec Ideal S12x4096x64 .f32) (hx_v47 : x_v47 = W (Proc.devRef .tc main_v47)) (l : Fin 128) :
    (StableHlo.after (seg 59 11) W (Proc.devRef .tc main_v56) : Vec Ideal S12x4096x128 .bf16) (ix3 h r l) = (Scalar.select (IntOp.cmpi CmpIPredicate.eq (IntOp.andi (BitVec.ofNat 32 h.val) 1#32) 0#32) (if p : l.val < 64 then x_v2 (ix3 h r ⟨l.val, by omega⟩) else x_v47 (ix3 h r ⟨l.val - 64, by omega⟩)) (if p : l.val < 64 then x_v47 (ix3 h r ⟨l.val, by omega⟩) else x_v2 (ix3 h r ⟨l.val - 64, by omega⟩)) : EReal) := by
  simp only [seg, List.take_succ_cons, List.take_zero, List.take_nil, List.drop_succ_cons, List.drop_zero]
  after_results_simp
  pointwise
  after_results_simp
  simp only [← hx_v2, ← hx_v47]

set_option maxHeartbeats 1600000 in
/-- These stand through the stretch. -/
theorem s7_keep :
    StableHlo.after (seg 59 11) W (Proc.devRef .tc main_v30) = W (Proc.devRef .tc main_v30)
      ∧ StableHlo.after (seg 59 11) W (Proc.devRef .tc main_v44) = W (Proc.devRef .tc main_v44) := by
  simp only [seg, List.take_succ_cons, List.take_zero, List.take_nil, List.drop_succ_cons, List.drop_zero]
  refine ⟨?_, ?_⟩ <;> after_results_simp

end

section
variable (W : Valuation τ sig (Elt Ideal)) (q k v : Fin 12 → Fin 4096 → Fin 64 → ℝ) (g : Fin 12 → Fin 4096 → ℝ)

set_option maxHeartbeats 1600000 in
/-- The first stretch. -/
theorem p1 (h_arg0 : ∀ h r (a : Fin 64), (W (Proc.devRef .tc main_arg0) : Vec Ideal S4096x12x64 .f32) (ix3 r h a) = ((q h r a : ℝ) : EReal)) (h_arg1 : ∀ h r (a : Fin 64), (W (Proc.devRef .tc main_arg1) : Vec Ideal S4096x12x64 .f32) (ix3 r h a) = ((k h r a : ℝ) : EReal)) (h_arg2 : ∀ h r (a : Fin 64), (W (Proc.devRef .tc main_arg2) : Vec Ideal S4096x12x64 .f32) (ix3 r h a) = ((v h r a : ℝ) : EReal)) (h_arg3 : ∀ h r, (W (Proc.devRef .tc main_arg3) : Vec Ideal S4096x12 .f32) (ix2 r h) = ((g h r : ℝ) : EReal)) :
    (∀ h r (a : Fin 64), ((StableHlo.after (seg 0 26) W) (Proc.devRef .tc main_v18) : Vec Ideal S12x4096x64 .f32) (ix3 h r a) = ((q h r a * (1 / 8) : ℝ) : EReal))
      ∧ (∀ h r (a : Fin 64), ((StableHlo.after (seg 0 26) W) (Proc.devRef .tc main_v1) : Vec Ideal S12x4096x64 .f32) (ix3 h r a) = ((k h r a : ℝ) : EReal))
      ∧ (∀ h r (a : Fin 64), ((StableHlo.after (seg 0 26) W) (Proc.devRef .tc main_v2) : Vec Ideal S12x4096x64 .f32) (ix3 h r a) = ((v h r a : ℝ) : EReal))
      ∧ (∀ h r (a : Fin 1), ((StableHlo.after (seg 0 26) W) (Proc.devRef .tc main_v14) : Vec Ideal S12x4096x1 .f32) (ix3 h r a) = ((g h r : ℝ) : EReal))
      ∧ (∀ h r (a : Fin 1), ((StableHlo.after (seg 0 26) W) (Proc.devRef .tc main_v15) : Vec Ideal S12x4096x1 .f32) (ix3 h r a) = ((0 : ℝ) : EReal))
      ∧ (∀ h r (a : Fin 1), ((StableHlo.after (seg 0 26) W) (Proc.devRef .tc main_v16) : Vec Ideal S12x4096x1 .f32) (ix3 h r a) = ((0 : ℝ) : EReal))
      ∧ (∀ h r (a : Fin 1), ((StableHlo.after (seg 0 26) W) (Proc.devRef .tc main_v3) : Vec Ideal S12x4096x1 .f32) (ix3 h r a) = ((1 : ℝ) : EReal))
      ∧ (∀ h r (a : Fin 3), ((StableHlo.after (seg 0 26) W) (Proc.devRef .tc main_v4) : Vec Ideal S12x4096x3 .f32) (ix3 h r a) = ((1 : ℝ) : EReal))
      ∧ (∀ h r (a : Fin 3), ((StableHlo.after (seg 0 26) W) (Proc.devRef .tc main_v19) : Vec Ideal S12x4096x3 .f32) (ix3 h r a) = ((0 : ℝ) : EReal))
      ∧ (∀ h r (a : Fin 54), ((StableHlo.after (seg 0 26) W) (Proc.devRef .tc main_v20) : Vec Ideal S12x4096x54 .f32) (ix3 h r a) = ((0 : ℝ) : EReal)) := by
  refine ⟨?_, ?_, ?_, ?_, ?_, ?_, ?_, ?_, ?_, ?_⟩
  · intro h r a
    refine (s1_args (W := W) (h := h) (r := r) (d := a) _ rfl _ rfl _ rfl).1.trans ?_
    simp only [h_arg0, word_eighth, ← EReal.coe_mul]
  · intro h r a
    refine (s1_args (W := W) (h := h) (r := r) (d := a) _ rfl _ rfl _ rfl).2.1.trans ?_
    exact h_arg1 h r a
  · intro h r a
    refine (s1_args (W := W) (h := h) (r := r) (d := a) _ rfl _ rfl _ rfl).2.2.trans ?_
    exact h_arg2 h r a
  · intro h r a
    refine (s1_decay (W := W) (h := h) (r := r) (i0 := a) _ rfl).1.trans ?_
    exact h_arg3 h r
  · intro h r a
    refine (s1_decay (W := W) (h := h) (r := r) (i0 := a) _ rfl).2.1.trans ?_
    simp only [h_arg3, Cert.FoxIdeal.Hand.sub_same]
  · intro h r a
    refine (s1_decay (W := W) (h := h) (r := r) (i0 := a) _ rfl).2.2.trans ?_
    simp only [h_arg3, Cert.FoxIdeal.Hand.sub_same]
  · intro h r a
    refine (s1_rest (W := W) (h := h) (r := r) (i0 := a) (j3 := 0) (j54 := 0)).1.trans ?_
    exact Ideal.ofBits_one_f32
  · intro h r a
    refine (s1_rest (W := W) (h := h) (r := r) (i0 := 0) (j3 := a) (j54 := 0)).2.1.trans ?_
    exact Ideal.ofBits_one_f32
  · intro h r a
    refine (s1_rest (W := W) (h := h) (r := r) (i0 := 0) (j3 := a) (j54 := 0)).2.2.1.trans ?_
    exact Ideal.ofBits_zero_f32
  · intro h r a
    refine (s1_rest (W := W) (h := h) (r := r) (i0 := 0) (j3 := 0) (j54 := a)).2.2.2.trans ?_
    exact Ideal.ofBits_zero_f32

set_option maxHeartbeats 1600000 in
/-- The second. -/
theorem p2 (h_v14 : ∀ h r (a : Fin 1), (W (Proc.devRef .tc main_v14) : Vec Ideal S12x4096x1 .f32) (ix3 h r a) = ((g h r : ℝ) : EReal)) (h_v15 : ∀ h r (a : Fin 1), (W (Proc.devRef .tc main_v15) : Vec Ideal S12x4096x1 .f32) (ix3 h r a) = ((0 : ℝ) : EReal)) (h_v16 : ∀ h r (a : Fin 1), (W (Proc.devRef .tc main_v16) : Vec Ideal S12x4096x1 .f32) (ix3 h r a) = ((0 : ℝ) : EReal)) (h_v4 : ∀ h r (a : Fin 3), (W (Proc.devRef .tc main_v4) : Vec Ideal S12x4096x3 .f32) (ix3 h r a) = ((1 : ℝ) : EReal)) (h_v19 : ∀ h r (a : Fin 3), (W (Proc.devRef .tc main_v19) : Vec Ideal S12x4096x3 .f32) (ix3 h r a) = ((0 : ℝ) : EReal)) (h_v3 : ∀ h r (a : Fin 1), (W (Proc.devRef .tc main_v3) : Vec Ideal S12x4096x1 .f32) (ix3 h r a) = ((1 : ℝ) : EReal)) (h_v20 : ∀ h r (a : Fin 54), (W (Proc.devRef .tc main_v20) : Vec Ideal S12x4096x54 .f32) (ix3 h r a) = ((0 : ℝ) : EReal)) (h_v18 : ∀ h r (a : Fin 64), (W (Proc.devRef .tc main_v18) : Vec Ideal S12x4096x64 .f32) (ix3 h r a) = ((q h r a * (1 / 8) : ℝ) : EReal)) (h_v1 : ∀ h r (a : Fin 64), (W (Proc.devRef .tc main_v1) : Vec Ideal S12x4096x64 .f32) (ix3 h r a) = ((k h r a : ℝ) : EReal)) (h_v2 : ∀ h r (a : Fin 64), (W (Proc.devRef .tc main_v2) : Vec Ideal S12x4096x64 .f32) (ix3 h r a) = ((v h r a : ℝ) : EReal)) :
    (∀ h r (a : Fin 64), ((StableHlo.after (seg 26 1) W) (Proc.devRef .tc main_v21) : Vec Ideal S12x4096x64 .f32) (ix3 h r a) = ((aq (g h r) 0 a : ℝ) : EReal))
      ∧ (∀ h r (a : Fin 64), ((StableHlo.after (seg 26 1) W) (Proc.devRef .tc main_v18) : Vec Ideal S12x4096x64 .f32) (ix3 h r a) = ((q h r a * (1 / 8) : ℝ) : EReal))
      ∧ (∀ h r (a : Fin 64), ((StableHlo.after (seg 26 1) W) (Proc.devRef .tc main_v1) : Vec Ideal S12x4096x64 .f32) (ix3 h r a) = ((k h r a : ℝ) : EReal))
      ∧ (∀ h r (a : Fin 64), ((StableHlo.after (seg 26 1) W) (Proc.devRef .tc main_v2) : Vec Ideal S12x4096x64 .f32) (ix3 h r a) = ((v h r a : ℝ) : EReal))
      ∧ (∀ h r (a : Fin 1), ((StableHlo.after (seg 26 1) W) (Proc.devRef .tc main_v3) : Vec Ideal S12x4096x1 .f32) (ix3 h r a) = ((1 : ℝ) : EReal))
      ∧ (∀ h r (a : Fin 3), ((StableHlo.after (seg 26 1) W) (Proc.devRef .tc main_v4) : Vec Ideal S12x4096x3 .f32) (ix3 h r a) = ((1 : ℝ) : EReal))
      ∧ (∀ h r (a : Fin 1), ((StableHlo.after (seg 26 1) W) (Proc.devRef .tc main_v14) : Vec Ideal S12x4096x1 .f32) (ix3 h r a) = ((g h r : ℝ) : EReal))
      ∧ (∀ h r (a : Fin 1), ((StableHlo.after (seg 26 1) W) (Proc.devRef .tc main_v15) : Vec Ideal S12x4096x1 .f32) (ix3 h r a) = ((0 : ℝ) : EReal))
      ∧ (∀ h r (a : Fin 1), ((StableHlo.after (seg 26 1) W) (Proc.devRef .tc main_v16) : Vec Ideal S12x4096x1 .f32) (ix3 h r a) = ((0 : ℝ) : EReal)) := by
  refine ⟨?_, ?_, ?_, ?_, ?_, ?_, ?_, ?_, ?_⟩
  · intro h r a
    refine (s2 (W := W) (h := h) (r := r) _ rfl _ rfl _ rfl _ rfl _ rfl _ rfl _ rfl a).trans ?_
    simp only [h_v14, h_v15, h_v16, h_v4, h_v19, h_v3, h_v20]
    unfold aq
    split_ifs <;> first | rfl | (exfalso; omega)
  · intro h r a
    rw [(s2_keep W).1]; exact h_v18 h r a
  · intro h r a
    rw [(s2_keep W).2.1]; exact h_v1 h r a
  · intro h r a
    rw [(s2_keep W).2.2.1]; exact h_v2 h r a
  · intro h r a
    rw [(s2_keep W).2.2.2.1]; exact h_v3 h r a
  · intro h r a
    rw [(s2_keep W).2.2.2.2.1]; exact h_v4 h r a
  · intro h r a
    rw [(s2_keep W).2.2.2.2.2.1]; exact h_v14 h r a
  · intro h r a
    rw [(s2_keep W).2.2.2.2.2.2.1]; exact h_v15 h r a
  · intro h r a
    rw [(s2_keep W).2.2.2.2.2.2.2]; exact h_v16 h r a

set_option maxHeartbeats 1600000 in
/-- The third. -/
theorem p3 (h_v18 : ∀ h r (a : Fin 64), (W (Proc.devRef .tc main_v18) : Vec Ideal S12x4096x64 .f32) (ix3 h r a) = ((q h r a * (1 / 8) : ℝ) : EReal)) (h_v21 : ∀ h r (a : Fin 64), (W (Proc.devRef .tc main_v21) : Vec Ideal S12x4096x64 .f32) (ix3 h r a) = ((aq (g h r) 0 a : ℝ) : EReal)) (h_v1 : ∀ h r (a : Fin 64), (W (Proc.devRef .tc main_v1) : Vec Ideal S12x4096x64 .f32) (ix3 h r a) = ((k h r a : ℝ) : EReal)) (h_v2 : ∀ h r (a : Fin 64), (W (Proc.devRef .tc main_v2) : Vec Ideal S12x4096x64 .f32) (ix3 h r a) = ((v h r a : ℝ) : EReal)) (h_v3 : ∀ h r (a : Fin 1), (W (Proc.devRef .tc main_v3) : Vec Ideal S12x4096x1 .f32) (ix3 h r a) = ((1 : ℝ) : EReal)) (h_v4 : ∀ h r (a : Fin 3), (W (Proc.devRef .tc main_v4) : Vec Ideal S12x4096x3 .f32) (ix3 h r a) = ((1 : ℝ) : EReal)) (h_v14 : ∀ h r (a : Fin 1), (W (Proc.devRef .tc main_v14) : Vec Ideal S12x4096x1 .f32) (ix3 h r a) = ((g h r : ℝ) : EReal)) (h_v15 : ∀ h r (a : Fin 1), (W (Proc.devRef .tc main_v15) : Vec Ideal S12x4096x1 .f32) (ix3 h r a) = ((0 : ℝ) : EReal)) (h_v16 : ∀ h r (a : Fin 1), (W (Proc.devRef .tc main_v16) : Vec Ideal S12x4096x1 .f32) (ix3 h r a) = ((0 : ℝ) : EReal)) :
    (∀ h r (a : Fin 128), ((StableHlo.after (seg 27 16) W) (Proc.devRef .tc main_v30) : Vec Ideal S12x4096x128 .bf16) (ix3 h r a) = ((lay h (fun d => q h r d * (1 / 8)) (aq (g h r) 0) a : ℝ) : EReal))
      ∧ (∀ h r (a : Fin 1), ((StableHlo.after (seg 27 16) W) (Proc.devRef .tc main_v31) : Vec Ideal S12x4096x1 .f32) (ix3 h r a) = ((-(g h r) : ℝ) : EReal))
      ∧ (∀ h r (a : Fin 1), ((StableHlo.after (seg 27 16) W) (Proc.devRef .tc main_v32) : Vec Ideal S12x4096x1 .f32) (ix3 h r a) = ((0 : ℝ) : EReal))
      ∧ (∀ h r (a : Fin 1), ((StableHlo.after (seg 27 16) W) (Proc.devRef .tc main_v33) : Vec Ideal S12x4096x1 .f32) (ix3 h r a) = ((0 : ℝ) : EReal))
      ∧ (∀ h r (a : Fin 54), ((StableHlo.after (seg 27 16) W) (Proc.devRef .tc main_v34) : Vec Ideal S12x4096x54 .f32) (ix3 h r a) = ((0 : ℝ) : EReal))
      ∧ (∀ h r (a : Fin 64), ((StableHlo.after (seg 27 16) W) (Proc.devRef .tc main_v1) : Vec Ideal S12x4096x64 .f32) (ix3 h r a) = ((k h r a : ℝ) : EReal))
      ∧ (∀ h r (a : Fin 64), ((StableHlo.after (seg 27 16) W) (Proc.devRef .tc main_v2) : Vec Ideal S12x4096x64 .f32) (ix3 h r a) = ((v h r a : ℝ) : EReal))
      ∧ (∀ h r (a : Fin 1), ((StableHlo.after (seg 27 16) W) (Proc.devRef .tc main_v3) : Vec Ideal S12x4096x1 .f32) (ix3 h r a) = ((1 : ℝ) : EReal))
      ∧ (∀ h r (a : Fin 3), ((StableHlo.after (seg 27 16) W) (Proc.devRef .tc main_v4) : Vec Ideal S12x4096x3 .f32) (ix3 h r a) = ((1 : ℝ) : EReal)) := by
  refine ⟨?_, ?_, ?_, ?_, ?_, ?_, ?_, ?_, ?_⟩
  · intro h r a
    refine (s3_q (W := W) (h := h) (r := r) _ rfl _ rfl a).trans ?_
    simp only [h_v18, h_v21, sel_even]
    exact Cert.FoxIdeal.Hand.lay_coe h (fun d => q h r d * (1 / 8)) _ a
  · intro h r a
    refine (s3_rest (W := W) (h := h) (r := r) (i0 := a) (j54 := 0) _ rfl _ rfl _ rfl).1.trans ?_
    simp only [h_v14, ← EReal.coe_neg]
  · intro h r a
    refine (s3_rest (W := W) (h := h) (r := r) (i0 := a) (j54 := 0) _ rfl _ rfl _ rfl).2.1.trans ?_
    simp only [h_v15, ← EReal.coe_neg, neg_zero]
  · intro h r a
    refine (s3_rest (W := W) (h := h) (r := r) (i0 := a) (j54 := 0) _ rfl _ rfl _ rfl).2.2.1.trans ?_
    simp only [h_v16, ← EReal.coe_neg, neg_zero]
  · intro h r a
    refine (s3_rest (W := W) (h := h) (r := r) (i0 := 0) (j54 := a) _ rfl _ rfl _ rfl).2.2.2.trans ?_
    exact Ideal.ofBits_zero_f32
  · intro h r a
    rw [(s3_keep W).1]; exact h_v1 h r a
  · intro h r a
    rw [(s3_keep W).2.1]; exact h_v2 h r a
  · intro h r a
    rw [(s3_keep W).2.2.1]; exact h_v3 h r a
  · intro h r a
    rw [(s3_keep W).2.2.2]; exact h_v4 h r a

set_option maxHeartbeats 1600000 in
/-- The fourth. -/
theorem p4 (h_v4 : ∀ h r (a : Fin 3), (W (Proc.devRef .tc main_v4) : Vec Ideal S12x4096x3 .f32) (ix3 h r a) = ((1 : ℝ) : EReal)) (h_v31 : ∀ h r (a : Fin 1), (W (Proc.devRef .tc main_v31) : Vec Ideal S12x4096x1 .f32) (ix3 h r a) = ((-(g h r) : ℝ) : EReal)) (h_v32 : ∀ h r (a : Fin 1), (W (Proc.devRef .tc main_v32) : Vec Ideal S12x4096x1 .f32) (ix3 h r a) = ((0 : ℝ) : EReal)) (h_v33 : ∀ h r (a : Fin 1), (W (Proc.devRef .tc main_v33) : Vec Ideal S12x4096x1 .f32) (ix3 h r a) = ((0 : ℝ) : EReal)) (h_v3 : ∀ h r (a : Fin 1), (W (Proc.devRef .tc main_v3) : Vec Ideal S12x4096x1 .f32) (ix3 h r a) = ((1 : ℝ) : EReal)) (h_v34 : ∀ h r (a : Fin 54), (W (Proc.devRef .tc main_v34) : Vec Ideal S12x4096x54 .f32) (ix3 h r a) = ((0 : ℝ) : EReal)) (h_v1 : ∀ h r (a : Fin 64), (W (Proc.devRef .tc main_v1) : Vec Ideal S12x4096x64 .f32) (ix3 h r a) = ((k h r a : ℝ) : EReal)) (h_v2 : ∀ h r (a : Fin 64), (W (Proc.devRef .tc main_v2) : Vec Ideal S12x4096x64 .f32) (ix3 h r a) = ((v h r a : ℝ) : EReal)) (h_v30 : ∀ h r (a : Fin 128), (W (Proc.devRef .tc main_v30) : Vec Ideal S12x4096x128 .bf16) (ix3 h r a) = ((lay h (fun d => q h r d * (1 / 8)) (aq (g h r) 0) a : ℝ) : EReal)) :
    (∀ h r (a : Fin 64), ((StableHlo.after (seg 43 1) W) (Proc.devRef .tc main_v35) : Vec Ideal S12x4096x64 .f32) (ix3 h r a) = ((ak (g h r) a : ℝ) : EReal))
      ∧ (∀ h r (a : Fin 64), ((StableHlo.after (seg 43 1) W) (Proc.devRef .tc main_v1) : Vec Ideal S12x4096x64 .f32) (ix3 h r a) = ((k h r a : ℝ) : EReal))
      ∧ (∀ h r (a : Fin 64), ((StableHlo.after (seg 43 1) W) (Proc.devRef .tc main_v2) : Vec Ideal S12x4096x64 .f32) (ix3 h r a) = ((v h r a : ℝ) : EReal))
      ∧ (∀ h r (a : Fin 1), ((StableHlo.after (seg 43 1) W) (Proc.devRef .tc main_v3) : Vec Ideal S12x4096x1 .f32) (ix3 h r a) = ((1 : ℝ) : EReal))
      ∧ (∀ h r (a : Fin 3), ((StableHlo.after (seg 43 1) W) (Proc.devRef .tc main_v4) : Vec Ideal S12x4096x3 .f32) (ix3 h r a) = ((1 : ℝ) : EReal))
      ∧ (∀ h r (a : Fin 128), ((StableHlo.after (seg 43 1) W) (Proc.devRef .tc main_v30) : Vec Ideal S12x4096x128 .bf16) (ix3 h r a) = ((lay h (fun d => q h r d * (1 / 8)) (aq (g h r) 0) a : ℝ) : EReal)) := by
  refine ⟨?_, ?_, ?_, ?_, ?_, ?_⟩
  · intro h r a
    refine (s4 (W := W) (h := h) (r := r) _ rfl _ rfl _ rfl _ rfl _ rfl _ rfl a).trans ?_
    simp only [h_v4, h_v31, h_v32, h_v33, h_v3, h_v34]
    unfold ak
    split_ifs <;> first | rfl | (exfalso; omega)
  · intro h r a
    rw [(s4_keep W).1]; exact h_v1 h r a
  · intro h r a
    rw [(s4_keep W).2.1]; exact h_v2 h r a
  · intro h r a
    rw [(s4_keep W).2.2.1]; exact h_v3 h r a
  · intro h r a
    rw [(s4_keep W).2.2.2.1]; exact h_v4 h r a
  · intro h r a
    rw [(s4_keep W).2.2.2.2]; exact h_v30 h r a

set_option maxHeartbeats 1600000 in
/-- The fifth. -/
theorem p5 (h_v1 : ∀ h r (a : Fin 64), (W (Proc.devRef .tc main_v1) : Vec Ideal S12x4096x64 .f32) (ix3 h r a) = ((k h r a : ℝ) : EReal)) (h_v35 : ∀ h r (a : Fin 64), (W (Proc.devRef .tc main_v35) : Vec Ideal S12x4096x64 .f32) (ix3 h r a) = ((ak (g h r) a : ℝ) : EReal)) (h_v2 : ∀ h r (a : Fin 64), (W (Proc.devRef .tc main_v2) : Vec Ideal S12x4096x64 .f32) (ix3 h r a) = ((v h r a : ℝ) : EReal)) (h_v3 : ∀ h r (a : Fin 1), (W (Proc.devRef .tc main_v3) : Vec Ideal S12x4096x1 .f32) (ix3 h r a) = ((1 : ℝ) : EReal)) (h_v4 : ∀ h r (a : Fin 3), (W (Proc.devRef .tc main_v4) : Vec Ideal S12x4096x3 .f32) (ix3 h r a) = ((1 : ℝ) : EReal)) (h_v30 : ∀ h r (a : Fin 128), (W (Proc.devRef .tc main_v30) : Vec Ideal S12x4096x128 .bf16) (ix3 h r a) = ((lay h (fun d => q h r d * (1 / 8)) (aq (g h r) 0) a : ℝ) : EReal)) :
    (∀ h r (a : Fin 128), ((StableHlo.after (seg 44 14) W) (Proc.devRef .tc main_v44) : Vec Ideal S12x4096x128 .bf16) (ix3 h r a) = ((lay h (k h r) (ak (g h r)) a : ℝ) : EReal))
      ∧ (∀ h r (a : Fin 3), ((StableHlo.after (seg 44 14) W) (Proc.devRef .tc main_v45) : Vec Ideal S12x4096x3 .f32) (ix3 h r a) = ((-1 : ℝ) : EReal))
      ∧ (∀ h r (a : Fin 60), ((StableHlo.after (seg 44 14) W) (Proc.devRef .tc main_v46) : Vec Ideal S12x4096x60 .f32) (ix3 h r a) = ((0 : ℝ) : EReal))
      ∧ (∀ h r (a : Fin 64), ((StableHlo.after (seg 44 14) W) (Proc.devRef .tc main_v2) : Vec Ideal S12x4096x64 .f32) (ix3 h r a) = ((v h r a : ℝ) : EReal))
      ∧ (∀ h r (a : Fin 1), ((StableHlo.after (seg 44 14) W) (Proc.devRef .tc main_v3) : Vec Ideal S12x4096x1 .f32) (ix3 h r a) = ((1 : ℝ) : EReal))
      ∧ (∀ h r (a : Fin 128), ((StableHlo.after (seg 44 14) W) (Proc.devRef .tc main_v30) : Vec Ideal S12x4096x128 .bf16) (ix3 h r a) = ((lay h (fun d => q h r d * (1 / 8)) (aq (g h r) 0) a : ℝ) : EReal)) := by
  refine ⟨?_, ?_, ?_, ?_, ?_, ?_⟩
  · intro h r a
    refine (s5_k (W := W) (h := h) (r := r) _ rfl _ rfl a).trans ?_
    simp only [h_v1, h_v35, sel_even]
    exact Cert.FoxIdeal.Hand.lay_coe h (k h r) _ a
  · intro h r a
    refine (s5_rest (W := W) (h := h) (r := r) (j3 := a) (j60 := 0) _ rfl).1.trans ?_
    simp only [h_v4, ← EReal.coe_neg]
  · intro h r a
    refine (s5_rest (W := W) (h := h) (r := r) (j3 := 0) (j60 := a) _ rfl).2.trans ?_
    exact Ideal.ofBits_zero_f32
  · intro h r a
    rw [(s5_keep W).1]; exact h_v2 h r a
  · intro h r a
    rw [(s5_keep W).2.1]; exact h_v3 h r a
  · intro h r a
    rw [(s5_keep W).2.2]; exact h_v30 h r a

set_option maxHeartbeats 1600000 in
/-- The sixth. -/
theorem p6 (h_v3 : ∀ h r (a : Fin 1), (W (Proc.devRef .tc main_v3) : Vec Ideal S12x4096x1 .f32) (ix3 h r a) = ((1 : ℝ) : EReal)) (h_v45 : ∀ h r (a : Fin 3), (W (Proc.devRef .tc main_v45) : Vec Ideal S12x4096x3 .f32) (ix3 h r a) = ((-1 : ℝ) : EReal)) (h_v46 : ∀ h r (a : Fin 60), (W (Proc.devRef .tc main_v46) : Vec Ideal S12x4096x60 .f32) (ix3 h r a) = ((0 : ℝ) : EReal)) (h_v2 : ∀ h r (a : Fin 64), (W (Proc.devRef .tc main_v2) : Vec Ideal S12x4096x64 .f32) (ix3 h r a) = ((v h r a : ℝ) : EReal)) (h_v30 : ∀ h r (a : Fin 128), (W (Proc.devRef .tc main_v30) : Vec Ideal S12x4096x128 .bf16) (ix3 h r a) = ((lay h (fun d => q h r d * (1 / 8)) (aq (g h r) 0) a : ℝ) : EReal)) (h_v44 : ∀ h r (a : Fin 128), (W (Proc.devRef .tc main_v44) : Vec Ideal S12x4096x128 .bf16) (ix3 h r a) = ((lay h (k h r) (ak (g h r)) a : ℝ) : EReal)) :
    (∀ h r (a : Fin 64), ((StableHlo.after (seg 58 1) W) (Proc.devRef .tc main_v47) : Vec Ideal S12x4096x64 .f32) (ix3 h r a) = ((av a : ℝ) : EReal))
      ∧ (∀ h r (a : Fin 64), ((StableHlo.after (seg 58 1) W) (Proc.devRef .tc main_v2) : Vec Ideal S12x4096x64 .f32) (ix3 h r a) = ((v h r a : ℝ) : EReal))
      ∧ (∀ h r (a : Fin 128), ((StableHlo.after (seg 58 1) W) (Proc.devRef .tc main_v30) : Vec Ideal S12x4096x128 .bf16) (ix3 h r a) = ((lay h (fun d => q h r d * (1 / 8)) (aq (g h r) 0) a : ℝ) : EReal))
      ∧ (∀ h r (a : Fin 128), ((StableHlo.after (seg 58 1) W) (Proc.devRef .tc main_v44) : Vec Ideal S12x4096x128 .bf16) (ix3 h r a) = ((lay h (k h r) (ak (g h r)) a : ℝ) : EReal)) := by
  refine ⟨?_, ?_, ?_, ?_⟩
  · intro h r a
    refine (s6 (W := W) (h := h) (r := r) _ rfl _ rfl _ rfl a).trans ?_
    simp only [h_v3, h_v45, h_v46]
    unfold av
    split_ifs <;> first | rfl | (exfalso; omega)
  · intro h r a
    rw [(s6_keep W).1]; exact h_v2 h r a
  · intro h r a
    rw [(s6_keep W).2.1]; exact h_v30 h r a
  · intro h r a
    rw [(s6_keep W).2.2]; exact h_v44 h r a

set_option maxHeartbeats 1600000 in
/-- The last. -/
theorem p7 (h_v2 : ∀ h r (a : Fin 64), (W (Proc.devRef .tc main_v2) : Vec Ideal S12x4096x64 .f32) (ix3 h r a) = ((v h r a : ℝ) : EReal)) (h_v47 : ∀ h r (a : Fin 64), (W (Proc.devRef .tc main_v47) : Vec Ideal S12x4096x64 .f32) (ix3 h r a) = ((av a : ℝ) : EReal)) (h_v30 : ∀ h r (a : Fin 128), (W (Proc.devRef .tc main_v30) : Vec Ideal S12x4096x128 .bf16) (ix3 h r a) = ((lay h (fun d => q h r d * (1 / 8)) (aq (g h r) 0) a : ℝ) : EReal)) (h_v44 : ∀ h r (a : Fin 128), (W (Proc.devRef .tc main_v44) : Vec Ideal S12x4096x128 .bf16) (ix3 h r a) = ((lay h (k h r) (ak (g h r)) a : ℝ) : EReal)) :
    (∀ h r (a : Fin 128), ((StableHlo.after (seg 59 11) W) (Proc.devRef .tc main_v56) : Vec Ideal S12x4096x128 .bf16) (ix3 h r a) = ((lay h (v h r) av a : ℝ) : EReal))
      ∧ (∀ h r (a : Fin 128), ((StableHlo.after (seg 59 11) W) (Proc.devRef .tc main_v30) : Vec Ideal S12x4096x128 .bf16) (ix3 h r a) = ((lay h (fun d => q h r d * (1 / 8)) (aq (g h r) 0) a : ℝ) : EReal))
      ∧ (∀ h r (a : Fin 128), ((StableHlo.after (seg 59 11) W) (Proc.devRef .tc main_v44) : Vec Ideal S12x4096x128 .bf16) (ix3 h r a) = ((lay h (k h r) (ak (g h r)) a : ℝ) : EReal)) := by
  refine ⟨?_, ?_, ?_⟩
  · intro h r a
    refine (s7_v (W := W) (h := h) (r := r) _ rfl _ rfl a).trans ?_
    simp only [h_v2, h_v47, sel_even]
    exact Cert.FoxIdeal.Hand.lay_coe h (v h r) _ a
  · intro h r a
    rw [(s7_keep W).1]; exact h_v30 h r a
  · intro h r a
    rw [(s7_keep W).2]; exact h_v44 h r a

theorem stretches : StableHlo.after (List.flatten [hostOps0 (F := Ideal)]) W = StableHlo.after (seg 59 11) (StableHlo.after (seg 58 1) (StableHlo.after (seg 44 14)
    (StableHlo.after (seg 43 1) (StableHlo.after (seg 27 16) (StableHlo.after (seg 26 1) (StableHlo.after (seg 0 26) W)))))) := rfl

/-- The three packed arrays, after all the host lines before the call. -/
theorem packed (h0 : ∀ h r (a : Fin 64), (W (Proc.devRef .tc main_arg0) : Vec Ideal S4096x12x64 .f32) (ix3 r h a) = ((q h r a : ℝ) : EReal)) (h1 : ∀ h r (a : Fin 64), (W (Proc.devRef .tc main_arg1) : Vec Ideal S4096x12x64 .f32) (ix3 r h a) = ((k h r a : ℝ) : EReal)) (h2 : ∀ h r (a : Fin 64), (W (Proc.devRef .tc main_arg2) : Vec Ideal S4096x12x64 .f32) (ix3 r h a) = ((v h r a : ℝ) : EReal)) (h3 : ∀ h r, (W (Proc.devRef .tc main_arg3) : Vec Ideal S4096x12 .f32) (ix2 r h) = ((g h r : ℝ) : EReal)) :
    (∀ h r (a : Fin 128), ((StableHlo.after (List.flatten [hostOps0 (F := Ideal)]) W) (Proc.devRef .tc main_v30) : Vec Ideal S12x4096x128 .bf16) (ix3 h r a) = ((lay h (fun d => q h r d * (1 / 8)) (aq (g h r) 0) a : ℝ) : EReal))
      ∧ (∀ h r (a : Fin 128), ((StableHlo.after (List.flatten [hostOps0 (F := Ideal)]) W) (Proc.devRef .tc main_v44) : Vec Ideal S12x4096x128 .bf16) (ix3 h r a) = ((lay h (k h r) (ak (g h r)) a : ℝ) : EReal))
      ∧ (∀ h r (a : Fin 128), ((StableHlo.after (List.flatten [hostOps0 (F := Ideal)]) W) (Proc.devRef .tc main_v56) : Vec Ideal S12x4096x128 .bf16) (ix3 h r a) = ((lay h (v h r) av a : ℝ) : EReal)) := by
  rw [stretches]
  obtain ⟨a18, a1, a2, a14, a15, a16, a3, a4, a19, a20⟩ := p1 W q k v g h0 h1 h2 h3
  generalize StableHlo.after (seg 0 26) W = W at *
  obtain ⟨a21, a18, a1, a2, a3, a4, a14, a15, a16⟩ := p2 W q k v g a14 a15 a16 a4 a19 a3 a20 a18 a1 a2
  generalize StableHlo.after (seg 26 1) W = W at *
  obtain ⟨a30, a31, a32, a33, a34, a1, a2, a3, a4⟩ := p3 W q k v g a18 a21 a1 a2 a3 a4 a14 a15 a16
  generalize StableHlo.after (seg 27 16) W = W at *
  obtain ⟨a35, a1, a2, a3, a4, a30⟩ := p4 W q k v g a4 a31 a32 a33 a3 a34 a1 a2 a30
  generalize StableHlo.after (seg 43 1) W = W at *
  obtain ⟨a44, a45, a46, a2, a3, a30⟩ := p5 W q k v g a1 a35 a2 a3 a4 a30
  generalize StableHlo.after (seg 44 14) W = W at *
  obtain ⟨a47, a2, a30, a44⟩ := p6 W q k v g a3 a45 a46 a2 a30 a44
  generalize StableHlo.after (seg 58 1) W = W at *
  obtain ⟨a56, a30, a44⟩ := p7 W q k v g a2 a47 a30 a44
  exact ⟨a30, a44, a56⟩

end
end Cert.FoxFwdIdeal.Hand
-- ==== Proof.FwdTail.lean ====
module

public import proofs.«01_k».proof.Proof.FwdPack

/-! What the host lines after the forward call return, element by element: the attention's columns, and the log-sum from the lanes that carry it. -/

@[expose] public section
set_option maxRecDepth 16384
noncomputable section
namespace Cert.FoxFwdIdeal.Hand
open Cert.FoxFwdIdeal Cert.FoxFwdIdeal.Gen Cert.FoxReal
open Idealize.ShloMosaic Idealize.ShloMosaic.TcCoe Idealize.ShloMosaic.Tactic

variable (W : Valuation τ sig (Elt Ideal)) (h : Fin 12) (r : Fin 4096)
  (x0 : Vec Ideal S4096x1024 .bf16) (x1 : Vec Ideal S12x4096x128 .bf16)
  (hx0 : x0 = W (Proc.devRef .tc main_v57_0)) (hx1 : x1 = W (Proc.devRef .tc main_v57_1))

set_option maxHeartbeats 1600000 in
include hx0 in
/-- The attention returned. -/
theorem tail_y (j : Fin 768) : (StableHlo.after (hostOps1 (F := Ideal)) W (Proc.devRef .tc main_v90) : Vec Ideal S4096x768 .bf16) (ix2 r j)
    = x0 (ix2 r ⟨256 + j.val, by omega⟩) := by
  after_results_simp
  simp only [← hx0]
  pointwise

set_option maxHeartbeats 1600000 in
include hx1 in
/-- The log-sum returned. -/
theorem tail_lse : (StableHlo.after (hostOps1 (F := Ideal)) W (Proc.devRef .tc main_v93) : Vec Ideal S12x4096 .f32) (ix2 h r)
    = (-((if h.val % 2 = 0 then x1 (ix3 h r (70 : Fin 128)) else x1 (ix3 h r (6 : Fin 128)))
        + (if h.val % 2 = 0 then x1 (ix3 h r (71 : Fin 128)) else x1 (ix3 h r (7 : Fin 128)))
        + (if h.val % 2 = 0 then x1 (ix3 h r (72 : Fin 128)) else x1 (ix3 h r (8 : Fin 128)))) - 1 : EReal) := by
  after_results_simp
  simp only [← hx1]
  rw [← sel_even, ← sel_even, ← sel_even]
  pointwise

end Cert.FoxFwdIdeal.Hand
-- ==== Proof.FwdRef.lean ====
module

public import proofs.«01_k».proof.Proof.FwdFinal
public import proofs.«01_k».proof.Proof.FoxTie
public import proofs.«01_k».proof.Proof.Gen.FoxFwdRefIdeal.Read

/-! The forgetting attention's reference, stage by stage, on arguments that are real numbers; and the forward call's sums in the same words. -/

@[expose] public section
set_option maxRecDepth 16384
noncomputable section
namespace Cert.FoxFwdRefIdeal.Tie
open Cert.FoxFwdRefIdeal Cert.FoxFwdRefIdeal.Gen Cert.FoxFwdRefIdeal.Read Cert.FoxReal
open Idealize.ShloMosaic Idealize.ShloMosaic.TcCoe Idealize.ShloMosaic.Tactic

variable (x0 x1 x2 : Vec Ideal S4096x12x64 .f32) (x3 : Vec Ideal S4096x12 .f32)
  (q k v : Fin 12 → Fin 4096 → Fin 64 → ℝ) (g : Fin 12 → Fin 4096 → ℝ) (t : Fin 12 → Fin 4096 → ℝ)
  (h0 : ∀ h r d, x0 (ix3 r h d) = ((q h r d : ℝ) : EReal)) (h1 : ∀ h r d, x1 (ix3 r h d) = ((k h r d : ℝ) : EReal))
  (h2 : ∀ h r d, x2 (ix3 r h d) = ((v h r d : ℝ) : EReal)) (h3 : ∀ h r, x3 (ix2 r h) = ((g h r : ℝ) : EReal))

include h0 h1 h3 in
/-- The masked logits. -/
theorem r14 (h : Fin 12) (r c : Fin 4096) : val_main_v14 (F := Ideal) x0 x1 x3 (ix3 h r c) = (msk (lg (q h) (k h) (g h)) r c : EReal) := by
  unfold val_main_v14 val_main_v13 val_main_v12 val_main_v11 val_main_v10 val_main_v9 val_main_v8 val_main_v7 val_main_v6 val_main_v5 val_main_v4
    val_main_v3 val_main_v2 val_main_v1 val_main_v0 val_main_cst val_main_cst_0
  pointwise
  simp only [h0, h1, h3, sel_ge, word_eighth, word_ninf, lg_coe]
  rfl

/-- The maximum along the last axis, from minus infinity. -/
theorem top_of (y : Vec Ideal S12x4096x4096 .f32) (h : Fin 12) (r : Fin 4096) :
    (Host.reduce (FloatOps.maximumf (F := Ideal) (φ := .f32)) y (val_main_cst_1 (F := Ideal)) reducesTo_S12x4096x4096_S12x4096_d2 h_S_ : Vec Ideal S12x4096 .f32) (ix2 h r)
      = Finset.fold max (⊥ : EReal) (fun c => (y (ix3 h r c) : EReal)) Finset.univ := by
  unfold val_main_cst_1
  rw [← word_ninf]
  pointwise

include h0 h1 h3 in
/-- A row's largest logit, as each of the three lines takes it, is one real number. -/
theorem tops : ∃ t : Fin 12 → Fin 4096 → ℝ, ∀ h r, val_main_v15 (F := Ideal) x0 x1 x3 (ix2 h r) = ((t h r : ℝ) : EReal)
    ∧ val_main_v26 (F := Ideal) x0 x1 x3 (ix2 h r) = ((t h r : ℝ) : EReal) ∧ val_main_v27 (F := Ideal) x0 x1 x3 (ix2 h r) = ((t h r : ℝ) : EReal) := by
  have key : ∀ h r, ∃ t : ℝ, Finset.fold max (⊥ : EReal) (fun c => (val_main_v14 (F := Ideal) x0 x1 x3 (ix3 h r c) : EReal)) Finset.univ = (t : EReal) := by
    intro h r
    rw [funext (fun c => r14 x0 x1 x3 q k g h0 h1 h3 h r c)]
    exact top_real _ r
  choose t ht using key
  refine ⟨t, fun h r => ⟨?_, ?_, ?_⟩⟩
  · exact (top_of _ h r).trans (ht h r)
  · exact (top_of _ h r).trans (ht h r)
  · exact (top_of _ h r).trans (ht h r)

section
variable (h15 : ∀ h r, val_main_v15 (F := Ideal) x0 x1 x3 (ix2 h r) = ((t h r : ℝ) : EReal))

include h0 h1 h3 h15 in
/-- The exponentials the weights are made of. -/
theorem r21 (h : Fin 12) (r c : Fin 4096) : val_main_v21 (F := Ideal) x0 x1 x3 (ix3 h r c) = ((un (lg (q h) (k h) (g h)) (t h r) r c : ℝ) : EReal) := by
  have hh := r14 x0 x1 x3 q k g h0 h1 h3
  unfold val_main_v21 val_main_v20 val_main_v19 val_main_v18 val_main_v17 val_main_v16 val_main_cst_2
  generalize val_main_v14 (F := Ideal) x0 x1 x3 = y at hh ⊢
  generalize val_main_v15 (F := Ideal) x0 x1 x3 = z at h15 ⊢
  change Vec Ideal S12x4096x4096 .f32 at y
  change Vec Ideal S12x4096 .f32 at z
  pointwise
  simp only [hh, h15, word_ninf, bot_le, max_eq_right, exp_msk]

include h0 h1 h3 h15 in
/-- Their sum. -/
theorem r23 (h : Fin 12) (r : Fin 4096) (i0 : Fin 1) :
    val_main_v23 (F := Ideal) x0 x1 x3 (ix3 h r i0) = ((∑ x, un (lg (q h) (k h) (g h)) (t h r) r x : ℝ) : EReal) := by
  have hh := r21 x0 x1 x3 q k g t h0 h1 h3 h15
  unfold val_main_v23 val_main_v22 val_main_cst_3
  generalize val_main_v21 (F := Ideal) x0 x1 x3 = y at hh ⊢
  change Vec Ideal S12x4096x4096 .f32 at y
  pointwise
  simp only [hh, coe_sum]

include h0 h1 h3 h15 in
/-- The weights. -/
theorem r25 (h : Fin 12) (r c : Fin 4096) : val_main_v25 (F := Ideal) x0 x1 x3 (ix3 h r c) = ((wt (lg (q h) (k h) (g h)) r c : ℝ) : EReal) := by
  have hh := r21 x0 x1 x3 q k g t h0 h1 h3 h15
  have hd := r23 x0 x1 x3 q k g t h0 h1 h3 h15
  unfold val_main_v25 val_main_v24
  generalize val_main_v21 (F := Ideal) x0 x1 x3 = y at hh ⊢
  generalize val_main_v23 (F := Ideal) x0 x1 x3 = z at hd ⊢
  change Vec Ideal S12x4096x4096 .f32 at y
  change Vec Ideal S12x4096x1 .f32 at z
  pointwise
  simp only [hh, hd]
  rw [div_real _ _ (den_pos _ _ _).ne', un_div]

include h0 h1 h2 h3 h15 in
/-- The attention of one head. -/
theorem r36 (h : Fin 12) (r : Fin 4096) (d : Fin 64) :
    val_main_v36 (F := Ideal) x0 x1 x2 x3 (ix3 r h d) = ((∑ c, wt (lg (q h) (k h) (g h)) r c * v h c d : ℝ) : EReal) := by
  have hh := r25 x0 x1 x3 q k g t h0 h1 h3 h15
  unfold val_main_v36 val_main_v35
  generalize val_main_v25 (F := Ideal) x0 x1 x3 = y at hh ⊢
  change Vec Ideal S12x4096x4096 .f32 at y
  pointwise
  simp only [hh, h2, coe_sum, EReal.coe_mul]
  exact Finset.sum_congr rfl fun _ _ => mul_comm _ _

include h0 h1 h2 h3 h15 in
/-- The attention's result, heads side by side. -/
theorem r38 (r : Fin 4096) (j : Fin 768) (h : Fin 12) (d : Fin 64) (hh : h.val = j.val / 64) (hd : d.val = j.val % 64) :
    val_main_v38 (F := Ideal) x0 x1 x2 x3 (ix2 r j) = ((∑ c, wt (lg (q h) (k h) (g h)) r c * v h c d : ℝ) : EReal) := by
  refine Eq.trans ?_ (r36 x0 x1 x2 x3 q k v g t h0 h1 h2 h3 h15 h r d)
  refine (val_main_v38_apply x0 x1 x2 x3 _).trans ((val_main_v37_apply x0 x1 x2 x3 _).trans (congrArg _ ?_))
  have e0 : (idx_main_v37 (ix2 r j)) 0 = r := Fin.ext (show (r.val * 768 + j.val) / 768 = r.val by omega)
  have e1 : (idx_main_v37 (ix2 r j)) 1 = h := Fin.ext (show (r.val * 768 + j.val) / 64 % 12 = h.val by omega)
  have e2 : (idx_main_v37 (ix2 r j)) 2 = d := Fin.ext (show (r.val * 768 + j.val) % 64 = d.val by omega)
  funext a
  fin_cases a
  · exact e0
  · exact e1
  · exact e2
end

section
variable (h26 : ∀ h r, val_main_v26 (F := Ideal) x0 x1 x3 (ix2 h r) = ((t h r : ℝ) : EReal))
  (h27 : ∀ h r, val_main_v27 (F := Ideal) x0 x1 x3 (ix2 h r) = ((t h r : ℝ) : EReal))

include h0 h1 h3 h27 in
/-- The sum whose logarithm is taken. -/
theorem r32 (h : Fin 12) (r : Fin 4096) :
    val_main_v32 (F := Ideal) x0 x1 x3 (ix2 h r) = ((∑ x, un (lg (q h) (k h) (g h)) (t h r) r x : ℝ) : EReal) := by
  have hh := r14 x0 x1 x3 q k g h0 h1 h3
  unfold val_main_v32 val_main_v31 val_main_v30 val_main_v29 val_main_v28 val_main_cst_6
  generalize val_main_v14 (F := Ideal) x0 x1 x3 = y at hh ⊢
  generalize val_main_v27 (F := Ideal) x0 x1 x3 = z at h27 ⊢
  change Vec Ideal S12x4096x4096 .f32 at y
  change Vec Ideal S12x4096 .f32 at z
  pointwise
  simp only [hh, h27, exp_msk, coe_sum]

include h0 h1 h3 h26 h27 in
/-- The log-sum. -/
theorem r34 (h : Fin 12) (r : Fin 4096) :
    val_main_v34 (F := Ideal) x0 x1 x3 (ix2 h r) = ((Real.log (∑ x, un (lg (q h) (k h) (g h)) 0 r x) : ℝ) : EReal) := by
  have hs := r32 x0 x1 x3 q k g t h0 h1 h3 h27
  unfold val_main_v34 val_main_v33
  generalize val_main_v32 (F := Ideal) x0 x1 x3 = y at hs ⊢
  generalize val_main_v26 (F := Ideal) x0 x1 x3 = z at h26 ⊢
  change Vec Ideal S12x4096 .f32 at y
  change Vec Ideal S12x4096 .f32 at z
  pointwise
  have hp := den_pos (lg (q h) (k h) (g h)) (t h r) r
  have hq := den_pos (lg (q h) (k h) (g h)) 0 r
  rw [hs, h26, Ideal.log_coe, if_neg (not_le.mpr hp), ← EReal.coe_add]
  congr 1
  rw [Finset.sum_congr rfl (fun x _ => un_shift _ (t h r) r x), ← Finset.sum_mul, Real.log_mul hq.ne' (Real.exp_pos _).ne', Real.log_exp]
  ring
end

end Cert.FoxFwdRefIdeal.Tie

namespace Cert.FoxFwdIdeal.Hand
open Cert.FoxFwdIdeal Cert.FoxReal

variable (q k v : Fin 12 → Fin 4096 → Fin 64 → ℝ) (g : Fin 12 → Fin 4096 → ℝ)

/-- The packed logits: one above the logits. -/
abbrev lgs (h : Fin 12) (r c : Fin 4096) : ℝ := lg (q h) (k h) (g h) r c + 1

/-- The packed values. -/
abbrev vls (h : Fin 12) (c : Fin 4096) (l : Fin 128) : ℝ := lay h (v h c) av l

/-- The product of a packed query and a packed key. -/
theorem dot_lgs (h : Fin 12) (r c : Fin 4096) :
    ∑ l, lay h (fun d => q h r d * (1 / 8)) (aq (g h r) 0) l * lay h (k h c) (ak (g h c)) l = lgs q k g h r c := by
  rw [sum_lay, sum_aq_ak, lgs, lg, Finset.sum_mul, Finset.sum_congr rfl (fun d _ => (by ring : q h r d * (1 / 8) * k h c d = q h r d * k h c d * (1 / 8)))]
  ring

/-- A sum of the call is the softmax's, times the exponential of one. -/
theorem tot_un (R : Fin 12 → Fin 4096 → Fin 128 → ℝ) (h : Fin 12) (r : Fin 4096) (l : Fin 128) :
    tot (lgs q k g) R h r l = Real.exp 1 * ∑ c, un (lg (q h) (k h) (g h)) 0 r c * R h c l := by
  unfold tot un
  rw [Finset.mul_sum]
  refine Finset.sum_congr rfl fun c _ => ?_
  split_ifs
  · rw [lgs, Real.exp_add, sub_zero]; ring
  · simp

/-- The lane the weights are summed in holds ones. -/
theorem vls_den (h : Fin 12) (c : Fin 4096) : vls v h c (denLane h) = 1 := by
  unfold vls lay denLane
  by_cases hp : h.val % 2 = 0
  · simp [hp, av]
  · simp [hp, av]

theorem tot_den (h : Fin 12) (r : Fin 4096) :
    tot (lgs q k g) (vls v) h r (denLane h) = Real.exp 1 * ∑ c, un (lg (q h) (k h) (g h)) 0 r c := by
  rw [tot_un]
  simp only [vls_den, mul_one]

theorem tot_den_pos (h : Fin 12) (r : Fin 4096) : 0 < tot (lgs q k g) (vls v) h r (denLane h) := by
  rw [tot_den]
  exact mul_pos (Real.exp_pos 1) (den_pos _ 0 r)

/-- A quotient of two sums is the softmax's average. -/
theorem tot_div (h : Fin 12) (r : Fin 4096) (l : Fin 128) :
    tot (lgs q k g) (vls v) h r l / tot (lgs q k g) (vls v) h r (denLane h) = ∑ c, wt (lg (q h) (k h) (g h)) r c * vls v h c l := by
  rw [tot_den, tot_un, mul_div_mul_left _ _ (Real.exp_pos 1).ne', Finset.sum_div]
  refine Finset.sum_congr rfl fun c _ => ?_
  rw [wt]; ring

/-- The logarithm of a row's sum. -/
theorem log_den (h : Fin 12) (r : Fin 4096) :
    Real.log (tot (lgs q k g) (vls v) h r (denLane h)) = Real.log (∑ c, un (lg (q h) (k h) (g h)) 0 r c) + 1 := by
  rw [tot_den, Real.log_mul (Real.exp_pos 1).ne' (den_pos _ 0 r).ne', Real.log_exp, add_comm]

/-- A value in a column's lane. -/
theorem vls_col (j : Fin 768) (h : Fin 12) (d : Fin 64) (hh : h.val = j.val / 64) (hd : d.val = j.val % 64) (c : Fin 4096) :
    vls v h c (Fin.ofNat 128 (256 + j.val)) = v h c d := by
  by_cases hp : h.val % 2 = 0
  · rw [← (Cert.FoxIdeal.Hand.lay_data h (v h c) av d).1 hp]
    refine congrArg _ (Fin.ext ?_)
    show (256 + j.val) % 128 = d.val
    omega
  · rw [← (Cert.FoxIdeal.Hand.lay_data h (v h c) av d).2 hp]
    refine congrArg _ (Fin.ext ?_)
    show (256 + j.val) % 128 = 64 + d.val
    omega

end Cert.FoxFwdIdeal.Hand
-- ==== Proof.FwdTie.lean ====
module

public import proofs.«01_k».proof.Proof.FwdTail
public import proofs.«01_k».proof.Proof.FwdRef

/-! On finite arguments the forgetting attention's forward call returns the reference's attention and its log-sums, element by element. -/

@[expose] public section
set_option maxRecDepth 16384
noncomputable section
namespace Cert.FoxFwdIdeal.Hand
open Cert.FoxFwdIdeal Cert.FoxFwdIdeal.Gen Cert.FoxReal
open Idealize.ShloMosaic Idealize.ShloMosaic.TcCoe Idealize.ShloMosaic.Tactic Idealize.SL.Sem

open Cert.Pre_finite_forward in
/-- Every element of the four arguments is a real number. -/
theorem finite_of [Cert.Pre_finite_forward.Facts] (x0 x1 x2 : FVec Ideal S4096x12x64 .f32) (x3 : FVec Ideal S4096x12 .f32)
    (h : fn (F := Ideal) x0 x1 x2 x3 = fun _ => 1#1) :
    (∀ i, x0 i = (((x0 i : EReal).toReal : ℝ) : EReal)) ∧ (∀ i, x1 i = (((x1 i : EReal).toReal : ℝ) : EReal))
      ∧ (∀ i, x2 i = (((x2 i : EReal).toReal : ℝ) : EReal)) ∧ (∀ i, x3 i = (((x3 i : EReal).toReal : ℝ) : EReal)) := by
  obtain ⟨h, h3⟩ := both_at _ _ h
  obtain ⟨h, h2⟩ := both_at _ _ h
  obtain ⟨h0, h1⟩ := both_at _ _ h
  exact ⟨fun i => real_of_abs _ (Host.reduce_andi_all _ _ _ _ finZeroElim (congrFun h0 _) i), fun i => real_of_abs _ (Host.reduce_andi_all _ _ _ _ finZeroElim (congrFun h1 _) i),
    fun i => real_of_abs _ (Host.reduce_andi_all _ _ _ _ finZeroElim (congrFun h2 _) i), fun i => real_of_abs _ (Host.reduce_andi_all _ _ _ _ finZeroElim (congrFun h3 _) i)⟩

variable (m : (l : Loc nD τ sig) → Buf (Elt Ideal) l) (ρ : Dev nD → PrngReg) (c : Dev nD)

/-- What the lines after the call read. -/
abbrev Wout : Valuation τ sig (Elt Ideal) := Pipeline.withArrays cfg0.spec c (V0 m c) fun w => (dats m 0 c).arrAt w cfg0.N

/-- The attention's array and the log-sums' array the call leaves. -/
abbrev yOut : Vec Ideal S4096x1024 .bf16 := (dats m 0 c).arrAt 3 cfg0.N
abbrev bOut : Vec Ideal S12x4096x128 .bf16 := (dats m 0 c).arrAt 4 cfg0.N

theorem wout_y : Wout m c (Proc.devRef .tc main_v57_0) = yOut m c :=
  Pipeline.withArrays_arr cfg0.spec launch0.win.arr_inj c (V0 m c) (fun w => (dats m 0 c).arrAt w cfg0.N) 3
theorem wout_b : Wout m c (Proc.devRef .tc main_v57_1) = bOut m c :=
  Pipeline.withArrays_arr cfg0.spec launch0.win.arr_inj c (V0 m c) (fun w => (dats m 0 c).arrAt w cfg0.N) 4

section
variable (q k v : Fin 12 → Fin 4096 → Fin 64 → ℝ) (g : Fin 12 → Fin 4096 → ℝ)
    (h0 : ∀ h r (a : Fin 64), (m (c, Proc.devRef .tc main_arg0) : Vec Ideal S4096x12x64 .f32) (ix3 r h a) = ((q h r a : ℝ) : EReal))
    (h1 : ∀ h r (a : Fin 64), (m (c, Proc.devRef .tc main_arg1) : Vec Ideal S4096x12x64 .f32) (ix3 r h a) = ((k h r a : ℝ) : EReal))
    (h2 : ∀ h r (a : Fin 64), (m (c, Proc.devRef .tc main_arg2) : Vec Ideal S4096x12x64 .f32) (ix3 r h a) = ((v h r a : ℝ) : EReal))
    (h3 : ∀ h r, (m (c, Proc.devRef .tc main_arg3) : Vec Ideal S4096x12 .f32) (ix2 r h) = ((g h r : ℝ) : EReal))

include h0 h1 h2 h3 in
/-- The packed arrays' products and values. -/
theorem given : (∀ h r j, ∑ l, qArr m c (ix3 h r l) * kArr m c (ix3 h j l) = ((lgs q k g h r j : ℝ) : EReal))
    ∧ (∀ h j l, vArr m c (ix3 h j l) = ((vls v h j l : ℝ) : EReal)) := by
  obtain ⟨hQ, hK, hV⟩ := packed (fun b => m (c, b)) q k v g h0 h1 h2 h3
  refine ⟨fun h r j => ?_, hV⟩
  rw [← dot_lgs, coe_sum]
  refine Finset.sum_congr rfl fun l _ => ?_
  rw [EReal.coe_mul]
  exact congrArg₂ (· * ·) (hQ h r l) (hK h j l)

include h0 h1 h2 h3 in
/-- The attention the program returns. -/
theorem result_y (r : Fin 4096) (j : Fin 768) (h : Fin 12) (d : Fin 64) (hh : h.val = j.val / 64) (hd : d.val = j.val % 64) :
    (StableHlo.after (hostOps1 (F := Ideal)) (Wout m c) (Proc.devRef .tc main_v90) : Vec Ideal S4096x768 .bf16) (ix2 r j)
      = ((∑ x, wt (lg (q h) (k h) (g h)) r x * v h x d : ℝ) : EReal) := by
  obtain ⟨hL, hR⟩ := given m c q k v g h0 h1 h2 h3
  refine (tail_y (Wout m c) r _ (wout_y m c).symm j).trans ?_
  refine (final_y m c (L := lgs q k g) (R := vls v) hL hR (tot_den_pos q k v g) r ⟨256 + j.val, by omega⟩ (by show 256 ≤ 256 + j.val; omega)).trans ?_
  have hc : colHead ⟨256 + j.val, by omega⟩ = h := Fin.ext (show (256 + j.val - 256) / 64 % 12 = h.val by omega)
  show ((tot (lgs q k g) (vls v) (colHead ⟨256 + j.val, _⟩) r (Fin.ofNat 128 (256 + j.val))
    / tot (lgs q k g) (vls v) (colHead ⟨256 + j.val, _⟩) r (denLane (colHead ⟨256 + j.val, _⟩)) : ℝ) : EReal) = _
  rw [hc, tot_div]
  simp only [vls_col v j h d hh hd]

include h0 h1 h2 h3 in
/-- The log-sum the program returns. -/
theorem result_lse (h : Fin 12) (r : Fin 4096) :
    (StableHlo.after (hostOps1 (F := Ideal)) (Wout m c) (Proc.devRef .tc main_v93) : Vec Ideal S12x4096 .f32) (ix2 h r)
      = ((Real.log (∑ x, un (lg (q h) (k h) (g h)) 0 r x) : ℝ) : EReal) := by
  obtain ⟨hL, hR⟩ := given m c q k v g h0 h1 h2 h3
  refine (tail_lse (Wout m c) h r _ (wout_b m c).symm).trans ?_
  have fin : ∀ x : ℝ, -((((-(x + 1) : ℝ) : EReal)) + 0 + 0) - 1 = ((x : ℝ) : EReal) := fun x => by
    rw [add_zero, add_zero, ← EReal.coe_neg, ← EReal.coe_one, ← EReal.coe_sub]
    congr 1; ring
  have hb := fun l => final_b m c (L := lgs q k g) (R := vls v) hL hR (tot_den_pos q k v g) h r l
  by_cases hp : h.val % 2 = 0
  · simp only [if_pos hp]
    rw [show bOut m c (ix3 h r (70 : Fin 128)) = _ from ((hb 70).1 hp).1 rfl, show bOut m c (ix3 h r (71 : Fin 128)) = _ from ((hb 71).1 hp).2.1 rfl,
      show bOut m c (ix3 h r (72 : Fin 128)) = _ from ((hb 72).1 hp).2.2 rfl, log_den]
    exact fin _
  · simp only [if_neg hp]
    rw [show bOut m c (ix3 h r (6 : Fin 128)) = _ from ((hb 6).2 hp).1 rfl, show bOut m c (ix3 h r (7 : Fin 128)) = _ from ((hb 7).2 hp).2.1 rfl,
      show bOut m c (ix3 h r (8 : Fin 128)) = _ from ((hb 8).2 hp).2.2 rfl, log_den]
    exact fin _
end

end Cert.FoxFwdIdeal.Hand

namespace Cert.FoxFwd.Tie
open Cert.FoxReal
open Idealize.ShloMosaic Idealize.ShloMosaic.TcCoe Idealize.ShloMosaic.Tactic Idealize.SL.Sem

instance : Subsingleton Cert.Pre_finite_forward.S_.Idx := ⟨fun a b => funext fun j => j.elim0⟩

/-- The side conditions the precondition states. -/
theorem preFacts : Cert.Pre_finite_forward.Facts := ⟨by decide, by decide, by decide, by decide, by decide⟩

attribute [local instance] preFacts

/-- On finite arguments the attention and the log-sums the packed program leaves are the reference's. -/
theorem algebraic : algebraic_FoxFwdIdeal_FoxFwdRefIdeal_pre_finite_forward := by
  intro m ρ m' ρ' hpre hagree
  refine ⟨fun c => StableHlo.after Cert.FoxFwdIdeal.Gen.hostOps1 (Cert.FoxFwdIdeal.Hand.Wout m c) (Proc.devRef .tc Cert.FoxFwdIdeal.main_v90),
    fun c => StableHlo.after Cert.FoxFwdIdeal.Gen.hostOps1 (Cert.FoxFwdIdeal.Hand.Wout m c) (Proc.devRef .tc Cert.FoxFwdIdeal.main_v93), ?_, ?_⟩
  · refine (θ_run _ _ _).mono (fun r h c => ⟨?_, ?_, h.2.1 c⟩) (θ_run_and (Cert.FoxFwdIdeal.Gen.run_main_quiescent m ρ) (Cert.FoxFwdIdeal.Gen.frame m ρ))
    · exact (h.1.1 c).2 Cert.FoxFwdIdeal.main_v90 (Pipeline.mem_restRefs_of _ (by decide) (by decide))
    · exact (h.1.1 c).2 Cert.FoxFwdIdeal.main_v93 (Pipeline.mem_restRefs_of _ (by decide) (by decide))
  · refine (θ_run Cert.FoxFwdRefIdeal.defs _ _).mono (fun r h c => ?_) (Cert.FoxFwdRefIdeal.Value.run (F := Ideal) m' ρ')
    obtain ⟨e0, e1, hargs⟩ := h c
    obtain ⟨f0, f1, f2, f3⟩ := Cert.FoxFwdIdeal.Hand.finite_of _ _ _ _ (hpre c)
    obtain ⟨a0, a1, a2, a3⟩ := hagree c
    obtain ⟨t, ht⟩ := Cert.FoxFwdRefIdeal.Tie.tops _ _ _ _ _ _ (fun h r a => f0 (ix3 r h a)) (fun h r a => f1 (ix3 r h a)) (fun h r => f3 (ix2 r h))
    refine ⟨e0.trans ?_, e1.trans ?_, hargs⟩
    · rw [Cert.FoxFwdRefIdeal.Read.val_main_v38_eq, a0, a1, a2, a3]
      funext i
      idx_vars i
      exact (Cert.FoxFwdRefIdeal.Tie.r38 _ _ _ _ _ _ _ _ t (fun h r a => f0 (ix3 r h a)) (fun h r a => f1 (ix3 r h a)) (fun h r a => f2 (ix3 r h a)) (fun h r => f3 (ix2 r h))
          (fun h r => (ht h r).1) i0 i1 ⟨i1.val / 64, by omega⟩ ⟨i1.val % 64, by omega⟩ rfl rfl).trans
        (Cert.FoxFwdIdeal.Hand.result_y m c _ _ _ _ (fun h r a => f0 (ix3 r h a)) (fun h r a => f1 (ix3 r h a)) (fun h r a => f2 (ix3 r h a)) (fun h r => f3 (ix2 r h))
          i0 i1 ⟨i1.val / 64, by omega⟩ ⟨i1.val % 64, by omega⟩ rfl rfl).symm
    · rw [Cert.FoxFwdRefIdeal.Read.val_main_v34_eq, a0, a1, a3]
      funext i
      idx_vars i
      exact (Cert.FoxFwdRefIdeal.Tie.r34 _ _ _ _ _ _ t (fun h r a => f0 (ix3 r h a)) (fun h r a => f1 (ix3 r h a)) (fun h r => f3 (ix2 r h))
          (fun h r => (ht h r).2.1) (fun h r => (ht h r).2.2) _ _).trans
        (Cert.FoxFwdIdeal.Hand.result_lse m c _ _ _ _ (fun h r a => f0 (ix3 r h a)) (fun h r a => f1 (ix3 r h a)) (fun h r a => f2 (ix3 r h a)) (fun h r => f3 (ix2 r h)) _ _).symm

end Cert.FoxFwd.Tie
-- ==== Proof.RmsGrad.lean ====
module

public import Idealize.ShloMosaic.PureOps.Ideal
public import Idealize.ShloMosaic.Lib.IdealHost

/-! The gradient of a root-mean-square norm over the extended reals: the short form and the one the chain rule writes are one function, whatever the arguments. -/

@[expose] public section
noncomputable section
namespace Cert.RmsGrad
open Idealize.ShloMosaic

/-- The words of 1024, of the norm's epsilon and of minus one half. -/
theorem word_width : Ideal.ofBits .f32 0x44800000#32 = ((1024 : ℝ) : EReal) := by
  simp [Ideal.ofBits, Ideal.ieee, -EReal.coe_mul]; norm_num
theorem word_eps : ∃ e : ℝ, 0 < e ∧ Ideal.ofBits .f32 0x358637BD#32 = (e : EReal) := by
  refine ⟨(8388608 + 407485) * (2 : ℝ) ^ (-43 : ℤ), by positivity, ?_⟩
  simp [Ideal.ofBits, Ideal.ieee, -EReal.coe_mul]; norm_num
theorem word_half : Ideal.ofBits .f32 0xBF000000#32 = ((-(1 / 2) : ℝ) : EReal) := by
  simp [Ideal.ofBits, Ideal.ieee, -EReal.coe_mul]; norm_num

/-- A row's mean square, and the epsilon. -/
def ms (x : Fin 1024 → EReal) : EReal := Ideal.div (∑ d, x d * x d) (Ideal.ofBits .f32 0x44800000#32) + Ideal.ofBits .f32 0x358637BD#32

/-- One over the root of it. -/
def rs (x : Fin 1024 → EReal) : EReal := Ideal.rsqrt (ms x)

theorem square_nonneg (x : EReal) : 0 ≤ x * x := by
  induction x with
  | bot => simp
  | top => simp
  | coe r => exact_mod_cast mul_self_nonneg r

/-- Dividing by the width. -/
theorem div_width (y : EReal) : Ideal.div y (Ideal.ofBits .f32 0x44800000#32) = y * ((1 / 1024 : ℝ) : EReal) := by
  rw [word_width, Ideal.div_coe (by norm_num)]

/-- The inverse root is a real at least zero, and over the mean square it is its own cube. -/
theorem rs_real (x : Fin 1024 → EReal) : ∃ a : ℝ, 0 ≤ a ∧ rs x = (a : EReal) ∧ Ideal.div (rs x) (ms x) = ((a * a * a : ℝ) : EReal) := by
  obtain ⟨e, he, hw⟩ := word_eps
  have hS : 0 ≤ ∑ d, x d * x d := Finset.sum_nonneg fun d _ => square_nonneg (x d)
  unfold rs ms
  rw [div_width, hw]
  generalize ∑ d, x d * x d = S at hS
  induction S with
  | bot => simp at hS
  | top =>
    rw [EReal.top_mul_of_pos (by exact_mod_cast (by norm_num : (0 : ℝ) < 1 / 1024)), EReal.top_add_coe]
    exact ⟨0, le_refl _, by simp, by simp [Ideal.div]⟩
  | coe s =>
    have hs : 0 ≤ s := by exact_mod_cast hS
    rw [← EReal.coe_mul, ← EReal.coe_add]
    have hv : 0 < s * (1 / 1024) + e := by positivity
    generalize s * (1 / 1024) + e = v at hv
    have hr := Real.sqrt_pos.mpr hv
    refine ⟨(Real.sqrt v)⁻¹, inv_nonneg.mpr hr.le, ?_, ?_⟩
    · rw [Ideal.rsqrt_coe, if_neg hv.not_gt, if_neg hv.ne']
    · rw [Ideal.rsqrt_coe, if_neg hv.not_gt, if_neg hv.ne', Ideal.div_coe hv.ne', ← EReal.coe_mul]
      congr 1
      conv_lhs => rw [← Real.mul_self_sqrt hv.le]
      rw [Real.sqrt_mul_self hr.le]
      field_simp

/-- A factor at least zero and real comes out of a sum. -/
theorem sum_scale {ι : Type} (s : Finset ι) (f : ι → EReal) (a : ℝ) (ha : 0 ≤ a) : ∑ i ∈ s, f i * (a : EReal) = (∑ i ∈ s, f i) * (a : EReal) := by
  classical
  induction s using Finset.induction_on with
  | empty => simp
  | insert i s hi ih =>
    rw [Finset.sum_insert hi, Finset.sum_insert hi, ih, EReal.right_distrib_of_nonneg_of_ne_top (by exact_mod_cast ha) (EReal.coe_ne_top a)]

/-- Half of something negative, twice. -/
theorem twice_half (T : EReal) (k : ℝ) (hk : 0 ≤ k) : T * ((-(k / 2) : ℝ) : EReal) + T * ((-(k / 2) : ℝ) : EReal) = -(T * (k : EReal)) := by
  have h0 : (0 : EReal) ≤ ((k / 2 : ℝ) : EReal) := by exact_mod_cast (by positivity : (0 : ℝ) ≤ k / 2)
  have h : T * (k : EReal) = T * ((k / 2 : ℝ) : EReal) + T * ((k / 2 : ℝ) : EReal) := by
    rw [← EReal.left_distrib_of_nonneg h0 h0, ← EReal.coe_add]
    congr 2; ring
  rw [h, EReal.coe_neg, mul_neg]
  generalize T * ((k / 2 : ℝ) : EReal) = u
  induction u with
  | bot => simp
  | top => simp
  | coe r => rw [← EReal.coe_neg, ← EReal.coe_add, ← EReal.coe_add, ← EReal.coe_neg]; congr 1; ring

/-- What a row's gradient adds, as the kernels write it: `a` is the row's cotangent times the gain. -/
def dxK (x a : Fin 1024 → EReal) (d : Fin 1024) : EReal :=
  rs x * (a d - x d * rs x * Ideal.div (∑ i, a i * (x i * rs x)) (Ideal.ofBits .f32 0x44800000#32))

/-- What flows into a row's mean square, as the chain rule writes it, over the width. -/
def bR (x a : Fin 1024 → EReal) : EReal :=
  Ideal.div ((∑ i, x i * a i) * (Ideal.ofBits .f32 0xBF000000#32 * Ideal.div (rs x) (ms x))) (Ideal.ofBits .f32 0x44800000#32)

/-- The two forms are one. -/
theorem dx_eq (x a : Fin 1024 → EReal) (d : Fin 1024) : a d * rs x + (x d * bR x a + bR x a * x d) = dxK x a d := by
  obtain ⟨r, hr, e, e'⟩ := rs_real x
  unfold dxK bR
  rw [e', e, div_width, div_width, word_half]
  have hs : ∑ i, a i * (x i * (r : EReal)) = (∑ i, x i * a i) * (r : EReal) := by
    rw [← sum_scale _ _ r hr]
    exact Finset.sum_congr rfl fun i _ => by rw [← mul_assoc, mul_comm (a i)]
  rw [hs, EReal.mul_sub_of_nonneg_of_ne_top (by exact_mod_cast hr) (EReal.coe_ne_top r), sub_eq_add_neg, mul_comm (a d)]
  congr 1
  generalize ∑ i, x i * a i = S
  have hk : 0 ≤ r * r * r * (1 / 1024) := by positivity
  have e1 : x d * (S * (((-(1 / 2) : ℝ) : EReal) * ((r * r * r : ℝ) : EReal)) * ((1 / 1024 : ℝ) : EReal)) = x d * S * ((-(r * r * r * (1 / 1024) / 2) : ℝ) : EReal) := by
    rw [← EReal.coe_mul, mul_assoc S, ← EReal.coe_mul, mul_assoc (x d)]
    congr 3; ring
  have e2 : (r : EReal) * (x d * (r : EReal) * (S * (r : EReal) * ((1 / 1024 : ℝ) : EReal))) = x d * S * ((r * r * r * (1 / 1024) : ℝ) : EReal) := by
    simp only [EReal.coe_mul]
    ac_rfl
  rw [mul_comm _ (x d), e1, e2, twice_half _ _ hk]

end Cert.RmsGrad
-- ==== Proof.Whole.lean ====
module

public import Idealize.ShloMosaic.Lib.ValueIdx
public import Idealize.ShloMosaic.Lib.Pointwise
public import Idealize.ShloMosaic.Lib.WritesUnit
public import Idealize.ShloMosaic.PureOps.Ideal

/-! A window read whole, and stored whole. -/

@[expose] public section
noncomputable section
namespace Cert.Whole
open Idealize.ShloMosaic Idealize.ShloMosaic.TcCoe Idealize.ShloMosaic.Tactic

variable {sig : RefSig} {n N : ℕ} {e : EltTy}

/-- Reading all of a window reads what it holds. -/
theorem load (a : Memref sig .tc .vmem ⟨2, ![n, N]⟩ e) (h : a.IsWhole) (x : Vec Ideal ⟨2, ![n, N]⟩ e) (inb) :
    a.view.readAt (Elt Ideal) (Rect.unit (s := ⟨2, ![n, N]⟩) ![0, 0] ![n, N] inb).toLoadRect (h.unread x) = x := by
  rw [View.readAt_eq_ld, h.read_unread]
  funext y
  refine congrArg x (funext fun a => ?_)
  fin_cases a
  · exact Fin.ext (show 0 + 1 * (y 0).val = (y 0).val by omega)
  · exact Fin.ext (show 0 + 1 * (y 1).val = (y 1).val by omega)

/-- What is stored last over a whole window is what it holds. -/
theorem store (V : View sig .tc .vmem ⟨2, ![n, N]⟩ e) (f : BufTy.Contents (Elt Ideal) V.ty) (inb) (w : Vec Ideal ⟨2, ![n, N]⟩ e)
    (L : List (View.Piece (Elt Ideal) ⟨2, ![n, N]⟩ e)) :
    V.read (Elt Ideal) (V.writes (Elt Ideal) f (⟨Rect.unit (s := ⟨2, ![n, N]⟩) ![0, 0] ![n, N] inb, w⟩ :: L)) = w := by
  funext y
  exact View.read_writes_cons_unit_of_mem V f inb w L y y rfl fun a => by
    fin_cases a
    · exact (Nat.zero_add _).symm
    · exact (Nat.zero_add _).symm

/-- Reading all of a window just stored whole reads what was stored. -/
theorem reload (V : View sig .tc .vmem ⟨2, ![n, N]⟩ e) (inb) (w : Vec Ideal ⟨2, ![n, N]⟩ e) (L : List (View.Piece (Elt Ideal) ⟨2, ![n, N]⟩ e)) (inb') :
    V.readCov (⟨Rect.unit (s := ⟨2, ![n, N]⟩) ![0, 0] ![n, N] inb, w⟩ :: L) (Rect.unit (s := ⟨2, ![n, N]⟩) ![0, 0] ![n, N] inb').toLoadRect = w := by
  funext y
  refine Eq.trans (congrArg (V.read (Elt Ideal) (V.writes (Elt Ideal) V.junk (⟨Rect.unit (s := ⟨2, ![n, N]⟩) ![0, 0] ![n, N] inb, w⟩ :: L))) (?_ : _ = y)) ?_
  · funext a; fin_cases a
    · exact Fin.ext (show 0 + 1 * (y 0).val = (y 0).val by omega)
    · exact Fin.ext (show 0 + 1 * (y 1).val = (y 1).val by omega)
  · rw [store]

end Cert.Whole
-- ==== Proof.FirstBlock.lean ====
module

public import proofs.«01_k».proof.Proof.Gen.FirstIdeal.Value
public import proofs.«01_k».proof.Proof.RmsGrad
public import proofs.«01_k».proof.Proof.Whole

/-! What one block of 512 rows leaves in the gradients of the first norm's argument and gain. -/

@[expose] public section
set_option maxRecDepth 16384
noncomputable section
namespace Cert.FirstIdeal.Hand
open Cert.FirstIdeal Cert.FirstIdeal.Gen Cert.RmsGrad
open Idealize.ShloMosaic Idealize.ShloMosaic.TcCoe Idealize.ShloMosaic.Tactic

section
variable (x0 : Vec Ideal S512x2688 .bf16) (x1 : Vec Ideal S1024x2688 .bf16) (x2 x3 : Vec Ideal S512x1024 .f32) (x4 : Vec Ideal S1x1024 .f32)

/-- What flows into a block's normed rows. -/
theorem flow_apply (r : Fin 512) (d : Fin 1024) : k0_pay3 x0 x1 (ix2 r d) = ∑ j : Fin 2688, x0 (ix2 r j) * x1 (ix2 d j) := by
  unfold k0_pay3; pointwise

theorem rs_apply (r : Fin 512) (d : Fin 1) : k0_pay4 x3 (ix2 r d) = rs (fun i => x3 (ix2 r i)) := by
  unfold k0_pay4 rs ms; pointwise

theorem unit_apply (r : Fin 512) (d : Fin 1024) : k0_pay5 x3 (ix2 r d) = x3 (ix2 r d) * rs (fun i => x3 (ix2 r i)) := by
  have h := rs_apply x3
  unfold k0_pay5
  generalize k0_pay4 x3 = y at h ⊢
  pointwise
  simp only [h]

theorem gain_apply (r : Fin 1) (d : Fin 1024) :
    k0_pay6 x3 x0 x1 (ix2 r d) = ∑ i : Fin 512, k0_pay3 x0 x1 (ix2 i d) * (x3 (ix2 i d) * rs (fun j => x3 (ix2 i j))) := by
  have h := unit_apply x3
  unfold k0_pay6
  generalize k0_pay5 x3 = y at h ⊢
  generalize k0_pay3 x0 x1 = z
  pointwise
  simp only [h]

theorem dx_apply (r : Fin 512) (d : Fin 1024) :
    k0_pay7 x3 x4 x0 x1 x2 (ix2 r d) = x2 (ix2 r d) + dxK (fun i => x3 (ix2 r i)) (fun i => k0_pay3 x0 x1 (ix2 r i) * x4 (ix2 0 i)) d := by
  have h := unit_apply x3
  have h' := rs_apply x3
  unfold k0_pay7 dxK
  generalize k0_pay5 x3 = y at h ⊢
  generalize k0_pay4 x3 = y' at h' ⊢
  generalize k0_pay3 x0 x1 = z
  pointwise
  simp only [h, h']

theorem add_apply (u v : Vec Ideal S1x1024 .f32) (r : Fin 1) (d : Fin 1024) : k0_pay1 u v (ix2 r d) = v (ix2 r d) + u (ix2 r d) := by
  unfold k0_pay1; pointwise

theorem zero_apply (r : Fin 1) (d : Fin 1024) : k0_pay2 (F := Ideal) (ix2 r d) = (0 : EReal) := by
  unfold k0_pay2; pointwise
end

variable (c : Dev nD) (i : grid0.Coords) (arg1 : Memref sig .tc .vmem S512x2688 .bf16) (harg1 : arg1.IsWhole) (arg2 : Memref sig .tc .vmem S1024x2688 .bf16) (harg2 : arg2.IsWhole)
  (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole)
  (arg6 : Memref sig .tc .vmem S512x1024 .f32) (harg6 : arg6.IsWhole) (arg7 : Memref sig .tc .vmem S1x1024 .f32) (harg7 : arg7.IsWhole)
  (x0 : Vec Ideal S512x2688 .bf16) (x1 : Vec Ideal S1024x2688 .bf16) (x2 x3 : Vec Ideal S512x1024 .f32) (x4 : Vec Ideal S1x1024 .f32) (xo : Vec Ideal S1x1024 .f32)

theorem dx_first (h : cond0_0 i) : out0_A_5 c i arg1 harg1 arg2 harg2 arg3 harg3 arg4 harg4 arg5 harg5 arg6 harg6 arg7 harg7 h x0 x1 x2 x3 x4 = k0_pay7 x3 x4 x0 x1 x2 := by
  unfold out0_A_5 kernelRun0_A
  refine (Cert.Whole.store _ _ _ _ _).trans ?_
  simp only [kernelRun0_A.sl.r_1, Cert.Whole.load]

theorem dg_first (h : cond0_0 i) : out0_A_6 c i arg1 harg1 arg2 harg2 arg3 harg3 arg4 harg4 arg5 harg5 arg6 harg6 arg7 harg7 h x0 x1 x2 x3 x4 = k0_pay1 (k0_pay6 x3 x0 x1) (k0_pay2 (F := Ideal)) := by
  unfold out0_A_6 kernelRun0_A
  refine (Cert.Whole.store _ _ _ _ _).trans ?_
  simp only [kernelRun0_A.sl.r, Cert.Whole.load]
  exact congrArg (k0_pay1 (k0_pay6 x3 x0 x1)) (Cert.Whole.reload _ _ _ _ _)

theorem dx_later (h : ¬cond0_0 i) : out0_B_5 c i arg1 harg1 arg2 harg2 arg3 harg3 arg4 harg4 arg5 harg5 arg6 harg6 arg7 harg7 h x0 x1 x2 x3 x4 xo = k0_pay7 x3 x4 x0 x1 x2 := by
  unfold out0_B_5 kernelRun0_B
  refine (Cert.Whole.store _ _ _ _ _).trans ?_
  simp only [kernelRun0_B.sl.r_1, Cert.Whole.load]

theorem dg_later (h : ¬cond0_0 i) : out0_B_6 c i arg1 harg1 arg2 harg2 arg3 harg3 arg4 harg4 arg5 harg5 arg6 harg6 arg7 harg7 h x0 x1 x2 x3 x4 xo = k0_pay1 (k0_pay6 x3 x0 x1) xo := by
  unfold out0_B_6 kernelRun0_B
  refine (Cert.Whole.store _ _ _ _ _).trans ?_
  simp only [kernelRun0_B.sl.r, Cert.Whole.load]

end Cert.FirstIdeal.Hand
-- ==== Proof.FirstGrad.lean ====
module

public import proofs.«01_k».proof.Proof.RmsGrad
public import Idealize.ShloMosaic.Lib.ValueIdx
public import Idealize.ShloMosaic.Lib.Pointwise
public import proofs.«01_k».proof.Proof.Gen.FirstIdeal.Value

/-! The two gradients of the first norm as arrays. -/

@[expose] public section
noncomputable section
namespace Cert.FirstIdeal.Hand
open Cert.FirstIdeal Cert.RmsGrad
open Idealize.ShloMosaic Idealize.ShloMosaic.TcCoe Idealize.ShloMosaic.Tactic

/-- What flows into row `R` of the normed rows. -/
def flowAt {n : ℕ} (D : Fin 4096 → Fin n → EReal) (W : Fin 1024 → Fin n → EReal) (R : Fin 4096) (d : Fin 1024) : EReal := ∑ j : Fin n, D R j * W d j

section
variable (A : Fin 4096 → Fin 1024 → EReal) (r x : Vec Ideal S4096x1024 .f32) (g : Vec Ideal S1x1024 .f32)

/-- The gradient of the norm's argument, the residual's added: `A` is what flows into the normed rows. -/
def dxArr : Vec Ideal S4096x1024 .f32 := fun i =>
  r i + dxK (fun j => x (ix2 (i 0) j)) (fun j => A (i 0) j * g (ix2 0 j)) (i 1)

/-- Row `R`'s part of the gradient of the gain. -/
def dgRow (d : Fin 1024) (R : Fin 4096) : EReal := A R d * (x (ix2 R d) * rs (fun j => x (ix2 R j)))

/-- The gradient of the gain. -/
def dgArr : Vec Ideal S1x1024 .f32 := fun i => ∑ R : Fin 4096, dgRow A x (i 1) R
end

end Cert.FirstIdeal.Hand
-- ==== Proof.FirstArrays.lean ====
module

public import proofs.«01_k».proof.Proof.FirstBlock
public import proofs.«01_k».proof.Proof.FirstGrad
public import proofs.«01_k».proof.Proof.FoxArrays

/-! The gradients of the first norm's argument and gain as whole arrays. -/

@[expose] public section
set_option maxRecDepth 16384
noncomputable section
namespace Cert.FirstIdeal.Hand
open Cert.FirstIdeal Cert.FirstIdeal.Gen Cert.FirstIdeal.Value Cert.RmsGrad
open Idealize.ShloMosaic Idealize.ShloMosaic.TcCoe Idealize.ShloMosaic.Tactic
open Idealize.ShloMosaic.Pipeline (Dat)
open Cert.FoxIdeal.Hand (rowAt rowAt_val sum_rows row_split)

variable (m : (ℓ : Loc nD τ sig) → Buf (Elt Ideal) ℓ)

theorem lt8 (t : Fin cfg0.N) : t.val < 8 := lt_of_lt_of_eq t.isLt (show cfg0.N = 8 from N_0)

theorem pos0 (t : Fin cfg0.N) : win0_0.index t (0 : Fin 2) = t.val ∧ win0_0.index t (1 : Fin 2) = 0 :=
  (by decide +kernel : ∀ t : Fin grid0.N, win0_0.index t (0 : Fin 2) = t.val ∧ win0_0.index t (1 : Fin 2) = 0) t
theorem pos1 (t : Fin cfg0.N) : win0_1.index t (0 : Fin 2) = 0 ∧ win0_1.index t (1 : Fin 2) = 0 :=
  (by decide +kernel : ∀ t : Fin grid0.N, win0_1.index t (0 : Fin 2) = 0 ∧ win0_1.index t (1 : Fin 2) = 0) t
theorem pos2 (t : Fin cfg0.N) : win0_2.index t (0 : Fin 2) = t.val ∧ win0_2.index t (1 : Fin 2) = 0 :=
  (by decide +kernel : ∀ t : Fin grid0.N, win0_2.index t (0 : Fin 2) = t.val ∧ win0_2.index t (1 : Fin 2) = 0) t
theorem pos3 (t : Fin cfg0.N) : win0_3.index t (0 : Fin 2) = t.val ∧ win0_3.index t (1 : Fin 2) = 0 :=
  (by decide +kernel : ∀ t : Fin grid0.N, win0_3.index t (0 : Fin 2) = t.val ∧ win0_3.index t (1 : Fin 2) = 0) t
theorem pos4 (t : Fin cfg0.N) : win0_4.index t (0 : Fin 2) = 0 ∧ win0_4.index t (1 : Fin 2) = 0 :=
  (by decide +kernel : ∀ t : Fin grid0.N, win0_4.index t (0 : Fin 2) = 0 ∧ win0_4.index t (1 : Fin 2) = 0) t
theorem pos5 (t : Fin cfg0.N) : win0_5.index t (0 : Fin 2) = t.val ∧ win0_5.index t (1 : Fin 2) = 0 :=
  (by decide +kernel : ∀ t : Fin grid0.N, win0_5.index t (0 : Fin 2) = t.val ∧ win0_5.index t (1 : Fin 2) = 0) t
theorem pos6 (t : Fin cfg0.N) : win0_6.index t (0 : Fin 2) = 0 ∧ win0_6.index t (1 : Fin 2) = 0 :=
  (by decide +kernel : ∀ t : Fin grid0.N, win0_6.index t (0 : Fin 2) = 0 ∧ win0_6.index t (1 : Fin 2) = 0) t

/-- A block of 512 rows: where its element lies in the array. -/
theorem emb_rows {N a d : ℕ} (t : Fin cfg0.N) (r : Fin 512) (l : Fin N) (ha : a = t.val) (hd : d = 0)
    (i : Shape.Idx ⟨2, ![4096, N]⟩) (h0 : (i 0).val = a * 512 + 1 * r.val) (h1 : (i 1).val = d * N + 1 * l.val) : i = ix2 (rowAt t.val r) l := by
  subst ha hd
  funext x; apply Fin.ext
  match x with
  | ⟨0, _⟩ => exact h0.trans ((by omega : _ = 512 * t.val + r.val).trans (rowAt_val (lt8 t) r).symm)
  | ⟨1, _⟩ => exact h1.trans (by show _ = l.val; omega)

/-- An array that is one block. -/
theorem emb_all {n N a d : ℕ} (r : Fin n) (l : Fin N) (ha : a = 0) (hd : d = 0)
    (i : Shape.Idx ⟨2, ![n, N]⟩) (h0 : (i 0).val = a * n + 1 * r.val) (h1 : (i 1).val = d * N + 1 * l.val) : i = ix2 r l := by
  subst ha hd
  funext x; apply Fin.ext
  match x with
  | ⟨0, _⟩ => exact h0.trans (by show _ = r.val; omega)
  | ⟨1, _⟩ => exact h1.trans (by show _ = l.val; omega)

variable (c : Dev nD)

theorem iblk0 (t : Fin cfg0.N) (r : Fin 512) (l : Fin 2688) : iblk m c 0 t (ix2 r l) = (V m c main_v1 : Vec Ideal S4096x2688 .bf16) (ix2 (rowAt t.val r) l) :=
  congrArg (V m c main_v1 : Vec Ideal S4096x2688 .bf16) (emb_rows t r l (pos0 t).1 (pos0 t).2 (((cfg0.win 0).blk t).view.emb (ix2 r l)) rfl rfl)
theorem iblk1 (t : Fin cfg0.N) : iblk m c 1 t = (V m c main_v3 : Vec Ideal S1024x2688 .bf16) := by
  funext y; idx_vars y
  exact congrArg (V m c main_v3 : Vec Ideal S1024x2688 .bf16) (emb_all y0 y1 (pos1 t).1 (pos1 t).2 (((cfg0.win 1).blk t).view.emb (ix2 y0 y1)) rfl rfl)
theorem iblk2 (t : Fin cfg0.N) (r : Fin 512) (l : Fin 1024) : iblk m c 2 t (ix2 r l) = (V m c main_arg2 : Vec Ideal S4096x1024 .f32) (ix2 (rowAt t.val r) l) :=
  congrArg (V m c main_arg2 : Vec Ideal S4096x1024 .f32) (emb_rows t r l (pos2 t).1 (pos2 t).2 (((cfg0.win 2).blk t).view.emb (ix2 r l)) rfl rfl)
theorem iblk3 (t : Fin cfg0.N) (r : Fin 512) (l : Fin 1024) : iblk m c 3 t (ix2 r l) = (V m c main_arg3 : Vec Ideal S4096x1024 .f32) (ix2 (rowAt t.val r) l) :=
  congrArg (V m c main_arg3 : Vec Ideal S4096x1024 .f32) (emb_rows t r l (pos3 t).1 (pos3 t).2 (((cfg0.win 3).blk t).view.emb (ix2 r l)) rfl rfl)
theorem iblk4 (t : Fin cfg0.N) : iblk m c 4 t = (V m c main_arg4 : Vec Ideal S1x1024 .f32) := by
  funext y; idx_vars y
  exact congrArg (V m c main_arg4 : Vec Ideal S1x1024 .f32) (emb_all y0 y1 (pos4 t).1 (pos4 t).2 (((cfg0.win 4).blk t).view.emb (ix2 y0 y1)) rfl rfl)
theorem emb_dx (t : Fin cfg0.N) (r : Fin 512) (l : Fin 1024) : ((cfg0.win 5).blk t).view.emb (ix2 r l) = (ix2 (rowAt t.val r) l : S4096x1024.Idx) :=
  emb_rows t r l (pos5 t).1 (pos5 t).2 (((cfg0.win 5).blk t).view.emb (ix2 r l)) rfl rfl
theorem emb_dg (t : Fin cfg0.N) (r : Fin 1) (l : Fin 1024) : ((cfg0.win 6).blk t).view.emb (ix2 r l) = (ix2 r l : S1x1024.Idx) :=
  emb_all r l (pos6 t).1 (pos6 t).2 (((cfg0.win 6).blk t).view.emb (ix2 r l)) rfl rfl

/-- What flows into the normed rows, of the padded arrays. -/
def flowV : Fin 4096 → Fin 1024 → EReal :=
  flowAt (fun R j => (V m c main_v1 : Vec Ideal S4096x2688 .bf16) (ix2 R j)) (fun d j => (V m c main_v3 : Vec Ideal S1024x2688 .bf16) (ix2 d j))

theorem flow_at (t : Fin cfg0.N) (r : Fin 512) (d : Fin 1024) : k0_pay3 (iblk m c 0 t) (iblk m c 1 t) (ix2 r d) = flowV m c (rowAt t.val r) d := by
  rw [flow_apply]
  simp only [iblk0]
  rw [iblk1]
  rfl

set_option maxHeartbeats 2000000 in
/-- The argument's gradient's block after a point. -/
theorem dx_at (t : Fin cfg0.N) : (outsAt0 m c t.val t.isLt).1 = k0_pay7 (iblk m c 3 t) (iblk m c 4 t) (iblk m c 0 t) (iblk m c 1 t) (iblk m c 2 t) := by
  by_cases h0 : t.val % 8 = 0
  · rw [outsAt0_A m c t h0]
    dsimp only
    exact
      (dx_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) ((hcond0_0 t).mpr h0))
  · have e := dx_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t)
      (outsAt0 m c (t.val - 1) (Nat.lt_of_le_of_lt (Nat.sub_le _ _) t.isLt)).2 (fun h => h0 ((hcond0_0 t).mp h))
    generalize hx : (outsAt0 m c (t.val - 1) (Nat.lt_of_le_of_lt (Nat.sub_le _ _) t.isLt)).2 = x at e
    rw [outsAt0_B m c t h0, hx]
    dsimp only
    exact e

set_option maxHeartbeats 2000000 in
theorem dg_step_first (t : Fin cfg0.N) (h0 : t.val % 8 = 0) : (outsAt0 m c t.val t.isLt).2 = k0_pay1 (k0_pay6 (iblk m c 3 t) (iblk m c 0 t) (iblk m c 1 t)) (k0_pay2 (F := Ideal)) := by
  rw [outsAt0_A m c t h0]
  dsimp only
  exact (dg_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) ((hcond0_0 t).mpr h0))
set_option maxHeartbeats 2000000 in
theorem dg_step_later (t : Fin cfg0.N) (h0 : ¬t.val % 8 = 0) : (outsAt0 m c t.val t.isLt).2
    = k0_pay1 (k0_pay6 (iblk m c 3 t) (iblk m c 0 t) (iblk m c 1 t)) (outsAt0 m c (t.val - 1) (Nat.lt_of_le_of_lt (Nat.sub_le _ _) t.isLt)).2 := by
  have e := dg_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t)
    (outsAt0 m c (t.val - 1) (Nat.lt_of_le_of_lt (Nat.sub_le _ _) t.isLt)).2 (fun h => h0 ((hcond0_0 t).mp h))
  generalize hx : (outsAt0 m c (t.val - 1) (Nat.lt_of_le_of_lt (Nat.sub_le _ _) t.isLt)).2 = x at e ⊢
  rw [outsAt0_B m c t h0, hx]
  exact e

/-- A point's part of the gain's gradient. -/
theorem gain_at (t : Fin cfg0.N) (s : Fin 1) (d : Fin 1024) :
    k0_pay6 (iblk m c 3 t) (iblk m c 0 t) (iblk m c 1 t) (ix2 s d) = ∑ x : Fin 512, dgRow (flowV m c) (V m c main_arg3) d (rowAt t.val x) := by
  rw [gain_apply]
  simp only [flow_at, iblk3]
  rfl

/-- The gain's gradient after a point: the blocks so far. -/
theorem dg_at (s : Fin 1) (d : Fin 1024) : ∀ (n : ℕ) (hn : n < cfg0.N),
    (outsAt0 m c n hn).2 (ix2 s d) = ∑ b ∈ Finset.range (n + 1), ∑ x : Fin 512, dgRow (flowV m c) (V m c main_arg3) d (rowAt b x) := by
  intro n
  induction n with
  | zero =>
    intro hn
    refine (congrFun (dg_step_first m c ⟨0, hn⟩ (Nat.zero_mod 8)) _).trans ((add_apply _ _ s d).trans ?_)
    rw [Finset.sum_range_one, zero_apply, gain_at]
    exact zero_add _
  | succ n ih =>
    intro hn
    have h8 : n + 1 < 8 := lt8 ⟨n + 1, hn⟩
    refine (congrFun (dg_step_later m c ⟨n + 1, hn⟩ (by dsimp only; omega)) _).trans ((add_apply _ _ s d).trans ?_)
    rw [Finset.sum_range_succ, gain_at]
    exact congrArg (· + _) (ih (Nat.lt_of_succ_lt hn))

/-- Every element of each gradient's array lies in a block that is written back. -/
theorem cover_dx : ∀ i : S4096x1024.Idx, ∃ t : Fin cfg0.N, (cfg0.win 5).flush t = true ∧ i ∈ ((cfg0.win 5).blk t).view.set := by
  intro i
  idx_vars i
  obtain ⟨j, hj, k, hk⟩ := row_split i0
  have hn : j < cfg0.N := lt_of_lt_of_eq hj (show 8 = cfg0.N from N_0.symm)
  have e := emb_dx ⟨j, hn⟩ k i1
  rw [show rowAt (⟨j, hn⟩ : Fin cfg0.N).val k = i0 from hk] at e
  exact ⟨⟨j, hn⟩, flush0_5 _, e ▸ ((cfg0.win 5).blk ⟨j, hn⟩).view.emb_mem_set _⟩

theorem cover_dg : ∀ i : S1x1024.Idx, ∃ t : Fin cfg0.N, (cfg0.win 6).flush t = true ∧ i ∈ ((cfg0.win 6).blk t).view.set := by
  intro i
  idx_vars i
  have hn : 7 < cfg0.N := lt_of_lt_of_eq (by decide) (show 8 = cfg0.N from N_0.symm)
  have e := emb_dg ⟨7, hn⟩ i0 i1
  exact ⟨⟨7, hn⟩, (flush0_6 _).mpr (by rfl), e ▸ ((cfg0.win 6).blk ⟨7, hn⟩).view.emb_mem_set _⟩

/-- The argument's gradient at the end. -/
theorem final_dx : (dats m 0 c).arrAt 5 cfg0.N = dxArr (flowV m c) (V m c main_arg2) (V m c main_arg3) (V m c main_arg4) := by
  refine (dats m 0 c).arrAt_eq_of_cover 5 (dxArr (flowV m c) (V m c main_arg2) (V m c main_arg3) (V m c main_arg4)) ?_ cover_dx
  intro t _
  funext y
  idx_vars y
  show (dats m 0 c).after 5 t (ix2 y0 y1) = dxArr _ _ _ _ (((cfg0.win 5).blk t).view.emb (ix2 y0 y1))
  rw [emb_dx, after0_5]
  refine (congrFun (dx_at m c t) _).trans ((dx_apply _ _ _ _ _ y0 y1).trans ?_)
  simp only [flow_at, iblk2, iblk3]
  rw [iblk4]
  rfl

/-- The gain's gradient at the end. -/
theorem final_dg : (dats m 0 c).arrAt 6 cfg0.N = dgArr (flowV m c) (V m c main_arg3) := by
  refine (dats m 0 c).arrAt_eq_of_cover 6 (dgArr (flowV m c) (V m c main_arg3)) ?_ cover_dg
  intro t hf
  have h7 := (flush0_6 t).mp hf
  have h8 := lt8 t
  funext y
  idx_vars y
  show (dats m 0 c).after 6 t (ix2 y0 y1) = dgArr _ _ (((cfg0.win 6).blk t).view.emb (ix2 y0 y1))
  rw [emb_dg, after0_6]
  obtain ⟨n, hn⟩ := t
  obtain rfl : n = 7 := by dsimp only at h7 h8; omega
  refine (dg_at m c y0 y1 7 hn).trans ?_
  exact (sum_rows _).symm

end Cert.FirstIdeal.Hand
-- ==== Proof.FirstHost.lean ====
module

public import proofs.«01_k».proof.Proof.Gen.FirstIdeal.Value
public import Idealize.ShloMosaic.Lib.ValueIdx
public import Idealize.ShloMosaic.Lib.Pointwise
public import Idealize.ShloMosaic.PureOps.Ideal

/-! The padded cotangent and weights: zero past the 2572 columns. -/

@[expose] public section
set_option maxRecDepth 16384
noncomputable section
namespace Cert.FirstIdeal.Hand
open Cert.FirstIdeal Cert.FirstIdeal.Gen
open Idealize.ShloMosaic Idealize.ShloMosaic.TcCoe Idealize.ShloMosaic.Tactic

variable (m : (ℓ : Loc nD τ sig) → Buf (Elt Ideal) ℓ) (c : Dev nD)

/-- The word zero as a number. -/
theorem word_zero : (FloatOps.sitofp (F := Ideal) FTy.f32 0#32 : EReal) = 0 := by
  show ((((0#32 : BitVec 32).toInt : ℝ)) : EReal) = 0
  simp

/-- The cotangent, padded. -/
theorem V_d (R : Fin 4096) (j : Fin 2688) : (V m c main_v1 : Vec Ideal S4096x2688 .bf16) (ix2 R j)
    = if h : j.val < 2572 then (m ((c : Thread nD τ).loc main_arg0) : Vec Ideal S4096x2572 .f32) (ix2 R ⟨j.val, h⟩) else (0 : EReal) := by
  show (StableHlo.after (List.flatten [hostOps0, hostOps0_1, hostOps0_2, hostOps0_3, hostOps0_4]) (fun b => m (c, b)) (Proc.devRef .tc main_v1) : Vec Ideal S4096x2688 .bf16) (ix2 R j) = _
  simp only [List.flatten_cons, List.flatten_nil, List.append_nil, List.append_assoc, StableHlo.after_append]
  after_results_simp
  generalize (m (c, Proc.devRef .tc main_arg0)) = y
  change Vec Ideal S4096x2572 .f32 at y
  change (pad S4096x2688 ![0, 0] ![0, 116] ![0, 0] (y : Vec Ideal S4096x2572 .f32) (sitofp (F := Ideal) FTy.f32 (constantI S_ 32 0#32)) pads_S4096x2572_S4096x2688_000_01160 h_S_ : Vec Ideal S4096x2688 .f32) (ix2 R j) = _
  pointwise
  simp only [word_zero]

/-- The weights, padded. -/
theorem V_w (R : Fin 1024) (j : Fin 2688) : (V m c main_v3 : Vec Ideal S1024x2688 .bf16) (ix2 R j)
    = if h : j.val < 2572 then (m ((c : Thread nD τ).loc main_arg1) : Vec Ideal S1024x2572 .f32) (ix2 R ⟨j.val, h⟩) else (0 : EReal) := by
  show (StableHlo.after (List.flatten [hostOps0, hostOps0_1, hostOps0_2, hostOps0_3, hostOps0_4]) (fun b => m (c, b)) (Proc.devRef .tc main_v3) : Vec Ideal S1024x2688 .bf16) (ix2 R j) = _
  simp only [List.flatten_cons, List.flatten_nil, List.append_nil, List.append_assoc, StableHlo.after_append]
  after_results_simp
  generalize (m (c, Proc.devRef .tc main_arg1)) = y
  change Vec Ideal S1024x2572 .f32 at y
  change (pad S1024x2688 ![0, 0] ![0, 116] ![0, 0] (y : Vec Ideal S1024x2572 .f32) (sitofp (F := Ideal) FTy.f32 (constantI S_ 32 0#32)) pads_S1024x2572_S1024x2688_000_01160 h_S_ : Vec Ideal S1024x2688 .f32) (ix2 R j) = _
  pointwise
  simp only [word_zero]

end Cert.FirstIdeal.Hand
-- ==== Proof.FirstRef.lean ====
module

public import proofs.«01_k».proof.Proof.Gen.FirstRefIdeal.Read
public import proofs.«01_k».proof.Proof.FirstGrad
public import Idealize.ShloMosaic.Lib.ValueIdx
public import Idealize.ShloMosaic.Lib.Pointwise

/-! The reference's two gradients of the first norm are the arrays the program's blocks make. -/

@[expose] public section
set_option maxRecDepth 16384
noncomputable section
namespace Cert.FirstRefIdeal.Tie
open Cert.FirstRefIdeal Cert.FirstRefIdeal.Gen Cert.FirstRefIdeal.Read Cert.RmsGrad
open Cert.FirstIdeal.Hand (flowAt dxArr dgArr dgRow)
open Idealize.ShloMosaic Idealize.ShloMosaic.TcCoe Idealize.ShloMosaic.Tactic
variable (x0 : Vec Ideal S4096x2572 .f32) (x1 : Vec Ideal S1024x2572 .f32) (x2 x3 : Vec Ideal S4096x1024 .f32) (x4 : Vec Ideal S1x1024 .f32)

/-- What flows into the normed rows. -/
def flowR : Fin 4096 → Fin 1024 → EReal := flowAt (fun R j => x0 (ix2 R j)) (fun d j => x1 (ix2 d j))

theorem r16 (R : Fin 4096) (d : Fin 1024) : val_main_v16 (F := Ideal) x0 x1 (ix2 R d) = flowR x0 x1 R d := by
  unfold val_main_v16 flowR flowAt; pointwise

theorem r6 (R : Fin 4096) (d : Fin 1) : val_main_v6 (F := Ideal) x3 (ix2 R d) = ms (fun j => x3 (ix2 R j)) := by
  unfold val_main_v6 val_main_v5 val_main_v4 val_main_v3 val_main_v2 val_main_v1 val_main_v0 val_main_cst val_main_cst_0 val_main_cst_1 ms
  pointwise

theorem r7 (R : Fin 4096) (d : Fin 1) : val_main_v7 (F := Ideal) x3 (ix2 R d) = rs (fun j => x3 (ix2 R j)) := by
  have h := r6 x3
  unfold val_main_v7 rs
  generalize val_main_v6 (F := Ideal) x3 = y at h ⊢
  change Vec Ideal S4096x1 .f32 at y
  pointwise
  simp only [h]

/-- The gradient of the gain. -/
theorem r19 : val_main_v19 (F := Ideal) x0 x1 x3 = dgArr (flowR x0 x1) x3 := by
  funext i
  idx_vars i
  have h := r16 x0 x1
  have h' := r7 x3
  unfold val_main_v19 val_main_v18 val_main_v17 val_main_v12 val_main_v11 val_main_cst_3
  generalize val_main_v16 (F := Ideal) x0 x1 = y at h ⊢
  change Vec Ideal S4096x1024 .f32 at y
  generalize val_main_v7 (F := Ideal) x3 = z at h' ⊢
  change Vec Ideal S4096x1 .f32 at z
  pointwise
  simp only [h, h']
  refine Finset.sum_congr rfl fun R _ => ?_
  exact mul_comm _ _

/-- What flows into a row's mean square, over the width. -/
theorem r30 (R : Fin 4096) (d : Fin 1) : val_main_v30 (F := Ideal) x0 x1 x3 x4 (ix2 R d) = bR (fun j => x3 (ix2 R j)) (fun j => flowR x0 x1 R j * x4 (ix2 0 j)) := by
  have h := r16 x0 x1
  have h' := r7 x3
  have h'' := r6 x3
  unfold val_main_v30 val_main_v29 val_main_v28 val_main_v24 val_main_v23 val_main_v22 val_main_v21 val_main_v20 val_main_v10 val_main_v9 val_main_v8 val_main_cst_2 val_main_cst_4 val_main_cst_5 bR
  generalize val_main_v16 (F := Ideal) x0 x1 = y at h ⊢
  change Vec Ideal S4096x1024 .f32 at y
  generalize val_main_v7 (F := Ideal) x3 = z at h' ⊢
  change Vec Ideal S4096x1 .f32 at z
  generalize val_main_v6 (F := Ideal) x3 = w at h'' ⊢
  change Vec Ideal S4096x1 .f32 at w
  pointwise
  simp only [h, h', h'']

/-- The gradient of the norm's argument, the residual's added. -/
theorem r36 : val_main_v36 (F := Ideal) x0 x1 x2 x3 x4 = dxArr (flowR x0 x1) x2 x3 x4 := by
  funext i
  idx_vars i
  have h := r16 x0 x1
  have h' := r7 x3
  have h'' := r30 x0 x1 x3 x4
  have key : dxArr (flowR x0 x1) x2 x3 x4 (ix2 i0 i1) = x2 (ix2 i0 i1) + dxK (fun j => x3 (ix2 i0 j)) (fun j => flowR x0 x1 i0 j * x4 (ix2 0 j)) i1 := rfl
  rw [key, ← dx_eq]
  unfold val_main_v36 val_main_v35 val_main_v34 val_main_v33 val_main_v32 val_main_v31 val_main_v27 val_main_v26 val_main_v25 val_main_v21 val_main_v20 val_main_cst_6
  generalize val_main_v30 (F := Ideal) x0 x1 x3 x4 = w at h'' ⊢
  change Vec Ideal S4096x1 .f32 at w
  generalize val_main_v16 (F := Ideal) x0 x1 = y at h ⊢
  change Vec Ideal S4096x1024 .f32 at y
  generalize val_main_v7 (F := Ideal) x3 = z at h' ⊢
  change Vec Ideal S4096x1 .f32 at z
  pointwise
  simp only [h, h', h'', Fin.sum_univ_one]
  rw [add_assoc, add_assoc]

end Cert.FirstRefIdeal.Tie
-- ==== Proof.FirstTie.lean ====
module

public import proofs.«01_k».proof.Defs
public import proofs.«01_k».proof.Proof.FirstArrays
public import proofs.«01_k».proof.Proof.FirstHost
public import proofs.«01_k».proof.Proof.FirstRef
public import proofs.«01_k».proof.Proof.Gen.FirstIdeal.Value
public import proofs.«01_k».proof.Proof.Gen.FirstRefIdeal.Run

/-! The two gradients of the first norm are the reference's, element by element, whatever the arguments. -/

@[expose] public section
set_option maxRecDepth 16384
noncomputable section
namespace Cert.First.Tie
open Cert.FirstIdeal.Hand
open Idealize.ShloMosaic Idealize.ShloMosaic.TcCoe Idealize.ShloMosaic.Tactic Idealize.SL.Sem

/-- A sum over padded columns is the sum over the columns. -/
theorem sum_pad (f : Fin 2688 → EReal) (g : Fin 2572 → EReal) (h : ∀ j : Fin 2572, f ⟨j.val, by omega⟩ = g j) (h0 : ∀ j : Fin 2688, 2572 ≤ j.val → f j = 0) :
    ∑ j, f j = ∑ j, g j := by
  rw [show (∑ j, f j) = ∑ j : Fin (2572 + 116), f j from rfl, Fin.sum_univ_add]
  rw [Finset.sum_eq_zero (s := (Finset.univ : Finset (Fin 116))) (fun j _ => h0 _ (by show 2572 ≤ 2572 + j.val; omega)), add_zero]
  exact Finset.sum_congr rfl fun j _ => h j

/-- What flows into the normed rows is the product of the arguments: the padding adds nothing. -/
theorem flow_arg (m : (ℓ : Loc Cert.FirstIdeal.nD Cert.FirstIdeal.τ Cert.FirstIdeal.sig) → Buf (Elt Ideal) ℓ) (c : Dev Cert.FirstIdeal.nD) :
    flowV m c = Cert.FirstRefIdeal.Tie.flowR (m ((c : Thread Cert.FirstIdeal.nD Cert.FirstIdeal.τ).loc Cert.FirstIdeal.main_arg0)) (m ((c : Thread Cert.FirstIdeal.nD Cert.FirstIdeal.τ).loc Cert.FirstIdeal.main_arg1)) := by
  funext R d
  unfold flowV Cert.FirstRefIdeal.Tie.flowR flowAt
  refine sum_pad _ _ (fun j => ?_) fun j hj => ?_
  · dsimp only
    rw [V_d, V_w, dif_pos j.isLt, dif_pos j.isLt]
  · dsimp only
    rw [V_d, V_w, dif_neg (by omega), dif_neg (by omega), zero_mul]

/-- The two gradients the program leaves are the reference's. -/
theorem algebraic : algebraic_FirstIdeal_FirstRefIdeal := by
  intro m ρ m' ρ' _ hagree
  refine ⟨fun c => (Cert.FirstIdeal.Gen.dats m 0 c).arrAt 5 Cert.FirstIdeal.cfg0.N, fun c => (Cert.FirstIdeal.Gen.dats m 0 c).arrAt 6 Cert.FirstIdeal.cfg0.N,
    Cert.FirstIdeal.Value.run_blocks m ρ, ?_⟩
  refine (θ_run Cert.FirstRefIdeal.defs _ _).mono (fun r h c => ?_) (Cert.FirstRefIdeal.Value.run (F := Ideal) m' ρ')
  obtain ⟨e0, e1, hargs⟩ := h c
  obtain ⟨a0, a1, a2, a3, a4⟩ := hagree c
  have v2 := Cert.FirstIdeal.Gen.V_main_arg2 m c
  have v3 := Cert.FirstIdeal.Gen.V_main_arg3 m c
  have v4 := Cert.FirstIdeal.Gen.V_main_arg4 m c
  refine ⟨e0.trans ?_, e1.trans ?_, hargs⟩
  · rw [Cert.FirstRefIdeal.Read.val_main_v36_eq, a0, a1, a2, a3, a4, Cert.FirstRefIdeal.Tie.r36]
    refine Eq.trans ?_ (final_dx m c).symm
    rw [flow_arg, v2, v3, v4]
  · rw [Cert.FirstRefIdeal.Read.val_main_v19_eq, a0, a1, a3, Cert.FirstRefIdeal.Tie.r19]
    refine Eq.trans ?_ (final_dg m c).symm
    rw [flow_arg, v3]

end Cert.First.Tie
-- ==== Proof.Tiles.lean ====
module

public import Idealize.ShloMosaic.Lib.ValueIdx
public import Idealize.ShloMosaic.Lib.Pointwise
public import Idealize.ShloMosaic.PureOps.Ideal

/-! Where the elements of a tile lie in the array. -/

@[expose] public section
noncomputable section
namespace Cert.Tiles
open Idealize.ShloMosaic Idealize.ShloMosaic.Tactic

/-- A row (or column) of tile `b` of height `B`. -/
def place (B n : ℕ) (hn : 0 < n) (b : ℕ) (r : Fin B) : Fin n := ⟨(b * B + r.val) % n, Nat.mod_lt _ hn⟩

theorem place_val {B n b : ℕ} (hn : 0 < n) (r : Fin B) (h : (b + 1) * B ≤ n) : (place B n hn b r).val = b * B + r.val := by
  refine Nat.mod_eq_of_lt ?_
  have := r.isLt
  rw [Nat.succ_mul] at h
  omega

/-- An element of a tile, in the array. -/
theorem emb {n N B C a d : ℕ} (r : Fin B) (l : Fin C) (hn : 0 < n) (hN : 0 < N) (ha : (a + 1) * B ≤ n) (hd : (d + 1) * C ≤ N)
    (i : Shape.Idx ⟨2, ![n, N]⟩) (h0 : (i 0).val = a * B + 1 * r.val) (h1 : (i 1).val = d * C + 1 * l.val) :
    i = ix2 (place B n hn a r) (place C N hN d l) := by
  funext x; apply Fin.ext
  match x with
  | ⟨0, _⟩ => exact h0.trans ((by omega : _ = a * B + r.val).trans (place_val hn r ha).symm)
  | ⟨1, _⟩ => exact h1.trans ((by omega : _ = d * C + l.val).trans (place_val hN l hd).symm)

/-- Every row lies in a tile. -/
theorem split {B n : ℕ} (hn : 0 < n) (hB : 0 < B) (k : ℕ) (hk : n = k * B) (i : Fin n) : ∃ b, b < k ∧ ∃ r : Fin B, place B n hn b r = i := by
  have hb : i.val / B < k := Nat.div_lt_of_lt_mul (by have := i.isLt; rw [Nat.mul_comm]; omega)
  refine ⟨i.val / B, hb, ⟨i.val % B, Nat.mod_lt _ hB⟩, Fin.ext ?_⟩
  rw [place_val hn _ ((Nat.mul_le_mul_right B hb).trans hk.ge)]
  show i.val / B * B + i.val % B = i.val
  exact Nat.div_add_mod' i.val B

/-- A tile as wide as the array keeps its columns. -/
theorem place_all {n : ℕ} (hn : 0 < n) (r : Fin n) : place n n hn 0 r = r :=
  Fin.ext ((place_val hn r (by omega)).trans (by omega))

end Cert.Tiles
-- ==== Proof.NormTie.lean ====
module

public import proofs.«01_k».proof.Defs
public import proofs.«01_k».proof.Proof.Tiles
public import proofs.«01_k».proof.Proof.RmsGrad
public import proofs.«01_k».proof.Proof.Gen.NormIdeal.Value
public import proofs.«01_k».proof.Proof.Gen.NormRefIdeal.Run
public import proofs.«01_k».proof.Proof.Gen.NormRefIdeal.Read
public import Idealize.ShloMosaic.Lib.Pipeline.ValueKit.Basic

/-! The normed rows are the reference's, element by element, whatever the arguments. -/

@[expose] public section
set_option maxRecDepth 16384
noncomputable section
namespace Cert.NormRefIdeal.Tie
open Cert.NormRefIdeal Cert.NormRefIdeal.Read Cert.RmsGrad
open Idealize.ShloMosaic Idealize.ShloMosaic.TcCoe Idealize.ShloMosaic.Tactic

variable (x0 : Vec Ideal S4096x1024 .f32) (x1 : Vec Ideal S1x1024 .f32)

/-- The normed rows: each element times its row's inverse root mean square and its column's gain. -/
def normed : Vec Ideal S4096x1024 .bf16 := fun i => x0 (ix2 (i 0) (i 1)) * rs (fun d => x0 (ix2 (i 0) d)) * x1 (ix2 0 (i 1))

/-- A row's sum of squares. -/
theorem r1 (R : Fin 4096) : val_main_v1 (F := Ideal) x0 (ix1 R) = ∑ d : Fin 1024, x0 (ix2 R d) * x0 (ix2 R d) := by
  unfold val_main_v1 val_main_v0 val_main_cst
  pointwise

/-- A row's inverse root mean square. -/
theorem r7 (R : Fin 4096) (d : Fin 1) : val_main_v7 (F := Ideal) x0 (ix2 R d) = rs (fun d => x0 (ix2 R d)) := by
  have h := r1 x0
  unfold val_main_v7 val_main_v6 val_main_v5 val_main_v4 val_main_v3 val_main_v2 val_main_cst_0 val_main_cst_1 rs ms
  generalize val_main_v1 (F := Ideal) x0 = y at h ⊢
  change Vec Ideal S4096 .f32 at y
  pointwise
  simp only [h]

/-- The reference's result is the normed rows. -/
theorem r12 : val_main_v12 (F := Ideal) x0 x1 = normed x0 x1 := by
  funext i
  idx_vars i
  have h := r7 x0
  show _ = x0 (ix2 i0 i1) * rs (fun d => x0 (ix2 i0 d)) * x1 (ix2 0 i1)
  unfold val_main_v12 val_main_v11 val_main_v10 val_main_v9 val_main_v8
  generalize val_main_v7 (F := Ideal) x0 = y at h ⊢
  change Vec Ideal S4096x1 .f32 at y
  pointwise
  simp only [h]

end Cert.NormRefIdeal.Tie

namespace Cert.NormIdeal.Hand
open Cert.NormIdeal Cert.NormIdeal.Gen Cert.NormIdeal.Value Cert.RmsGrad Cert.Tiles
open Idealize.ShloMosaic Idealize.ShloMosaic.TcCoe Idealize.ShloMosaic.Tactic
open Idealize.ShloMosaic.Pipeline (Dat)

variable (m : (ℓ : Loc nD τ sig) → Buf (Elt Ideal) ℓ) (c : Dev nD)

/-- A block of normed rows, element by element. -/
theorem block (a : Vec Ideal S512x1024 .f32) (g : Vec Ideal S1x1024 .f32) (r : Fin 512) (d : Fin 1024) :
    out0_2 (F := Ideal) a g (ix2 r d) = a (ix2 r d) * rs (fun j => a (ix2 r j)) * g (ix2 0 d) := by
  unfold out0_2
  rw [View.canon_cons_unit_lit _ _ _ (by decide), View.ld_unit_lit _ a (by decide), View.ld_unit_lit _ g (by decide)]
  unfold k0_pay1 rs ms
  pointwise

theorem lt8 (t : Fin cfg0.N) : t.val < 8 := lt_of_lt_of_eq t.isLt (show cfg0.N = 8 from N_0)
theorem pos0 (t : Fin cfg0.N) : win0_0.index t (0 : Fin 2) = t.val ∧ win0_0.index t (1 : Fin 2) = 0 :=
  (by decide +kernel : ∀ t : Fin grid0.N, win0_0.index t (0 : Fin 2) = t.val ∧ win0_0.index t (1 : Fin 2) = 0) t
theorem pos1 (t : Fin cfg0.N) : win0_1.index t (0 : Fin 2) = 0 ∧ win0_1.index t (1 : Fin 2) = 0 :=
  (by decide +kernel : ∀ t : Fin grid0.N, win0_1.index t (0 : Fin 2) = 0 ∧ win0_1.index t (1 : Fin 2) = 0) t
theorem pos2 (t : Fin cfg0.N) : win0_2.index t (0 : Fin 2) = t.val ∧ win0_2.index t (1 : Fin 2) = 0 :=
  (by decide +kernel : ∀ t : Fin grid0.N, win0_2.index t (0 : Fin 2) = t.val ∧ win0_2.index t (1 : Fin 2) = 0) t

/-- A row of the array, by its block and its row there. -/
abbrev row (b : ℕ) (r : Fin 512) : Fin 4096 := place 512 4096 (by decide) b r

theorem emb_row (t : Fin cfg0.N) (r : Fin 512) (l : Fin 1024) {a d : ℕ} (ha : a = t.val) (hd : d = 0) (i : Shape.Idx ⟨2, ![4096, 1024]⟩)
    (h0 : (i 0).val = a * 512 + 1 * r.val) (h1 : (i 1).val = d * 1024 + 1 * l.val) : i = ix2 (row t.val r) l := by
  subst ha hd
  have h8 := lt8 t
  exact (emb r l (by decide) (by decide) (by omega) (by decide) i h0 h1).trans (congrArg (ix2 _) (place_all _ l))

theorem iblk0 (t : Fin cfg0.N) (r : Fin 512) (l : Fin 1024) : iblk m c 0 t (ix2 r l) = (V m c main_arg0 : Vec Ideal S4096x1024 .f32) (ix2 (row t.val r) l) :=
  congrArg (V m c main_arg0 : Vec Ideal S4096x1024 .f32) (emb_row t r l (pos0 t).1 (pos0 t).2 (((cfg0.win 0).blk t).view.emb (ix2 r l)) rfl rfl)
theorem iblk1 (t : Fin cfg0.N) (s : Fin 1) (l : Fin 1024) : iblk m c 1 t (ix2 s l) = (V m c main_arg1 : Vec Ideal S1x1024 .f32) (ix2 s l) := by
  refine congrArg (V m c main_arg1 : Vec Ideal S1x1024 .f32) ((emb s l (by decide) (by decide) (by rw [(pos1 t).1]) (by rw [(pos1 t).2])
    (((cfg0.win 1).blk t).view.emb (ix2 s l)) rfl rfl).trans ?_)
  rw [(pos1 t).1, (pos1 t).2, place_all, place_all]
theorem emb_out (t : Fin cfg0.N) (r : Fin 512) (l : Fin 1024) : ((cfg0.win 2).blk t).view.emb (ix2 r l) = (ix2 (row t.val r) l : S4096x1024.Idx) :=
  emb_row t r l (pos2 t).1 (pos2 t).2 (((cfg0.win 2).blk t).view.emb (ix2 r l)) rfl rfl

/-- Every element of the result lies in a block that is written back. -/
theorem cover : ∀ i : S4096x1024.Idx, ∃ t : Fin cfg0.N, (cfg0.win 2).flush t = true ∧ i ∈ ((cfg0.win 2).blk t).view.set := by
  intro i
  idx_vars i
  obtain ⟨j, hj, k, hk⟩ := split (B := 512) (by decide) (by decide) 8 (by decide) i0
  have hn : j < cfg0.N := lt_of_lt_of_eq hj (show 8 = cfg0.N from N_0.symm)
  have e := emb_out ⟨j, hn⟩ k i1
  rw [show row (⟨j, hn⟩ : Fin cfg0.N).val k = i0 from hk] at e
  exact ⟨⟨j, hn⟩, flush0_2 _, e ▸ ((cfg0.win 2).blk ⟨j, hn⟩).view.emb_mem_set _⟩

/-- The whole result. -/
theorem final : (dats m 0 c).arrAt 2 cfg0.N = Cert.NormRefIdeal.Tie.normed (V m c main_arg0) (V m c main_arg1) := by
  refine (dats m 0 c).arrAt_eq_of_cover 2 (Cert.NormRefIdeal.Tie.normed (V m c main_arg0) (V m c main_arg1)) ?_ cover
  intro t _
  funext y
  idx_vars y
  show (dats m 0 c).after 2 t (ix2 y0 y1) = Cert.NormRefIdeal.Tie.normed _ _ (((cfg0.win 2).blk t).view.emb (ix2 y0 y1))
  rw [emb_out, after0_2]
  refine (block _ _ y0 y1).trans ?_
  simp only [iblk0, iblk1]
  rfl

end Cert.NormIdeal.Hand

namespace Cert.Norm.Tie
open Idealize.ShloMosaic Idealize.ShloMosaic.TcCoe Idealize.ShloMosaic.Tactic Idealize.SL.Sem

/-- The normed rows the program leaves are the reference's. -/
theorem algebraic : algebraic_NormIdeal_NormRefIdeal := by
  intro m ρ m' ρ' _ hagree
  refine ⟨fun c => (Cert.NormIdeal.Gen.dats m 0 c).arrAt 2 Cert.NormIdeal.cfg0.N, Cert.NormIdeal.Value.run_blocks m ρ, ?_⟩
  refine (θ_run Cert.NormRefIdeal.defs _ _).mono (fun r h c => ?_) (Cert.NormRefIdeal.Value.run (F := Ideal) m' ρ')
  obtain ⟨e0, hargs⟩ := h c
  obtain ⟨a0, a1⟩ := hagree c
  have v0 := Cert.NormIdeal.Gen.V_main_arg0 m c
  have v1 := Cert.NormIdeal.Gen.V_main_arg1 m c
  refine ⟨e0.trans ?_, hargs⟩
  rw [Cert.NormRefIdeal.Read.val_main_v12_eq, a0, a1, Cert.NormRefIdeal.Tie.r12]
  refine Eq.trans ?_ (Cert.NormIdeal.Hand.final m c).symm
  rw [v0, v1]

end Cert.Norm.Tie
-- ==== Proof.AttTie.lean ====
module

public import proofs.«01_k».proof.Defs
public import proofs.«01_k».proof.Proof.Tiles
public import proofs.«01_k».proof.Proof.XattnTie
public import proofs.«01_k».proof.Proof.Gen.AttIdeal.Value
public import proofs.«01_k».proof.Proof.Gen.AttRefIdeal.Run
public import proofs.«01_k».proof.Proof.Gen.AttRefIdeal.Read
public import Idealize.ShloMosaic.Lib.Pipeline.ValueKit.Basic

/-! Where queries, keys and values are finite, the memory attention's rows are the reference's, element by element. -/

@[expose] public section
set_option maxRecDepth 16384
noncomputable section
namespace Cert.AttRefIdeal.Tie
open Cert.AttRefIdeal Cert.AttRefIdeal.Read Cert.FoxReal
open Idealize.ShloMosaic Idealize.ShloMosaic.TcCoe Idealize.ShloMosaic.Tactic
open Cert.XattnIdeal.Hand (wgt prob logit qRow kMat vMat pAt col lane col_val col_split prob_eq)
open Cert.XattnRefIdeal.Tie (col_eq lane_eq late_eq)

/-- A head's row: the values, weighted. -/
def rowOf (Q : Vec Ideal S4096x1024 .bf16) (M : Vec Ideal S256x2048 .bf16) (g : ℕ) (R : Fin 4096) (d : Fin 256) : EReal := ∑ m : Fin 256, pAt Q M g R m * vMat M g m d

/-- The attention's rows as an array. -/
def rowsArr (Q : Vec Ideal S4096x1024 .bf16) (M : Vec Ideal S256x2048 .bf16) : Vec Ideal S4096x1024 .bf16 :=
  fun i => rowOf Q M ((i 1).val / 256) (i 0) (Fin.ofNat 256 (i 1).val)

variable (x0 : Vec Ideal S4096x1024 .f32) (x1 : Vec Ideal S256x2048 .f32)

/-- The logits. -/
theorem r7 (g : Fin 4) (r : Fin 4096) (m : Fin 256) : val_main_v7 (F := Ideal) x0 x1 (ix3 g r m) = logit (qRow x0 g.val r) (kMat x1 g.val) m := by
  unfold val_main_v7 val_main_v6 val_main_v5 val_main_v4 val_main_v1 val_main_v0 val_main_cst
  pointwise
  simp only [col_eq, lane_eq]
  rfl

/-- A row's largest logit. -/
theorem r10 (g : Fin 4) (r : Fin 4096) :
    val_main_v10 (F := Ideal) x0 x1 (ix2 g r) = Finset.fold max (Ideal.ofBits FTy.f32 4286578688#32) (fun x => (val_main_v7 (F := Ideal) x0 x1 (ix3 g r x) : EReal)) Finset.univ := by
  have e : val_main_v8 (F := Ideal) x0 x1 (ix2 g r) = Finset.fold max (Ideal.ofBits FTy.f32 4286578688#32) (fun x => (val_main_v7 (F := Ideal) x0 x1 (ix3 g r x) : EReal)) Finset.univ := by
    unfold val_main_v8 val_main_cst_0
    generalize val_main_v7 (F := Ideal) x0 x1 = y
    change Vec Ideal S4x4096x256 .f32 at y
    pointwise
  rw [← e]
  unfold val_main_v10 val_main_v9 val_main_cst_1
  generalize val_main_v8 (F := Ideal) x0 x1 = y
  change Vec Ideal S4x4096 .f32 at y
  pointwise
  rw [word_ninf]
  exact max_eq_right bot_le

/-- The weights before division. -/
theorem r14 (g : Fin 4) (r : Fin 4096) (m : Fin 256) :
    val_main_v14 (F := Ideal) x0 x1 (ix3 g r m) = wgt (logit (qRow x0 g.val r) (kMat x1 g.val)) m := by
  have e10 := r10 x0 x1
  have e7 := r7 x0 x1
  unfold val_main_v14 val_main_v13 val_main_v12 val_main_v11
  generalize val_main_v10 (F := Ideal) x0 x1 = z at e10 ⊢
  generalize val_main_v7 (F := Ideal) x0 x1 = y at e10 e7 ⊢
  change Vec Ideal S4x4096x256 .f32 at y
  change Vec Ideal S4x4096 .f32 at z
  pointwise
  simp only [e10, e7]
  rfl

section
variable (L : Fin 4 → Fin 4096 → Fin 256 → ℝ) (hL : ∀ g r m, logit (qRow x0 g.val r) (kMat x1 g.val) m = ((L g r m : ℝ) : EReal))

include hL in
/-- The weights. -/
theorem r18 (g : Fin 4) (r : Fin 4096) (m : Fin 256) : val_main_v18 (F := Ideal) x0 x1 (ix3 g r m) = pAt x0 x1 g.val r m := by
  have e := r14 x0 x1
  unfold val_main_v18 val_main_v17 val_main_v16 val_main_v15 val_main_cst_2
  generalize val_main_v14 (F := Ideal) x0 x1 = y at e ⊢
  change Vec Ideal S4x4096x256 .f32 at y
  pointwise
  simp only [e]
  exact prob_eq (L g r) _ (hL g r) m

include hL in
/-- The rows, head by head. -/
theorem r20 (r : Fin 4096) (g : Fin 4) (d : Fin 256) : val_main_v20 (F := Ideal) x0 x1 (ix3 r g d) = rowOf x0 x1 g.val r d := by
  have e := r18 x0 x1 L hL
  unfold val_main_v20 val_main_v19 val_main_v3 val_main_v2 rowOf
  generalize val_main_v18 (F := Ideal) x0 x1 = y at e ⊢
  change Vec Ideal S4x4096x256 .f32 at y
  pointwise
  simp only [e, late_eq]
  exact Finset.sum_congr rfl fun m _ => mul_comm _ _

include hL in
/-- The reference's result. -/
theorem r22 : val_main_v22 (F := Ideal) x0 x1 = rowsArr x0 x1 := by
  funext i
  idx_vars i
  have e := r20 x0 x1 L hL
  show _ = rowOf x0 x1 (i1.val / 256) i0 (Fin.ofNat 256 i1.val)
  unfold val_main_v22 val_main_v21
  generalize val_main_v20 (F := Ideal) x0 x1 = y at e ⊢
  change Vec Ideal S4096x4x256 .f32 at y
  pointwise
  simp only [e]
  rfl
end

end Cert.AttRefIdeal.Tie

namespace Cert.AttIdeal.Hand
open Cert.AttIdeal Cert.AttIdeal.Gen Cert.AttIdeal.Value Cert.Tiles
open Idealize.ShloMosaic Idealize.ShloMosaic.TcCoe Idealize.ShloMosaic.Tactic
open Idealize.ShloMosaic.Pipeline (Dat)
open Cert.XattnIdeal.Hand (wgt prob logit qRow kMat vMat pAt col lane col_val col_split rows slots)
open Cert.AttRefIdeal.Tie (rowOf rowsArr)

/-- A row of a block, head by head. -/
def headRow (x0 : Vec Ideal S512x1024 .bf16) (x1 : Vec Ideal S256x2048 .bf16) (g : ℕ) (r : Fin 512) (d : Fin 256) : EReal :=
  ∑ m : Fin 256, prob (logit (fun d => x0 (ix2 r (col g d))) (kMat x1 g)) m * vMat x1 g m d

theorem ld_rows (x : Vec Ideal S512x1024 .bf16) (o : ℕ) (inb) : View.ld x (Rect.unit (s := S512x1024) ![0, o] S512x256.size inb) = rows o x := by
  have ho : o + 256 ≤ 1024 := inb 1
  funext y; unfold rows
  refine congrArg x (funext fun a => ?_)
  have h1 : (y 1).val < 256 := (y 1).isLt
  fin_cases a
  · exact Fin.ext (show 0 + 1 * (y 0).val = (y 0).val by omega)
  · exact Fin.ext ((show o + 1 * (y 1).val = o + (y 1).val by omega).trans (Nat.mod_eq_of_lt (by omega)).symm)

theorem ld_slots (x : Vec Ideal S256x2048 .bf16) (o : ℕ) (inb) : View.ld x (Rect.unit (s := S256x2048) ![0, o] S256x256.size inb) = slots o x := by
  have ho : o + 256 ≤ 2048 := inb 1
  funext y; unfold slots
  refine congrArg x (funext fun a => ?_)
  have h1 : (y 1).val < 256 := (y 1).isLt
  fin_cases a
  · exact Fin.ext (show 0 + 1 * (y 0).val = (y 0).val by omega)
  · exact Fin.ext ((show o + 1 * (y 1).val = o + (y 1).val by omega).trans (Nat.mod_eq_of_lt (by omega)).symm)

/-- A head's weights over a block's rows. -/
theorem weights (q : FVec Ideal S512x256 .bf16) (k : FVec Ideal S256x256 .bf16) (r : Fin 512) (m : Fin 256) :
    k0_pay4 (F := Ideal) q k (ix2 r m) = prob (logit (fun d => q (ix2 r d)) (fun m d => k (ix2 m d))) m := by
  unfold k0_pay4 prob wgt logit
  pointwise

/-- A head's rows. -/
theorem mixed (p : FVec Ideal S512x256 .f32) (v : FVec Ideal S256x256 .bf16) (r : Fin 512) (d : Fin 256) :
    k0_pay9 (F := Ideal) p v (ix2 r d) = ∑ m : Fin 256, p (ix2 r m) * v (ix2 m d) := by
  unfold k0_pay9
  pointwise

/-- The other heads' operations are the first's. -/
theorem same1 (p : FVec Ideal S512x256 .f32) (v : FVec Ideal S256x256 .bf16) : k0_pay1 (F := Ideal) p v = k0_pay9 (F := Ideal) p v := rfl
theorem same2 (p : FVec Ideal S512x256 .f32) (v : FVec Ideal S256x256 .bf16) : k0_pay2 (F := Ideal) p v = k0_pay9 (F := Ideal) p v := rfl
theorem same3 (p : FVec Ideal S512x256 .f32) (v : FVec Ideal S256x256 .bf16) : k0_pay3 (F := Ideal) p v = k0_pay9 (F := Ideal) p v := rfl
theorem same5 (q : FVec Ideal S512x256 .bf16) (k : FVec Ideal S256x256 .bf16) : k0_pay5 (F := Ideal) q k = k0_pay4 (F := Ideal) q k := rfl
theorem same7 (q : FVec Ideal S512x256 .bf16) (k : FVec Ideal S256x256 .bf16) : k0_pay7 (F := Ideal) (k0_pay6 (F := Ideal) q) k = k0_pay4 (F := Ideal) q k := rfl
theorem same8 (q : FVec Ideal S512x256 .bf16) (k : FVec Ideal S256x256 .bf16) : k0_pay8 (F := Ideal) q k = k0_pay4 (F := Ideal) q k := rfl

/-- A head's columns of a block. -/
theorem piece (x0 : Vec Ideal S512x1024 .bf16) (x1 : Vec Ideal S256x2048 .bf16) (g : ℕ) (r : Fin 512) (d : Fin 256) :
    k0_pay9 (F := Ideal) (k0_pay4 (F := Ideal) (rows (256 * g) x0) (slots (256 * g) x1)) (slots (1024 + 256 * g) x1) (ix2 r d) = headRow x0 x1 g r d := by
  rw [mixed]
  simp only [weights]
  rfl

/-- A block of the attention's rows. -/
def blockOf (x0 : Vec Ideal S512x1024 .bf16) (x1 : Vec Ideal S256x2048 .bf16) : Vec Ideal S512x1024 .bf16 :=
  fun y => headRow x0 x1 ((y 1).val / 256) (y 0) (Fin.ofNat 256 (y 1).val)

theorem blockOf_col (x0 : Vec Ideal S512x1024 .bf16) (x1 : Vec Ideal S256x2048 .bf16) (g : ℕ) (hg : g < 4) (r : Fin 512) (d : Fin 256) :
    blockOf x0 x1 (ix2 r (col g d)) = headRow x0 x1 g r d := by
  have hd := d.isLt
  show headRow x0 x1 ((col g d).val / 256) r (Fin.ofNat 256 (col g d).val) = _
  rw [col_val hg, show (256 * g + d.val) / 256 = g by omega, show Fin.ofNat 256 (256 * g + d.val) = d from Fin.ext (by show (256 * g + d.val) % 256 = d.val; omega)]

/-- A head's stored columns are those columns of the block. -/
theorem stored (x0 : Vec Ideal S512x1024 .bf16) (x1 : Vec Ideal S256x2048 .bf16) (g : ℕ) (hg : g < 4) (inb) (z : S512x256.Idx) :
    k0_pay9 (F := Ideal) (k0_pay4 (F := Ideal) (rows (256 * g) x0) (slots (256 * g) x1)) (slots (1024 + 256 * g) x1) z
      = blockOf x0 x1 ((Rect.unit (s := S512x1024) ![0, 256 * g] S512x256.size inb).idx z) := by
  idx_vars z
  refine (piece x0 x1 g z0 z1).trans ((blockOf_col x0 x1 g hg z0 z1).symm.trans (congrArg (blockOf x0 x1) (funext fun a => ?_)))
  have h := col_val hg z1
  fin_cases a
  · exact Fin.ext (show z0.val = 0 + 1 * z0.val by omega)
  · exact Fin.ext (h.trans (show 256 * g + z1.val = 256 * g + 1 * z1.val by omega))

/-- A block of the attention's rows, as it is stored. -/
theorem block (x0 : Vec Ideal S512x1024 .bf16) (x1 : Vec Ideal S256x2048 .bf16) (y : S512x1024.Idx) : out0_2 (F := Ideal) x0 x1 y = blockOf x0 x1 y := by
  unfold out0_2
  simp only [same1, same2, same3, same5, same7, same8, ld_rows, ld_slots]
  refine View.canon_apply_of_pieces (Val := Elt Ideal) (e := .bf16) (blockOf x0 x1) _ ?_ y (cover0_2 _ _ _ _ y)
  intro pc hpc
  simp only [List.mem_cons, List.not_mem_nil, or_false] at hpc
  rcases hpc with rfl | rfl | rfl | rfl
  · exact fun z => stored x0 x1 3 (by decide) inb_S512x1024_S512x256_0_768 z
  · exact fun z => stored x0 x1 2 (by decide) inb_S512x1024_S512x256_0_512 z
  · exact fun z => stored x0 x1 1 (by decide) inb_S512x1024_S512x256_0_256 z
  · exact fun z => stored x0 x1 0 (by decide) inb_S512x1024_S512x256_0_0 z

/-- A block's rows are the array's. -/
theorem block_at (x0 : Vec Ideal S512x1024 .bf16) (x1 : Vec Ideal S256x2048 .bf16) (Q : Vec Ideal S4096x1024 .bf16) (M : Vec Ideal S256x2048 .bf16) (R : Fin 4096) (r : Fin 512)
    (h0 : ∀ l, x0 (ix2 r l) = Q (ix2 R l)) (h1 : x1 = M) (l : Fin 1024) : out0_2 (F := Ideal) x0 x1 (ix2 r l) = rowsArr Q M (ix2 R l) := by
  rw [block]
  subst h1
  show headRow x0 x1 (l.val / 256) r (Fin.ofNat 256 l.val) = rowOf Q x1 (l.val / 256) R (Fin.ofNat 256 l.val)
  unfold headRow rowOf pAt
  simp only [h0]
  rfl

variable (m : (ℓ : Loc nD τ sig) → Buf (Elt Ideal) ℓ) (c : Dev nD)

theorem lt8 (t : Fin cfg0.N) : t.val < 8 := lt_of_lt_of_eq t.isLt (show cfg0.N = 8 from N_0)
theorem pos0 (t : Fin cfg0.N) : win0_0.index t (0 : Fin 2) = t.val ∧ win0_0.index t (1 : Fin 2) = 0 :=
  (by decide +kernel : ∀ t : Fin grid0.N, win0_0.index t (0 : Fin 2) = t.val ∧ win0_0.index t (1 : Fin 2) = 0) t
theorem pos1 (t : Fin cfg0.N) : win0_1.index t (0 : Fin 2) = 0 ∧ win0_1.index t (1 : Fin 2) = 0 :=
  (by decide +kernel : ∀ t : Fin grid0.N, win0_1.index t (0 : Fin 2) = 0 ∧ win0_1.index t (1 : Fin 2) = 0) t
theorem pos2 (t : Fin cfg0.N) : win0_2.index t (0 : Fin 2) = t.val ∧ win0_2.index t (1 : Fin 2) = 0 :=
  (by decide +kernel : ∀ t : Fin grid0.N, win0_2.index t (0 : Fin 2) = t.val ∧ win0_2.index t (1 : Fin 2) = 0) t

/-- A row of the array, by its block and its row there. -/
abbrev row (b : ℕ) (r : Fin 512) : Fin 4096 := place 512 4096 (by decide) b r

theorem emb_row (t : Fin cfg0.N) (r : Fin 512) (l : Fin 1024) {a d : ℕ} (ha : a = t.val) (hd : d = 0) (i : Shape.Idx ⟨2, ![4096, 1024]⟩)
    (h0 : (i 0).val = a * 512 + 1 * r.val) (h1 : (i 1).val = d * 1024 + 1 * l.val) : i = ix2 (row t.val r) l := by
  subst ha hd
  have h8 := lt8 t
  exact (emb r l (by decide) (by decide) (by omega) (by decide) i h0 h1).trans (congrArg (ix2 _) (place_all _ l))

theorem iblk0 (t : Fin cfg0.N) (r : Fin 512) (l : Fin 1024) : iblk m c 0 t (ix2 r l) = (V m c main_v0 : Vec Ideal S4096x1024 .bf16) (ix2 (row t.val r) l) :=
  congrArg (V m c main_v0 : Vec Ideal S4096x1024 .bf16) (emb_row t r l (pos0 t).1 (pos0 t).2 (((cfg0.win 0).blk t).view.emb (ix2 r l)) rfl rfl)
theorem iblk1 (t : Fin cfg0.N) : iblk m c 1 t = (V m c main_v1 : Vec Ideal S256x2048 .bf16) := by
  funext y; idx_vars y
  refine congrArg (V m c main_v1 : Vec Ideal S256x2048 .bf16) ((emb y0 y1 (by decide) (by decide) (by rw [(pos1 t).1]) (by rw [(pos1 t).2])
    (((cfg0.win 1).blk t).view.emb (ix2 y0 y1)) rfl rfl).trans ?_)
  rw [(pos1 t).1, (pos1 t).2, place_all, place_all]
theorem emb_out (t : Fin cfg0.N) (r : Fin 512) (l : Fin 1024) : ((cfg0.win 2).blk t).view.emb (ix2 r l) = (ix2 (row t.val r) l : S4096x1024.Idx) :=
  emb_row t r l (pos2 t).1 (pos2 t).2 (((cfg0.win 2).blk t).view.emb (ix2 r l)) rfl rfl

/-- Every element of the result lies in a block that is written back. -/
theorem cover : ∀ i : S4096x1024.Idx, ∃ t : Fin cfg0.N, (cfg0.win 2).flush t = true ∧ i ∈ ((cfg0.win 2).blk t).view.set := by
  intro i
  idx_vars i
  obtain ⟨j, hj, k, hk⟩ := split (B := 512) (by decide) (by decide) 8 (by decide) i0
  have hn : j < cfg0.N := lt_of_lt_of_eq hj (show 8 = cfg0.N from N_0.symm)
  have e := emb_out ⟨j, hn⟩ k i1
  rw [show row (⟨j, hn⟩ : Fin cfg0.N).val k = i0 from hk] at e
  exact ⟨⟨j, hn⟩, flush0_2 _, e ▸ ((cfg0.win 2).blk ⟨j, hn⟩).view.emb_mem_set _⟩

theorem V_q (i : S4096x1024.Idx) : (V m c main_v0 : Vec Ideal S4096x1024 .bf16) i = (m ((c : Thread nD τ).loc main_arg0) : Vec Ideal S4096x1024 .f32) i := by
  show (StableHlo.after hostOps0 (fun b => m (c, b)) (Proc.devRef .tc main_v0) : Vec Ideal S4096x1024 .bf16) i = _
  after_results_simp
  rfl
theorem V_kv (i : S256x2048.Idx) : (V m c main_v1 : Vec Ideal S256x2048 .bf16) i = (m ((c : Thread nD τ).loc main_arg1) : Vec Ideal S256x2048 .f32) i := by
  show (StableHlo.after hostOps0 (fun b => m (c, b)) (Proc.devRef .tc main_v1) : Vec Ideal S256x2048 .bf16) i = _
  after_results_simp
  rfl

/-- The whole result. -/
theorem final : (dats m 0 c).arrAt 2 cfg0.N = rowsArr (V m c main_v0) (V m c main_v1) := by
  refine (dats m 0 c).arrAt_eq_of_cover 2 (rowsArr (V m c main_v0) (V m c main_v1)) ?_ cover
  intro t _
  funext y
  idx_vars y
  show (dats m 0 c).after 2 t (ix2 y0 y1) = rowsArr _ _ (((cfg0.win 2).blk t).view.emb (ix2 y0 y1))
  rw [emb_out, after0_2]
  exact block_at _ _ _ _ (row t.val y0) y0 (fun l => iblk0 m c t y0 l) (iblk1 m c t) y1

end Cert.AttIdeal.Hand

namespace Cert.Att.Tie
open Cert.FoxReal
open Idealize.ShloMosaic Idealize.ShloMosaic.TcCoe Idealize.ShloMosaic.Tactic Idealize.SL.Sem

instance : Subsingleton Cert.Pre_finite_queries.S_.Idx := ⟨fun a b => funext fun j => j.elim0⟩

/-- The side conditions the precondition states. -/
theorem preFacts : Cert.Pre_finite_queries.Facts := ⟨by decide, by decide, by decide, by decide, by decide⟩

attribute [local instance] preFacts

open Cert.Pre_finite_queries in
/-- Every element of the queries and of the keys and values is a real number. -/
theorem finite_of (x0 : FVec Ideal S4096x1024 .f32) (x1 : FVec Ideal S256x2048 .f32) (h : fn (F := Ideal) x0 x1 = fun _ => 1#1) :
    (∀ i, x0 i = (((x0 i : EReal).toReal : ℝ) : EReal)) ∧ (∀ i, x1 i = (((x1 i : EReal).toReal : ℝ) : EReal)) := by
  obtain ⟨h0, h1⟩ := both_at _ _ h
  exact ⟨fun i => real_of_abs _ (Host.reduce_andi_all _ _ _ _ finZeroElim (congrFun h0 _) i), fun i => real_of_abs _ (Host.reduce_andi_all _ _ _ _ finZeroElim (congrFun h1 _) i)⟩

/-- The rows the program leaves are the reference's. -/
theorem algebraic : algebraic_AttIdeal_AttRefIdeal_pre_finite_queries := by
  intro m ρ m' ρ' hpre hagree
  refine ⟨fun c => (Cert.AttIdeal.Gen.dats m 0 c).arrAt 2 Cert.AttIdeal.cfg0.N, Cert.AttIdeal.Value.run_blocks m ρ, ?_⟩
  refine (θ_run Cert.AttRefIdeal.defs _ _).mono (fun r h c => ?_) (Cert.AttRefIdeal.Value.run (F := Ideal) m' ρ')
  obtain ⟨e0, hargs⟩ := h c
  obtain ⟨f0, f1⟩ := finite_of _ _ (hpre c)
  obtain ⟨a0, a1⟩ := hagree c
  have q : Cert.AttIdeal.Gen.V m c Cert.AttIdeal.main_v0 = m ((c : Thread Cert.AttIdeal.nD Cert.AttIdeal.τ).loc Cert.AttIdeal.main_arg0) := funext fun i => Cert.AttIdeal.Hand.V_q m c i
  have kv : Cert.AttIdeal.Gen.V m c Cert.AttIdeal.main_v1 = m ((c : Thread Cert.AttIdeal.nD Cert.AttIdeal.τ).loc Cert.AttIdeal.main_arg1) := funext fun i => Cert.AttIdeal.Hand.V_kv m c i
  refine ⟨e0.trans ?_, hargs⟩
  rw [Cert.AttRefIdeal.Read.val_main_v22_eq, a0, a1, Cert.AttRefIdeal.Tie.r22 _ _ _ (fun g r m => Cert.Xattn.Tie.logit_real _ _ f0 f1 g r m)]
  refine Eq.trans ?_ (Cert.AttIdeal.Hand.final m c).symm
  rw [q, kv]

end Cert.Att.Tie
-- ==== Proof.HidTie.lean ====
module

public import proofs.«01_k».proof.Defs
public import proofs.«01_k».proof.Proof.Tiles
public import proofs.«01_k».proof.Proof.Gen.HidIdeal.Value
public import proofs.«01_k».proof.Proof.Gen.HidRefIdeal.Run
public import proofs.«01_k».proof.Proof.Gen.HidRefIdeal.Read
public import Idealize.ShloMosaic.Lib.Pipeline.ValueKit.Basic

/-! The hidden rows' gradient: the output's gradient times the weight transposed. -/

@[expose] public section
set_option maxRecDepth 16384
noncomputable section
namespace Cert.HidRefIdeal.Tie
open Cert.HidRefIdeal Cert.HidRefIdeal.Read
open Idealize.ShloMosaic Idealize.ShloMosaic.TcCoe Idealize.ShloMosaic.Tactic

variable (x0 : Vec Ideal S4096x1024 .f32) (x1 : Vec Ideal S4096x1024 .f32)

/-- Each row of the one against each row of the other. -/
def prod : Vec Ideal S4096x4096 .f32 := fun i => ∑ k : Fin 1024, x0 (ix2 (i 0) k) * x1 (ix2 (i 1) k)

/-- The reference's result is that product. -/
theorem r1 : val_main_v1 (F := Ideal) x0 x1 = prod x0 x1 := by
  funext i
  idx_vars i
  show _ = ∑ k : Fin 1024, x0 (ix2 i0 k) * x1 (ix2 i1 k)
  unfold val_main_v1 val_main_v0
  pointwise

end Cert.HidRefIdeal.Tie

namespace Cert.HidIdeal.Hand
open Cert.HidIdeal Cert.HidIdeal.Gen Cert.HidIdeal.Value Cert.Tiles
open Idealize.ShloMosaic Idealize.ShloMosaic.TcCoe Idealize.ShloMosaic.Tactic
open Idealize.ShloMosaic.Pipeline (Dat)

variable (m : (ℓ : Loc nD τ sig) → Buf (Elt Ideal) ℓ) (c : Dev nD)

/-- A tile of the product, element by element. -/
theorem tile (a : Vec Ideal S2048x1024 .bf16) (b : Vec Ideal S1024x1024 .bf16) (r : Fin 2048) (l : Fin 1024) :
    out0_2 (F := Ideal) a b (ix2 r l) = ∑ k : Fin 1024, a (ix2 r k) * b (ix2 l k) := by
  unfold out0_2
  rw [View.canon_cons_unit_lit _ _ _ (by decide), View.ld_unit_lit _ a (by decide), View.ld_unit_lit _ b (by decide)]
  unfold k0_pay1
  pointwise

theorem lt8 (t : Fin cfg0.N) : t.val < 8 := lt_of_lt_of_eq t.isLt (show cfg0.N = 8 from N_0)
theorem pos0 (t : Fin cfg0.N) : win0_0.index t (0 : Fin 2) = t.val / 4 ∧ win0_0.index t (1 : Fin 2) = 0 :=
  (by decide +kernel : ∀ t : Fin grid0.N, win0_0.index t (0 : Fin 2) = t.val / 4 ∧ win0_0.index t (1 : Fin 2) = 0) t
theorem pos1 (t : Fin cfg0.N) : win0_1.index t (0 : Fin 2) = t.val % 4 ∧ win0_1.index t (1 : Fin 2) = 0 :=
  (by decide +kernel : ∀ t : Fin grid0.N, win0_1.index t (0 : Fin 2) = t.val % 4 ∧ win0_1.index t (1 : Fin 2) = 0) t
theorem pos2 (t : Fin cfg0.N) : win0_2.index t (0 : Fin 2) = t.val / 4 ∧ win0_2.index t (1 : Fin 2) = t.val % 4 :=
  (by decide +kernel : ∀ t : Fin grid0.N, win0_2.index t (0 : Fin 2) = t.val / 4 ∧ win0_2.index t (1 : Fin 2) = t.val % 4) t

/-- A row and a column of the result, by its tile and its place there. -/
abbrev row (b : ℕ) (r : Fin 2048) : Fin 4096 := place 2048 4096 (by decide) b r
abbrev colm (b : ℕ) (l : Fin 1024) : Fin 4096 := place 1024 4096 (by decide) b l

theorem iblk0 (t : Fin cfg0.N) (r : Fin 2048) (k : Fin 1024) : iblk m c 0 t (ix2 r k) = (V m c main_v0 : Vec Ideal S4096x1024 .bf16) (ix2 (row (t.val / 4) r) k) := by
  have h8 := lt8 t
  refine congrArg (V m c main_v0 : Vec Ideal S4096x1024 .bf16) ((emb r k (by decide) (by decide) (by rw [(pos0 t).1]; omega) (by rw [(pos0 t).2])
    (((cfg0.win 0).blk t).view.emb (ix2 r k)) rfl rfl).trans ?_)
  rw [(pos0 t).1, (pos0 t).2, place_all]
theorem iblk1 (t : Fin cfg0.N) (l : Fin 1024) (k : Fin 1024) : iblk m c 1 t (ix2 l k) = (V m c main_v1 : Vec Ideal S4096x1024 .bf16) (ix2 (colm (t.val % 4) l) k) := by
  have h8 := lt8 t
  refine congrArg (V m c main_v1 : Vec Ideal S4096x1024 .bf16) ((emb l k (by decide) (by decide) (by rw [(pos1 t).1]; omega) (by rw [(pos1 t).2])
    (((cfg0.win 1).blk t).view.emb (ix2 l k)) rfl rfl).trans ?_)
  rw [(pos1 t).1, (pos1 t).2, place_all]
theorem emb_out (t : Fin cfg0.N) (r : Fin 2048) (l : Fin 1024) : ((cfg0.win 2).blk t).view.emb (ix2 r l) = (ix2 (row (t.val / 4) r) (colm (t.val % 4) l) : S4096x4096.Idx) := by
  have h8 := lt8 t
  refine (emb r l (by decide) (by decide) (by rw [(pos2 t).1]; omega) (by rw [(pos2 t).2]; omega) (((cfg0.win 2).blk t).view.emb (ix2 r l)) rfl rfl).trans ?_
  rw [(pos2 t).1, (pos2 t).2]

/-- Every element of the result lies in a tile that is written back. -/
theorem cover : ∀ i : S4096x4096.Idx, ∃ t : Fin cfg0.N, (cfg0.win 2).flush t = true ∧ i ∈ ((cfg0.win 2).blk t).view.set := by
  intro i
  idx_vars i
  obtain ⟨j, hj, k, hk⟩ := split (B := 2048) (by decide) (by decide) 2 (by decide) i0
  obtain ⟨j', hj', k', hk'⟩ := split (B := 1024) (by decide) (by decide) 4 (by decide) i1
  have hn : j * 4 + j' < cfg0.N := lt_of_lt_of_eq (by omega : _ < 8) (show 8 = cfg0.N from N_0.symm)
  have e := emb_out ⟨j * 4 + j', hn⟩ k k'
  rw [show (⟨j * 4 + j', hn⟩ : Fin cfg0.N).val / 4 = j by dsimp only; omega, show (⟨j * 4 + j', hn⟩ : Fin cfg0.N).val % 4 = j' by dsimp only; omega,
    show row j k = i0 from hk, show colm j' k' = i1 from hk'] at e
  exact ⟨⟨j * 4 + j', hn⟩, flush0_2 _, e ▸ ((cfg0.win 2).blk ⟨j * 4 + j', hn⟩).view.emb_mem_set _⟩

theorem V_0 (i : S4096x1024.Idx) : (V m c main_v0 : Vec Ideal S4096x1024 .bf16) i = (m ((c : Thread nD τ).loc main_arg0) : Vec Ideal S4096x1024 .f32) i := by
  show (StableHlo.after hostOps0 (fun b => m (c, b)) (Proc.devRef .tc main_v0) : Vec Ideal S4096x1024 .bf16) i = _
  after_results_simp
  rfl
theorem V_1 (i : S4096x1024.Idx) : (V m c main_v1 : Vec Ideal S4096x1024 .bf16) i = (m ((c : Thread nD τ).loc main_arg1) : Vec Ideal S4096x1024 .f32) i := by
  show (StableHlo.after hostOps0 (fun b => m (c, b)) (Proc.devRef .tc main_v1) : Vec Ideal S4096x1024 .bf16) i = _
  after_results_simp
  rfl

/-- The whole result. -/
theorem final : (dats m 0 c).arrAt 2 cfg0.N
    = Cert.HidRefIdeal.Tie.prod (m ((c : Thread nD τ).loc main_arg0)) (m ((c : Thread nD τ).loc main_arg1)) := by
  refine (dats m 0 c).arrAt_eq_of_cover 2 (Cert.HidRefIdeal.Tie.prod (m ((c : Thread nD τ).loc main_arg0)) (m ((c : Thread nD τ).loc main_arg1))) ?_ cover
  intro t _
  funext y
  idx_vars y
  show (dats m 0 c).after 2 t (ix2 y0 y1) = Cert.HidRefIdeal.Tie.prod _ _ (((cfg0.win 2).blk t).view.emb (ix2 y0 y1))
  rw [emb_out, after0_2]
  refine (tile _ _ y0 y1).trans ?_
  simp only [iblk0, iblk1, V_0, V_1]
  rfl

end Cert.HidIdeal.Hand

namespace Cert.Hid.Tie
open Idealize.ShloMosaic Idealize.ShloMosaic.TcCoe Idealize.ShloMosaic.Tactic Idealize.SL.Sem

/-- The product the program leaves is the reference's. -/
theorem algebraic : algebraic_HidIdeal_HidRefIdeal := by
  intro m ρ m' ρ' _ hagree
  refine ⟨fun c => (Cert.HidIdeal.Gen.dats m 0 c).arrAt 2 Cert.HidIdeal.cfg0.N, Cert.HidIdeal.Value.run_blocks m ρ, ?_⟩
  refine (θ_run Cert.HidRefIdeal.defs _ _).mono (fun r h c => ?_) (Cert.HidRefIdeal.Value.run (F := Ideal) m' ρ')
  obtain ⟨e0, hargs⟩ := h c
  obtain ⟨a0, a1⟩ := hagree c
  refine ⟨e0.trans ?_, hargs⟩
  rw [Cert.HidRefIdeal.Read.val_main_v1_eq, a0, a1, Cert.HidRefIdeal.Tie.r1]
  exact (Cert.HidIdeal.Hand.final m c).symm

end Cert.Hid.Tie
-- ==== Proof.DownTie.lean ====
module

public import proofs.«01_k».proof.Defs
public import proofs.«01_k».proof.Proof.Tiles
public import proofs.«01_k».proof.Proof.Gen.DownIdeal.Value
public import proofs.«01_k».proof.Proof.Gen.DownRefIdeal.Run
public import proofs.«01_k».proof.Proof.Gen.DownRefIdeal.Read
public import Idealize.ShloMosaic.Lib.Pipeline.ValueKit.Basic

/-! The down weight's gradient: the hidden rows transposed times the output's gradient. -/

@[expose] public section
set_option maxRecDepth 16384
noncomputable section
namespace Cert.DownRefIdeal.Tie
open Cert.DownRefIdeal Cert.DownRefIdeal.Read
open Idealize.ShloMosaic Idealize.ShloMosaic.TcCoe Idealize.ShloMosaic.Tactic

variable (x0 : Vec Ideal S4096x4096 .f32) (x1 : Vec Ideal S4096x1024 .f32)

/-- Each column of the one against each column of the other. -/
def prod : Vec Ideal S4096x1024 .f32 := fun i => ∑ k : Fin 4096, x0 (ix2 k (i 0)) * x1 (ix2 k (i 1))

/-- The reference's result is that product. -/
theorem r1 : val_main_v1 (F := Ideal) x0 x1 = prod x0 x1 := by
  funext i
  idx_vars i
  show _ = ∑ k : Fin 4096, x0 (ix2 k i0) * x1 (ix2 k i1)
  unfold val_main_v1 val_main_v0
  pointwise

end Cert.DownRefIdeal.Tie

namespace Cert.DownIdeal.Hand
open Cert.DownIdeal Cert.DownIdeal.Gen Cert.DownIdeal.Value Cert.Tiles
open Idealize.ShloMosaic Idealize.ShloMosaic.TcCoe Idealize.ShloMosaic.Tactic
open Idealize.ShloMosaic.Pipeline (Dat)

variable (m : (ℓ : Loc nD τ sig) → Buf (Elt Ideal) ℓ) (c : Dev nD)

/-- A tile of the product, element by element. -/
theorem tile (a : Vec Ideal S4096x1024 .bf16) (b : Vec Ideal S4096x512 .bf16) (r : Fin 1024) (l : Fin 512) :
    out0_2 (F := Ideal) a b (ix2 r l) = ∑ k : Fin 4096, a (ix2 k r) * b (ix2 k l) := by
  unfold out0_2
  rw [View.canon_cons_unit_lit _ _ _ (by decide), View.ld_unit_lit _ a (by decide), View.ld_unit_lit _ b (by decide)]
  unfold k0_pay1
  pointwise

theorem lt8 (t : Fin cfg0.N) : t.val < 8 := lt_of_lt_of_eq t.isLt (show cfg0.N = 8 from N_0)
theorem pos0 (t : Fin cfg0.N) : win0_0.index t (0 : Fin 2) = 0 ∧ win0_0.index t (1 : Fin 2) = t.val / 2 :=
  (by decide +kernel : ∀ t : Fin grid0.N, win0_0.index t (0 : Fin 2) = 0 ∧ win0_0.index t (1 : Fin 2) = t.val / 2) t
theorem pos1 (t : Fin cfg0.N) : win0_1.index t (0 : Fin 2) = 0 ∧ win0_1.index t (1 : Fin 2) = t.val % 2 :=
  (by decide +kernel : ∀ t : Fin grid0.N, win0_1.index t (0 : Fin 2) = 0 ∧ win0_1.index t (1 : Fin 2) = t.val % 2) t
theorem pos2 (t : Fin cfg0.N) : win0_2.index t (0 : Fin 2) = t.val / 2 ∧ win0_2.index t (1 : Fin 2) = t.val % 2 :=
  (by decide +kernel : ∀ t : Fin grid0.N, win0_2.index t (0 : Fin 2) = t.val / 2 ∧ win0_2.index t (1 : Fin 2) = t.val % 2) t

/-- A row and a column of the result, by its tile and its place there. -/
abbrev row (b : ℕ) (r : Fin 1024) : Fin 4096 := place 1024 4096 (by decide) b r
abbrev colm (b : ℕ) (l : Fin 512) : Fin 1024 := place 512 1024 (by decide) b l

theorem iblk0 (t : Fin cfg0.N) (k : Fin 4096) (r : Fin 1024) : iblk m c 0 t (ix2 k r) = (V m c main_v0 : Vec Ideal S4096x4096 .bf16) (ix2 k (row (t.val / 2) r)) := by
  have h8 := lt8 t
  refine congrArg (V m c main_v0 : Vec Ideal S4096x4096 .bf16) ((emb k r (by decide) (by decide) (by rw [(pos0 t).1]) (by rw [(pos0 t).2]; omega)
    (((cfg0.win 0).blk t).view.emb (ix2 k r)) rfl rfl).trans ?_)
  rw [(pos0 t).1, (pos0 t).2, place_all]
theorem iblk1 (t : Fin cfg0.N) (k : Fin 4096) (l : Fin 512) : iblk m c 1 t (ix2 k l) = (V m c main_v1 : Vec Ideal S4096x1024 .bf16) (ix2 k (colm (t.val % 2) l)) := by
  have h8 := lt8 t
  refine congrArg (V m c main_v1 : Vec Ideal S4096x1024 .bf16) ((emb k l (by decide) (by decide) (by rw [(pos1 t).1]) (by rw [(pos1 t).2]; omega)
    (((cfg0.win 1).blk t).view.emb (ix2 k l)) rfl rfl).trans ?_)
  rw [(pos1 t).1, (pos1 t).2, place_all]
theorem emb_out (t : Fin cfg0.N) (r : Fin 1024) (l : Fin 512) : ((cfg0.win 2).blk t).view.emb (ix2 r l) = (ix2 (row (t.val / 2) r) (colm (t.val % 2) l) : S4096x1024.Idx) := by
  have h8 := lt8 t
  refine (emb r l (by decide) (by decide) (by rw [(pos2 t).1]; omega) (by rw [(pos2 t).2]; omega) (((cfg0.win 2).blk t).view.emb (ix2 r l)) rfl rfl).trans ?_
  rw [(pos2 t).1, (pos2 t).2]

/-- Every element of the result lies in a tile that is written back. -/
theorem cover : ∀ i : S4096x1024.Idx, ∃ t : Fin cfg0.N, (cfg0.win 2).flush t = true ∧ i ∈ ((cfg0.win 2).blk t).view.set := by
  intro i
  idx_vars i
  obtain ⟨j, hj, k, hk⟩ := split (B := 1024) (by decide) (by decide) 4 (by decide) i0
  obtain ⟨j', hj', k', hk'⟩ := split (B := 512) (by decide) (by decide) 2 (by decide) i1
  have hn : j * 2 + j' < cfg0.N := lt_of_lt_of_eq (by omega : _ < 8) (show 8 = cfg0.N from N_0.symm)
  have e := emb_out ⟨j * 2 + j', hn⟩ k k'
  rw [show (⟨j * 2 + j', hn⟩ : Fin cfg0.N).val / 2 = j by dsimp only; omega, show (⟨j * 2 + j', hn⟩ : Fin cfg0.N).val % 2 = j' by dsimp only; omega,
    show row j k = i0 from hk, show colm j' k' = i1 from hk'] at e
  exact ⟨⟨j * 2 + j', hn⟩, flush0_2 _, e ▸ ((cfg0.win 2).blk ⟨j * 2 + j', hn⟩).view.emb_mem_set _⟩

theorem V_0 (i : S4096x4096.Idx) : (V m c main_v0 : Vec Ideal S4096x4096 .bf16) i = (m ((c : Thread nD τ).loc main_arg0) : Vec Ideal S4096x4096 .f32) i := by
  show (StableHlo.after hostOps0 (fun b => m (c, b)) (Proc.devRef .tc main_v0) : Vec Ideal S4096x4096 .bf16) i = _
  after_results_simp
  rfl
theorem V_1 (i : S4096x1024.Idx) : (V m c main_v1 : Vec Ideal S4096x1024 .bf16) i = (m ((c : Thread nD τ).loc main_arg1) : Vec Ideal S4096x1024 .f32) i := by
  show (StableHlo.after hostOps0 (fun b => m (c, b)) (Proc.devRef .tc main_v1) : Vec Ideal S4096x1024 .bf16) i = _
  after_results_simp
  rfl

/-- The whole result. -/
theorem final : (dats m 0 c).arrAt 2 cfg0.N
    = Cert.DownRefIdeal.Tie.prod (m ((c : Thread nD τ).loc main_arg0)) (m ((c : Thread nD τ).loc main_arg1)) := by
  refine (dats m 0 c).arrAt_eq_of_cover 2 (Cert.DownRefIdeal.Tie.prod (m ((c : Thread nD τ).loc main_arg0)) (m ((c : Thread nD τ).loc main_arg1))) ?_ cover
  intro t _
  funext y
  idx_vars y
  show (dats m 0 c).after 2 t (ix2 y0 y1) = Cert.DownRefIdeal.Tie.prod _ _ (((cfg0.win 2).blk t).view.emb (ix2 y0 y1))
  rw [emb_out, after0_2]
  refine (tile _ _ y0 y1).trans ?_
  simp only [iblk0, iblk1, V_0, V_1]
  rfl

end Cert.DownIdeal.Hand

namespace Cert.Down.Tie
open Idealize.ShloMosaic Idealize.ShloMosaic.TcCoe Idealize.ShloMosaic.Tactic Idealize.SL.Sem

/-- The product the program leaves is the reference's. -/
theorem algebraic : algebraic_DownIdeal_DownRefIdeal := by
  intro m ρ m' ρ' _ hagree
  refine ⟨fun c => (Cert.DownIdeal.Gen.dats m 0 c).arrAt 2 Cert.DownIdeal.cfg0.N, Cert.DownIdeal.Value.run_blocks m ρ, ?_⟩
  refine (θ_run Cert.DownRefIdeal.defs _ _).mono (fun r h c => ?_) (Cert.DownRefIdeal.Value.run (F := Ideal) m' ρ')
  obtain ⟨e0, hargs⟩ := h c
  obtain ⟨a0, a1⟩ := hagree c
  refine ⟨e0.trans ?_, hargs⟩
  rw [Cert.DownRefIdeal.Read.val_main_v1_eq, a0, a1, Cert.DownRefIdeal.Tie.r1]
  exact (Cert.DownIdeal.Hand.final m c).symm

end Cert.Down.Tie
-- ==== Proof.AdamTie.lean ====
module

public import proofs.«01_k».proof.Defs
public import proofs.«01_k».proof.Proof.Gen.AdamIdeal.Value
public import proofs.«01_k».proof.Proof.Gen.AdamRefIdeal.Run
public import proofs.«01_k».proof.Proof.Gen.AdamRefIdeal.Read
public import Idealize.ShloMosaic.Lib.IdealHost
public import Idealize.ShloMosaic.Lib.Pointwise

/-! The small weights' updates and new moments are the reference's, whatever the arguments. -/

@[expose] public section
set_option maxRecDepth 16384
noncomputable section
namespace Cert.Adam.Tie
open Idealize.ShloMosaic Idealize.ShloMosaic.TcCoe Idealize.ShloMosaic.Tactic Idealize.SL.Sem
open Cert.AdamRefIdeal.Read

variable (x0 x1 x2 x3 : Vec Ideal Cert.AdamRefIdeal.S312x128 .f32)

/-- The new first moment. -/
theorem first : val_main_v4 (F := Ideal) x1 x2 = Cert.AdamIdeal.Value.G5 x1 x2 := by
  funext i
  idx_vars i
  unfold val_main_v4 val_main_v3 val_main_v2 val_main_v1 val_main_v0 val_main_cst val_main_cst_0
  pointwise

/-- The new second moment. -/
theorem second : val_main_v10 (F := Ideal) x1 x3 = Cert.AdamIdeal.Value.G6 x1 x3 := by
  funext i
  idx_vars i
  unfold val_main_v10 val_main_v9 val_main_v8 val_main_v7 val_main_v6 val_main_v5 val_main_cst_1 val_main_cst_2
  pointwise

/-- The update, from the two new moments. -/
theorem update : val_main_v23 (F := Ideal) x0 x1 x2 x3 = Cert.AdamIdeal.Value.G4 x0 x1 x2 x3 := by
  funext i
  idx_vars i
  have h1 := congrFun (first x1 x2) (ix2 i0 i1)
  have h2 := congrFun (second x1 x3) (ix2 i0 i1)
  unfold val_main_v23 val_main_v22 val_main_v21 val_main_v20 val_main_v19 val_main_v18 val_main_v17 val_main_v16 val_main_v15 val_main_v14
    val_main_v13 val_main_v12 val_main_v11 val_main_cst_3 val_main_cst_4 val_main_cst_5 val_main_cst_6 val_main_cst_7
  generalize val_main_v4 (F := Ideal) x1 x2 = p at h1 ⊢
  generalize val_main_v10 (F := Ideal) x1 x3 = q at h2 ⊢
  change Vec Ideal Cert.AdamRefIdeal.S312x128 .f32 at p
  change Vec Ideal Cert.AdamRefIdeal.S312x128 .f32 at q
  pointwise
  simp only [h1, h2]
  rfl

/-- The three arrays the program leaves are the reference's. -/
theorem algebraic : algebraic_AdamIdeal_AdamRefIdeal := by
  intro m ρ m' ρ' _ hagree
  refine ⟨_, _, _, Cert.AdamIdeal.Value.run (F := Ideal) m ρ, ?_⟩
  refine (θ_run Cert.AdamRefIdeal.defs _ _).mono (fun r h c => ?_) (Cert.AdamRefIdeal.Value.run (F := Ideal) m' ρ')
  obtain ⟨e0, e1, e2, hargs⟩ := h c
  obtain ⟨a0, a1, a2, a3⟩ := hagree c
  refine ⟨e0.trans ?_, e1.trans ?_, e2.trans ?_, hargs⟩
  · rw [val_main_v23_eq, a0, a1, a2, a3, update]
  · rw [val_main_v4_eq, a1, a2, first]
  · rw [val_main_v10_eq, a1, a3, second]

end Cert.Adam.Tie
-- ==== Proof.Planes.lean ====
module

public import proofs.«01_k».proof.Proof.Tiles

/-! Where the elements of a tile lie in an array of planes. -/

@[expose] public section
noncomputable section
namespace Cert.Tiles
open Idealize.ShloMosaic Idealize.ShloMosaic.Tactic

/-- An element of a tile, in an array with three axes. -/
theorem emb3 {P n N A B C p a d : ℕ} (q : Fin A) (r : Fin B) (l : Fin C) (hP : 0 < P) (hn : 0 < n) (hN : 0 < N)
    (hp : (p + 1) * A ≤ P) (ha : (a + 1) * B ≤ n) (hd : (d + 1) * C ≤ N) (i : Shape.Idx ⟨3, ![P, n, N]⟩)
    (h0 : (i 0).val = p * A + 1 * q.val) (h1 : (i 1).val = a * B + 1 * r.val) (h2 : (i 2).val = d * C + 1 * l.val) :
    i = ix3 (place A P hP p q) (place B n hn a r) (place C N hN d l) := by
  funext x; apply Fin.ext
  match x with
  | ⟨0, _⟩ => exact h0.trans ((by omega : _ = p * A + q.val).trans (place_val hP q hp).symm)
  | ⟨1, _⟩ => exact h1.trans ((by omega : _ = a * B + r.val).trans (place_val hn r ha).symm)
  | ⟨2, _⟩ => exact h2.trans ((by omega : _ = d * C + l.val).trans (place_val hN l hd).symm)

end Cert.Tiles
-- ==== Proof.UpTie.lean ====
module

public import proofs.«01_k».proof.Defs
public import proofs.«01_k».proof.Proof.Planes
public import proofs.«01_k».proof.Proof.Gen.UpIdeal.Value
public import proofs.«01_k».proof.Proof.Gen.UpRefIdeal.Run
public import proofs.«01_k».proof.Proof.Gen.UpRefIdeal.Read
public import Idealize.ShloMosaic.Lib.Pipeline.ValueKit.Basic

/-! The hidden rows: the normed rows times the up weight, gate and value halves as two planes. -/

@[expose] public section
set_option maxRecDepth 16384
noncomputable section
namespace Cert.UpRefIdeal.Tie
open Cert.UpRefIdeal Cert.UpRefIdeal.Read
open Idealize.ShloMosaic Idealize.ShloMosaic.TcCoe Idealize.ShloMosaic.Tactic

variable (x0 : Vec Ideal S4096x1024 .f32) (x1 : Vec Ideal S1024x8192 .f32)

/-- The weight's column that a plane's column is made from. -/
def wide (p : Fin 2) (l : Fin 4096) : Fin 8192 := ⟨p.val * 4096 + l.val, by have := p.isLt; have := l.isLt; omega⟩

/-- Each row times each column, the columns' halves as planes. -/
def prod : Vec Ideal S2x4096x4096 .f32 := fun i => ∑ k : Fin 1024, x0 (ix2 (i 1) k) * x1 (ix2 k (wide (i 0) (i 2)))

/-- The reference's result is that product. -/
theorem r2 : val_main_v2 (F := Ideal) x0 x1 = prod x0 x1 := by
  funext i
  idx_vars i
  show _ = ∑ k : Fin 1024, x0 (ix2 i1 k) * x1 (ix2 k (wide i0 i2))
  have h : ∀ (R : Fin 4096) (C : Fin 8192), val_main_v0 (F := Ideal) x0 x1 (ix2 R C) = ∑ k : Fin 1024, x0 (ix2 R k) * x1 (ix2 k C) := by
    intro R C
    unfold val_main_v0
    pointwise
  unfold val_main_v2 val_main_v1
  generalize val_main_v0 (F := Ideal) x0 x1 = y at h ⊢
  change Vec Ideal S4096x8192 .f32 at y
  pointwise
  exact h i1 (wide i0 i2)

end Cert.UpRefIdeal.Tie

namespace Cert.UpIdeal.Hand
open Cert.UpIdeal Cert.UpIdeal.Gen Cert.UpIdeal.Value Cert.Tiles
open Idealize.ShloMosaic Idealize.ShloMosaic.TcCoe Idealize.ShloMosaic.Tactic
open Idealize.ShloMosaic.Pipeline (Dat)

variable (m : (ℓ : Loc nD τ sig) → Buf (Elt Ideal) ℓ) (c : Dev nD)

/-- A tile of the product, element by element. -/
theorem tile (a : Vec Ideal S2048x1024 .bf16) (b : Vec Ideal S1x1024x1024 .bf16) (s : Fin 1) (r : Fin 2048) (l : Fin 1024) :
    out0_2 (F := Ideal) a b (ix3 s r l) = ∑ k : Fin 1024, a (ix2 r k) * b (ix3 0 k l) := by
  unfold out0_2
  rw [View.canon_cons_unit_lit _ _ _ (by decide), View.ld_unit_lit _ a (by decide), View.ld_unit_lit _ b (by decide)]
  unfold k0_pay1
  pointwise

theorem lt16 (t : Fin cfg0.N) : t.val < 16 := lt_of_lt_of_eq t.isLt (show cfg0.N = 16 from N_0)
theorem pos0 (t : Fin cfg0.N) : win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0) t
theorem pos1 (t : Fin cfg0.N) : win0_1.index t (0 : Fin 3) = t.val % 8 / 2 ∧ win0_1.index t (1 : Fin 3) = 0 ∧ win0_1.index t (2 : Fin 3) = t.val % 2 :=
  (by decide +kernel : ∀ t : Fin grid0.N, win0_1.index t (0 : Fin 3) = t.val % 8 / 2 ∧ win0_1.index t (1 : Fin 3) = 0 ∧ win0_1.index t (2 : Fin 3) = t.val % 2) t
theorem pos2 (t : Fin cfg0.N) : win0_2.index t (0 : Fin 3) = t.val % 8 / 4 ∧ win0_2.index t (1 : Fin 3) = t.val / 8 ∧ win0_2.index t (2 : Fin 3) = t.val % 4 :=
  (by decide +kernel : ∀ t : Fin grid0.N, win0_2.index t (0 : Fin 3) = t.val % 8 / 4 ∧ win0_2.index t (1 : Fin 3) = t.val / 8 ∧ win0_2.index t (2 : Fin 3) = t.val % 4) t

/-- A row of the result, by its tile and its place there. -/
abbrev row (b : ℕ) (r : Fin 2048) : Fin 4096 := place 2048 4096 (by decide) b r
/-- A column of a plane of the result. -/
abbrev colm (b : ℕ) (l : Fin 1024) : Fin 4096 := place 1024 4096 (by decide) b l
/-- A column of a quarter of the weight. -/
abbrev qcol (b : ℕ) (l : Fin 1024) : Fin 2048 := place 1024 2048 (by decide) b l

theorem iblk0 (t : Fin cfg0.N) (r : Fin 2048) (k : Fin 1024) : iblk m c 0 t (ix2 r k) = (V m c main_v2 : Vec Ideal S4096x1024 .bf16) (ix2 (row (t.val / 8) r) k) := by
  have h16 := lt16 t
  refine congrArg (V m c main_v2 : Vec Ideal S4096x1024 .bf16) ((emb r k (by decide) (by decide) (by rw [(pos0 t).1]; omega) (by rw [(pos0 t).2])
    (((cfg0.win 0).blk t).view.emb (ix2 r k)) rfl rfl).trans ?_)
  rw [(pos0 t).1, (pos0 t).2, place_all]
theorem iblk1 (t : Fin cfg0.N) (s : Fin 1) (k : Fin 1024) (l : Fin 1024) : iblk m c 1 t (ix3 s k l)
    = (V m c main_v3 : Vec Ideal S4x1024x2048 .bf16) (ix3 (place 1 4 (by decide) (t.val % 8 / 2) s) k (qcol (t.val % 2) l)) := by
  have h16 := lt16 t
  refine congrArg (V m c main_v3 : Vec Ideal S4x1024x2048 .bf16) ((emb3 s k l (by decide) (by decide) (by decide)
    (by rw [(pos1 t).1]; omega) (by rw [(pos1 t).2.1]) (by rw [(pos1 t).2.2]; omega) (((cfg0.win 1).blk t).view.emb (ix3 s k l)) rfl rfl rfl).trans ?_)
  rw [(pos1 t).1, (pos1 t).2.1, (pos1 t).2.2, place_all]
theorem emb_out (t : Fin cfg0.N) (s : Fin 1) (r : Fin 2048) (l : Fin 1024) : ((cfg0.win 2).blk t).view.emb (ix3 s r l)
    = (ix3 (place 1 2 (by decide) (t.val % 8 / 4) s) (row (t.val / 8) r) (colm (t.val % 4) l) : S2x4096x4096.Idx) := by
  have h16 := lt16 t
  refine (emb3 s r l (by decide) (by decide) (by decide) (by rw [(pos2 t).1]; omega) (by rw [(pos2 t).2.1]; omega) (by rw [(pos2 t).2.2]; omega)
    (((cfg0.win 2).blk t).view.emb (ix3 s r l)) rfl rfl rfl).trans ?_
  rw [(pos2 t).1, (pos2 t).2.1, (pos2 t).2.2]

/-- Every element of the result lies in a tile that is written back. -/
theorem cover : ∀ i : S2x4096x4096.Idx, ∃ t : Fin cfg0.N, (cfg0.win 2).flush t = true ∧ i ∈ ((cfg0.win 2).blk t).view.set := by
  intro i
  idx_vars i
  obtain ⟨p, hp, s, hs⟩ := split (B := 1) (by decide) (by decide) 2 (by decide) i0
  obtain ⟨j, hj, k, hk⟩ := split (B := 2048) (by decide) (by decide) 2 (by decide) i1
  obtain ⟨j', hj', k', hk'⟩ := split (B := 1024) (by decide) (by decide) 4 (by decide) i2
  have hn : j * 8 + p * 4 + j' < cfg0.N := lt_of_lt_of_eq (by omega : _ < 16) (show 16 = cfg0.N from N_0.symm)
  have e := emb_out ⟨j * 8 + p * 4 + j', hn⟩ s k k'
  rw [show (⟨j * 8 + p * 4 + j', hn⟩ : Fin cfg0.N).val % 8 / 4 = p by dsimp only; omega,
    show (⟨j * 8 + p * 4 + j', hn⟩ : Fin cfg0.N).val / 8 = j by dsimp only; omega,
    show (⟨j * 8 + p * 4 + j', hn⟩ : Fin cfg0.N).val % 4 = j' by dsimp only; omega, hs,
    show row j k = i1 from hk, show colm j' k' = i2 from hk'] at e
  exact ⟨⟨j * 8 + p * 4 + j', hn⟩, flush0_2 _, e ▸ ((cfg0.win 2).blk ⟨j * 8 + p * 4 + j', hn⟩).view.emb_mem_set _⟩

theorem V_0 (i : S4096x1024.Idx) : (V m c main_v2 : Vec Ideal S4096x1024 .bf16) i = (m ((c : Thread nD τ).loc main_arg0) : Vec Ideal S4096x1024 .f32) i := by
  show (StableHlo.after hostOps0 (fun b => m (c, b)) (Proc.devRef .tc main_v2) : Vec Ideal S4096x1024 .bf16) i = _
  after_results_simp
  rfl

/-- The weight's quarter, element by element. -/
theorem quarter (w : Vec Ideal S1024x8192 .f32) (s : Fin 4) (k : Fin 1024) (e : Fin 2048) (h1 h2) :
    transpose S4x1024x2048 [1, 0, 2] (shapeCast S1024x4x2048 w h1) h2 (ix3 s k e)
      = w (ix2 k ⟨s.val * 2048 + e.val, by have := s.isLt; have := e.isLt; omega⟩) := by
  pointwise

theorem V_1 (s : Fin 4) (k : Fin 1024) (e : Fin 2048) : (V m c main_v3 : Vec Ideal S4x1024x2048 .bf16) (ix3 s k e)
    = (m ((c : Thread nD τ).loc main_arg1) : Vec Ideal S1024x8192 .f32) (ix2 k ⟨s.val * 2048 + e.val, by have := s.isLt; have := e.isLt; omega⟩) := by
  show (StableHlo.after hostOps0 (fun b => m (c, b)) (Proc.devRef .tc main_v3) : Vec Ideal S4x1024x2048 .bf16) (ix3 s k e) = _
  after_results_simp
  exact quarter _ s k e _ _

/-- The column of the weight a tile's column comes from. -/
theorem colm_eq (t : Fin cfg0.N) (s s' : Fin 1) (l : Fin 1024) (h) :
    (⟨(place 1 4 (by decide) (t.val % 8 / 2) s).val * 2048 + (qcol (t.val % 2) l).val, h⟩ : Fin 8192)
      = Cert.UpRefIdeal.Tie.wide (place 1 2 (by decide) (t.val % 8 / 4) s') (colm (t.val % 4) l) := by
  apply Fin.ext
  have h16 := lt16 t
  have := l.isLt
  show (place 1 4 (by decide) (t.val % 8 / 2) s).val * 2048 + (qcol (t.val % 2) l).val = (place 1 2 (by decide) (t.val % 8 / 4) s').val * 4096 + (colm (t.val % 4) l).val
  rw [place_val _ s (by omega), place_val _ l (by omega), place_val _ s' (by omega), place_val _ l (by omega)]
  omega

/-- The whole result. -/
theorem final : (dats m 0 c).arrAt 2 cfg0.N
    = Cert.UpRefIdeal.Tie.prod (m ((c : Thread nD τ).loc main_arg0)) (m ((c : Thread nD τ).loc main_arg1)) := by
  refine (dats m 0 c).arrAt_eq_of_cover 2 (Cert.UpRefIdeal.Tie.prod (m ((c : Thread nD τ).loc main_arg0)) (m ((c : Thread nD τ).loc main_arg1))) ?_ cover
  intro t _
  funext y
  idx_vars y
  show (dats m 0 c).after 2 t (ix3 y0 y1 y2) = Cert.UpRefIdeal.Tie.prod _ _ (((cfg0.win 2).blk t).view.emb (ix3 y0 y1 y2))
  rw [emb_out, after0_2]
  refine (tile _ _ y0 y1 y2).trans ?_
  simp only [iblk0, iblk1]
  refine Finset.sum_congr rfl fun k _ => ?_
  exact congrArg₂ (· * ·) (V_0 m c _) ((V_1 m c _ k _).trans (congrArg (fun e => (m ((c : Thread nD τ).loc main_arg1) : Vec Ideal S1024x8192 .f32) (ix2 k e)) (colm_eq t 0 y0 y2 _)))

end Cert.UpIdeal.Hand

namespace Cert.Up.Tie
open Idealize.ShloMosaic Idealize.ShloMosaic.TcCoe Idealize.ShloMosaic.Tactic Idealize.SL.Sem

/-- The product the program leaves is the reference's. -/
theorem algebraic : algebraic_UpIdeal_UpRefIdeal := by
  intro m ρ m' ρ' _ hagree
  refine ⟨fun c => (Cert.UpIdeal.Gen.dats m 0 c).arrAt 2 Cert.UpIdeal.cfg0.N, Cert.UpIdeal.Value.run_blocks m ρ, ?_⟩
  refine (θ_run Cert.UpRefIdeal.defs _ _).mono (fun r h c => ?_) (Cert.UpRefIdeal.Value.run (F := Ideal) m' ρ')
  obtain ⟨e0, hargs⟩ := h c
  obtain ⟨a0, a1⟩ := hagree c
  refine ⟨e0.trans ?_, hargs⟩
  rw [Cert.UpRefIdeal.Read.val_main_v2_eq, a0, a1, Cert.UpRefIdeal.Tie.r2]
  exact (Cert.UpIdeal.Hand.final m c).symm

end Cert.Up.Tie
-- ==== Proof.ActBlock.lean ====
module

public import proofs.«01_k».proof.Defs
public import proofs.«01_k».proof.Proof.Planes
public import proofs.«01_k».proof.Proof.Gen.ActIdeal.Value
public import Idealize.ShloMosaic.Lib.Pipeline.ValueKit.Basic
public import Idealize.ShloMosaic.Lib.KernelVsHost

/-! A block of gated rows, element by element. -/

@[expose] public section
set_option maxRecDepth 16384
noncomputable section
namespace Cert.ActIdeal.Hand
open Cert.ActIdeal Cert.ActIdeal.Gen Cert.Tiles
open Idealize.ShloMosaic Idealize.ShloMosaic.TcCoe Idealize.ShloMosaic.Tactic

/-- The rows with those before them, turned by `s` and cut: the row `s` before. -/
theorem turned (v : Vec Ideal S520x1024 .f32) (sb : BitVec 32) (s : ℕ) (hs : sb.toNat = s) (h8 : s ≤ 8) (r : Fin 512) (l : Fin 1024) (h1 h2) :
    extractStridedSlice S512x1024 ![8, 0] (dynamicRotate 0 sb none v h1) h2 (ix2 r l) = v (ix2 ⟨8 + r.val - s, by have := r.isLt; omega⟩ l) := by
  pointwise
  refine congrArg (fun z => v (ix2 z l)) (Fin.ext ?_)
  have hr := r.isLt
  show (8 + r.val + 520 - sb.toNat % 520) % 520 = 8 + r.val - s
  rw [hs, Nat.mod_eq_of_lt (by omega : s < 520)]
  omega

/-- A row of the convolution's output, from the rows with those before them and the weights. -/
def conv (v : Vec Ideal S520x1024 .f32) (w : Vec Ideal S1x8x1024 .f32) (r : Fin 512) (l : Fin 1024) : EReal :=
  w (ix3 0 2 l) * v (ix2 ⟨8 + r.val, by have := r.isLt; omega⟩ l) + w (ix3 0 1 l) * v (ix2 ⟨8 + r.val - 1, by have := r.isLt; omega⟩ l)
    + w (ix3 0 0 l) * v (ix2 ⟨8 + r.val - 2, by have := r.isLt; omega⟩ l) + w (ix3 0 3 l)

/-- The gate half of a block, convolved. -/
theorem gate (i : grid0.Coords) (b : Vec Ideal S1x8x1024 .f32) (a : Vec Ideal S1x512x1024 .f32) (w : Vec Ideal S1x8x1024 .f32) (r : Fin 512) (l : Fin 1024) :
    k0_pay2 (F := Ideal) i b a w (ix2 r l) = conv (k0_pay3 (F := Ideal) i b a) w r l := by
  unfold k0_pay2 conv
  have e : k0_pay3 (F := Ideal) i b a = k0_pay3 (F := Ideal) i b a := rfl
  conv at e => lhs; unfold k0_pay3
  dsimp only at e ⊢
  rw [e]
  generalize k0_pay3 (F := Ideal) i b a = v
  change Vec Ideal S520x1024 .f32 at v
  have t1 := turned v 1#32 1 rfl (by decide) r l rotates_S520x1024_d0 slices_S520x1024_o8_0_S512x1024
  have t2 := turned v 2#32 2 rfl (by decide) r l rotates_S520x1024_d0 slices_S520x1024_o8_0_S512x1024
  generalize extractStridedSlice S512x1024 ![8, 0] (dynamicRotate 0 1#32 none v rotates_S520x1024_d0) slices_S520x1024_o8_0_S512x1024 = p1 at t1 ⊢
  generalize extractStridedSlice S512x1024 ![8, 0] (dynamicRotate 0 2#32 none v rotates_S520x1024_d0) slices_S520x1024_o8_0_S512x1024 = p2 at t2 ⊢
  change Vec Ideal S512x1024 .f32 at p1
  change Vec Ideal S512x1024 .f32 at p2
  pointwise
  simp only [t1, t2]

/-- The activation of the gate. -/
def gelu (z : EReal) : EReal :=
  z * (Ideal.ofBits .f32 1056964608#32 * (1 + Ideal.tanh (Ideal.ofBits .f32 1061962282#32 * (z + Ideal.ofBits .f32 1027024659#32 * (z * (z * z))))))

/-- A block of gated rows, from the convolved gate half and the other half's rows. -/
theorem gated (g : Vec Ideal S512x1024 .f32) (v : Vec Ideal S520x1024 .f32) (w : Vec Ideal S1x8x1024 .f32) (r : Fin 512) (l : Fin 1024) :
    k0_pay1 (F := Ideal) g v w (ix2 r l) = gelu (g (ix2 r l)) * conv v w r l := by
  unfold k0_pay1 conv gelu
  have t1 := turned v 1#32 1 rfl (by decide) r l rotates_S520x1024_d0 slices_S520x1024_o8_0_S512x1024
  have t2 := turned v 2#32 2 rfl (by decide) r l rotates_S520x1024_d0 slices_S520x1024_o8_0_S512x1024
  dsimp only
  generalize extractStridedSlice S512x1024 ![8, 0] (dynamicRotate 0 1#32 none v rotates_S520x1024_d0) slices_S520x1024_o8_0_S512x1024 = p1 at t1 ⊢
  generalize extractStridedSlice S512x1024 ![8, 0] (dynamicRotate 0 2#32 none v rotates_S520x1024_d0) slices_S520x1024_o8_0_S512x1024 = p2 at t2 ⊢
  change Vec Ideal S512x1024 .f32 at p1
  change Vec Ideal S512x1024 .f32 at p2
  pointwise
  simp only [t1, t2]

/-- The row `s` before a row of a block: in the block, or among the rows before it, or zero before the first. -/
theorem before (i : grid0.Coords) (b : Vec Ideal S1x8x1024 .f32) (a : Vec Ideal S1x512x1024 .f32) (s : ℕ) (h8 : s ≤ 8) (r : Fin 512) (l : Fin 1024) (h) :
    k0_pay3 (F := Ideal) i b a (ix2 ⟨8 + r.val - s, h⟩ l)
      = if hs : s ≤ r.val then a (ix3 0 ⟨r.val - s, by have := r.isLt; omega⟩ l)
        else if (i 1).val = 0 then 0 else b (ix3 0 ⟨8 + r.val - s, by omega⟩ l) := by
  have hi : (i 1).val < 8 := (i 1).isLt
  unfold k0_pay3
  pointwise
  by_cases hs : s ≤ r.val
  · rw [dif_neg (by omega : ¬ 8 + r.val - s < 8), dif_pos hs]
    exact congrArg (fun z => a (ix3 0 z l)) (Fin.ext (by show 8 + r.val - s - 8 = r.val - s; omega))
  · rw [dif_pos (by omega : 8 + r.val - s < 8), dif_neg hs]
    generalize b (ix3 0 ⟨8 + r.val - s, _⟩ l) = z
    generalize (i 1).val = n at hi
    interval_cases n <;> rfl

/-- A plane of a block. -/
theorem plane {n : ℕ} (x : Vec Ideal ⟨3, ![2, n, 1024]⟩ .f32) (g : Fin 2) (o : ℕ) (ho : o = g.val) (inb) (k : Fin n) (l : Fin 1024) :
    (View.ld x (Rect.unit (s := ⟨3, ![2, n, 1024]⟩) ![o, 0, 0] (⟨3, ![1, n, 1024]⟩ : Shape).size inb) : Vec Ideal ⟨3, ![1, n, 1024]⟩ .f32) (ix3 0 k l) = x (ix3 g k l) := by
  refine congrArg x (funext fun z => Fin.ext ?_)
  match z with
  | ⟨0, _⟩ => show o + 1 * 0 = g.val; omega
  | ⟨1, _⟩ => show 0 + 1 * k.val = k.val; omega
  | ⟨2, _⟩ => show 0 + 1 * l.val = l.val; omega

/-- A block the body leaves, element by element. -/
theorem block (i : grid0.Coords) (x0 : Vec Ideal S2x512x1024 .f32) (x1 : Vec Ideal S2x8x1024 .f32) (x2 : Vec Ideal S2x8x1024 .f32) (r : Fin 512) (l : Fin 1024) :
    out0_3 (F := Ideal) i x0 x1 x2 (ix2 r l)
      = gelu (conv (k0_pay3 (F := Ideal) i (View.ld x1 r0_0) (View.ld x0 r0_1)) (View.ld x2 r0_0) r l)
        * conv (k0_pay3 (F := Ideal) i (View.ld x1 r0_2) (View.ld x0 r0_3)) (View.ld x2 r0_2) r l := by
  unfold out0_3
  rw [View.canon_cons_unit_lit _ _ _ (by decide)]
  exact (gated _ _ _ r l).trans (congrArg (fun z => gelu z * _) (gate i _ _ _ r l))

end Cert.ActIdeal.Hand
-- ==== Proof.ActRef.lean ====
module

public import proofs.«01_k».proof.Defs
public import proofs.«01_k».proof.Proof.ActBlock
public import proofs.«01_k».proof.Proof.Gen.ActRefIdeal.Run
public import proofs.«01_k».proof.Proof.Gen.ActRefIdeal.Read

/-! The reference's gated rows, element by element. -/

@[expose] public section
set_option maxRecDepth 16384
noncomputable section
namespace Cert.ActRefIdeal.Tie
open Cert.ActRefIdeal Cert.ActRefIdeal.Read
open Idealize.ShloMosaic Idealize.ShloMosaic.TcCoe Idealize.ShloMosaic.Tactic

variable (x0 : Vec Ideal S4096x8192 .f32) (x1 : Vec Ideal S3x1x8192 .f32) (x2 : Vec Ideal S8192 .f32)

/-- The hidden row `s` before a row, zero before the first. -/
def past (s : ℕ) (R : Fin 4096) (D : Fin 8192) : EReal := if h : s ≤ R.val then x0 (ix2 ⟨R.val - s, by have := R.isLt; omega⟩ D) else 0

/-- The causal convolution over three rows, and its bias. -/
def conv (R : Fin 4096) (D : Fin 8192) : EReal :=
  x1 (ix3 2 0 D) * past x0 0 R D + x1 (ix3 1 0 D) * past x0 1 R D + x1 (ix3 0 0 D) * past x0 2 R D + x2 (ix1 D)

/-- The column of the gate or of the value half. -/
def wide (p : Fin 2) (l : Fin 4096) : Fin 8192 := ⟨p.val * 4096 + l.val, by have := p.isLt; have := l.isLt; omega⟩

/-- The gated rows. -/
def act : Vec Ideal S4096x4096 .bf16 := fun i =>
  Cert.ActIdeal.Hand.gelu (conv x0 x1 x2 (i 0) (wide 0 (i 1))) * conv x0 x1 x2 (i 0) (wide 1 (i 1))

/-- The rows under two rows of zeros. -/
theorem r1 (k : Fin 4098) (D : Fin 8192) : val_main_v1 (F := Ideal) x0 (ix2 k D) = if h : k.val < 2 then 0 else x0 (ix2 ⟨k.val - 2, by have := k.isLt; omega⟩ D) := by
  unfold val_main_v1 val_main_v0 val_main_cst
  pointwise

theorem r1' (s k : ℕ) (hs : k + s = 2) (R : Fin 4096) (D : Fin 8192) (h) : val_main_v1 (F := Ideal) x0 (ix2 ⟨k + R.val, h⟩ D) = past x0 s R D := by
  rw [r1]
  unfold past
  by_cases hR : s ≤ R.val
  · rw [dif_neg (by show ¬ k + R.val < 2; omega), dif_pos hR]
    exact congrArg (fun z => x0 (ix2 z D)) (Fin.ext (by show k + R.val - 2 = R.val - s; omega))
  · rw [dif_pos (by show k + R.val < 2; omega), dif_neg hR]

/-- Three products added in either order. -/
theorem turn (a b c d e f g : EReal) : a * d + b * e + c * f + g = f * c + e * b + d * a + g := by
  rw [mul_comm a d, mul_comm b e, mul_comm c f, add_comm (d * a + e * b), add_comm (d * a), ← add_assoc (f * c)]

/-- The convolution. -/
theorem r21 (R : Fin 4096) (D : Fin 8192) : val_main_v21 (F := Ideal) x0 x1 x2 (ix2 R D) = conv x0 x1 x2 R D := by
  have hR := R.isLt
  have h0 : ∀ h, val_main_v1 (F := Ideal) x0 (ix2 ⟨R.val, h⟩ D) = past x0 2 R D := fun h =>
    (congrArg (fun z => val_main_v1 (F := Ideal) x0 (ix2 z D)) (Fin.ext (Nat.zero_add R.val).symm)).trans (r1' x0 2 0 rfl R D (by omega))
  have h1 := fun h => r1' x0 1 1 rfl R D h
  have h2 := fun h => r1' x0 0 2 rfl R D h
  unfold val_main_v21 val_main_v20 val_main_v19 val_main_v18 val_main_v17 val_main_v16 val_main_v15 val_main_v14 val_main_v13 val_main_v12
    val_main_v11 val_main_v10 val_main_v9 val_main_v8 val_main_v7 val_main_v6 val_main_v5 val_main_v4 val_main_v3 val_main_v2 conv
  generalize val_main_v1 (F := Ideal) x0 = y at h0 h1 h2 ⊢
  change Vec Ideal S4098x8192 .f32 at y
  pointwise
  simp only [h0, h1, h2]
  exact turn _ _ _ _ _ _ _

/-- The reference's result is the gated rows. -/
theorem r38 : val_main_v38 (F := Ideal) x0 x1 x2 = act x0 x1 x2 := by
  funext i
  idx_vars i
  have h := r21 x0 x1 x2
  show _ = Cert.ActIdeal.Hand.gelu (conv x0 x1 x2 i0 (wide 0 i1)) * conv x0 x1 x2 i0 (wide 1 i1)
  rw [← h, ← h]
  unfold val_main_v38 val_main_v37 val_main_v36 val_main_v35 val_main_v34 val_main_v33 val_main_v32 val_main_v31 val_main_v30 val_main_v29
    val_main_v28 val_main_v27 val_main_v26 val_main_v25 val_main_v24 val_main_v23 val_main_v22 val_main_cst_0 val_main_cst_1 val_main_cst_2 val_main_cst_3
  generalize val_main_v21 (F := Ideal) x0 x1 x2 = y
  change Vec Ideal S4096x8192 .f32 at y
  have e0 : wide 0 i1 = ⟨i1.val, by have := i1.isLt; omega⟩ := Fin.ext (by show 0 * 4096 + i1.val = i1.val; omega)
  have e1 : wide 1 i1 = ⟨4096 + i1.val, by have := i1.isLt; omega⟩ := Fin.ext (by show 1 * 4096 + i1.val = 4096 + i1.val; omega)
  rw [e0, e1]
  unfold Cert.ActIdeal.Hand.gelu
  pointwise
  generalize y (ix2 i0 ⟨i1.val, _⟩) = z
  rw [mul_comm (z * z) z]

end Cert.ActRefIdeal.Tie
-- ==== Proof.ActTie.lean ====
module

public import proofs.«01_k».proof.Defs
public import proofs.«01_k».proof.Proof.ActRef

/-! The gated rows are the reference's, element by element, whatever the arguments. -/

@[expose] public section
set_option maxRecDepth 16384
noncomputable section
namespace Cert.ActIdeal.Hand
open Cert.ActIdeal Cert.ActIdeal.Gen Cert.ActIdeal.Value Cert.Tiles
open Idealize.ShloMosaic Idealize.ShloMosaic.TcCoe Idealize.ShloMosaic.Tactic
open Idealize.ShloMosaic.Pipeline (Dat)
open Cert.ActRefIdeal.Tie (wide past act)

variable (m : (ℓ : Loc nD τ sig) → Buf (Elt Ideal) ℓ) (c : Dev nD)

theorem lt32 (t : Fin cfg0.N) : t.val < 32 := lt_of_lt_of_eq t.isLt (show cfg0.N = 32 from N_0)
theorem coord (t : Fin cfg0.N) : (grid0.coords t 1).val = t.val % 8 :=
  (by decide +kernel : ∀ t : Fin grid0.N, (grid0.coords t 1).val = t.val % 8) t
theorem pos0 (t : Fin cfg0.N) : win0_0.index t (0 : Fin 3) = 0 ∧ win0_0.index t (1 : Fin 3) = t.val % 8 ∧ win0_0.index t (2 : Fin 3) = t.val / 8 :=
  (by decide +kernel : ∀ t : Fin grid0.N, win0_0.index t (0 : Fin 3) = 0 ∧ win0_0.index t (1 : Fin 3) = t.val % 8 ∧ win0_0.index t (2 : Fin 3) = t.val / 8) t
theorem pos1 (t : Fin cfg0.N) : win0_1.index t (0 : Fin 3) = 0 ∧ win0_1.index t (1 : Fin 3) = t.val % 8 * 64 - 1 ∧ win0_1.index t (2 : Fin 3) = t.val / 8 :=
  (by decide +kernel : ∀ t : Fin grid0.N, win0_1.index t (0 : Fin 3) = 0 ∧ win0_1.index t (1 : Fin 3) = t.val % 8 * 64 - 1 ∧ win0_1.index t (2 : Fin 3) = t.val / 8) t
theorem pos2 (t : Fin cfg0.N) : win0_2.index t (0 : Fin 3) = 0 ∧ win0_2.index t (1 : Fin 3) = 0 ∧ win0_2.index t (2 : Fin 3) = t.val / 8 :=
  (by decide +kernel : ∀ t : Fin grid0.N, win0_2.index t (0 : Fin 3) = 0 ∧ win0_2.index t (1 : Fin 3) = 0 ∧ win0_2.index t (2 : Fin 3) = t.val / 8) t
theorem pos3 (t : Fin cfg0.N) : win0_3.index t (0 : Fin 2) = t.val % 8 ∧ win0_3.index t (1 : Fin 2) = t.val / 8 :=
  (by decide +kernel : ∀ t : Fin grid0.N, win0_3.index t (0 : Fin 2) = t.val % 8 ∧ win0_3.index t (1 : Fin 2) = t.val / 8) t

/-- A row, by its block and its place there. -/
abbrev row (b : ℕ) (r : Fin 512) : Fin 4096 := place 512 4096 (by decide) b r
/-- A row, by its group of eight. -/
abbrev row8 (b : ℕ) (r : Fin 8) : Fin 4096 := place 8 4096 (by decide) b r
/-- A column. -/
abbrev colm (b : ℕ) (l : Fin 1024) : Fin 4096 := place 1024 4096 (by decide) b l

theorem iblk0 (t : Fin cfg0.N) (g : Fin 2) (r : Fin 512) (l : Fin 1024) : iblk m c 0 t (ix3 g r l)
    = (V m c main_v7 : Vec Ideal S2x4096x4096 .f32) (ix3 g (row (t.val % 8) r) (colm (t.val / 8) l)) := by
  have h32 := lt32 t
  refine congrArg (V m c main_v7 : Vec Ideal S2x4096x4096 .f32) ((emb3 g r l (by decide) (by decide) (by decide)
    (by rw [(pos0 t).1]) (by rw [(pos0 t).2.1]; omega) (by rw [(pos0 t).2.2]; omega) (((cfg0.win 0).blk t).view.emb (ix3 g r l)) rfl rfl rfl).trans ?_)
  rw [(pos0 t).1, (pos0 t).2.1, (pos0 t).2.2, place_all]
theorem iblk1 (t : Fin cfg0.N) (g : Fin 2) (r : Fin 8) (l : Fin 1024) : iblk m c 1 t (ix3 g r l)
    = (V m c main_v7 : Vec Ideal S2x4096x4096 .f32) (ix3 g (row8 (t.val % 8 * 64 - 1) r) (colm (t.val / 8) l)) := by
  have h32 := lt32 t
  refine congrArg (V m c main_v7 : Vec Ideal S2x4096x4096 .f32) ((emb3 g r l (by decide) (by decide) (by decide)
    (by rw [(pos1 t).1]) (by rw [(pos1 t).2.1]; omega) (by rw [(pos1 t).2.2]; omega) (((cfg0.win 1).blk t).view.emb (ix3 g r l)) rfl rfl rfl).trans ?_)
  rw [(pos1 t).1, (pos1 t).2.1, (pos1 t).2.2, place_all]
theorem iblk2 (t : Fin cfg0.N) (g : Fin 2) (r : Fin 8) (l : Fin 1024) : iblk m c 2 t (ix3 g r l)
    = (V m c main_v5 : Vec Ideal S2x8x4096 .f32) (ix3 g r (colm (t.val / 8) l)) := by
  have h32 := lt32 t
  refine congrArg (V m c main_v5 : Vec Ideal S2x8x4096 .f32) ((emb3 g r l (by decide) (by decide) (by decide)
    (by rw [(pos2 t).1]) (by rw [(pos2 t).2.1]) (by rw [(pos2 t).2.2]; omega) (((cfg0.win 2).blk t).view.emb (ix3 g r l)) rfl rfl rfl).trans ?_)
  rw [(pos2 t).1, (pos2 t).2.1, (pos2 t).2.2, place_all, place_all]
theorem emb_out (t : Fin cfg0.N) (r : Fin 512) (l : Fin 1024) : ((cfg0.win 3).blk t).view.emb (ix2 r l)
    = (ix2 (row (t.val % 8) r) (colm (t.val / 8) l) : S4096x4096.Idx) := by
  have h32 := lt32 t
  refine (emb r l (by decide) (by decide) (by rw [(pos3 t).1]; omega) (by rw [(pos3 t).2]; omega) (((cfg0.win 3).blk t).view.emb (ix2 r l)) rfl rfl).trans ?_
  rw [(pos3 t).1, (pos3 t).2]

/-- Every element of the result lies in a block that is written back. -/
theorem cover : ∀ i : S4096x4096.Idx, ∃ t : Fin cfg0.N, (cfg0.win 3).flush t = true ∧ i ∈ ((cfg0.win 3).blk t).view.set := by
  intro i
  idx_vars i
  obtain ⟨j, hj, k, hk⟩ := split (B := 512) (by decide) (by decide) 8 (by decide) i0
  obtain ⟨j', hj', k', hk'⟩ := split (B := 1024) (by decide) (by decide) 4 (by decide) i1
  have hn : j' * 8 + j < cfg0.N := lt_of_lt_of_eq (by omega : _ < 32) (show 32 = cfg0.N from N_0.symm)
  have e := emb_out ⟨j' * 8 + j, hn⟩ k k'
  rw [show (⟨j' * 8 + j, hn⟩ : Fin cfg0.N).val % 8 = j by dsimp only; omega, show (⟨j' * 8 + j, hn⟩ : Fin cfg0.N).val / 8 = j' by dsimp only; omega,
    show row j k = i0 from hk, show colm j' k' = i1 from hk'] at e
  exact ⟨⟨j' * 8 + j, hn⟩, flush0_3 _, e ▸ ((cfg0.win 3).blk ⟨j' * 8 + j, hn⟩).view.emb_mem_set _⟩

/-- The hidden rows as two planes, element by element. -/
theorem planes (x : Vec Ideal S4096x8192 .f32) (p : Fin 2) (R C : Fin 4096) (h1 h2) :
    transpose S2x4096x4096 [1, 0, 2] (shapeCast S4096x2x4096 x h1) h2 (ix3 p R C) = x (ix2 R (wide p C)) := by
  pointwise
  rfl
theorem V_7 (p : Fin 2) (R C : Fin 4096) : (V m c main_v7 : Vec Ideal S2x4096x4096 .f32) (ix3 p R C)
    = (m ((c : Thread nD τ).loc main_arg0) : Vec Ideal S4096x8192 .f32) (ix2 R (wide p C)) := by
  show (StableHlo.after hostOps0 (fun b => m (c, b)) (Proc.devRef .tc main_v7) : Vec Ideal S2x4096x4096 .f32) (ix3 p R C) = _
  after_results_simp
  exact planes _ p R C _ _
theorem V_5 (p : Fin 2) (k : Fin 8) (C : Fin 4096) : (V m c main_v5 : Vec Ideal S2x8x4096 .f32) (ix3 p k C)
    = (if h : k.val < 3 then ((m ((c : Thread nD τ).loc main_arg1) : Vec Ideal S3x1x8192 .f32) (ix3 ⟨k.val, h⟩ 0 (wide p C)) : EReal)
      else if h : k.val - 3 < 1 then ((m ((c : Thread nD τ).loc main_arg2) : Vec Ideal S8192 .f32) (ix1 (wide p C)) : EReal) else (0 : EReal)) := by
  show (StableHlo.after hostOps0 (fun b => m (c, b)) (Proc.devRef .tc main_v5) : Vec Ideal S2x8x4096 .f32) (ix3 p k C) = _
  after_results_simp
  pointwise
  after_results_simp
  pointwise
  rfl

section
variable (A0 : Vec Ideal S4096x8192 .f32) (A1 : Vec Ideal S3x1x8192 .f32) (A2 : Vec Ideal S8192 .f32)

/-- A row before a block's row is the hidden row before it. -/
theorem back (t : Fin cfg0.N) (p : Fin 2) (b : Vec Ideal S1x8x1024 .f32) (a : Vec Ideal S1x512x1024 .f32) (r : Fin 512) (l : Fin 1024)
    (hb : ∀ k, b (ix3 0 k l) = A0 (ix2 (row8 (t.val % 8 * 64 - 1) k) (wide p (colm (t.val / 8) l))))
    (ha : ∀ k, a (ix3 0 k l) = A0 (ix2 (row (t.val % 8) k) (wide p (colm (t.val / 8) l)))) (s : ℕ) (h8 : s ≤ 8) (h) :
    k0_pay3 (F := Ideal) (grid0.coords t) b a (ix2 ⟨8 + r.val - s, h⟩ l) = past A0 s (row (t.val % 8) r) (wide p (colm (t.val / 8) l)) := by
  have hr := r.isLt
  have eR : (row (t.val % 8) r).val = t.val % 8 * 512 + r.val := place_val _ r (by omega)
  rw [before _ _ _ s h8]
  unfold past
  by_cases hs : s ≤ r.val
  · rw [dif_pos hs, dif_pos (by omega), ha]
    refine congrArg (fun z => A0 (ix2 z _)) (Fin.ext ?_)
    refine (place_val _ _ ?_).trans ?_
    · omega
    · show t.val % 8 * 512 + (r.val - s) = (row (t.val % 8) r).val - s; omega
  · rw [dif_neg hs, coord]
    by_cases h0 : t.val % 8 = 0
    · rw [if_pos h0, dif_neg (by omega)]
    · rw [if_neg h0, dif_pos (by omega), hb]
      refine congrArg (fun z => A0 (ix2 z _)) (Fin.ext ?_)
      refine (place_val _ _ ?_).trans ?_
      · omega
      · show (t.val % 8 * 64 - 1) * 8 + (8 + r.val - s) = (row (t.val % 8) r).val - s; omega

/-- Half of a block convolved is the convolution's rows there. -/
theorem half (t : Fin cfg0.N) (p : Fin 2) (b : Vec Ideal S1x8x1024 .f32) (a : Vec Ideal S1x512x1024 .f32) (w : Vec Ideal S1x8x1024 .f32) (r : Fin 512) (l : Fin 1024)
    (hb : ∀ k, b (ix3 0 k l) = A0 (ix2 (row8 (t.val % 8 * 64 - 1) k) (wide p (colm (t.val / 8) l))))
    (ha : ∀ k, a (ix3 0 k l) = A0 (ix2 (row (t.val % 8) k) (wide p (colm (t.val / 8) l))))
    (hw : ∀ k : Fin 8, w (ix3 0 k l) = (if h : k.val < 3 then (A1 (ix3 ⟨k.val, h⟩ 0 (wide p (colm (t.val / 8) l))) : EReal)
      else if h : k.val - 3 < 1 then (A2 (ix1 (wide p (colm (t.val / 8) l))) : EReal) else (0 : EReal))) :
    conv (k0_pay3 (F := Ideal) (grid0.coords t) b a) w r l
      = Cert.ActRefIdeal.Tie.conv A0 A1 A2 (row (t.val % 8) r) (wide p (colm (t.val / 8) l)) := by
  have e := back A0 t p b a r l hb ha
  have e0 := e 0 (by decide) (by have := r.isLt; omega)
  have e1 := e 1 (by decide) (by have := r.isLt; omega)
  have e2 := e 2 (by decide) (by have := r.isLt; omega)
  unfold conv Cert.ActRefIdeal.Tie.conv
  exact congrArg₂ (· + ·) (congrArg₂ (· + ·) (congrArg₂ (· + ·) (congrArg₂ (· * ·) (hw 2) e0) (congrArg₂ (· * ·) (hw 1) e1)) (congrArg₂ (· * ·) (hw 0) e2)) (hw 3)
end

/-- The whole result. -/
theorem final : (dats m 0 c).arrAt 3 cfg0.N
    = act (m ((c : Thread nD τ).loc main_arg0)) (m ((c : Thread nD τ).loc main_arg1)) (m ((c : Thread nD τ).loc main_arg2)) := by
  refine (dats m 0 c).arrAt_eq_of_cover 3 (act (m ((c : Thread nD τ).loc main_arg0)) (m ((c : Thread nD τ).loc main_arg1)) (m ((c : Thread nD τ).loc main_arg2))) ?_ cover
  intro t _
  funext y
  idx_vars y
  show (dats m 0 c).after 3 t (ix2 y0 y1) = act _ _ _ (((cfg0.win 3).blk t).view.emb (ix2 y0 y1))
  rw [emb_out, after0_3]
  refine (block _ _ _ _ y0 y1).trans (congrArg₂ (fun z z' => gelu z * z') ?_ ?_)
  · exact half _ _ _ t 0 _ _ _ y0 y1 (fun k => (plane _ 0 0 rfl _ k y1).trans ((iblk1 m c t 0 k y1).trans (V_7 m c 0 _ _)))
      (fun k => (plane _ 0 0 rfl _ k y1).trans ((iblk0 m c t 0 k y1).trans (V_7 m c 0 _ _)))
      (fun k => (plane _ 0 0 rfl _ k y1).trans ((iblk2 m c t 0 k y1).trans (V_5 m c 0 k _)))
  · exact half _ _ _ t 1 _ _ _ y0 y1 (fun k => (plane _ 1 1 rfl _ k y1).trans ((iblk1 m c t 1 k y1).trans (V_7 m c 1 _ _)))
      (fun k => (plane _ 1 1 rfl _ k y1).trans ((iblk0 m c t 1 k y1).trans (V_7 m c 1 _ _)))
      (fun k => (plane _ 1 1 rfl _ k y1).trans ((iblk2 m c t 1 k y1).trans (V_5 m c 1 k _)))

end Cert.ActIdeal.Hand

namespace Cert.Act.Tie
open Idealize.ShloMosaic Idealize.ShloMosaic.TcCoe Idealize.ShloMosaic.Tactic Idealize.SL.Sem

/-- The gated rows the program leaves are the reference's. -/
theorem algebraic : algebraic_ActIdeal_ActRefIdeal := by
  intro m ρ m' ρ' _ hagree
  refine ⟨fun c => (Cert.ActIdeal.Gen.dats m 0 c).arrAt 3 Cert.ActIdeal.cfg0.N, Cert.ActIdeal.Value.run_blocks m ρ, ?_⟩
  refine (θ_run Cert.ActRefIdeal.defs _ _).mono (fun r h c => ?_) (Cert.ActRefIdeal.Value.run (F := Ideal) m' ρ')
  obtain ⟨e0, hargs⟩ := h c
  obtain ⟨a0, a1, a2⟩ := hagree c
  refine ⟨e0.trans ?_, hargs⟩
  rw [Cert.ActRefIdeal.Read.val_main_v38_eq, a0, a1, a2, Cert.ActRefIdeal.Tie.r38]
  exact (Cert.ActIdeal.Hand.final m c).symm

end Cert.Act.Tie
-- ==== Proof.DhTie.lean ====
module

public import proofs.«01_k».proof.Defs
public import proofs.«01_k».proof.Proof.Planes
public import proofs.«01_k».proof.Proof.Whole
public import proofs.«01_k».proof.Proof.Gen.DhIdeal.Value
public import proofs.«01_k».proof.Proof.Gen.DhRefIdeal.Run
public import proofs.«01_k».proof.Proof.Gen.DhRefIdeal.Read
public import Idealize.ShloMosaic.Lib.Pipeline.ValueKit.Basic

/-! The gradient of the normed rows: the hidden rows' gradient times the up weight transposed, added up shard by shard. -/

@[expose] public section
set_option maxRecDepth 16384
noncomputable section
namespace Cert.DhRefIdeal.Tie
open Cert.DhRefIdeal Cert.DhRefIdeal.Read
open Idealize.ShloMosaic Idealize.ShloMosaic.TcCoe Idealize.ShloMosaic.Tactic

variable (x0 : Vec Ideal S4096x8192 .f32) (x1 : Vec Ideal S1024x8192 .f32)

/-- Each row of the gradient times each row of the weight. -/
def prod : Vec Ideal S4096x1024 .f32 := fun i => ∑ k : Fin 8192, x0 (ix2 (i 0) k) * x1 (ix2 (i 1) k)

/-- The reference's result is that product. -/
theorem r1 : val_main_v1 (F := Ideal) x0 x1 = prod x0 x1 := by
  funext i
  idx_vars i
  show _ = ∑ k : Fin 8192, x0 (ix2 i0 k) * x1 (ix2 i1 k)
  unfold val_main_v1 val_main_v0
  pointwise

end Cert.DhRefIdeal.Tie

namespace Cert.DhIdeal.Hand
open Cert.DhIdeal Cert.DhIdeal.Gen Cert.DhIdeal.Value Cert.Tiles
open Idealize.ShloMosaic Idealize.ShloMosaic.TcCoe Idealize.ShloMosaic.Tactic
open Idealize.ShloMosaic.Pipeline (Dat)

/-- A sum over all columns, shard by shard. -/
theorem sum_shards (f : Fin 8192 → EReal) : ∑ k, f k = ∑ b ∈ Finset.range 4, ∑ e : Fin 2048, f (place 2048 8192 (by decide) b e) := by
  rw [Finset.sum_range, ← Fintype.sum_prod_type']
  refine (Fintype.sum_equiv (finProdFinEquiv (m := 4) (n := 2048)) _ _ fun p => congrArg f (Fin.ext ?_)).symm
  rw [place_val _ _ (by have := p.1.isLt; omega)]
  show p.1.val * 2048 + p.2.val = p.2.val + 2048 * p.1.val
  omega

section
variable (x0 : Vec Ideal S1x1024x2048 .bf16) (x1 : Vec Ideal S1x1024x2048 .bf16) (xs : Vec Ideal S1024x1024 .f32)

/-- The product of two blocks. -/
def blockPart (r l : Fin 1024) : EReal := ∑ e : Fin 2048, x0 (ix3 0 r e) * x1 (ix3 0 l e)
/-- A shard's part of a block. -/
theorem part (r l : Fin 1024) : k0_pay1 (F := Ideal) x0 x1 (ix2 r l) = blockPart x0 x1 r l := by
  unfold k0_pay1 blockPart; pointwise
theorem part_first (r l : Fin 1024) : k0_pay2 (F := Ideal) x0 x1 (ix2 r l) = blockPart x0 x1 r l := by
  rw [← part]; unfold k0_pay2; pointwise
theorem part_later (r l : Fin 1024) : k0_pay3 (F := Ideal) x0 x1 xs (ix2 r l) = xs (ix2 r l) + blockPart x0 x1 r l := by
  rw [← part]
  unfold k0_pay3; pointwise

variable (c : Dev nD) (i : grid0.Coords) (arg3 : Memref sig .tc .vmem S1x1024x2048 .bf16) (harg3 : arg3.IsWhole) (arg4 : Memref sig .tc .vmem S1x1024x2048 .bf16) (harg4 : arg4.IsWhole)
  (arg5 : Memref sig .tc .vmem S1024x1024 .f32) (harg5 : arg5.IsWhole) (arg6 : Memref sig .tc .vmem S1024x1024 .f32) (harg6 : arg6.IsWhole)

/-- Reading all of a block of one plane reads what it holds. -/
theorem load3 (a : Memref sig .tc .vmem S1x1024x2048 .bf16) (h : a.IsWhole) (x : Vec Ideal S1x1024x2048 .bf16) (inb) :
    a.view.readAt (Elt Ideal) (Rect.unit (s := S1x1024x2048) ![0, 0, 0] ![1, 1024, 2048] inb).toLoadRect (h.unread x) = x := by
  rw [View.readAt_eq_ld, h.read_unread]
  exact View.ld_unit_lit _ x (by decide)

theorem acc_first (h0 : cond0_0 i) (h1 : ¬cond0_1 i) (h2 : ¬cond0_2 i) :
    sout0_A_0 c i arg3 harg3 arg4 harg4 arg5 harg5 arg6 harg6 h0 h1 h2 x0 x1 = k0_pay2 x0 x1 := by
  unfold sout0_A_0 kernelRun0_A
  refine (Cert.Whole.store _ _ _ _ _).trans ?_
  simp only [load3]
theorem acc_later (h0 : ¬cond0_0 i) (h1 : cond0_1 i) (h2 : ¬cond0_2 i) :
    sout0_B_0 c i arg3 harg3 arg4 harg4 arg5 harg5 arg6 harg6 h0 h1 h2 x0 x1 xs = k0_pay3 x0 x1 xs := by
  unfold sout0_B_0 kernelRun0_B
  refine (Cert.Whole.store _ _ _ _ _).trans ?_
  simp only [load3, Cert.Whole.load]
theorem out_last (h0 : ¬cond0_0 i) (h1 : cond0_1 i) (h2 : cond0_2 i) :
    out0_C_2 c i arg3 harg3 arg4 harg4 arg5 harg5 arg6 harg6 h0 h1 h2 x0 x1 xs = k0_pay3 x0 x1 xs := by
  unfold out0_C_2 kernelRun0_C
  refine (Cert.Whole.store _ _ _ _ _).trans ?_
  refine (Cert.Whole.reload _ _ _ _ _).trans ?_
  simp only [load3, Cert.Whole.load]
end

variable (m : (ℓ : Loc nD τ sig) → Buf (Elt Ideal) ℓ) (c : Dev nD)

theorem lt16 (t : Fin cfg0.N) : t.val < 16 := lt_of_lt_of_eq t.isLt (show cfg0.N = 16 from N_0)
theorem pos0 (t : Fin cfg0.N) : win0_0.index t (0 : Fin 3) = t.val % 4 / 2 ∧ win0_0.index t (1 : Fin 3) = t.val / 4 ∧ win0_0.index t (2 : Fin 3) = t.val % 2 :=
  (by decide +kernel : ∀ t : Fin grid0.N, win0_0.index t (0 : Fin 3) = t.val % 4 / 2 ∧ win0_0.index t (1 : Fin 3) = t.val / 4 ∧ win0_0.index t (2 : Fin 3) = t.val % 2) t
theorem pos1 (t : Fin cfg0.N) : win0_1.index t (0 : Fin 3) = t.val % 4 ∧ win0_1.index t (1 : Fin 3) = 0 ∧ win0_1.index t (2 : Fin 3) = 0 :=
  (by decide +kernel : ∀ t : Fin grid0.N, win0_1.index t (0 : Fin 3) = t.val % 4 ∧ win0_1.index t (1 : Fin 3) = 0 ∧ win0_1.index t (2 : Fin 3) = 0) t
theorem pos2 (t : Fin cfg0.N) : win0_2.index t (0 : Fin 2) = t.val / 4 ∧ win0_2.index t (1 : Fin 2) = 0 :=
  (by decide +kernel : ∀ t : Fin grid0.N, win0_2.index t (0 : Fin 2) = t.val / 4 ∧ win0_2.index t (1 : Fin 2) = 0) t

/-- A row of the result, by its block and its place there. -/
abbrev row (b : ℕ) (r : Fin 1024) : Fin 4096 := place 1024 4096 (by decide) b r
/-- A column of the hidden rows, by its shard and its place there. -/
abbrev hcol (b : ℕ) (e : Fin 2048) : Fin 8192 := place 2048 8192 (by decide) b e

/-- The hidden rows' gradient as two planes, element by element. -/
theorem V_a (p : Fin 2) (R e : Fin 4096) : (V m c main_v4 : Vec Ideal S2x4096x4096 .bf16) (ix3 p R e)
    = (m ((c : Thread nD τ).loc main_arg0) : Vec Ideal S4096x8192 .f32) (ix2 R ⟨p.val * 4096 + e.val, by have := p.isLt; have := e.isLt; omega⟩) := by
  show (StableHlo.after hostOps0 (fun b => m (c, b)) (Proc.devRef .tc main_v4) : Vec Ideal S2x4096x4096 .bf16) (ix3 p R e) = _
  after_results_simp
  pointwise
/-- The up weight as its four shards, element by element. -/
theorem V_b (s : Fin 4) (k : Fin 1024) (e : Fin 2048) : (V m c main_v5 : Vec Ideal S4x1024x2048 .bf16) (ix3 s k e)
    = (m ((c : Thread nD τ).loc main_arg1) : Vec Ideal S1024x8192 .f32) (ix2 k ⟨s.val * 2048 + e.val, by have := s.isLt; have := e.isLt; omega⟩) := by
  show (StableHlo.after hostOps0 (fun b => m (c, b)) (Proc.devRef .tc main_v5) : Vec Ideal S4x1024x2048 .bf16) (ix3 s k e) = _
  after_results_simp
  pointwise

theorem iblk0 (t : Fin cfg0.N) (r : Fin 1024) (e : Fin 2048) : iblk m c 0 t (ix3 0 r e)
    = (m ((c : Thread nD τ).loc main_arg0) : Vec Ideal S4096x8192 .f32) (ix2 (row (t.val / 4) r) (hcol (t.val % 4) e)) := by
  have h16 := lt16 t
  refine (congrArg (V m c main_v4 : Vec Ideal S2x4096x4096 .bf16) (emb3 (0 : Fin 1) r e (by decide) (by decide) (by decide)
    (by rw [(pos0 t).1]; omega) (by rw [(pos0 t).2.1]; omega) (by rw [(pos0 t).2.2]; omega) (((cfg0.win 0).blk t).view.emb (ix3 0 r e)) rfl rfl rfl)).trans ((V_a m c _ _ _).trans ?_)
  rw [(pos0 t).1, (pos0 t).2.1, (pos0 t).2.2]
  refine congrArg (fun z => (m ((c : Thread nD τ).loc main_arg0) : Vec Ideal S4096x8192 .f32) (ix2 _ z)) (Fin.ext ?_)
  show (place 1 2 _ (t.val % 4 / 2) 0).val * 4096 + (place 2048 4096 _ (t.val % 2) e).val = (hcol (t.val % 4) e).val
  rw [place_val _ _ (by omega), place_val _ _ (by omega), place_val _ _ (by omega)]
  show (t.val % 4 / 2 * 1 + 0) * 4096 + _ = _
  omega
theorem iblk1 (t : Fin cfg0.N) (l : Fin 1024) (e : Fin 2048) : iblk m c 1 t (ix3 0 l e)
    = (m ((c : Thread nD τ).loc main_arg1) : Vec Ideal S1024x8192 .f32) (ix2 l (hcol (t.val % 4) e)) := by
  have h16 := lt16 t
  refine (congrArg (V m c main_v5 : Vec Ideal S4x1024x2048 .bf16) (emb3 (0 : Fin 1) l e (by decide) (by decide) (by decide)
    (by rw [(pos1 t).1]; omega) (by rw [(pos1 t).2.1]) (by rw [(pos1 t).2.2]) (((cfg0.win 1).blk t).view.emb (ix3 0 l e)) rfl rfl rfl)).trans ((V_b m c _ _ _).trans ?_)
  rw [(pos1 t).1, (pos1 t).2.1, (pos1 t).2.2, place_all, place_all]
  refine congrArg (fun z => (m ((c : Thread nD τ).loc main_arg1) : Vec Ideal S1024x8192 .f32) (ix2 _ z)) (Fin.ext ?_)
  show (place 1 4 _ (t.val % 4) 0).val * 2048 + e.val = (hcol (t.val % 4) e).val
  rw [place_val _ _ (by omega), place_val _ _ (by omega)]
  show (t.val % 4 * 1 + 0) * 2048 + _ = _
  omega
theorem emb_out (t : Fin cfg0.N) (r l : Fin 1024) : ((cfg0.win 2).blk t).view.emb (ix2 r l) = (ix2 (row (t.val / 4) r) l : S4096x1024.Idx) := by
  have h16 := lt16 t
  refine (emb r l (by decide) (by decide) (by rw [(pos2 t).1]; omega) (by rw [(pos2 t).2]) (((cfg0.win 2).blk t).view.emb (ix2 r l)) rfl rfl).trans ?_
  rw [(pos2 t).1, (pos2 t).2, place_all]

/-- Every element of the result lies in a block that is written back. -/
theorem cover : ∀ i : S4096x1024.Idx, ∃ t : Fin cfg0.N, (cfg0.win 2).flush t = true ∧ i ∈ ((cfg0.win 2).blk t).view.set := by
  intro i
  idx_vars i
  obtain ⟨j, hj, k, hk⟩ := split (B := 1024) (by decide) (by decide) 4 (by decide) i0
  have hn : j * 4 + 3 < cfg0.N := lt_of_lt_of_eq (by omega : _ < 16) (show 16 = cfg0.N from N_0.symm)
  have e := emb_out ⟨j * 4 + 3, hn⟩ k i1
  rw [show (⟨j * 4 + 3, hn⟩ : Fin cfg0.N).val / 4 = j by dsimp only; omega, show row j k = i0 from hk] at e
  exact ⟨⟨j * 4 + 3, hn⟩, (flush0_2 _).mpr (by dsimp only; omega), e ▸ ((cfg0.win 2).blk ⟨j * 4 + 3, hn⟩).view.emb_mem_set _⟩

/-- A shard's part of an element of the result. -/
def shardOf (a : Vec Ideal S4096x8192 .f32) (b : Vec Ideal S1024x8192 .f32) (R : Fin 4096) (l : Fin 1024) (s : ℕ) : EReal :=
  ∑ e : Fin 2048, a (ix2 R (hcol s e)) * b (ix2 l (hcol s e))
/-- The same, of the program's arguments. -/
def shardPart (R : Fin 4096) (l : Fin 1024) (s : ℕ) : EReal := shardOf (m ((c : Thread nD τ).loc main_arg0)) (m ((c : Thread nD τ).loc main_arg1)) R l s

theorem part_at (t : Fin cfg0.N) (r l : Fin 1024) : blockPart (iblk m c 0 t) (iblk m c 1 t) r l = shardPart m c (row (t.val / 4) r) l (t.val % 4) :=
  Finset.sum_congr rfl fun e _ => congrArg₂ (fun (a b : EReal) => a * b) (iblk0 m c t r e) (iblk1 m c t l e)

set_option maxHeartbeats 2000000 in
theorem step_first (t : Fin cfg0.N) (h0 : t.val % 4 = 0) : (outsAt0 m c t.val t.isLt).2 = k0_pay2 (iblk m c 0 t) (iblk m c 1 t) := by
  have h1 : ¬1 ≤ t.val % 4 := by omega
  have h2 : ¬t.val % 4 = 3 := by omega
  rw [outsAt0_A m c t h0 h1 h2]
  dsimp only
  exact acc_first _ _ c (grid0.coords t) (ms0_0 t) (hs0_0 t) (ms0_1 t) (hs0_1 t) (ms0_2 t) (hs0_2 t) scM0_0 (Memref.isWhole_whole _) _ _ _

set_option maxHeartbeats 2000000 in
theorem step_later (t : Fin cfg0.N) (h0 : ¬t.val % 4 = 0) (h2 : ¬t.val % 4 = 3) : (outsAt0 m c t.val t.isLt).2
    = k0_pay3 (iblk m c 0 t) (iblk m c 1 t) (outsAt0 m c (t.val - 1) (Nat.lt_of_le_of_lt (Nat.sub_le _ _) t.isLt)).2 := by
  have h1 : 1 ≤ t.val % 4 := by omega
  rw [outsAt0_B m c t h0 h1 h2]
  dsimp only
  exact acc_later _ _ _ c (grid0.coords t) (ms0_0 t) (hs0_0 t) (ms0_1 t) (hs0_1 t) (ms0_2 t) (hs0_2 t) scM0_0 (Memref.isWhole_whole _) _ _ _

set_option maxHeartbeats 2000000 in
theorem step_last (t : Fin cfg0.N) (h2 : t.val % 4 = 3) : (outsAt0 m c t.val t.isLt).1
    = k0_pay3 (iblk m c 0 t) (iblk m c 1 t) (outsAt0 m c (t.val - 1) (Nat.lt_of_le_of_lt (Nat.sub_le _ _) t.isLt)).2 := by
  have h0 : ¬t.val % 4 = 0 := by omega
  have h1 : 1 ≤ t.val % 4 := by omega
  rw [outsAt0_C m c t h0 h1 h2]
  dsimp only
  exact out_last _ _ _ c (grid0.coords t) (ms0_0 t) (hs0_0 t) (ms0_1 t) (hs0_1 t) (ms0_2 t) (hs0_2 t) scM0_0 (Memref.isWhole_whole _) _ _ _

/-- What is kept after a point that is not a block's last: the shards so far. -/
theorem kept (j : ℕ) (r l : Fin 1024) : ∀ (k : ℕ) (hk : k < 3) (hn : j * 4 + k < cfg0.N),
    (outsAt0 m c (j * 4 + k) hn).2 (ix2 r l) = ∑ b ∈ Finset.range (k + 1), shardPart m c (row j r) l b := by
  intro k
  induction k with
  | zero =>
    intro hk hn
    refine (congrFun (step_first m c ⟨j * 4 + 0, hn⟩ (by dsimp only; omega)) _).trans ((part_first _ _ r l).trans ((part_at m c _ r l).trans ?_))
    rw [Finset.sum_range_one, show (⟨j * 4 + 0, hn⟩ : Fin cfg0.N).val / 4 = j by dsimp only; omega, show (⟨j * 4 + 0, hn⟩ : Fin cfg0.N).val % 4 = 0 by dsimp only; omega]
  | succ k ih =>
    intro hk hn
    refine (congrFun (step_later m c ⟨j * 4 + (k + 1), hn⟩ (by dsimp only; omega) (by dsimp only; omega)) _).trans ((part_later _ _ _ r l).trans ?_)
    rw [Finset.sum_range_succ, part_at, show (⟨j * 4 + (k + 1), hn⟩ : Fin cfg0.N).val / 4 = j by dsimp only; omega,
      show (⟨j * 4 + (k + 1), hn⟩ : Fin cfg0.N).val % 4 = k + 1 by dsimp only; omega]
    exact congrArg (· + _) (ih (by omega) (Nat.lt_of_succ_lt hn))

theorem outs_congr {n n' : ℕ} (h : n = n') (hn : n < cfg0.N) (hn' : n' < cfg0.N) : outsAt0 m c n hn = outsAt0 m c n' hn' := by
  subst h; rfl

/-- The whole result. -/
theorem final : (dats m 0 c).arrAt 2 cfg0.N
    = Cert.DhRefIdeal.Tie.prod (m ((c : Thread nD τ).loc main_arg0)) (m ((c : Thread nD τ).loc main_arg1)) := by
  refine (dats m 0 c).arrAt_eq_of_cover 2 (Cert.DhRefIdeal.Tie.prod (m ((c : Thread nD τ).loc main_arg0)) (m ((c : Thread nD τ).loc main_arg1))) ?_ cover
  intro t hf
  have h3 := (flush0_2 t).mp hf
  funext y
  idx_vars y
  show (dats m 0 c).after 2 t (ix2 y0 y1) = Cert.DhRefIdeal.Tie.prod _ _ (((cfg0.win 2).blk t).view.emb (ix2 y0 y1))
  rw [emb_out, after0_2]
  refine (congrFun (step_last m c t h3) _).trans ((part_later _ _ _ y0 y1).trans ?_)
  refine Eq.trans ?_ (sum_shards _).symm
  rw [Finset.sum_range_succ, part_at, h3]
  refine congrArg (· + _) ?_
  have hk := kept m c (t.val / 4) y0 y1 2 (by decide) (lt_of_le_of_lt (by omega) t.isLt)
  exact (congrArg (fun z => z.2 (ix2 y0 y1)) (outs_congr m c (by omega : t.val - 1 = t.val / 4 * 4 + 2) _ _)).trans hk

end Cert.DhIdeal.Hand

namespace Cert.Dh.Tie
open Idealize.ShloMosaic Idealize.ShloMosaic.TcCoe Idealize.ShloMosaic.Tactic Idealize.SL.Sem

/-- The product the program leaves is the reference's. -/
theorem algebraic : algebraic_DhIdeal_DhRefIdeal := by
  intro m ρ m' ρ' _ hagree
  refine ⟨fun c => (Cert.DhIdeal.Gen.dats m 0 c).arrAt 2 Cert.DhIdeal.cfg0.N, Cert.DhIdeal.Value.run_blocks m ρ, ?_⟩
  refine (θ_run Cert.DhRefIdeal.defs _ _).mono (fun r h c => ?_) (Cert.DhRefIdeal.Value.run (F := Ideal) m' ρ')
  obtain ⟨e0, hargs⟩ := h c
  obtain ⟨a0, a1⟩ := hagree c
  refine ⟨e0.trans ?_, hargs⟩
  rw [Cert.DhRefIdeal.Read.val_main_v1_eq, a0, a1, Cert.DhRefIdeal.Tie.r1]
  exact (Cert.DhIdeal.Hand.final m c).symm

end Cert.Dh.Tie
-- ==== Proof.WinTie.lean ====
module

public import proofs.«01_k».proof.Defs
public import proofs.«01_k».proof.Proof.Planes
public import proofs.«01_k».proof.Proof.Gen.WinIdeal.Value
public import proofs.«01_k».proof.Proof.Gen.WinRefIdeal.Run
public import proofs.«01_k».proof.Proof.Gen.WinRefIdeal.Read
public import Idealize.ShloMosaic.Lib.Pipeline.ValueKit.Basic
public import Idealize.ShloMosaic.Lib.KernelVsHost

/-! The input weight's four shards side by side, zeros after them. -/

@[expose] public section
set_option maxRecDepth 16384
noncomputable section
namespace Cert.WinRefIdeal.Tie
open Cert.WinRefIdeal Cert.WinRefIdeal.Read
open Idealize.ShloMosaic Idealize.ShloMosaic.TcCoe Idealize.ShloMosaic.Tactic

variable (x0 : Vec Ideal S1024x2572 .f32)

/-- The weight, its columns filled up with zeros. -/
def full : Vec Ideal S1024x2688 .bf16 := fun i => if h : (i 1).val < 2572 then x0 (ix2 (i 0) ⟨(i 1).val, h⟩) else (0 : EReal)

/-- The reference's result is that weight. -/
theorem r2 : val_main_v2 (F := Ideal) x0 = full x0 := by
  funext i
  idx_vars i
  show _ = if h : i1.val < 2572 then x0 (ix2 i0 ⟨i1.val, h⟩) else (0 : EReal)
  unfold val_main_v2 val_main_v1 val_main_v0 val_main_cst
  pointwise

end Cert.WinRefIdeal.Tie

namespace Cert.WinIdeal.Hand
open Cert.WinIdeal Cert.WinIdeal.Gen Cert.WinIdeal.Value Cert.Tiles
open Idealize.ShloMosaic Idealize.ShloMosaic.TcCoe Idealize.ShloMosaic.Tactic
open Idealize.ShloMosaic.Pipeline (Dat)

variable (m : (ℓ : Loc nD τ sig) → Buf (Elt Ideal) ℓ) (c : Dev nD)

/-- A block of the whole weight, element by element. -/
theorem tile (a : Vec Ideal S4x256x643 .bf16) (r : Fin 256) (l : Fin 2688) :
    out0_1 (F := Ideal) a (ix2 r l) = if h : l.val < 2572 then a (ix3 ⟨l.val / 643, by omega⟩ r ⟨l.val % 643, Nat.mod_lt _ (by decide)⟩) else (0 : EReal) := by
  unfold out0_1
  rw [View.canon_cons_unit_lit _ _ _ (by decide)]
  unfold k0_pay1
  pointwise
  have hl := l.isLt
  by_cases h0 : l.val < 643
  · rw [dif_pos h0, dif_pos (by omega)]
    exact congrArg₂ (fun g z => a (ix3 g r z)) (Fin.ext (by show 0 = l.val / 643; omega)) (Fin.ext (by show l.val = l.val % 643; omega))
  by_cases h1 : l.val - 643 < 643
  · rw [dif_neg h0, dif_pos h1, dif_pos (by omega)]
    exact congrArg₂ (fun g z => a (ix3 g r z)) (Fin.ext (by show 1 = l.val / 643; omega)) (Fin.ext (by show l.val - 643 = l.val % 643; omega))
  by_cases h2 : l.val - 643 - 643 < 643
  · rw [dif_neg h0, dif_neg h1, dif_pos h2, dif_pos (by omega)]
    exact congrArg₂ (fun g z => a (ix3 g r z)) (Fin.ext (by show 2 = l.val / 643; omega)) (Fin.ext (by show l.val - 643 - 643 = l.val % 643; omega))
  by_cases h3 : l.val - 643 - 643 - 643 < 643
  · rw [dif_neg h0, dif_neg h1, dif_neg h2, dif_pos h3, dif_pos (by omega)]
    exact congrArg₂ (fun g z => a (ix3 g r z)) (Fin.ext (by show 3 = l.val / 643; omega)) (Fin.ext (by show l.val - 643 - 643 - 643 = l.val % 643; omega))
  · rw [dif_neg h0, dif_neg h1, dif_neg h2, dif_neg h3, dif_neg (by omega)]

theorem lt4 (t : Fin cfg0.N) : t.val < 4 := lt_of_lt_of_eq t.isLt (show cfg0.N = 4 from N_0)
theorem pos0 (t : Fin cfg0.N) : win0_0.index t (0 : Fin 3) = 0 ∧ win0_0.index t (1 : Fin 3) = t.val ∧ win0_0.index t (2 : Fin 3) = 0 :=
  (by decide +kernel : ∀ t : Fin grid0.N, win0_0.index t (0 : Fin 3) = 0 ∧ win0_0.index t (1 : Fin 3) = t.val ∧ win0_0.index t (2 : Fin 3) = 0) t
theorem pos1 (t : Fin cfg0.N) : win0_1.index t (0 : Fin 2) = t.val ∧ win0_1.index t (1 : Fin 2) = 0 :=
  (by decide +kernel : ∀ t : Fin grid0.N, win0_1.index t (0 : Fin 2) = t.val ∧ win0_1.index t (1 : Fin 2) = 0) t

/-- A row, by its block and its place there. -/
abbrev row (b : ℕ) (r : Fin 256) : Fin 1024 := place 256 1024 (by decide) b r

theorem iblk0 (t : Fin cfg0.N) (g : Fin 4) (r : Fin 256) (l : Fin 643) : iblk m c 0 t (ix3 g r l)
    = (V m c main_v2 : Vec Ideal S4x1024x643 .bf16) (ix3 g (row t.val r) l) := by
  have h4 := lt4 t
  refine congrArg (V m c main_v2 : Vec Ideal S4x1024x643 .bf16) ((emb3 g r l (by decide) (by decide) (by decide)
    (by rw [(pos0 t).1]) (by rw [(pos0 t).2.1]; omega) (by rw [(pos0 t).2.2]) (((cfg0.win 0).blk t).view.emb (ix3 g r l)) rfl rfl rfl).trans ?_)
  rw [(pos0 t).1, (pos0 t).2.1, (pos0 t).2.2, place_all, place_all]
theorem emb_out (t : Fin cfg0.N) (r : Fin 256) (l : Fin 2688) : ((cfg0.win 1).blk t).view.emb (ix2 r l) = (ix2 (row t.val r) l : S1024x2688.Idx) := by
  have h4 := lt4 t
  refine (emb r l (by decide) (by decide) (by rw [(pos1 t).1]; omega) (by rw [(pos1 t).2]) (((cfg0.win 1).blk t).view.emb (ix2 r l)) rfl rfl).trans ?_
  rw [(pos1 t).1, (pos1 t).2, place_all]

/-- Every element of the result lies in a block that is written back. -/
theorem cover : ∀ i : S1024x2688.Idx, ∃ t : Fin cfg0.N, (cfg0.win 1).flush t = true ∧ i ∈ ((cfg0.win 1).blk t).view.set := by
  intro i
  idx_vars i
  obtain ⟨j, hj, k, hk⟩ := split (B := 256) (by decide) (by decide) 4 (by decide) i0
  have hn : j < cfg0.N := lt_of_lt_of_eq hj (show 4 = cfg0.N from N_0.symm)
  have e := emb_out ⟨j, hn⟩ k i1
  rw [show row j k = i0 from hk] at e
  exact ⟨⟨j, hn⟩, flush0_1 _, e ▸ ((cfg0.win 1).blk ⟨j, hn⟩).view.emb_mem_set _⟩

/-- The weight cut into its four shards of columns. -/
theorem V_2 (g : Fin 4) (R : Fin 1024) (l : Fin 643) : (V m c main_v2 : Vec Ideal S4x1024x643 .bf16) (ix3 g R l)
    = (m ((c : Thread nD τ).loc main_arg0) : Vec Ideal S1024x2572 .f32) (ix2 R ⟨g.val * 643 + l.val, by have := g.isLt; have := l.isLt; omega⟩) := by
  show (StableHlo.after hostOps0 (fun b => m (c, b)) (Proc.devRef .tc main_v2) : Vec Ideal S4x1024x643 .bf16) (ix3 g R l) = _
  after_results_simp
  pointwise

/-- The whole result. -/
theorem final : (dats m 0 c).arrAt 1 cfg0.N = Cert.WinRefIdeal.Tie.full (m ((c : Thread nD τ).loc main_arg0)) := by
  refine (dats m 0 c).arrAt_eq_of_cover 1 (Cert.WinRefIdeal.Tie.full (m ((c : Thread nD τ).loc main_arg0))) ?_ cover
  intro t _
  funext y
  idx_vars y
  show (dats m 0 c).after 1 t (ix2 y0 y1) = Cert.WinRefIdeal.Tie.full _ (((cfg0.win 1).blk t).view.emb (ix2 y0 y1))
  rw [emb_out, after0_1]
  refine (tile _ y0 y1).trans ?_
  show _ = if h : y1.val < 2572 then (m ((c : Thread nD τ).loc main_arg0) : Vec Ideal S1024x2572 .f32) (ix2 (row t.val y0) ⟨y1.val, h⟩) else (0 : EReal)
  by_cases h : y1.val < 2572
  · rw [dif_pos h, dif_pos h]
    refine (iblk0 m c t _ y0 _).trans ((V_2 m c _ _ _).trans (congrArg (fun z => (m ((c : Thread nD τ).loc main_arg0) : Vec Ideal S1024x2572 .f32) (ix2 _ z)) (Fin.ext ?_)))
    show y1.val / 643 * 643 + y1.val % 643 = y1.val
    omega
  · rw [dif_neg h, dif_neg h]

end Cert.WinIdeal.Hand

namespace Cert.Win.Tie
open Idealize.ShloMosaic Idealize.ShloMosaic.TcCoe Idealize.ShloMosaic.Tactic Idealize.SL.Sem

/-- The weight the program lays out is the reference's. -/
theorem algebraic : algebraic_WinIdeal_WinRefIdeal := by
  intro m ρ m' ρ' _ hagree
  refine ⟨fun c => (Cert.WinIdeal.Gen.dats m 0 c).arrAt 1 Cert.WinIdeal.cfg0.N, Cert.WinIdeal.Value.run_blocks m ρ, ?_⟩
  refine (θ_run Cert.WinRefIdeal.defs _ _).mono (fun r h c => ?_) (Cert.WinRefIdeal.Value.run (F := Ideal) m' ρ')
  obtain ⟨e0, hargs⟩ := h c
  obtain a0 := hagree c
  refine ⟨e0.trans ?_, hargs⟩
  rw [Cert.WinRefIdeal.Read.val_main_v2_eq, a0, Cert.WinRefIdeal.Tie.r2]
  exact (Cert.WinIdeal.Hand.final m c).symm

end Cert.Win.Tie
-- ==== Proof.DwInBlock.lean ====
module

public import proofs.«01_k».proof.Defs
public import proofs.«01_k».proof.Proof.Planes
public import proofs.«01_k».proof.Proof.Whole
public import proofs.«01_k».proof.Proof.Gen.DwInIdeal.Value
public import Idealize.ShloMosaic.Lib.Pipeline.ValueKit.Basic

/-! One block of rows added into the gradient of the input weight, shard by shard and half by half. -/

@[expose] public section
set_option maxRecDepth 16384
noncomputable section
namespace Cert.DwInIdeal.Hand
open Cert.DwInIdeal Cert.DwInIdeal.Gen Cert.Tiles
open Idealize.ShloMosaic Idealize.ShloMosaic.TcCoe Idealize.ShloMosaic.Tactic

/-- Row `r` of shard `j`, as a column of the projected rows' gradient. -/
def wcol (j : Fin 4) (r : Fin 648) : Fin 2688 := ⟨643 * j.val + r.val, by have := j.isLt; have := r.isLt; omega⟩
/-- Column `l` of half `h`, as a column of the normed rows. -/
def hcol (h : Fin 2) (l : Fin 512) : Fin 1024 := ⟨512 * h.val + l.val, by have := h.isLt; have := l.isLt; omega⟩
/-- The columns from `o` on. -/
def win (o : ℕ) (x : Vec Ideal S1024x2688 .bf16) : Vec Ideal S1024x768 .bf16 := fun y => x (ix2 (y 0) (Fin.ofNat 2688 (o + (y 1).val)))
/-- One shard's half. -/
def plane (p : Fin 4) (q : Fin 2) (x : Vec Ideal S4x2x648x512 .f32) : Vec Ideal S1x1x648x512 .f32 := fun y => x (ix4 p q (y 2) (y 3))

theorem load_win (a : Memref sig .tc .vmem S1024x2688 .bf16) (h : a.IsWhole) (x : Vec Ideal S1024x2688 .bf16) (o : ℕ) (inb) :
    a.view.readAt (Elt Ideal) (Rect.unit (s := S1024x2688) ![0, o] ![1024, 768] inb).toLoadRect (h.unread x) = win o x := by
  rw [View.readAt_eq_ld, h.read_unread]
  have ho : o + 768 ≤ 2688 := inb 1
  funext y; unfold win
  refine congrArg x (funext fun a => ?_)
  have h1 : (y 1).val < 768 := (y 1).isLt
  fin_cases a
  · exact Fin.ext (show 0 + 1 * (y 0).val = (y 0).val by omega)
  · exact Fin.ext ((show o + 1 * (y 1).val = o + (y 1).val by omega).trans (Nat.mod_eq_of_lt (by omega)).symm)

theorem load_plane (a : Memref sig .tc .vmem S4x2x648x512 .f32) (h : a.IsWhole) (x : Vec Ideal S4x2x648x512 .f32) (p q : ℕ) (inb) :
    a.view.readAt (Elt Ideal) (Rect.unit (s := S4x2x648x512) ![p, q, 0, 0] ![1, 1, 648, 512] inb).toLoadRect (h.unread x) = plane (Fin.ofNat 4 p) (Fin.ofNat 2 q) x := by
  rw [View.readAt_eq_ld, h.read_unread]
  have hp : p + 1 ≤ 4 := inb 0
  have hq : q + 1 ≤ 2 := inb 1
  funext y; unfold plane
  refine congrArg x (funext fun a => ?_)
  have h0 : (y 0).val < 1 := (y 0).isLt
  have h1 : (y 1).val < 1 := (y 1).isLt
  fin_cases a
  · exact Fin.ext ((show p + 1 * (y 0).val = p by omega).trans (Nat.mod_eq_of_lt (by omega)).symm)
  · exact Fin.ext ((show q + 1 * (y 1).val = q by omega).trans (Nat.mod_eq_of_lt (by omega)).symm)
  · exact Fin.ext (show 0 + 1 * (y 2).val = (y 2).val by omega)
  · exact Fin.ext (show 0 + 1 * (y 3).val = (y 3).val by omega)

section
variable {V : View sig .tc .vmem S4x2x648x512 .f32} {f : BufTy.Contents (Elt Ideal) V.ty} {p q : ℕ} {inb} {w : Vec Ideal S1x1x648x512 .f32}
  {L : List (View.Piece (Elt Ideal) S4x2x648x512 .f32)} {j : Fin 4} {h : Fin 2} {r : Fin 648} {l : Fin 512}

/-- A read of another shard passes a piece by. -/
theorem passP (hx : j.val < p ∨ p + 1 ≤ j.val) :
    V.read (Elt Ideal) (V.writes (Elt Ideal) f (⟨Rect.unit (s := S4x2x648x512) ![p, q, 0, 0] ![1, 1, 648, 512] inb, w⟩ :: L)) (ix4 j h r l)
      = V.read (Elt Ideal) (V.writes (Elt Ideal) f L) (ix4 j h r l) :=
  View.read_writes_cons_unit_of_not_mem V f inb w L (ix4 j h r l) rfl 0 hx
/-- A read of another half passes a piece by. -/
theorem passQ (hx : h.val < q ∨ q + 1 ≤ h.val) :
    V.read (Elt Ideal) (V.writes (Elt Ideal) f (⟨Rect.unit (s := S4x2x648x512) ![p, q, 0, 0] ![1, 1, 648, 512] inb, w⟩ :: L)) (ix4 j h r l)
      = V.read (Elt Ideal) (V.writes (Elt Ideal) f L) (ix4 j h r l) :=
  View.read_writes_cons_unit_of_not_mem V f inb w L (ix4 j h r l) rfl 1 hx
/-- A read of a piece's own shard and half reads the piece. -/
theorem takeP (hp : j.val = p) (hq : h.val = q) :
    V.read (Elt Ideal) (V.writes (Elt Ideal) f (⟨Rect.unit (s := S4x2x648x512) ![p, q, 0, 0] ![1, 1, 648, 512] inb, w⟩ :: L)) (ix4 j h r l) = w (ix4 0 0 r l) :=
  View.read_writes_cons_unit_of_mem V f inb w L (ix4 j h r l) (ix4 0 0 r l) rfl (by
    intro a; fin_cases a
    · exact hp
    · exact hq
    · exact (Nat.zero_add _).symm
    · exact (Nat.zero_add _).symm)
/-- What is stored last over everything is read everywhere. -/
theorem takeAll (inb) (w : Vec Ideal S4x2x648x512 .f32) :
    V.read (Elt Ideal) (V.writes (Elt Ideal) f (⟨Rect.unit (s := S4x2x648x512) ![0, 0, 0, 0] ![4, 2, 648, 512] inb, w⟩ :: L)) (ix4 j h r l) = w (ix4 j h r l) :=
  View.read_writes_cons_unit_of_mem V f inb w L (ix4 j h r l) (ix4 j h r l) rfl (by
    intro a; fin_cases a <;> exact (Nat.zero_add _).symm)
/-- Reading back a shard's half that holds zeros. -/
theorem reread (hz : ∀ r l, V.read (Elt Ideal) (V.writes (Elt Ideal) V.junk L) (ix4 (Fin.ofNat 4 p) (Fin.ofNat 2 q) r l) = (0 : EReal)) :
    V.readCov L (Rect.unit (s := S4x2x648x512) ![p, q, 0, 0] ![1, 1, 648, 512] inb).toLoadRect = fun _ => (0 : EReal) := by
  have hp : p + 1 ≤ 4 := inb 0
  have hq : q + 1 ≤ 2 := inb 1
  funext y
  have h0 : (y 0).val < 1 := (y 0).isLt
  have h1 : (y 1).val < 1 := (y 1).isLt
  refine Eq.trans (congrArg (V.read (Elt Ideal) (V.writes (Elt Ideal) V.junk L)) (?_ : _ = ix4 (Fin.ofNat 4 p) (Fin.ofNat 2 q) (y 2) (y 3))) (hz _ _)
  funext a; fin_cases a
  · exact Fin.ext ((show p + 1 * (y 0).val = p by omega).trans (Nat.mod_eq_of_lt (by omega)).symm)
  · exact Fin.ext ((show q + 1 * (y 1).val = q by omega).trans (Nat.mod_eq_of_lt (by omega)).symm)
  · exact Fin.ext (show 0 + 1 * (y 2).val = (y 2).val by omega)
  · exact Fin.ext (show 0 + 1 * (y 3).val = (y 3).val by omega)
end

section
variable (x0 : Vec Ideal S1024x2688 .bf16) (x1 : Vec Ideal S1024x1024 .bf16) (w : Vec Ideal S1x1x648x512 .f32) (r : Fin 648) (l : Fin 512)

/-- A block's part of an element. -/
def blockPart (j : Fin 4) (h : Fin 2) (r : Fin 648) (l : Fin 512) : EReal := ∑ e : Fin 1024, x0 (ix2 e (wcol j r)) * x1 (ix2 e (hcol h l))

/-- The window from `o` on, moved back by `s`, holds the shard's columns. -/
theorem win_at (o s : ℕ) (j : Fin 4) (h : 643 * j.val = o + s) (hs : s < 120) (e : Fin 1024) (r : Fin 648) (k : Fin 768) (hk : k.val = r.val + s) :
    win o x0 (ix2 e k) = x0 (ix2 e (wcol j r)) := by
  have := j.isLt; have := r.isLt
  refine congrArg (fun z => x0 (ix2 e z)) (Fin.ext ?_)
  show (o + k.val) % 2688 = 643 * j.val + r.val
  rw [Nat.mod_eq_of_lt (by omega)]; omega

/-- The windows' products with the normed rows, element by element. -/
theorem dot0 (r : Fin 648) (l : Fin 1024) : k0_pay2 (F := Ideal) (win 0 x0) x1 (ix2 ⟨r.val, by have := r.isLt; omega⟩ l) = ∑ e : Fin 1024, x0 (ix2 e (wcol 0 r)) * x1 (ix2 e l) := by
  unfold k0_pay2
  pointwise
  refine Finset.sum_congr rfl fun e _ => ?_
  rw [win_at x0 0 0 0 rfl (by decide) e r _ rfl]
theorem dot1 (r : Fin 648) (l : Fin 1024) : k0_pay7 (F := Ideal) (k0_pay5 (win 640 x0)) (k0_pay6 x1) (constant S768x1024 .f32 0x00000000#32) (ix2 ⟨r.val, by have := r.isLt; omega⟩ l) = ∑ e : Fin 1024, x0 (ix2 e (wcol 1 r)) * x1 (ix2 e l) := by
  unfold k0_pay7 k0_pay5 k0_pay6
  pointwise
  refine Finset.sum_congr rfl fun e _ => ?_
  rw [win_at x0 640 3 1 rfl (by decide) e r _ (show (r.val + 768 - 765) % 768 = r.val + 3 by have := r.isLt; omega)]
theorem dot2 (r : Fin 648) (l : Fin 1024) : k0_pay10 (F := Ideal) (win 1280 x0) x1 (ix2 ⟨r.val, by have := r.isLt; omega⟩ l) = ∑ e : Fin 1024, x0 (ix2 e (wcol 2 r)) * x1 (ix2 e l) := by
  unfold k0_pay10
  pointwise
  refine Finset.sum_congr rfl fun e _ => ?_
  rw [win_at x0 1280 6 2 rfl (by decide) e r _ (show (r.val + 768 - 762) % 768 = r.val + 6 by have := r.isLt; omega)]
theorem dot3 (r : Fin 648) (l : Fin 1024) : k0_pay13 (F := Ideal) (win 1920 x0) x1 (ix2 ⟨r.val, by have := r.isLt; omega⟩ l) = ∑ e : Fin 1024, x0 (ix2 e (wcol 3 r)) * x1 (ix2 e l) := by
  unfold k0_pay13
  pointwise
  refine Finset.sum_congr rfl fun e _ => ?_
  rw [win_at x0 1920 9 3 rfl (by decide) e r _ (show (r.val + 768 - 759) % 768 = r.val + 9 by have := r.isLt; omega)]

/-- What is stored for each shard's half: what was there and the block's part. -/
theorem p00 : k0_pay3 (F := Ideal) (win 0 x0) x1 w (ix4 0 0 r l) = w (ix4 0 0 r l) + blockPart x0 x1 0 0 r l := by
  refine Eq.trans ?_ (congrArg (w (ix4 0 0 r l) + ·) (dot0 x0 x1 r (hcol 0 l)))
  generalize hg : k0_pay2 (F := Ideal) (win 0 x0) x1 = D
  unfold k0_pay3
  simp only [hg]
  pointwise
  all_goals refine congrArg (fun z => w (ix4 0 0 r l) + D (ix2 _ z)) (Fin.ext ?_)
  all_goals simp [hcol]
theorem p01 : k0_pay4 (F := Ideal) (win 0 x0) x1 w (ix4 0 0 r l) = w (ix4 0 0 r l) + blockPart x0 x1 0 1 r l := by
  refine Eq.trans ?_ (congrArg (w (ix4 0 0 r l) + ·) (dot0 x0 x1 r (hcol 1 l)))
  generalize hg : k0_pay2 (F := Ideal) (win 0 x0) x1 = D
  unfold k0_pay4
  simp only [hg]
  pointwise
  all_goals refine congrArg (fun z => w (ix4 0 0 r l) + D (ix2 _ z)) (Fin.ext ?_)
  all_goals simp [hcol]
theorem p10 : k0_pay8 (F := Ideal) (k0_pay5 (win 640 x0)) (k0_pay6 x1) (constant S768x1024 .f32 0x00000000#32) w (ix4 0 0 r l) = w (ix4 0 0 r l) + blockPart x0 x1 1 0 r l := by
  refine Eq.trans ?_ (congrArg (w (ix4 0 0 r l) + ·) (dot1 x0 x1 r (hcol 0 l)))
  generalize hg : k0_pay7 (F := Ideal) (k0_pay5 (win 640 x0)) (k0_pay6 x1) (constant S768x1024 .f32 0x00000000#32) = D
  unfold k0_pay8
  simp only [hg]
  pointwise
  all_goals refine congrArg (fun z => w (ix4 0 0 r l) + D (ix2 _ z)) (Fin.ext ?_)
  all_goals simp [hcol]
theorem p11 : k0_pay9 (F := Ideal) (k0_pay5 (win 640 x0)) (k0_pay6 x1) (constant S768x1024 .f32 0x00000000#32) w (ix4 0 0 r l) = w (ix4 0 0 r l) + blockPart x0 x1 1 1 r l := by
  refine Eq.trans ?_ (congrArg (w (ix4 0 0 r l) + ·) (dot1 x0 x1 r (hcol 1 l)))
  generalize hg : k0_pay7 (F := Ideal) (k0_pay5 (win 640 x0)) (k0_pay6 x1) (constant S768x1024 .f32 0x00000000#32) = D
  unfold k0_pay9
  simp only [hg]
  pointwise
  all_goals refine congrArg (fun z => w (ix4 0 0 r l) + D (ix2 _ z)) (Fin.ext ?_)
  all_goals simp [hcol]
theorem p20 : k0_pay11 (F := Ideal) (win 1280 x0) x1 w (ix4 0 0 r l) = w (ix4 0 0 r l) + blockPart x0 x1 2 0 r l := by
  refine Eq.trans ?_ (congrArg (w (ix4 0 0 r l) + ·) (dot2 x0 x1 r (hcol 0 l)))
  generalize hg : k0_pay10 (F := Ideal) (win 1280 x0) x1 = D
  unfold k0_pay11
  simp only [hg]
  pointwise
  all_goals refine congrArg (fun z => w (ix4 0 0 r l) + D (ix2 _ z)) (Fin.ext ?_)
  all_goals simp [hcol]
theorem p21 : k0_pay12 (F := Ideal) (k0_pay10 (win 1280 x0) x1) w (ix4 0 0 r l) = w (ix4 0 0 r l) + blockPart x0 x1 2 1 r l := by
  refine Eq.trans ?_ (congrArg (w (ix4 0 0 r l) + ·) (dot2 x0 x1 r (hcol 1 l)))
  generalize hg : k0_pay10 (F := Ideal) (win 1280 x0) x1 = D
  unfold k0_pay12
  pointwise
  all_goals refine congrArg (fun z => w (ix4 0 0 r l) + D (ix2 _ z)) (Fin.ext ?_)
  all_goals simp [hcol]
theorem p30 : k0_pay14 (F := Ideal) (win 1920 x0) x1 w (ix4 0 0 r l) = w (ix4 0 0 r l) + blockPart x0 x1 3 0 r l := by
  refine Eq.trans ?_ (congrArg (w (ix4 0 0 r l) + ·) (dot3 x0 x1 r (hcol 0 l)))
  generalize hg : k0_pay13 (F := Ideal) (win 1920 x0) x1 = D
  unfold k0_pay14
  simp only [hg]
  pointwise
  all_goals refine congrArg (fun z => w (ix4 0 0 r l) + D (ix2 _ z)) (Fin.ext ?_)
  all_goals simp [hcol]
theorem p31 : k0_pay15 (F := Ideal) (win 1920 x0) x1 w (ix4 0 0 r l) = w (ix4 0 0 r l) + blockPart x0 x1 3 1 r l := by
  refine Eq.trans ?_ (congrArg (w (ix4 0 0 r l) + ·) (dot3 x0 x1 r (hcol 1 l)))
  generalize hg : k0_pay13 (F := Ideal) (win 1920 x0) x1 = D
  unfold k0_pay15
  simp only [hg]
  pointwise
  all_goals refine congrArg (fun z => w (ix4 0 0 r l) + D (ix2 _ z)) (Fin.ext ?_)
  all_goals simp [hcol]
end

/-- Reading all of the normed rows' block. -/
theorem load_all (a : Memref sig .tc .vmem S1024x1024 .bf16) (h : a.IsWhole) (x : Vec Ideal S1024x1024 .bf16) (inb) :
    a.view.readAt (Elt Ideal) (Rect.unit (s := S1024x1024) ![0, 0] ![1024, 1024] inb).toLoadRect (h.unread x) = x := Cert.Whole.load a h x inb

section
variable (c : Dev nD) (i : grid0.Coords) (arg1 : Memref sig .tc .vmem S1024x2688 .bf16) (harg1 : arg1.IsWhole) (arg2 : Memref sig .tc .vmem S1024x1024 .bf16) (harg2 : arg2.IsWhole)
  (arg3 : Memref sig .tc .vmem S4x2x648x512 .f32) (harg3 : arg3.IsWhole) (x0 : Vec Ideal S1024x2688 .bf16) (x1 : Vec Ideal S1024x1024 .bf16)

set_option maxHeartbeats 600000 in
/-- A later block's part is added to what was there. -/
theorem out_later (hc0 : ¬cond0_0 i) (xo : Vec Ideal S4x2x648x512 .f32) (j : Fin 4) (h : Fin 2) (r : Fin 648) (l : Fin 512) :
    out0_B_2 c i arg1 harg1 arg2 harg2 arg3 harg3 hc0 x0 x1 xo (ix4 j h r l) = xo (ix4 j h r l) + blockPart x0 x1 j h r l := by
  unfold out0_B_2 kernelRun0_B
  dsimp only
  simp only [kernelRun0_B.sl.r, kernelRun0_B.sl.r_1, kernelRun0_B.sl.r_2, kernelRun0_B.sl.r_3, kernelRun0_B.sl.r_4, kernelRun0_B.sl.v15, kernelRun0_B.sl.v28, kernelRun0_B.sl.v35, kernelRun0_B.sl.v55, kernelRun0_B.sl.v68, kernelRun0_B.sl.v48, kernelRun0_B.sl.v75, kernelRun0_B.sl.cst_22, load_win, load_all, load_plane]
  have hj : j = 0 ∨ j = 1 ∨ j = 2 ∨ j = 3 := by revert j; decide
  have hh : h = 0 ∨ h = 1 := by revert h; decide
  rcases hj with rfl | rfl | rfl | rfl <;> rcases hh with rfl | rfl
  · refine (passP (by decide)).trans ?_
    refine (passP (by decide)).trans ?_
    refine (passP (by decide)).trans ?_
    refine (passP (by decide)).trans ?_
    refine (passP (by decide)).trans ?_
    refine (passP (by decide)).trans ?_
    refine (passQ (by decide)).trans ?_
    refine (takeP (by decide) (by decide)).trans ?_
    exact p00 x0 x1 _ r l
  · refine (passP (by decide)).trans ?_
    refine (passP (by decide)).trans ?_
    refine (passP (by decide)).trans ?_
    refine (passP (by decide)).trans ?_
    refine (passP (by decide)).trans ?_
    refine (passP (by decide)).trans ?_
    refine (takeP (by decide) (by decide)).trans ?_
    exact p01 x0 x1 _ r l
  · refine (passP (by decide)).trans ?_
    refine (passP (by decide)).trans ?_
    refine (passP (by decide)).trans ?_
    refine (passP (by decide)).trans ?_
    refine (passQ (by decide)).trans ?_
    refine (takeP (by decide) (by decide)).trans ?_
    exact p10 x0 x1 _ r l
  · refine (passP (by decide)).trans ?_
    refine (passP (by decide)).trans ?_
    refine (passP (by decide)).trans ?_
    refine (passP (by decide)).trans ?_
    refine (takeP (by decide) (by decide)).trans ?_
    exact p11 x0 x1 _ r l
  · refine (passP (by decide)).trans ?_
    refine (passP (by decide)).trans ?_
    refine (passQ (by decide)).trans ?_
    refine (takeP (by decide) (by decide)).trans ?_
    exact p20 x0 x1 _ r l
  · refine (passP (by decide)).trans ?_
    refine (passP (by decide)).trans ?_
    refine (takeP (by decide) (by decide)).trans ?_
    exact p21 x0 x1 _ r l
  · refine (passQ (by decide)).trans ?_
    refine (takeP (by decide) (by decide)).trans ?_
    exact p30 x0 x1 _ r l
  · refine (takeP (by decide) (by decide)).trans ?_
    exact p31 x0 x1 _ r l

open kernelRun0_A
/-- Nothing is added yet where a block's part comes to be added. -/
theorem zero_at (V : View sig .tc .vmem S4x2x648x512 .f32) (f : BufTy.Contents (Elt Ideal) V.ty) (j : Fin 4) (h : Fin 2) (r : Fin 648) (l : Fin 512) :
    V.read (Elt Ideal) (V.writes (Elt Ideal) f (sl.H2_1 (F := Ideal))) (ix4 j h r l) = (0 : EReal) := by
  unfold sl.H2_1
  refine (takeAll _ _).trans ?_
  unfold k0_pay1
  pointwise
theorem load0 (inb) : arg3.view.readCov (sl.H2_1 (F := Ideal)) (Rect.unit (s := S4x2x648x512) ![0, 0, 0, 0] ![1, 1, 648, 512] inb).toLoadRect = fun _ => (0 : EReal) := by
  refine reread fun r l => ?_
  show arg3.view.read (Elt Ideal) (arg3.view.writes (Elt Ideal) arg3.view.junk _) (ix4 (0 : Fin 4) (0 : Fin 2) r l) = _
  exact zero_at _ _ _ _ r l
theorem load1 (inb) : arg3.view.readCov (sl.H2_2 (F := Ideal) c arg1 harg1 arg2 harg2 arg3 x0 x1) (Rect.unit (s := S4x2x648x512) ![0, 1, 0, 0] ![1, 1, 648, 512] inb).toLoadRect = fun _ => (0 : EReal) := by
  refine reread fun r l => ?_
  show arg3.view.read (Elt Ideal) (arg3.view.writes (Elt Ideal) arg3.view.junk _) (ix4 (0 : Fin 4) (1 : Fin 2) r l) = _
  unfold sl.H2_2
  refine (passQ (by decide)).trans ?_
  exact zero_at _ _ _ _ r l
theorem load2 (inb) : arg3.view.readCov (sl.H2_3 (F := Ideal) c arg1 harg1 arg2 harg2 arg3 x0 x1) (Rect.unit (s := S4x2x648x512) ![1, 0, 0, 0] ![1, 1, 648, 512] inb).toLoadRect = fun _ => (0 : EReal) := by
  refine reread fun r l => ?_
  show arg3.view.read (Elt Ideal) (arg3.view.writes (Elt Ideal) arg3.view.junk _) (ix4 (1 : Fin 4) (0 : Fin 2) r l) = _
  unfold sl.H2_3
  refine (passP (by decide)).trans ?_
  unfold sl.H2_2
  refine (passP (by decide)).trans ?_
  exact zero_at _ _ _ _ r l
theorem load3 (inb) : arg3.view.readCov (sl.H2_4 (F := Ideal) c arg1 harg1 arg2 harg2 arg3 x0 x1) (Rect.unit (s := S4x2x648x512) ![1, 1, 0, 0] ![1, 1, 648, 512] inb).toLoadRect = fun _ => (0 : EReal) := by
  refine reread fun r l => ?_
  show arg3.view.read (Elt Ideal) (arg3.view.writes (Elt Ideal) arg3.view.junk _) (ix4 (1 : Fin 4) (1 : Fin 2) r l) = _
  unfold sl.H2_4
  refine (passQ (by decide)).trans ?_
  unfold sl.H2_3
  refine (passP (by decide)).trans ?_
  unfold sl.H2_2
  refine (passP (by decide)).trans ?_
  exact zero_at _ _ _ _ r l
theorem load4 (inb) : arg3.view.readCov (sl.H2_5 (F := Ideal) c arg1 harg1 arg2 harg2 arg3 x0 x1) (Rect.unit (s := S4x2x648x512) ![2, 0, 0, 0] ![1, 1, 648, 512] inb).toLoadRect = fun _ => (0 : EReal) := by
  refine reread fun r l => ?_
  show arg3.view.read (Elt Ideal) (arg3.view.writes (Elt Ideal) arg3.view.junk _) (ix4 (2 : Fin 4) (0 : Fin 2) r l) = _
  unfold sl.H2_5
  refine (passP (by decide)).trans ?_
  unfold sl.H2_4
  refine (passP (by decide)).trans ?_
  unfold sl.H2_3
  refine (passP (by decide)).trans ?_
  unfold sl.H2_2
  refine (passP (by decide)).trans ?_
  exact zero_at _ _ _ _ r l
theorem load5 (inb) : arg3.view.readCov (sl.H2_6 (F := Ideal) c arg1 harg1 arg2 harg2 arg3 x0 x1) (Rect.unit (s := S4x2x648x512) ![2, 1, 0, 0] ![1, 1, 648, 512] inb).toLoadRect = fun _ => (0 : EReal) := by
  refine reread fun r l => ?_
  show arg3.view.read (Elt Ideal) (arg3.view.writes (Elt Ideal) arg3.view.junk _) (ix4 (2 : Fin 4) (1 : Fin 2) r l) = _
  unfold sl.H2_6
  refine (passQ (by decide)).trans ?_
  unfold sl.H2_5
  refine (passP (by decide)).trans ?_
  unfold sl.H2_4
  refine (passP (by decide)).trans ?_
  unfold sl.H2_3
  refine (passP (by decide)).trans ?_
  unfold sl.H2_2
  refine (passP (by decide)).trans ?_
  exact zero_at _ _ _ _ r l
theorem load6 (inb) : arg3.view.readCov (sl.H2_7 (F := Ideal) c arg1 harg1 arg2 harg2 arg3 x0 x1) (Rect.unit (s := S4x2x648x512) ![3, 0, 0, 0] ![1, 1, 648, 512] inb).toLoadRect = fun _ => (0 : EReal) := by
  refine reread fun r l => ?_
  show arg3.view.read (Elt Ideal) (arg3.view.writes (Elt Ideal) arg3.view.junk _) (ix4 (3 : Fin 4) (0 : Fin 2) r l) = _
  unfold sl.H2_7
  refine (passP (by decide)).trans ?_
  unfold sl.H2_6
  refine (passP (by decide)).trans ?_
  unfold sl.H2_5
  refine (passP (by decide)).trans ?_
  unfold sl.H2_4
  refine (passP (by decide)).trans ?_
  unfold sl.H2_3
  refine (passP (by decide)).trans ?_
  unfold sl.H2_2
  refine (passP (by decide)).trans ?_
  exact zero_at _ _ _ _ r l
theorem load7 (inb) : arg3.view.readCov (sl.H2_8 (F := Ideal) c arg1 harg1 arg2 harg2 arg3 x0 x1) (Rect.unit (s := S4x2x648x512) ![3, 1, 0, 0] ![1, 1, 648, 512] inb).toLoadRect = fun _ => (0 : EReal) := by
  refine reread fun r l => ?_
  show arg3.view.read (Elt Ideal) (arg3.view.writes (Elt Ideal) arg3.view.junk _) (ix4 (3 : Fin 4) (1 : Fin 2) r l) = _
  unfold sl.H2_8
  refine (passQ (by decide)).trans ?_
  unfold sl.H2_7
  refine (passP (by decide)).trans ?_
  unfold sl.H2_6
  refine (passP (by decide)).trans ?_
  unfold sl.H2_5
  refine (passP (by decide)).trans ?_
  unfold sl.H2_4
  refine (passP (by decide)).trans ?_
  unfold sl.H2_3
  refine (passP (by decide)).trans ?_
  unfold sl.H2_2
  refine (passP (by decide)).trans ?_
  exact zero_at _ _ _ _ r l

set_option maxHeartbeats 1000000 in
/-- The first block's part is added to zero. -/
theorem out_first (hc0 : cond0_0 i) (j : Fin 4) (h : Fin 2) (r : Fin 648) (l : Fin 512) :
    out0_A_2 c i arg1 harg1 arg2 harg2 arg3 harg3 hc0 x0 x1 (ix4 j h r l) = (0 : EReal) + blockPart x0 x1 j h r l := by
  unfold out0_A_2 kernelRun0_A
  dsimp only
  have hj : j = 0 ∨ j = 1 ∨ j = 2 ∨ j = 3 := by revert j; decide
  have hh : h = 0 ∨ h = 1 := by revert h; decide
  rcases hj with rfl | rfl | rfl | rfl <;> rcases hh with rfl | rfl
  · refine (passP (by decide)).trans ?_
    unfold sl.H2_8
    refine (passP (by decide)).trans ?_
    unfold sl.H2_7
    refine (passP (by decide)).trans ?_
    unfold sl.H2_6
    refine (passP (by decide)).trans ?_
    unfold sl.H2_5
    refine (passP (by decide)).trans ?_
    unfold sl.H2_4
    refine (passP (by decide)).trans ?_
    unfold sl.H2_3
    refine (passQ (by decide)).trans ?_
    unfold sl.H2_2
    refine (takeP (by decide) (by decide)).trans ?_
    simp only [sl.r, sl.r_1, sl.r_2, sl.r_3, sl.r_4, sl.cst_22, sl.v8, sl.v15, sl.v28, sl.v35, sl.v48, sl.v55, sl.v68, sl.v75, load_win, load_all, load0, load1, load2, load3, load4, load5, load6, load7]
    exact p00 x0 x1 _ r l
  · refine (passP (by decide)).trans ?_
    unfold sl.H2_8
    refine (passP (by decide)).trans ?_
    unfold sl.H2_7
    refine (passP (by decide)).trans ?_
    unfold sl.H2_6
    refine (passP (by decide)).trans ?_
    unfold sl.H2_5
    refine (passP (by decide)).trans ?_
    unfold sl.H2_4
    refine (passP (by decide)).trans ?_
    unfold sl.H2_3
    refine (takeP (by decide) (by decide)).trans ?_
    simp only [sl.r, sl.r_1, sl.r_2, sl.r_3, sl.r_4, sl.cst_22, sl.v8, sl.v15, sl.v28, sl.v35, sl.v48, sl.v55, sl.v68, sl.v75, load_win, load_all, load0, load1, load2, load3, load4, load5, load6, load7]
    exact p01 x0 x1 _ r l
  · refine (passP (by decide)).trans ?_
    unfold sl.H2_8
    refine (passP (by decide)).trans ?_
    unfold sl.H2_7
    refine (passP (by decide)).trans ?_
    unfold sl.H2_6
    refine (passP (by decide)).trans ?_
    unfold sl.H2_5
    refine (passQ (by decide)).trans ?_
    unfold sl.H2_4
    refine (takeP (by decide) (by decide)).trans ?_
    simp only [sl.r, sl.r_1, sl.r_2, sl.r_3, sl.r_4, sl.cst_22, sl.v8, sl.v15, sl.v28, sl.v35, sl.v48, sl.v55, sl.v68, sl.v75, load_win, load_all, load0, load1, load2, load3, load4, load5, load6, load7]
    exact p10 x0 x1 _ r l
  · refine (passP (by decide)).trans ?_
    unfold sl.H2_8
    refine (passP (by decide)).trans ?_
    unfold sl.H2_7
    refine (passP (by decide)).trans ?_
    unfold sl.H2_6
    refine (passP (by decide)).trans ?_
    unfold sl.H2_5
    refine (takeP (by decide) (by decide)).trans ?_
    simp only [sl.r, sl.r_1, sl.r_2, sl.r_3, sl.r_4, sl.cst_22, sl.v8, sl.v15, sl.v28, sl.v35, sl.v48, sl.v55, sl.v68, sl.v75, load_win, load_all, load0, load1, load2, load3, load4, load5, load6, load7]
    exact p11 x0 x1 _ r l
  · refine (passP (by decide)).trans ?_
    unfold sl.H2_8
    refine (passP (by decide)).trans ?_
    unfold sl.H2_7
    refine (passQ (by decide)).trans ?_
    unfold sl.H2_6
    refine (takeP (by decide) (by decide)).trans ?_
    simp only [sl.r, sl.r_1, sl.r_2, sl.r_3, sl.r_4, sl.cst_22, sl.v8, sl.v15, sl.v28, sl.v35, sl.v48, sl.v55, sl.v68, sl.v75, load_win, load_all, load0, load1, load2, load3, load4, load5, load6, load7]
    exact p20 x0 x1 _ r l
  · refine (passP (by decide)).trans ?_
    unfold sl.H2_8
    refine (passP (by decide)).trans ?_
    unfold sl.H2_7
    refine (takeP (by decide) (by decide)).trans ?_
    simp only [sl.r, sl.r_1, sl.r_2, sl.r_3, sl.r_4, sl.cst_22, sl.v8, sl.v15, sl.v28, sl.v35, sl.v48, sl.v55, sl.v68, sl.v75, load_win, load_all, load0, load1, load2, load3, load4, load5, load6, load7]
    exact p21 x0 x1 _ r l
  · refine (passQ (by decide)).trans ?_
    unfold sl.H2_8
    refine (takeP (by decide) (by decide)).trans ?_
    simp only [sl.r, sl.r_1, sl.r_2, sl.r_3, sl.r_4, sl.cst_22, sl.v8, sl.v15, sl.v28, sl.v35, sl.v48, sl.v55, sl.v68, sl.v75, load_win, load_all, load0, load1, load2, load3, load4, load5, load6, load7]
    exact p30 x0 x1 _ r l
  · refine (takeP (by decide) (by decide)).trans ?_
    simp only [sl.r, sl.r_1, sl.r_2, sl.r_3, sl.r_4, sl.cst_22, sl.v8, sl.v15, sl.v28, sl.v35, sl.v48, sl.v55, sl.v68, sl.v75, load_win, load_all, load0, load1, load2, load3, load4, load5, load6, load7]
    exact p31 x0 x1 _ r l
end
end Cert.DwInIdeal.Hand
-- ==== Proof.DwInTie.lean ====
module

public import proofs.«01_k».proof.Proof.DwInBlock
public import proofs.«01_k».proof.Proof.Gen.DwInRefIdeal.Run
public import proofs.«01_k».proof.Proof.Gen.DwInRefIdeal.Read

/-! The gradient of the input weight: the projected rows' gradient transposed times the normed rows, added up over four blocks of rows. -/

@[expose] public section
set_option maxRecDepth 16384
noncomputable section
namespace Cert.DwInIdeal.Hand
open Cert.DwInIdeal Cert.DwInIdeal.Gen Cert.DwInIdeal.Value Cert.Tiles
open Idealize.ShloMosaic Idealize.ShloMosaic.TcCoe Idealize.ShloMosaic.Tactic
open Idealize.ShloMosaic.Pipeline (Dat)

/-- Each shard's half of the transposed gradient times the normed rows. -/
def prod (x0 : Vec Ideal S4096x2688 .f32) (x1 : Vec Ideal S4096x1024 .f32) : Vec Ideal S4x2x648x512 .f32 :=
  fun i => ∑ k : Fin 4096, x0 (ix2 k (wcol (i 0) (i 2))) * x1 (ix2 k (hcol (i 1) (i 3)))

/-- A sum over all rows, block by block. -/
theorem sum_blocks (f : Fin 4096 → EReal) : ∑ k, f k = ∑ b ∈ Finset.range 4, ∑ e : Fin 1024, f (place 1024 4096 (by decide) b e) := by
  rw [Finset.sum_range, ← Fintype.sum_prod_type']
  refine (Fintype.sum_equiv (finProdFinEquiv (m := 4) (n := 1024)) _ _ fun p => congrArg f (Fin.ext ?_)).symm
  rw [place_val _ _ (by have := p.1.isLt; omega)]
  show p.1.val * 1024 + p.2.val = p.2.val + 1024 * p.1.val
  omega

variable (m : (ℓ : Loc nD τ sig) → Buf (Elt Ideal) ℓ) (c : Dev nD)

theorem lt4 (t : Fin cfg0.N) : t.val < 4 := lt_of_lt_of_eq t.isLt (show cfg0.N = 4 from N_0)
theorem pos0 (t : Fin cfg0.N) : win0_0.index t (0 : Fin 2) = t.val ∧ win0_0.index t (1 : Fin 2) = 0 :=
  (by decide +kernel : ∀ t : Fin grid0.N, win0_0.index t (0 : Fin 2) = t.val ∧ win0_0.index t (1 : Fin 2) = 0) t
theorem pos1 (t : Fin cfg0.N) : win0_1.index t (0 : Fin 2) = t.val ∧ win0_1.index t (1 : Fin 2) = 0 :=
  (by decide +kernel : ∀ t : Fin grid0.N, win0_1.index t (0 : Fin 2) = t.val ∧ win0_1.index t (1 : Fin 2) = 0) t
theorem pos2 (t : Fin cfg0.N) : ∀ a : Fin 4, win0_2.index t a = 0 :=
  (by decide +kernel : ∀ t : Fin grid0.N, ∀ a : Fin 4, win0_2.index t a = 0) t

/-- A row, by its block and its place there. -/
abbrev row (b : ℕ) (r : Fin 1024) : Fin 4096 := place 1024 4096 (by decide) b r

theorem V_a (R : Fin 4096) (k : Fin 2688) : (V m c main_v0 : Vec Ideal S4096x2688 .bf16) (ix2 R k)
    = (m ((c : Thread nD τ).loc main_arg0) : Vec Ideal S4096x2688 .f32) (ix2 R k) := by
  show (StableHlo.after hostOps0 (fun b => m (c, b)) (Proc.devRef .tc main_v0) : Vec Ideal S4096x2688 .bf16) (ix2 R k) = _
  after_results_simp
  pointwise
theorem V_b (R : Fin 4096) (k : Fin 1024) : (V m c main_v1 : Vec Ideal S4096x1024 .bf16) (ix2 R k)
    = (m ((c : Thread nD τ).loc main_arg1) : Vec Ideal S4096x1024 .f32) (ix2 R k) := by
  show (StableHlo.after hostOps0 (fun b => m (c, b)) (Proc.devRef .tc main_v1) : Vec Ideal S4096x1024 .bf16) (ix2 R k) = _
  after_results_simp
  pointwise

theorem iblk0 (t : Fin cfg0.N) (r : Fin 1024) (e : Fin 2688) : iblk m c 0 t (ix2 r e)
    = (m ((c : Thread nD τ).loc main_arg0) : Vec Ideal S4096x2688 .f32) (ix2 (row t.val r) e) := by
  have h4 := lt4 t
  refine (congrArg (V m c main_v0 : Vec Ideal S4096x2688 .bf16) (emb r e (by decide) (by decide)
    (by rw [(pos0 t).1]; omega) (by rw [(pos0 t).2]) (((cfg0.win 0).blk t).view.emb (ix2 r e)) rfl rfl)).trans ((V_a m c _ _).trans ?_)
  rw [(pos0 t).1, (pos0 t).2, place_all]
theorem iblk1 (t : Fin cfg0.N) (r : Fin 1024) (e : Fin 1024) : iblk m c 1 t (ix2 r e)
    = (m ((c : Thread nD τ).loc main_arg1) : Vec Ideal S4096x1024 .f32) (ix2 (row t.val r) e) := by
  have h4 := lt4 t
  refine (congrArg (V m c main_v1 : Vec Ideal S4096x1024 .bf16) (emb r e (by decide) (by decide)
    (by rw [(pos1 t).1]; omega) (by rw [(pos1 t).2]) (((cfg0.win 1).blk t).view.emb (ix2 r e)) rfl rfl)).trans ((V_b m c _ _).trans ?_)
  rw [(pos1 t).1, (pos1 t).2, place_all]
/-- The result is one block. -/
theorem emb_out (t : Fin cfg0.N) (j : Fin 4) (h : Fin 2) (r : Fin 648) (l : Fin 512) :
    ((cfg0.win 2).blk t).view.emb (ix4 j h r l) = (ix4 j h r l : S4x2x648x512.Idx) := by
  have e : ∀ a, (((cfg0.win 2).blk t).view.emb (ix4 j h r l) a).val = win0_2.index t a * S4x2x648x512.size a + 1 * ((ix4 j h r l : S4x2x648x512.Idx) a).val := fun a => rfl
  funext a
  refine Fin.ext ((e a).trans ?_)
  rw [pos2 t a]; omega

/-- Every element of the result is written back at the last block. -/
theorem cover : ∀ i : S4x2x648x512.Idx, ∃ t : Fin cfg0.N, (cfg0.win 2).flush t = true ∧ i ∈ ((cfg0.win 2).blk t).view.set := by
  intro i
  idx_vars i
  have hn : 3 < cfg0.N := lt_of_lt_of_eq (by decide : 3 < 4) (show 4 = cfg0.N from N_0.symm)
  have e := emb_out ⟨3, hn⟩ i0 i1 i2 i3
  exact ⟨⟨3, hn⟩, (flush0_2 _).mpr rfl, e ▸ ((cfg0.win 2).blk ⟨3, hn⟩).view.emb_mem_set _⟩

/-- A block's part of an element of the result. -/
def partOf (a : Vec Ideal S4096x2688 .f32) (b : Vec Ideal S4096x1024 .f32) (j : Fin 4) (h : Fin 2) (r : Fin 648) (l : Fin 512) (s : ℕ) : EReal :=
  ∑ e : Fin 1024, a (ix2 (row s e) (wcol j r)) * b (ix2 (row s e) (hcol h l))
/-- The same, of the program's arguments. -/
def rowsPart (j : Fin 4) (h : Fin 2) (r : Fin 648) (l : Fin 512) (s : ℕ) : EReal := partOf (m ((c : Thread nD τ).loc main_arg0)) (m ((c : Thread nD τ).loc main_arg1)) j h r l s

theorem part_at (t : Fin cfg0.N) (j : Fin 4) (h : Fin 2) (r : Fin 648) (l : Fin 512) : blockPart (iblk m c 0 t) (iblk m c 1 t) j h r l = rowsPart m c j h r l t.val :=
  Finset.sum_congr rfl fun e _ => congrArg₂ (fun (a b : EReal) => a * b) (iblk0 m c t e _) (iblk1 m c t e _)

/-- An element of the product is its blocks' parts. -/
theorem prod_blocks (a : Vec Ideal S4096x2688 .f32) (b : Vec Ideal S4096x1024 .f32) (j : Fin 4) (h : Fin 2) (r : Fin 648) (l : Fin 512) :
    prod a b (ix4 j h r l) = ∑ s ∈ Finset.range 4, partOf a b j h r l s :=
  sum_blocks fun k => a (ix2 k (wcol j r)) * b (ix2 k (hcol h l))

/-- What is kept after a block: the blocks so far. -/
theorem kept (j : Fin 4) (h : Fin 2) (r : Fin 648) (l : Fin 512) : ∀ (k : ℕ) (hn : k < cfg0.N),
    outsAt0 m c k hn (ix4 j h r l) = ∑ b ∈ Finset.range (k + 1), rowsPart m c j h r l b := by
  intro k
  induction k with
  | zero =>
    intro hn
    refine (congrFun (outsAt0_A m c ⟨0, hn⟩ rfl) _).trans ((out_first c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) _ _ _ j h r l).trans ?_)
    rw [Finset.sum_range_one, part_at, zero_add]
  | succ k ih =>
    intro hn
    have h4 := lt4 ⟨k + 1, hn⟩
    refine (congrFun (outsAt0_B m c ⟨k + 1, hn⟩ (by dsimp only at *; omega)) _).trans ((out_later c (grid0.coords ⟨k + 1, hn⟩) (ms0_0 ⟨k + 1, hn⟩) (hs0_0 ⟨k + 1, hn⟩) (ms0_1 ⟨k + 1, hn⟩) (hs0_1 ⟨k + 1, hn⟩) (ms0_2 ⟨k + 1, hn⟩) (hs0_2 ⟨k + 1, hn⟩) _ _ _ _ j h r l).trans ?_)
    rw [Finset.sum_range_succ, part_at]
    exact congrArg (· + _) (ih (Nat.lt_of_succ_lt hn))

/-- The whole result. -/
theorem final : (dats m 0 c).arrAt 2 cfg0.N = prod (m ((c : Thread nD τ).loc main_arg0)) (m ((c : Thread nD τ).loc main_arg1)) := by
  refine (dats m 0 c).arrAt_eq_of_cover 2 (prod (m ((c : Thread nD τ).loc main_arg0)) (m ((c : Thread nD τ).loc main_arg1))) ?_ cover
  intro t hf
  have h3 := (flush0_2 t).mp hf
  have h4 := lt4 t
  obtain ⟨n, hn⟩ := t
  obtain rfl : n = 3 := by dsimp only at *; omega
  funext y
  idx_vars y
  show (dats m 0 c).after 2 ⟨3, hn⟩ (ix4 y0 y1 y2 y3) = prod _ _ (((cfg0.win 2).blk ⟨3, hn⟩).view.emb (ix4 y0 y1 y2 y3))
  rw [emb_out, after0_2]
  exact (kept m c y0 y1 y2 y3 3 hn).trans (prod_blocks _ _ y0 y1 y2 y3).symm

end Cert.DwInIdeal.Hand

namespace Cert.DwInRefIdeal.Tie
open Cert.DwInRefIdeal Cert.DwInRefIdeal.Read
open Cert.DwInIdeal.Hand (wcol hcol prod)
open Idealize.ShloMosaic Idealize.ShloMosaic.TcCoe Idealize.ShloMosaic.Tactic

variable (x0 : Vec Ideal S4096x2688 .f32) (x1 : Vec Ideal S4096x1024 .f32)

/-- The transposed gradient times the normed rows. -/
theorem r1 (k : Fin 2688) (l : Fin 1024) : val_main_v1 (F := Ideal) x0 x1 (ix2 k l) = ∑ e : Fin 4096, x0 (ix2 e k) * x1 (ix2 e l) := by
  unfold val_main_v1 val_main_v0
  pointwise

/-- The shards' columns, one shard after another. -/
theorem r10 (j : Fin 4) (r : Fin 648) (l : Fin 1024) : val_main_v10 (F := Ideal) x0 x1 (ix3 j r l) = ∑ e : Fin 4096, x0 (ix2 e (wcol j r)) * x1 (ix2 e l) := by
  rw [← r1]
  unfold val_main_v10 val_main_v6 val_main_v7 val_main_v8 val_main_v9 val_main_v2 val_main_v3 val_main_v4 val_main_v5
  generalize val_main_v1 (F := Ideal) x0 x1 = D
  have hj : j = 0 ∨ j = 1 ∨ j = 2 ∨ j = 3 := by revert j; decide
  rcases hj with rfl | rfl | rfl | rfl
  all_goals pointwise
  all_goals refine congrArg (fun z => D (ix2 z l)) (Fin.ext ?_)
  all_goals simp [wcol]

/-- The reference's result is the same product, half by half. -/
theorem r12 : val_main_v12 (F := Ideal) x0 x1 = prod x0 x1 := by
  funext i
  idx_vars i
  refine Eq.trans ?_ (r10 x0 x1 i0 i2 (hcol i1 i3))
  unfold val_main_v12 val_main_v11
  generalize val_main_v10 (F := Ideal) x0 x1 = D
  pointwise
  refine congrArg (fun z => D (ix3 i0 i2 z)) (Fin.ext ?_)
  show i1.val * 512 + i3.val = 512 * i1.val + i3.val
  omega
end Cert.DwInRefIdeal.Tie

namespace Cert.DwIn.Tie
open Idealize.ShloMosaic Idealize.ShloMosaic.TcCoe Idealize.ShloMosaic.Tactic Idealize.SL.Sem

/-- The product the program leaves is the reference's. -/
theorem algebraic : algebraic_DwInIdeal_DwInRefIdeal := by
  intro m ρ m' ρ' _ hagree
  refine ⟨fun c => (Cert.DwInIdeal.Gen.dats m 0 c).arrAt 2 Cert.DwInIdeal.cfg0.N, Cert.DwInIdeal.Value.run_blocks m ρ, ?_⟩
  refine (θ_run Cert.DwInRefIdeal.defs _ _).mono (fun r h c => ?_) (Cert.DwInRefIdeal.Value.run (F := Ideal) m' ρ')
  obtain ⟨e0, hargs⟩ := h c
  obtain ⟨a0, a1⟩ := hagree c
  refine ⟨e0.trans ?_, hargs⟩
  rw [Cert.DwInRefIdeal.Read.val_main_v12_eq, a0, a1, Cert.DwInRefIdeal.Tie.r12]
  exact (Cert.DwInIdeal.Hand.final m c).symm

end Cert.DwIn.Tie
-- ==== Proof.Base.lean ====
module

public import proofs.«01_k».proof.Defs
public import proofs.«01_k».proof.Proof.Gen.First.Frame
public import proofs.«01_k».proof.Proof.Gen.FirstIdeal.Value
public import proofs.«01_k».proof.Proof.Gen.FirstRefIdeal.Run
public import proofs.«01_k».proof.Proof.Gen.FirstRefIdeal.Read
public import proofs.«01_k».proof.Proof.Gen.Loss.Frame
public import proofs.«01_k».proof.Proof.Gen.LossIdeal.Frame
public import proofs.«01_k».proof.Proof.Gen.LossRefIdeal.Run
public import proofs.«01_k».proof.Proof.Gen.LossRefIdeal.Read
public import proofs.«01_k».proof.Proof.Gen.Conv.Frame
public import proofs.«01_k».proof.Proof.Gen.ConvIdeal.Value
public import proofs.«01_k».proof.Proof.Gen.ConvRefIdeal.Run
public import proofs.«01_k».proof.Proof.Gen.ConvRefIdeal.Read
public import proofs.«01_k».proof.Proof.Gen.Pool.Frame
public import proofs.«01_k».proof.Proof.Gen.PoolIdeal.Frame
public import proofs.«01_k».proof.Proof.Gen.PoolRefIdeal.Run
public import proofs.«01_k».proof.Proof.Gen.PoolRefIdeal.Read
public import proofs.«01_k».proof.Proof.Gen.Gate.Frame
public import proofs.«01_k».proof.Proof.Gen.GateIdeal.Frame
public import proofs.«01_k».proof.Proof.Gen.GateRefIdeal.Run
public import proofs.«01_k».proof.Proof.Gen.GateRefIdeal.Read
public import proofs.«01_k».proof.Proof.Gen.Mix.Frame
public import proofs.«01_k».proof.Proof.Gen.MixIdeal.Frame
public import proofs.«01_k».proof.Proof.Gen.MixRefIdeal.Run
public import proofs.«01_k».proof.Proof.Gen.MixRefIdeal.Read
public import proofs.«01_k».proof.Proof.Gen.FoxFwd.Frame
public import proofs.«01_k».proof.Proof.Gen.FoxFwdIdeal.Frame
public import proofs.«01_k».proof.Proof.Gen.FoxFwdRefIdeal.Run
public import proofs.«01_k».proof.Proof.Gen.FoxFwdRefIdeal.Read
public import proofs.«01_k».proof.Proof.Gen.Norm.Frame
public import proofs.«01_k».proof.Proof.Gen.NormIdeal.Value
public import proofs.«01_k».proof.Proof.Gen.NormRefIdeal.Run
public import proofs.«01_k».proof.Proof.Gen.NormRefIdeal.Read
public import proofs.«01_k».proof.Proof.Gen.Att.Frame
public import proofs.«01_k».proof.Proof.Gen.AttIdeal.Value
public import proofs.«01_k».proof.Proof.Gen.AttRefIdeal.Run
public import proofs.«01_k».proof.Proof.Gen.AttRefIdeal.Read
public import proofs.«01_k».proof.Proof.Gen.Hid.Frame
public import proofs.«01_k».proof.Proof.Gen.HidIdeal.Value
public import proofs.«01_k».proof.Proof.Gen.HidRefIdeal.Run
public import proofs.«01_k».proof.Proof.Gen.HidRefIdeal.Read
public import proofs.«01_k».proof.Proof.Gen.Down.Frame
public import proofs.«01_k».proof.Proof.Gen.DownIdeal.Value
public import proofs.«01_k».proof.Proof.Gen.DownRefIdeal.Run
public import proofs.«01_k».proof.Proof.Gen.DownRefIdeal.Read
public import proofs.«01_k».proof.Proof.Gen.Adam.Frame
public import proofs.«01_k».proof.Proof.Gen.AdamIdeal.Value
public import proofs.«01_k».proof.Proof.Gen.AdamRefIdeal.Run
public import proofs.«01_k».proof.Proof.Gen.AdamRefIdeal.Read
public import proofs.«01_k».proof.Proof.Gen.Act.Frame
public import proofs.«01_k».proof.Proof.Gen.ActIdeal.Value
public import proofs.«01_k».proof.Proof.Gen.ActRefIdeal.Run
public import proofs.«01_k».proof.Proof.Gen.ActRefIdeal.Read
public import proofs.«01_k».proof.Proof.Gen.Up.Frame
public import proofs.«01_k».proof.Proof.Gen.UpIdeal.Value
public import proofs.«01_k».proof.Proof.Gen.UpRefIdeal.Run
public import proofs.«01_k».proof.Proof.Gen.UpRefIdeal.Read
public import proofs.«01_k».proof.Proof.Gen.Dh.Frame
public import proofs.«01_k».proof.Proof.Gen.DhIdeal.Value
public import proofs.«01_k».proof.Proof.Gen.DhRefIdeal.Run
public import proofs.«01_k».proof.Proof.Gen.DhRefIdeal.Read
public import proofs.«01_k».proof.Proof.Gen.Win.Frame
public import proofs.«01_k».proof.Proof.Gen.WinIdeal.Value
public import proofs.«01_k».proof.Proof.Gen.WinRefIdeal.Run
public import proofs.«01_k».proof.Proof.Gen.WinRefIdeal.Read
public import proofs.«01_k».proof.Proof.Gen.DwIn.Frame
public import proofs.«01_k».proof.Proof.Gen.DwInIdeal.Value
public import proofs.«01_k».proof.Proof.Gen.DwInRefIdeal.Run
public import proofs.«01_k».proof.Proof.Gen.DwInRefIdeal.Read
-- ==== Proof.lean ====
module

public import proofs.«01_k».proof.Defs
public import proofs.«01_k».proof.Proof.Gen.MemGain.Frame
public import proofs.«01_k».proof.Proof.Gen.MemGainIdeal.Value
public import proofs.«01_k».proof.Proof.Gen.MemGainRefIdeal.Run
public import Idealize.ShloMosaic.Adequacy
public import Idealize.ShloMosaic.Init
public import Idealize.ShloMosaic.Lib.Quiescent
public import proofs.«01_k».proof.Proof.MemGain
public import proofs.«01_k».proof.Proof.FoxBits
public import proofs.«01_k».proof.Proof.FoxTie
public import proofs.«01_k».proof.Proof.XattnTie
public import proofs.«01_k».proof.Proof.FwdTie
public import proofs.«01_k».proof.Proof.FirstTie
public import proofs.«01_k».proof.Proof.NormTie
public import proofs.«01_k».proof.Proof.AttTie
public import proofs.«01_k».proof.Proof.HidTie
public import proofs.«01_k».proof.Proof.DownTie
public import proofs.«01_k».proof.Proof.AdamTie
public import proofs.«01_k».proof.Proof.UpTie
public import proofs.«01_k».proof.Proof.ActTie
public import proofs.«01_k».proof.Proof.DhTie
public import proofs.«01_k».proof.Proof.WinTie
public import proofs.«01_k».proof.Proof.DwInTie
public import proofs.«01_k».proof.Proof.Gen.Xattn.Frame
public import proofs.«01_k».proof.Proof.Base

@[expose] public section

noncomputable section

namespace Cert.Proof

open Idealize.ShloMosaic Idealize.SL.Sem

theorem quiescent_MemGainRefIdeal : quiescent_MemGainRefIdeal := fun m ρ _ =>
  (θ_run Cert.MemGainRefIdeal.defs _ _).mono (fun r h => ⟨fun c => (h c).2, sem_eq_zero_of_no_sems (by decide) r.2⟩)
    (Cert.MemGainRefIdeal.Value.run (F := Ideal) m ρ)

theorem quiescent_FoxRefIdeal : quiescent_FoxRefIdeal := fun m ρ _ =>
  (θ_run Cert.FoxRefIdeal.defs _ _).mono (fun r h => ⟨fun c => (h c).2.2.2.2, sem_eq_zero_of_no_sems (by decide) r.2⟩)
    (Cert.FoxRefIdeal.Value.run (F := Ideal) m ρ)

theorem quiescent_XattnRefIdeal : quiescent_XattnRefIdeal := fun m ρ _ =>
  (θ_run Cert.XattnRefIdeal.defs _ _).mono (fun r h => ⟨fun c => (h c).2.2, sem_eq_zero_of_no_sems (by decide) r.2⟩)
    (Cert.XattnRefIdeal.Value.run (F := Ideal) m ρ)

theorem preserves_Fox : preserves_Fox_FoxIdeal := IdealRules.named_const.statement _ _ _ _ _ rfl

theorem quiescent_FirstRefIdeal : quiescent_FirstRefIdeal := fun m ρ _ =>
  (θ_run Cert.FirstRefIdeal.defs _ _).mono (fun r h => ⟨fun c => (h c).2.2, sem_eq_zero_of_no_sems (by decide) r.2⟩)
    (Cert.FirstRefIdeal.Value.run (F := Ideal) m ρ)

theorem quiescent_LossRefIdeal : quiescent_LossRefIdeal := fun m ρ _ =>
  (θ_run Cert.LossRefIdeal.defs _ _).mono (fun r h => ⟨fun c => (h c).2.2.2.2, sem_eq_zero_of_no_sems (by decide) r.2⟩)
    (Cert.LossRefIdeal.Value.run (F := Ideal) m ρ)

theorem quiescent_ConvRefIdeal : quiescent_ConvRefIdeal := fun m ρ _ =>
  (θ_run Cert.ConvRefIdeal.defs _ _).mono (fun r h => ⟨fun c => (h c).2.2, sem_eq_zero_of_no_sems (by decide) r.2⟩)
    (Cert.ConvRefIdeal.Value.run (F := Ideal) m ρ)

theorem quiescent_PoolRefIdeal : quiescent_PoolRefIdeal := fun m ρ _ =>
  (θ_run Cert.PoolRefIdeal.defs _ _).mono (fun r h => ⟨fun c => (h c).2.2.2, sem_eq_zero_of_no_sems (by decide) r.2⟩)
    (Cert.PoolRefIdeal.Value.run (F := Ideal) m ρ)

theorem quiescent_GateRefIdeal : quiescent_GateRefIdeal := fun m ρ _ =>
  (θ_run Cert.GateRefIdeal.defs _ _).mono (fun r h => ⟨fun c => (h c).2.2, sem_eq_zero_of_no_sems (by decide) r.2⟩)
    (Cert.GateRefIdeal.Value.run (F := Ideal) m ρ)

theorem quiescent_MixRefIdeal : quiescent_MixRefIdeal := fun m ρ _ =>
  (θ_run Cert.MixRefIdeal.defs _ _).mono (fun r h => ⟨fun c => (h c).2.2.2.2.2.2.2, sem_eq_zero_of_no_sems (by decide) r.2⟩)
    (Cert.MixRefIdeal.Value.run (F := Ideal) m ρ)

theorem quiescent_FoxFwdRefIdeal : quiescent_FoxFwdRefIdeal := fun m ρ _ =>
  (θ_run Cert.FoxFwdRefIdeal.defs _ _).mono (fun r h => ⟨fun c => (h c).2.2, sem_eq_zero_of_no_sems (by decide) r.2⟩)
    (Cert.FoxFwdRefIdeal.Value.run (F := Ideal) m ρ)

theorem quiescent_NormRefIdeal : quiescent_NormRefIdeal := fun m ρ _ =>
  (θ_run Cert.NormRefIdeal.defs _ _).mono (fun r h => ⟨fun c => (h c).2, sem_eq_zero_of_no_sems (by decide) r.2⟩)
    (Cert.NormRefIdeal.Value.run (F := Ideal) m ρ)

theorem quiescent_AttRefIdeal : quiescent_AttRefIdeal := fun m ρ _ =>
  (θ_run Cert.AttRefIdeal.defs _ _).mono (fun r h => ⟨fun c => (h c).2, sem_eq_zero_of_no_sems (by decide) r.2⟩)
    (Cert.AttRefIdeal.Value.run (F := Ideal) m ρ)

theorem quiescent_HidRefIdeal : quiescent_HidRefIdeal := fun m ρ _ =>
  (θ_run Cert.HidRefIdeal.defs _ _).mono (fun r h => ⟨fun c => (h c).2, sem_eq_zero_of_no_sems (by decide) r.2⟩)
    (Cert.HidRefIdeal.Value.run (F := Ideal) m ρ)

theorem quiescent_DownRefIdeal : quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

theorem quiescent_AdamRefIdeal : quiescent_AdamRefIdeal := fun m ρ _ =>
  (θ_run Cert.AdamRefIdeal.defs _ _).mono (fun r h => ⟨fun c => (h c).2.2.2, sem_eq_zero_of_no_sems (by decide) r.2⟩)
    (Cert.AdamRefIdeal.Value.run (F := Ideal) m ρ)

theorem quiescent_UpRefIdeal : quiescent_UpRefIdeal := fun m ρ _ =>
  (θ_run Cert.UpRefIdeal.defs _ _).mono (fun r h => ⟨fun c => (h c).2, sem_eq_zero_of_no_sems (by decide) r.2⟩)
    (Cert.UpRefIdeal.Value.run (F := Ideal) m ρ)

theorem quiescent_ActRefIdeal : quiescent_ActRefIdeal := fun m ρ _ =>
  (θ_run Cert.ActRefIdeal.defs _ _).mono (fun r h => ⟨fun c => (h c).2, sem_eq_zero_of_no_sems (by decide) r.2⟩)
    (Cert.ActRefIdeal.Value.run (F := Ideal) m ρ)

theorem quiescent_DhRefIdeal : quiescent_DhRefIdeal := fun m ρ _ =>
  (θ_run Cert.DhRefIdeal.defs _ _).mono (fun r h => ⟨fun c => (h c).2, sem_eq_zero_of_no_sems (by decide) r.2⟩)
    (Cert.DhRefIdeal.Value.run (F := Ideal) m ρ)

theorem quiescent_WinRefIdeal : quiescent_WinRefIdeal := fun m ρ _ =>
  (θ_run Cert.WinRefIdeal.defs _ _).mono (fun r h => ⟨fun c => (h c).2, sem_eq_zero_of_no_sems (by decide) r.2⟩)
    (Cert.WinRefIdeal.Value.run (F := Ideal) m ρ)

theorem quiescent_DwInRefIdeal : quiescent_DwInRefIdeal := fun m ρ _ =>
  (θ_run Cert.DwInRefIdeal.defs _ _).mono (fun r h => ⟨fun c => (h c).2, sem_eq_zero_of_no_sems (by decide) r.2⟩)
    (Cert.DwInRefIdeal.Value.run (F := Ideal) m ρ)

theorem preserves_FoxFwd : preserves_FoxFwd_FoxFwdIdeal := IdealRules.named_const.statement _ _ _ _ _ rfl

theorem claim : Cert.Claim := ⟨Cert.MemGain.Gen.facts, Cert.MemGainIdeal.Gen.facts, Cert.MemGainRefIdeal.Gen.facts,
  Cert.Fox.Gen.facts, Cert.FoxIdeal.Gen.facts, Cert.FoxRefIdeal.Gen.facts,
  Cert.Xattn.Gen.facts, Cert.XattnIdeal.Gen.facts, Cert.XattnRefIdeal.Gen.facts,
  Cert.First.Gen.facts, Cert.FirstIdeal.Gen.facts, Cert.FirstRefIdeal.Gen.facts,
  Cert.Loss.Gen.facts, Cert.LossIdeal.Gen.facts, Cert.LossRefIdeal.Gen.facts,
  Cert.Conv.Gen.facts, Cert.ConvIdeal.Gen.facts, Cert.ConvRefIdeal.Gen.facts,
  Cert.Pool.Gen.facts, Cert.PoolIdeal.Gen.facts, Cert.PoolRefIdeal.Gen.facts,
  Cert.Gate.Gen.facts, Cert.GateIdeal.Gen.facts, Cert.GateRefIdeal.Gen.facts,
  Cert.Mix.Gen.facts, Cert.MixIdeal.Gen.facts, Cert.MixRefIdeal.Gen.facts,
  Cert.FoxFwd.Gen.facts, Cert.FoxFwdIdeal.Gen.facts, Cert.FoxFwdRefIdeal.Gen.facts,
  Cert.Norm.Gen.facts, Cert.NormIdeal.Gen.facts, Cert.NormRefIdeal.Gen.facts,
  Cert.Att.Gen.facts, Cert.AttIdeal.Gen.facts, Cert.AttRefIdeal.Gen.facts,
  Cert.Hid.Gen.facts, Cert.HidIdeal.Gen.facts, Cert.HidRefIdeal.Gen.facts,
  Cert.Down.Gen.facts, Cert.DownIdeal.Gen.facts, Cert.DownRefIdeal.Gen.facts,
  Cert.Adam.Gen.facts, Cert.AdamIdeal.Gen.facts, Cert.AdamRefIdeal.Gen.facts,
  Cert.Up.Gen.facts, Cert.UpIdeal.Gen.facts, Cert.UpRefIdeal.Gen.facts,
  Cert.Act.Gen.facts, Cert.ActIdeal.Gen.facts, Cert.ActRefIdeal.Gen.facts,
  Cert.Dh.Gen.facts, Cert.DhIdeal.Gen.facts, Cert.DhRefIdeal.Gen.facts,
  Cert.Win.Gen.facts, Cert.WinIdeal.Gen.facts, Cert.WinRefIdeal.Gen.facts,
  Cert.DwIn.Gen.facts, Cert.DwInIdeal.Gen.facts, Cert.DwInRefIdeal.Gen.facts,
  Cert.Fox.Tie.preFacts, Cert.Xattn.Tie.preFacts, Cert.FoxFwd.Tie.preFacts, Cert.Att.Tie.preFacts,
  fun m ρ _ => Cert.MemGain.Gen.frame m ρ, fun m ρ _ => Cert.MemGainIdeal.Gen.frame m ρ, quiescent_MemGainRefIdeal,
  fun m ρ _ => Cert.Fox.Hand.frame m ρ, fun m ρ _ => Cert.FoxIdeal.Hand.frame m ρ, fun m ρ _ => Cert.FoxIdeal.Hand.frame m ρ,
  quiescent_FoxRefIdeal, fun m ρ _ => quiescent_FoxRefIdeal m ρ trivial,
  fun m ρ _ => Cert.Xattn.Gen.frame m ρ, fun m ρ _ => Cert.XattnIdeal.Gen.frame m ρ, fun m ρ _ => Cert.XattnIdeal.Gen.frame m ρ,
  quiescent_XattnRefIdeal, fun m ρ _ => quiescent_XattnRefIdeal m ρ trivial,
  fun m ρ _ => Cert.First.Gen.frame m ρ, fun m ρ _ => Cert.FirstIdeal.Gen.frame m ρ, quiescent_FirstRefIdeal,
  fun m ρ _ => Cert.Loss.Gen.frame m ρ, fun m ρ _ => Cert.LossIdeal.Gen.frame m ρ, quiescent_LossRefIdeal,
  fun m ρ _ => Cert.Conv.Gen.frame m ρ, fun m ρ _ => Cert.ConvIdeal.Gen.frame m ρ, quiescent_ConvRefIdeal,
  fun m ρ _ => Cert.Pool.Gen.frame m ρ, fun m ρ _ => Cert.PoolIdeal.Gen.frame m ρ, quiescent_PoolRefIdeal,
  fun m ρ _ => Cert.Gate.Gen.frame m ρ, fun m ρ _ => Cert.GateIdeal.Gen.frame m ρ, quiescent_GateRefIdeal,
  fun m ρ _ => Cert.Mix.Gen.frame m ρ, fun m ρ _ => Cert.MixIdeal.Gen.frame m ρ, quiescent_MixRefIdeal,
  fun m ρ _ => Cert.FoxFwd.Gen.frame m ρ, fun m ρ _ => Cert.FoxFwdIdeal.Gen.frame m ρ, fun m ρ _ => Cert.FoxFwdIdeal.Gen.frame m ρ,
  quiescent_FoxFwdRefIdeal, fun m ρ _ => quiescent_FoxFwdRefIdeal m ρ trivial,
  fun m ρ _ => Cert.Norm.Gen.frame m ρ, fun m ρ _ => Cert.NormIdeal.Gen.frame m ρ, quiescent_NormRefIdeal,
  fun m ρ _ => Cert.Att.Gen.frame m ρ, fun m ρ _ => Cert.AttIdeal.Gen.frame m ρ, fun m ρ _ => Cert.AttIdeal.Gen.frame m ρ,
  quiescent_AttRefIdeal, fun m ρ _ => quiescent_AttRefIdeal m ρ trivial,
  fun m ρ _ => Cert.Hid.Gen.frame m ρ, fun m ρ _ => Cert.HidIdeal.Gen.frame m ρ, quiescent_HidRefIdeal,
  fun m ρ _ => Cert.Down.Gen.frame m ρ, fun m ρ _ => Cert.DownIdeal.Gen.frame m ρ, quiescent_DownRefIdeal,
  fun m ρ _ => Cert.Adam.Gen.frame m ρ, fun m ρ _ => Cert.AdamIdeal.Gen.frame m ρ, quiescent_AdamRefIdeal,
  fun m ρ _ => Cert.Up.Gen.frame m ρ, fun m ρ _ => Cert.UpIdeal.Gen.frame m ρ, quiescent_UpRefIdeal,
  fun m ρ _ => Cert.Act.Gen.frame m ρ, fun m ρ _ => Cert.ActIdeal.Gen.frame m ρ, quiescent_ActRefIdeal,
  fun m ρ _ => Cert.Dh.Gen.frame m ρ, fun m ρ _ => Cert.DhIdeal.Gen.frame m ρ, quiescent_DhRefIdeal,
  fun m ρ _ => Cert.Win.Gen.frame m ρ, fun m ρ _ => Cert.WinIdeal.Gen.frame m ρ, quiescent_WinRefIdeal,
  fun m ρ _ => Cert.DwIn.Gen.frame m ρ, fun m ρ _ => Cert.DwInIdeal.Gen.frame m ρ, quiescent_DwInRefIdeal,
  (trivial : preserves_MemGain_MemGainIdeal), Cert.MemGain.Tie.algebraic, preserves_Fox, Cert.Fox.Tie.algebraic,
  (trivial : preserves_Xattn_XattnIdeal), Cert.Xattn.Tie.algebraic,
  (trivial : preserves_First_FirstIdeal), Cert.First.Tie.algebraic,
  (trivial : preserves_Loss_LossIdeal),
  (trivial : preserves_Conv_ConvIdeal),
  (trivial : preserves_Pool_PoolIdeal),
  (trivial : preserves_Gate_GateIdeal),
  (trivial : preserves_Mix_MixIdeal), preserves_FoxFwd, Cert.FoxFwd.Tie.algebraic,
  (trivial : preserves_Norm_NormIdeal), Cert.Norm.Tie.algebraic,
  (trivial : preserves_Att_AttIdeal), Cert.Att.Tie.algebraic,
  (trivial : preserves_Hid_HidIdeal), Cert.Hid.Tie.algebraic,
  (trivial : preserves_Down_DownIdeal), Cert.Down.Tie.algebraic,
  (trivial : preserves_Adam_AdamIdeal), Cert.Adam.Tie.algebraic,
  (trivial : preserves_Up_UpIdeal), Cert.Up.Tie.algebraic,
  (trivial : preserves_Act_ActIdeal), Cert.Act.Tie.algebraic,
  (trivial : preserves_Dh_DhIdeal), Cert.Dh.Tie.algebraic,
  (trivial : preserves_Win_WinIdeal), Cert.Win.Tie.algebraic,
  (trivial : preserves_DwIn_DwInIdeal), Cert.DwIn.Tie.algebraic⟩

end Cert.Proof

end
